-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Reference5Ideal (m : (ℓ : Loc Cert.Reference5Ideal.nD Cert.Reference5Ideal.τ Cert.Reference5Ideal.sig) → Buf (Elt Ideal) ℓ) : Prop :=
  True

def Pre_Kernel6 (m : (ℓ : Loc Cert.Kernel6.nD Cert.Kernel6.τ Cert.Kernel6.sig) → Buf (Elt Bits) ℓ) : Prop :=
  True

def Pre_Kernel6Ideal (m : (ℓ : Loc Cert.Kernel6Ideal.nD Cert.Kernel6Ideal.τ Cert.Kernel6Ideal.sig) → Buf (Elt Ideal) ℓ) : Prop :=
  True

def Pre_Reference6Ideal (m : (ℓ : Loc Cert.Reference6Ideal.nD Cert.Reference6Ideal.τ Cert.Reference6Ideal.sig) → Buf (Elt Ideal) ℓ) : Prop :=
  True

def Pre_Kernel7 (m : (ℓ : Loc Cert.Kernel7.nD Cert.Kernel7.τ Cert.Kernel7.sig) → Buf (Elt Bits) ℓ) : Prop :=
  True

def Pre_Kernel7Ideal (m : (ℓ : Loc Cert.Kernel7Ideal.nD Cert.Kernel7Ideal.τ Cert.Kernel7Ideal.sig) → Buf (Elt Ideal) ℓ) : Prop :=
  True

def Pre_Reference7Ideal (m : (ℓ : Loc Cert.Reference7Ideal.nD Cert.Reference7Ideal.τ Cert.Reference7Ideal.sig) → Buf (Elt Ideal) ℓ) : Prop :=
  True

def Pre_Kernel8 (m : (ℓ : Loc Cert.Kernel8.nD Cert.Kernel8.τ Cert.Kernel8.sig) → Buf (Elt Bits) ℓ) : Prop :=
  True

def Pre_Kernel8Ideal (m : (ℓ : Loc Cert.Kernel8Ideal.nD Cert.Kernel8Ideal.τ Cert.Kernel8Ideal.sig) → Buf (Elt Ideal) ℓ) : Prop :=
  True

def Pre_Reference8Ideal (m : (ℓ : Loc Cert.Reference8Ideal.nD Cert.Reference8Ideal.τ Cert.Reference8Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3)
      ∧ r.2.mem ((c.tc : Thread Cert.Kernel2.nD Cert.Kernel2.τ).loc Cert.Kernel2.main_arg4) = m ((c.tc : Thread Cert.Kernel2.nD Cert.Kernel2.τ).loc Cert.Kernel2.main_arg4)
      ∧ r.2.mem ((c.tc : Thread Cert.Kernel2.nD Cert.Kernel2.τ).loc Cert.Kernel2.main_arg5) = m ((c.tc : Thread Cert.Kernel2.nD Cert.Kernel2.τ).loc Cert.Kernel2.main_arg5)
      ∧ r.2.mem ((c.tc : Thread Cert.Kernel2.nD Cert.Kernel2.τ).loc Cert.Kernel2.main_arg6) = m ((c.tc : Thread Cert.Kernel2.nD Cert.Kernel2.τ).loc Cert.Kernel2.main_arg6)
      ∧ r.2.mem ((c.tc : Thread Cert.Kernel2.nD Cert.Kernel2.τ).loc Cert.Kernel2.main_arg7) = m ((c.tc : Thread Cert.Kernel2.nD Cert.Kernel2.τ).loc Cert.Kernel2.main_arg7)
      ∧ r.2.mem ((c.tc : Thread Cert.Kernel2.nD Cert.Kernel2.τ).loc Cert.Kernel2.main_arg8) = m ((c.tc : Thread Cert.Kernel2.nD Cert.Kernel2.τ).loc Cert.Kernel2.main_arg8)
      ∧ r.2.mem ((c.tc : Thread Cert.Kernel2.nD Cert.Kernel2.τ).loc Cert.Kernel2.main_arg9) = m ((c.tc : Thread Cert.Kernel2.nD Cert.Kernel2.τ).loc Cert.Kernel2.main_arg9)
      ∧ r.2.mem ((c.tc : Thread Cert.Kernel2.nD Cert.Kernel2.τ).loc Cert.Kernel2.main_arg10) = m ((c.tc : Thread Cert.Kernel2.nD Cert.Kernel2.τ).loc Cert.Kernel2.main_arg10)
      ∧ r.2.mem ((c.tc : Thread Cert.Kernel2.nD Cert.Kernel2.τ).loc Cert.Kernel2.main_arg11) = m ((c.tc : Thread Cert.Kernel2.nD Cert.Kernel2.τ).loc Cert.Kernel2.main_arg11)
      ∧ r.2.mem ((c.tc : Thread Cert.Kernel2.nD Cert.Kernel2.τ).loc Cert.Kernel2.main_arg12) = m ((c.tc : Thread Cert.Kernel2.nD Cert.Kernel2.τ).loc Cert.Kernel2.main_arg12))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
      ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
      ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6)
      ∧ r.2.mem ((c.tc : Thread Cert.Kernel2Ideal.nD Cert.Kernel2Ideal.τ).loc Cert.Kernel2Ideal.main_arg7) = m ((c.tc : Thread Cert.Kernel2Ideal.nD Cert.Kernel2Ideal.τ).loc Cert.Kernel2Ideal.main_arg7)
      ∧ r.2.mem ((c.tc : Thread Cert.Kernel2Ideal.nD Cert.Kernel2Ideal.τ).loc Cert.Kernel2Ideal.main_arg8) = m ((c.tc : Thread Cert.Kernel2Ideal.nD Cert.Kernel2Ideal.τ).loc Cert.Kernel2Ideal.main_arg8)
      ∧ r.2.mem ((c.tc : Thread Cert.Kernel2Ideal.nD Cert.Kernel2Ideal.τ).loc Cert.Kernel2Ideal.main_arg9) = m ((c.tc : Thread Cert.Kernel2Ideal.nD Cert.Kernel2Ideal.τ).loc Cert.Kernel2Ideal.main_arg9)
      ∧ r.2.mem ((c.tc : Thread Cert.Kernel2Ideal.nD Cert.Kernel2Ideal.τ).loc Cert.Kernel2Ideal.main_arg10) = m ((c.tc : Thread Cert.Kernel2Ideal.nD Cert.Kernel2Ideal.τ).loc Cert.Kernel2Ideal.main_arg10)
      ∧ r.2.mem ((c.tc : Thread Cert.Kernel2Ideal.nD Cert.Kernel2Ideal.τ).loc Cert.Kernel2Ideal.main_arg11) = m ((c.tc : Thread Cert.Kernel2Ideal.nD Cert.Kernel2Ideal.τ).loc Cert.Kernel2Ideal.main_arg11)
      ∧ r.2.mem ((c.tc : Thread Cert.Kernel2Ideal.nD Cert.Kernel2Ideal.τ).loc Cert.Kernel2Ideal.main_arg12) = m ((c.tc : Thread Cert.Kernel2Ideal.nD Cert.Kernel2Ideal.τ).loc Cert.Kernel2Ideal.main_arg12))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4)
      ∧ r.2.mem ((c.tc : Thread Cert.Reference2Ideal.nD Cert.Reference2Ideal.τ).loc Cert.Reference2Ideal.main_arg5) = m ((c.tc : Thread Cert.Reference2Ideal.nD Cert.Reference2Ideal.τ).loc Cert.Reference2Ideal.main_arg5)
      ∧ r.2.mem ((c.tc : Thread Cert.Reference2Ideal.nD Cert.Reference2Ideal.τ).loc Cert.Reference2Ideal.main_arg6) = m ((c.tc : Thread Cert.Reference2Ideal.nD Cert.Reference2Ideal.τ).loc Cert.Reference2Ideal.main_arg6)
      ∧ r.2.mem ((c.tc : Thread Cert.Reference2Ideal.nD Cert.Reference2Ideal.τ).loc Cert.Reference2Ideal.main_arg7) = m ((c.tc : Thread Cert.Reference2Ideal.nD Cert.Reference2Ideal.τ).loc Cert.Reference2Ideal.main_arg7)
      ∧ r.2.mem ((c.tc : Thread Cert.Reference2Ideal.nD Cert.Reference2Ideal.τ).loc Cert.Reference2Ideal.main_arg8) = m ((c.tc : Thread Cert.Reference2Ideal.nD Cert.Reference2Ideal.τ).loc Cert.Reference2Ideal.main_arg8)
      ∧ r.2.mem ((c.tc : Thread Cert.Reference2Ideal.nD Cert.Reference2Ideal.τ).loc Cert.Reference2Ideal.main_arg9) = m ((c.tc : Thread Cert.Reference2Ideal.nD Cert.Reference2Ideal.τ).loc Cert.Reference2Ideal.main_arg9)
      ∧ r.2.mem ((c.tc : Thread Cert.Reference2Ideal.nD Cert.Reference2Ideal.τ).loc Cert.Reference2Ideal.main_arg10) = m ((c.tc : Thread Cert.Reference2Ideal.nD Cert.Reference2Ideal.τ).loc Cert.Reference2Ideal.main_arg10)
      ∧ r.2.mem ((c.tc : Thread Cert.Reference2Ideal.nD Cert.Reference2Ideal.τ).loc Cert.Reference2Ideal.main_arg11) = m ((c.tc : Thread Cert.Reference2Ideal.nD Cert.Reference2Ideal.τ).loc Cert.Reference2Ideal.main_arg11)
      ∧ r.2.mem ((c.tc : Thread Cert.Reference2Ideal.nD Cert.Reference2Ideal.τ).loc Cert.Reference2Ideal.main_arg12) = m ((c.tc : Thread Cert.Reference2Ideal.nD Cert.Reference2Ideal.τ).loc Cert.Reference2Ideal.main_arg12))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2)
      ∧ r.2.mem ((c.tc : Thread Cert.Kernel3.nD Cert.Kernel3.τ).loc Cert.Kernel3.main_arg3) = m ((c.tc : Thread Cert.Kernel3.nD Cert.Kernel3.τ).loc Cert.Kernel3.main_arg3)
      ∧ r.2.mem ((c.tc : Thread Cert.Kernel3.nD Cert.Kernel3.τ).loc Cert.Kernel3.main_arg4) = m ((c.tc : Thread Cert.Kernel3.nD Cert.Kernel3.τ).loc Cert.Kernel3.main_arg4)
      ∧ r.2.mem ((c.tc : Thread Cert.Kernel3.nD Cert.Kernel3.τ).loc Cert.Kernel3.main_arg5) = m ((c.tc : Thread Cert.Kernel3.nD Cert.Kernel3.τ).loc Cert.Kernel3.main_arg5)
      ∧ r.2.mem ((c.tc : Thread Cert.Kernel3.nD Cert.Kernel3.τ).loc Cert.Kernel3.main_arg6) = m ((c.tc : Thread Cert.Kernel3.nD Cert.Kernel3.τ).loc Cert.Kernel3.main_arg6)
      ∧ r.2.mem ((c.tc : Thread Cert.Kernel3.nD Cert.Kernel3.τ).loc Cert.Kernel3.main_arg7) = m ((c.tc : Thread Cert.Kernel3.nD Cert.Kernel3.τ).loc Cert.Kernel3.main_arg7)
      ∧ r.2.mem ((c.tc : Thread Cert.Kernel3.nD Cert.Kernel3.τ).loc Cert.Kernel3.main_arg8) = m ((c.tc : Thread Cert.Kernel3.nD Cert.Kernel3.τ).loc Cert.Kernel3.main_arg8)
      ∧ r.2.mem ((c.tc : Thread Cert.Kernel3.nD Cert.Kernel3.τ).loc Cert.Kernel3.main_arg9) = m ((c.tc : Thread Cert.Kernel3.nD Cert.Kernel3.τ).loc Cert.Kernel3.main_arg9)
      ∧ r.2.mem ((c.tc : Thread Cert.Kernel3.nD Cert.Kernel3.τ).loc Cert.Kernel3.main_arg10) = m ((c.tc : Thread Cert.Kernel3.nD Cert.Kernel3.τ).loc Cert.Kernel3.main_arg10)
      ∧ r.2.mem ((c.tc : Thread Cert.Kernel3.nD Cert.Kernel3.τ).loc Cert.Kernel3.main_arg11) = m ((c.tc : Thread Cert.Kernel3.nD Cert.Kernel3.τ).loc Cert.Kernel3.main_arg11)
      ∧ r.2.mem ((c.tc : Thread Cert.Kernel3.nD Cert.Kernel3.τ).loc Cert.Kernel3.main_arg12) = m ((c.tc : Thread Cert.Kernel3.nD Cert.Kernel3.τ).loc Cert.Kernel3.main_arg12)
      ∧ r.2.mem ((c.tc : Thread Cert.Kernel3.nD Cert.Kernel3.τ).loc Cert.Kernel3.main_arg13) = m ((c.tc : Thread Cert.Kernel3.nD Cert.Kernel3.τ).loc Cert.Kernel3.main_arg13)
      ∧ r.2.mem ((c.tc : Thread Cert.Kernel3.nD Cert.Kernel3.τ).loc Cert.Kernel3.main_arg14) = m ((c.tc : Thread Cert.Kernel3.nD Cert.Kernel3.τ).loc Cert.Kernel3.main_arg14)
      ∧ r.2.mem ((c.tc : Thread Cert.Kernel3.nD Cert.Kernel3.τ).loc Cert.Kernel3.main_arg15) = m ((c.tc : Thread Cert.Kernel3.nD Cert.Kernel3.τ).loc Cert.Kernel3.main_arg15)
      ∧ r.2.mem ((c.tc : Thread Cert.Kernel3.nD Cert.Kernel3.τ).loc Cert.Kernel3.main_arg16) = m ((c.tc : Thread Cert.Kernel3.nD Cert.Kernel3.τ).loc Cert.Kernel3.main_arg16)
      ∧ r.2.mem ((c.tc : Thread Cert.Kernel3.nD Cert.Kernel3.τ).loc Cert.Kernel3.main_arg17) = m ((c.tc : Thread Cert.Kernel3.nD Cert.Kernel3.τ).loc Cert.Kernel3.main_arg17))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
      ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
      ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
      ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6)
      ∧ r.2.mem ((c.tc : Thread Cert.Kernel3Ideal.nD Cert.Kernel3Ideal.τ).loc Cert.Kernel3Ideal.main_arg7) = m ((c.tc : Thread Cert.Kernel3Ideal.nD Cert.Kernel3Ideal.τ).loc Cert.Kernel3Ideal.main_arg7)
      ∧ r.2.mem ((c.tc : Thread Cert.Kernel3Ideal.nD Cert.Kernel3Ideal.τ).loc Cert.Kernel3Ideal.main_arg8) = m ((c.tc : Thread Cert.Kernel3Ideal.nD Cert.Kernel3Ideal.τ).loc Cert.Kernel3Ideal.main_arg8)
      ∧ r.2.mem ((c.tc : Thread Cert.Kernel3Ideal.nD Cert.Kernel3Ideal.τ).loc Cert.Kernel3Ideal.main_arg9) = m ((c.tc : Thread Cert.Kernel3Ideal.nD Cert.Kernel3Ideal.τ).loc Cert.Kernel3Ideal.main_arg9)
      ∧ r.2.mem ((c.tc : Thread Cert.Kernel3Ideal.nD Cert.Kernel3Ideal.τ).loc Cert.Kernel3Ideal.main_arg10) = m ((c.tc : Thread Cert.Kernel3Ideal.nD Cert.Kernel3Ideal.τ).loc Cert.Kernel3Ideal.main_arg10)
      ∧ r.2.mem ((c.tc : Thread Cert.Kernel3Ideal.nD Cert.Kernel3Ideal.τ).loc Cert.Kernel3Ideal.main_arg11) = m ((c.tc : Thread Cert.Kernel3Ideal.nD Cert.Kernel3Ideal.τ).loc Cert.Kernel3Ideal.main_arg11)
      ∧ r.2.mem ((c.tc : Thread Cert.Kernel3Ideal.nD Cert.Kernel3Ideal.τ).loc Cert.Kernel3Ideal.main_arg12) = m ((c.tc : Thread Cert.Kernel3Ideal.nD Cert.Kernel3Ideal.τ).loc Cert.Kernel3Ideal.main_arg12)
      ∧ r.2.mem ((c.tc : Thread Cert.Kernel3Ideal.nD Cert.Kernel3Ideal.τ).loc Cert.Kernel3Ideal.main_arg13) = m ((c.tc : Thread Cert.Kernel3Ideal.nD Cert.Kernel3Ideal.τ).loc Cert.Kernel3Ideal.main_arg13)
      ∧ r.2.mem ((c.tc : Thread Cert.Kernel3Ideal.nD Cert.Kernel3Ideal.τ).loc Cert.Kernel3Ideal.main_arg14) = m ((c.tc : Thread Cert.Kernel3Ideal.nD Cert.Kernel3Ideal.τ).loc Cert.Kernel3Ideal.main_arg14)
      ∧ r.2.mem ((c.tc : Thread Cert.Kernel3Ideal.nD Cert.Kernel3Ideal.τ).loc Cert.Kernel3Ideal.main_arg15) = m ((c.tc : Thread Cert.Kernel3Ideal.nD Cert.Kernel3Ideal.τ).loc Cert.Kernel3Ideal.main_arg15)
      ∧ r.2.mem ((c.tc : Thread Cert.Kernel3Ideal.nD Cert.Kernel3Ideal.τ).loc Cert.Kernel3Ideal.main_arg16) = m ((c.tc : Thread Cert.Kernel3Ideal.nD Cert.Kernel3Ideal.τ).loc Cert.Kernel3Ideal.main_arg16)
      ∧ r.2.mem ((c.tc : Thread Cert.Kernel3Ideal.nD Cert.Kernel3Ideal.τ).loc Cert.Kernel3Ideal.main_arg17) = m ((c.tc : Thread Cert.Kernel3Ideal.nD Cert.Kernel3Ideal.τ).loc Cert.Kernel3Ideal.main_arg17))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
      ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4)
      ∧ r.2.mem ((c.tc : Thread Cert.Reference3Ideal.nD Cert.Reference3Ideal.τ).loc Cert.Reference3Ideal.main_arg5) = m ((c.tc : Thread Cert.Reference3Ideal.nD Cert.Reference3Ideal.τ).loc Cert.Reference3Ideal.main_arg5)
      ∧ r.2.mem ((c.tc : Thread Cert.Reference3Ideal.nD Cert.Reference3Ideal.τ).loc Cert.Reference3Ideal.main_arg6) = m ((c.tc : Thread Cert.Reference3Ideal.nD Cert.Reference3Ideal.τ).loc Cert.Reference3Ideal.main_arg6)
      ∧ r.2.mem ((c.tc : Thread Cert.Reference3Ideal.nD Cert.Reference3Ideal.τ).loc Cert.Reference3Ideal.main_arg7) = m ((c.tc : Thread Cert.Reference3Ideal.nD Cert.Reference3Ideal.τ).loc Cert.Reference3Ideal.main_arg7)
      ∧ r.2.mem ((c.tc : Thread Cert.Reference3Ideal.nD Cert.Reference3Ideal.τ).loc Cert.Reference3Ideal.main_arg8) = m ((c.tc : Thread Cert.Reference3Ideal.nD Cert.Reference3Ideal.τ).loc Cert.Reference3Ideal.main_arg8)
      ∧ r.2.mem ((c.tc : Thread Cert.Reference3Ideal.nD Cert.Reference3Ideal.τ).loc Cert.Reference3Ideal.main_arg9) = m ((c.tc : Thread Cert.Reference3Ideal.nD Cert.Reference3Ideal.τ).loc Cert.Reference3Ideal.main_arg9)
      ∧ r.2.mem ((c.tc : Thread Cert.Reference3Ideal.nD Cert.Reference3Ideal.τ).loc Cert.Reference3Ideal.main_arg10) = m ((c.tc : Thread Cert.Reference3Ideal.nD Cert.Reference3Ideal.τ).loc Cert.Reference3Ideal.main_arg10)
      ∧ r.2.mem ((c.tc : Thread Cert.Reference3Ideal.nD Cert.Reference3Ideal.τ).loc Cert.Reference3Ideal.main_arg11) = m ((c.tc : Thread Cert.Reference3Ideal.nD Cert.Reference3Ideal.τ).loc Cert.Reference3Ideal.main_arg11)
      ∧ r.2.mem ((c.tc : Thread Cert.Reference3Ideal.nD Cert.Reference3Ideal.τ).loc Cert.Reference3Ideal.main_arg12) = m ((c.tc : Thread Cert.Reference3Ideal.nD Cert.Reference3Ideal.τ).loc Cert.Reference3Ideal.main_arg12)
      ∧ r.2.mem ((c.tc : Thread Cert.Reference3Ideal.nD Cert.Reference3Ideal.τ).loc Cert.Reference3Ideal.main_arg13) = m ((c.tc : Thread Cert.Reference3Ideal.nD Cert.Reference3Ideal.τ).loc Cert.Reference3Ideal.main_arg13)
      ∧ r.2.mem ((c.tc : Thread Cert.Reference3Ideal.nD Cert.Reference3Ideal.τ).loc Cert.Reference3Ideal.main_arg14) = m ((c.tc : Thread Cert.Reference3Ideal.nD Cert.Reference3Ideal.τ).loc Cert.Reference3Ideal.main_arg14)
      ∧ r.2.mem ((c.tc : Thread Cert.Reference3Ideal.nD Cert.Reference3Ideal.τ).loc Cert.Reference3Ideal.main_arg15) = m ((c.tc : Thread Cert.Reference3Ideal.nD Cert.Reference3Ideal.τ).loc Cert.Reference3Ideal.main_arg15)
      ∧ r.2.mem ((c.tc : Thread Cert.Reference3Ideal.nD Cert.Reference3Ideal.τ).loc Cert.Reference3Ideal.main_arg16) = m ((c.tc : Thread Cert.Reference3Ideal.nD Cert.Reference3Ideal.τ).loc Cert.Reference3Ideal.main_arg16)
      ∧ r.2.mem ((c.tc : Thread Cert.Reference3Ideal.nD Cert.Reference3Ideal.τ).loc Cert.Reference3Ideal.main_arg17) = m ((c.tc : Thread Cert.Reference3Ideal.nD Cert.Reference3Ideal.τ).loc Cert.Reference3Ideal.main_arg17))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2)
      ∧ r.2.mem ((c.tc : Thread Cert.Kernel4.nD Cert.Kernel4.τ).loc Cert.Kernel4.main_arg3) = m ((c.tc : Thread Cert.Kernel4.nD Cert.Kernel4.τ).loc Cert.Kernel4.main_arg3)
      ∧ r.2.mem ((c.tc : Thread Cert.Kernel4.nD Cert.Kernel4.τ).loc Cert.Kernel4.main_arg4) = m ((c.tc : Thread Cert.Kernel4.nD Cert.Kernel4.τ).loc Cert.Kernel4.main_arg4)
      ∧ r.2.mem ((c.tc : Thread Cert.Kernel4.nD Cert.Kernel4.τ).loc Cert.Kernel4.main_arg5) = m ((c.tc : Thread Cert.Kernel4.nD Cert.Kernel4.τ).loc Cert.Kernel4.main_arg5)
      ∧ r.2.mem ((c.tc : Thread Cert.Kernel4.nD Cert.Kernel4.τ).loc Cert.Kernel4.main_arg6) = m ((c.tc : Thread Cert.Kernel4.nD Cert.Kernel4.τ).loc Cert.Kernel4.main_arg6)
      ∧ r.2.mem ((c.tc : Thread Cert.Kernel4.nD Cert.Kernel4.τ).loc Cert.Kernel4.main_arg7) = m ((c.tc : Thread Cert.Kernel4.nD Cert.Kernel4.τ).loc Cert.Kernel4.main_arg7)
      ∧ r.2.mem ((c.tc : Thread Cert.Kernel4.nD Cert.Kernel4.τ).loc Cert.Kernel4.main_arg8) = m ((c.tc : Thread Cert.Kernel4.nD Cert.Kernel4.τ).loc Cert.Kernel4.main_arg8)
      ∧ r.2.mem ((c.tc : Thread Cert.Kernel4.nD Cert.Kernel4.τ).loc Cert.Kernel4.main_arg9) = m ((c.tc : Thread Cert.Kernel4.nD Cert.Kernel4.τ).loc Cert.Kernel4.main_arg9)
      ∧ r.2.mem ((c.tc : Thread Cert.Kernel4.nD Cert.Kernel4.τ).loc Cert.Kernel4.main_arg10) = m ((c.tc : Thread Cert.Kernel4.nD Cert.Kernel4.τ).loc Cert.Kernel4.main_arg10)
      ∧ r.2.mem ((c.tc : Thread Cert.Kernel4.nD Cert.Kernel4.τ).loc Cert.Kernel4.main_arg11) = m ((c.tc : Thread Cert.Kernel4.nD Cert.Kernel4.τ).loc Cert.Kernel4.main_arg11)
      ∧ r.2.mem ((c.tc : Thread Cert.Kernel4.nD Cert.Kernel4.τ).loc Cert.Kernel4.main_arg12) = m ((c.tc : Thread Cert.Kernel4.nD Cert.Kernel4.τ).loc Cert.Kernel4.main_arg12))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
      ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
      ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4)
      ∧ r.2.mem ((c.tc : Thread Cert.Kernel4Ideal.nD Cert.Kernel4Ideal.τ).loc Cert.Kernel4Ideal.main_arg5) = m ((c.tc : Thread Cert.Kernel4Ideal.nD Cert.Kernel4Ideal.τ).loc Cert.Kernel4Ideal.main_arg5)
      ∧ r.2.mem ((c.tc : Thread Cert.Kernel4Ideal.nD Cert.Kernel4Ideal.τ).loc Cert.Kernel4Ideal.main_arg6) = m ((c.tc : Thread Cert.Kernel4Ideal.nD Cert.Kernel4Ideal.τ).loc Cert.Kernel4Ideal.main_arg6)
      ∧ r.2.mem ((c.tc : Thread Cert.Kernel4Ideal.nD Cert.Kernel4Ideal.τ).loc Cert.Kernel4Ideal.main_arg7) = m ((c.tc : Thread Cert.Kernel4Ideal.nD Cert.Kernel4Ideal.τ).loc Cert.Kernel4Ideal.main_arg7)
      ∧ r.2.mem ((c.tc : Thread Cert.Kernel4Ideal.nD Cert.Kernel4Ideal.τ).loc Cert.Kernel4Ideal.main_arg8) = m ((c.tc : Thread Cert.Kernel4Ideal.nD Cert.Kernel4Ideal.τ).loc Cert.Kernel4Ideal.main_arg8)
      ∧ r.2.mem ((c.tc : Thread Cert.Kernel4Ideal.nD Cert.Kernel4Ideal.τ).loc Cert.Kernel4Ideal.main_arg9) = m ((c.tc : Thread Cert.Kernel4Ideal.nD Cert.Kernel4Ideal.τ).loc Cert.Kernel4Ideal.main_arg9)
      ∧ r.2.mem ((c.tc : Thread Cert.Kernel4Ideal.nD Cert.Kernel4Ideal.τ).loc Cert.Kernel4Ideal.main_arg10) = m ((c.tc : Thread Cert.Kernel4Ideal.nD Cert.Kernel4Ideal.τ).loc Cert.Kernel4Ideal.main_arg10)
      ∧ r.2.mem ((c.tc : Thread Cert.Kernel4Ideal.nD Cert.Kernel4Ideal.τ).loc Cert.Kernel4Ideal.main_arg11) = m ((c.tc : Thread Cert.Kernel4Ideal.nD Cert.Kernel4Ideal.τ).loc Cert.Kernel4Ideal.main_arg11)
      ∧ r.2.mem ((c.tc : Thread Cert.Kernel4Ideal.nD Cert.Kernel4Ideal.τ).loc Cert.Kernel4Ideal.main_arg12) = m ((c.tc : Thread Cert.Kernel4Ideal.nD Cert.Kernel4Ideal.τ).loc Cert.Kernel4Ideal.main_arg12))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2)
      ∧ r.2.mem ((c.tc : Thread Cert.Reference4Ideal.nD Cert.Reference4Ideal.τ).loc Cert.Reference4Ideal.main_arg3) = m ((c.tc : Thread Cert.Reference4Ideal.nD Cert.Reference4Ideal.τ).loc Cert.Reference4Ideal.main_arg3)
      ∧ r.2.mem ((c.tc : Thread Cert.Reference4Ideal.nD Cert.Reference4Ideal.τ).loc Cert.Reference4Ideal.main_arg4) = m ((c.tc : Thread Cert.Reference4Ideal.nD Cert.Reference4Ideal.τ).loc Cert.Reference4Ideal.main_arg4)
      ∧ r.2.mem ((c.tc : Thread Cert.Reference4Ideal.nD Cert.Reference4Ideal.τ).loc Cert.Reference4Ideal.main_arg5) = m ((c.tc : Thread Cert.Reference4Ideal.nD Cert.Reference4Ideal.τ).loc Cert.Reference4Ideal.main_arg5)
      ∧ r.2.mem ((c.tc : Thread Cert.Reference4Ideal.nD Cert.Reference4Ideal.τ).loc Cert.Reference4Ideal.main_arg6) = m ((c.tc : Thread Cert.Reference4Ideal.nD Cert.Reference4Ideal.τ).loc Cert.Reference4Ideal.main_arg6)
      ∧ r.2.mem ((c.tc : Thread Cert.Reference4Ideal.nD Cert.Reference4Ideal.τ).loc Cert.Reference4Ideal.main_arg7) = m ((c.tc : Thread Cert.Reference4Ideal.nD Cert.Reference4Ideal.τ).loc Cert.Reference4Ideal.main_arg7)
      ∧ r.2.mem ((c.tc : Thread Cert.Reference4Ideal.nD Cert.Reference4Ideal.τ).loc Cert.Reference4Ideal.main_arg8) = m ((c.tc : Thread Cert.Reference4Ideal.nD Cert.Reference4Ideal.τ).loc Cert.Reference4Ideal.main_arg8)
      ∧ r.2.mem ((c.tc : Thread Cert.Reference4Ideal.nD Cert.Reference4Ideal.τ).loc Cert.Reference4Ideal.main_arg9) = m ((c.tc : Thread Cert.Reference4Ideal.nD Cert.Reference4Ideal.τ).loc Cert.Reference4Ideal.main_arg9)
      ∧ r.2.mem ((c.tc : Thread Cert.Reference4Ideal.nD Cert.Reference4Ideal.τ).loc Cert.Reference4Ideal.main_arg10) = m ((c.tc : Thread Cert.Reference4Ideal.nD Cert.Reference4Ideal.τ).loc Cert.Reference4Ideal.main_arg10)
      ∧ r.2.mem ((c.tc : Thread Cert.Reference4Ideal.nD Cert.Reference4Ideal.τ).loc Cert.Reference4Ideal.main_arg11) = m ((c.tc : Thread Cert.Reference4Ideal.nD Cert.Reference4Ideal.τ).loc Cert.Reference4Ideal.main_arg11)
      ∧ r.2.mem ((c.tc : Thread Cert.Reference4Ideal.nD Cert.Reference4Ideal.τ).loc Cert.Reference4Ideal.main_arg12) = m ((c.tc : Thread Cert.Reference4Ideal.nD Cert.Reference4Ideal.τ).loc Cert.Reference4Ideal.main_arg12))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1)
      ∧ r.2.mem ((c.tc : Thread Cert.Kernel5.nD Cert.Kernel5.τ).loc Cert.Kernel5.main_arg2) = m ((c.tc : Thread Cert.Kernel5.nD Cert.Kernel5.τ).loc Cert.Kernel5.main_arg2)
      ∧ r.2.mem ((c.tc : Thread Cert.Kernel5.nD Cert.Kernel5.τ).loc Cert.Kernel5.main_arg3) = m ((c.tc : Thread Cert.Kernel5.nD Cert.Kernel5.τ).loc Cert.Kernel5.main_arg3)
      ∧ r.2.mem ((c.tc : Thread Cert.Kernel5.nD Cert.Kernel5.τ).loc Cert.Kernel5.main_arg4) = m ((c.tc : Thread Cert.Kernel5.nD Cert.Kernel5.τ).loc Cert.Kernel5.main_arg4)
      ∧ r.2.mem ((c.tc : Thread Cert.Kernel5.nD Cert.Kernel5.τ).loc Cert.Kernel5.main_arg5) = m ((c.tc : Thread Cert.Kernel5.nD Cert.Kernel5.τ).loc Cert.Kernel5.main_arg5)
      ∧ r.2.mem ((c.tc : Thread Cert.Kernel5.nD Cert.Kernel5.τ).loc Cert.Kernel5.main_arg6) = m ((c.tc : Thread Cert.Kernel5.nD Cert.Kernel5.τ).loc Cert.Kernel5.main_arg6)
      ∧ r.2.mem ((c.tc : Thread Cert.Kernel5.nD Cert.Kernel5.τ).loc Cert.Kernel5.main_arg7) = m ((c.tc : Thread Cert.Kernel5.nD Cert.Kernel5.τ).loc Cert.Kernel5.main_arg7)
      ∧ r.2.mem ((c.tc : Thread Cert.Kernel5.nD Cert.Kernel5.τ).loc Cert.Kernel5.main_arg8) = m ((c.tc : Thread Cert.Kernel5.nD Cert.Kernel5.τ).loc Cert.Kernel5.main_arg8)
      ∧ r.2.mem ((c.tc : Thread Cert.Kernel5.nD Cert.Kernel5.τ).loc Cert.Kernel5.main_arg9) = m ((c.tc : Thread Cert.Kernel5.nD Cert.Kernel5.τ).loc Cert.Kernel5.main_arg9)
      ∧ r.2.mem ((c.tc : Thread Cert.Kernel5.nD Cert.Kernel5.τ).loc Cert.Kernel5.main_arg10) = m ((c.tc : Thread Cert.Kernel5.nD Cert.Kernel5.τ).loc Cert.Kernel5.main_arg10)
      ∧ r.2.mem ((c.tc : Thread Cert.Kernel5.nD Cert.Kernel5.τ).loc Cert.Kernel5.main_arg11) = m ((c.tc : Thread Cert.Kernel5.nD Cert.Kernel5.τ).loc Cert.Kernel5.main_arg11)
      ∧ r.2.mem ((c.tc : Thread Cert.Kernel5.nD Cert.Kernel5.τ).loc Cert.Kernel5.main_arg12) = m ((c.tc : Thread Cert.Kernel5.nD Cert.Kernel5.τ).loc Cert.Kernel5.main_arg12)
      ∧ r.2.mem ((c.tc : Thread Cert.Kernel5.nD Cert.Kernel5.τ).loc Cert.Kernel5.main_arg13) = m ((c.tc : Thread Cert.Kernel5.nD Cert.Kernel5.τ).loc Cert.Kernel5.main_arg13))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
      ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
      ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
      ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4)
      ∧ r.2.mem ((c.tc : Thread Cert.Kernel5Ideal.nD Cert.Kernel5Ideal.τ).loc Cert.Kernel5Ideal.main_arg5) = m ((c.tc : Thread Cert.Kernel5Ideal.nD Cert.Kernel5Ideal.τ).loc Cert.Kernel5Ideal.main_arg5)
      ∧ r.2.mem ((c.tc : Thread Cert.Kernel5Ideal.nD Cert.Kernel5Ideal.τ).loc Cert.Kernel5Ideal.main_arg6) = m ((c.tc : Thread Cert.Kernel5Ideal.nD Cert.Kernel5Ideal.τ).loc Cert.Kernel5Ideal.main_arg6)
      ∧ r.2.mem ((c.tc : Thread Cert.Kernel5Ideal.nD Cert.Kernel5Ideal.τ).loc Cert.Kernel5Ideal.main_arg7) = m ((c.tc : Thread Cert.Kernel5Ideal.nD Cert.Kernel5Ideal.τ).loc Cert.Kernel5Ideal.main_arg7)
      ∧ r.2.mem ((c.tc : Thread Cert.Kernel5Ideal.nD Cert.Kernel5Ideal.τ).loc Cert.Kernel5Ideal.main_arg8) = m ((c.tc : Thread Cert.Kernel5Ideal.nD Cert.Kernel5Ideal.τ).loc Cert.Kernel5Ideal.main_arg8)
      ∧ r.2.mem ((c.tc : Thread Cert.Kernel5Ideal.nD Cert.Kernel5Ideal.τ).loc Cert.Kernel5Ideal.main_arg9) = m ((c.tc : Thread Cert.Kernel5Ideal.nD Cert.Kernel5Ideal.τ).loc Cert.Kernel5Ideal.main_arg9)
      ∧ r.2.mem ((c.tc : Thread Cert.Kernel5Ideal.nD Cert.Kernel5Ideal.τ).loc Cert.Kernel5Ideal.main_arg10) = m ((c.tc : Thread Cert.Kernel5Ideal.nD Cert.Kernel5Ideal.τ).loc Cert.Kernel5Ideal.main_arg10)
      ∧ r.2.mem ((c.tc : Thread Cert.Kernel5Ideal.nD Cert.Kernel5Ideal.τ).loc Cert.Kernel5Ideal.main_arg11) = m ((c.tc : Thread Cert.Kernel5Ideal.nD Cert.Kernel5Ideal.τ).loc Cert.Kernel5Ideal.main_arg11)
      ∧ r.2.mem ((c.tc : Thread Cert.Kernel5Ideal.nD Cert.Kernel5Ideal.τ).loc Cert.Kernel5Ideal.main_arg12) = m ((c.tc : Thread Cert.Kernel5Ideal.nD Cert.Kernel5Ideal.τ).loc Cert.Kernel5Ideal.main_arg12)
      ∧ r.2.mem ((c.tc : Thread Cert.Kernel5Ideal.nD Cert.Kernel5Ideal.τ).loc Cert.Kernel5Ideal.main_arg13) = m ((c.tc : Thread Cert.Kernel5Ideal.nD Cert.Kernel5Ideal.τ).loc Cert.Kernel5Ideal.main_arg13))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1)
      ∧ r.2.mem ((c.tc : Thread Cert.Reference5Ideal.nD Cert.Reference5Ideal.τ).loc Cert.Reference5Ideal.main_arg2) = m ((c.tc : Thread Cert.Reference5Ideal.nD Cert.Reference5Ideal.τ).loc Cert.Reference5Ideal.main_arg2)
      ∧ r.2.mem ((c.tc : Thread Cert.Reference5Ideal.nD Cert.Reference5Ideal.τ).loc Cert.Reference5Ideal.main_arg3) = m ((c.tc : Thread Cert.Reference5Ideal.nD Cert.Reference5Ideal.τ).loc Cert.Reference5Ideal.main_arg3)
      ∧ r.2.mem ((c.tc : Thread Cert.Reference5Ideal.nD Cert.Reference5Ideal.τ).loc Cert.Reference5Ideal.main_arg4) = m ((c.tc : Thread Cert.Reference5Ideal.nD Cert.Reference5Ideal.τ).loc Cert.Reference5Ideal.main_arg4)
      ∧ r.2.mem ((c.tc : Thread Cert.Reference5Ideal.nD Cert.Reference5Ideal.τ).loc Cert.Reference5Ideal.main_arg5) = m ((c.tc : Thread Cert.Reference5Ideal.nD Cert.Reference5Ideal.τ).loc Cert.Reference5Ideal.main_arg5)
      ∧ r.2.mem ((c.tc : Thread Cert.Reference5Ideal.nD Cert.Reference5Ideal.τ).loc Cert.Reference5Ideal.main_arg6) = m ((c.tc : Thread Cert.Reference5Ideal.nD Cert.Reference5Ideal.τ).loc Cert.Reference5Ideal.main_arg6)
      ∧ r.2.mem ((c.tc : Thread Cert.Reference5Ideal.nD Cert.Reference5Ideal.τ).loc Cert.Reference5Ideal.main_arg7) = m ((c.tc : Thread Cert.Reference5Ideal.nD Cert.Reference5Ideal.τ).loc Cert.Reference5Ideal.main_arg7)
      ∧ r.2.mem ((c.tc : Thread Cert.Reference5Ideal.nD Cert.Reference5Ideal.τ).loc Cert.Reference5Ideal.main_arg8) = m ((c.tc : Thread Cert.Reference5Ideal.nD Cert.Reference5Ideal.τ).loc Cert.Reference5Ideal.main_arg8)
      ∧ r.2.mem ((c.tc : Thread Cert.Reference5Ideal.nD Cert.Reference5Ideal.τ).loc Cert.Reference5Ideal.main_arg9) = m ((c.tc : Thread Cert.Reference5Ideal.nD Cert.Reference5Ideal.τ).loc Cert.Reference5Ideal.main_arg9)
      ∧ r.2.mem ((c.tc : Thread Cert.Reference5Ideal.nD Cert.Reference5Ideal.τ).loc Cert.Reference5Ideal.main_arg10) = m ((c.tc : Thread Cert.Reference5Ideal.nD Cert.Reference5Ideal.τ).loc Cert.Reference5Ideal.main_arg10)
      ∧ r.2.mem ((c.tc : Thread Cert.Reference5Ideal.nD Cert.Reference5Ideal.τ).loc Cert.Reference5Ideal.main_arg11) = m ((c.tc : Thread Cert.Reference5Ideal.nD Cert.Reference5Ideal.τ).loc Cert.Reference5Ideal.main_arg11)
      ∧ r.2.mem ((c.tc : Thread Cert.Reference5Ideal.nD Cert.Reference5Ideal.τ).loc Cert.Reference5Ideal.main_arg12) = m ((c.tc : Thread Cert.Reference5Ideal.nD Cert.Reference5Ideal.τ).loc Cert.Reference5Ideal.main_arg12)
      ∧ r.2.mem ((c.tc : Thread Cert.Reference5Ideal.nD Cert.Reference5Ideal.τ).loc Cert.Reference5Ideal.main_arg13) = m ((c.tc : Thread Cert.Reference5Ideal.nD Cert.Reference5Ideal.τ).loc Cert.Reference5Ideal.main_arg13))
      ∧ r.2.sem = fun _ => 0)

def quiescent_Kernel6 [hKernel6 : Cert.Kernel6.Facts] : Prop :=
  ∀ (m : (ℓ : Loc Cert.Kernel6.nD Cert.Kernel6.τ Cert.Kernel6.sig) → Buf (Elt Bits) ℓ) (g : Dev Cert.Kernel6.nD → PrngReg), Pre_Kernel6 m →
    θ_run (Cert.Kernel6.defs (F := Bits)) (onTc (τ := Cert.Kernel6.τ) (Cert.Kernel6.main (F := Bits))) ⟨m, fun _ => 0, g⟩ (fun r => (∀ c : Dev Cert.Kernel6.nD,
      r.2.mem ((c.tc : Thread Cert.Kernel6.nD Cert.Kernel6.τ).loc Cert.Kernel6.main_arg0) = m ((c.tc : Thread Cert.Kernel6.nD Cert.Kernel6.τ).loc Cert.Kernel6.main_arg0)
      ∧ r.2.mem ((c.tc : Thread Cert.Kernel6.nD Cert.Kernel6.τ).loc Cert.Kernel6.main_arg1) = m ((c.tc : Thread Cert.Kernel6.nD Cert.Kernel6.τ).loc Cert.Kernel6.main_arg1)
      ∧ r.2.mem ((c.tc : Thread Cert.Kernel6.nD Cert.Kernel6.τ).loc Cert.Kernel6.main_arg2) = m ((c.tc : Thread Cert.Kernel6.nD Cert.Kernel6.τ).loc Cert.Kernel6.main_arg2))
      ∧ r.2.sem = fun _ => 0)

def quiescent_Kernel6Ideal [hKernel6Ideal : Cert.Kernel6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
      ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2))
      ∧ r.2.sem = fun _ => 0)

def quiescent_Reference6Ideal [hReference6Ideal : Cert.Reference6Ideal.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1)
      ∧ r.2.mem ((c.tc : Thread Cert.Reference6Ideal.nD Cert.Reference6Ideal.τ).loc Cert.Reference6Ideal.main_arg2) = m ((c.tc : Thread Cert.Reference6Ideal.nD Cert.Reference6Ideal.τ).loc Cert.Reference6Ideal.main_arg2))
      ∧ r.2.sem = fun _ => 0)

def quiescent_Kernel7 [hKernel7 : Cert.Kernel7.Facts] : Prop :=
  ∀ (m : (ℓ : Loc Cert.Kernel7.nD Cert.Kernel7.τ Cert.Kernel7.sig) → Buf (Elt Bits) ℓ) (g : Dev Cert.Kernel7.nD → PrngReg), Pre_Kernel7 m →
    θ_run (Cert.Kernel7.defs (F := Bits)) (onTc (τ := Cert.Kernel7.τ) (Cert.Kernel7.main (F := Bits))) ⟨m, fun _ => 0, g⟩ (fun r => (∀ c : Dev Cert.Kernel7.nD,
      r.2.mem ((c.tc : Thread Cert.Kernel7.nD Cert.Kernel7.τ).loc Cert.Kernel7.main_arg0) = m ((c.tc : Thread Cert.Kernel7.nD Cert.Kernel7.τ).loc Cert.Kernel7.main_arg0)
      ∧ r.2.mem ((c.tc : Thread Cert.Kernel7.nD Cert.Kernel7.τ).loc Cert.Kernel7.main_arg1) = m ((c.tc : Thread Cert.Kernel7.nD Cert.Kernel7.τ).loc Cert.Kernel7.main_arg1)
      ∧ r.2.mem ((c.tc : Thread Cert.Kernel7.nD Cert.Kernel7.τ).loc Cert.Kernel7.main_arg2) = m ((c.tc : Thread Cert.Kernel7.nD Cert.Kernel7.τ).loc Cert.Kernel7.main_arg2))
      ∧ r.2.sem = fun _ => 0)

def quiescent_Kernel7Ideal [hKernel7Ideal : Cert.Kernel7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg), Pre_Kernel7Ideal m →
    θ_run (Cert.Kernel7Ideal.defs (F := Ideal)) (onTc (τ := Cert.Kernel7Ideal.τ) (Cert.Kernel7Ideal.main (F := Ideal))) ⟨m, fun _ => 0, g⟩ (fun r => (∀ c : Dev Cert.Kernel7Ideal.nD,
      r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
      ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
      ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2))
      ∧ r.2.sem = fun _ => 0)

def quiescent_Reference7Ideal [hReference7Ideal : Cert.Reference7Ideal.Facts] : Prop :=
  ∀ (m : (ℓ : Loc Cert.Reference7Ideal.nD Cert.Reference7Ideal.τ Cert.Reference7Ideal.sig) → Buf (Elt Ideal) ℓ) (g : Dev Cert.Reference7Ideal.nD → PrngReg), Pre_Reference7Ideal m →
    θ_run (Cert.Reference7Ideal.defs (F := Ideal)) (onTc (τ := Cert.Reference7Ideal.τ) (Cert.Reference7Ideal.main (F := Ideal))) ⟨m, fun _ => 0, g⟩ (fun r => (∀ c : Dev Cert.Reference7Ideal.nD,
      r.2.mem ((c.tc : Thread Cert.Reference7Ideal.nD Cert.Reference7Ideal.τ).loc Cert.Reference7Ideal.main_arg0) = m ((c.tc : Thread Cert.Reference7Ideal.nD Cert.Reference7Ideal.τ).loc Cert.Reference7Ideal.main_arg0)
      ∧ r.2.mem ((c.tc : Thread Cert.Reference7Ideal.nD Cert.Reference7Ideal.τ).loc Cert.Reference7Ideal.main_arg1) = m ((c.tc : Thread Cert.Reference7Ideal.nD Cert.Reference7Ideal.τ).loc Cert.Reference7Ideal.main_arg1)
      ∧ r.2.mem ((c.tc : Thread Cert.Reference7Ideal.nD Cert.Reference7Ideal.τ).loc Cert.Reference7Ideal.main_arg2) = m ((c.tc : Thread Cert.Reference7Ideal.nD Cert.Reference7Ideal.τ).loc Cert.Reference7Ideal.main_arg2))
      ∧ r.2.sem = fun _ => 0)

def quiescent_Kernel8 [hKernel8 : Cert.Kernel8.Facts] : Prop :=
  ∀ (m : (ℓ : Loc Cert.Kernel8.nD Cert.Kernel8.τ Cert.Kernel8.sig) → Buf (Elt Bits) ℓ) (g : Dev Cert.Kernel8.nD → PrngReg), Pre_Kernel8 m →
    θ_run (Cert.Kernel8.defs (F := Bits)) (onTc (τ := Cert.Kernel8.τ) (Cert.Kernel8.main (F := Bits))) ⟨m, fun _ => 0, g⟩ (fun r => (∀ c : Dev Cert.Kernel8.nD,
      r.2.mem ((c.tc : Thread Cert.Kernel8.nD Cert.Kernel8.τ).loc Cert.Kernel8.main_arg0) = m ((c.tc : Thread Cert.Kernel8.nD Cert.Kernel8.τ).loc Cert.Kernel8.main_arg0))
      ∧ r.2.sem = fun _ => 0)

def quiescent_Kernel8Ideal [hKernel8Ideal : Cert.Kernel8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg), Pre_Kernel8Ideal m →
    θ_run (Cert.Kernel8Ideal.defs (F := Ideal)) (onTc (τ := Cert.Kernel8Ideal.τ) (Cert.Kernel8Ideal.main (F := Ideal))) ⟨m, fun _ => 0, g⟩ (fun r => (∀ c : Dev Cert.Kernel8Ideal.nD,
      r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0))
      ∧ r.2.sem = fun _ => 0)

def quiescent_Reference8Ideal [hReference8Ideal : Cert.Reference8Ideal.Facts] : Prop :=
  ∀ (m : (ℓ : Loc Cert.Reference8Ideal.nD Cert.Reference8Ideal.τ Cert.Reference8Ideal.sig) → Buf (Elt Ideal) ℓ) (g : Dev Cert.Reference8Ideal.nD → PrngReg), Pre_Reference8Ideal m →
    θ_run (Cert.Reference8Ideal.defs (F := Ideal)) (onTc (τ := Cert.Reference8Ideal.τ) (Cert.Reference8Ideal.main (F := Ideal))) ⟨m, fun _ => 0, g⟩ (fun r => (∀ c : Dev Cert.Reference8Ideal.nD,
      r.2.mem ((c.tc : Thread Cert.Reference8Ideal.nD Cert.Reference8Ideal.τ).loc Cert.Reference8Ideal.main_arg0) = m ((c.tc : Thread Cert.Reference8Ideal.nD Cert.Reference8Ideal.τ).loc Cert.Reference8Ideal.main_arg0))
      ∧ r.2.sem = fun _ => 0)

def preserves_Kernel_KernelIdeal : Prop :=
  IdealRules.named_const.Statement Cert.KernelIdeal.κ "mask" .f32 0xF149F2CA#32 ⊥

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v21)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v21) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v83) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)
      ∧ m' ((c.tc : Thread Cert.Reference2Ideal.nD Cert.Reference2Ideal.τ).loc Cert.Reference2Ideal.main_arg4) = m ((c.tc : Thread Cert.Kernel2Ideal.nD Cert.Kernel2Ideal.τ).loc Cert.Kernel2Ideal.main_arg4)
      ∧ m' ((c.tc : Thread Cert.Reference2Ideal.nD Cert.Reference2Ideal.τ).loc Cert.Reference2Ideal.main_arg5) = m ((c.tc : Thread Cert.Kernel2Ideal.nD Cert.Kernel2Ideal.τ).loc Cert.Kernel2Ideal.main_arg5)
      ∧ m' ((c.tc : Thread Cert.Reference2Ideal.nD Cert.Reference2Ideal.τ).loc Cert.Reference2Ideal.main_arg6) = m ((c.tc : Thread Cert.Kernel2Ideal.nD Cert.Kernel2Ideal.τ).loc Cert.Kernel2Ideal.main_arg6)
      ∧ m' ((c.tc : Thread Cert.Reference2Ideal.nD Cert.Reference2Ideal.τ).loc Cert.Reference2Ideal.main_arg7) = m ((c.tc : Thread Cert.Kernel2Ideal.nD Cert.Kernel2Ideal.τ).loc Cert.Kernel2Ideal.main_arg7)
      ∧ m' ((c.tc : Thread Cert.Reference2Ideal.nD Cert.Reference2Ideal.τ).loc Cert.Reference2Ideal.main_arg8) = m ((c.tc : Thread Cert.Kernel2Ideal.nD Cert.Kernel2Ideal.τ).loc Cert.Kernel2Ideal.main_arg8)
      ∧ m' ((c.tc : Thread Cert.Reference2Ideal.nD Cert.Reference2Ideal.τ).loc Cert.Reference2Ideal.main_arg9) = m ((c.tc : Thread Cert.Kernel2Ideal.nD Cert.Kernel2Ideal.τ).loc Cert.Kernel2Ideal.main_arg9)
      ∧ m' ((c.tc : Thread Cert.Reference2Ideal.nD Cert.Reference2Ideal.τ).loc Cert.Reference2Ideal.main_arg10) = m ((c.tc : Thread Cert.Kernel2Ideal.nD Cert.Kernel2Ideal.τ).loc Cert.Kernel2Ideal.main_arg10)
      ∧ m' ((c.tc : Thread Cert.Reference2Ideal.nD Cert.Reference2Ideal.τ).loc Cert.Reference2Ideal.main_arg11) = m ((c.tc : Thread Cert.Kernel2Ideal.nD Cert.Kernel2Ideal.τ).loc Cert.Kernel2Ideal.main_arg11)
      ∧ m' ((c.tc : Thread Cert.Reference2Ideal.nD Cert.Reference2Ideal.τ).loc Cert.Reference2Ideal.main_arg12) = m ((c.tc : Thread Cert.Kernel2Ideal.nD Cert.Kernel2Ideal.τ).loc Cert.Kernel2Ideal.main_arg12)) →
    ∃ (v0 : (c : Dev Cert.Kernel2Ideal.nD) → Buf (Elt Ideal) ((c.tc : Thread Cert.Kernel2Ideal.nD Cert.Kernel2Ideal.τ).loc Cert.Kernel2Ideal.main_v10)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v10) = v0 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
          ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
          ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
          ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6)
          ∧ r.2.mem ((c.tc : Thread Cert.Kernel2Ideal.nD Cert.Kernel2Ideal.τ).loc Cert.Kernel2Ideal.main_arg7) = m ((c.tc : Thread Cert.Kernel2Ideal.nD Cert.Kernel2Ideal.τ).loc Cert.Kernel2Ideal.main_arg7)
          ∧ r.2.mem ((c.tc : Thread Cert.Kernel2Ideal.nD Cert.Kernel2Ideal.τ).loc Cert.Kernel2Ideal.main_arg8) = m ((c.tc : Thread Cert.Kernel2Ideal.nD Cert.Kernel2Ideal.τ).loc Cert.Kernel2Ideal.main_arg8)
          ∧ r.2.mem ((c.tc : Thread Cert.Kernel2Ideal.nD Cert.Kernel2Ideal.τ).loc Cert.Kernel2Ideal.main_arg9) = m ((c.tc : Thread Cert.Kernel2Ideal.nD Cert.Kernel2Ideal.τ).loc Cert.Kernel2Ideal.main_arg9)
          ∧ r.2.mem ((c.tc : Thread Cert.Kernel2Ideal.nD Cert.Kernel2Ideal.τ).loc Cert.Kernel2Ideal.main_arg10) = m ((c.tc : Thread Cert.Kernel2Ideal.nD Cert.Kernel2Ideal.τ).loc Cert.Kernel2Ideal.main_arg10)
          ∧ r.2.mem ((c.tc : Thread Cert.Kernel2Ideal.nD Cert.Kernel2Ideal.τ).loc Cert.Kernel2Ideal.main_arg11) = m ((c.tc : Thread Cert.Kernel2Ideal.nD Cert.Kernel2Ideal.τ).loc Cert.Kernel2Ideal.main_arg11)
          ∧ r.2.mem ((c.tc : Thread Cert.Kernel2Ideal.nD Cert.Kernel2Ideal.τ).loc Cert.Kernel2Ideal.main_arg12) = m ((c.tc : Thread Cert.Kernel2Ideal.nD Cert.Kernel2Ideal.τ).loc Cert.Kernel2Ideal.main_arg12))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v77) = v0 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3)
          ∧ r.2.mem ((c.tc : Thread Cert.Reference2Ideal.nD Cert.Reference2Ideal.τ).loc Cert.Reference2Ideal.main_arg4) = m' ((c.tc : Thread Cert.Reference2Ideal.nD Cert.Reference2Ideal.τ).loc Cert.Reference2Ideal.main_arg4)
          ∧ r.2.mem ((c.tc : Thread Cert.Reference2Ideal.nD Cert.Reference2Ideal.τ).loc Cert.Reference2Ideal.main_arg5) = m' ((c.tc : Thread Cert.Reference2Ideal.nD Cert.Reference2Ideal.τ).loc Cert.Reference2Ideal.main_arg5)
          ∧ r.2.mem ((c.tc : Thread Cert.Reference2Ideal.nD Cert.Reference2Ideal.τ).loc Cert.Reference2Ideal.main_arg6) = m' ((c.tc : Thread Cert.Reference2Ideal.nD Cert.Reference2Ideal.τ).loc Cert.Reference2Ideal.main_arg6)
          ∧ r.2.mem ((c.tc : Thread Cert.Reference2Ideal.nD Cert.Reference2Ideal.τ).loc Cert.Reference2Ideal.main_arg7) = m' ((c.tc : Thread Cert.Reference2Ideal.nD Cert.Reference2Ideal.τ).loc Cert.Reference2Ideal.main_arg7)
          ∧ r.2.mem ((c.tc : Thread Cert.Reference2Ideal.nD Cert.Reference2Ideal.τ).loc Cert.Reference2Ideal.main_arg8) = m' ((c.tc : Thread Cert.Reference2Ideal.nD Cert.Reference2Ideal.τ).loc Cert.Reference2Ideal.main_arg8)
          ∧ r.2.mem ((c.tc : Thread Cert.Reference2Ideal.nD Cert.Reference2Ideal.τ).loc Cert.Reference2Ideal.main_arg9) = m' ((c.tc : Thread Cert.Reference2Ideal.nD Cert.Reference2Ideal.τ).loc Cert.Reference2Ideal.main_arg9)
          ∧ r.2.mem ((c.tc : Thread Cert.Reference2Ideal.nD Cert.Reference2Ideal.τ).loc Cert.Reference2Ideal.main_arg10) = m' ((c.tc : Thread Cert.Reference2Ideal.nD Cert.Reference2Ideal.τ).loc Cert.Reference2Ideal.main_arg10)
          ∧ r.2.mem ((c.tc : Thread Cert.Reference2Ideal.nD Cert.Reference2Ideal.τ).loc Cert.Reference2Ideal.main_arg11) = m' ((c.tc : Thread Cert.Reference2Ideal.nD Cert.Reference2Ideal.τ).loc Cert.Reference2Ideal.main_arg11)
          ∧ r.2.mem ((c.tc : Thread Cert.Reference2Ideal.nD Cert.Reference2Ideal.τ).loc Cert.Reference2Ideal.main_arg12) = m' ((c.tc : Thread Cert.Reference2Ideal.nD Cert.Reference2Ideal.τ).loc Cert.Reference2Ideal.main_arg12))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)
      ∧ m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3)
      ∧ m' ((c.tc : Thread Cert.Reference3Ideal.nD Cert.Reference3Ideal.τ).loc Cert.Reference3Ideal.main_arg4) = m ((c.tc : Thread Cert.Kernel3Ideal.nD Cert.Kernel3Ideal.τ).loc Cert.Kernel3Ideal.main_arg4)
      ∧ m' ((c.tc : Thread Cert.Reference3Ideal.nD Cert.Reference3Ideal.τ).loc Cert.Reference3Ideal.main_arg5) = m ((c.tc : Thread Cert.Kernel3Ideal.nD Cert.Kernel3Ideal.τ).loc Cert.Kernel3Ideal.main_arg5)
      ∧ m' ((c.tc : Thread Cert.Reference3Ideal.nD Cert.Reference3Ideal.τ).loc Cert.Reference3Ideal.main_arg6) = m ((c.tc : Thread Cert.Kernel3Ideal.nD Cert.Kernel3Ideal.τ).loc Cert.Kernel3Ideal.main_arg6)
      ∧ m' ((c.tc : Thread Cert.Reference3Ideal.nD Cert.Reference3Ideal.τ).loc Cert.Reference3Ideal.main_arg7) = m ((c.tc : Thread Cert.Kernel3Ideal.nD Cert.Kernel3Ideal.τ).loc Cert.Kernel3Ideal.main_arg7)
      ∧ m' ((c.tc : Thread Cert.Reference3Ideal.nD Cert.Reference3Ideal.τ).loc Cert.Reference3Ideal.main_arg8) = m ((c.tc : Thread Cert.Kernel3Ideal.nD Cert.Kernel3Ideal.τ).loc Cert.Kernel3Ideal.main_arg8)
      ∧ m' ((c.tc : Thread Cert.Reference3Ideal.nD Cert.Reference3Ideal.τ).loc Cert.Reference3Ideal.main_arg9) = m ((c.tc : Thread Cert.Kernel3Ideal.nD Cert.Kernel3Ideal.τ).loc Cert.Kernel3Ideal.main_arg9)
      ∧ m' ((c.tc : Thread Cert.Reference3Ideal.nD Cert.Reference3Ideal.τ).loc Cert.Reference3Ideal.main_arg10) = m ((c.tc : Thread Cert.Kernel3Ideal.nD Cert.Kernel3Ideal.τ).loc Cert.Kernel3Ideal.main_arg10)
      ∧ m' ((c.tc : Thread Cert.Reference3Ideal.nD Cert.Reference3Ideal.τ).loc Cert.Reference3Ideal.main_arg11) = m ((c.tc : Thread Cert.Kernel3Ideal.nD Cert.Kernel3Ideal.τ).loc Cert.Kernel3Ideal.main_arg11)
      ∧ m' ((c.tc : Thread Cert.Reference3Ideal.nD Cert.Reference3Ideal.τ).loc Cert.Reference3Ideal.main_arg12) = m ((c.tc : Thread Cert.Kernel3Ideal.nD Cert.Kernel3Ideal.τ).loc Cert.Kernel3Ideal.main_arg12)
      ∧ m' ((c.tc : Thread Cert.Reference3Ideal.nD Cert.Reference3Ideal.τ).loc Cert.Reference3Ideal.main_arg13) = m ((c.tc : Thread Cert.Kernel3Ideal.nD Cert.Kernel3Ideal.τ).loc Cert.Kernel3Ideal.main_arg13)
      ∧ m' ((c.tc : Thread Cert.Reference3Ideal.nD Cert.Reference3Ideal.τ).loc Cert.Reference3Ideal.main_arg14) = m ((c.tc : Thread Cert.Kernel3Ideal.nD Cert.Kernel3Ideal.τ).loc Cert.Kernel3Ideal.main_arg14)
      ∧ m' ((c.tc : Thread Cert.Reference3Ideal.nD Cert.Reference3Ideal.τ).loc Cert.Reference3Ideal.main_arg15) = m ((c.tc : Thread Cert.Kernel3Ideal.nD Cert.Kernel3Ideal.τ).loc Cert.Kernel3Ideal.main_arg15)
      ∧ m' ((c.tc : Thread Cert.Reference3Ideal.nD Cert.Reference3Ideal.τ).loc Cert.Reference3Ideal.main_arg16) = m ((c.tc : Thread Cert.Kernel3Ideal.nD Cert.Kernel3Ideal.τ).loc Cert.Kernel3Ideal.main_arg16)
      ∧ m' ((c.tc : Thread Cert.Reference3Ideal.nD Cert.Reference3Ideal.τ).loc Cert.Reference3Ideal.main_arg17) = m ((c.tc : Thread Cert.Kernel3Ideal.nD Cert.Kernel3Ideal.τ).loc Cert.Kernel3Ideal.main_arg17)) →
    ∃ (v0 : (c : Dev Cert.Kernel3Ideal.nD) → Buf (Elt Ideal) ((c.tc : Thread Cert.Kernel3Ideal.nD Cert.Kernel3Ideal.τ).loc Cert.Kernel3Ideal.main_v12_0)) (v1 : (c : Dev Cert.Kernel3Ideal.nD) → Buf (Elt Ideal) ((c.tc : Thread Cert.Kernel3Ideal.nD Cert.Kernel3Ideal.τ).loc Cert.Kernel3Ideal.main_v12_1)) (v2 : (c : Dev Cert.Kernel3Ideal.nD) → Buf (Elt Ideal) ((c.tc : Thread Cert.Kernel3Ideal.nD Cert.Kernel3Ideal.τ).loc Cert.Kernel3Ideal.main_v12_2)) (v3 : (c : Dev Cert.Kernel3Ideal.nD) → Buf (Elt Ideal) ((c.tc : Thread Cert.Kernel3Ideal.nD Cert.Kernel3Ideal.τ).loc Cert.Kernel3Ideal.main_v12_3)) (v4 : (c : Dev Cert.Kernel3Ideal.nD) → Buf (Elt Ideal) ((c.tc : Thread Cert.Kernel3Ideal.nD Cert.Kernel3Ideal.τ).loc Cert.Kernel3Ideal.main_v12_4)) (v5 : (c : Dev Cert.Kernel3Ideal.nD) → Buf (Elt Ideal) ((c.tc : Thread Cert.Kernel3Ideal.nD Cert.Kernel3Ideal.τ).loc Cert.Kernel3Ideal.main_v12_5)) (v6 : (c : Dev Cert.Kernel3Ideal.nD) → Buf (Elt Ideal) ((c.tc : Thread Cert.Kernel3Ideal.nD Cert.Kernel3Ideal.τ).loc Cert.Kernel3Ideal.main_v12_6)) (v7 : (c : Dev Cert.Kernel3Ideal.nD) → Buf (Elt Ideal) ((c.tc : Thread Cert.Kernel3Ideal.nD Cert.Kernel3Ideal.τ).loc Cert.Kernel3Ideal.main_v12_7)) (v8 : (c : Dev Cert.Kernel3Ideal.nD) → Buf (Elt Ideal) ((c.tc : Thread Cert.Kernel3Ideal.nD Cert.Kernel3Ideal.τ).loc Cert.Kernel3Ideal.main_v12_8)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v12_0) = v0 c
          ∧ r.2.mem ((c.tc : Thread Cert.Kernel3Ideal.nD Cert.Kernel3Ideal.τ).loc Cert.Kernel3Ideal.main_v12_1) = v1 c
          ∧ r.2.mem ((c.tc : Thread Cert.Kernel3Ideal.nD Cert.Kernel3Ideal.τ).loc Cert.Kernel3Ideal.main_v12_2) = v2 c
          ∧ r.2.mem ((c.tc : Thread Cert.Kernel3Ideal.nD Cert.Kernel3Ideal.τ).loc Cert.Kernel3Ideal.main_v12_3) = v3 c
          ∧ r.2.mem ((c.tc : Thread Cert.Kernel3Ideal.nD Cert.Kernel3Ideal.τ).loc Cert.Kernel3Ideal.main_v12_4) = v4 c
          ∧ r.2.mem ((c.tc : Thread Cert.Kernel3Ideal.nD Cert.Kernel3Ideal.τ).loc Cert.Kernel3Ideal.main_v12_5) = v5 c
          ∧ r.2.mem ((c.tc : Thread Cert.Kernel3Ideal.nD Cert.Kernel3Ideal.τ).loc Cert.Kernel3Ideal.main_v12_6) = v6 c
          ∧ r.2.mem ((c.tc : Thread Cert.Kernel3Ideal.nD Cert.Kernel3Ideal.τ).loc Cert.Kernel3Ideal.main_v12_7) = v7 c
          ∧ r.2.mem ((c.tc : Thread Cert.Kernel3Ideal.nD Cert.Kernel3Ideal.τ).loc Cert.Kernel3Ideal.main_v12_8) = v8 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
          ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
          ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
          ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
          ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6)
          ∧ r.2.mem ((c.tc : Thread Cert.Kernel3Ideal.nD Cert.Kernel3Ideal.τ).loc Cert.Kernel3Ideal.main_arg7) = m ((c.tc : Thread Cert.Kernel3Ideal.nD Cert.Kernel3Ideal.τ).loc Cert.Kernel3Ideal.main_arg7)
          ∧ r.2.mem ((c.tc : Thread Cert.Kernel3Ideal.nD Cert.Kernel3Ideal.τ).loc Cert.Kernel3Ideal.main_arg8) = m ((c.tc : Thread Cert.Kernel3Ideal.nD Cert.Kernel3Ideal.τ).loc Cert.Kernel3Ideal.main_arg8)
          ∧ r.2.mem ((c.tc : Thread Cert.Kernel3Ideal.nD Cert.Kernel3Ideal.τ).loc Cert.Kernel3Ideal.main_arg9) = m ((c.tc : Thread Cert.Kernel3Ideal.nD Cert.Kernel3Ideal.τ).loc Cert.Kernel3Ideal.main_arg9)
          ∧ r.2.mem ((c.tc : Thread Cert.Kernel3Ideal.nD Cert.Kernel3Ideal.τ).loc Cert.Kernel3Ideal.main_arg10) = m ((c.tc : Thread Cert.Kernel3Ideal.nD Cert.Kernel3Ideal.τ).loc Cert.Kernel3Ideal.main_arg10)
          ∧ r.2.mem ((c.tc : Thread Cert.Kernel3Ideal.nD Cert.Kernel3Ideal.τ).loc Cert.Kernel3Ideal.main_arg11) = m ((c.tc : Thread Cert.Kernel3Ideal.nD Cert.Kernel3Ideal.τ).loc Cert.Kernel3Ideal.main_arg11)
          ∧ r.2.mem ((c.tc : Thread Cert.Kernel3Ideal.nD Cert.Kernel3Ideal.τ).loc Cert.Kernel3Ideal.main_arg12) = m ((c.tc : Thread Cert.Kernel3Ideal.nD Cert.Kernel3Ideal.τ).loc Cert.Kernel3Ideal.main_arg12)
          ∧ r.2.mem ((c.tc : Thread Cert.Kernel3Ideal.nD Cert.Kernel3Ideal.τ).loc Cert.Kernel3Ideal.main_arg13) = m ((c.tc : Thread Cert.Kernel3Ideal.nD Cert.Kernel3Ideal.τ).loc Cert.Kernel3Ideal.main_arg13)
          ∧ r.2.mem ((c.tc : Thread Cert.Kernel3Ideal.nD Cert.Kernel3Ideal.τ).loc Cert.Kernel3Ideal.main_arg14) = m ((c.tc : Thread Cert.Kernel3Ideal.nD Cert.Kernel3Ideal.τ).loc Cert.Kernel3Ideal.main_arg14)
          ∧ r.2.mem ((c.tc : Thread Cert.Kernel3Ideal.nD Cert.Kernel3Ideal.τ).loc Cert.Kernel3Ideal.main_arg15) = m ((c.tc : Thread Cert.Kernel3Ideal.nD Cert.Kernel3Ideal.τ).loc Cert.Kernel3Ideal.main_arg15)
          ∧ r.2.mem ((c.tc : Thread Cert.Kernel3Ideal.nD Cert.Kernel3Ideal.τ).loc Cert.Kernel3Ideal.main_arg16) = m ((c.tc : Thread Cert.Kernel3Ideal.nD Cert.Kernel3Ideal.τ).loc Cert.Kernel3Ideal.main_arg16)
          ∧ r.2.mem ((c.tc : Thread Cert.Kernel3Ideal.nD Cert.Kernel3Ideal.τ).loc Cert.Kernel3Ideal.main_arg17) = m ((c.tc : Thread Cert.Kernel3Ideal.nD Cert.Kernel3Ideal.τ).loc Cert.Kernel3Ideal.main_arg17))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v64) = v0 c
          ∧ r.2.mem ((c.tc : Thread Cert.Reference3Ideal.nD Cert.Reference3Ideal.τ).loc Cert.Reference3Ideal.main_v107) = v1 c
          ∧ r.2.mem ((c.tc : Thread Cert.Reference3Ideal.nD Cert.Reference3Ideal.τ).loc Cert.Reference3Ideal.main_v110) = v2 c
          ∧ r.2.mem ((c.tc : Thread Cert.Reference3Ideal.nD Cert.Reference3Ideal.τ).loc Cert.Reference3Ideal.main_v92) = v3 c
          ∧ r.2.mem ((c.tc : Thread Cert.Reference3Ideal.nD Cert.Reference3Ideal.τ).loc Cert.Reference3Ideal.main_v96) = v4 c
          ∧ r.2.mem ((c.tc : Thread Cert.Reference3Ideal.nD Cert.Reference3Ideal.τ).loc Cert.Reference3Ideal.main_v100) = v5 c
          ∧ r.2.mem ((c.tc : Thread Cert.Reference3Ideal.nD Cert.Reference3Ideal.τ).loc Cert.Reference3Ideal.main_v104) = v6 c
          ∧ r.2.mem ((c.tc : Thread Cert.Reference3Ideal.nD Cert.Reference3Ideal.τ).loc Cert.Reference3Ideal.main_v111) = v7 c
          ∧ r.2.mem ((c.tc : Thread Cert.Reference3Ideal.nD Cert.Reference3Ideal.τ).loc Cert.Reference3Ideal.main_v112) = v8 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2)
          ∧ r.2.mem ((c.tc : Thread Cert.Reference3Ideal.nD Cert.Reference3Ideal.τ).loc Cert.Reference3Ideal.main_arg3) = m' ((c.tc : Thread Cert.Reference3Ideal.nD Cert.Reference3Ideal.τ).loc Cert.Reference3Ideal.main_arg3)
          ∧ r.2.mem ((c.tc : Thread Cert.Reference3Ideal.nD Cert.Reference3Ideal.τ).loc Cert.Reference3Ideal.main_arg4) = m' ((c.tc : Thread Cert.Reference3Ideal.nD Cert.Reference3Ideal.τ).loc Cert.Reference3Ideal.main_arg4)
          ∧ r.2.mem ((c.tc : Thread Cert.Reference3Ideal.nD Cert.Reference3Ideal.τ).loc Cert.Reference3Ideal.main_arg5) = m' ((c.tc : Thread Cert.Reference3Ideal.nD Cert.Reference3Ideal.τ).loc Cert.Reference3Ideal.main_arg5)
          ∧ r.2.mem ((c.tc : Thread Cert.Reference3Ideal.nD Cert.Reference3Ideal.τ).loc Cert.Reference3Ideal.main_arg6) = m' ((c.tc : Thread Cert.Reference3Ideal.nD Cert.Reference3Ideal.τ).loc Cert.Reference3Ideal.main_arg6)
          ∧ r.2.mem ((c.tc : Thread Cert.Reference3Ideal.nD Cert.Reference3Ideal.τ).loc Cert.Reference3Ideal.main_arg7) = m' ((c.tc : Thread Cert.Reference3Ideal.nD Cert.Reference3Ideal.τ).loc Cert.Reference3Ideal.main_arg7)
          ∧ r.2.mem ((c.tc : Thread Cert.Reference3Ideal.nD Cert.Reference3Ideal.τ).loc Cert.Reference3Ideal.main_arg8) = m' ((c.tc : Thread Cert.Reference3Ideal.nD Cert.Reference3Ideal.τ).loc Cert.Reference3Ideal.main_arg8)
          ∧ r.2.mem ((c.tc : Thread Cert.Reference3Ideal.nD Cert.Reference3Ideal.τ).loc Cert.Reference3Ideal.main_arg9) = m' ((c.tc : Thread Cert.Reference3Ideal.nD Cert.Reference3Ideal.τ).loc Cert.Reference3Ideal.main_arg9)
          ∧ r.2.mem ((c.tc : Thread Cert.Reference3Ideal.nD Cert.Reference3Ideal.τ).loc Cert.Reference3Ideal.main_arg10) = m' ((c.tc : Thread Cert.Reference3Ideal.nD Cert.Reference3Ideal.τ).loc Cert.Reference3Ideal.main_arg10)
          ∧ r.2.mem ((c.tc : Thread Cert.Reference3Ideal.nD Cert.Reference3Ideal.τ).loc Cert.Reference3Ideal.main_arg11) = m' ((c.tc : Thread Cert.Reference3Ideal.nD Cert.Reference3Ideal.τ).loc Cert.Reference3Ideal.main_arg11)
          ∧ r.2.mem ((c.tc : Thread Cert.Reference3Ideal.nD Cert.Reference3Ideal.τ).loc Cert.Reference3Ideal.main_arg12) = m' ((c.tc : Thread Cert.Reference3Ideal.nD Cert.Reference3Ideal.τ).loc Cert.Reference3Ideal.main_arg12)
          ∧ r.2.mem ((c.tc : Thread Cert.Reference3Ideal.nD Cert.Reference3Ideal.τ).loc Cert.Reference3Ideal.main_arg13) = m' ((c.tc : Thread Cert.Reference3Ideal.nD Cert.Reference3Ideal.τ).loc Cert.Reference3Ideal.main_arg13)
          ∧ r.2.mem ((c.tc : Thread Cert.Reference3Ideal.nD Cert.Reference3Ideal.τ).loc Cert.Reference3Ideal.main_arg14) = m' ((c.tc : Thread Cert.Reference3Ideal.nD Cert.Reference3Ideal.τ).loc Cert.Reference3Ideal.main_arg14)
          ∧ r.2.mem ((c.tc : Thread Cert.Reference3Ideal.nD Cert.Reference3Ideal.τ).loc Cert.Reference3Ideal.main_arg15) = m' ((c.tc : Thread Cert.Reference3Ideal.nD Cert.Reference3Ideal.τ).loc Cert.Reference3Ideal.main_arg15)
          ∧ r.2.mem ((c.tc : Thread Cert.Reference3Ideal.nD Cert.Reference3Ideal.τ).loc Cert.Reference3Ideal.main_arg16) = m' ((c.tc : Thread Cert.Reference3Ideal.nD Cert.Reference3Ideal.τ).loc Cert.Reference3Ideal.main_arg16)
          ∧ r.2.mem ((c.tc : Thread Cert.Reference3Ideal.nD Cert.Reference3Ideal.τ).loc Cert.Reference3Ideal.main_arg17) = m' ((c.tc : Thread Cert.Reference3Ideal.nD Cert.Reference3Ideal.τ).loc Cert.Reference3Ideal.main_arg17))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)
      ∧ m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2)
      ∧ m' ((c.tc : Thread Cert.Reference4Ideal.nD Cert.Reference4Ideal.τ).loc Cert.Reference4Ideal.main_arg3) = m ((c.tc : Thread Cert.Kernel4Ideal.nD Cert.Kernel4Ideal.τ).loc Cert.Kernel4Ideal.main_arg3)
      ∧ m' ((c.tc : Thread Cert.Reference4Ideal.nD Cert.Reference4Ideal.τ).loc Cert.Reference4Ideal.main_arg4) = m ((c.tc : Thread Cert.Kernel4Ideal.nD Cert.Kernel4Ideal.τ).loc Cert.Kernel4Ideal.main_arg4)
      ∧ m' ((c.tc : Thread Cert.Reference4Ideal.nD Cert.Reference4Ideal.τ).loc Cert.Reference4Ideal.main_arg5) = m ((c.tc : Thread Cert.Kernel4Ideal.nD Cert.Kernel4Ideal.τ).loc Cert.Kernel4Ideal.main_arg5)
      ∧ m' ((c.tc : Thread Cert.Reference4Ideal.nD Cert.Reference4Ideal.τ).loc Cert.Reference4Ideal.main_arg6) = m ((c.tc : Thread Cert.Kernel4Ideal.nD Cert.Kernel4Ideal.τ).loc Cert.Kernel4Ideal.main_arg6)
      ∧ m' ((c.tc : Thread Cert.Reference4Ideal.nD Cert.Reference4Ideal.τ).loc Cert.Reference4Ideal.main_arg7) = m ((c.tc : Thread Cert.Kernel4Ideal.nD Cert.Kernel4Ideal.τ).loc Cert.Kernel4Ideal.main_arg7)
      ∧ m' ((c.tc : Thread Cert.Reference4Ideal.nD Cert.Reference4Ideal.τ).loc Cert.Reference4Ideal.main_arg8) = m ((c.tc : Thread Cert.Kernel4Ideal.nD Cert.Kernel4Ideal.τ).loc Cert.Kernel4Ideal.main_arg8)
      ∧ m' ((c.tc : Thread Cert.Reference4Ideal.nD Cert.Reference4Ideal.τ).loc Cert.Reference4Ideal.main_arg9) = m ((c.tc : Thread Cert.Kernel4Ideal.nD Cert.Kernel4Ideal.τ).loc Cert.Kernel4Ideal.main_arg9)
      ∧ m' ((c.tc : Thread Cert.Reference4Ideal.nD Cert.Reference4Ideal.τ).loc Cert.Reference4Ideal.main_arg10) = m ((c.tc : Thread Cert.Kernel4Ideal.nD Cert.Kernel4Ideal.τ).loc Cert.Kernel4Ideal.main_arg10)
      ∧ m' ((c.tc : Thread Cert.Reference4Ideal.nD Cert.Reference4Ideal.τ).loc Cert.Reference4Ideal.main_arg11) = m ((c.tc : Thread Cert.Kernel4Ideal.nD Cert.Kernel4Ideal.τ).loc Cert.Kernel4Ideal.main_arg11)
      ∧ m' ((c.tc : Thread Cert.Reference4Ideal.nD Cert.Reference4Ideal.τ).loc Cert.Reference4Ideal.main_arg12) = m ((c.tc : Thread Cert.Kernel4Ideal.nD Cert.Kernel4Ideal.τ).loc Cert.Kernel4Ideal.main_arg12)) →
    ∃ (v0 : (c : Dev Cert.Kernel4Ideal.nD) → Buf (Elt Ideal) ((c.tc : Thread Cert.Kernel4Ideal.nD Cert.Kernel4Ideal.τ).loc Cert.Kernel4Ideal.main_v10)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v10) = v0 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
          ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
          ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
          ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4)
          ∧ r.2.mem ((c.tc : Thread Cert.Kernel4Ideal.nD Cert.Kernel4Ideal.τ).loc Cert.Kernel4Ideal.main_arg5) = m ((c.tc : Thread Cert.Kernel4Ideal.nD Cert.Kernel4Ideal.τ).loc Cert.Kernel4Ideal.main_arg5)
          ∧ r.2.mem ((c.tc : Thread Cert.Kernel4Ideal.nD Cert.Kernel4Ideal.τ).loc Cert.Kernel4Ideal.main_arg6) = m ((c.tc : Thread Cert.Kernel4Ideal.nD Cert.Kernel4Ideal.τ).loc Cert.Kernel4Ideal.main_arg6)
          ∧ r.2.mem ((c.tc : Thread Cert.Kernel4Ideal.nD Cert.Kernel4Ideal.τ).loc Cert.Kernel4Ideal.main_arg7) = m ((c.tc : Thread Cert.Kernel4Ideal.nD Cert.Kernel4Ideal.τ).loc Cert.Kernel4Ideal.main_arg7)
          ∧ r.2.mem ((c.tc : Thread Cert.Kernel4Ideal.nD Cert.Kernel4Ideal.τ).loc Cert.Kernel4Ideal.main_arg8) = m ((c.tc : Thread Cert.Kernel4Ideal.nD Cert.Kernel4Ideal.τ).loc Cert.Kernel4Ideal.main_arg8)
          ∧ r.2.mem ((c.tc : Thread Cert.Kernel4Ideal.nD Cert.Kernel4Ideal.τ).loc Cert.Kernel4Ideal.main_arg9) = m ((c.tc : Thread Cert.Kernel4Ideal.nD Cert.Kernel4Ideal.τ).loc Cert.Kernel4Ideal.main_arg9)
          ∧ r.2.mem ((c.tc : Thread Cert.Kernel4Ideal.nD Cert.Kernel4Ideal.τ).loc Cert.Kernel4Ideal.main_arg10) = m ((c.tc : Thread Cert.Kernel4Ideal.nD Cert.Kernel4Ideal.τ).loc Cert.Kernel4Ideal.main_arg10)
          ∧ r.2.mem ((c.tc : Thread Cert.Kernel4Ideal.nD Cert.Kernel4Ideal.τ).loc Cert.Kernel4Ideal.main_arg11) = m ((c.tc : Thread Cert.Kernel4Ideal.nD Cert.Kernel4Ideal.τ).loc Cert.Kernel4Ideal.main_arg11)
          ∧ r.2.mem ((c.tc : Thread Cert.Kernel4Ideal.nD Cert.Kernel4Ideal.τ).loc Cert.Kernel4Ideal.main_arg12) = m ((c.tc : Thread Cert.Kernel4Ideal.nD Cert.Kernel4Ideal.τ).loc Cert.Kernel4Ideal.main_arg12))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v77) = v0 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1)
          ∧ r.2.mem ((c.tc : Thread Cert.Reference4Ideal.nD Cert.Reference4Ideal.τ).loc Cert.Reference4Ideal.main_arg2) = m' ((c.tc : Thread Cert.Reference4Ideal.nD Cert.Reference4Ideal.τ).loc Cert.Reference4Ideal.main_arg2)
          ∧ r.2.mem ((c.tc : Thread Cert.Reference4Ideal.nD Cert.Reference4Ideal.τ).loc Cert.Reference4Ideal.main_arg3) = m' ((c.tc : Thread Cert.Reference4Ideal.nD Cert.Reference4Ideal.τ).loc Cert.Reference4Ideal.main_arg3)
          ∧ r.2.mem ((c.tc : Thread Cert.Reference4Ideal.nD Cert.Reference4Ideal.τ).loc Cert.Reference4Ideal.main_arg4) = m' ((c.tc : Thread Cert.Reference4Ideal.nD Cert.Reference4Ideal.τ).loc Cert.Reference4Ideal.main_arg4)
          ∧ r.2.mem ((c.tc : Thread Cert.Reference4Ideal.nD Cert.Reference4Ideal.τ).loc Cert.Reference4Ideal.main_arg5) = m' ((c.tc : Thread Cert.Reference4Ideal.nD Cert.Reference4Ideal.τ).loc Cert.Reference4Ideal.main_arg5)
          ∧ r.2.mem ((c.tc : Thread Cert.Reference4Ideal.nD Cert.Reference4Ideal.τ).loc Cert.Reference4Ideal.main_arg6) = m' ((c.tc : Thread Cert.Reference4Ideal.nD Cert.Reference4Ideal.τ).loc Cert.Reference4Ideal.main_arg6)
          ∧ r.2.mem ((c.tc : Thread Cert.Reference4Ideal.nD Cert.Reference4Ideal.τ).loc Cert.Reference4Ideal.main_arg7) = m' ((c.tc : Thread Cert.Reference4Ideal.nD Cert.Reference4Ideal.τ).loc Cert.Reference4Ideal.main_arg7)
          ∧ r.2.mem ((c.tc : Thread Cert.Reference4Ideal.nD Cert.Reference4Ideal.τ).loc Cert.Reference4Ideal.main_arg8) = m' ((c.tc : Thread Cert.Reference4Ideal.nD Cert.Reference4Ideal.τ).loc Cert.Reference4Ideal.main_arg8)
          ∧ r.2.mem ((c.tc : Thread Cert.Reference4Ideal.nD Cert.Reference4Ideal.τ).loc Cert.Reference4Ideal.main_arg9) = m' ((c.tc : Thread Cert.Reference4Ideal.nD Cert.Reference4Ideal.τ).loc Cert.Reference4Ideal.main_arg9)
          ∧ r.2.mem ((c.tc : Thread Cert.Reference4Ideal.nD Cert.Reference4Ideal.τ).loc Cert.Reference4Ideal.main_arg10) = m' ((c.tc : Thread Cert.Reference4Ideal.nD Cert.Reference4Ideal.τ).loc Cert.Reference4Ideal.main_arg10)
          ∧ r.2.mem ((c.tc : Thread Cert.Reference4Ideal.nD Cert.Reference4Ideal.τ).loc Cert.Reference4Ideal.main_arg11) = m' ((c.tc : Thread Cert.Reference4Ideal.nD Cert.Reference4Ideal.τ).loc Cert.Reference4Ideal.main_arg11)
          ∧ r.2.mem ((c.tc : Thread Cert.Reference4Ideal.nD Cert.Reference4Ideal.τ).loc Cert.Reference4Ideal.main_arg12) = m' ((c.tc : Thread Cert.Reference4Ideal.nD Cert.Reference4Ideal.τ).loc Cert.Reference4Ideal.main_arg12))

def preserves_Kernel5_Kernel5Ideal : Prop :=
  True

def algebraic_Kernel5Ideal_Reference5Ideal [hKernel5Ideal : Cert.Kernel5Ideal.Facts] [hReference5Ideal : Cert.Reference5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)
      ∧ m' ((c.tc : Thread Cert.Reference5Ideal.nD Cert.Reference5Ideal.τ).loc Cert.Reference5Ideal.main_arg2) = m ((c.tc : Thread Cert.Kernel5Ideal.nD Cert.Kernel5Ideal.τ).loc Cert.Kernel5Ideal.main_arg2)
      ∧ m' ((c.tc : Thread Cert.Reference5Ideal.nD Cert.Reference5Ideal.τ).loc Cert.Reference5Ideal.main_arg3) = m ((c.tc : Thread Cert.Kernel5Ideal.nD Cert.Kernel5Ideal.τ).loc Cert.Kernel5Ideal.main_arg3)
      ∧ m' ((c.tc : Thread Cert.Reference5Ideal.nD Cert.Reference5Ideal.τ).loc Cert.Reference5Ideal.main_arg4) = m ((c.tc : Thread Cert.Kernel5Ideal.nD Cert.Kernel5Ideal.τ).loc Cert.Kernel5Ideal.main_arg4)
      ∧ m' ((c.tc : Thread Cert.Reference5Ideal.nD Cert.Reference5Ideal.τ).loc Cert.Reference5Ideal.main_arg5) = m ((c.tc : Thread Cert.Kernel5Ideal.nD Cert.Kernel5Ideal.τ).loc Cert.Kernel5Ideal.main_arg5)
      ∧ m' ((c.tc : Thread Cert.Reference5Ideal.nD Cert.Reference5Ideal.τ).loc Cert.Reference5Ideal.main_arg6) = m ((c.tc : Thread Cert.Kernel5Ideal.nD Cert.Kernel5Ideal.τ).loc Cert.Kernel5Ideal.main_arg6)
      ∧ m' ((c.tc : Thread Cert.Reference5Ideal.nD Cert.Reference5Ideal.τ).loc Cert.Reference5Ideal.main_arg7) = m ((c.tc : Thread Cert.Kernel5Ideal.nD Cert.Kernel5Ideal.τ).loc Cert.Kernel5Ideal.main_arg7)
      ∧ m' ((c.tc : Thread Cert.Reference5Ideal.nD Cert.Reference5Ideal.τ).loc Cert.Reference5Ideal.main_arg8) = m ((c.tc : Thread Cert.Kernel5Ideal.nD Cert.Kernel5Ideal.τ).loc Cert.Kernel5Ideal.main_arg8)
      ∧ m' ((c.tc : Thread Cert.Reference5Ideal.nD Cert.Reference5Ideal.τ).loc Cert.Reference5Ideal.main_arg9) = m ((c.tc : Thread Cert.Kernel5Ideal.nD Cert.Kernel5Ideal.τ).loc Cert.Kernel5Ideal.main_arg9)
      ∧ m' ((c.tc : Thread Cert.Reference5Ideal.nD Cert.Reference5Ideal.τ).loc Cert.Reference5Ideal.main_arg10) = m ((c.tc : Thread Cert.Kernel5Ideal.nD Cert.Kernel5Ideal.τ).loc Cert.Kernel5Ideal.main_arg10)
      ∧ m' ((c.tc : Thread Cert.Reference5Ideal.nD Cert.Reference5Ideal.τ).loc Cert.Reference5Ideal.main_arg11) = m ((c.tc : Thread Cert.Kernel5Ideal.nD Cert.Kernel5Ideal.τ).loc Cert.Kernel5Ideal.main_arg11)
      ∧ m' ((c.tc : Thread Cert.Reference5Ideal.nD Cert.Reference5Ideal.τ).loc Cert.Reference5Ideal.main_arg12) = m ((c.tc : Thread Cert.Kernel5Ideal.nD Cert.Kernel5Ideal.τ).loc Cert.Kernel5Ideal.main_arg12)
      ∧ m' ((c.tc : Thread Cert.Reference5Ideal.nD Cert.Reference5Ideal.τ).loc Cert.Reference5Ideal.main_arg13) = m ((c.tc : Thread Cert.Kernel5Ideal.nD Cert.Kernel5Ideal.τ).loc Cert.Kernel5Ideal.main_arg13)) →
    ∃ (v0 : (c : Dev Cert.Kernel5Ideal.nD) → Buf (Elt Ideal) ((c.tc : Thread Cert.Kernel5Ideal.nD Cert.Kernel5Ideal.τ).loc Cert.Kernel5Ideal.main_v12_0)) (v1 : (c : Dev Cert.Kernel5Ideal.nD) → Buf (Elt Ideal) ((c.tc : Thread Cert.Kernel5Ideal.nD Cert.Kernel5Ideal.τ).loc Cert.Kernel5Ideal.main_v12_1)) (v2 : (c : Dev Cert.Kernel5Ideal.nD) → Buf (Elt Ideal) ((c.tc : Thread Cert.Kernel5Ideal.nD Cert.Kernel5Ideal.τ).loc Cert.Kernel5Ideal.main_v12_2)) (v3 : (c : Dev Cert.Kernel5Ideal.nD) → Buf (Elt Ideal) ((c.tc : Thread Cert.Kernel5Ideal.nD Cert.Kernel5Ideal.τ).loc Cert.Kernel5Ideal.main_v12_3)) (v4 : (c : Dev Cert.Kernel5Ideal.nD) → Buf (Elt Ideal) ((c.tc : Thread Cert.Kernel5Ideal.nD Cert.Kernel5Ideal.τ).loc Cert.Kernel5Ideal.main_v12_4)) (v5 : (c : Dev Cert.Kernel5Ideal.nD) → Buf (Elt Ideal) ((c.tc : Thread Cert.Kernel5Ideal.nD Cert.Kernel5Ideal.τ).loc Cert.Kernel5Ideal.main_v12_5)) (v6 : (c : Dev Cert.Kernel5Ideal.nD) → Buf (Elt Ideal) ((c.tc : Thread Cert.Kernel5Ideal.nD Cert.Kernel5Ideal.τ).loc Cert.Kernel5Ideal.main_v12_6)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v12_0) = v0 c
          ∧ r.2.mem ((c.tc : Thread Cert.Kernel5Ideal.nD Cert.Kernel5Ideal.τ).loc Cert.Kernel5Ideal.main_v12_1) = v1 c
          ∧ r.2.mem ((c.tc : Thread Cert.Kernel5Ideal.nD Cert.Kernel5Ideal.τ).loc Cert.Kernel5Ideal.main_v12_2) = v2 c
          ∧ r.2.mem ((c.tc : Thread Cert.Kernel5Ideal.nD Cert.Kernel5Ideal.τ).loc Cert.Kernel5Ideal.main_v12_3) = v3 c
          ∧ r.2.mem ((c.tc : Thread Cert.Kernel5Ideal.nD Cert.Kernel5Ideal.τ).loc Cert.Kernel5Ideal.main_v12_4) = v4 c
          ∧ r.2.mem ((c.tc : Thread Cert.Kernel5Ideal.nD Cert.Kernel5Ideal.τ).loc Cert.Kernel5Ideal.main_v12_5) = v5 c
          ∧ r.2.mem ((c.tc : Thread Cert.Kernel5Ideal.nD Cert.Kernel5Ideal.τ).loc Cert.Kernel5Ideal.main_v12_6) = v6 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
          ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
          ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
          ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4)
          ∧ r.2.mem ((c.tc : Thread Cert.Kernel5Ideal.nD Cert.Kernel5Ideal.τ).loc Cert.Kernel5Ideal.main_arg5) = m ((c.tc : Thread Cert.Kernel5Ideal.nD Cert.Kernel5Ideal.τ).loc Cert.Kernel5Ideal.main_arg5)
          ∧ r.2.mem ((c.tc : Thread Cert.Kernel5Ideal.nD Cert.Kernel5Ideal.τ).loc Cert.Kernel5Ideal.main_arg6) = m ((c.tc : Thread Cert.Kernel5Ideal.nD Cert.Kernel5Ideal.τ).loc Cert.Kernel5Ideal.main_arg6)
          ∧ r.2.mem ((c.tc : Thread Cert.Kernel5Ideal.nD Cert.Kernel5Ideal.τ).loc Cert.Kernel5Ideal.main_arg7) = m ((c.tc : Thread Cert.Kernel5Ideal.nD Cert.Kernel5Ideal.τ).loc Cert.Kernel5Ideal.main_arg7)
          ∧ r.2.mem ((c.tc : Thread Cert.Kernel5Ideal.nD Cert.Kernel5Ideal.τ).loc Cert.Kernel5Ideal.main_arg8) = m ((c.tc : Thread Cert.Kernel5Ideal.nD Cert.Kernel5Ideal.τ).loc Cert.Kernel5Ideal.main_arg8)
          ∧ r.2.mem ((c.tc : Thread Cert.Kernel5Ideal.nD Cert.Kernel5Ideal.τ).loc Cert.Kernel5Ideal.main_arg9) = m ((c.tc : Thread Cert.Kernel5Ideal.nD Cert.Kernel5Ideal.τ).loc Cert.Kernel5Ideal.main_arg9)
          ∧ r.2.mem ((c.tc : Thread Cert.Kernel5Ideal.nD Cert.Kernel5Ideal.τ).loc Cert.Kernel5Ideal.main_arg10) = m ((c.tc : Thread Cert.Kernel5Ideal.nD Cert.Kernel5Ideal.τ).loc Cert.Kernel5Ideal.main_arg10)
          ∧ r.2.mem ((c.tc : Thread Cert.Kernel5Ideal.nD Cert.Kernel5Ideal.τ).loc Cert.Kernel5Ideal.main_arg11) = m ((c.tc : Thread Cert.Kernel5Ideal.nD Cert.Kernel5Ideal.τ).loc Cert.Kernel5Ideal.main_arg11)
          ∧ r.2.mem ((c.tc : Thread Cert.Kernel5Ideal.nD Cert.Kernel5Ideal.τ).loc Cert.Kernel5Ideal.main_arg12) = m ((c.tc : Thread Cert.Kernel5Ideal.nD Cert.Kernel5Ideal.τ).loc Cert.Kernel5Ideal.main_arg12)
          ∧ r.2.mem ((c.tc : Thread Cert.Kernel5Ideal.nD Cert.Kernel5Ideal.τ).loc Cert.Kernel5Ideal.main_arg13) = m ((c.tc : Thread Cert.Kernel5Ideal.nD Cert.Kernel5Ideal.τ).loc Cert.Kernel5Ideal.main_arg13))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v64) = v0 c
          ∧ r.2.mem ((c.tc : Thread Cert.Reference5Ideal.nD Cert.Reference5Ideal.τ).loc Cert.Reference5Ideal.main_v91) = v1 c
          ∧ r.2.mem ((c.tc : Thread Cert.Reference5Ideal.nD Cert.Reference5Ideal.τ).loc Cert.Reference5Ideal.main_v94) = v2 c
          ∧ r.2.mem ((c.tc : Thread Cert.Reference5Ideal.nD Cert.Reference5Ideal.τ).loc Cert.Reference5Ideal.main_v84) = v3 c
          ∧ r.2.mem ((c.tc : Thread Cert.Reference5Ideal.nD Cert.Reference5Ideal.τ).loc Cert.Reference5Ideal.main_v85) = v4 c
          ∧ r.2.mem ((c.tc : Thread Cert.Reference5Ideal.nD Cert.Reference5Ideal.τ).loc Cert.Reference5Ideal.main_v87) = v5 c
          ∧ r.2.mem ((c.tc : Thread Cert.Reference5Ideal.nD Cert.Reference5Ideal.τ).loc Cert.Reference5Ideal.main_v88) = v6 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1)
          ∧ r.2.mem ((c.tc : Thread Cert.Reference5Ideal.nD Cert.Reference5Ideal.τ).loc Cert.Reference5Ideal.main_arg2) = m' ((c.tc : Thread Cert.Reference5Ideal.nD Cert.Reference5Ideal.τ).loc Cert.Reference5Ideal.main_arg2)
          ∧ r.2.mem ((c.tc : Thread Cert.Reference5Ideal.nD Cert.Reference5Ideal.τ).loc Cert.Reference5Ideal.main_arg3) = m' ((c.tc : Thread Cert.Reference5Ideal.nD Cert.Reference5Ideal.τ).loc Cert.Reference5Ideal.main_arg3)
          ∧ r.2.mem ((c.tc : Thread Cert.Reference5Ideal.nD Cert.Reference5Ideal.τ).loc Cert.Reference5Ideal.main_arg4) = m' ((c.tc : Thread Cert.Reference5Ideal.nD Cert.Reference5Ideal.τ).loc Cert.Reference5Ideal.main_arg4)
          ∧ r.2.mem ((c.tc : Thread Cert.Reference5Ideal.nD Cert.Reference5Ideal.τ).loc Cert.Reference5Ideal.main_arg5) = m' ((c.tc : Thread Cert.Reference5Ideal.nD Cert.Reference5Ideal.τ).loc Cert.Reference5Ideal.main_arg5)
          ∧ r.2.mem ((c.tc : Thread Cert.Reference5Ideal.nD Cert.Reference5Ideal.τ).loc Cert.Reference5Ideal.main_arg6) = m' ((c.tc : Thread Cert.Reference5Ideal.nD Cert.Reference5Ideal.τ).loc Cert.Reference5Ideal.main_arg6)
          ∧ r.2.mem ((c.tc : Thread Cert.Reference5Ideal.nD Cert.Reference5Ideal.τ).loc Cert.Reference5Ideal.main_arg7) = m' ((c.tc : Thread Cert.Reference5Ideal.nD Cert.Reference5Ideal.τ).loc Cert.Reference5Ideal.main_arg7)
          ∧ r.2.mem ((c.tc : Thread Cert.Reference5Ideal.nD Cert.Reference5Ideal.τ).loc Cert.Reference5Ideal.main_arg8) = m' ((c.tc : Thread Cert.Reference5Ideal.nD Cert.Reference5Ideal.τ).loc Cert.Reference5Ideal.main_arg8)
          ∧ r.2.mem ((c.tc : Thread Cert.Reference5Ideal.nD Cert.Reference5Ideal.τ).loc Cert.Reference5Ideal.main_arg9) = m' ((c.tc : Thread Cert.Reference5Ideal.nD Cert.Reference5Ideal.τ).loc Cert.Reference5Ideal.main_arg9)
          ∧ r.2.mem ((c.tc : Thread Cert.Reference5Ideal.nD Cert.Reference5Ideal.τ).loc Cert.Reference5Ideal.main_arg10) = m' ((c.tc : Thread Cert.Reference5Ideal.nD Cert.Reference5Ideal.τ).loc Cert.Reference5Ideal.main_arg10)
          ∧ r.2.mem ((c.tc : Thread Cert.Reference5Ideal.nD Cert.Reference5Ideal.τ).loc Cert.Reference5Ideal.main_arg11) = m' ((c.tc : Thread Cert.Reference5Ideal.nD Cert.Reference5Ideal.τ).loc Cert.Reference5Ideal.main_arg11)
          ∧ r.2.mem ((c.tc : Thread Cert.Reference5Ideal.nD Cert.Reference5Ideal.τ).loc Cert.Reference5Ideal.main_arg12) = m' ((c.tc : Thread Cert.Reference5Ideal.nD Cert.Reference5Ideal.τ).loc Cert.Reference5Ideal.main_arg12)
          ∧ r.2.mem ((c.tc : Thread Cert.Reference5Ideal.nD Cert.Reference5Ideal.τ).loc Cert.Reference5Ideal.main_arg13) = m' ((c.tc : Thread Cert.Reference5Ideal.nD Cert.Reference5Ideal.τ).loc Cert.Reference5Ideal.main_arg13))

def preserves_Kernel6_Kernel6Ideal : Prop :=
  True

def algebraic_Kernel6Ideal_Reference6Ideal [hKernel6Ideal : Cert.Kernel6Ideal.Facts] [hReference6Ideal : Cert.Reference6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg)
    (m' : (ℓ : Loc Cert.Reference6Ideal.nD Cert.Reference6Ideal.τ Cert.Reference6Ideal.sig) → Buf (Elt Ideal) ℓ) (g' : Dev Cert.Reference6Ideal.nD → PrngReg), Pre_Kernel6Ideal m →
    (∀ c : Dev Cert.Kernel6Ideal.nD,
      m' ((c.tc : Thread Cert.Reference6Ideal.nD Cert.Reference6Ideal.τ).loc Cert.Reference6Ideal.main_arg0) = m ((c.tc : Thread Cert.Kernel6Ideal.nD Cert.Kernel6Ideal.τ).loc Cert.Kernel6Ideal.main_arg0)
      ∧ m' ((c.tc : Thread Cert.Reference6Ideal.nD Cert.Reference6Ideal.τ).loc Cert.Reference6Ideal.main_arg1) = m ((c.tc : Thread Cert.Kernel6Ideal.nD Cert.Kernel6Ideal.τ).loc Cert.Kernel6Ideal.main_arg1)
      ∧ m' ((c.tc : Thread Cert.Reference6Ideal.nD Cert.Reference6Ideal.τ).loc Cert.Reference6Ideal.main_arg2) = m ((c.tc : Thread Cert.Kernel6Ideal.nD Cert.Kernel6Ideal.τ).loc Cert.Kernel6Ideal.main_arg2)) →
    ∃ (v0 : (c : Dev Cert.Kernel6Ideal.nD) → Buf (Elt Ideal) ((c.tc : Thread Cert.Kernel6Ideal.nD Cert.Kernel6Ideal.τ).loc Cert.Kernel6Ideal.main_v4_0)) (v1 : (c : Dev Cert.Kernel6Ideal.nD) → Buf (Elt Ideal) ((c.tc : Thread Cert.Kernel6Ideal.nD Cert.Kernel6Ideal.τ).loc Cert.Kernel6Ideal.main_v4_1)) (v2 : (c : Dev Cert.Kernel6Ideal.nD) → Buf (Elt Ideal) ((c.tc : Thread Cert.Kernel6Ideal.nD Cert.Kernel6Ideal.τ).loc Cert.Kernel6Ideal.main_v4_2)) (v3 : (c : Dev Cert.Kernel6Ideal.nD) → Buf (Elt Ideal) ((c.tc : Thread Cert.Kernel6Ideal.nD Cert.Kernel6Ideal.τ).loc Cert.Kernel6Ideal.main_v4_3)) (v4 : (c : Dev Cert.Kernel6Ideal.nD) → Buf (Elt Ideal) ((c.tc : Thread Cert.Kernel6Ideal.nD Cert.Kernel6Ideal.τ).loc Cert.Kernel6Ideal.main_v4_4)) (v5 : (c : Dev Cert.Kernel6Ideal.nD) → Buf (Elt Ideal) ((c.tc : Thread Cert.Kernel6Ideal.nD Cert.Kernel6Ideal.τ).loc Cert.Kernel6Ideal.main_v4_5)),
      θ_run (Cert.Kernel6Ideal.defs (F := Ideal)) (onTc (τ := Cert.Kernel6Ideal.τ) (Cert.Kernel6Ideal.main (F := Ideal))) ⟨m, fun _ => 0, g⟩ (fun r => ∀ c : Dev Cert.Kernel6Ideal.nD,
          r.2.mem ((c.tc : Thread Cert.Kernel6Ideal.nD Cert.Kernel6Ideal.τ).loc Cert.Kernel6Ideal.main_v4_0) = v0 c
          ∧ r.2.mem ((c.tc : Thread Cert.Kernel6Ideal.nD Cert.Kernel6Ideal.τ).loc Cert.Kernel6Ideal.main_v4_1) = v1 c
          ∧ r.2.mem ((c.tc : Thread Cert.Kernel6Ideal.nD Cert.Kernel6Ideal.τ).loc Cert.Kernel6Ideal.main_v4_2) = v2 c
          ∧ r.2.mem ((c.tc : Thread Cert.Kernel6Ideal.nD Cert.Kernel6Ideal.τ).loc Cert.Kernel6Ideal.main_v4_3) = v3 c
          ∧ r.2.mem ((c.tc : Thread Cert.Kernel6Ideal.nD Cert.Kernel6Ideal.τ).loc Cert.Kernel6Ideal.main_v4_4) = v4 c
          ∧ r.2.mem ((c.tc : Thread Cert.Kernel6Ideal.nD Cert.Kernel6Ideal.τ).loc Cert.Kernel6Ideal.main_v4_5) = v5 c
          ∧ r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
          ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
          ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2))
      ∧ θ_run (Cert.Reference6Ideal.defs (F := Ideal)) (onTc (τ := Cert.Reference6Ideal.τ) (Cert.Reference6Ideal.main (F := Ideal))) ⟨m', fun _ => 0, g'⟩ (fun r => ∀ c : Dev Cert.Reference6Ideal.nD,
          r.2.mem ((c.tc : Thread Cert.Reference6Ideal.nD Cert.Reference6Ideal.τ).loc Cert.Reference6Ideal.main_v27) = v0 c
          ∧ r.2.mem ((c.tc : Thread Cert.Reference6Ideal.nD Cert.Reference6Ideal.τ).loc Cert.Reference6Ideal.main_v30) = v1 c
          ∧ r.2.mem ((c.tc : Thread Cert.Reference6Ideal.nD Cert.Reference6Ideal.τ).loc Cert.Reference6Ideal.main_v20) = v2 c
          ∧ r.2.mem ((c.tc : Thread Cert.Reference6Ideal.nD Cert.Reference6Ideal.τ).loc Cert.Reference6Ideal.main_v21) = v3 c
          ∧ r.2.mem ((c.tc : Thread Cert.Reference6Ideal.nD Cert.Reference6Ideal.τ).loc Cert.Reference6Ideal.main_v23) = v4 c
          ∧ r.2.mem ((c.tc : Thread Cert.Reference6Ideal.nD Cert.Reference6Ideal.τ).loc Cert.Reference6Ideal.main_v24) = v5 c
          ∧ r.2.mem ((c.tc : Thread Cert.Reference6Ideal.nD Cert.Reference6Ideal.τ).loc Cert.Reference6Ideal.main_arg0) = m' ((c.tc : Thread Cert.Reference6Ideal.nD Cert.Reference6Ideal.τ).loc Cert.Reference6Ideal.main_arg0)
          ∧ r.2.mem ((c.tc : Thread Cert.Reference6Ideal.nD Cert.Reference6Ideal.τ).loc Cert.Reference6Ideal.main_arg1) = m' ((c.tc : Thread Cert.Reference6Ideal.nD Cert.Reference6Ideal.τ).loc Cert.Reference6Ideal.main_arg1)
          ∧ r.2.mem ((c.tc : Thread Cert.Reference6Ideal.nD Cert.Reference6Ideal.τ).loc Cert.Reference6Ideal.main_arg2) = m' ((c.tc : Thread Cert.Reference6Ideal.nD Cert.Reference6Ideal.τ).loc Cert.Reference6Ideal.main_arg2))

def preserves_Kernel7_Kernel7Ideal : Prop :=
  True

def algebraic_Kernel7Ideal_Reference7Ideal [hKernel7Ideal : Cert.Kernel7Ideal.Facts] [hReference7Ideal : Cert.Reference7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg)
    (m' : (ℓ : Loc Cert.Reference7Ideal.nD Cert.Reference7Ideal.τ Cert.Reference7Ideal.sig) → Buf (Elt Ideal) ℓ) (g' : Dev Cert.Reference7Ideal.nD → PrngReg), Pre_Kernel7Ideal m →
    (∀ c : Dev Cert.Kernel7Ideal.nD,
      m' ((c.tc : Thread Cert.Reference7Ideal.nD Cert.Reference7Ideal.τ).loc Cert.Reference7Ideal.main_arg0) = m ((c.tc : Thread Cert.Kernel7Ideal.nD Cert.Kernel7Ideal.τ).loc Cert.Kernel7Ideal.main_arg0)
      ∧ m' ((c.tc : Thread Cert.Reference7Ideal.nD Cert.Reference7Ideal.τ).loc Cert.Reference7Ideal.main_arg1) = m ((c.tc : Thread Cert.Kernel7Ideal.nD Cert.Kernel7Ideal.τ).loc Cert.Kernel7Ideal.main_arg1)
      ∧ m' ((c.tc : Thread Cert.Reference7Ideal.nD Cert.Reference7Ideal.τ).loc Cert.Reference7Ideal.main_arg2) = m ((c.tc : Thread Cert.Kernel7Ideal.nD Cert.Kernel7Ideal.τ).loc Cert.Kernel7Ideal.main_arg2)) →
    ∃ (v0 : (c : Dev Cert.Kernel7Ideal.nD) → Buf (Elt Ideal) ((c.tc : Thread Cert.Kernel7Ideal.nD Cert.Kernel7Ideal.τ).loc Cert.Kernel7Ideal.main_v4_0)) (v1 : (c : Dev Cert.Kernel7Ideal.nD) → Buf (Elt Ideal) ((c.tc : Thread Cert.Kernel7Ideal.nD Cert.Kernel7Ideal.τ).loc Cert.Kernel7Ideal.main_v4_1)) (v2 : (c : Dev Cert.Kernel7Ideal.nD) → Buf (Elt Ideal) ((c.tc : Thread Cert.Kernel7Ideal.nD Cert.Kernel7Ideal.τ).loc Cert.Kernel7Ideal.main_v4_2)) (v3 : (c : Dev Cert.Kernel7Ideal.nD) → Buf (Elt Ideal) ((c.tc : Thread Cert.Kernel7Ideal.nD Cert.Kernel7Ideal.τ).loc Cert.Kernel7Ideal.main_v4_3)) (v4 : (c : Dev Cert.Kernel7Ideal.nD) → Buf (Elt Ideal) ((c.tc : Thread Cert.Kernel7Ideal.nD Cert.Kernel7Ideal.τ).loc Cert.Kernel7Ideal.main_v4_4)) (v5 : (c : Dev Cert.Kernel7Ideal.nD) → Buf (Elt Ideal) ((c.tc : Thread Cert.Kernel7Ideal.nD Cert.Kernel7Ideal.τ).loc Cert.Kernel7Ideal.main_v4_5)),
      θ_run (Cert.Kernel7Ideal.defs (F := Ideal)) (onTc (τ := Cert.Kernel7Ideal.τ) (Cert.Kernel7Ideal.main (F := Ideal))) ⟨m, fun _ => 0, g⟩ (fun r => ∀ c : Dev Cert.Kernel7Ideal.nD,
          r.2.mem ((c.tc : Thread Cert.Kernel7Ideal.nD Cert.Kernel7Ideal.τ).loc Cert.Kernel7Ideal.main_v4_0) = v0 c
          ∧ r.2.mem ((c.tc : Thread Cert.Kernel7Ideal.nD Cert.Kernel7Ideal.τ).loc Cert.Kernel7Ideal.main_v4_1) = v1 c
          ∧ r.2.mem ((c.tc : Thread Cert.Kernel7Ideal.nD Cert.Kernel7Ideal.τ).loc Cert.Kernel7Ideal.main_v4_2) = v2 c
          ∧ r.2.mem ((c.tc : Thread Cert.Kernel7Ideal.nD Cert.Kernel7Ideal.τ).loc Cert.Kernel7Ideal.main_v4_3) = v3 c
          ∧ r.2.mem ((c.tc : Thread Cert.Kernel7Ideal.nD Cert.Kernel7Ideal.τ).loc Cert.Kernel7Ideal.main_v4_4) = v4 c
          ∧ r.2.mem ((c.tc : Thread Cert.Kernel7Ideal.nD Cert.Kernel7Ideal.τ).loc Cert.Kernel7Ideal.main_v4_5) = v5 c
          ∧ r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
          ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
          ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2))
      ∧ θ_run (Cert.Reference7Ideal.defs (F := Ideal)) (onTc (τ := Cert.Reference7Ideal.τ) (Cert.Reference7Ideal.main (F := Ideal))) ⟨m', fun _ => 0, g'⟩ (fun r => ∀ c : Dev Cert.Reference7Ideal.nD,
          r.2.mem ((c.tc : Thread Cert.Reference7Ideal.nD Cert.Reference7Ideal.τ).loc Cert.Reference7Ideal.main_v27) = v0 c
          ∧ r.2.mem ((c.tc : Thread Cert.Reference7Ideal.nD Cert.Reference7Ideal.τ).loc Cert.Reference7Ideal.main_v30) = v1 c
          ∧ r.2.mem ((c.tc : Thread Cert.Reference7Ideal.nD Cert.Reference7Ideal.τ).loc Cert.Reference7Ideal.main_v33) = v2 c
          ∧ r.2.mem ((c.tc : Thread Cert.Reference7Ideal.nD Cert.Reference7Ideal.τ).loc Cert.Reference7Ideal.main_v36) = v3 c
          ∧ r.2.mem ((c.tc : Thread Cert.Reference7Ideal.nD Cert.Reference7Ideal.τ).loc Cert.Reference7Ideal.main_v39) = v4 c
          ∧ r.2.mem ((c.tc : Thread Cert.Reference7Ideal.nD Cert.Reference7Ideal.τ).loc Cert.Reference7Ideal.main_v42) = v5 c
          ∧ r.2.mem ((c.tc : Thread Cert.Reference7Ideal.nD Cert.Reference7Ideal.τ).loc Cert.Reference7Ideal.main_arg0) = m' ((c.tc : Thread Cert.Reference7Ideal.nD Cert.Reference7Ideal.τ).loc Cert.Reference7Ideal.main_arg0)
          ∧ r.2.mem ((c.tc : Thread Cert.Reference7Ideal.nD Cert.Reference7Ideal.τ).loc Cert.Reference7Ideal.main_arg1) = m' ((c.tc : Thread Cert.Reference7Ideal.nD Cert.Reference7Ideal.τ).loc Cert.Reference7Ideal.main_arg1)
          ∧ r.2.mem ((c.tc : Thread Cert.Reference7Ideal.nD Cert.Reference7Ideal.τ).loc Cert.Reference7Ideal.main_arg2) = m' ((c.tc : Thread Cert.Reference7Ideal.nD Cert.Reference7Ideal.τ).loc Cert.Reference7Ideal.main_arg2))

def preserves_Kernel8_Kernel8Ideal : Prop :=
  True

def algebraic_Kernel8Ideal_Reference8Ideal [hKernel8Ideal : Cert.Kernel8Ideal.Facts] [hReference8Ideal : Cert.Reference8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg)
    (m' : (ℓ : Loc Cert.Reference8Ideal.nD Cert.Reference8Ideal.τ Cert.Reference8Ideal.sig) → Buf (Elt Ideal) ℓ) (g' : Dev Cert.Reference8Ideal.nD → PrngReg), Pre_Kernel8Ideal m →
    (∀ c : Dev Cert.Kernel8Ideal.nD,
      m' ((c.tc : Thread Cert.Reference8Ideal.nD Cert.Reference8Ideal.τ).loc Cert.Reference8Ideal.main_arg0) = m ((c.tc : Thread Cert.Kernel8Ideal.nD Cert.Kernel8Ideal.τ).loc Cert.Kernel8Ideal.main_arg0)) →
    ∃ (v0 : (c : Dev Cert.Kernel8Ideal.nD) → Buf (Elt Ideal) ((c.tc : Thread Cert.Kernel8Ideal.nD Cert.Kernel8Ideal.τ).loc Cert.Kernel8Ideal.main_v1)),
      θ_run (Cert.Kernel8Ideal.defs (F := Ideal)) (onTc (τ := Cert.Kernel8Ideal.τ) (Cert.Kernel8Ideal.main (F := Ideal))) ⟨m, fun _ => 0, g⟩ (fun r => ∀ c : Dev Cert.Kernel8Ideal.nD,
          r.2.mem ((c.tc : Thread Cert.Kernel8Ideal.nD Cert.Kernel8Ideal.τ).loc Cert.Kernel8Ideal.main_v1) = v0 c
          ∧ r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0))
      ∧ θ_run (Cert.Reference8Ideal.defs (F := Ideal)) (onTc (τ := Cert.Reference8Ideal.τ) (Cert.Reference8Ideal.main (F := Ideal))) ⟨m', fun _ => 0, g'⟩ (fun r => ∀ c : Dev Cert.Reference8Ideal.nD,
          r.2.mem ((c.tc : Thread Cert.Reference8Ideal.nD Cert.Reference8Ideal.τ).loc Cert.Reference8Ideal.main_v20) = v0 c
          ∧ r.2.mem ((c.tc : Thread Cert.Reference8Ideal.nD Cert.Reference8Ideal.τ).loc Cert.Reference8Ideal.main_arg0) = m' ((c.tc : Thread Cert.Reference8Ideal.nD Cert.Reference8Ideal.τ).loc Cert.Reference8Ideal.main_arg0))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hKernel6 : Cert.Kernel6.Facts) (hKernel6Ideal : Cert.Kernel6Ideal.Facts) (hReference6Ideal : Cert.Reference6Ideal.Facts) (hKernel7 : Cert.Kernel7.Facts) (hKernel7Ideal : Cert.Kernel7Ideal.Facts) (hReference7Ideal : Cert.Reference7Ideal.Facts) (hKernel8 : Cert.Kernel8.Facts) (hKernel8Ideal : Cert.Kernel8Ideal.Facts) (hReference8Ideal : Cert.Reference8Ideal.Facts),
    quiescent_Kernel (hKernel := hKernel)
    ∧ quiescent_KernelIdeal (hKernelIdeal := hKernelIdeal)
    ∧ quiescent_ReferenceIdeal (hReferenceIdeal := hReferenceIdeal)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Reference4Ideal (hReference4Ideal := hReference4Ideal)
    ∧ quiescent_Kernel5 (hKernel5 := hKernel5)
    ∧ quiescent_Kernel5Ideal (hKernel5Ideal := hKernel5Ideal)
    ∧ quiescent_Reference5Ideal (hReference5Ideal := hReference5Ideal)
    ∧ quiescent_Kernel6 (hKernel6 := hKernel6)
    ∧ quiescent_Kernel6Ideal (hKernel6Ideal := hKernel6Ideal)
    ∧ quiescent_Reference6Ideal (hReference6Ideal := hReference6Ideal)
    ∧ quiescent_Kernel7 (hKernel7 := hKernel7)
    ∧ quiescent_Kernel7Ideal (hKernel7Ideal := hKernel7Ideal)
    ∧ quiescent_Reference7Ideal (hReference7Ideal := hReference7Ideal)
    ∧ quiescent_Kernel8 (hKernel8 := hKernel8)
    ∧ quiescent_Kernel8Ideal (hKernel8Ideal := hKernel8Ideal)
    ∧ quiescent_Reference8Ideal (hReference8Ideal := hReference8Ideal)
    ∧ preserves_Kernel_KernelIdeal
    ∧ algebraic_KernelIdeal_ReferenceIdeal (hKernelIdeal := hKernelIdeal) (hReferenceIdeal := hReferenceIdeal)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal (hKernel4Ideal := hKernel4Ideal) (hReference4Ideal := hReference4Ideal)
    ∧ preserves_Kernel5_Kernel5Ideal
    ∧ algebraic_Kernel5Ideal_Reference5Ideal (hKernel5Ideal := hKernel5Ideal) (hReference5Ideal := hReference5Ideal)
    ∧ preserves_Kernel6_Kernel6Ideal
    ∧ algebraic_Kernel6Ideal_Reference6Ideal (hKernel6Ideal := hKernel6Ideal) (hReference6Ideal := hReference6Ideal)
    ∧ preserves_Kernel7_Kernel7Ideal
    ∧ algebraic_Kernel7Ideal_Reference7Ideal (hKernel7Ideal := hKernel7Ideal) (hReference7Ideal := hReference7Ideal)
    ∧ preserves_Kernel8_Kernel8Ideal
    ∧ algebraic_Kernel8Ideal_Reference8Ideal (hKernel8Ideal := hKernel8Ideal) (hReference8Ideal := hReference8Ideal)
-- ==== Kernel.lean ====
abbrev S8x2048x512 : Shape := ⟨3, ![8, 2048, 512]⟩
abbrev S1x8x8x64x2048 : Shape := ⟨5, ![1, 8, 8, 64, 2048]⟩
abbrev S8x64x192 : Shape := ⟨3, ![8, 64, 192]⟩
abbrev S8 : Shape := ⟨1, ![8]⟩
abbrev S2x512 : Shape := ⟨2, ![2, 512]⟩
abbrev S8x1x1 : Shape := ⟨3, ![8, 1, 1]⟩
abbrev S8x64x64 : Shape := ⟨3, ![8, 64, 64]⟩
abbrev S_ : Shape := ⟨0, ![]⟩
abbrev S8x64x768 : Shape := ⟨3, ![8, 64, 768]⟩
abbrev S8x256x768 : Shape := ⟨3, ![8, 256, 768]⟩
abbrev S2x1x512 : Shape := ⟨3, ![2, 1, 512]⟩
abbrev S1x2048x128 : Shape := ⟨3, ![1, 2048, 128]⟩
abbrev S1x1x2x64x2048 : Shape := ⟨5, ![1, 1, 2, 64, 2048]⟩
abbrev S2x256x768 : Shape := ⟨3, ![2, 256, 768]⟩
abbrev S1x1x128 : Shape := ⟨3, ![1, 1, 128]⟩
abbrev S2x10x128x256 : Shape := ⟨4, ![2, 10, 128, 256]⟩
abbrev S8x2x256x768 : Shape := ⟨4, ![8, 2, 256, 768]⟩
abbrev S10x128x256 : Shape := ⟨3, ![10, 128, 256]⟩
abbrev S1x10x128x256 : Shape := ⟨4, ![1, 10, 128, 256]⟩
abbrev S1x1x1x64x256 : Shape := ⟨5, ![1, 1, 1, 64, 256]⟩
abbrev S64x256 : Shape := ⟨2, ![64, 256]⟩
abbrev S1x1x64x256 : Shape := ⟨4, ![1, 1, 64, 256]⟩
abbrev S256x768 : Shape := ⟨2, ![256, 768]⟩
abbrev S256x128 : Shape := ⟨2, ![256, 128]⟩
abbrev S1x256x128 : Shape := ⟨3, ![1, 256, 128]⟩
abbrev S1x1x128x256 : Shape := ⟨4, ![1, 1, 128, 256]⟩
abbrev S128x256 : Shape := ⟨2, ![128, 256]⟩
abbrev S128x768 : Shape := ⟨2, ![128, 768]⟩
abbrev S1x1x256x768 : Shape := ⟨4, ![1, 1, 256, 768]⟩
abbrev S1x256x768 : Shape := ⟨3, ![1, 256, 768]⟩
abbrev S256 : Shape := ⟨1, ![256]⟩
abbrev S256x1 : Shape := ⟨2, ![256, 1]⟩
abbrev S1x128 : Shape := ⟨2, ![1, 128]⟩

abbrev nBuf : Space → Nat
  | .hbm => 29
  | .vmem => 15
  | .smem => 0
  | _ => 0

abbrev bufTy : (tb : Table) → Fin (tcTables nBuf tb) → BufTy
  | .hbm, ⟨0, _⟩ => ⟨S8x2048x512, .bf16⟩
  | .hbm, ⟨1, _⟩ => ⟨S1x8x8x64x2048, .f32⟩
  | .hbm, ⟨2, _⟩ => ⟨S1x8x8x64x2048, .f32⟩
  | .hbm, ⟨3, _⟩ => ⟨S8x64x192, .f32⟩
  | .hbm, ⟨4, _⟩ => ⟨S8, .f32⟩
  | .hbm, ⟨5, _⟩ => ⟨S2x512, .f32⟩
  | .hbm, ⟨6, _⟩ => ⟨S8x1x1, .f32⟩
  | .hbm, ⟨7, _⟩ => ⟨S8x64x64, .f32⟩
  | .hbm, ⟨8, _⟩ => ⟨S_, .f32⟩
  | .hbm, ⟨9, _⟩ => ⟨S8x64x64, .f32⟩
  | .hbm, ⟨10, _⟩ => ⟨S8x64x64, .f32⟩
  | .hbm, ⟨11, _⟩ => ⟨S8x64x64, .f32⟩
  | .hbm, ⟨12, _⟩ => ⟨S8x64x64, .f32⟩
  | .hbm, ⟨13, _⟩ => ⟨S8x64x768, .f32⟩
  | .hbm, ⟨14, _⟩ => ⟨S8x64x64, .f32⟩
  | .hbm, ⟨15, _⟩ => ⟨S8x64x64, .f32⟩
  | .hbm, ⟨16, _⟩ => ⟨S8x64x64, .f32⟩
  | .hbm, ⟨17, _⟩ => ⟨S8x64x768, .f32⟩
  | .hbm, ⟨18, _⟩ => ⟨S8x64x64, .f32⟩
  | .hbm, ⟨19, _⟩ => ⟨S8x64x64, .f32⟩
  | .hbm, ⟨20, _⟩ => ⟨S8x64x64, .f32⟩
  | .hbm, ⟨21, _⟩ => ⟨S8x64x768, .f32⟩
  | .hbm, ⟨22, _⟩ => ⟨S8x64x64, .f32⟩
  | .hbm, ⟨23, _⟩ => ⟨S8x64x64, .f32⟩
  | .hbm, ⟨24, _⟩ => ⟨S8x64x64, .f32⟩
  | .hbm, ⟨25, _⟩ => ⟨S8x64x768, .f32⟩
  | .hbm, ⟨26, _⟩ => ⟨S8x256x768, .f32⟩
  | .hbm, ⟨27, _⟩ => ⟨S2x1x512, .f32⟩
  | .hbm, ⟨28, _⟩ => ⟨S8x2048x512, .bf16⟩
  | .local _ .vmem, ⟨0, _⟩ => ⟨S1x2048x128, .bf16⟩
  | .local _ .vmem, ⟨1, _⟩ => ⟨S1x2048x128, .bf16⟩
  | .local _ .vmem, ⟨2, _⟩ => ⟨S1x1x2x64x2048, .f32⟩
  | .local _ .vmem, ⟨3, _⟩ => ⟨S1x1x2x64x2048, .f32⟩
  | .local _ .vmem, ⟨4, _⟩ => ⟨S1x1x2x64x2048, .f32⟩
  | .local _ .vmem, ⟨5, _⟩ => ⟨S1x1x2x64x2048, .f32⟩
  | .local _ .vmem, ⟨6, _⟩ => ⟨S2x256x768, .f32⟩
  | .local _ .vmem, ⟨7, _⟩ => ⟨S2x256x768, .f32⟩
  | .local _ .vmem, ⟨8, _⟩ => ⟨S1x1x128, .f32⟩
  | .local _ .vmem, ⟨9, _⟩ => ⟨S1x1x128, .f32⟩
  | .local _ .vmem, ⟨10, _⟩ => ⟨S1x2048x128, .bf16⟩
  | .local _ .vmem, ⟨11, _⟩ => ⟨S1x2048x128, .bf16⟩
  | .local _ .vmem, ⟨12, _⟩ => ⟨S2x10x128x256, .bf16⟩
  | .local _ .vmem, ⟨13, _⟩ => ⟨S2x10x128x256, .bf16⟩
  | .local _ .vmem, ⟨14, _⟩ => ⟨S8x2x256x768, .f32⟩
  | _, _ => ⟨S8x2048x512, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_cst : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_scratch0 : Ref sig .tc := ⟨.vmem, 12, rfl⟩
abbrev cc0_scratch1 : Ref sig .tc := ⟨.vmem, 13, rfl⟩
abbrev cc0_scratch2 : Ref sig .tc := ⟨.vmem, 14, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨3, ![8, 4, 1], ![false, false, false]⟩

def k0_off1 (i : grid0.Coords) (c0_i32_1 : BitVec 32) (c0_i32_4 : BitVec 32) : Fin 4 → Nat :=
  let c0_5 : Index := 0#32
  let arg2 : BitVec 32 := BitVec.ofNat 32 (i 2).val
  let c8_i32 : BitVec 32 := 8#32
  let v7 : BitVec 32 := Scalar.muli arg2 c8_i32
  let v8 : BitVec 32 := Scalar.addi v7 c0_i32_1
  let v11 : BitVec 32 := Scalar.addi v8 c0_i32_4
  let v12 : Index := Scalar.indexCast v11
  let c0_6 : Index := 0#32
  let c0_7 : Index := 0#32
  ![0, v12.toNat, 0, 0]
def k0_off2 (i : grid0.Coords) (c0_i32_1 : BitVec 32) (c0_i32_21 : BitVec 32) : Fin 4 → Nat :=
  let c1 : Index := 1#32
  let arg2 : BitVec 32 := BitVec.ofNat 32 (i 2).val
  let c8_i32 : BitVec 32 := 8#32
  let v7 : BitVec 32 := Scalar.muli arg2 c8_i32
  let v8 : BitVec 32 := Scalar.addi v7 c0_i32_1
  let v30 : BitVec 32 := Scalar.addi v8 c0_i32_21
  let v31 : Index := Scalar.indexCast v30
  let c0_22 : Index := 0#32
  let c0_23 : Index := 0#32
  ![1, v31.toNat, 0, 0]
def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat, arg1.toNat]

def cc0_transform_1 (i : grid0.Coords) : Fin 5 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  let c0_i32_2 : BitVec 32 := 0#32
  ![c0_i32.toNat, arg0.toNat, arg1.toNat, c0_i32_0.toNat, c0_i32_1.toNat]

def cc0_transform_2 (i : grid0.Coords) : Fin 5 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  let c0_i32_2 : BitVec 32 := 0#32
  ![c0_i32.toNat, arg0.toNat, arg1.toNat, c0_i32_0.toNat, c0_i32_1.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg1.toNat, c0_i32.toNat, c0_i32_0.toNat]

def cc0_transform_4 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat, arg1.toNat]

def cc0_transform_5 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat, arg1.toNat]

abbrev stage0_0 : Fin 2 → Memref sig .tc .vmem S1x2048x128 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, true]

abbrev stage0_1 : Fin 2 → Memref sig .tc .vmem S1x1x2x64x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, false]

abbrev stage0_2 : Fin 2 → Memref sig .tc .vmem S1x1x2x64x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S2x256x768 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true, false]

abbrev stage0_4 : Fin 2 → Memref sig .tc .vmem S1x1x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true, false]

abbrev stage0_5 : Fin 2 → Memref sig .tc .vmem S1x2048x128 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, true]
-- ==== KernelIdeal.lean ====
variable {F : FTy → Type} [FloatOps F] [Named F]
def κ : String → Option EReal := fun
  | "mask" => some ⊥
  | _ => none
-- ==== ReferenceIdeal.lean ====
abbrev S8x2048x512 : Shape := ⟨3, ![8, 2048, 512]⟩
abbrev S1x8x8x64x2048 : Shape := ⟨5, ![1, 8, 8, 64, 2048]⟩
abbrev S8x64x192 : Shape := ⟨3, ![8, 64, 192]⟩
abbrev S8 : Shape := ⟨1, ![8]⟩
abbrev S2x512 : Shape := ⟨2, ![2, 512]⟩
abbrev S8x32x64x8x64 : Shape := ⟨5, ![8, 32, 64, 8, 64]⟩
abbrev S8x8x64x2048 : Shape := ⟨4, ![8, 8, 64, 2048]⟩
abbrev S8x2048x8x64 : Shape := ⟨4, ![8, 2048, 8, 64]⟩
abbrev S_ : Shape := ⟨0, ![]⟩
abbrev S8x40x64x8x64 : Shape := ⟨5, ![8, 40, 64, 8, 64]⟩
abbrev S8x32x576x8x64 : Shape := ⟨5, ![8, 32, 576, 8, 64]⟩
abbrev S32 : Shape := ⟨1, ![32]⟩
abbrev S32x1 : Shape := ⟨2, ![32, 1]⟩
abbrev S576 : Shape := ⟨1, ![576]⟩
abbrev S1x576 : Shape := ⟨2, ![1, 576]⟩
abbrev S32x576 : Shape := ⟨2, ![32, 576]⟩
abbrev S32x1x1x576 : Shape := ⟨4, ![32, 1, 1, 576]⟩
abbrev S8x1x1 : Shape := ⟨3, ![8, 1, 1]⟩
abbrev S8x64x384 : Shape := ⟨3, ![8, 64, 384]⟩
abbrev S8x64x576 : Shape := ⟨3, ![8, 64, 576]⟩
abbrev S8x32x8x64x576 : Shape := ⟨5, ![8, 32, 8, 64, 576]⟩
abbrev S1x1x8x64x576 : Shape := ⟨5, ![1, 1, 8, 64, 576]⟩
abbrev S8x32x8x64 : Shape := ⟨4, ![8, 32, 8, 64]⟩
abbrev S8x32x8x64x1 : Shape := ⟨5, ![8, 32, 8, 64, 1]⟩
abbrev S8x32x8x64x64 : Shape := ⟨5, ![8, 32, 8, 64, 64]⟩
abbrev S8x2048x8 : Shape := ⟨3, ![8, 2048, 8]⟩
abbrev S8x2048x8x1 : Shape := ⟨4, ![8, 2048, 8, 1]⟩
abbrev S1x512 : Shape := ⟨2, ![1, 512]⟩
abbrev S512 : Shape := ⟨1, ![512]⟩
abbrev S8x64 : Shape := ⟨2, ![8, 64]⟩
abbrev S1x1x8x64 : Shape := ⟨4, ![1, 1, 8, 64]⟩

abbrev nBuf : Space → Nat
  | .hbm => 107
  | .vmem => 0
  | .smem => 0
  | _ => 0

abbrev bufTy : (tb : Table) → Fin (tcTables nBuf tb) → BufTy
  | .hbm, ⟨0, _⟩ => ⟨S8x2048x512, .bf16⟩
  | .hbm, ⟨1, _⟩ => ⟨S1x8x8x64x2048, .f32⟩
  | .hbm, ⟨2, _⟩ => ⟨S1x8x8x64x2048, .f32⟩
  | .hbm, ⟨3, _⟩ => ⟨S8x64x192, .f32⟩
  | .hbm, ⟨4, _⟩ => ⟨S8, .f32⟩
  | .hbm, ⟨5, _⟩ => ⟨S2x512, .f32⟩
  | .hbm, ⟨6, _⟩ => ⟨S8x2048x512, .f32⟩
  | .hbm, ⟨7, _⟩ => ⟨S8x32x64x8x64, .f32⟩
  | .hbm, ⟨8, _⟩ => ⟨S8x8x64x2048, .f32⟩
  | .hbm, ⟨9, _⟩ => ⟨S8x2048x8x64, .f32⟩
  | .hbm, ⟨10, _⟩ => ⟨S8x32x64x8x64, .f32⟩
  | .hbm, ⟨11, _⟩ => ⟨S_, .i32⟩
  | .hbm, ⟨12, _⟩ => ⟨S_, .f32⟩
  | .hbm, ⟨13, _⟩ => ⟨S8x40x64x8x64, .f32⟩
  | .hbm, ⟨14, _⟩ => ⟨S8x32x64x8x64, .f32⟩
  | .hbm, ⟨15, _⟩ => ⟨S8x32x64x8x64, .f32⟩
  | .hbm, ⟨16, _⟩ => ⟨S8x32x64x8x64, .f32⟩
  | .hbm, ⟨17, _⟩ => ⟨S8x32x64x8x64, .f32⟩
  | .hbm, ⟨18, _⟩ => ⟨S8x32x64x8x64, .f32⟩
  | .hbm, ⟨19, _⟩ => ⟨S8x32x64x8x64, .f32⟩
  | .hbm, ⟨20, _⟩ => ⟨S8x32x64x8x64, .f32⟩
  | .hbm, ⟨21, _⟩ => ⟨S8x32x64x8x64, .f32⟩
  | .hbm, ⟨22, _⟩ => ⟨S8x32x64x8x64, .f32⟩
  | .hbm, ⟨23, _⟩ => ⟨S8x32x576x8x64, .f32⟩
  | .hbm, ⟨24, _⟩ => ⟨S8x8x64x2048, .f32⟩
  | .hbm, ⟨25, _⟩ => ⟨S8x2048x8x64, .f32⟩
  | .hbm, ⟨26, _⟩ => ⟨S8x32x64x8x64, .f32⟩
  | .hbm, ⟨27, _⟩ => ⟨S_, .i32⟩
  | .hbm, ⟨28, _⟩ => ⟨S_, .f32⟩
  | .hbm, ⟨29, _⟩ => ⟨S8x40x64x8x64, .f32⟩
  | .hbm, ⟨30, _⟩ => ⟨S8x32x64x8x64, .f32⟩
  | .hbm, ⟨31, _⟩ => ⟨S8x32x64x8x64, .f32⟩
  | .hbm, ⟨32, _⟩ => ⟨S8x32x64x8x64, .f32⟩
  | .hbm, ⟨33, _⟩ => ⟨S8x32x64x8x64, .f32⟩
  | .hbm, ⟨34, _⟩ => ⟨S8x32x64x8x64, .f32⟩
  | .hbm, ⟨35, _⟩ => ⟨S8x32x64x8x64, .f32⟩
  | .hbm, ⟨36, _⟩ => ⟨S8x32x64x8x64, .f32⟩
  | .hbm, ⟨37, _⟩ => ⟨S8x32x64x8x64, .f32⟩
  | .hbm, ⟨38, _⟩ => ⟨S8x32x64x8x64, .f32⟩
  | .hbm, ⟨39, _⟩ => ⟨S8x32x576x8x64, .f32⟩
  | .hbm, ⟨40, _⟩ => ⟨S32, .i32⟩
  | .hbm, ⟨41, _⟩ => ⟨S32x1, .i32⟩
  | .hbm, ⟨42, _⟩ => ⟨S_, .i32⟩
  | .hbm, ⟨43, _⟩ => ⟨S32x1, .i32⟩
  | .hbm, ⟨44, _⟩ => ⟨S32x1, .i32⟩
  | .hbm, ⟨45, _⟩ => ⟨S_, .i32⟩
  | .hbm, ⟨46, _⟩ => ⟨S32x1, .i32⟩
  | .hbm, ⟨47, _⟩ => ⟨S32x1, .i32⟩
  | .hbm, ⟨48, _⟩ => ⟨S576, .i32⟩
  | .hbm, ⟨49, _⟩ => ⟨S1x576, .i32⟩
  | .hbm, ⟨50, _⟩ => ⟨S32x576, .i32⟩
  | .hbm, ⟨51, _⟩ => ⟨S32x576, .i32⟩
  | .hbm, ⟨52, _⟩ => ⟨S32x576, .i32⟩
  | .hbm, ⟨53, _⟩ => ⟨S_, .i32⟩
  | .hbm, ⟨54, _⟩ => ⟨S32x576, .i32⟩
  | .hbm, ⟨55, _⟩ => ⟨S32x576, .i1⟩
  | .hbm, ⟨56, _⟩ => ⟨S32x1x1x576, .i1⟩
  | .hbm, ⟨57, _⟩ => ⟨S8x1x1, .f32⟩
  | .hbm, ⟨58, _⟩ => ⟨S8x64x384, .f32⟩
  | .hbm, ⟨59, _⟩ => ⟨S8x64x576, .f32⟩
  | .hbm, ⟨60, _⟩ => ⟨S8x32x8x64x576, .f32⟩
  | .hbm, ⟨61, _⟩ => ⟨S1x1x8x64x576, .f32⟩
  | .hbm, ⟨62, _⟩ => ⟨S8x32x8x64x576, .f32⟩
  | .hbm, ⟨63, _⟩ => ⟨S8x32x8x64x576, .f32⟩
  | .hbm, ⟨64, _⟩ => ⟨S_, .f32⟩
  | .hbm, ⟨65, _⟩ => ⟨S_, .f32⟩
  | .hbm, ⟨66, _⟩ => ⟨S8x32x8x64x576, .i1⟩
  | .hbm, ⟨67, _⟩ => ⟨S8x32x8x64x576, .f32⟩
  | .hbm, ⟨68, _⟩ => ⟨S8x32x8x64x576, .f32⟩
  | .hbm, ⟨69, _⟩ => ⟨S_, .f32⟩
  | .hbm, ⟨70, _⟩ => ⟨S8x32x8x64, .f32⟩
  | .hbm, ⟨71, _⟩ => ⟨S_, .f32⟩
  | .hbm, ⟨72, _⟩ => ⟨S8x32x8x64, .f32⟩
  | .hbm, ⟨73, _⟩ => ⟨S8x32x8x64, .f32⟩
  | .hbm, ⟨74, _⟩ => ⟨S8x32x8x64x1, .f32⟩
  | .hbm, ⟨75, _⟩ => ⟨S8x32x8x64x576, .f32⟩
  | .hbm, ⟨76, _⟩ => ⟨S8x32x8x64x576, .f32⟩
  | .hbm, ⟨77, _⟩ => ⟨S8x32x8x64x576, .f32⟩
  | .hbm, ⟨78, _⟩ => ⟨S_, .f32⟩
  | .hbm, ⟨79, _⟩ => ⟨S8x32x8x64, .f32⟩
  | .hbm, ⟨80, _⟩ => ⟨S8x32x8x64x1, .f32⟩
  | .hbm, ⟨81, _⟩ => ⟨S8x32x8x64x576, .f32⟩
  | .hbm, ⟨82, _⟩ => ⟨S8x32x8x64x576, .f32⟩
  | .hbm, ⟨83, _⟩ => ⟨S8x32x8x64x64, .f32⟩
  | .hbm, ⟨84, _⟩ => ⟨S8x32x64x8x64, .f32⟩
  | .hbm, ⟨85, _⟩ => ⟨S8x2048x8x64, .f32⟩
  | .hbm, ⟨86, _⟩ => ⟨S8x2048x8x64, .f32⟩
  | .hbm, ⟨87, _⟩ => ⟨S_, .f32⟩
  | .hbm, ⟨88, _⟩ => ⟨S8x2048x8, .f32⟩
  | .hbm, ⟨89, _⟩ => ⟨S8x2048x8x1, .f32⟩
  | .hbm, ⟨90, _⟩ => ⟨S_, .f32⟩
  | .hbm, ⟨91, _⟩ => ⟨S8x2048x8x1, .f32⟩
  | .hbm, ⟨92, _⟩ => ⟨S8x2048x8x1, .f32⟩
  | .hbm, ⟨93, _⟩ => ⟨S_, .f32⟩
  | .hbm, ⟨94, _⟩ => ⟨S8x2048x8x1, .f32⟩
  | .hbm, ⟨95, _⟩ => ⟨S8x2048x8x1, .f32⟩
  | .hbm, ⟨96, _⟩ => ⟨S8x2048x8x1, .f32⟩
  | .hbm, ⟨97, _⟩ => ⟨S8x2048x8x64, .f32⟩
  | .hbm, ⟨98, _⟩ => ⟨S8x2048x8x64, .f32⟩
  | .hbm, ⟨99, _⟩ => ⟨S1x512, .f32⟩
  | .hbm, ⟨100, _⟩ => ⟨S512, .f32⟩
  | .hbm, ⟨101, _⟩ => ⟨S8x64, .f32⟩
  | .hbm, ⟨102, _⟩ => ⟨S1x1x8x64, .f32⟩
  | .hbm, ⟨103, _⟩ => ⟨S8x2048x8x64, .f32⟩
  | .hbm, ⟨104, _⟩ => ⟨S8x2048x8x64, .f32⟩
  | .hbm, ⟨105, _⟩ => ⟨S8x2048x512, .f32⟩
  | .hbm, ⟨106, _⟩ => ⟨S8x2048x512, .bf16⟩
  | _, _ => ⟨S8x2048x512, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_c : Ref sig .tc := ⟨.hbm, 11, rfl⟩
abbrev main_call0_v0 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_c_0 : Ref sig .tc := ⟨.hbm, 27, rfl⟩
abbrev main_call1_v0 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_v31 : Ref sig .tc := ⟨.hbm, 41, rfl⟩
abbrev main_c_1 : Ref sig .tc := ⟨.hbm, 42, rfl⟩
abbrev main_v32 : Ref sig .tc := ⟨.hbm, 43, rfl⟩
abbrev main_v33 : Ref sig .tc := ⟨.hbm, 44, rfl⟩
abbrev main_c_2 : Ref sig .tc := ⟨.hbm, 45, rfl⟩
abbrev main_v34 : Ref sig .tc := ⟨.hbm, 46, rfl⟩
abbrev main_v35 : Ref sig .tc := ⟨.hbm, 47, rfl⟩
abbrev main_v36 : Ref sig .tc := ⟨.hbm, 48, rfl⟩
abbrev main_v37 : Ref sig .tc := ⟨.hbm, 49, rfl⟩
abbrev main_v38 : Ref sig .tc := ⟨.hbm, 50, rfl⟩
abbrev main_v39 : Ref sig .tc := ⟨.hbm, 51, rfl⟩
abbrev main_v40 : Ref sig .tc := ⟨.hbm, 52, rfl⟩
abbrev main_c_3 : Ref sig .tc := ⟨.hbm, 53, rfl⟩
abbrev main_v41 : Ref sig .tc := ⟨.hbm, 54, rfl⟩
abbrev main_v42 : Ref sig .tc := ⟨.hbm, 55, rfl⟩
abbrev main_v43 : Ref sig .tc := ⟨.hbm, 56, rfl⟩
abbrev main_v44 : Ref sig .tc := ⟨.hbm, 57, rfl⟩
abbrev main_v45 : Ref sig .tc := ⟨.hbm, 58, rfl⟩
abbrev main_v46 : Ref sig .tc := ⟨.hbm, 59, rfl⟩
abbrev main_v47 : Ref sig .tc := ⟨.hbm, 60, rfl⟩
abbrev main_v48 : Ref sig .tc := ⟨.hbm, 61, rfl⟩
abbrev main_v49 : Ref sig .tc := ⟨.hbm, 62, rfl⟩
abbrev main_v50 : Ref sig .tc := ⟨.hbm, 63, rfl⟩
abbrev main_cst : Ref sig .tc := ⟨.hbm, 64, rfl⟩
abbrev main_call2_v0 : Ref sig .tc := ⟨.hbm, 65, rfl⟩
abbrev main_call2_v1 : Ref sig .tc := ⟨.hbm, 66, rfl⟩
abbrev main_call2_v2 : Ref sig .tc := ⟨.hbm, 67, rfl⟩
abbrev main_v51 : Ref sig .tc := ⟨.hbm, 68, rfl⟩
abbrev main_cst_4 : Ref sig .tc := ⟨.hbm, 69, rfl⟩
abbrev main_v52 : Ref sig .tc := ⟨.hbm, 70, rfl⟩
abbrev main_cst_5 : Ref sig .tc := ⟨.hbm, 71, rfl⟩
abbrev main_v53 : Ref sig .tc := ⟨.hbm, 72, rfl⟩
abbrev main_v54 : Ref sig .tc := ⟨.hbm, 73, rfl⟩
abbrev main_v55 : Ref sig .tc := ⟨.hbm, 74, rfl⟩
abbrev main_v56 : Ref sig .tc := ⟨.hbm, 75, rfl⟩
abbrev main_v57 : Ref sig .tc := ⟨.hbm, 76, rfl⟩
abbrev main_v58 : Ref sig .tc := ⟨.hbm, 77, rfl⟩
abbrev main_cst_6 : Ref sig .tc := ⟨.hbm, 78, rfl⟩
abbrev main_v59 : Ref sig .tc := ⟨.hbm, 79, rfl⟩
abbrev main_v60 : Ref sig .tc := ⟨.hbm, 80, rfl⟩
abbrev main_v61 : Ref sig .tc := ⟨.hbm, 81, rfl⟩
abbrev main_v62 : Ref sig .tc := ⟨.hbm, 82, rfl⟩
abbrev main_v63 : Ref sig .tc := ⟨.hbm, 83, rfl⟩
abbrev main_v64 : Ref sig .tc := ⟨.hbm, 84, rfl⟩
abbrev main_v65 : Ref sig .tc := ⟨.hbm, 85, rfl⟩
abbrev main_v66 : Ref sig .tc := ⟨.hbm, 86, rfl⟩
abbrev main_cst_7 : Ref sig .tc := ⟨.hbm, 87, rfl⟩
abbrev main_v67 : Ref sig .tc := ⟨.hbm, 88, rfl⟩
abbrev main_v68 : Ref sig .tc := ⟨.hbm, 89, rfl⟩
abbrev main_cst_8 : Ref sig .tc := ⟨.hbm, 90, rfl⟩
abbrev main_v69 : Ref sig .tc := ⟨.hbm, 91, rfl⟩
abbrev main_v70 : Ref sig .tc := ⟨.hbm, 92, rfl⟩
abbrev main_cst_9 : Ref sig .tc := ⟨.hbm, 93, rfl⟩
abbrev main_v71 : Ref sig .tc := ⟨.hbm, 94, rfl⟩
abbrev main_v72 : Ref sig .tc := ⟨.hbm, 95, rfl⟩
abbrev main_v73 : Ref sig .tc := ⟨.hbm, 96, rfl⟩
abbrev main_v74 : Ref sig .tc := ⟨.hbm, 97, rfl⟩
abbrev main_v75 : Ref sig .tc := ⟨.hbm, 98, rfl⟩
abbrev main_v76 : Ref sig .tc := ⟨.hbm, 99, rfl⟩
abbrev main_v77 : Ref sig .tc := ⟨.hbm, 100, rfl⟩
abbrev main_v78 : Ref sig .tc := ⟨.hbm, 101, rfl⟩
abbrev main_v79 : Ref sig .tc := ⟨.hbm, 102, rfl⟩
abbrev main_v80 : Ref sig .tc := ⟨.hbm, 103, rfl⟩
abbrev main_v81 : Ref sig .tc := ⟨.hbm, 104, rfl⟩
abbrev main_v82 : Ref sig .tc := ⟨.hbm, 105, rfl⟩
abbrev main_v83 : Ref sig .tc := ⟨.hbm, 106, rfl⟩

abbrev nD : Nat := 1
abbrev τ : Topo := Topo.v7x

variable {F : FTy → Type} [FloatOps F]
-- ==== Kernel2.lean ====
abbrev S16384x1024 : Shape := ⟨2, ![16384, 1024]⟩
abbrev S16384x512 : Shape := ⟨2, ![16384, 512]⟩
abbrev S2x8x2048x256 : Shape := ⟨4, ![2, 8, 2048, 256]⟩
abbrev S2x1024x1024 : Shape := ⟨3, ![2, 1024, 1024]⟩
abbrev S2x1024 : Shape := ⟨2, ![2, 1024]⟩
abbrev S2x1024x2816 : Shape := ⟨3, ![2, 1024, 2816]⟩
abbrev S2x2816x1024 : Shape := ⟨3, ![2, 2816, 1024]⟩
abbrev S2x256x1024 : Shape := ⟨3, ![2, 256, 1024]⟩
abbrev S1024 : Shape := ⟨1, ![1024]⟩
abbrev S2x1x1024 : Shape := ⟨3, ![2, 1, 1024]⟩
abbrev S2x16384x256 : Shape := ⟨3, ![2, 16384, 256]⟩
abbrev S1x1024 : Shape := ⟨2, ![1, 1024]⟩
abbrev S512x1024 : Shape := ⟨2, ![512, 1024]⟩
abbrev S512x512 : Shape := ⟨2, ![512, 512]⟩
abbrev S1x512x256 : Shape := ⟨3, ![1, 512, 256]⟩
abbrev S1x1024x1024 : Shape := ⟨3, ![1, 1024, 1024]⟩
abbrev S1x1x1024 : Shape := ⟨3, ![1, 1, 1024]⟩
abbrev S1x1024x2816 : Shape := ⟨3, ![1, 1024, 2816]⟩
abbrev S1x2816x1024 : Shape := ⟨3, ![1, 2816, 1024]⟩
abbrev S1x256x1024 : Shape := ⟨3, ![1, 256, 1024]⟩
abbrev S128x1024 : Shape := ⟨2, ![128, 1024]⟩
abbrev S128x512 : Shape := ⟨2, ![128, 512]⟩
abbrev S1x512x1024 : Shape := ⟨3, ![1, 512, 1024]⟩
abbrev S128 : Shape := ⟨1, ![128]⟩
abbrev S128x1 : Shape := ⟨2, ![128, 1]⟩
abbrev S1024x2816 : Shape := ⟨2, ![1024, 2816]⟩
abbrev S128x2816 : Shape := ⟨2, ![128, 2816]⟩
abbrev S2816x1024 : Shape := ⟨2, ![2816, 1024]⟩
abbrev S1024x1024 : Shape := ⟨2, ![1024, 1024]⟩
abbrev S1x128x256 : Shape := ⟨3, ![1, 128, 256]⟩
abbrev S128x256 : Shape := ⟨2, ![128, 256]⟩
abbrev S256x1024 : Shape := ⟨2, ![256, 1024]⟩
abbrev S512 : Shape := ⟨1, ![512]⟩
abbrev S512x1 : Shape := ⟨2, ![512, 1]⟩

abbrev nBuf : Space → Nat
  | .hbm => 24
  | .vmem => 19
  | .smem => 0
  | _ => 0

abbrev bufTy : (tb : Table) → Fin (tcTables nBuf tb) → BufTy
  | .hbm, ⟨0, _⟩ => ⟨S16384x1024, .f32⟩
  | .hbm, ⟨1, _⟩ => ⟨S16384x512, .bf16⟩
  | .hbm, ⟨2, _⟩ => ⟨S16384x512, .bf16⟩
  | .hbm, ⟨3, _⟩ => ⟨S2x8x2048x256, .f32⟩
  | .hbm, ⟨4, _⟩ => ⟨S2x1024x1024, .f32⟩
  | .hbm, ⟨5, _⟩ => ⟨S2x1024, .f32⟩
  | .hbm, ⟨6, _⟩ => ⟨S2x1024x2816, .f32⟩
  | .hbm, ⟨7, _⟩ => ⟨S2x1024x2816, .f32⟩
  | .hbm, ⟨8, _⟩ => ⟨S2x2816x1024, .f32⟩
  | .hbm, ⟨9, _⟩ => ⟨S2x1024, .f32⟩
  | .hbm, ⟨10, _⟩ => ⟨S2x1024x1024, .f32⟩
  | .hbm, ⟨11, _⟩ => ⟨S2x256x1024, .f32⟩
  | .hbm, ⟨12, _⟩ => ⟨S1024, .f32⟩
  | .hbm, ⟨13, _⟩ => ⟨S2x1x1024, .f32⟩
  | .hbm, ⟨14, _⟩ => ⟨S2x1x1024, .f32⟩
  | .hbm, ⟨15, _⟩ => ⟨S2x1024x1024, .bf16⟩
  | .hbm, ⟨16, _⟩ => ⟨S2x1024x2816, .bf16⟩
  | .hbm, ⟨17, _⟩ => ⟨S2x1024x2816, .bf16⟩
  | .hbm, ⟨18, _⟩ => ⟨S2x2816x1024, .bf16⟩
  | .hbm, ⟨19, _⟩ => ⟨S2x1024x1024, .bf16⟩
  | .hbm, ⟨20, _⟩ => ⟨S2x256x1024, .bf16⟩
  | .hbm, ⟨21, _⟩ => ⟨S2x16384x256, .f32⟩
  | .hbm, ⟨22, _⟩ => ⟨S1x1024, .f32⟩
  | .hbm, ⟨23, _⟩ => ⟨S16384x1024, .f32⟩
  | .local _ .vmem, ⟨0, _⟩ => ⟨S512x1024, .f32⟩
  | .local _ .vmem, ⟨1, _⟩ => ⟨S512x1024, .f32⟩
  | .local _ .vmem, ⟨2, _⟩ => ⟨S512x512, .bf16⟩
  | .local _ .vmem, ⟨3, _⟩ => ⟨S512x512, .bf16⟩
  | .local _ .vmem, ⟨4, _⟩ => ⟨S512x512, .bf16⟩
  | .local _ .vmem, ⟨5, _⟩ => ⟨S512x512, .bf16⟩
  | .local _ .vmem, ⟨6, _⟩ => ⟨S1x512x256, .f32⟩
  | .local _ .vmem, ⟨7, _⟩ => ⟨S1x512x256, .f32⟩
  | .local _ .vmem, ⟨8, _⟩ => ⟨S1x1024x1024, .bf16⟩
  | .local _ .vmem, ⟨9, _⟩ => ⟨S1x1x1024, .f32⟩
  | .local _ .vmem, ⟨10, _⟩ => ⟨S1x1024x2816, .bf16⟩
  | .local _ .vmem, ⟨11, _⟩ => ⟨S1x1024x2816, .bf16⟩
  | .local _ .vmem, ⟨12, _⟩ => ⟨S1x2816x1024, .bf16⟩
  | .local _ .vmem, ⟨13, _⟩ => ⟨S1x1x1024, .f32⟩
  | .local _ .vmem, ⟨14, _⟩ => ⟨S1x1024x1024, .bf16⟩
  | .local _ .vmem, ⟨15, _⟩ => ⟨S1x256x1024, .bf16⟩
  | .local _ .vmem, ⟨16, _⟩ => ⟨S1x1024, .f32⟩
  | .local _ .vmem, ⟨17, _⟩ => ⟨S512x1024, .f32⟩
  | .local _ .vmem, ⟨18, _⟩ => ⟨S512x1024, .f32⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | _, _ => false

abbrev semScoped : Fin 0 → Bool
  | ⟨_, h⟩ => absurd h (Nat.not_lt_zero _)

abbrev dmaSemScoped : Fin 19 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | _ => false

abbrev sig : RefSig :=
  ofTc nBuf bufTy 0 19 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_v0 : Ref sig .tc := ⟨.hbm, 13, rfl⟩
abbrev main_v1 : Ref sig .tc := ⟨.hbm, 14, rfl⟩
abbrev main_v2 : Ref sig .tc := ⟨.hbm, 15, rfl⟩
abbrev main_v3 : Ref sig .tc := ⟨.hbm, 16, rfl⟩
abbrev main_v4 : Ref sig .tc := ⟨.hbm, 17, rfl⟩
abbrev main_v5 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg8_0 : Ref sig .tc := ⟨.vmem, 12, rfl⟩
abbrev cc0_stg9_0 : Ref sig .tc := ⟨.vmem, 13, rfl⟩
abbrev cc0_stg10_0 : Ref sig .tc := ⟨.vmem, 14, rfl⟩
abbrev cc0_stg11_0 : Ref sig .tc := ⟨.vmem, 15, rfl⟩
abbrev cc0_stg12_0 : Ref sig .tc := ⟨.vmem, 16, rfl⟩
abbrev cc0_stg13_0 : Ref sig .tc := ⟨.vmem, 17, rfl⟩
abbrev cc0_stg13_1 : Ref sig .tc := ⟨.vmem, 18, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem7_0 : DmaSem sig := 11
abbrev cc0_sem8_0 : DmaSem sig := 12
abbrev cc0_sem9_0 : DmaSem sig := 13
abbrev cc0_sem10_0 : DmaSem sig := 14
abbrev cc0_sem11_0 : DmaSem sig := 15
abbrev cc0_sem12_0 : DmaSem sig := 16
abbrev cc0_sem13_0 : DmaSem sig := 17
abbrev cc0_sem13_1 : DmaSem sig := 18

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  ![c1_i32.toNat, arg0.toNat, c0_i32.toNat]

def cc0_transform_4 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  let c0_i32_1 : BitVec 32 := 0#32
  ![c1_i32.toNat, c0_i32.toNat, c0_i32_0.toNat]

def cc0_transform_5 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  let c0_i32_1 : BitVec 32 := 0#32
  ![c1_i32.toNat, c0_i32.toNat, c0_i32_0.toNat]

def cc0_transform_6 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  let c0_i32_1 : BitVec 32 := 0#32
  ![c1_i32.toNat, c0_i32.toNat, c0_i32_0.toNat]

def cc0_transform_7 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  let c0_i32_1 : BitVec 32 := 0#32
  ![c1_i32.toNat, c0_i32.toNat, c0_i32_0.toNat]

def cc0_transform_8 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  let c0_i32_1 : BitVec 32 := 0#32
  ![c1_i32.toNat, c0_i32.toNat, c0_i32_0.toNat]

def cc0_transform_9 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  let c0_i32_1 : BitVec 32 := 0#32
  ![c1_i32.toNat, c0_i32.toNat, c0_i32_0.toNat]

def cc0_transform_10 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  let c0_i32_1 : BitVec 32 := 0#32
  ![c1_i32.toNat, c0_i32.toNat, c0_i32_0.toNat]

def cc0_transform_11 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  let c0_i32_1 : BitVec 32 := 0#32
  ![c1_i32.toNat, c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x512x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1x1024x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x1024x2816 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x1024x2816 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x2816x1024 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x1x1024 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1x1024x1024 .bf16 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S1x256x1024 .bf16 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S1x1024 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 2 → Memref sig .tc .vmem S512x1024 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]
-- ==== Reference2Ideal.lean ====
abbrev S16384x1024 : Shape := ⟨2, ![16384, 1024]⟩
abbrev S16384x512 : Shape := ⟨2, ![16384, 512]⟩
abbrev S2x8x2048x256 : Shape := ⟨4, ![2, 8, 2048, 256]⟩
abbrev S2x1024x1024 : Shape := ⟨3, ![2, 1024, 1024]⟩
abbrev S2x1024 : Shape := ⟨2, ![2, 1024]⟩
abbrev S2x1024x2816 : Shape := ⟨3, ![2, 1024, 2816]⟩
abbrev S2x2816x1024 : Shape := ⟨3, ![2, 2816, 1024]⟩
abbrev S2x256x1024 : Shape := ⟨3, ![2, 256, 1024]⟩
abbrev S1024 : Shape := ⟨1, ![1024]⟩
abbrev S1x1024x1024 : Shape := ⟨3, ![1, 1024, 1024]⟩
abbrev S1024x1024 : Shape := ⟨2, ![1024, 1024]⟩
abbrev S1x1024 : Shape := ⟨2, ![1, 1024]⟩
abbrev S_ : Shape := ⟨0, ![]⟩
abbrev S16384 : Shape := ⟨1, ![16384]⟩
abbrev S16384x1 : Shape := ⟨2, ![16384, 1]⟩
abbrev S1x1024x2816 : Shape := ⟨3, ![1, 1024, 2816]⟩
abbrev S1024x2816 : Shape := ⟨2, ![1024, 2816]⟩
abbrev S16384x2816 : Shape := ⟨2, ![16384, 2816]⟩
abbrev S1x2816x1024 : Shape := ⟨3, ![1, 2816, 1024]⟩
abbrev S2816x1024 : Shape := ⟨2, ![2816, 1024]⟩
abbrev S1x8x2048x256 : Shape := ⟨4, ![1, 8, 2048, 256]⟩
abbrev S8x2048x256 : Shape := ⟨3, ![8, 2048, 256]⟩
abbrev S16384x256 : Shape := ⟨2, ![16384, 256]⟩
abbrev S1x256x1024 : Shape := ⟨3, ![1, 256, 1024]⟩
abbrev S256x1024 : Shape := ⟨2, ![256, 1024]⟩

abbrev nBuf : Space → Nat
  | .hbm => 110
  | .vmem => 0
  | .smem => 0
  | _ => 0

abbrev bufTy : (tb : Table) → Fin (tcTables nBuf tb) → BufTy
  | .hbm, ⟨0, _⟩ => ⟨S16384x1024, .f32⟩
  | .hbm, ⟨1, _⟩ => ⟨S16384x512, .bf16⟩
  | .hbm, ⟨2, _⟩ => ⟨S16384x512, .bf16⟩
  | .hbm, ⟨3, _⟩ => ⟨S2x8x2048x256, .f32⟩
  | .hbm, ⟨4, _⟩ => ⟨S2x1024x1024, .f32⟩
  | .hbm, ⟨5, _⟩ => ⟨S2x1024, .f32⟩
  | .hbm, ⟨6, _⟩ => ⟨S2x1024x2816, .f32⟩
  | .hbm, ⟨7, _⟩ => ⟨S2x1024x2816, .f32⟩
  | .hbm, ⟨8, _⟩ => ⟨S2x2816x1024, .f32⟩
  | .hbm, ⟨9, _⟩ => ⟨S2x1024, .f32⟩
  | .hbm, ⟨10, _⟩ => ⟨S2x1024x1024, .f32⟩
  | .hbm, ⟨11, _⟩ => ⟨S2x256x1024, .f32⟩
  | .hbm, ⟨12, _⟩ => ⟨S1024, .f32⟩
  | .hbm, ⟨13, _⟩ => ⟨S16384x1024, .bf16⟩
  | .hbm, ⟨14, _⟩ => ⟨S16384x1024, .f32⟩
  | .hbm, ⟨15, _⟩ => ⟨S1x1024x1024, .f32⟩
  | .hbm, ⟨16, _⟩ => ⟨S1024x1024, .f32⟩
  | .hbm, ⟨17, _⟩ => ⟨S16384x1024, .f32⟩
  | .hbm, ⟨18, _⟩ => ⟨S16384x1024, .f32⟩
  | .hbm, ⟨19, _⟩ => ⟨S1x1024, .f32⟩
  | .hbm, ⟨20, _⟩ => ⟨S1024, .f32⟩
  | .hbm, ⟨21, _⟩ => ⟨S16384x1024, .f32⟩
  | .hbm, ⟨22, _⟩ => ⟨S_, .f32⟩
  | .hbm, ⟨23, _⟩ => ⟨S16384, .f32⟩
  | .hbm, ⟨24, _⟩ => ⟨S16384x1, .f32⟩
  | .hbm, ⟨25, _⟩ => ⟨S_, .f32⟩
  | .hbm, ⟨26, _⟩ => ⟨S16384x1, .f32⟩
  | .hbm, ⟨27, _⟩ => ⟨S16384x1, .f32⟩
  | .hbm, ⟨28, _⟩ => ⟨S_, .f32⟩
  | .hbm, ⟨29, _⟩ => ⟨S16384x1, .f32⟩
  | .hbm, ⟨30, _⟩ => ⟨S16384x1, .f32⟩
  | .hbm, ⟨31, _⟩ => ⟨S16384x1, .f32⟩
  | .hbm, ⟨32, _⟩ => ⟨S16384x1024, .f32⟩
  | .hbm, ⟨33, _⟩ => ⟨S16384x1024, .f32⟩
  | .hbm, ⟨34, _⟩ => ⟨S1x1024, .f32⟩
  | .hbm, ⟨35, _⟩ => ⟨S16384x1024, .f32⟩
  | .hbm, ⟨36, _⟩ => ⟨S16384x1024, .f32⟩
  | .hbm, ⟨37, _⟩ => ⟨S1x1024x2816, .f32⟩
  | .hbm, ⟨38, _⟩ => ⟨S1024x2816, .f32⟩
  | .hbm, ⟨39, _⟩ => ⟨S16384x2816, .f32⟩
  | .hbm, ⟨40, _⟩ => ⟨S16384x2816, .f32⟩
  | .hbm, ⟨41, _⟩ => ⟨S16384x2816, .f32⟩
  | .hbm, ⟨42, _⟩ => ⟨S_, .f32⟩
  | .hbm, ⟨43, _⟩ => ⟨S16384x2816, .f32⟩
  | .hbm, ⟨44, _⟩ => ⟨S16384x2816, .f32⟩
  | .hbm, ⟨45, _⟩ => ⟨S_, .f32⟩
  | .hbm, ⟨46, _⟩ => ⟨S16384x2816, .f32⟩
  | .hbm, ⟨47, _⟩ => ⟨S16384x2816, .f32⟩
  | .hbm, ⟨48, _⟩ => ⟨S16384x2816, .f32⟩
  | .hbm, ⟨49, _⟩ => ⟨S1x1024x2816, .f32⟩
  | .hbm, ⟨50, _⟩ => ⟨S1024x2816, .f32⟩
  | .hbm, ⟨51, _⟩ => ⟨S16384x2816, .f32⟩
  | .hbm, ⟨52, _⟩ => ⟨S16384x2816, .f32⟩
  | .hbm, ⟨53, _⟩ => ⟨S1x2816x1024, .f32⟩
  | .hbm, ⟨54, _⟩ => ⟨S2816x1024, .f32⟩
  | .hbm, ⟨55, _⟩ => ⟨S16384x1024, .f32⟩
  | .hbm, ⟨56, _⟩ => ⟨S16384x1024, .f32⟩
  | .hbm, ⟨57, _⟩ => ⟨S1x1024, .f32⟩
  | .hbm, ⟨58, _⟩ => ⟨S1024, .f32⟩
  | .hbm, ⟨59, _⟩ => ⟨S16384x1024, .f32⟩
  | .hbm, ⟨60, _⟩ => ⟨S_, .f32⟩
  | .hbm, ⟨61, _⟩ => ⟨S16384, .f32⟩
  | .hbm, ⟨62, _⟩ => ⟨S16384x1, .f32⟩
  | .hbm, ⟨63, _⟩ => ⟨S_, .f32⟩
  | .hbm, ⟨64, _⟩ => ⟨S16384x1, .f32⟩
  | .hbm, ⟨65, _⟩ => ⟨S16384x1, .f32⟩
  | .hbm, ⟨66, _⟩ => ⟨S_, .f32⟩
  | .hbm, ⟨67, _⟩ => ⟨S16384x1, .f32⟩
  | .hbm, ⟨68, _⟩ => ⟨S16384x1, .f32⟩
  | .hbm, ⟨69, _⟩ => ⟨S16384x1, .f32⟩
  | .hbm, ⟨70, _⟩ => ⟨S16384x1024, .f32⟩
  | .hbm, ⟨71, _⟩ => ⟨S16384x1024, .f32⟩
  | .hbm, ⟨72, _⟩ => ⟨S1x1024, .f32⟩
  | .hbm, ⟨73, _⟩ => ⟨S16384x1024, .f32⟩
  | .hbm, ⟨74, _⟩ => ⟨S16384x1024, .f32⟩
  | .hbm, ⟨75, _⟩ => ⟨S1x1024x1024, .f32⟩
  | .hbm, ⟨76, _⟩ => ⟨S1024x1024, .f32⟩
  | .hbm, ⟨77, _⟩ => ⟨S16384x1024, .f32⟩
  | .hbm, ⟨78, _⟩ => ⟨S16384x1024, .f32⟩
  | .hbm, ⟨79, _⟩ => ⟨S16384x1024, .f32⟩
  | .hbm, ⟨80, _⟩ => ⟨S_, .f32⟩
  | .hbm, ⟨81, _⟩ => ⟨S16384x1024, .f32⟩
  | .hbm, ⟨82, _⟩ => ⟨S16384x1024, .f32⟩
  | .hbm, ⟨83, _⟩ => ⟨S_, .f32⟩
  | .hbm, ⟨84, _⟩ => ⟨S16384x1024, .f32⟩
  | .hbm, ⟨85, _⟩ => ⟨S16384x1024, .f32⟩
  | .hbm, ⟨86, _⟩ => ⟨S1x8x2048x256, .f32⟩
  | .hbm, ⟨87, _⟩ => ⟨S8x2048x256, .f32⟩
  | .hbm, ⟨88, _⟩ => ⟨S16384x256, .f32⟩
  | .hbm, ⟨89, _⟩ => ⟨S1x256x1024, .f32⟩
  | .hbm, ⟨90, _⟩ => ⟨S256x1024, .f32⟩
  | .hbm, ⟨91, _⟩ => ⟨S16384x1024, .f32⟩
  | .hbm, ⟨92, _⟩ => ⟨S16384x1024, .f32⟩
  | .hbm, ⟨93, _⟩ => ⟨S16384x1024, .f32⟩
  | .hbm, ⟨94, _⟩ => ⟨S16384x1024, .f32⟩
  | .hbm, ⟨95, _⟩ => ⟨S_, .f32⟩
  | .hbm, ⟨96, _⟩ => ⟨S16384, .f32⟩
  | .hbm, ⟨97, _⟩ => ⟨S16384x1, .f32⟩
  | .hbm, ⟨98, _⟩ => ⟨S_, .f32⟩
  | .hbm, ⟨99, _⟩ => ⟨S16384x1, .f32⟩
  | .hbm, ⟨100, _⟩ => ⟨S16384x1, .f32⟩
  | .hbm, ⟨101, _⟩ => ⟨S_, .f32⟩
  | .hbm, ⟨102, _⟩ => ⟨S16384x1, .f32⟩
  | .hbm, ⟨103, _⟩ => ⟨S16384x1, .f32⟩
  | .hbm, ⟨104, _⟩ => ⟨S16384x1, .f32⟩
  | .hbm, ⟨105, _⟩ => ⟨S16384x1024, .f32⟩
  | .hbm, ⟨106, _⟩ => ⟨S16384x1024, .f32⟩
  | .hbm, ⟨107, _⟩ => ⟨S1x1024, .f32⟩
  | .hbm, ⟨108, _⟩ => ⟨S16384x1024, .f32⟩
  | .hbm, ⟨109, _⟩ => ⟨S16384x1024, .f32⟩
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_v0 : Ref sig .tc := ⟨.hbm, 13, rfl⟩
abbrev main_v1 : Ref sig .tc := ⟨.hbm, 14, rfl⟩
abbrev main_v2 : Ref sig .tc := ⟨.hbm, 15, rfl⟩
abbrev main_v3 : Ref sig .tc := ⟨.hbm, 16, rfl⟩
abbrev main_v4 : Ref sig .tc := ⟨.hbm, 17, rfl⟩
abbrev main_v5 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_cst : Ref sig .tc := ⟨.hbm, 22, rfl⟩
abbrev main_v9 : Ref sig .tc := ⟨.hbm, 23, rfl⟩
abbrev main_v10 : Ref sig .tc := ⟨.hbm, 24, rfl⟩
abbrev main_cst_0 : Ref sig .tc := ⟨.hbm, 25, rfl⟩
abbrev main_v11 : Ref sig .tc := ⟨.hbm, 26, rfl⟩
abbrev main_v12 : Ref sig .tc := ⟨.hbm, 27, rfl⟩
abbrev main_cst_1 : Ref sig .tc := ⟨.hbm, 28, rfl⟩
abbrev main_v13 : Ref sig .tc := ⟨.hbm, 29, rfl⟩
abbrev main_v14 : Ref sig .tc := ⟨.hbm, 30, rfl⟩
abbrev main_v15 : Ref sig .tc := ⟨.hbm, 31, rfl⟩
abbrev main_v16 : Ref sig .tc := ⟨.hbm, 32, rfl⟩
abbrev main_v17 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_v22 : Ref sig .tc := ⟨.hbm, 38, rfl⟩
abbrev main_v23 : Ref sig .tc := ⟨.hbm, 39, rfl⟩
abbrev main_call0_v0 : Ref sig .tc := ⟨.hbm, 40, rfl⟩
abbrev main_call0_v1 : Ref sig .tc := ⟨.hbm, 41, rfl⟩
abbrev main_call0_cst : Ref sig .tc := ⟨.hbm, 42, rfl⟩
abbrev main_call0_v2 : Ref sig .tc := ⟨.hbm, 43, rfl⟩
abbrev main_call0_v3 : Ref sig .tc := ⟨.hbm, 44, rfl⟩
abbrev main_call0_cst_0 : Ref sig .tc := ⟨.hbm, 45, rfl⟩
abbrev main_call0_v4 : Ref sig .tc := ⟨.hbm, 46, rfl⟩
abbrev main_call0_v5 : Ref sig .tc := ⟨.hbm, 47, rfl⟩
abbrev main_v24 : Ref sig .tc := ⟨.hbm, 48, rfl⟩
abbrev main_v25 : Ref sig .tc := ⟨.hbm, 49, rfl⟩
abbrev main_v26 : Ref sig .tc := ⟨.hbm, 50, rfl⟩
abbrev main_v27 : Ref sig .tc := ⟨.hbm, 51, rfl⟩
abbrev main_v28 : Ref sig .tc := ⟨.hbm, 52, rfl⟩
abbrev main_v29 : Ref sig .tc := ⟨.hbm, 53, rfl⟩
abbrev main_v30 : Ref sig .tc := ⟨.hbm, 54, rfl⟩
abbrev main_v31 : Ref sig .tc := ⟨.hbm, 55, rfl⟩
abbrev main_v32 : Ref sig .tc := ⟨.hbm, 56, rfl⟩
abbrev main_v33 : Ref sig .tc := ⟨.hbm, 57, rfl⟩
abbrev main_v34 : Ref sig .tc := ⟨.hbm, 58, rfl⟩
abbrev main_v35 : Ref sig .tc := ⟨.hbm, 59, rfl⟩
abbrev main_cst_2 : Ref sig .tc := ⟨.hbm, 60, rfl⟩
abbrev main_v36 : Ref sig .tc := ⟨.hbm, 61, rfl⟩
abbrev main_v37 : Ref sig .tc := ⟨.hbm, 62, rfl⟩
abbrev main_cst_3 : Ref sig .tc := ⟨.hbm, 63, rfl⟩
abbrev main_v38 : Ref sig .tc := ⟨.hbm, 64, rfl⟩
abbrev main_v39 : Ref sig .tc := ⟨.hbm, 65, rfl⟩
abbrev main_cst_4 : Ref sig .tc := ⟨.hbm, 66, rfl⟩
abbrev main_v40 : Ref sig .tc := ⟨.hbm, 67, rfl⟩
abbrev main_v41 : Ref sig .tc := ⟨.hbm, 68, rfl⟩
abbrev main_v42 : Ref sig .tc := ⟨.hbm, 69, rfl⟩
abbrev main_v43 : Ref sig .tc := ⟨.hbm, 70, rfl⟩
abbrev main_v44 : Ref sig .tc := ⟨.hbm, 71, rfl⟩
abbrev main_v45 : Ref sig .tc := ⟨.hbm, 72, rfl⟩
abbrev main_v46 : Ref sig .tc := ⟨.hbm, 73, rfl⟩
abbrev main_v47 : Ref sig .tc := ⟨.hbm, 74, rfl⟩
abbrev main_v48 : Ref sig .tc := ⟨.hbm, 75, rfl⟩
abbrev main_v49 : Ref sig .tc := ⟨.hbm, 76, rfl⟩
abbrev main_v50 : Ref sig .tc := ⟨.hbm, 77, rfl⟩
abbrev main_v51 : Ref sig .tc := ⟨.hbm, 78, rfl⟩
abbrev main_v52 : Ref sig .tc := ⟨.hbm, 79, rfl⟩
abbrev main_cst_5 : Ref sig .tc := ⟨.hbm, 80, rfl⟩
abbrev main_v53 : Ref sig .tc := ⟨.hbm, 81, rfl⟩
abbrev main_v54 : Ref sig .tc := ⟨.hbm, 82, rfl⟩
abbrev main_cst_6 : Ref sig .tc := ⟨.hbm, 83, rfl⟩
abbrev main_v55 : Ref sig .tc := ⟨.hbm, 84, rfl⟩
abbrev main_v56 : Ref sig .tc := ⟨.hbm, 85, rfl⟩
abbrev main_v57 : Ref sig .tc := ⟨.hbm, 86, rfl⟩
abbrev main_v58 : Ref sig .tc := ⟨.hbm, 87, rfl⟩
abbrev main_v59 : Ref sig .tc := ⟨.hbm, 88, rfl⟩
abbrev main_v60 : Ref sig .tc := ⟨.hbm, 89, rfl⟩
abbrev main_v61 : Ref sig .tc := ⟨.hbm, 90, rfl⟩
abbrev main_v62 : Ref sig .tc := ⟨.hbm, 91, rfl⟩
abbrev main_v63 : Ref sig .tc := ⟨.hbm, 92, rfl⟩
abbrev main_v64 : Ref sig .tc := ⟨.hbm, 93, rfl⟩
abbrev main_v65 : Ref sig .tc := ⟨.hbm, 94, rfl⟩
abbrev main_cst_7 : Ref sig .tc := ⟨.hbm, 95, rfl⟩
abbrev main_v66 : Ref sig .tc := ⟨.hbm, 96, rfl⟩
abbrev main_v67 : Ref sig .tc := ⟨.hbm, 97, rfl⟩
abbrev main_cst_8 : Ref sig .tc := ⟨.hbm, 98, rfl⟩
abbrev main_v68 : Ref sig .tc := ⟨.hbm, 99, rfl⟩
abbrev main_v69 : Ref sig .tc := ⟨.hbm, 100, rfl⟩
abbrev main_cst_9 : Ref sig .tc := ⟨.hbm, 101, rfl⟩
abbrev main_v70 : Ref sig .tc := ⟨.hbm, 102, rfl⟩
abbrev main_v71 : Ref sig .tc := ⟨.hbm, 103, rfl⟩
abbrev main_v72 : Ref sig .tc := ⟨.hbm, 104, rfl⟩
abbrev main_v73 : Ref sig .tc := ⟨.hbm, 105, rfl⟩
abbrev main_v74 : Ref sig .tc := ⟨.hbm, 106, rfl⟩
abbrev main_v75 : Ref sig .tc := ⟨.hbm, 107, rfl⟩
abbrev main_v76 : Ref sig .tc := ⟨.hbm, 108, rfl⟩
abbrev main_v77 : Ref sig .tc := ⟨.hbm, 109, rfl⟩

abbrev nD : Nat := 1
abbrev τ : Topo := Topo.v7x

variable {F : FTy → Type} [FloatOps F]
-- ==== Kernel3.lean ====
abbrev S16384x1024 : Shape := ⟨2, ![16384, 1024]⟩
abbrev S16384x512 : Shape := ⟨2, ![16384, 512]⟩
abbrev S2x8x2048x256 : Shape := ⟨4, ![2, 8, 2048, 256]⟩
abbrev S2x1024x1024 : Shape := ⟨3, ![2, 1024, 1024]⟩
abbrev S2x1024 : Shape := ⟨2, ![2, 1024]⟩
abbrev S2x1024x2816 : Shape := ⟨3, ![2, 1024, 2816]⟩
abbrev S2x2816x1024 : Shape := ⟨3, ![2, 2816, 1024]⟩
abbrev S2x256x1024 : Shape := ⟨3, ![2, 256, 1024]⟩
abbrev S2x1024x3072 : Shape := ⟨3, ![2, 1024, 3072]⟩
abbrev S1x8x8x64x2048 : Shape := ⟨5, ![1, 8, 8, 64, 2048]⟩
abbrev S2x1x1024 : Shape := ⟨3, ![2, 1, 1024]⟩
abbrev S2x3072x1024 : Shape := ⟨3, ![2, 3072, 1024]⟩
abbrev S2x16384x256 : Shape := ⟨3, ![2, 16384, 256]⟩
abbrev S2x8x8x64x2048 : Shape := ⟨5, ![2, 8, 8, 64, 2048]⟩
abbrev S2x8x8x64x512 : Shape := ⟨5, ![2, 8, 8, 64, 512]⟩
abbrev S256x1024 : Shape := ⟨2, ![256, 1024]⟩
abbrev S256x512 : Shape := ⟨2, ![256, 512]⟩
abbrev S1x256x256 : Shape := ⟨3, ![1, 256, 256]⟩
abbrev S1x1024x1024 : Shape := ⟨3, ![1, 1024, 1024]⟩
abbrev S1x1x1024 : Shape := ⟨3, ![1, 1, 1024]⟩
abbrev S1x1024x2816 : Shape := ⟨3, ![1, 1024, 2816]⟩
abbrev S1x2816x1024 : Shape := ⟨3, ![1, 2816, 1024]⟩
abbrev S1x256x1024 : Shape := ⟨3, ![1, 256, 1024]⟩
abbrev S1x3072x1024 : Shape := ⟨3, ![1, 3072, 1024]⟩
abbrev S1x1x8x64x256 : Shape := ⟨5, ![1, 1, 8, 64, 256]⟩
abbrev S2x1x8x64x256 : Shape := ⟨5, ![2, 1, 8, 64, 256]⟩
abbrev S128x1024 : Shape := ⟨2, ![128, 1024]⟩
abbrev S128x512 : Shape := ⟨2, ![128, 512]⟩
abbrev S1x512x1024 : Shape := ⟨3, ![1, 512, 1024]⟩
abbrev S512x1024 : Shape := ⟨2, ![512, 1024]⟩
abbrev S128 : Shape := ⟨1, ![128]⟩
abbrev S128x1 : Shape := ⟨2, ![128, 1]⟩
abbrev S1x1024 : Shape := ⟨2, ![1, 1024]⟩
abbrev S1024x2816 : Shape := ⟨2, ![1024, 2816]⟩
abbrev S128x2816 : Shape := ⟨2, ![128, 2816]⟩
abbrev S2816x1024 : Shape := ⟨2, ![2816, 1024]⟩
abbrev S1024x1024 : Shape := ⟨2, ![1024, 1024]⟩
abbrev S1x128x256 : Shape := ⟨3, ![1, 128, 256]⟩
abbrev S128x256 : Shape := ⟨2, ![128, 256]⟩
abbrev S256 : Shape := ⟨1, ![256]⟩
abbrev S256x1 : Shape := ⟨2, ![256, 1]⟩
abbrev S512x256 : Shape := ⟨2, ![512, 256]⟩
abbrev S8x64x256 : Shape := ⟨3, ![8, 64, 256]⟩

abbrev nBuf : Space → Nat
  | .hbm => 39
  | .vmem => 44
  | .smem => 0
  | _ => 0

abbrev bufTy : (tb : Table) → Fin (tcTables nBuf tb) → BufTy
  | .hbm, ⟨0, _⟩ => ⟨S16384x1024, .f32⟩
  | .hbm, ⟨1, _⟩ => ⟨S16384x512, .bf16⟩
  | .hbm, ⟨2, _⟩ => ⟨S16384x512, .bf16⟩
  | .hbm, ⟨3, _⟩ => ⟨S2x8x2048x256, .f32⟩
  | .hbm, ⟨4, _⟩ => ⟨S2x1024x1024, .f32⟩
  | .hbm, ⟨5, _⟩ => ⟨S2x1024, .f32⟩
  | .hbm, ⟨6, _⟩ => ⟨S2x1024x2816, .f32⟩
  | .hbm, ⟨7, _⟩ => ⟨S2x1024x2816, .f32⟩
  | .hbm, ⟨8, _⟩ => ⟨S2x2816x1024, .f32⟩
  | .hbm, ⟨9, _⟩ => ⟨S2x1024, .f32⟩
  | .hbm, ⟨10, _⟩ => ⟨S2x1024x1024, .f32⟩
  | .hbm, ⟨11, _⟩ => ⟨S2x256x1024, .f32⟩
  | .hbm, ⟨12, _⟩ => ⟨S2x1024, .f32⟩
  | .hbm, ⟨13, _⟩ => ⟨S2x1024x3072, .f32⟩
  | .hbm, ⟨14, _⟩ => ⟨S1x8x8x64x2048, .f32⟩
  | .hbm, ⟨15, _⟩ => ⟨S1x8x8x64x2048, .f32⟩
  | .hbm, ⟨16, _⟩ => ⟨S1x8x8x64x2048, .f32⟩
  | .hbm, ⟨17, _⟩ => ⟨S1x8x8x64x2048, .f32⟩
  | .hbm, ⟨18, _⟩ => ⟨S2x1x1024, .f32⟩
  | .hbm, ⟨19, _⟩ => ⟨S2x1x1024, .f32⟩
  | .hbm, ⟨20, _⟩ => ⟨S2x1x1024, .f32⟩
  | .hbm, ⟨21, _⟩ => ⟨S2x3072x1024, .f32⟩
  | .hbm, ⟨22, _⟩ => ⟨S2x3072x1024, .bf16⟩
  | .hbm, ⟨23, _⟩ => ⟨S2x1024x1024, .bf16⟩
  | .hbm, ⟨24, _⟩ => ⟨S2x1024x2816, .bf16⟩
  | .hbm, ⟨25, _⟩ => ⟨S2x1024x2816, .bf16⟩
  | .hbm, ⟨26, _⟩ => ⟨S2x2816x1024, .bf16⟩
  | .hbm, ⟨27, _⟩ => ⟨S2x1024x1024, .bf16⟩
  | .hbm, ⟨28, _⟩ => ⟨S2x256x1024, .bf16⟩
  | .hbm, ⟨29, _⟩ => ⟨S2x16384x256, .f32⟩
  | .hbm, ⟨30, _⟩ => ⟨S16384x1024, .f32⟩
  | .hbm, ⟨31, _⟩ => ⟨S16384x512, .bf16⟩
  | .hbm, ⟨32, _⟩ => ⟨S16384x512, .bf16⟩
  | .hbm, ⟨33, _⟩ => ⟨S2x8x8x64x2048, .f32⟩
  | .hbm, ⟨34, _⟩ => ⟨S2x8x8x64x2048, .f32⟩
  | .hbm, ⟨35, _⟩ => ⟨S2x8x8x64x2048, .f32⟩
  | .hbm, ⟨36, _⟩ => ⟨S2x8x8x64x2048, .f32⟩
  | .hbm, ⟨37, _⟩ => ⟨S2x8x8x64x512, .f32⟩
  | .hbm, ⟨38, _⟩ => ⟨S2x8x8x64x512, .f32⟩
  | .local _ .vmem, ⟨0, _⟩ => ⟨S256x1024, .f32⟩
  | .local _ .vmem, ⟨1, _⟩ => ⟨S256x1024, .f32⟩
  | .local _ .vmem, ⟨2, _⟩ => ⟨S256x512, .bf16⟩
  | .local _ .vmem, ⟨3, _⟩ => ⟨S256x512, .bf16⟩
  | .local _ .vmem, ⟨4, _⟩ => ⟨S256x512, .bf16⟩
  | .local _ .vmem, ⟨5, _⟩ => ⟨S256x512, .bf16⟩
  | .local _ .vmem, ⟨6, _⟩ => ⟨S1x256x256, .f32⟩
  | .local _ .vmem, ⟨7, _⟩ => ⟨S1x256x256, .f32⟩
  | .local _ .vmem, ⟨8, _⟩ => ⟨S1x1024x1024, .bf16⟩
  | .local _ .vmem, ⟨9, _⟩ => ⟨S1x1x1024, .f32⟩
  | .local _ .vmem, ⟨10, _⟩ => ⟨S1x1024x2816, .bf16⟩
  | .local _ .vmem, ⟨11, _⟩ => ⟨S1x1024x2816, .bf16⟩
  | .local _ .vmem, ⟨12, _⟩ => ⟨S1x2816x1024, .bf16⟩
  | .local _ .vmem, ⟨13, _⟩ => ⟨S1x1x1024, .f32⟩
  | .local _ .vmem, ⟨14, _⟩ => ⟨S1x1024x1024, .bf16⟩
  | .local _ .vmem, ⟨15, _⟩ => ⟨S1x256x1024, .bf16⟩
  | .local _ .vmem, ⟨16, _⟩ => ⟨S1x1x1024, .f32⟩
  | .local _ .vmem, ⟨17, _⟩ => ⟨S1x3072x1024, .bf16⟩
  | .local _ .vmem, ⟨18, _⟩ => ⟨S1x1x8x64x256, .f32⟩
  | .local _ .vmem, ⟨19, _⟩ => ⟨S1x1x8x64x256, .f32⟩
  | .local _ .vmem, ⟨20, _⟩ => ⟨S1x1x8x64x256, .f32⟩
  | .local _ .vmem, ⟨21, _⟩ => ⟨S1x1x8x64x256, .f32⟩
  | .local _ .vmem, ⟨22, _⟩ => ⟨S1x1x8x64x256, .f32⟩
  | .local _ .vmem, ⟨23, _⟩ => ⟨S1x1x8x64x256, .f32⟩
  | .local _ .vmem, ⟨24, _⟩ => ⟨S1x1x8x64x256, .f32⟩
  | .local _ .vmem, ⟨25, _⟩ => ⟨S1x1x8x64x256, .f32⟩
  | .local _ .vmem, ⟨26, _⟩ => ⟨S256x1024, .f32⟩
  | .local _ .vmem, ⟨27, _⟩ => ⟨S256x1024, .f32⟩
  | .local _ .vmem, ⟨28, _⟩ => ⟨S256x512, .bf16⟩
  | .local _ .vmem, ⟨29, _⟩ => ⟨S256x512, .bf16⟩
  | .local _ .vmem, ⟨30, _⟩ => ⟨S256x512, .bf16⟩
  | .local _ .vmem, ⟨31, _⟩ => ⟨S256x512, .bf16⟩
  | .local _ .vmem, ⟨32, _⟩ => ⟨S2x1x8x64x256, .f32⟩
  | .local _ .vmem, ⟨33, _⟩ => ⟨S2x1x8x64x256, .f32⟩
  | .local _ .vmem, ⟨34, _⟩ => ⟨S2x1x8x64x256, .f32⟩
  | .local _ .vmem, ⟨35, _⟩ => ⟨S2x1x8x64x256, .f32⟩
  | .local _ .vmem, ⟨36, _⟩ => ⟨S2x1x8x64x256, .f32⟩
  | .local _ .vmem, ⟨37, _⟩ => ⟨S2x1x8x64x256, .f32⟩
  | .local _ .vmem, ⟨38, _⟩ => ⟨S2x1x8x64x256, .f32⟩
  | .local _ .vmem, ⟨39, _⟩ => ⟨S2x1x8x64x256, .f32⟩
  | .local _ .vmem, ⟨40, _⟩ => ⟨S2x1x8x64x256, .f32⟩
  | .local _ .vmem, ⟨41, _⟩ => ⟨S2x1x8x64x256, .f32⟩
  | .local _ .vmem, ⟨42, _⟩ => ⟨S2x1x8x64x256, .f32⟩
  | .local _ .vmem, ⟨43, _⟩ => ⟨S2x1x8x64x256, .f32⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | _, _ => false

abbrev semScoped : Fin 0 → Bool
  | ⟨_, h⟩ => absurd h (Nat.not_lt_zero _)

abbrev dmaSemScoped : Fin 44 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | _ => false

abbrev sig : RefSig :=
  ofTc nBuf bufTy 0 44 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_v0 : Ref sig .tc := ⟨.hbm, 18, rfl⟩
abbrev main_v1 : Ref sig .tc := ⟨.hbm, 19, rfl⟩
abbrev main_v2 : Ref sig .tc := ⟨.hbm, 20, rfl⟩
abbrev main_v3 : Ref sig .tc := ⟨.hbm, 21, rfl⟩
abbrev main_v4 : Ref sig .tc := ⟨.hbm, 22, rfl⟩
abbrev main_v5 : Ref sig .tc := ⟨.hbm, 23, rfl⟩
abbrev main_v6 : Ref sig .tc := ⟨.hbm, 24, rfl⟩
abbrev main_v7 : Ref sig .tc := ⟨.hbm, 25, rfl⟩
abbrev main_v8 : Ref sig .tc := ⟨.hbm, 26, rfl⟩
abbrev main_v9 : Ref sig .tc := ⟨.hbm, 27, rfl⟩
abbrev main_v10 : Ref sig .tc := ⟨.hbm, 28, rfl⟩
abbrev main_v11 : Ref sig .tc := ⟨.hbm, 29, rfl⟩
abbrev main_v12_0 : Ref sig .tc := ⟨.hbm, 30, rfl⟩
abbrev main_v12_1 : Ref sig .tc := ⟨.hbm, 31, rfl⟩
abbrev main_v12_2 : Ref sig .tc := ⟨.hbm, 32, rfl⟩
abbrev main_v12_3 : Ref sig .tc := ⟨.hbm, 33, rfl⟩
abbrev main_v12_4 : Ref sig .tc := ⟨.hbm, 34, rfl⟩
abbrev main_v12_5 : Ref sig .tc := ⟨.hbm, 35, rfl⟩
abbrev main_v12_6 : Ref sig .tc := ⟨.hbm, 36, rfl⟩
abbrev main_v12_7 : Ref sig .tc := ⟨.hbm, 37, rfl⟩
abbrev main_v12_8 : Ref sig .tc := ⟨.hbm, 38, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg8_0 : Ref sig .tc := ⟨.vmem, 12, rfl⟩
abbrev cc0_stg9_0 : Ref sig .tc := ⟨.vmem, 13, rfl⟩
abbrev cc0_stg10_0 : Ref sig .tc := ⟨.vmem, 14, rfl⟩
abbrev cc0_stg11_0 : Ref sig .tc := ⟨.vmem, 15, rfl⟩
abbrev cc0_stg12_0 : Ref sig .tc := ⟨.vmem, 16, rfl⟩
abbrev cc0_stg13_0 : Ref sig .tc := ⟨.vmem, 17, rfl⟩
abbrev cc0_stg14_0 : Ref sig .tc := ⟨.vmem, 18, rfl⟩
abbrev cc0_stg14_1 : Ref sig .tc := ⟨.vmem, 19, rfl⟩
abbrev cc0_stg15_0 : Ref sig .tc := ⟨.vmem, 20, rfl⟩
abbrev cc0_stg15_1 : Ref sig .tc := ⟨.vmem, 21, rfl⟩
abbrev cc0_stg16_0 : Ref sig .tc := ⟨.vmem, 22, rfl⟩
abbrev cc0_stg16_1 : Ref sig .tc := ⟨.vmem, 23, rfl⟩
abbrev cc0_stg17_0 : Ref sig .tc := ⟨.vmem, 24, rfl⟩
abbrev cc0_stg17_1 : Ref sig .tc := ⟨.vmem, 25, rfl⟩
abbrev cc0_stg18_0 : Ref sig .tc := ⟨.vmem, 26, rfl⟩
abbrev cc0_stg18_1 : Ref sig .tc := ⟨.vmem, 27, rfl⟩
abbrev cc0_stg19_0 : Ref sig .tc := ⟨.vmem, 28, rfl⟩
abbrev cc0_stg19_1 : Ref sig .tc := ⟨.vmem, 29, rfl⟩
abbrev cc0_stg20_0 : Ref sig .tc := ⟨.vmem, 30, rfl⟩
abbrev cc0_stg20_1 : Ref sig .tc := ⟨.vmem, 31, rfl⟩
abbrev cc0_stg21_0 : Ref sig .tc := ⟨.vmem, 32, rfl⟩
abbrev cc0_stg21_1 : Ref sig .tc := ⟨.vmem, 33, rfl⟩
abbrev cc0_stg22_0 : Ref sig .tc := ⟨.vmem, 34, rfl⟩
abbrev cc0_stg22_1 : Ref sig .tc := ⟨.vmem, 35, rfl⟩
abbrev cc0_stg23_0 : Ref sig .tc := ⟨.vmem, 36, rfl⟩
abbrev cc0_stg23_1 : Ref sig .tc := ⟨.vmem, 37, rfl⟩
abbrev cc0_stg24_0 : Ref sig .tc := ⟨.vmem, 38, rfl⟩
abbrev cc0_stg24_1 : Ref sig .tc := ⟨.vmem, 39, rfl⟩
abbrev cc0_stg25_0 : Ref sig .tc := ⟨.vmem, 40, rfl⟩
abbrev cc0_stg25_1 : Ref sig .tc := ⟨.vmem, 41, rfl⟩
abbrev cc0_stg26_0 : Ref sig .tc := ⟨.vmem, 42, rfl⟩
abbrev cc0_stg26_1 : Ref sig .tc := ⟨.vmem, 43, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem7_0 : DmaSem sig := 11
abbrev cc0_sem8_0 : DmaSem sig := 12
abbrev cc0_sem9_0 : DmaSem sig := 13
abbrev cc0_sem10_0 : DmaSem sig := 14
abbrev cc0_sem11_0 : DmaSem sig := 15
abbrev cc0_sem12_0 : DmaSem sig := 16
abbrev cc0_sem13_0 : DmaSem sig := 17
abbrev cc0_sem14_0 : DmaSem sig := 18
abbrev cc0_sem14_1 : DmaSem sig := 19
abbrev cc0_sem15_0 : DmaSem sig := 20
abbrev cc0_sem15_1 : DmaSem sig := 21
abbrev cc0_sem16_0 : DmaSem sig := 22
abbrev cc0_sem16_1 : DmaSem sig := 23
abbrev cc0_sem17_0 : DmaSem sig := 24
abbrev cc0_sem17_1 : DmaSem sig := 25
abbrev cc0_sem18_0 : DmaSem sig := 26
abbrev cc0_sem18_1 : DmaSem sig := 27
abbrev cc0_sem19_0 : DmaSem sig := 28
abbrev cc0_sem19_1 : DmaSem sig := 29
abbrev cc0_sem20_0 : DmaSem sig := 30
abbrev cc0_sem20_1 : DmaSem sig := 31
abbrev cc0_sem21_0 : DmaSem sig := 32
abbrev cc0_sem21_1 : DmaSem sig := 33
abbrev cc0_sem22_0 : DmaSem sig := 34
abbrev cc0_sem22_1 : DmaSem sig := 35
abbrev cc0_sem23_0 : DmaSem sig := 36
abbrev cc0_sem23_1 : DmaSem sig := 37
abbrev cc0_sem24_0 : DmaSem sig := 38
abbrev cc0_sem24_1 : DmaSem sig := 39
abbrev cc0_sem25_0 : DmaSem sig := 40
abbrev cc0_sem25_1 : DmaSem sig := 41
abbrev cc0_sem26_0 : DmaSem sig := 42
abbrev cc0_sem26_1 : DmaSem sig := 43

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_7 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_8 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_9 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_10 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_11 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_12 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  let c0_i32_1 : BitVec 32 := 0#32
  ![c1_i32.toNat, c0_i32.toNat, c0_i32_0.toNat]

def cc0_transform_13 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  let c0_i32_1 : BitVec 32 := 0#32
  ![c1_i32.toNat, c0_i32.toNat, c0_i32_0.toNat]

def cc0_transform_14 (i : grid0.Coords) : Fin 5 → Nat :=
  let arg0 : BitVec 32 := BitVec.ofNat 32 (i 0).val
  let c8_i32 : BitVec 32 := 8#32
  let v0 : BitVec 32 := Scalar.divsi arg0 c8_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c8_i32 c0_i32_1
  let v7 : BitVec 32 := Scalar.extui v6
  let c0_i32_2 : BitVec 32 := 0#32
  let v8 : BitVec 1 := Scalar.cmpi .slt c8_i32 c0_i32_2
  let v9 : BitVec 32 := Scalar.extui v8
  let v10 : BitVec 32 := Scalar.subi v7 v9
  let v11 : BitVec 1 := Scalar.cmpi .ne v5 v10
  let v12 : BitVec 32 := Scalar.remsi arg0 c8_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c8_i32_4 : BitVec 32 := 8#32
  let c0_i32_5 : BitVec 32 := 0#32
  let v17 : BitVec 1 := Scalar.cmpi .eq c8_i32_4 c0_i32_5
  let c1_i32_6 : BitVec 32 := 1#32
  let v18 : BitVec 32 := Scalar.select v17 c1_i32_6 c8_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  let c0_i32_12 : BitVec 32 := 0#32
  let c0_i32_13 : BitVec 32 := 0#32
  ![c0_i32_10.toNat, v16.toNat, c0_i32_11.toNat, c0_i32_12.toNat, v26.toNat]

def cc0_transform_15 (i : grid0.Coords) : Fin 5 → Nat :=
  let arg0 : BitVec 32 := BitVec.ofNat 32 (i 0).val
  let c8_i32 : BitVec 32 := 8#32
  let v0 : BitVec 32 := Scalar.divsi arg0 c8_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c8_i32 c0_i32_1
  let v7 : BitVec 32 := Scalar.extui v6
  let c0_i32_2 : BitVec 32 := 0#32
  let v8 : BitVec 1 := Scalar.cmpi .slt c8_i32 c0_i32_2
  let v9 : BitVec 32 := Scalar.extui v8
  let v10 : BitVec 32 := Scalar.subi v7 v9
  let v11 : BitVec 1 := Scalar.cmpi .ne v5 v10
  let v12 : BitVec 32 := Scalar.remsi arg0 c8_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c8_i32_4 : BitVec 32 := 8#32
  let c0_i32_5 : BitVec 32 := 0#32
  let v17 : BitVec 1 := Scalar.cmpi .eq c8_i32_4 c0_i32_5
  let c1_i32_6 : BitVec 32 := 1#32
  let v18 : BitVec 32 := Scalar.select v17 c1_i32_6 c8_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  let c0_i32_12 : BitVec 32 := 0#32
  let c0_i32_13 : BitVec 32 := 0#32
  ![c0_i32_10.toNat, v16.toNat, c0_i32_11.toNat, c0_i32_12.toNat, v26.toNat]

def cc0_transform_16 (i : grid0.Coords) : Fin 5 → Nat :=
  let arg0 : BitVec 32 := BitVec.ofNat 32 (i 0).val
  let c8_i32 : BitVec 32 := 8#32
  let v0 : BitVec 32 := Scalar.divsi arg0 c8_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c8_i32 c0_i32_1
  let v7 : BitVec 32 := Scalar.extui v6
  let c0_i32_2 : BitVec 32 := 0#32
  let v8 : BitVec 1 := Scalar.cmpi .slt c8_i32 c0_i32_2
  let v9 : BitVec 32 := Scalar.extui v8
  let v10 : BitVec 32 := Scalar.subi v7 v9
  let v11 : BitVec 1 := Scalar.cmpi .ne v5 v10
  let v12 : BitVec 32 := Scalar.remsi arg0 c8_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c8_i32_4 : BitVec 32 := 8#32
  let c0_i32_5 : BitVec 32 := 0#32
  let v17 : BitVec 1 := Scalar.cmpi .eq c8_i32_4 c0_i32_5
  let c1_i32_6 : BitVec 32 := 1#32
  let v18 : BitVec 32 := Scalar.select v17 c1_i32_6 c8_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  let c0_i32_12 : BitVec 32 := 0#32
  let c0_i32_13 : BitVec 32 := 0#32
  ![c0_i32_10.toNat, v16.toNat, c0_i32_11.toNat, c0_i32_12.toNat, v26.toNat]

def cc0_transform_17 (i : grid0.Coords) : Fin 5 → Nat :=
  let arg0 : BitVec 32 := BitVec.ofNat 32 (i 0).val
  let c8_i32 : BitVec 32 := 8#32
  let v0 : BitVec 32 := Scalar.divsi arg0 c8_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c8_i32 c0_i32_1
  let v7 : BitVec 32 := Scalar.extui v6
  let c0_i32_2 : BitVec 32 := 0#32
  let v8 : BitVec 1 := Scalar.cmpi .slt c8_i32 c0_i32_2
  let v9 : BitVec 32 := Scalar.extui v8
  let v10 : BitVec 32 := Scalar.subi v7 v9
  let v11 : BitVec 1 := Scalar.cmpi .ne v5 v10
  let v12 : BitVec 32 := Scalar.remsi arg0 c8_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c8_i32_4 : BitVec 32 := 8#32
  let c0_i32_5 : BitVec 32 := 0#32
  let v17 : BitVec 1 := Scalar.cmpi .eq c8_i32_4 c0_i32_5
  let c1_i32_6 : BitVec 32 := 1#32
  let v18 : BitVec 32 := Scalar.select v17 c1_i32_6 c8_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  let c0_i32_12 : BitVec 32 := 0#32
  let c0_i32_13 : BitVec 32 := 0#32
  ![c0_i32_10.toNat, v16.toNat, c0_i32_11.toNat, c0_i32_12.toNat, v26.toNat]

def cc0_transform_18 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_19 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_20 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_21 (i : grid0.Coords) : Fin 5 → Nat :=
  let arg0 : BitVec 32 := BitVec.ofNat 32 (i 0).val
  let c8_i32 : BitVec 32 := 8#32
  let v0 : BitVec 32 := Scalar.divsi arg0 c8_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c8_i32 c0_i32_1
  let v7 : BitVec 32 := Scalar.extui v6
  let c0_i32_2 : BitVec 32 := 0#32
  let v8 : BitVec 1 := Scalar.cmpi .slt c8_i32 c0_i32_2
  let v9 : BitVec 32 := Scalar.extui v8
  let v10 : BitVec 32 := Scalar.subi v7 v9
  let v11 : BitVec 1 := Scalar.cmpi .ne v5 v10
  let v12 : BitVec 32 := Scalar.remsi arg0 c8_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c8_i32_4 : BitVec 32 := 8#32
  let c0_i32_5 : BitVec 32 := 0#32
  let v17 : BitVec 1 := Scalar.cmpi .eq c8_i32_4 c0_i32_5
  let c1_i32_6 : BitVec 32 := 1#32
  let v18 : BitVec 32 := Scalar.select v17 c1_i32_6 c8_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  let c0_i32_12 : BitVec 32 := 0#32
  let c0_i32_13 : BitVec 32 := 0#32
  ![c0_i32_10.toNat, v16.toNat, c0_i32_11.toNat, c0_i32_12.toNat, v26.toNat]

def cc0_transform_22 (i : grid0.Coords) : Fin 5 → Nat :=
  let arg0 : BitVec 32 := BitVec.ofNat 32 (i 0).val
  let c8_i32 : BitVec 32 := 8#32
  let v0 : BitVec 32 := Scalar.divsi arg0 c8_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c8_i32 c0_i32_1
  let v7 : BitVec 32 := Scalar.extui v6
  let c0_i32_2 : BitVec 32 := 0#32
  let v8 : BitVec 1 := Scalar.cmpi .slt c8_i32 c0_i32_2
  let v9 : BitVec 32 := Scalar.extui v8
  let v10 : BitVec 32 := Scalar.subi v7 v9
  let v11 : BitVec 1 := Scalar.cmpi .ne v5 v10
  let v12 : BitVec 32 := Scalar.remsi arg0 c8_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c8_i32_4 : BitVec 32 := 8#32
  let c0_i32_5 : BitVec 32 := 0#32
  let v17 : BitVec 1 := Scalar.cmpi .eq c8_i32_4 c0_i32_5
  let c1_i32_6 : BitVec 32 := 1#32
  let v18 : BitVec 32 := Scalar.select v17 c1_i32_6 c8_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  let c0_i32_12 : BitVec 32 := 0#32
  let c0_i32_13 : BitVec 32 := 0#32
  ![c0_i32_10.toNat, v16.toNat, c0_i32_11.toNat, c0_i32_12.toNat, v26.toNat]

def cc0_transform_23 (i : grid0.Coords) : Fin 5 → Nat :=
  let arg0 : BitVec 32 := BitVec.ofNat 32 (i 0).val
  let c8_i32 : BitVec 32 := 8#32
  let v0 : BitVec 32 := Scalar.divsi arg0 c8_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c8_i32 c0_i32_1
  let v7 : BitVec 32 := Scalar.extui v6
  let c0_i32_2 : BitVec 32 := 0#32
  let v8 : BitVec 1 := Scalar.cmpi .slt c8_i32 c0_i32_2
  let v9 : BitVec 32 := Scalar.extui v8
  let v10 : BitVec 32 := Scalar.subi v7 v9
  let v11 : BitVec 1 := Scalar.cmpi .ne v5 v10
  let v12 : BitVec 32 := Scalar.remsi arg0 c8_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c8_i32_4 : BitVec 32 := 8#32
  let c0_i32_5 : BitVec 32 := 0#32
  let v17 : BitVec 1 := Scalar.cmpi .eq c8_i32_4 c0_i32_5
  let c1_i32_6 : BitVec 32 := 1#32
  let v18 : BitVec 32 := Scalar.select v17 c1_i32_6 c8_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  let c0_i32_12 : BitVec 32 := 0#32
  let c0_i32_13 : BitVec 32 := 0#32
  ![c0_i32_10.toNat, v16.toNat, c0_i32_11.toNat, c0_i32_12.toNat, v26.toNat]

def cc0_transform_24 (i : grid0.Coords) : Fin 5 → Nat :=
  let arg0 : BitVec 32 := BitVec.ofNat 32 (i 0).val
  let c8_i32 : BitVec 32 := 8#32
  let v0 : BitVec 32 := Scalar.divsi arg0 c8_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c8_i32 c0_i32_1
  let v7 : BitVec 32 := Scalar.extui v6
  let c0_i32_2 : BitVec 32 := 0#32
  let v8 : BitVec 1 := Scalar.cmpi .slt c8_i32 c0_i32_2
  let v9 : BitVec 32 := Scalar.extui v8
  let v10 : BitVec 32 := Scalar.subi v7 v9
  let v11 : BitVec 1 := Scalar.cmpi .ne v5 v10
  let v12 : BitVec 32 := Scalar.remsi arg0 c8_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c8_i32_4 : BitVec 32 := 8#32
  let c0_i32_5 : BitVec 32 := 0#32
  let v17 : BitVec 1 := Scalar.cmpi .eq c8_i32_4 c0_i32_5
  let c1_i32_6 : BitVec 32 := 1#32
  let v18 : BitVec 32 := Scalar.select v17 c1_i32_6 c8_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  let c0_i32_12 : BitVec 32 := 0#32
  let c0_i32_13 : BitVec 32 := 0#32
  ![c0_i32_10.toNat, v16.toNat, c0_i32_11.toNat, c0_i32_12.toNat, v26.toNat]

def cc0_transform_25 (i : grid0.Coords) : Fin 5 → Nat :=
  let arg0 : BitVec 32 := BitVec.ofNat 32 (i 0).val
  let c8_i32 : BitVec 32 := 8#32
  let v0 : BitVec 32 := Scalar.divsi arg0 c8_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c8_i32 c0_i32_1
  let v7 : BitVec 32 := Scalar.extui v6
  let c0_i32_2 : BitVec 32 := 0#32
  let v8 : BitVec 1 := Scalar.cmpi .slt c8_i32 c0_i32_2
  let v9 : BitVec 32 := Scalar.extui v8
  let v10 : BitVec 32 := Scalar.subi v7 v9
  let v11 : BitVec 1 := Scalar.cmpi .ne v5 v10
  let v12 : BitVec 32 := Scalar.remsi arg0 c8_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c8_i32_4 : BitVec 32 := 8#32
  let c0_i32_5 : BitVec 32 := 0#32
  let v17 : BitVec 1 := Scalar.cmpi .eq c8_i32_4 c0_i32_5
  let c1_i32_6 : BitVec 32 := 1#32
  let v18 : BitVec 32 := Scalar.select v17 c1_i32_6 c8_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c6_i32 : BitVec 32 := 6#32
  let v27 : BitVec 32 := Scalar.subi v26 c6_i32
  let c0_i32_10 : BitVec 32 := 0#32
  let v28 : BitVec 32 := Scalar.maxsi v27 c0_i32_10
  let c0_i32_11 : BitVec 32 := 0#32
  let c0_i32_12 : BitVec 32 := 0#32
  let c0_i32_13 : BitVec 32 := 0#32
  let c0_i32_14 : BitVec 32 := 0#32
  ![c0_i32_11.toNat, v16.toNat, c0_i32_12.toNat, c0_i32_13.toNat, v28.toNat]

def cc0_transform_26 (i : grid0.Coords) : Fin 5 → Nat :=
  let arg0 : BitVec 32 := BitVec.ofNat 32 (i 0).val
  let c8_i32 : BitVec 32 := 8#32
  let v0 : BitVec 32 := Scalar.divsi arg0 c8_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c8_i32 c0_i32_1
  let v7 : BitVec 32 := Scalar.extui v6
  let c0_i32_2 : BitVec 32 := 0#32
  let v8 : BitVec 1 := Scalar.cmpi .slt c8_i32 c0_i32_2
  let v9 : BitVec 32 := Scalar.extui v8
  let v10 : BitVec 32 := Scalar.subi v7 v9
  let v11 : BitVec 1 := Scalar.cmpi .ne v5 v10
  let v12 : BitVec 32 := Scalar.remsi arg0 c8_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c8_i32_4 : BitVec 32 := 8#32
  let c0_i32_5 : BitVec 32 := 0#32
  let v17 : BitVec 1 := Scalar.cmpi .eq c8_i32_4 c0_i32_5
  let c1_i32_6 : BitVec 32 := 1#32
  let v18 : BitVec 32 := Scalar.select v17 c1_i32_6 c8_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c6_i32 : BitVec 32 := 6#32
  let v27 : BitVec 32 := Scalar.subi v26 c6_i32
  let c0_i32_10 : BitVec 32 := 0#32
  let v28 : BitVec 32 := Scalar.maxsi v27 c0_i32_10
  let c0_i32_11 : BitVec 32 := 0#32
  let c0_i32_12 : BitVec 32 := 0#32
  let c0_i32_13 : BitVec 32 := 0#32
  let c0_i32_14 : BitVec 32 := 0#32
  ![c0_i32_11.toNat, v16.toNat, c0_i32_12.toNat, c0_i32_13.toNat, v28.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x256x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1x1024x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x1024x2816 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x1024x2816 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x2816x1024 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x1x1024 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1x1024x1024 .bf16 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S1x256x1024 .bf16 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S1x1x1024 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 1 → Memref sig .tc .vmem S1x3072x1024 .bf16 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]

abbrev stage0_14 : Fin 2 → Memref sig .tc .vmem S1x1x8x64x256 .f32 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]

abbrev stage0_15 : Fin 2 → Memref sig .tc .vmem S1x1x8x64x256 .f32 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true]

abbrev stage0_16 : Fin 2 → Memref sig .tc .vmem S1x1x8x64x256 .f32 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true]

abbrev stage0_17 : Fin 2 → Memref sig .tc .vmem S1x1x8x64x256 .f32 := fun | 0 => Memref.whole cc0_stg17_0 | 1 => Memref.whole cc0_stg17_1 | ⟨_ + 2, h⟩ => absurd h (Nat.not_lt.2 (Nat.le_add_left _ _))
abbrev sem0_17 : Fin 2 → DmaSem sig := fun | 0 => cc0_sem17_0 | 1 => cc0_sem17_1 | ⟨_ + 2, h⟩ => absurd h (Nat.not_lt.2 (Nat.le_add_left _ _))
abbrev reads0_17 : Fin grid0.rank → Bool := ![true]

abbrev stage0_18 : Fin 2 → Memref sig .tc .vmem S256x1024 .f32 := fun | 0 => Memref.whole cc0_stg18_0 | 1 => Memref.whole cc0_stg18_1 | ⟨_ + 2, h⟩ => absurd h (Nat.not_lt.2 (Nat.le_add_left _ _))
abbrev sem0_18 : Fin 2 → DmaSem sig := fun | 0 => cc0_sem18_0 | 1 => cc0_sem18_1 | ⟨_ + 2, h⟩ => absurd h (Nat.not_lt.2 (Nat.le_add_left _ _))
abbrev reads0_18 : Fin grid0.rank → Bool := ![true]

abbrev stage0_19 : Fin 2 → Memref sig .tc .vmem S256x512 .bf16 := fun | 0 => Memref.whole cc0_stg19_0 | 1 => Memref.whole cc0_stg19_1 | ⟨_ + 2, h⟩ => absurd h (Nat.not_lt.2 (Nat.le_add_left _ _))
abbrev sem0_19 : Fin 2 → DmaSem sig := fun | 0 => cc0_sem19_0 | 1 => cc0_sem19_1 | ⟨_ + 2, h⟩ => absurd h (Nat.not_lt.2 (Nat.le_add_left _ _))
abbrev reads0_19 : Fin grid0.rank → Bool := ![true]

abbrev stage0_20 : Fin 2 → Memref sig .tc .vmem S256x512 .bf16 := fun | 0 => Memref.whole cc0_stg20_0 | 1 => Memref.whole cc0_stg20_1 | ⟨_ + 2, h⟩ => absurd h (Nat.not_lt.2 (Nat.le_add_left _ _))
abbrev sem0_20 : Fin 2 → DmaSem sig := fun | 0 => cc0_sem20_0 | 1 => cc0_sem20_1 | ⟨_ + 2, h⟩ => absurd h (Nat.not_lt.2 (Nat.le_add_left _ _))
abbrev reads0_20 : Fin grid0.rank → Bool := ![true]

abbrev stage0_21 : Fin 2 → Memref sig .tc .vmem S2x1x8x64x256 .f32 := fun | 0 => Memref.whole cc0_stg21_0 | 1 => Memref.whole cc0_stg21_1 | ⟨_ + 2, h⟩ => absurd h (Nat.not_lt.2 (Nat.le_add_left _ _))
abbrev sem0_21 : Fin 2 → DmaSem sig := fun | 0 => cc0_sem21_0 | 1 => cc0_sem21_1 | ⟨_ + 2, h⟩ => absurd h (Nat.not_lt.2 (Nat.le_add_left _ _))
abbrev reads0_21 : Fin grid0.rank → Bool := ![true]

abbrev stage0_22 : Fin 2 → Memref sig .tc .vmem S2x1x8x64x256 .f32 := fun | 0 => Memref.whole cc0_stg22_0 | 1 => Memref.whole cc0_stg22_1 | ⟨_ + 2, h⟩ => absurd h (Nat.not_lt.2 (Nat.le_add_left _ _))
abbrev sem0_22 : Fin 2 → DmaSem sig := fun | 0 => cc0_sem22_0 | 1 => cc0_sem22_1 | ⟨_ + 2, h⟩ => absurd h (Nat.not_lt.2 (Nat.le_add_left _ _))
abbrev reads0_22 : Fin grid0.rank → Bool := ![true]

abbrev stage0_23 : Fin 2 → Memref sig .tc .vmem S2x1x8x64x256 .f32 := fun | 0 => Memref.whole cc0_stg23_0 | 1 => Memref.whole cc0_stg23_1 | ⟨_ + 2, h⟩ => absurd h (Nat.not_lt.2 (Nat.le_add_left _ _))
abbrev sem0_23 : Fin 2 → DmaSem sig := fun | 0 => cc0_sem23_0 | 1 => cc0_sem23_1 | ⟨_ + 2, h⟩ => absurd h (Nat.not_lt.2 (Nat.le_add_left _ _))
abbrev reads0_23 : Fin grid0.rank → Bool := ![true]

abbrev stage0_24 : Fin 2 → Memref sig .tc .vmem S2x1x8x64x256 .f32 := fun | 0 => Memref.whole cc0_stg24_0 | 1 => Memref.whole cc0_stg24_1 | ⟨_ + 2, h⟩ => absurd h (Nat.not_lt.2 (Nat.le_add_left _ _))
abbrev sem0_24 : Fin 2 → DmaSem sig := fun | 0 => cc0_sem24_0 | 1 => cc0_sem24_1 | ⟨_ + 2, h⟩ => absurd h (Nat.not_lt.2 (Nat.le_add_left _ _))
abbrev reads0_24 : Fin grid0.rank → Bool := ![true]

abbrev stage0_25 : Fin 2 → Memref sig .tc .vmem S2x1x8x64x256 .f32 := fun | 0 => Memref.whole cc0_stg25_0 | 1 => Memref.whole cc0_stg25_1 | ⟨_ + 2, h⟩ => absurd h (Nat.not_lt.2 (Nat.le_add_left _ _))
abbrev sem0_25 : Fin 2 → DmaSem sig := fun | 0 => cc0_sem25_0 | 1 => cc0_sem25_1 | ⟨_ + 2, h⟩ => absurd h (Nat.not_lt.2 (Nat.le_add_left _ _))
abbrev reads0_25 : Fin grid0.rank → Bool := ![true]

abbrev stage0_26 : Fin 2 → Memref sig .tc .vmem S2x1x8x64x256 .f32 := fun | 0 => Memref.whole cc0_stg26_0 | 1 => Memref.whole cc0_stg26_1 | ⟨_ + 2, h⟩ => absurd h (Nat.not_lt.2 (Nat.le_add_left _ _))
abbrev sem0_26 : Fin 2 → DmaSem sig := fun | 0 => cc0_sem26_0 | 1 => cc0_sem26_1 | ⟨_ + 2, h⟩ => absurd h (Nat.not_lt.2 (Nat.le_add_left _ _))
abbrev reads0_26 : Fin grid0.rank → Bool := ![true]
-- ==== Reference3Ideal.lean ====
abbrev S16384x1024 : Shape := ⟨2, ![16384, 1024]⟩
abbrev S16384x512 : Shape := ⟨2, ![16384, 512]⟩
abbrev S2x8x2048x256 : Shape := ⟨4, ![2, 8, 2048, 256]⟩
abbrev S2x1024x1024 : Shape := ⟨3, ![2, 1024, 1024]⟩
abbrev S2x1024 : Shape := ⟨2, ![2, 1024]⟩
abbrev S2x1024x2816 : Shape := ⟨3, ![2, 1024, 2816]⟩
abbrev S2x2816x1024 : Shape := ⟨3, ![2, 2816, 1024]⟩
abbrev S2x256x1024 : Shape := ⟨3, ![2, 256, 1024]⟩
abbrev S2x1024x3072 : Shape := ⟨3, ![2, 1024, 3072]⟩
abbrev S1x8x8x64x2048 : Shape := ⟨5, ![1, 8, 8, 64, 2048]⟩
abbrev S1x1024x1024 : Shape := ⟨3, ![1, 1024, 1024]⟩
abbrev S1024x1024 : Shape := ⟨2, ![1024, 1024]⟩
abbrev S1x1024 : Shape := ⟨2, ![1, 1024]⟩
abbrev S1024 : Shape := ⟨1, ![1024]⟩
abbrev S_ : Shape := ⟨0, ![]⟩
abbrev S16384 : Shape := ⟨1, ![16384]⟩
abbrev S16384x1 : Shape := ⟨2, ![16384, 1]⟩
abbrev S1x1024x2816 : Shape := ⟨3, ![1, 1024, 2816]⟩
abbrev S1024x2816 : Shape := ⟨2, ![1024, 2816]⟩
abbrev S16384x2816 : Shape := ⟨2, ![16384, 2816]⟩
abbrev S1x2816x1024 : Shape := ⟨3, ![1, 2816, 1024]⟩
abbrev S2816x1024 : Shape := ⟨2, ![2816, 1024]⟩
abbrev S1x8x2048x256 : Shape := ⟨4, ![1, 8, 2048, 256]⟩
abbrev S8x2048x256 : Shape := ⟨3, ![8, 2048, 256]⟩
abbrev S16384x256 : Shape := ⟨2, ![16384, 256]⟩
abbrev S1x256x1024 : Shape := ⟨3, ![1, 256, 1024]⟩
abbrev S256x1024 : Shape := ⟨2, ![256, 1024]⟩
abbrev S1x1024x3072 : Shape := ⟨3, ![1, 1024, 3072]⟩
abbrev S1024x3072 : Shape := ⟨2, ![1024, 3072]⟩
abbrev S16384x3072 : Shape := ⟨2, ![16384, 3072]⟩
abbrev S8x2048x8x64 : Shape := ⟨4, ![8, 2048, 8, 64]⟩
abbrev S8x8x64x2048 : Shape := ⟨4, ![8, 8, 64, 2048]⟩
abbrev S2x8x8x64x2048 : Shape := ⟨5, ![2, 8, 8, 64, 2048]⟩
abbrev S2x8x8x64x512 : Shape := ⟨5, ![2, 8, 8, 64, 512]⟩

abbrev nBuf : Space → Nat
  | .hbm => 152
  | .vmem => 0
  | .smem => 0
  | _ => 0

abbrev hbmTy0_0 (i : Nat) : BufTy := match i % 128 with
  | 0 => ⟨S16384x1024, .f32⟩
  | 1 => ⟨S16384x512, .bf16⟩
  | 2 => ⟨S16384x512, .bf16⟩
  | 3 => ⟨S2x8x2048x256, .f32⟩
  | 4 => ⟨S2x1024x1024, .f32⟩
  | 5 => ⟨S2x1024, .f32⟩
  | 6 => ⟨S2x1024x2816, .f32⟩
  | 7 => ⟨S2x1024x2816, .f32⟩
  | 8 => ⟨S2x2816x1024, .f32⟩
  | 9 => ⟨S2x1024, .f32⟩
  | 10 => ⟨S2x1024x1024, .f32⟩
  | 11 => ⟨S2x256x1024, .f32⟩
  | 12 => ⟨S2x1024, .f32⟩
  | 13 => ⟨S2x1024x3072, .f32⟩
  | 14 => ⟨S1x8x8x64x2048, .f32⟩
  | 15 => ⟨S1x8x8x64x2048, .f32⟩
  | 16 => ⟨S1x8x8x64x2048, .f32⟩
  | 17 => ⟨S1x8x8x64x2048, .f32⟩
  | 18 => ⟨S16384x1024, .bf16⟩
  | 19 => ⟨S16384x1024, .f32⟩
  | 20 => ⟨S1x1024x1024, .f32⟩
  | 21 => ⟨S1024x1024, .f32⟩
  | 22 => ⟨S16384x1024, .f32⟩
  | 23 => ⟨S16384x1024, .f32⟩
  | 24 => ⟨S1x1024, .f32⟩
  | 25 => ⟨S1024, .f32⟩
  | 26 => ⟨S16384x1024, .f32⟩
  | 27 => ⟨S_, .f32⟩
  | 28 => ⟨S16384, .f32⟩
  | 29 => ⟨S16384x1, .f32⟩
  | 30 => ⟨S_, .f32⟩
  | 31 => ⟨S16384x1, .f32⟩
  | 32 => ⟨S16384x1, .f32⟩
  | 33 => ⟨S_, .f32⟩
  | 34 => ⟨S16384x1, .f32⟩
  | 35 => ⟨S16384x1, .f32⟩
  | 36 => ⟨S16384x1, .f32⟩
  | 37 => ⟨S16384x1024, .f32⟩
  | 38 => ⟨S16384x1024, .f32⟩
  | 39 => ⟨S1x1024, .f32⟩
  | 40 => ⟨S16384x1024, .f32⟩
  | 41 => ⟨S16384x1024, .f32⟩
  | 42 => ⟨S1x1024x2816, .f32⟩
  | 43 => ⟨S1024x2816, .f32⟩
  | 44 => ⟨S16384x2816, .f32⟩
  | 45 => ⟨S16384x2816, .f32⟩
  | 46 => ⟨S16384x2816, .f32⟩
  | 47 => ⟨S_, .f32⟩
  | 48 => ⟨S16384x2816, .f32⟩
  | 49 => ⟨S16384x2816, .f32⟩
  | 50 => ⟨S_, .f32⟩
  | 51 => ⟨S16384x2816, .f32⟩
  | 52 => ⟨S16384x2816, .f32⟩
  | 53 => ⟨S16384x2816, .f32⟩
  | 54 => ⟨S1x1024x2816, .f32⟩
  | 55 => ⟨S1024x2816, .f32⟩
  | 56 => ⟨S16384x2816, .f32⟩
  | 57 => ⟨S16384x2816, .f32⟩
  | 58 => ⟨S1x2816x1024, .f32⟩
  | 59 => ⟨S2816x1024, .f32⟩
  | 60 => ⟨S16384x1024, .f32⟩
  | 61 => ⟨S16384x1024, .f32⟩
  | 62 => ⟨S1x1024, .f32⟩
  | 63 => ⟨S1024, .f32⟩
  | 64 => ⟨S16384x1024, .f32⟩
  | 65 => ⟨S_, .f32⟩
  | 66 => ⟨S16384, .f32⟩
  | 67 => ⟨S16384x1, .f32⟩
  | 68 => ⟨S_, .f32⟩
  | 69 => ⟨S16384x1, .f32⟩
  | 70 => ⟨S16384x1, .f32⟩
  | 71 => ⟨S_, .f32⟩
  | 72 => ⟨S16384x1, .f32⟩
  | 73 => ⟨S16384x1, .f32⟩
  | 74 => ⟨S16384x1, .f32⟩
  | 75 => ⟨S16384x1024, .f32⟩
  | 76 => ⟨S16384x1024, .f32⟩
  | 77 => ⟨S1x1024, .f32⟩
  | 78 => ⟨S16384x1024, .f32⟩
  | 79 => ⟨S16384x1024, .f32⟩
  | 80 => ⟨S1x1024x1024, .f32⟩
  | 81 => ⟨S1024x1024, .f32⟩
  | 82 => ⟨S16384x1024, .f32⟩
  | 83 => ⟨S16384x1024, .f32⟩
  | 84 => ⟨S16384x1024, .f32⟩
  | 85 => ⟨S_, .f32⟩
  | 86 => ⟨S16384x1024, .f32⟩
  | 87 => ⟨S16384x1024, .f32⟩
  | 88 => ⟨S_, .f32⟩
  | 89 => ⟨S16384x1024, .f32⟩
  | 90 => ⟨S16384x1024, .f32⟩
  | 91 => ⟨S1x8x2048x256, .f32⟩
  | 92 => ⟨S8x2048x256, .f32⟩
  | 93 => ⟨S16384x256, .f32⟩
  | 94 => ⟨S1x256x1024, .f32⟩
  | 95 => ⟨S256x1024, .f32⟩
  | 96 => ⟨S16384x1024, .f32⟩
  | 97 => ⟨S16384x1024, .f32⟩
  | 98 => ⟨S16384x1024, .f32⟩
  | 99 => ⟨S1x1024, .f32⟩
  | 100 => ⟨S1024, .f32⟩
  | 101 => ⟨S16384x1024, .f32⟩
  | 102 => ⟨S_, .f32⟩
  | 103 => ⟨S16384, .f32⟩
  | 104 => ⟨S16384x1, .f32⟩
  | 105 => ⟨S_, .f32⟩
  | 106 => ⟨S16384x1, .f32⟩
  | 107 => ⟨S16384x1, .f32⟩
  | 108 => ⟨S_, .f32⟩
  | 109 => ⟨S16384x1, .f32⟩
  | 110 => ⟨S16384x1, .f32⟩
  | 111 => ⟨S16384x1, .f32⟩
  | 112 => ⟨S16384x1024, .f32⟩
  | 113 => ⟨S16384x1024, .f32⟩
  | 114 => ⟨S1x1024, .f32⟩
  | 115 => ⟨S16384x1024, .f32⟩
  | 116 => ⟨S16384x1024, .f32⟩
  | 117 => ⟨S1x1024x3072, .f32⟩
  | 118 => ⟨S1024x3072, .f32⟩
  | 119 => ⟨S16384x3072, .f32⟩
  | 120 => ⟨S16384x512, .f32⟩
  | 121 => ⟨S16384x512, .f32⟩
  | 122 => ⟨S16384x512, .f32⟩
  | 123 => ⟨S16384x512, .f32⟩
  | 124 => ⟨S16384x512, .f32⟩
  | 125 => ⟨S16384x512, .f32⟩
  | 126 => ⟨S8x2048x8x64, .f32⟩
  | 127 => ⟨S8x8x64x2048, .f32⟩
  | _ => ⟨S16384x1024, .f32⟩

abbrev hbmTy0_1 (i : Nat) : BufTy := match i % 128 with
  | 0 => ⟨S1x8x8x64x2048, .f32⟩
  | 1 => ⟨S2x8x8x64x2048, .f32⟩
  | 2 => ⟨S8x2048x8x64, .f32⟩
  | 3 => ⟨S8x8x64x2048, .f32⟩
  | 4 => ⟨S1x8x8x64x2048, .f32⟩
  | 5 => ⟨S2x8x8x64x2048, .f32⟩
  | 6 => ⟨S8x2048x8x64, .f32⟩
  | 7 => ⟨S8x8x64x2048, .f32⟩
  | 8 => ⟨S1x8x8x64x2048, .f32⟩
  | 9 => ⟨S2x8x8x64x2048, .f32⟩
  | 10 => ⟨S8x2048x8x64, .f32⟩
  | 11 => ⟨S8x8x64x2048, .f32⟩
  | 12 => ⟨S1x8x8x64x2048, .f32⟩
  | 13 => ⟨S2x8x8x64x2048, .f32⟩
  | 14 => ⟨S_, .f32⟩
  | 15 => ⟨S16384x512, .f32⟩
  | 16 => ⟨S16384x512, .f32⟩
  | 17 => ⟨S16384x512, .bf16⟩
  | 18 => ⟨S_, .f32⟩
  | 19 => ⟨S16384x512, .f32⟩
  | 20 => ⟨S16384x512, .f32⟩
  | 21 => ⟨S16384x512, .bf16⟩
  | 22 => ⟨S2x8x8x64x512, .f32⟩
  | 23 => ⟨S2x8x8x64x512, .f32⟩
  | _ => ⟨S16384x1024, .f32⟩

abbrev hbmTy (i : Nat) : BufTy := match i / 128 with
  | 0 => hbmTy0_0 i
  | 1 => hbmTy0_1 i
  | _ => ⟨S16384x1024, .f32⟩

abbrev bufTy : (tb : Table) → Fin (tcTables nBuf tb) → BufTy
  | .hbm, ⟨i, _⟩ => hbmTy i
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_v0 : Ref sig .tc := ⟨.hbm, 18, rfl⟩
abbrev main_v1 : Ref sig .tc := ⟨.hbm, 19, rfl⟩
abbrev main_v2 : Ref sig .tc := ⟨.hbm, 20, rfl⟩
abbrev main_v3 : Ref sig .tc := ⟨.hbm, 21, rfl⟩
abbrev main_v4 : Ref sig .tc := ⟨.hbm, 22, rfl⟩
abbrev main_v5 : Ref sig .tc := ⟨.hbm, 23, rfl⟩
abbrev main_v6 : Ref sig .tc := ⟨.hbm, 24, rfl⟩
abbrev main_v7 : Ref sig .tc := ⟨.hbm, 25, rfl⟩
abbrev main_v8 : Ref sig .tc := ⟨.hbm, 26, rfl⟩
abbrev main_cst : Ref sig .tc := ⟨.hbm, 27, rfl⟩
abbrev main_v9 : Ref sig .tc := ⟨.hbm, 28, rfl⟩
abbrev main_v10 : Ref sig .tc := ⟨.hbm, 29, rfl⟩
abbrev main_cst_0 : Ref sig .tc := ⟨.hbm, 30, rfl⟩
abbrev main_v11 : Ref sig .tc := ⟨.hbm, 31, rfl⟩
abbrev main_v12 : Ref sig .tc := ⟨.hbm, 32, rfl⟩
abbrev main_cst_1 : Ref sig .tc := ⟨.hbm, 33, rfl⟩
abbrev main_v13 : Ref sig .tc := ⟨.hbm, 34, rfl⟩
abbrev main_v14 : Ref sig .tc := ⟨.hbm, 35, rfl⟩
abbrev main_v15 : Ref sig .tc := ⟨.hbm, 36, rfl⟩
abbrev main_v16 : Ref sig .tc := ⟨.hbm, 37, rfl⟩
abbrev main_v17 : Ref sig .tc := ⟨.hbm, 38, rfl⟩
abbrev main_v18 : Ref sig .tc := ⟨.hbm, 39, rfl⟩
abbrev main_v19 : Ref sig .tc := ⟨.hbm, 40, rfl⟩
abbrev main_v20 : Ref sig .tc := ⟨.hbm, 41, rfl⟩
abbrev main_v21 : Ref sig .tc := ⟨.hbm, 42, rfl⟩
abbrev main_v22 : Ref sig .tc := ⟨.hbm, 43, rfl⟩
abbrev main_v23 : Ref sig .tc := ⟨.hbm, 44, rfl⟩
abbrev main_call0_v0 : Ref sig .tc := ⟨.hbm, 45, rfl⟩
abbrev main_call0_v1 : Ref sig .tc := ⟨.hbm, 46, rfl⟩
abbrev main_call0_cst : Ref sig .tc := ⟨.hbm, 47, rfl⟩
abbrev main_call0_v2 : Ref sig .tc := ⟨.hbm, 48, rfl⟩
abbrev main_call0_v3 : Ref sig .tc := ⟨.hbm, 49, rfl⟩
abbrev main_call0_cst_0 : Ref sig .tc := ⟨.hbm, 50, rfl⟩
abbrev main_call0_v4 : Ref sig .tc := ⟨.hbm, 51, rfl⟩
abbrev main_call0_v5 : Ref sig .tc := ⟨.hbm, 52, rfl⟩
abbrev main_v24 : Ref sig .tc := ⟨.hbm, 53, rfl⟩
abbrev main_v25 : Ref sig .tc := ⟨.hbm, 54, rfl⟩
abbrev main_v26 : Ref sig .tc := ⟨.hbm, 55, rfl⟩
abbrev main_v27 : Ref sig .tc := ⟨.hbm, 56, rfl⟩
abbrev main_v28 : Ref sig .tc := ⟨.hbm, 57, rfl⟩
abbrev main_v29 : Ref sig .tc := ⟨.hbm, 58, rfl⟩
abbrev main_v30 : Ref sig .tc := ⟨.hbm, 59, rfl⟩
abbrev main_v31 : Ref sig .tc := ⟨.hbm, 60, rfl⟩
abbrev main_v32 : Ref sig .tc := ⟨.hbm, 61, rfl⟩
abbrev main_v33 : Ref sig .tc := ⟨.hbm, 62, rfl⟩
abbrev main_v34 : Ref sig .tc := ⟨.hbm, 63, rfl⟩
abbrev main_v35 : Ref sig .tc := ⟨.hbm, 64, rfl⟩
abbrev main_cst_2 : Ref sig .tc := ⟨.hbm, 65, rfl⟩
abbrev main_v36 : Ref sig .tc := ⟨.hbm, 66, rfl⟩
abbrev main_v37 : Ref sig .tc := ⟨.hbm, 67, rfl⟩
abbrev main_cst_3 : Ref sig .tc := ⟨.hbm, 68, rfl⟩
abbrev main_v38 : Ref sig .tc := ⟨.hbm, 69, rfl⟩
abbrev main_v39 : Ref sig .tc := ⟨.hbm, 70, rfl⟩
abbrev main_cst_4 : Ref sig .tc := ⟨.hbm, 71, rfl⟩
abbrev main_v40 : Ref sig .tc := ⟨.hbm, 72, rfl⟩
abbrev main_v41 : Ref sig .tc := ⟨.hbm, 73, rfl⟩
abbrev main_v42 : Ref sig .tc := ⟨.hbm, 74, rfl⟩
abbrev main_v43 : Ref sig .tc := ⟨.hbm, 75, rfl⟩
abbrev main_v44 : Ref sig .tc := ⟨.hbm, 76, rfl⟩
abbrev main_v45 : Ref sig .tc := ⟨.hbm, 77, rfl⟩
abbrev main_v46 : Ref sig .tc := ⟨.hbm, 78, rfl⟩
abbrev main_v47 : Ref sig .tc := ⟨.hbm, 79, rfl⟩
abbrev main_v48 : Ref sig .tc := ⟨.hbm, 80, rfl⟩
abbrev main_v49 : Ref sig .tc := ⟨.hbm, 81, rfl⟩
abbrev main_v50 : Ref sig .tc := ⟨.hbm, 82, rfl⟩
abbrev main_v51 : Ref sig .tc := ⟨.hbm, 83, rfl⟩
abbrev main_v52 : Ref sig .tc := ⟨.hbm, 84, rfl⟩
abbrev main_cst_5 : Ref sig .tc := ⟨.hbm, 85, rfl⟩
abbrev main_v53 : Ref sig .tc := ⟨.hbm, 86, rfl⟩
abbrev main_v54 : Ref sig .tc := ⟨.hbm, 87, rfl⟩
abbrev main_cst_6 : Ref sig .tc := ⟨.hbm, 88, rfl⟩
abbrev main_v55 : Ref sig .tc := ⟨.hbm, 89, rfl⟩
abbrev main_v56 : Ref sig .tc := ⟨.hbm, 90, rfl⟩
abbrev main_v57 : Ref sig .tc := ⟨.hbm, 91, rfl⟩
abbrev main_v58 : Ref sig .tc := ⟨.hbm, 92, rfl⟩
abbrev main_v59 : Ref sig .tc := ⟨.hbm, 93, rfl⟩
abbrev main_v60 : Ref sig .tc := ⟨.hbm, 94, rfl⟩
abbrev main_v61 : Ref sig .tc := ⟨.hbm, 95, rfl⟩
abbrev main_v62 : Ref sig .tc := ⟨.hbm, 96, rfl⟩
abbrev main_v63 : Ref sig .tc := ⟨.hbm, 97, rfl⟩
abbrev main_v64 : Ref sig .tc := ⟨.hbm, 98, rfl⟩
abbrev main_v65 : Ref sig .tc := ⟨.hbm, 99, rfl⟩
abbrev main_v66 : Ref sig .tc := ⟨.hbm, 100, rfl⟩
abbrev main_v67 : Ref sig .tc := ⟨.hbm, 101, rfl⟩
abbrev main_cst_7 : Ref sig .tc := ⟨.hbm, 102, rfl⟩
abbrev main_v68 : Ref sig .tc := ⟨.hbm, 103, rfl⟩
abbrev main_v69 : Ref sig .tc := ⟨.hbm, 104, rfl⟩
abbrev main_cst_8 : Ref sig .tc := ⟨.hbm, 105, rfl⟩
abbrev main_v70 : Ref sig .tc := ⟨.hbm, 106, rfl⟩
abbrev main_v71 : Ref sig .tc := ⟨.hbm, 107, rfl⟩
abbrev main_cst_9 : Ref sig .tc := ⟨.hbm, 108, rfl⟩
abbrev main_v72 : Ref sig .tc := ⟨.hbm, 109, rfl⟩
abbrev main_v73 : Ref sig .tc := ⟨.hbm, 110, rfl⟩
abbrev main_v74 : Ref sig .tc := ⟨.hbm, 111, rfl⟩
abbrev main_v75 : Ref sig .tc := ⟨.hbm, 112, rfl⟩
abbrev main_v76 : Ref sig .tc := ⟨.hbm, 113, rfl⟩
abbrev main_v77 : Ref sig .tc := ⟨.hbm, 114, rfl⟩
abbrev main_v78 : Ref sig .tc := ⟨.hbm, 115, rfl⟩
abbrev main_v79 : Ref sig .tc := ⟨.hbm, 116, rfl⟩
abbrev main_v80 : Ref sig .tc := ⟨.hbm, 117, rfl⟩
abbrev main_v81 : Ref sig .tc := ⟨.hbm, 118, rfl⟩
abbrev main_v82 : Ref sig .tc := ⟨.hbm, 119, rfl⟩
abbrev main_v83 : Ref sig .tc := ⟨.hbm, 120, rfl⟩
abbrev main_v84 : Ref sig .tc := ⟨.hbm, 121, rfl⟩
abbrev main_v85 : Ref sig .tc := ⟨.hbm, 122, rfl⟩
abbrev main_v86 : Ref sig .tc := ⟨.hbm, 123, rfl⟩
abbrev main_v87 : Ref sig .tc := ⟨.hbm, 124, rfl⟩
abbrev main_v88 : Ref sig .tc := ⟨.hbm, 125, rfl⟩
abbrev main_v89 : Ref sig .tc := ⟨.hbm, 126, rfl⟩
abbrev main_v90 : Ref sig .tc := ⟨.hbm, 127, rfl⟩
abbrev main_v91 : Ref sig .tc := ⟨.hbm, 128, rfl⟩
abbrev main_v92 : Ref sig .tc := ⟨.hbm, 129, rfl⟩
abbrev main_v93 : Ref sig .tc := ⟨.hbm, 130, rfl⟩
abbrev main_v94 : Ref sig .tc := ⟨.hbm, 131, rfl⟩
abbrev main_v95 : Ref sig .tc := ⟨.hbm, 132, rfl⟩
abbrev main_v96 : Ref sig .tc := ⟨.hbm, 133, rfl⟩
abbrev main_v97 : Ref sig .tc := ⟨.hbm, 134, rfl⟩
abbrev main_v98 : Ref sig .tc := ⟨.hbm, 135, rfl⟩
abbrev main_v99 : Ref sig .tc := ⟨.hbm, 136, rfl⟩
abbrev main_v100 : Ref sig .tc := ⟨.hbm, 137, rfl⟩
abbrev main_v101 : Ref sig .tc := ⟨.hbm, 138, rfl⟩
abbrev main_v102 : Ref sig .tc := ⟨.hbm, 139, rfl⟩
abbrev main_v103 : Ref sig .tc := ⟨.hbm, 140, rfl⟩
abbrev main_v104 : Ref sig .tc := ⟨.hbm, 141, rfl⟩
abbrev main_cst_10 : Ref sig .tc := ⟨.hbm, 142, rfl⟩
abbrev main_v105 : Ref sig .tc := ⟨.hbm, 143, rfl⟩
abbrev main_v106 : Ref sig .tc := ⟨.hbm, 144, rfl⟩
abbrev main_v107 : Ref sig .tc := ⟨.hbm, 145, rfl⟩
abbrev main_cst_11 : Ref sig .tc := ⟨.hbm, 146, rfl⟩
abbrev main_v108 : Ref sig .tc := ⟨.hbm, 147, rfl⟩
abbrev main_v109 : Ref sig .tc := ⟨.hbm, 148, rfl⟩
abbrev main_v110 : Ref sig .tc := ⟨.hbm, 149, rfl⟩
abbrev main_v111 : Ref sig .tc := ⟨.hbm, 150, rfl⟩
abbrev main_v112 : Ref sig .tc := ⟨.hbm, 151, rfl⟩

abbrev nD : Nat := 1
abbrev τ : Topo := Topo.v7x

variable {F : FTy → Type} [FloatOps F]
-- ==== Kernel4.lean ====
abbrev S128x1024 : Shape := ⟨2, ![128, 1024]⟩
abbrev S128x512 : Shape := ⟨2, ![128, 512]⟩
abbrev S2x8x16x256 : Shape := ⟨4, ![2, 8, 16, 256]⟩
abbrev S2x1024x1024 : Shape := ⟨3, ![2, 1024, 1024]⟩
abbrev S2x1024 : Shape := ⟨2, ![2, 1024]⟩
abbrev S2x1024x2816 : Shape := ⟨3, ![2, 1024, 2816]⟩
abbrev S2x2816x1024 : Shape := ⟨3, ![2, 2816, 1024]⟩
abbrev S2x256x1024 : Shape := ⟨3, ![2, 256, 1024]⟩
abbrev S1024 : Shape := ⟨1, ![1024]⟩
abbrev S2x1x1024 : Shape := ⟨3, ![2, 1, 1024]⟩
abbrev S2x128x256 : Shape := ⟨3, ![2, 128, 256]⟩
abbrev S1x1024 : Shape := ⟨2, ![1, 1024]⟩
abbrev S1x128x256 : Shape := ⟨3, ![1, 128, 256]⟩
abbrev S1x1024x1024 : Shape := ⟨3, ![1, 1024, 1024]⟩
abbrev S1x1x1024 : Shape := ⟨3, ![1, 1, 1024]⟩
abbrev S1x1024x2816 : Shape := ⟨3, ![1, 1024, 2816]⟩
abbrev S1x2816x1024 : Shape := ⟨3, ![1, 2816, 1024]⟩
abbrev S1x256x1024 : Shape := ⟨3, ![1, 256, 1024]⟩
abbrev S1x512x1024 : Shape := ⟨3, ![1, 512, 1024]⟩
abbrev S512x1024 : Shape := ⟨2, ![512, 1024]⟩
abbrev S128 : Shape := ⟨1, ![128]⟩
abbrev S128x1 : Shape := ⟨2, ![128, 1]⟩
abbrev S1024x2816 : Shape := ⟨2, ![1024, 2816]⟩
abbrev S128x2816 : Shape := ⟨2, ![128, 2816]⟩
abbrev S2816x1024 : Shape := ⟨2, ![2816, 1024]⟩
abbrev S1024x1024 : Shape := ⟨2, ![1024, 1024]⟩
abbrev S128x256 : Shape := ⟨2, ![128, 256]⟩
abbrev S256x1024 : Shape := ⟨2, ![256, 1024]⟩

abbrev nBuf : Space → Nat
  | .hbm => 24
  | .vmem => 14
  | .smem => 0
  | _ => 0

abbrev bufTy : (tb : Table) → Fin (tcTables nBuf tb) → BufTy
  | .hbm, ⟨0, _⟩ => ⟨S128x1024, .f32⟩
  | .hbm, ⟨1, _⟩ => ⟨S128x512, .bf16⟩
  | .hbm, ⟨2, _⟩ => ⟨S128x512, .bf16⟩
  | .hbm, ⟨3, _⟩ => ⟨S2x8x16x256, .f32⟩
  | .hbm, ⟨4, _⟩ => ⟨S2x1024x1024, .f32⟩
  | .hbm, ⟨5, _⟩ => ⟨S2x1024, .f32⟩
  | .hbm, ⟨6, _⟩ => ⟨S2x1024x2816, .f32⟩
  | .hbm, ⟨7, _⟩ => ⟨S2x1024x2816, .f32⟩
  | .hbm, ⟨8, _⟩ => ⟨S2x2816x1024, .f32⟩
  | .hbm, ⟨9, _⟩ => ⟨S2x1024, .f32⟩
  | .hbm, ⟨10, _⟩ => ⟨S2x1024x1024, .f32⟩
  | .hbm, ⟨11, _⟩ => ⟨S2x256x1024, .f32⟩
  | .hbm, ⟨12, _⟩ => ⟨S1024, .f32⟩
  | .hbm, ⟨13, _⟩ => ⟨S2x1x1024, .f32⟩
  | .hbm, ⟨14, _⟩ => ⟨S2x1x1024, .f32⟩
  | .hbm, ⟨15, _⟩ => ⟨S2x1024x1024, .bf16⟩
  | .hbm, ⟨16, _⟩ => ⟨S2x1024x2816, .bf16⟩
  | .hbm, ⟨17, _⟩ => ⟨S2x1024x2816, .bf16⟩
  | .hbm, ⟨18, _⟩ => ⟨S2x2816x1024, .bf16⟩
  | .hbm, ⟨19, _⟩ => ⟨S2x1024x1024, .bf16⟩
  | .hbm, ⟨20, _⟩ => ⟨S2x256x1024, .bf16⟩
  | .hbm, ⟨21, _⟩ => ⟨S2x128x256, .f32⟩
  | .hbm, ⟨22, _⟩ => ⟨S1x1024, .f32⟩
  | .hbm, ⟨23, _⟩ => ⟨S128x1024, .f32⟩
  | .local _ .vmem, ⟨0, _⟩ => ⟨S128x1024, .f32⟩
  | .local _ .vmem, ⟨1, _⟩ => ⟨S128x512, .bf16⟩
  | .local _ .vmem, ⟨2, _⟩ => ⟨S128x512, .bf16⟩
  | .local _ .vmem, ⟨3, _⟩ => ⟨S1x128x256, .f32⟩
  | .local _ .vmem, ⟨4, _⟩ => ⟨S1x1024x1024, .bf16⟩
  | .local _ .vmem, ⟨5, _⟩ => ⟨S1x1x1024, .f32⟩
  | .local _ .vmem, ⟨6, _⟩ => ⟨S1x1024x2816, .bf16⟩
  | .local _ .vmem, ⟨7, _⟩ => ⟨S1x1024x2816, .bf16⟩
  | .local _ .vmem, ⟨8, _⟩ => ⟨S1x2816x1024, .bf16⟩
  | .local _ .vmem, ⟨9, _⟩ => ⟨S1x1x1024, .f32⟩
  | .local _ .vmem, ⟨10, _⟩ => ⟨S1x1024x1024, .bf16⟩
  | .local _ .vmem, ⟨11, _⟩ => ⟨S1x256x1024, .bf16⟩
  | .local _ .vmem, ⟨12, _⟩ => ⟨S1x1024, .f32⟩
  | .local _ .vmem, ⟨13, _⟩ => ⟨S128x1024, .f32⟩
  | _, _ => ⟨S128x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_v0 : Ref sig .tc := ⟨.hbm, 13, rfl⟩
abbrev main_v1 : Ref sig .tc := ⟨.hbm, 14, rfl⟩
abbrev main_v2 : Ref sig .tc := ⟨.hbm, 15, rfl⟩
abbrev main_v3 : Ref sig .tc := ⟨.hbm, 16, rfl⟩
abbrev main_v4 : Ref sig .tc := ⟨.hbm, 17, rfl⟩
abbrev main_v5 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_stg9_0 : Ref sig .tc := ⟨.vmem, 9, rfl⟩
abbrev cc0_stg10_0 : Ref sig .tc := ⟨.vmem, 10, rfl⟩
abbrev cc0_stg11_0 : Ref sig .tc := ⟨.vmem, 11, rfl⟩
abbrev cc0_stg12_0 : Ref sig .tc := ⟨.vmem, 12, rfl⟩
abbrev cc0_stg13_0 : Ref sig .tc := ⟨.vmem, 13, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc0_sem9_0 : DmaSem sig := 9
abbrev cc0_sem10_0 : DmaSem sig := 10
abbrev cc0_sem11_0 : DmaSem sig := 11
abbrev cc0_sem12_0 : DmaSem sig := 12
abbrev cc0_sem13_0 : DmaSem sig := 13

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  ![c1_i32.toNat, arg0.toNat, c0_i32.toNat]

def cc0_transform_4 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  let c0_i32_1 : BitVec 32 := 0#32
  ![c1_i32.toNat, c0_i32.toNat, c0_i32_0.toNat]

def cc0_transform_5 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  let c0_i32_1 : BitVec 32 := 0#32
  ![c1_i32.toNat, c0_i32.toNat, c0_i32_0.toNat]

def cc0_transform_6 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  let c0_i32_1 : BitVec 32 := 0#32
  ![c1_i32.toNat, c0_i32.toNat, c0_i32_0.toNat]

def cc0_transform_7 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  let c0_i32_1 : BitVec 32 := 0#32
  ![c1_i32.toNat, c0_i32.toNat, c0_i32_0.toNat]

def cc0_transform_8 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  let c0_i32_1 : BitVec 32 := 0#32
  ![c1_i32.toNat, c0_i32.toNat, c0_i32_0.toNat]

def cc0_transform_9 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  let c0_i32_1 : BitVec 32 := 0#32
  ![c1_i32.toNat, c0_i32.toNat, c0_i32_0.toNat]

def cc0_transform_10 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  let c0_i32_1 : BitVec 32 := 0#32
  ![c1_i32.toNat, c0_i32.toNat, c0_i32_0.toNat]

def cc0_transform_11 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  let c0_i32_1 : BitVec 32 := 0#32
  ![c1_i32.toNat, c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S128x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S128x512 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S128x512 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S1x128x256 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S1x1024x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x1024x2816 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x1024x2816 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x2816x1024 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x1x1024 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1x1024x1024 .bf16 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S1x256x1024 .bf16 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S1x1024 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 1 → Memref sig .tc .vmem S128x1024 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![true]
-- ==== Reference4Ideal.lean ====
abbrev S128x1024 : Shape := ⟨2, ![128, 1024]⟩
abbrev S128x512 : Shape := ⟨2, ![128, 512]⟩
abbrev S2x8x16x256 : Shape := ⟨4, ![2, 8, 16, 256]⟩
abbrev S2x1024x1024 : Shape := ⟨3, ![2, 1024, 1024]⟩
abbrev S2x1024 : Shape := ⟨2, ![2, 1024]⟩
abbrev S2x1024x2816 : Shape := ⟨3, ![2, 1024, 2816]⟩
abbrev S2x2816x1024 : Shape := ⟨3, ![2, 2816, 1024]⟩
abbrev S2x256x1024 : Shape := ⟨3, ![2, 256, 1024]⟩
abbrev S1024 : Shape := ⟨1, ![1024]⟩
abbrev S1x1024x1024 : Shape := ⟨3, ![1, 1024, 1024]⟩
abbrev S1024x1024 : Shape := ⟨2, ![1024, 1024]⟩
abbrev S1x1024 : Shape := ⟨2, ![1, 1024]⟩
abbrev S_ : Shape := ⟨0, ![]⟩
abbrev S128 : Shape := ⟨1, ![128]⟩
abbrev S128x1 : Shape := ⟨2, ![128, 1]⟩
abbrev S1x1024x2816 : Shape := ⟨3, ![1, 1024, 2816]⟩
abbrev S1024x2816 : Shape := ⟨2, ![1024, 2816]⟩
abbrev S128x2816 : Shape := ⟨2, ![128, 2816]⟩
abbrev S1x2816x1024 : Shape := ⟨3, ![1, 2816, 1024]⟩
abbrev S2816x1024 : Shape := ⟨2, ![2816, 1024]⟩
abbrev S1x8x16x256 : Shape := ⟨4, ![1, 8, 16, 256]⟩
abbrev S8x16x256 : Shape := ⟨3, ![8, 16, 256]⟩
abbrev S128x256 : Shape := ⟨2, ![128, 256]⟩
abbrev S1x256x1024 : Shape := ⟨3, ![1, 256, 1024]⟩
abbrev S256x1024 : Shape := ⟨2, ![256, 1024]⟩

abbrev nBuf : Space → Nat
  | .hbm => 110
  | .vmem => 0
  | .smem => 0
  | _ => 0

abbrev bufTy : (tb : Table) → Fin (tcTables nBuf tb) → BufTy
  | .hbm, ⟨0, _⟩ => ⟨S128x1024, .f32⟩
  | .hbm, ⟨1, _⟩ => ⟨S128x512, .bf16⟩
  | .hbm, ⟨2, _⟩ => ⟨S128x512, .bf16⟩
  | .hbm, ⟨3, _⟩ => ⟨S2x8x16x256, .f32⟩
  | .hbm, ⟨4, _⟩ => ⟨S2x1024x1024, .f32⟩
  | .hbm, ⟨5, _⟩ => ⟨S2x1024, .f32⟩
  | .hbm, ⟨6, _⟩ => ⟨S2x1024x2816, .f32⟩
  | .hbm, ⟨7, _⟩ => ⟨S2x1024x2816, .f32⟩
  | .hbm, ⟨8, _⟩ => ⟨S2x2816x1024, .f32⟩
  | .hbm, ⟨9, _⟩ => ⟨S2x1024, .f32⟩
  | .hbm, ⟨10, _⟩ => ⟨S2x1024x1024, .f32⟩
  | .hbm, ⟨11, _⟩ => ⟨S2x256x1024, .f32⟩
  | .hbm, ⟨12, _⟩ => ⟨S1024, .f32⟩
  | .hbm, ⟨13, _⟩ => ⟨S128x1024, .bf16⟩
  | .hbm, ⟨14, _⟩ => ⟨S128x1024, .f32⟩
  | .hbm, ⟨15, _⟩ => ⟨S1x1024x1024, .f32⟩
  | .hbm, ⟨16, _⟩ => ⟨S1024x1024, .f32⟩
  | .hbm, ⟨17, _⟩ => ⟨S128x1024, .f32⟩
  | .hbm, ⟨18, _⟩ => ⟨S128x1024, .f32⟩
  | .hbm, ⟨19, _⟩ => ⟨S1x1024, .f32⟩
  | .hbm, ⟨20, _⟩ => ⟨S1024, .f32⟩
  | .hbm, ⟨21, _⟩ => ⟨S128x1024, .f32⟩
  | .hbm, ⟨22, _⟩ => ⟨S_, .f32⟩
  | .hbm, ⟨23, _⟩ => ⟨S128, .f32⟩
  | .hbm, ⟨24, _⟩ => ⟨S128x1, .f32⟩
  | .hbm, ⟨25, _⟩ => ⟨S_, .f32⟩
  | .hbm, ⟨26, _⟩ => ⟨S128x1, .f32⟩
  | .hbm, ⟨27, _⟩ => ⟨S128x1, .f32⟩
  | .hbm, ⟨28, _⟩ => ⟨S_, .f32⟩
  | .hbm, ⟨29, _⟩ => ⟨S128x1, .f32⟩
  | .hbm, ⟨30, _⟩ => ⟨S128x1, .f32⟩
  | .hbm, ⟨31, _⟩ => ⟨S128x1, .f32⟩
  | .hbm, ⟨32, _⟩ => ⟨S128x1024, .f32⟩
  | .hbm, ⟨33, _⟩ => ⟨S128x1024, .f32⟩
  | .hbm, ⟨34, _⟩ => ⟨S1x1024, .f32⟩
  | .hbm, ⟨35, _⟩ => ⟨S128x1024, .f32⟩
  | .hbm, ⟨36, _⟩ => ⟨S128x1024, .f32⟩
  | .hbm, ⟨37, _⟩ => ⟨S1x1024x2816, .f32⟩
  | .hbm, ⟨38, _⟩ => ⟨S1024x2816, .f32⟩
  | .hbm, ⟨39, _⟩ => ⟨S128x2816, .f32⟩
  | .hbm, ⟨40, _⟩ => ⟨S128x2816, .f32⟩
  | .hbm, ⟨41, _⟩ => ⟨S128x2816, .f32⟩
  | .hbm, ⟨42, _⟩ => ⟨S_, .f32⟩
  | .hbm, ⟨43, _⟩ => ⟨S128x2816, .f32⟩
  | .hbm, ⟨44, _⟩ => ⟨S128x2816, .f32⟩
  | .hbm, ⟨45, _⟩ => ⟨S_, .f32⟩
  | .hbm, ⟨46, _⟩ => ⟨S128x2816, .f32⟩
  | .hbm, ⟨47, _⟩ => ⟨S128x2816, .f32⟩
  | .hbm, ⟨48, _⟩ => ⟨S128x2816, .f32⟩
  | .hbm, ⟨49, _⟩ => ⟨S1x1024x2816, .f32⟩
  | .hbm, ⟨50, _⟩ => ⟨S1024x2816, .f32⟩
  | .hbm, ⟨51, _⟩ => ⟨S128x2816, .f32⟩
  | .hbm, ⟨52, _⟩ => ⟨S128x2816, .f32⟩
  | .hbm, ⟨53, _⟩ => ⟨S1x2816x1024, .f32⟩
  | .hbm, ⟨54, _⟩ => ⟨S2816x1024, .f32⟩
  | .hbm, ⟨55, _⟩ => ⟨S128x1024, .f32⟩
  | .hbm, ⟨56, _⟩ => ⟨S128x1024, .f32⟩
  | .hbm, ⟨57, _⟩ => ⟨S1x1024, .f32⟩
  | .hbm, ⟨58, _⟩ => ⟨S1024, .f32⟩
  | .hbm, ⟨59, _⟩ => ⟨S128x1024, .f32⟩
  | .hbm, ⟨60, _⟩ => ⟨S_, .f32⟩
  | .hbm, ⟨61, _⟩ => ⟨S128, .f32⟩
  | .hbm, ⟨62, _⟩ => ⟨S128x1, .f32⟩
  | .hbm, ⟨63, _⟩ => ⟨S_, .f32⟩
  | .hbm, ⟨64, _⟩ => ⟨S128x1, .f32⟩
  | .hbm, ⟨65, _⟩ => ⟨S128x1, .f32⟩
  | .hbm, ⟨66, _⟩ => ⟨S_, .f32⟩
  | .hbm, ⟨67, _⟩ => ⟨S128x1, .f32⟩
  | .hbm, ⟨68, _⟩ => ⟨S128x1, .f32⟩
  | .hbm, ⟨69, _⟩ => ⟨S128x1, .f32⟩
  | .hbm, ⟨70, _⟩ => ⟨S128x1024, .f32⟩
  | .hbm, ⟨71, _⟩ => ⟨S128x1024, .f32⟩
  | .hbm, ⟨72, _⟩ => ⟨S1x1024, .f32⟩
  | .hbm, ⟨73, _⟩ => ⟨S128x1024, .f32⟩
  | .hbm, ⟨74, _⟩ => ⟨S128x1024, .f32⟩
  | .hbm, ⟨75, _⟩ => ⟨S1x1024x1024, .f32⟩
  | .hbm, ⟨76, _⟩ => ⟨S1024x1024, .f32⟩
  | .hbm, ⟨77, _⟩ => ⟨S128x1024, .f32⟩
  | .hbm, ⟨78, _⟩ => ⟨S128x1024, .f32⟩
  | .hbm, ⟨79, _⟩ => ⟨S128x1024, .f32⟩
  | .hbm, ⟨80, _⟩ => ⟨S_, .f32⟩
  | .hbm, ⟨81, _⟩ => ⟨S128x1024, .f32⟩
  | .hbm, ⟨82, _⟩ => ⟨S128x1024, .f32⟩
  | .hbm, ⟨83, _⟩ => ⟨S_, .f32⟩
  | .hbm, ⟨84, _⟩ => ⟨S128x1024, .f32⟩
  | .hbm, ⟨85, _⟩ => ⟨S128x1024, .f32⟩
  | .hbm, ⟨86, _⟩ => ⟨S1x8x16x256, .f32⟩
  | .hbm, ⟨87, _⟩ => ⟨S8x16x256, .f32⟩
  | .hbm, ⟨88, _⟩ => ⟨S128x256, .f32⟩
  | .hbm, ⟨89, _⟩ => ⟨S1x256x1024, .f32⟩
  | .hbm, ⟨90, _⟩ => ⟨S256x1024, .f32⟩
  | .hbm, ⟨91, _⟩ => ⟨S128x1024, .f32⟩
  | .hbm, ⟨92, _⟩ => ⟨S128x1024, .f32⟩
  | .hbm, ⟨93, _⟩ => ⟨S128x1024, .f32⟩
  | .hbm, ⟨94, _⟩ => ⟨S128x1024, .f32⟩
  | .hbm, ⟨95, _⟩ => ⟨S_, .f32⟩
  | .hbm, ⟨96, _⟩ => ⟨S128, .f32⟩
  | .hbm, ⟨97, _⟩ => ⟨S128x1, .f32⟩
  | .hbm, ⟨98, _⟩ => ⟨S_, .f32⟩
  | .hbm, ⟨99, _⟩ => ⟨S128x1, .f32⟩
  | .hbm, ⟨100, _⟩ => ⟨S128x1, .f32⟩
  | .hbm, ⟨101, _⟩ => ⟨S_, .f32⟩
  | .hbm, ⟨102, _⟩ => ⟨S128x1, .f32⟩
  | .hbm, ⟨103, _⟩ => ⟨S128x1, .f32⟩
  | .hbm, ⟨104, _⟩ => ⟨S128x1, .f32⟩
  | .hbm, ⟨105, _⟩ => ⟨S128x1024, .f32⟩
  | .hbm, ⟨106, _⟩ => ⟨S128x1024, .f32⟩
  | .hbm, ⟨107, _⟩ => ⟨S1x1024, .f32⟩
  | .hbm, ⟨108, _⟩ => ⟨S128x1024, .f32⟩
  | .hbm, ⟨109, _⟩ => ⟨S128x1024, .f32⟩
  | _, _ => ⟨S128x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_v0 : Ref sig .tc := ⟨.hbm, 13, rfl⟩
abbrev main_v1 : Ref sig .tc := ⟨.hbm, 14, rfl⟩
abbrev main_v2 : Ref sig .tc := ⟨.hbm, 15, rfl⟩
abbrev main_v3 : Ref sig .tc := ⟨.hbm, 16, rfl⟩
abbrev main_v4 : Ref sig .tc := ⟨.hbm, 17, rfl⟩
abbrev main_v5 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_cst : Ref sig .tc := ⟨.hbm, 22, rfl⟩
abbrev main_v9 : Ref sig .tc := ⟨.hbm, 23, rfl⟩
abbrev main_v10 : Ref sig .tc := ⟨.hbm, 24, rfl⟩
abbrev main_cst_0 : Ref sig .tc := ⟨.hbm, 25, rfl⟩
abbrev main_v11 : Ref sig .tc := ⟨.hbm, 26, rfl⟩
abbrev main_v12 : Ref sig .tc := ⟨.hbm, 27, rfl⟩
abbrev main_cst_1 : Ref sig .tc := ⟨.hbm, 28, rfl⟩
abbrev main_v13 : Ref sig .tc := ⟨.hbm, 29, rfl⟩
abbrev main_v14 : Ref sig .tc := ⟨.hbm, 30, rfl⟩
abbrev main_v15 : Ref sig .tc := ⟨.hbm, 31, rfl⟩
abbrev main_v16 : Ref sig .tc := ⟨.hbm, 32, rfl⟩
abbrev main_v17 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_v22 : Ref sig .tc := ⟨.hbm, 38, rfl⟩
abbrev main_v23 : Ref sig .tc := ⟨.hbm, 39, rfl⟩
abbrev main_call0_v0 : Ref sig .tc := ⟨.hbm, 40, rfl⟩
abbrev main_call0_v1 : Ref sig .tc := ⟨.hbm, 41, rfl⟩
abbrev main_call0_cst : Ref sig .tc := ⟨.hbm, 42, rfl⟩
abbrev main_call0_v2 : Ref sig .tc := ⟨.hbm, 43, rfl⟩
abbrev main_call0_v3 : Ref sig .tc := ⟨.hbm, 44, rfl⟩
abbrev main_call0_cst_0 : Ref sig .tc := ⟨.hbm, 45, rfl⟩
abbrev main_call0_v4 : Ref sig .tc := ⟨.hbm, 46, rfl⟩
abbrev main_call0_v5 : Ref sig .tc := ⟨.hbm, 47, rfl⟩
abbrev main_v24 : Ref sig .tc := ⟨.hbm, 48, rfl⟩
abbrev main_v25 : Ref sig .tc := ⟨.hbm, 49, rfl⟩
abbrev main_v26 : Ref sig .tc := ⟨.hbm, 50, rfl⟩
abbrev main_v27 : Ref sig .tc := ⟨.hbm, 51, rfl⟩
abbrev main_v28 : Ref sig .tc := ⟨.hbm, 52, rfl⟩
abbrev main_v29 : Ref sig .tc := ⟨.hbm, 53, rfl⟩
abbrev main_v30 : Ref sig .tc := ⟨.hbm, 54, rfl⟩
abbrev main_v31 : Ref sig .tc := ⟨.hbm, 55, rfl⟩
abbrev main_v32 : Ref sig .tc := ⟨.hbm, 56, rfl⟩
abbrev main_v33 : Ref sig .tc := ⟨.hbm, 57, rfl⟩
abbrev main_v34 : Ref sig .tc := ⟨.hbm, 58, rfl⟩
abbrev main_v35 : Ref sig .tc := ⟨.hbm, 59, rfl⟩
abbrev main_cst_2 : Ref sig .tc := ⟨.hbm, 60, rfl⟩
abbrev main_v36 : Ref sig .tc := ⟨.hbm, 61, rfl⟩
abbrev main_v37 : Ref sig .tc := ⟨.hbm, 62, rfl⟩
abbrev main_cst_3 : Ref sig .tc := ⟨.hbm, 63, rfl⟩
abbrev main_v38 : Ref sig .tc := ⟨.hbm, 64, rfl⟩
abbrev main_v39 : Ref sig .tc := ⟨.hbm, 65, rfl⟩
abbrev main_cst_4 : Ref sig .tc := ⟨.hbm, 66, rfl⟩
abbrev main_v40 : Ref sig .tc := ⟨.hbm, 67, rfl⟩
abbrev main_v41 : Ref sig .tc := ⟨.hbm, 68, rfl⟩
abbrev main_v42 : Ref sig .tc := ⟨.hbm, 69, rfl⟩
abbrev main_v43 : Ref sig .tc := ⟨.hbm, 70, rfl⟩
abbrev main_v44 : Ref sig .tc := ⟨.hbm, 71, rfl⟩
abbrev main_v45 : Ref sig .tc := ⟨.hbm, 72, rfl⟩
abbrev main_v46 : Ref sig .tc := ⟨.hbm, 73, rfl⟩
abbrev main_v47 : Ref sig .tc := ⟨.hbm, 74, rfl⟩
abbrev main_v48 : Ref sig .tc := ⟨.hbm, 75, rfl⟩
abbrev main_v49 : Ref sig .tc := ⟨.hbm, 76, rfl⟩
abbrev main_v50 : Ref sig .tc := ⟨.hbm, 77, rfl⟩
abbrev main_v51 : Ref sig .tc := ⟨.hbm, 78, rfl⟩
abbrev main_v52 : Ref sig .tc := ⟨.hbm, 79, rfl⟩
abbrev main_cst_5 : Ref sig .tc := ⟨.hbm, 80, rfl⟩
abbrev main_v53 : Ref sig .tc := ⟨.hbm, 81, rfl⟩
abbrev main_v54 : Ref sig .tc := ⟨.hbm, 82, rfl⟩
abbrev main_cst_6 : Ref sig .tc := ⟨.hbm, 83, rfl⟩
abbrev main_v55 : Ref sig .tc := ⟨.hbm, 84, rfl⟩
abbrev main_v56 : Ref sig .tc := ⟨.hbm, 85, rfl⟩
abbrev main_v57 : Ref sig .tc := ⟨.hbm, 86, rfl⟩
abbrev main_v58 : Ref sig .tc := ⟨.hbm, 87, rfl⟩
abbrev main_v59 : Ref sig .tc := ⟨.hbm, 88, rfl⟩
abbrev main_v60 : Ref sig .tc := ⟨.hbm, 89, rfl⟩
abbrev main_v61 : Ref sig .tc := ⟨.hbm, 90, rfl⟩
abbrev main_v62 : Ref sig .tc := ⟨.hbm, 91, rfl⟩
abbrev main_v63 : Ref sig .tc := ⟨.hbm, 92, rfl⟩
abbrev main_v64 : Ref sig .tc := ⟨.hbm, 93, rfl⟩
abbrev main_v65 : Ref sig .tc := ⟨.hbm, 94, rfl⟩
abbrev main_cst_7 : Ref sig .tc := ⟨.hbm, 95, rfl⟩
abbrev main_v66 : Ref sig .tc := ⟨.hbm, 96, rfl⟩
abbrev main_v67 : Ref sig .tc := ⟨.hbm, 97, rfl⟩
abbrev main_cst_8 : Ref sig .tc := ⟨.hbm, 98, rfl⟩
abbrev main_v68 : Ref sig .tc := ⟨.hbm, 99, rfl⟩
abbrev main_v69 : Ref sig .tc := ⟨.hbm, 100, rfl⟩
abbrev main_cst_9 : Ref sig .tc := ⟨.hbm, 101, rfl⟩
abbrev main_v70 : Ref sig .tc := ⟨.hbm, 102, rfl⟩
abbrev main_v71 : Ref sig .tc := ⟨.hbm, 103, rfl⟩
abbrev main_v72 : Ref sig .tc := ⟨.hbm, 104, rfl⟩
abbrev main_v73 : Ref sig .tc := ⟨.hbm, 105, rfl⟩
abbrev main_v74 : Ref sig .tc := ⟨.hbm, 106, rfl⟩
abbrev main_v75 : Ref sig .tc := ⟨.hbm, 107, rfl⟩
abbrev main_v76 : Ref sig .tc := ⟨.hbm, 108, rfl⟩
abbrev main_v77 : Ref sig .tc := ⟨.hbm, 109, rfl⟩

abbrev nD : Nat := 1
abbrev τ : Topo := Topo.v7x

variable {F : FTy → Type} [FloatOps F]
-- ==== Kernel5.lean ====
abbrev S128x1024 : Shape := ⟨2, ![128, 1024]⟩
abbrev S128x512 : Shape := ⟨2, ![128, 512]⟩
abbrev S2x8x16x256 : Shape := ⟨4, ![2, 8, 16, 256]⟩
abbrev S2x1024x1024 : Shape := ⟨3, ![2, 1024, 1024]⟩
abbrev S2x1024 : Shape := ⟨2, ![2, 1024]⟩
abbrev S2x1024x2816 : Shape := ⟨3, ![2, 1024, 2816]⟩
abbrev S2x2816x1024 : Shape := ⟨3, ![2, 2816, 1024]⟩
abbrev S2x256x1024 : Shape := ⟨3, ![2, 256, 1024]⟩
abbrev S2x1024x3072 : Shape := ⟨3, ![2, 1024, 3072]⟩
abbrev S2x1x1024 : Shape := ⟨3, ![2, 1, 1024]⟩
abbrev S2x3072x1024 : Shape := ⟨3, ![2, 3072, 1024]⟩
abbrev S2x128x256 : Shape := ⟨3, ![2, 128, 256]⟩
abbrev S1x128x256 : Shape := ⟨3, ![1, 128, 256]⟩
abbrev S1x1024x1024 : Shape := ⟨3, ![1, 1024, 1024]⟩
abbrev S1x1x1024 : Shape := ⟨3, ![1, 1, 1024]⟩
abbrev S1x1024x2816 : Shape := ⟨3, ![1, 1024, 2816]⟩
abbrev S1x2816x1024 : Shape := ⟨3, ![1, 2816, 1024]⟩
abbrev S1x256x1024 : Shape := ⟨3, ![1, 256, 1024]⟩
abbrev S1x3072x1024 : Shape := ⟨3, ![1, 3072, 1024]⟩
abbrev S1x512x1024 : Shape := ⟨3, ![1, 512, 1024]⟩
abbrev S512x1024 : Shape := ⟨2, ![512, 1024]⟩
abbrev S128 : Shape := ⟨1, ![128]⟩
abbrev S128x1 : Shape := ⟨2, ![128, 1]⟩
abbrev S1x1024 : Shape := ⟨2, ![1, 1024]⟩
abbrev S1024x2816 : Shape := ⟨2, ![1024, 2816]⟩
abbrev S128x2816 : Shape := ⟨2, ![128, 2816]⟩
abbrev S2816x1024 : Shape := ⟨2, ![2816, 1024]⟩
abbrev S1024x1024 : Shape := ⟨2, ![1024, 1024]⟩
abbrev S128x256 : Shape := ⟨2, ![128, 256]⟩
abbrev S256x1024 : Shape := ⟨2, ![256, 1024]⟩

abbrev nBuf : Space → Nat
  | .hbm => 33
  | .vmem => 21
  | .smem => 0
  | _ => 0

abbrev bufTy : (tb : Table) → Fin (tcTables nBuf tb) → BufTy
  | .hbm, ⟨0, _⟩ => ⟨S128x1024, .f32⟩
  | .hbm, ⟨1, _⟩ => ⟨S128x512, .bf16⟩
  | .hbm, ⟨2, _⟩ => ⟨S128x512, .bf16⟩
  | .hbm, ⟨3, _⟩ => ⟨S2x8x16x256, .f32⟩
  | .hbm, ⟨4, _⟩ => ⟨S2x1024x1024, .f32⟩
  | .hbm, ⟨5, _⟩ => ⟨S2x1024, .f32⟩
  | .hbm, ⟨6, _⟩ => ⟨S2x1024x2816, .f32⟩
  | .hbm, ⟨7, _⟩ => ⟨S2x1024x2816, .f32⟩
  | .hbm, ⟨8, _⟩ => ⟨S2x2816x1024, .f32⟩
  | .hbm, ⟨9, _⟩ => ⟨S2x1024, .f32⟩
  | .hbm, ⟨10, _⟩ => ⟨S2x1024x1024, .f32⟩
  | .hbm, ⟨11, _⟩ => ⟨S2x256x1024, .f32⟩
  | .hbm, ⟨12, _⟩ => ⟨S2x1024, .f32⟩
  | .hbm, ⟨13, _⟩ => ⟨S2x1024x3072, .f32⟩
  | .hbm, ⟨14, _⟩ => ⟨S2x1x1024, .f32⟩
  | .hbm, ⟨15, _⟩ => ⟨S2x1x1024, .f32⟩
  | .hbm, ⟨16, _⟩ => ⟨S2x1x1024, .f32⟩
  | .hbm, ⟨17, _⟩ => ⟨S2x3072x1024, .f32⟩
  | .hbm, ⟨18, _⟩ => ⟨S2x3072x1024, .bf16⟩
  | .hbm, ⟨19, _⟩ => ⟨S2x1024x1024, .bf16⟩
  | .hbm, ⟨20, _⟩ => ⟨S2x1024x2816, .bf16⟩
  | .hbm, ⟨21, _⟩ => ⟨S2x1024x2816, .bf16⟩
  | .hbm, ⟨22, _⟩ => ⟨S2x2816x1024, .bf16⟩
  | .hbm, ⟨23, _⟩ => ⟨S2x1024x1024, .bf16⟩
  | .hbm, ⟨24, _⟩ => ⟨S2x256x1024, .bf16⟩
  | .hbm, ⟨25, _⟩ => ⟨S2x128x256, .f32⟩
  | .hbm, ⟨26, _⟩ => ⟨S128x1024, .f32⟩
  | .hbm, ⟨27, _⟩ => ⟨S128x512, .bf16⟩
  | .hbm, ⟨28, _⟩ => ⟨S128x512, .bf16⟩
  | .hbm, ⟨29, _⟩ => ⟨S128x512, .f32⟩
  | .hbm, ⟨30, _⟩ => ⟨S128x512, .f32⟩
  | .hbm, ⟨31, _⟩ => ⟨S128x512, .f32⟩
  | .hbm, ⟨32, _⟩ => ⟨S128x512, .f32⟩
  | .local _ .vmem, ⟨0, _⟩ => ⟨S128x1024, .f32⟩
  | .local _ .vmem, ⟨1, _⟩ => ⟨S128x512, .bf16⟩
  | .local _ .vmem, ⟨2, _⟩ => ⟨S128x512, .bf16⟩
  | .local _ .vmem, ⟨3, _⟩ => ⟨S1x128x256, .f32⟩
  | .local _ .vmem, ⟨4, _⟩ => ⟨S1x1024x1024, .bf16⟩
  | .local _ .vmem, ⟨5, _⟩ => ⟨S1x1x1024, .f32⟩
  | .local _ .vmem, ⟨6, _⟩ => ⟨S1x1024x2816, .bf16⟩
  | .local _ .vmem, ⟨7, _⟩ => ⟨S1x1024x2816, .bf16⟩
  | .local _ .vmem, ⟨8, _⟩ => ⟨S1x2816x1024, .bf16⟩
  | .local _ .vmem, ⟨9, _⟩ => ⟨S1x1x1024, .f32⟩
  | .local _ .vmem, ⟨10, _⟩ => ⟨S1x1024x1024, .bf16⟩
  | .local _ .vmem, ⟨11, _⟩ => ⟨S1x256x1024, .bf16⟩
  | .local _ .vmem, ⟨12, _⟩ => ⟨S1x1x1024, .f32⟩
  | .local _ .vmem, ⟨13, _⟩ => ⟨S1x3072x1024, .bf16⟩
  | .local _ .vmem, ⟨14, _⟩ => ⟨S128x1024, .f32⟩
  | .local _ .vmem, ⟨15, _⟩ => ⟨S128x512, .bf16⟩
  | .local _ .vmem, ⟨16, _⟩ => ⟨S128x512, .bf16⟩
  | .local _ .vmem, ⟨17, _⟩ => ⟨S128x512, .f32⟩
  | .local _ .vmem, ⟨18, _⟩ => ⟨S128x512, .f32⟩
  | .local _ .vmem, ⟨19, _⟩ => ⟨S128x512, .f32⟩
  | .local _ .vmem, ⟨20, _⟩ => ⟨S128x512, .f32⟩
  | _, _ => ⟨S128x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | _, _ => false

abbrev semScoped : Fin 0 → Bool
  | ⟨_, h⟩ => absurd h (Nat.not_lt_zero _)

abbrev dmaSemScoped : Fin 21 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | _ => false

abbrev sig : RefSig :=
  ofTc nBuf bufTy 0 21 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_v0 : Ref sig .tc := ⟨.hbm, 14, rfl⟩
abbrev main_v1 : Ref sig .tc := ⟨.hbm, 15, rfl⟩
abbrev main_v2 : Ref sig .tc := ⟨.hbm, 16, rfl⟩
abbrev main_v3 : Ref sig .tc := ⟨.hbm, 17, rfl⟩
abbrev main_v4 : Ref sig .tc := ⟨.hbm, 18, rfl⟩
abbrev main_v5 : Ref sig .tc := ⟨.hbm, 19, rfl⟩
abbrev main_v6 : Ref sig .tc := ⟨.hbm, 20, rfl⟩
abbrev main_v7 : Ref sig .tc := ⟨.hbm, 21, rfl⟩
abbrev main_v8 : Ref sig .tc := ⟨.hbm, 22, rfl⟩
abbrev main_v9 : Ref sig .tc := ⟨.hbm, 23, rfl⟩
abbrev main_v10 : Ref sig .tc := ⟨.hbm, 24, rfl⟩
abbrev main_v11 : Ref sig .tc := ⟨.hbm, 25, rfl⟩
abbrev main_v12_0 : Ref sig .tc := ⟨.hbm, 26, rfl⟩
abbrev main_v12_1 : Ref sig .tc := ⟨.hbm, 27, rfl⟩
abbrev main_v12_2 : Ref sig .tc := ⟨.hbm, 28, rfl⟩
abbrev main_v12_3 : Ref sig .tc := ⟨.hbm, 29, rfl⟩
abbrev main_v12_4 : Ref sig .tc := ⟨.hbm, 30, rfl⟩
abbrev main_v12_5 : Ref sig .tc := ⟨.hbm, 31, rfl⟩
abbrev main_v12_6 : Ref sig .tc := ⟨.hbm, 32, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_stg9_0 : Ref sig .tc := ⟨.vmem, 9, rfl⟩
abbrev cc0_stg10_0 : Ref sig .tc := ⟨.vmem, 10, rfl⟩
abbrev cc0_stg11_0 : Ref sig .tc := ⟨.vmem, 11, rfl⟩
abbrev cc0_stg12_0 : Ref sig .tc := ⟨.vmem, 12, rfl⟩
abbrev cc0_stg13_0 : Ref sig .tc := ⟨.vmem, 13, rfl⟩
abbrev cc0_stg14_0 : Ref sig .tc := ⟨.vmem, 14, rfl⟩
abbrev cc0_stg15_0 : Ref sig .tc := ⟨.vmem, 15, rfl⟩
abbrev cc0_stg16_0 : Ref sig .tc := ⟨.vmem, 16, rfl⟩
abbrev cc0_stg17_0 : Ref sig .tc := ⟨.vmem, 17, rfl⟩
abbrev cc0_stg18_0 : Ref sig .tc := ⟨.vmem, 18, rfl⟩
abbrev cc0_stg19_0 : Ref sig .tc := ⟨.vmem, 19, rfl⟩
abbrev cc0_stg20_0 : Ref sig .tc := ⟨.vmem, 20, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc0_sem9_0 : DmaSem sig := 9
abbrev cc0_sem10_0 : DmaSem sig := 10
abbrev cc0_sem11_0 : DmaSem sig := 11
abbrev cc0_sem12_0 : DmaSem sig := 12
abbrev cc0_sem13_0 : DmaSem sig := 13
abbrev cc0_sem14_0 : DmaSem sig := 14
abbrev cc0_sem15_0 : DmaSem sig := 15
abbrev cc0_sem16_0 : DmaSem sig := 16
abbrev cc0_sem17_0 : DmaSem sig := 17
abbrev cc0_sem18_0 : DmaSem sig := 18
abbrev cc0_sem19_0 : DmaSem sig := 19
abbrev cc0_sem20_0 : DmaSem sig := 20

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_7 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_8 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_9 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_10 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_11 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_12 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  let c0_i32_1 : BitVec 32 := 0#32
  ![c1_i32.toNat, c0_i32.toNat, c0_i32_0.toNat]

def cc0_transform_13 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  let c0_i32_1 : BitVec 32 := 0#32
  ![c1_i32.toNat, c0_i32.toNat, c0_i32_0.toNat]

def cc0_transform_14 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_15 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_16 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_17 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_18 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_19 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_20 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S128x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S128x512 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S128x512 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S1x128x256 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S1x1024x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x1024x2816 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x1024x2816 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x2816x1024 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x1x1024 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1x1024x1024 .bf16 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S1x256x1024 .bf16 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S1x1x1024 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 1 → Memref sig .tc .vmem S1x3072x1024 .bf16 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]

abbrev stage0_14 : Fin 1 → Memref sig .tc .vmem S128x1024 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![true]

abbrev stage0_15 : Fin 1 → Memref sig .tc .vmem S128x512 .bf16 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))
abbrev reads0_15 : Fin grid0.rank → Bool := ![true]

abbrev stage0_16 : Fin 1 → Memref sig .tc .vmem S128x512 .bf16 := fun | 0 => Memref.whole cc0_stg16_0 | ⟨_ + 1, h⟩ => absurd h (Nat.not_lt.2 (Nat.le_add_left _ _))
abbrev sem0_16 : Fin 1 → DmaSem sig := fun | 0 => cc0_sem16_0 | ⟨_ + 1, h⟩ => absurd h (Nat.not_lt.2 (Nat.le_add_left _ _))
abbrev reads0_16 : Fin grid0.rank → Bool := ![true]

abbrev stage0_17 : Fin 1 → Memref sig .tc .vmem S128x512 .f32 := fun | 0 => Memref.whole cc0_stg17_0 | ⟨_ + 1, h⟩ => absurd h (Nat.not_lt.2 (Nat.le_add_left _ _))
abbrev sem0_17 : Fin 1 → DmaSem sig := fun | 0 => cc0_sem17_0 | ⟨_ + 1, h⟩ => absurd h (Nat.not_lt.2 (Nat.le_add_left _ _))
abbrev reads0_17 : Fin grid0.rank → Bool := ![true]

abbrev stage0_18 : Fin 1 → Memref sig .tc .vmem S128x512 .f32 := fun | 0 => Memref.whole cc0_stg18_0 | ⟨_ + 1, h⟩ => absurd h (Nat.not_lt.2 (Nat.le_add_left _ _))
abbrev sem0_18 : Fin 1 → DmaSem sig := fun | 0 => cc0_sem18_0 | ⟨_ + 1, h⟩ => absurd h (Nat.not_lt.2 (Nat.le_add_left _ _))
abbrev reads0_18 : Fin grid0.rank → Bool := ![true]

abbrev stage0_19 : Fin 1 → Memref sig .tc .vmem S128x512 .f32 := fun | 0 => Memref.whole cc0_stg19_0 | ⟨_ + 1, h⟩ => absurd h (Nat.not_lt.2 (Nat.le_add_left _ _))
abbrev sem0_19 : Fin 1 → DmaSem sig := fun | 0 => cc0_sem19_0 | ⟨_ + 1, h⟩ => absurd h (Nat.not_lt.2 (Nat.le_add_left _ _))
abbrev reads0_19 : Fin grid0.rank → Bool := ![true]

abbrev stage0_20 : Fin 1 → Memref sig .tc .vmem S128x512 .f32 := fun | 0 => Memref.whole cc0_stg20_0 | ⟨_ + 1, h⟩ => absurd h (Nat.not_lt.2 (Nat.le_add_left _ _))
abbrev sem0_20 : Fin 1 → DmaSem sig := fun | 0 => cc0_sem20_0 | ⟨_ + 1, h⟩ => absurd h (Nat.not_lt.2 (Nat.le_add_left _ _))
abbrev reads0_20 : Fin grid0.rank → Bool := ![true]
-- ==== Reference5Ideal.lean ====
abbrev S128x1024 : Shape := ⟨2, ![128, 1024]⟩
abbrev S128x512 : Shape := ⟨2, ![128, 512]⟩
abbrev S2x8x16x256 : Shape := ⟨4, ![2, 8, 16, 256]⟩
abbrev S2x1024x1024 : Shape := ⟨3, ![2, 1024, 1024]⟩
abbrev S2x1024 : Shape := ⟨2, ![2, 1024]⟩
abbrev S2x1024x2816 : Shape := ⟨3, ![2, 1024, 2816]⟩
abbrev S2x2816x1024 : Shape := ⟨3, ![2, 2816, 1024]⟩
abbrev S2x256x1024 : Shape := ⟨3, ![2, 256, 1024]⟩
abbrev S2x1024x3072 : Shape := ⟨3, ![2, 1024, 3072]⟩
abbrev S1x1024x1024 : Shape := ⟨3, ![1, 1024, 1024]⟩
abbrev S1024x1024 : Shape := ⟨2, ![1024, 1024]⟩
abbrev S1x1024 : Shape := ⟨2, ![1, 1024]⟩
abbrev S1024 : Shape := ⟨1, ![1024]⟩
abbrev S_ : Shape := ⟨0, ![]⟩
abbrev S128 : Shape := ⟨1, ![128]⟩
abbrev S128x1 : Shape := ⟨2, ![128, 1]⟩
abbrev S1x1024x2816 : Shape := ⟨3, ![1, 1024, 2816]⟩
abbrev S1024x2816 : Shape := ⟨2, ![1024, 2816]⟩
abbrev S128x2816 : Shape := ⟨2, ![128, 2816]⟩
abbrev S1x2816x1024 : Shape := ⟨3, ![1, 2816, 1024]⟩
abbrev S2816x1024 : Shape := ⟨2, ![2816, 1024]⟩
abbrev S1x8x16x256 : Shape := ⟨4, ![1, 8, 16, 256]⟩
abbrev S8x16x256 : Shape := ⟨3, ![8, 16, 256]⟩
abbrev S128x256 : Shape := ⟨2, ![128, 256]⟩
abbrev S1x256x1024 : Shape := ⟨3, ![1, 256, 1024]⟩
abbrev S256x1024 : Shape := ⟨2, ![256, 1024]⟩
abbrev S1x1024x3072 : Shape := ⟨3, ![1, 1024, 3072]⟩
abbrev S1024x3072 : Shape := ⟨2, ![1024, 3072]⟩
abbrev S128x3072 : Shape := ⟨2, ![128, 3072]⟩

abbrev nBuf : Space → Nat
  | .hbm => 130
  | .vmem => 0
  | .smem => 0
  | _ => 0

abbrev hbmTy0_0 (i : Nat) : BufTy := match i % 128 with
  | 0 => ⟨S128x1024, .f32⟩
  | 1 => ⟨S128x512, .bf16⟩
  | 2 => ⟨S128x512, .bf16⟩
  | 3 => ⟨S2x8x16x256, .f32⟩
  | 4 => ⟨S2x1024x1024, .f32⟩
  | 5 => ⟨S2x1024, .f32⟩
  | 6 => ⟨S2x1024x2816, .f32⟩
  | 7 => ⟨S2x1024x2816, .f32⟩
  | 8 => ⟨S2x2816x1024, .f32⟩
  | 9 => ⟨S2x1024, .f32⟩
  | 10 => ⟨S2x1024x1024, .f32⟩
  | 11 => ⟨S2x256x1024, .f32⟩
  | 12 => ⟨S2x1024, .f32⟩
  | 13 => ⟨S2x1024x3072, .f32⟩
  | 14 => ⟨S128x1024, .bf16⟩
  | 15 => ⟨S128x1024, .f32⟩
  | 16 => ⟨S1x1024x1024, .f32⟩
  | 17 => ⟨S1024x1024, .f32⟩
  | 18 => ⟨S128x1024, .f32⟩
  | 19 => ⟨S128x1024, .f32⟩
  | 20 => ⟨S1x1024, .f32⟩
  | 21 => ⟨S1024, .f32⟩
  | 22 => ⟨S128x1024, .f32⟩
  | 23 => ⟨S_, .f32⟩
  | 24 => ⟨S128, .f32⟩
  | 25 => ⟨S128x1, .f32⟩
  | 26 => ⟨S_, .f32⟩
  | 27 => ⟨S128x1, .f32⟩
  | 28 => ⟨S128x1, .f32⟩
  | 29 => ⟨S_, .f32⟩
  | 30 => ⟨S128x1, .f32⟩
  | 31 => ⟨S128x1, .f32⟩
  | 32 => ⟨S128x1, .f32⟩
  | 33 => ⟨S128x1024, .f32⟩
  | 34 => ⟨S128x1024, .f32⟩
  | 35 => ⟨S1x1024, .f32⟩
  | 36 => ⟨S128x1024, .f32⟩
  | 37 => ⟨S128x1024, .f32⟩
  | 38 => ⟨S1x1024x2816, .f32⟩
  | 39 => ⟨S1024x2816, .f32⟩
  | 40 => ⟨S128x2816, .f32⟩
  | 41 => ⟨S128x2816, .f32⟩
  | 42 => ⟨S128x2816, .f32⟩
  | 43 => ⟨S_, .f32⟩
  | 44 => ⟨S128x2816, .f32⟩
  | 45 => ⟨S128x2816, .f32⟩
  | 46 => ⟨S_, .f32⟩
  | 47 => ⟨S128x2816, .f32⟩
  | 48 => ⟨S128x2816, .f32⟩
  | 49 => ⟨S128x2816, .f32⟩
  | 50 => ⟨S1x1024x2816, .f32⟩
  | 51 => ⟨S1024x2816, .f32⟩
  | 52 => ⟨S128x2816, .f32⟩
  | 53 => ⟨S128x2816, .f32⟩
  | 54 => ⟨S1x2816x1024, .f32⟩
  | 55 => ⟨S2816x1024, .f32⟩
  | 56 => ⟨S128x1024, .f32⟩
  | 57 => ⟨S128x1024, .f32⟩
  | 58 => ⟨S1x1024, .f32⟩
  | 59 => ⟨S1024, .f32⟩
  | 60 => ⟨S128x1024, .f32⟩
  | 61 => ⟨S_, .f32⟩
  | 62 => ⟨S128, .f32⟩
  | 63 => ⟨S128x1, .f32⟩
  | 64 => ⟨S_, .f32⟩
  | 65 => ⟨S128x1, .f32⟩
  | 66 => ⟨S128x1, .f32⟩
  | 67 => ⟨S_, .f32⟩
  | 68 => ⟨S128x1, .f32⟩
  | 69 => ⟨S128x1, .f32⟩
  | 70 => ⟨S128x1, .f32⟩
  | 71 => ⟨S128x1024, .f32⟩
  | 72 => ⟨S128x1024, .f32⟩
  | 73 => ⟨S1x1024, .f32⟩
  | 74 => ⟨S128x1024, .f32⟩
  | 75 => ⟨S128x1024, .f32⟩
  | 76 => ⟨S1x1024x1024, .f32⟩
  | 77 => ⟨S1024x1024, .f32⟩
  | 78 => ⟨S128x1024, .f32⟩
  | 79 => ⟨S128x1024, .f32⟩
  | 80 => ⟨S128x1024, .f32⟩
  | 81 => ⟨S_, .f32⟩
  | 82 => ⟨S128x1024, .f32⟩
  | 83 => ⟨S128x1024, .f32⟩
  | 84 => ⟨S_, .f32⟩
  | 85 => ⟨S128x1024, .f32⟩
  | 86 => ⟨S128x1024, .f32⟩
  | 87 => ⟨S1x8x16x256, .f32⟩
  | 88 => ⟨S8x16x256, .f32⟩
  | 89 => ⟨S128x256, .f32⟩
  | 90 => ⟨S1x256x1024, .f32⟩
  | 91 => ⟨S256x1024, .f32⟩
  | 92 => ⟨S128x1024, .f32⟩
  | 93 => ⟨S128x1024, .f32⟩
  | 94 => ⟨S128x1024, .f32⟩
  | 95 => ⟨S1x1024, .f32⟩
  | 96 => ⟨S1024, .f32⟩
  | 97 => ⟨S128x1024, .f32⟩
  | 98 => ⟨S_, .f32⟩
  | 99 => ⟨S128, .f32⟩
  | 100 => ⟨S128x1, .f32⟩
  | 101 => ⟨S_, .f32⟩
  | 102 => ⟨S128x1, .f32⟩
  | 103 => ⟨S128x1, .f32⟩
  | 104 => ⟨S_, .f32⟩
  | 105 => ⟨S128x1, .f32⟩
  | 106 => ⟨S128x1, .f32⟩
  | 107 => ⟨S128x1, .f32⟩
  | 108 => ⟨S128x1024, .f32⟩
  | 109 => ⟨S128x1024, .f32⟩
  | 110 => ⟨S1x1024, .f32⟩
  | 111 => ⟨S128x1024, .f32⟩
  | 112 => ⟨S128x1024, .f32⟩
  | 113 => ⟨S1x1024x3072, .f32⟩
  | 114 => ⟨S1024x3072, .f32⟩
  | 115 => ⟨S128x3072, .f32⟩
  | 116 => ⟨S128x512, .f32⟩
  | 117 => ⟨S128x512, .f32⟩
  | 118 => ⟨S128x512, .f32⟩
  | 119 => ⟨S128x512, .f32⟩
  | 120 => ⟨S128x512, .f32⟩
  | 121 => ⟨S128x512, .f32⟩
  | 122 => ⟨S_, .f32⟩
  | 123 => ⟨S128x512, .f32⟩
  | 124 => ⟨S128x512, .f32⟩
  | 125 => ⟨S128x512, .bf16⟩
  | 126 => ⟨S_, .f32⟩
  | 127 => ⟨S128x512, .f32⟩
  | _ => ⟨S128x1024, .f32⟩

abbrev hbmTy0_1 (i : Nat) : BufTy := match i % 128 with
  | 0 => ⟨S128x512, .f32⟩
  | 1 => ⟨S128x512, .bf16⟩
  | _ => ⟨S128x1024, .f32⟩

abbrev hbmTy (i : Nat) : BufTy := match i / 128 with
  | 0 => hbmTy0_0 i
  | 1 => hbmTy0_1 i
  | _ => ⟨S128x1024, .f32⟩

abbrev bufTy : (tb : Table) → Fin (tcTables nBuf tb) → BufTy
  | .hbm, ⟨i, _⟩ => hbmTy i
  | _, _ => ⟨S128x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_v0 : Ref sig .tc := ⟨.hbm, 14, rfl⟩
abbrev main_v1 : Ref sig .tc := ⟨.hbm, 15, rfl⟩
abbrev main_v2 : Ref sig .tc := ⟨.hbm, 16, rfl⟩
abbrev main_v3 : Ref sig .tc := ⟨.hbm, 17, rfl⟩
abbrev main_v4 : Ref sig .tc := ⟨.hbm, 18, rfl⟩
abbrev main_v5 : Ref sig .tc := ⟨.hbm, 19, rfl⟩
abbrev main_v6 : Ref sig .tc := ⟨.hbm, 20, rfl⟩
abbrev main_v7 : Ref sig .tc := ⟨.hbm, 21, rfl⟩
abbrev main_v8 : Ref sig .tc := ⟨.hbm, 22, rfl⟩
abbrev main_cst : Ref sig .tc := ⟨.hbm, 23, rfl⟩
abbrev main_v9 : Ref sig .tc := ⟨.hbm, 24, rfl⟩
abbrev main_v10 : Ref sig .tc := ⟨.hbm, 25, rfl⟩
abbrev main_cst_0 : Ref sig .tc := ⟨.hbm, 26, rfl⟩
abbrev main_v11 : Ref sig .tc := ⟨.hbm, 27, rfl⟩
abbrev main_v12 : Ref sig .tc := ⟨.hbm, 28, rfl⟩
abbrev main_cst_1 : Ref sig .tc := ⟨.hbm, 29, rfl⟩
abbrev main_v13 : Ref sig .tc := ⟨.hbm, 30, rfl⟩
abbrev main_v14 : Ref sig .tc := ⟨.hbm, 31, rfl⟩
abbrev main_v15 : Ref sig .tc := ⟨.hbm, 32, rfl⟩
abbrev main_v16 : Ref sig .tc := ⟨.hbm, 33, rfl⟩
abbrev main_v17 : Ref sig .tc := ⟨.hbm, 34, rfl⟩
abbrev main_v18 : Ref sig .tc := ⟨.hbm, 35, rfl⟩
abbrev main_v19 : Ref sig .tc := ⟨.hbm, 36, rfl⟩
abbrev main_v20 : Ref sig .tc := ⟨.hbm, 37, rfl⟩
abbrev main_v21 : Ref sig .tc := ⟨.hbm, 38, rfl⟩
abbrev main_v22 : Ref sig .tc := ⟨.hbm, 39, rfl⟩
abbrev main_v23 : Ref sig .tc := ⟨.hbm, 40, rfl⟩
abbrev main_call0_v0 : Ref sig .tc := ⟨.hbm, 41, rfl⟩
abbrev main_call0_v1 : Ref sig .tc := ⟨.hbm, 42, rfl⟩
abbrev main_call0_cst : Ref sig .tc := ⟨.hbm, 43, rfl⟩
abbrev main_call0_v2 : Ref sig .tc := ⟨.hbm, 44, rfl⟩
abbrev main_call0_v3 : Ref sig .tc := ⟨.hbm, 45, rfl⟩
abbrev main_call0_cst_0 : Ref sig .tc := ⟨.hbm, 46, rfl⟩
abbrev main_call0_v4 : Ref sig .tc := ⟨.hbm, 47, rfl⟩
abbrev main_call0_v5 : Ref sig .tc := ⟨.hbm, 48, rfl⟩
abbrev main_v24 : Ref sig .tc := ⟨.hbm, 49, rfl⟩
abbrev main_v25 : Ref sig .tc := ⟨.hbm, 50, rfl⟩
abbrev main_v26 : Ref sig .tc := ⟨.hbm, 51, rfl⟩
abbrev main_v27 : Ref sig .tc := ⟨.hbm, 52, rfl⟩
abbrev main_v28 : Ref sig .tc := ⟨.hbm, 53, rfl⟩
abbrev main_v29 : Ref sig .tc := ⟨.hbm, 54, rfl⟩
abbrev main_v30 : Ref sig .tc := ⟨.hbm, 55, rfl⟩
abbrev main_v31 : Ref sig .tc := ⟨.hbm, 56, rfl⟩
abbrev main_v32 : Ref sig .tc := ⟨.hbm, 57, rfl⟩
abbrev main_v33 : Ref sig .tc := ⟨.hbm, 58, rfl⟩
abbrev main_v34 : Ref sig .tc := ⟨.hbm, 59, rfl⟩
abbrev main_v35 : Ref sig .tc := ⟨.hbm, 60, rfl⟩
abbrev main_cst_2 : Ref sig .tc := ⟨.hbm, 61, rfl⟩
abbrev main_v36 : Ref sig .tc := ⟨.hbm, 62, rfl⟩
abbrev main_v37 : Ref sig .tc := ⟨.hbm, 63, rfl⟩
abbrev main_cst_3 : Ref sig .tc := ⟨.hbm, 64, rfl⟩
abbrev main_v38 : Ref sig .tc := ⟨.hbm, 65, rfl⟩
abbrev main_v39 : Ref sig .tc := ⟨.hbm, 66, rfl⟩
abbrev main_cst_4 : Ref sig .tc := ⟨.hbm, 67, rfl⟩
abbrev main_v40 : Ref sig .tc := ⟨.hbm, 68, rfl⟩
abbrev main_v41 : Ref sig .tc := ⟨.hbm, 69, rfl⟩
abbrev main_v42 : Ref sig .tc := ⟨.hbm, 70, rfl⟩
abbrev main_v43 : Ref sig .tc := ⟨.hbm, 71, rfl⟩
abbrev main_v44 : Ref sig .tc := ⟨.hbm, 72, rfl⟩
abbrev main_v45 : Ref sig .tc := ⟨.hbm, 73, rfl⟩
abbrev main_v46 : Ref sig .tc := ⟨.hbm, 74, rfl⟩
abbrev main_v47 : Ref sig .tc := ⟨.hbm, 75, rfl⟩
abbrev main_v48 : Ref sig .tc := ⟨.hbm, 76, rfl⟩
abbrev main_v49 : Ref sig .tc := ⟨.hbm, 77, rfl⟩
abbrev main_v50 : Ref sig .tc := ⟨.hbm, 78, rfl⟩
abbrev main_v51 : Ref sig .tc := ⟨.hbm, 79, rfl⟩
abbrev main_v52 : Ref sig .tc := ⟨.hbm, 80, rfl⟩
abbrev main_cst_5 : Ref sig .tc := ⟨.hbm, 81, rfl⟩
abbrev main_v53 : Ref sig .tc := ⟨.hbm, 82, rfl⟩
abbrev main_v54 : Ref sig .tc := ⟨.hbm, 83, rfl⟩
abbrev main_cst_6 : Ref sig .tc := ⟨.hbm, 84, rfl⟩
abbrev main_v55 : Ref sig .tc := ⟨.hbm, 85, rfl⟩
abbrev main_v56 : Ref sig .tc := ⟨.hbm, 86, rfl⟩
abbrev main_v57 : Ref sig .tc := ⟨.hbm, 87, rfl⟩
abbrev main_v58 : Ref sig .tc := ⟨.hbm, 88, rfl⟩
abbrev main_v59 : Ref sig .tc := ⟨.hbm, 89, rfl⟩
abbrev main_v60 : Ref sig .tc := ⟨.hbm, 90, rfl⟩
abbrev main_v61 : Ref sig .tc := ⟨.hbm, 91, rfl⟩
abbrev main_v62 : Ref sig .tc := ⟨.hbm, 92, rfl⟩
abbrev main_v63 : Ref sig .tc := ⟨.hbm, 93, rfl⟩
abbrev main_v64 : Ref sig .tc := ⟨.hbm, 94, rfl⟩
abbrev main_v65 : Ref sig .tc := ⟨.hbm, 95, rfl⟩
abbrev main_v66 : Ref sig .tc := ⟨.hbm, 96, rfl⟩
abbrev main_v67 : Ref sig .tc := ⟨.hbm, 97, rfl⟩
abbrev main_cst_7 : Ref sig .tc := ⟨.hbm, 98, rfl⟩
abbrev main_v68 : Ref sig .tc := ⟨.hbm, 99, rfl⟩
abbrev main_v69 : Ref sig .tc := ⟨.hbm, 100, rfl⟩
abbrev main_cst_8 : Ref sig .tc := ⟨.hbm, 101, rfl⟩
abbrev main_v70 : Ref sig .tc := ⟨.hbm, 102, rfl⟩
abbrev main_v71 : Ref sig .tc := ⟨.hbm, 103, rfl⟩
abbrev main_cst_9 : Ref sig .tc := ⟨.hbm, 104, rfl⟩
abbrev main_v72 : Ref sig .tc := ⟨.hbm, 105, rfl⟩
abbrev main_v73 : Ref sig .tc := ⟨.hbm, 106, rfl⟩
abbrev main_v74 : Ref sig .tc := ⟨.hbm, 107, rfl⟩
abbrev main_v75 : Ref sig .tc := ⟨.hbm, 108, rfl⟩
abbrev main_v76 : Ref sig .tc := ⟨.hbm, 109, rfl⟩
abbrev main_v77 : Ref sig .tc := ⟨.hbm, 110, rfl⟩
abbrev main_v78 : Ref sig .tc := ⟨.hbm, 111, rfl⟩
abbrev main_v79 : Ref sig .tc := ⟨.hbm, 112, rfl⟩
abbrev main_v80 : Ref sig .tc := ⟨.hbm, 113, rfl⟩
abbrev main_v81 : Ref sig .tc := ⟨.hbm, 114, rfl⟩
abbrev main_v82 : Ref sig .tc := ⟨.hbm, 115, rfl⟩
abbrev main_v83 : Ref sig .tc := ⟨.hbm, 116, rfl⟩
abbrev main_v84 : Ref sig .tc := ⟨.hbm, 117, rfl⟩
abbrev main_v85 : Ref sig .tc := ⟨.hbm, 118, rfl⟩
abbrev main_v86 : Ref sig .tc := ⟨.hbm, 119, rfl⟩
abbrev main_v87 : Ref sig .tc := ⟨.hbm, 120, rfl⟩
abbrev main_v88 : Ref sig .tc := ⟨.hbm, 121, rfl⟩
abbrev main_cst_10 : Ref sig .tc := ⟨.hbm, 122, rfl⟩
abbrev main_v89 : Ref sig .tc := ⟨.hbm, 123, rfl⟩
abbrev main_v90 : Ref sig .tc := ⟨.hbm, 124, rfl⟩
abbrev main_v91 : Ref sig .tc := ⟨.hbm, 125, rfl⟩
abbrev main_cst_11 : Ref sig .tc := ⟨.hbm, 126, rfl⟩
abbrev main_v92 : Ref sig .tc := ⟨.hbm, 127, rfl⟩
abbrev main_v93 : Ref sig .tc := ⟨.hbm, 128, rfl⟩
abbrev main_v94 : Ref sig .tc := ⟨.hbm, 129, rfl⟩

abbrev nD : Nat := 1
abbrev τ : Topo := Topo.v7x

variable {F : FTy → Type} [FloatOps F]
-- ==== Kernel6.lean ====
abbrev S8x16x1024 : Shape := ⟨3, ![8, 16, 1024]⟩
abbrev S2x1024 : Shape := ⟨2, ![2, 1024]⟩
abbrev S2x1024x3072 : Shape := ⟨3, ![2, 1024, 3072]⟩
abbrev S2x1x1024 : Shape := ⟨3, ![2, 1, 1024]⟩
abbrev S2x3072x1024 : Shape := ⟨3, ![2, 3072, 1024]⟩
abbrev S128x1024 : Shape := ⟨2, ![128, 1024]⟩
abbrev S128x512 : Shape := ⟨2, ![128, 512]⟩
abbrev S1x1x1024 : Shape := ⟨3, ![1, 1, 1024]⟩
abbrev S1x3072x1024 : Shape := ⟨3, ![1, 3072, 1024]⟩
abbrev S128 : Shape := ⟨1, ![128]⟩
abbrev S128x1 : Shape := ⟨2, ![128, 1]⟩
abbrev S1x1024 : Shape := ⟨2, ![1, 1024]⟩
abbrev S1x512x1024 : Shape := ⟨3, ![1, 512, 1024]⟩
abbrev S512x1024 : Shape := ⟨2, ![512, 1024]⟩

abbrev nBuf : Space → Nat
  | .hbm => 13
  | .vmem => 9
  | .smem => 0
  | _ => 0

abbrev bufTy : (tb : Table) → Fin (tcTables nBuf tb) → BufTy
  | .hbm, ⟨0, _⟩ => ⟨S8x16x1024, .f32⟩
  | .hbm, ⟨1, _⟩ => ⟨S2x1024, .f32⟩
  | .hbm, ⟨2, _⟩ => ⟨S2x1024x3072, .f32⟩
  | .hbm, ⟨3, _⟩ => ⟨S2x1x1024, .f32⟩
  | .hbm, ⟨4, _⟩ => ⟨S2x3072x1024, .f32⟩
  | .hbm, ⟨5, _⟩ => ⟨S2x3072x1024, .bf16⟩
  | .hbm, ⟨6, _⟩ => ⟨S128x1024, .f32⟩
  | .hbm, ⟨7, _⟩ => ⟨S128x512, .bf16⟩
  | .hbm, ⟨8, _⟩ => ⟨S128x512, .bf16⟩
  | .hbm, ⟨9, _⟩ => ⟨S128x512, .f32⟩
  | .hbm, ⟨10, _⟩ => ⟨S128x512, .f32⟩
  | .hbm, ⟨11, _⟩ => ⟨S128x512, .f32⟩
  | .hbm, ⟨12, _⟩ => ⟨S128x512, .f32⟩
  | .local _ .vmem, ⟨0, _⟩ => ⟨S128x1024, .f32⟩
  | .local _ .vmem, ⟨1, _⟩ => ⟨S1x1x1024, .f32⟩
  | .local _ .vmem, ⟨2, _⟩ => ⟨S1x3072x1024, .bf16⟩
  | .local _ .vmem, ⟨3, _⟩ => ⟨S128x512, .bf16⟩
  | .local _ .vmem, ⟨4, _⟩ => ⟨S128x512, .bf16⟩
  | .local _ .vmem, ⟨5, _⟩ => ⟨S128x512, .f32⟩
  | .local _ .vmem, ⟨6, _⟩ => ⟨S128x512, .f32⟩
  | .local _ .vmem, ⟨7, _⟩ => ⟨S128x512, .f32⟩
  | .local _ .vmem, ⟨8, _⟩ => ⟨S128x512, .f32⟩
  | _, _ => ⟨S8x16x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4_0 : Ref sig .tc := ⟨.hbm, 7, rfl⟩
abbrev main_v4_1 : Ref sig .tc := ⟨.hbm, 8, rfl⟩
abbrev main_v4_2 : Ref sig .tc := ⟨.hbm, 9, rfl⟩
abbrev main_v4_3 : Ref sig .tc := ⟨.hbm, 10, rfl⟩
abbrev main_v4_4 : Ref sig .tc := ⟨.hbm, 11, rfl⟩
abbrev main_v4_5 : Ref sig .tc := ⟨.hbm, 12, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S128x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S1x1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x3072x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S128x512 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S128x512 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S128x512 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S128x512 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]

abbrev stage0_7 : Fin 1 → Memref sig .tc .vmem S128x512 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![true]

abbrev stage0_8 : Fin 1 → Memref sig .tc .vmem S128x512 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![true]
-- ==== Reference6Ideal.lean ====
abbrev S8x16x1024 : Shape := ⟨3, ![8, 16, 1024]⟩
abbrev S2x1024 : Shape := ⟨2, ![2, 1024]⟩
abbrev S2x1024x3072 : Shape := ⟨3, ![2, 1024, 3072]⟩
abbrev S_ : Shape := ⟨0, ![]⟩
abbrev S8x16 : Shape := ⟨2, ![8, 16]⟩
abbrev S8x16x1 : Shape := ⟨3, ![8, 16, 1]⟩
abbrev S1x1024 : Shape := ⟨2, ![1, 1024]⟩
abbrev S1024 : Shape := ⟨1, ![1024]⟩
abbrev S1x1x1024 : Shape := ⟨3, ![1, 1, 1024]⟩
abbrev S1x1024x3072 : Shape := ⟨3, ![1, 1024, 3072]⟩
abbrev S1024x3072 : Shape := ⟨2, ![1024, 3072]⟩
abbrev S8x16x3072 : Shape := ⟨3, ![8, 16, 3072]⟩
abbrev S128x3072 : Shape := ⟨2, ![128, 3072]⟩
abbrev S128x512 : Shape := ⟨2, ![128, 512]⟩

abbrev nBuf : Space → Nat
  | .hbm => 39
  | .vmem => 0
  | .smem => 0
  | _ => 0

abbrev bufTy : (tb : Table) → Fin (tcTables nBuf tb) → BufTy
  | .hbm, ⟨0, _⟩ => ⟨S8x16x1024, .f32⟩
  | .hbm, ⟨1, _⟩ => ⟨S2x1024, .f32⟩
  | .hbm, ⟨2, _⟩ => ⟨S2x1024x3072, .f32⟩
  | .hbm, ⟨3, _⟩ => ⟨S8x16x1024, .f32⟩
  | .hbm, ⟨4, _⟩ => ⟨S_, .f32⟩
  | .hbm, ⟨5, _⟩ => ⟨S8x16, .f32⟩
  | .hbm, ⟨6, _⟩ => ⟨S8x16x1, .f32⟩
  | .hbm, ⟨7, _⟩ => ⟨S_, .f32⟩
  | .hbm, ⟨8, _⟩ => ⟨S8x16x1, .f32⟩
  | .hbm, ⟨9, _⟩ => ⟨S8x16x1, .f32⟩
  | .hbm, ⟨10, _⟩ => ⟨S_, .f32⟩
  | .hbm, ⟨11, _⟩ => ⟨S8x16x1, .f32⟩
  | .hbm, ⟨12, _⟩ => ⟨S8x16x1, .f32⟩
  | .hbm, ⟨13, _⟩ => ⟨S8x16x1, .f32⟩
  | .hbm, ⟨14, _⟩ => ⟨S8x16x1024, .f32⟩
  | .hbm, ⟨15, _⟩ => ⟨S8x16x1024, .f32⟩
  | .hbm, ⟨16, _⟩ => ⟨S1x1024, .f32⟩
  | .hbm, ⟨17, _⟩ => ⟨S1024, .f32⟩
  | .hbm, ⟨18, _⟩ => ⟨S1x1x1024, .f32⟩
  | .hbm, ⟨19, _⟩ => ⟨S8x16x1024, .f32⟩
  | .hbm, ⟨20, _⟩ => ⟨S8x16x1024, .f32⟩
  | .hbm, ⟨21, _⟩ => ⟨S1x1024x3072, .f32⟩
  | .hbm, ⟨22, _⟩ => ⟨S1024x3072, .f32⟩
  | .hbm, ⟨23, _⟩ => ⟨S8x16x3072, .f32⟩
  | .hbm, ⟨24, _⟩ => ⟨S128x3072, .f32⟩
  | .hbm, ⟨25, _⟩ => ⟨S128x512, .f32⟩
  | .hbm, ⟨26, _⟩ => ⟨S128x512, .f32⟩
  | .hbm, ⟨27, _⟩ => ⟨S128x512, .f32⟩
  | .hbm, ⟨28, _⟩ => ⟨S128x512, .f32⟩
  | .hbm, ⟨29, _⟩ => ⟨S128x512, .f32⟩
  | .hbm, ⟨30, _⟩ => ⟨S128x512, .f32⟩
  | .hbm, ⟨31, _⟩ => ⟨S_, .f32⟩
  | .hbm, ⟨32, _⟩ => ⟨S128x512, .f32⟩
  | .hbm, ⟨33, _⟩ => ⟨S128x512, .f32⟩
  | .hbm, ⟨34, _⟩ => ⟨S128x512, .bf16⟩
  | .hbm, ⟨35, _⟩ => ⟨S_, .f32⟩
  | .hbm, ⟨36, _⟩ => ⟨S128x512, .f32⟩
  | .hbm, ⟨37, _⟩ => ⟨S128x512, .f32⟩
  | .hbm, ⟨38, _⟩ => ⟨S128x512, .bf16⟩
  | _, _ => ⟨S8x16x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_v23 : Ref sig .tc := ⟨.hbm, 29, rfl⟩
abbrev main_v24 : Ref sig .tc := ⟨.hbm, 30, rfl⟩
abbrev main_cst_2 : Ref sig .tc := ⟨.hbm, 31, rfl⟩
abbrev main_v25 : Ref sig .tc := ⟨.hbm, 32, rfl⟩
abbrev main_v26 : Ref sig .tc := ⟨.hbm, 33, rfl⟩
abbrev main_v27 : Ref sig .tc := ⟨.hbm, 34, rfl⟩
abbrev main_cst_3 : Ref sig .tc := ⟨.hbm, 35, rfl⟩
abbrev main_v28 : Ref sig .tc := ⟨.hbm, 36, rfl⟩
abbrev main_v29 : Ref sig .tc := ⟨.hbm, 37, rfl⟩
abbrev main_v30 : Ref sig .tc := ⟨.hbm, 38, rfl⟩

abbrev nD : Nat := 1
abbrev τ : Topo := Topo.v7x

variable {F : FTy → Type} [FloatOps F]
-- ==== Kernel7.lean ====
abbrev S8x2048x1024 : Shape := ⟨3, ![8, 2048, 1024]⟩
abbrev S2x1024 : Shape := ⟨2, ![2, 1024]⟩
abbrev S2x1024x3072 : Shape := ⟨3, ![2, 1024, 3072]⟩
abbrev S2x1x1024 : Shape := ⟨3, ![2, 1, 1024]⟩
abbrev S2x3072x1024 : Shape := ⟨3, ![2, 3072, 1024]⟩
abbrev S16384x1024 : Shape := ⟨2, ![16384, 1024]⟩
abbrev S16384x512 : Shape := ⟨2, ![16384, 512]⟩
abbrev S1x8x8x64x2048 : Shape := ⟨5, ![1, 8, 8, 64, 2048]⟩
abbrev S1024x1024 : Shape := ⟨2, ![1024, 1024]⟩
abbrev S1x1x1024 : Shape := ⟨3, ![1, 1, 1024]⟩
abbrev S1x3072x1024 : Shape := ⟨3, ![1, 3072, 1024]⟩
abbrev S1024x512 : Shape := ⟨2, ![1024, 512]⟩
abbrev S1x1x8x64x1024 : Shape := ⟨5, ![1, 1, 8, 64, 1024]⟩
abbrev S1024 : Shape := ⟨1, ![1024]⟩
abbrev S1024x1 : Shape := ⟨2, ![1024, 1]⟩
abbrev S1x1024 : Shape := ⟨2, ![1, 1024]⟩
abbrev S1x512x1024 : Shape := ⟨3, ![1, 512, 1024]⟩
abbrev S512x1024 : Shape := ⟨2, ![512, 1024]⟩
abbrev S8x64x1024 : Shape := ⟨3, ![8, 64, 1024]⟩

abbrev nBuf : Space → Nat
  | .hbm => 13
  | .vmem => 16
  | .smem => 0
  | _ => 0

abbrev bufTy : (tb : Table) → Fin (tcTables nBuf tb) → BufTy
  | .hbm, ⟨0, _⟩ => ⟨S8x2048x1024, .f32⟩
  | .hbm, ⟨1, _⟩ => ⟨S2x1024, .f32⟩
  | .hbm, ⟨2, _⟩ => ⟨S2x1024x3072, .f32⟩
  | .hbm, ⟨3, _⟩ => ⟨S2x1x1024, .f32⟩
  | .hbm, ⟨4, _⟩ => ⟨S2x3072x1024, .f32⟩
  | .hbm, ⟨5, _⟩ => ⟨S2x3072x1024, .bf16⟩
  | .hbm, ⟨6, _⟩ => ⟨S16384x1024, .f32⟩
  | .hbm, ⟨7, _⟩ => ⟨S16384x512, .bf16⟩
  | .hbm, ⟨8, _⟩ => ⟨S16384x512, .bf16⟩
  | .hbm, ⟨9, _⟩ => ⟨S1x8x8x64x2048, .f32⟩
  | .hbm, ⟨10, _⟩ => ⟨S1x8x8x64x2048, .f32⟩
  | .hbm, ⟨11, _⟩ => ⟨S1x8x8x64x2048, .f32⟩
  | .hbm, ⟨12, _⟩ => ⟨S1x8x8x64x2048, .f32⟩
  | .local _ .vmem, ⟨0, _⟩ => ⟨S1024x1024, .f32⟩
  | .local _ .vmem, ⟨1, _⟩ => ⟨S1024x1024, .f32⟩
  | .local _ .vmem, ⟨2, _⟩ => ⟨S1x1x1024, .f32⟩
  | .local _ .vmem, ⟨3, _⟩ => ⟨S1x3072x1024, .bf16⟩
  | .local _ .vmem, ⟨4, _⟩ => ⟨S1024x512, .bf16⟩
  | .local _ .vmem, ⟨5, _⟩ => ⟨S1024x512, .bf16⟩
  | .local _ .vmem, ⟨6, _⟩ => ⟨S1024x512, .bf16⟩
  | .local _ .vmem, ⟨7, _⟩ => ⟨S1024x512, .bf16⟩
  | .local _ .vmem, ⟨8, _⟩ => ⟨S1x1x8x64x1024, .f32⟩
  | .local _ .vmem, ⟨9, _⟩ => ⟨S1x1x8x64x1024, .f32⟩
  | .local _ .vmem, ⟨10, _⟩ => ⟨S1x1x8x64x1024, .f32⟩
  | .local _ .vmem, ⟨11, _⟩ => ⟨S1x1x8x64x1024, .f32⟩
  | .local _ .vmem, ⟨12, _⟩ => ⟨S1x1x8x64x1024, .f32⟩
  | .local _ .vmem, ⟨13, _⟩ => ⟨S1x1x8x64x1024, .f32⟩
  | .local _ .vmem, ⟨14, _⟩ => ⟨S1x1x8x64x1024, .f32⟩
  | .local _ .vmem, ⟨15, _⟩ => ⟨S1x1x8x64x1024, .f32⟩
  | _, _ => ⟨S8x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4_0 : Ref sig .tc := ⟨.hbm, 7, rfl⟩
abbrev main_v4_1 : Ref sig .tc := ⟨.hbm, 8, rfl⟩
abbrev main_v4_2 : Ref sig .tc := ⟨.hbm, 9, rfl⟩
abbrev main_v4_3 : Ref sig .tc := ⟨.hbm, 10, rfl⟩
abbrev main_v4_4 : Ref sig .tc := ⟨.hbm, 11, rfl⟩
abbrev main_v4_5 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_stg8_1 : Ref sig .tc := ⟨.vmem, 15, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12
abbrev cc0_sem7_1 : DmaSem sig := 13
abbrev cc0_sem8_0 : DmaSem sig := 14
abbrev cc0_sem8_1 : DmaSem sig := 15

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 5 → Nat :=
  let arg0 : BitVec 32 := BitVec.ofNat 32 (i 0).val
  let c2_i32 : BitVec 32 := 2#32
  let v0 : BitVec 32 := Scalar.divsi arg0 c2_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg0 c2_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c2_i32_4 : BitVec 32 := 2#32
  let c0_i32_5 : BitVec 32 := 0#32
  let v17 : BitVec 1 := Scalar.cmpi .eq c2_i32_4 c0_i32_5
  let c1_i32_6 : BitVec 32 := 1#32
  let v18 : BitVec 32 := Scalar.select v17 c1_i32_6 c2_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  let c0_i32_12 : BitVec 32 := 0#32
  let c0_i32_13 : BitVec 32 := 0#32
  ![c0_i32_10.toNat, v16.toNat, c0_i32_11.toNat, c0_i32_12.toNat, v26.toNat]

def cc0_transform_6 (i : grid0.Coords) : Fin 5 → Nat :=
  let arg0 : BitVec 32 := BitVec.ofNat 32 (i 0).val
  let c2_i32 : BitVec 32 := 2#32
  let v0 : BitVec 32 := Scalar.divsi arg0 c2_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg0 c2_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c2_i32_4 : BitVec 32 := 2#32
  let c0_i32_5 : BitVec 32 := 0#32
  let v17 : BitVec 1 := Scalar.cmpi .eq c2_i32_4 c0_i32_5
  let c1_i32_6 : BitVec 32 := 1#32
  let v18 : BitVec 32 := Scalar.select v17 c1_i32_6 c2_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  let c0_i32_12 : BitVec 32 := 0#32
  let c0_i32_13 : BitVec 32 := 0#32
  ![c0_i32_10.toNat, v16.toNat, c0_i32_11.toNat, c0_i32_12.toNat, v26.toNat]

def cc0_transform_7 (i : grid0.Coords) : Fin 5 → Nat :=
  let arg0 : BitVec 32 := BitVec.ofNat 32 (i 0).val
  let c2_i32 : BitVec 32 := 2#32
  let v0 : BitVec 32 := Scalar.divsi arg0 c2_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg0 c2_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c2_i32_4 : BitVec 32 := 2#32
  let c0_i32_5 : BitVec 32 := 0#32
  let v17 : BitVec 1 := Scalar.cmpi .eq c2_i32_4 c0_i32_5
  let c1_i32_6 : BitVec 32 := 1#32
  let v18 : BitVec 32 := Scalar.select v17 c1_i32_6 c2_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  let c0_i32_12 : BitVec 32 := 0#32
  let c0_i32_13 : BitVec 32 := 0#32
  ![c0_i32_10.toNat, v16.toNat, c0_i32_11.toNat, c0_i32_12.toNat, v26.toNat]

def cc0_transform_8 (i : grid0.Coords) : Fin 5 → Nat :=
  let arg0 : BitVec 32 := BitVec.ofNat 32 (i 0).val
  let c2_i32 : BitVec 32 := 2#32
  let v0 : BitVec 32 := Scalar.divsi arg0 c2_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg0 c2_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c2_i32_4 : BitVec 32 := 2#32
  let c0_i32_5 : BitVec 32 := 0#32
  let v17 : BitVec 1 := Scalar.cmpi .eq c2_i32_4 c0_i32_5
  let c1_i32_6 : BitVec 32 := 1#32
  let v18 : BitVec 32 := Scalar.select v17 c1_i32_6 c2_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  let c0_i32_12 : BitVec 32 := 0#32
  let c0_i32_13 : BitVec 32 := 0#32
  ![c0_i32_10.toNat, v16.toNat, c0_i32_11.toNat, c0_i32_12.toNat, v26.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x3072x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S1024x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1024x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1x1x8x64x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1x1x8x64x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S1x1x8x64x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S1x1x8x64x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]
-- ==== Reference7Ideal.lean ====
abbrev S8x2048x1024 : Shape := ⟨3, ![8, 2048, 1024]⟩
abbrev S2x1024 : Shape := ⟨2, ![2, 1024]⟩
abbrev S2x1024x3072 : Shape := ⟨3, ![2, 1024, 3072]⟩
abbrev S_ : Shape := ⟨0, ![]⟩
abbrev S8x2048 : Shape := ⟨2, ![8, 2048]⟩
abbrev S8x2048x1 : Shape := ⟨3, ![8, 2048, 1]⟩
abbrev S1x1024 : Shape := ⟨2, ![1, 1024]⟩
abbrev S1024 : Shape := ⟨1, ![1024]⟩
abbrev S1x1x1024 : Shape := ⟨3, ![1, 1, 1024]⟩
abbrev S1x1024x3072 : Shape := ⟨3, ![1, 1024, 3072]⟩
abbrev S1024x3072 : Shape := ⟨2, ![1024, 3072]⟩
abbrev S8x2048x3072 : Shape := ⟨3, ![8, 2048, 3072]⟩
abbrev S16384x3072 : Shape := ⟨2, ![16384, 3072]⟩
abbrev S16384x512 : Shape := ⟨2, ![16384, 512]⟩
abbrev S8x2048x8x64 : Shape := ⟨4, ![8, 2048, 8, 64]⟩
abbrev S8x8x64x2048 : Shape := ⟨4, ![8, 8, 64, 2048]⟩
abbrev S1x8x8x64x2048 : Shape := ⟨5, ![1, 8, 8, 64, 2048]⟩

abbrev nBuf : Space → Nat
  | .hbm => 51
  | .vmem => 0
  | .smem => 0
  | _ => 0

abbrev bufTy : (tb : Table) → Fin (tcTables nBuf tb) → BufTy
  | .hbm, ⟨0, _⟩ => ⟨S8x2048x1024, .f32⟩
  | .hbm, ⟨1, _⟩ => ⟨S2x1024, .f32⟩
  | .hbm, ⟨2, _⟩ => ⟨S2x1024x3072, .f32⟩
  | .hbm, ⟨3, _⟩ => ⟨S8x2048x1024, .f32⟩
  | .hbm, ⟨4, _⟩ => ⟨S_, .f32⟩
  | .hbm, ⟨5, _⟩ => ⟨S8x2048, .f32⟩
  | .hbm, ⟨6, _⟩ => ⟨S8x2048x1, .f32⟩
  | .hbm, ⟨7, _⟩ => ⟨S_, .f32⟩
  | .hbm, ⟨8, _⟩ => ⟨S8x2048x1, .f32⟩
  | .hbm, ⟨9, _⟩ => ⟨S8x2048x1, .f32⟩
  | .hbm, ⟨10, _⟩ => ⟨S_, .f32⟩
  | .hbm, ⟨11, _⟩ => ⟨S8x2048x1, .f32⟩
  | .hbm, ⟨12, _⟩ => ⟨S8x2048x1, .f32⟩
  | .hbm, ⟨13, _⟩ => ⟨S8x2048x1, .f32⟩
  | .hbm, ⟨14, _⟩ => ⟨S8x2048x1024, .f32⟩
  | .hbm, ⟨15, _⟩ => ⟨S8x2048x1024, .f32⟩
  | .hbm, ⟨16, _⟩ => ⟨S1x1024, .f32⟩
  | .hbm, ⟨17, _⟩ => ⟨S1024, .f32⟩
  | .hbm, ⟨18, _⟩ => ⟨S1x1x1024, .f32⟩
  | .hbm, ⟨19, _⟩ => ⟨S8x2048x1024, .f32⟩
  | .hbm, ⟨20, _⟩ => ⟨S8x2048x1024, .f32⟩
  | .hbm, ⟨21, _⟩ => ⟨S1x1024x3072, .f32⟩
  | .hbm, ⟨22, _⟩ => ⟨S1024x3072, .f32⟩
  | .hbm, ⟨23, _⟩ => ⟨S8x2048x3072, .f32⟩
  | .hbm, ⟨24, _⟩ => ⟨S16384x3072, .f32⟩
  | .hbm, ⟨25, _⟩ => ⟨S16384x512, .f32⟩
  | .hbm, ⟨26, _⟩ => ⟨S16384x512, .f32⟩
  | .hbm, ⟨27, _⟩ => ⟨S16384x512, .f32⟩
  | .hbm, ⟨28, _⟩ => ⟨S16384x512, .f32⟩
  | .hbm, ⟨29, _⟩ => ⟨S16384x512, .f32⟩
  | .hbm, ⟨30, _⟩ => ⟨S16384x512, .f32⟩
  | .hbm, ⟨31, _⟩ => ⟨S_, .f32⟩
  | .hbm, ⟨32, _⟩ => ⟨S16384x512, .f32⟩
  | .hbm, ⟨33, _⟩ => ⟨S16384x512, .f32⟩
  | .hbm, ⟨34, _⟩ => ⟨S16384x512, .bf16⟩
  | .hbm, ⟨35, _⟩ => ⟨S_, .f32⟩
  | .hbm, ⟨36, _⟩ => ⟨S16384x512, .f32⟩
  | .hbm, ⟨37, _⟩ => ⟨S16384x512, .f32⟩
  | .hbm, ⟨38, _⟩ => ⟨S16384x512, .bf16⟩
  | .hbm, ⟨39, _⟩ => ⟨S8x2048x8x64, .f32⟩
  | .hbm, ⟨40, _⟩ => ⟨S8x8x64x2048, .f32⟩
  | .hbm, ⟨41, _⟩ => ⟨S1x8x8x64x2048, .f32⟩
  | .hbm, ⟨42, _⟩ => ⟨S8x2048x8x64, .f32⟩
  | .hbm, ⟨43, _⟩ => ⟨S8x8x64x2048, .f32⟩
  | .hbm, ⟨44, _⟩ => ⟨S1x8x8x64x2048, .f32⟩
  | .hbm, ⟨45, _⟩ => ⟨S8x2048x8x64, .f32⟩
  | .hbm, ⟨46, _⟩ => ⟨S8x8x64x2048, .f32⟩
  | .hbm, ⟨47, _⟩ => ⟨S1x8x8x64x2048, .f32⟩
  | .hbm, ⟨48, _⟩ => ⟨S8x2048x8x64, .f32⟩
  | .hbm, ⟨49, _⟩ => ⟨S8x8x64x2048, .f32⟩
  | .hbm, ⟨50, _⟩ => ⟨S1x8x8x64x2048, .f32⟩
  | _, _ => ⟨S8x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_v23 : Ref sig .tc := ⟨.hbm, 29, rfl⟩
abbrev main_v24 : Ref sig .tc := ⟨.hbm, 30, rfl⟩
abbrev main_cst_2 : Ref sig .tc := ⟨.hbm, 31, rfl⟩
abbrev main_v25 : Ref sig .tc := ⟨.hbm, 32, rfl⟩
abbrev main_v26 : Ref sig .tc := ⟨.hbm, 33, rfl⟩
abbrev main_v27 : Ref sig .tc := ⟨.hbm, 34, rfl⟩
abbrev main_cst_3 : Ref sig .tc := ⟨.hbm, 35, rfl⟩
abbrev main_v28 : Ref sig .tc := ⟨.hbm, 36, rfl⟩
abbrev main_v29 : Ref sig .tc := ⟨.hbm, 37, rfl⟩
abbrev main_v30 : Ref sig .tc := ⟨.hbm, 38, rfl⟩
abbrev main_v31 : Ref sig .tc := ⟨.hbm, 39, rfl⟩
abbrev main_v32 : Ref sig .tc := ⟨.hbm, 40, rfl⟩
abbrev main_v33 : Ref sig .tc := ⟨.hbm, 41, rfl⟩
abbrev main_v34 : Ref sig .tc := ⟨.hbm, 42, rfl⟩
abbrev main_v35 : Ref sig .tc := ⟨.hbm, 43, rfl⟩
abbrev main_v36 : Ref sig .tc := ⟨.hbm, 44, rfl⟩
abbrev main_v37 : Ref sig .tc := ⟨.hbm, 45, rfl⟩
abbrev main_v38 : Ref sig .tc := ⟨.hbm, 46, rfl⟩
abbrev main_v39 : Ref sig .tc := ⟨.hbm, 47, rfl⟩
abbrev main_v40 : Ref sig .tc := ⟨.hbm, 48, rfl⟩
abbrev main_v41 : Ref sig .tc := ⟨.hbm, 49, rfl⟩
abbrev main_v42 : Ref sig .tc := ⟨.hbm, 50, rfl⟩

abbrev nD : Nat := 1
abbrev τ : Topo := Topo.v7x

variable {F : FTy → Type} [FloatOps F]
-- ==== Kernel8.lean ====
abbrev S2x257x8 : Shape := ⟨3, ![2, 257, 8]⟩
abbrev S4112 : Shape := ⟨1, ![4112]⟩
abbrev S2x8x64x192 : Shape := ⟨4, ![2, 8, 64, 192]⟩
abbrev S1x1x64x192 : Shape := ⟨4, ![1, 1, 64, 192]⟩
abbrev S64x192 : Shape := ⟨2, ![64, 192]⟩
abbrev S1 : Shape := ⟨1, ![1]⟩

abbrev nBuf : Space → Nat
  | .hbm => 3
  | .vmem => 2
  | .smem => 1
  | _ => 0

abbrev bufTy : (tb : Table) → Fin (tcTables nBuf tb) → BufTy
  | .hbm, ⟨0, _⟩ => ⟨S2x257x8, .f32⟩
  | .hbm, ⟨1, _⟩ => ⟨S4112, .f32⟩
  | .hbm, ⟨2, _⟩ => ⟨S2x8x64x192, .f32⟩
  | .local _ .vmem, ⟨0, _⟩ => ⟨S1x1x64x192, .f32⟩
  | .local _ .vmem, ⟨1, _⟩ => ⟨S1x1x64x192, .f32⟩
  | .local _ .smem, ⟨0, _⟩ => ⟨S4112, .f32⟩
  | _, _ => ⟨S2x257x8, .f32⟩

abbrev bufScoped : (cs : CoreSpace) → Fin (nBuf (.core cs)) → Bool
  | .vmem, ⟨0, _⟩ => true
  | .vmem, ⟨1, _⟩ => true
  | .smem, ⟨0, _⟩ => true
  | _, _ => false

abbrev semScoped : Fin 0 → Bool
  | ⟨_, h⟩ => absurd h (Nat.not_lt_zero _)

abbrev dmaSemScoped : Fin 3 → Bool
  | ⟨0, _⟩ => true
  | ⟨1, _⟩ => true
  | ⟨2, _⟩ => true
  | _ => false

abbrev sig : RefSig :=
  ofTc nBuf bufTy 0 3 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev cc0_stg1_0 : Ref sig .tc := ⟨.vmem, 0, rfl⟩
abbrev cc0_stg1_1 : Ref sig .tc := ⟨.vmem, 1, rfl⟩
abbrev cc0_stg0_0 : Ref sig .tc := ⟨.smem, 0, rfl⟩
abbrev cc0_sem0_0 : DmaSem sig := 0
abbrev cc0_sem1_0 : DmaSem sig := 1
abbrev cc0_sem1_1 : DmaSem sig := 2

abbrev nD : Nat := 1
abbrev τ : Topo := Topo.v7x

variable {F : FTy → Type} [FloatOps F]

abbrev grid0 : Pipeline.Grid := ⟨2, ![2, 8], ![false, false]⟩

@[reducible] def k0_t1_loop : Scf.Loop 32 :=
  let c65_i32 : BitVec 32 := 65#32
  let c192_i32 : BitVec 32 := 192#32
  let v12 : BitVec 32 := Scalar.addi c65_i32 c192_i32
  let c1_i32 : BitVec 32 := 1#32
  ⟨c65_i32, v12, c1_i32⟩
def k0_off1 (i : grid0.Coords) (k0_t1 : Fin k0_t1_loop.trips) : Fin 1 → Nat :=
  let arg0 : BitVec 32 := BitVec.ofNat 32 (i 0).val
  let c257_i32 : BitVec 32 := 257#32
  let v19 : BitVec 32 := Scalar.muli arg0 c257_i32
  let c65_i32 : BitVec 32 := 65#32
  let c1_i32 : BitVec 32 := 1#32
  let arg4 : BitVec 32 := Scf.iv c65_i32 c1_i32 k0_t1
  let v20 : BitVec 32 := Scalar.addi v19 arg4
  let c8_i32 : BitVec 32 := 8#32
  let v21 : BitVec 32 := Scalar.muli v20 c8_i32
  let arg1 : BitVec 32 := BitVec.ofNat 32 (i 1).val
  let v22 : BitVec 32 := Scalar.addi v21 arg1
  let v23 : Index := Scalar.indexCast v22
  ![v23.toNat]
def cc0_transform_0 (i : grid0.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc0_transform_1 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

abbrev stage0_0 : Fin 1 → Memref sig .tc .smem S4112 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false]

abbrev stage0_1 : Fin 2 → Memref sig .tc .vmem S1x1x64x192 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]
-- ==== Reference8Ideal.lean ====
abbrev S2x257x8 : Shape := ⟨3, ![2, 257, 8]⟩
abbrev S64 : Shape := ⟨1, ![64]⟩
abbrev S64x1 : Shape := ⟨2, ![64, 1]⟩
abbrev S_ : Shape := ⟨0, ![]⟩
abbrev S576 : Shape := ⟨1, ![576]⟩
abbrev S1x576 : Shape := ⟨2, ![1, 576]⟩
abbrev S64x576 : Shape := ⟨2, ![64, 576]⟩
abbrev S64x576x1 : Shape := ⟨3, ![64, 576, 1]⟩
abbrev S2x64x576x8 : Shape := ⟨4, ![2, 64, 576, 8]⟩
abbrev S2x8x64x576 : Shape := ⟨4, ![2, 8, 64, 576]⟩
abbrev S2x8x64x192 : Shape := ⟨4, ![2, 8, 64, 192]⟩

abbrev nBuf : Space → Nat
  | .hbm => 33
  | .vmem => 0
  | .smem => 0
  | _ => 0

abbrev bufTy : (tb : Table) → Fin (tcTables nBuf tb) → BufTy
  | .hbm, ⟨0, _⟩ => ⟨S2x257x8, .f32⟩
  | .hbm, ⟨1, _⟩ => ⟨S64, .i32⟩
  | .hbm, ⟨2, _⟩ => ⟨S64x1, .i32⟩
  | .hbm, ⟨3, _⟩ => ⟨S_, .i32⟩
  | .hbm, ⟨4, _⟩ => ⟨S64x1, .i32⟩
  | .hbm, ⟨5, _⟩ => ⟨S64x1, .i32⟩
  | .hbm, ⟨6, _⟩ => ⟨S576, .i32⟩
  | .hbm, ⟨7, _⟩ => ⟨S1x576, .i32⟩
  | .hbm, ⟨8, _⟩ => ⟨S64x576, .i32⟩
  | .hbm, ⟨9, _⟩ => ⟨S64x576, .i32⟩
  | .hbm, ⟨10, _⟩ => ⟨S64x576, .i32⟩
  | .hbm, ⟨11, _⟩ => ⟨S_, .i32⟩
  | .hbm, ⟨12, _⟩ => ⟨S_, .i32⟩
  | .hbm, ⟨13, _⟩ => ⟨S_, .i32⟩
  | .hbm, ⟨14, _⟩ => ⟨S64x576, .i32⟩
  | .hbm, ⟨15, _⟩ => ⟨S64x576, .i32⟩
  | .hbm, ⟨16, _⟩ => ⟨S_, .i32⟩
  | .hbm, ⟨17, _⟩ => ⟨S64x576, .i32⟩
  | .hbm, ⟨18, _⟩ => ⟨S64x576, .i32⟩
  | .hbm, ⟨19, _⟩ => ⟨S_, .i32⟩
  | .hbm, ⟨20, _⟩ => ⟨S64x576, .i32⟩
  | .hbm, ⟨21, _⟩ => ⟨S64x576, .i32⟩
  | .hbm, ⟨22, _⟩ => ⟨S_, .i32⟩
  | .hbm, ⟨23, _⟩ => ⟨S64x576, .i32⟩
  | .hbm, ⟨24, _⟩ => ⟨S64x576, .i1⟩
  | .hbm, ⟨25, _⟩ => ⟨S_, .i32⟩
  | .hbm, ⟨26, _⟩ => ⟨S64x576, .i32⟩
  | .hbm, ⟨27, _⟩ => ⟨S64x576, .i32⟩
  | .hbm, ⟨28, _⟩ => ⟨S64x576, .i32⟩
  | .hbm, ⟨29, _⟩ => ⟨S64x576x1, .i32⟩
  | .hbm, ⟨30, _⟩ => ⟨S2x64x576x8, .f32⟩
  | .hbm, ⟨31, _⟩ => ⟨S2x8x64x576, .f32⟩
  | .hbm, ⟨32, _⟩ => ⟨S2x8x64x192, .f32⟩
  | _, _ => ⟨S2x257x8, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_c : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev main_c_0 : Ref sig .tc := ⟨.hbm, 11, rfl⟩
abbrev main_c_1 : Ref sig .tc := ⟨.hbm, 12, rfl⟩
abbrev main_call0_v0 : Ref sig .tc := ⟨.hbm, 13, rfl⟩
abbrev main_call0_v1 : Ref sig .tc := ⟨.hbm, 14, rfl⟩
abbrev main_call0_v2 : Ref sig .tc := ⟨.hbm, 15, rfl⟩
abbrev main_call0_v3 : Ref sig .tc := ⟨.hbm, 16, rfl⟩
abbrev main_call0_v4 : Ref sig .tc := ⟨.hbm, 17, rfl⟩
abbrev main_v9 : Ref sig .tc := ⟨.hbm, 18, rfl⟩
abbrev main_c_2 : Ref sig .tc := ⟨.hbm, 19, rfl⟩
abbrev main_v10 : Ref sig .tc := ⟨.hbm, 20, rfl⟩
abbrev main_v11 : Ref sig .tc := ⟨.hbm, 21, rfl⟩
abbrev main_c_3 : Ref sig .tc := ⟨.hbm, 22, rfl⟩
abbrev main_v12 : Ref sig .tc := ⟨.hbm, 23, rfl⟩
abbrev main_v13 : Ref sig .tc := ⟨.hbm, 24, rfl⟩
abbrev main_c_4 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩

abbrev nD : Nat := 1
abbrev τ : Topo := Topo.v7x

variable {F : FTy → Type} [FloatOps F]
-- ==== Proof.Rows.lean ====
module

public import Idealize.ShloMosaic.Lib.Pipeline.ValueKit
public import Idealize.ShloMosaic.Lib.Pointwise

@[expose] public section

/-! # One row of the encoder layer over the extended reals

Every step of the layer's tail acts on the rows of its operands separately. The functions here are those steps on one
row: a row is a function of its column, a weight a function of its two coordinates. Both the fused kernels and the
plain references are compared with them. -/

set_option maxRecDepth 16384

noncomputable section

open Idealize.ShloMosaic

namespace EncoderRow

/-- A row times a weight matrix. -/
def proj {K N : ℕ} (x : Fin K → EReal) (w : Fin K → Fin N → EReal) (n : Fin N) : EReal := ∑ k, x k * w k n

/-- The logistic function, written as the quotient both programs compute. -/
def sigmoid (x : EReal) : EReal := Ideal.div 1 (1 + Ideal.exp (-x))

/-- RMSNorm's unit part: the row over the root of its mean square plus 1e-6 (as the `f32` patterns of 1024 and 1e-6). -/
def unit (x : Fin 1024 → EReal) (n : Fin 1024) : EReal :=
  x n * Ideal.rsqrt (Ideal.div (∑ k, x k * x k) (Ideal.ofBits .f32 0x44800000#32) + Ideal.ofBits .f32 0x358637BD#32)

/-- RMSNorm of a row, with its gains. -/
def norm (x g : Fin 1024 → EReal) (n : Fin 1024) : EReal := unit x n * g n

/-- The residual row plus the output projection of the two mixers' rows, each against its own half of the weight. -/
def mixed (x : Fin 1024 → EReal) (a ob : Fin 512 → EReal) (w : Fin 1024 → Fin 1024 → EReal) (n : Fin 1024) : EReal :=
  x n + ((∑ k : Fin 512, a k * w ⟨k, by omega⟩ n) + ∑ k : Fin 512, ob k * w ⟨512 + k, by omega⟩ n)

/-- The SwiGLU block with its residual. -/
def swiglu (x g : Fin 1024 → EReal) (wg wu : Fin 1024 → Fin 2816 → EReal) (wd : Fin 2816 → Fin 1024 → EReal)
    (n : Fin 1024) : EReal :=
  x n + proj (fun k => proj (norm x g) wg k * sigmoid (proj (norm x g) wg k) * proj (norm x g) wu k) wd n

/-- The gated per-layer embedding with its residual. -/
def embedded (x g : Fin 1024 → EReal) (p : Fin 256 → EReal) (wpg : Fin 1024 → Fin 1024 → EReal)
    (wpp : Fin 256 → Fin 1024 → EReal) (n : Fin 1024) : EReal :=
  x n + sigmoid (proj (norm x g) wpg n) * proj p wpp n

/-- The layer's tail on one row. -/
def tail (x : Fin 1024 → EReal) (a ob : Fin 512 → EReal) (p : Fin 256 → EReal) (wo : Fin 1024 → Fin 1024 → EReal)
    (gf : Fin 1024 → EReal) (wg wu : Fin 1024 → Fin 2816 → EReal) (wd : Fin 2816 → Fin 1024 → EReal)
    (gp : Fin 1024 → EReal) (wpg : Fin 1024 → Fin 1024 → EReal) (wpp : Fin 256 → Fin 1024 → EReal) :
    Fin 1024 → EReal :=
  embedded (swiglu (mixed x a ob wo) gf wg wu wd) gp p wpg wpp

/-- The layer's tail on row `r` of the prompt (of 8 sequences of 2048 rows), with the weights of layer `l`, from the
whole arrays. -/
def tailRow (l : Fin 2) (x : FVec Ideal ⟨2, ![16384, 1024]⟩ .f32) (a ob : FVec Ideal ⟨2, ![16384, 512]⟩ .bf16)
    (p : FVec Ideal ⟨4, ![2, 8, 2048, 256]⟩ .f32) (wo : FVec Ideal ⟨3, ![2, 1024, 1024]⟩ .f32)
    (gf : FVec Ideal ⟨2, ![2, 1024]⟩ .f32) (wg wu : FVec Ideal ⟨3, ![2, 1024, 2816]⟩ .f32)
    (wd : FVec Ideal ⟨3, ![2, 2816, 1024]⟩ .f32) (gp : FVec Ideal ⟨2, ![2, 1024]⟩ .f32)
    (wpg : FVec Ideal ⟨3, ![2, 1024, 1024]⟩ .f32) (wpp : FVec Ideal ⟨3, ![2, 256, 1024]⟩ .f32)
    (r : Fin 16384) : Fin 1024 → EReal :=
  tail (fun k => x (ix2 r k)) (fun k => a (ix2 r k)) (fun k => ob (ix2 r k))
    (fun k => p (ix4 l ⟨r / 2048, by omega⟩ ⟨r % 2048, by omega⟩ k)) (fun k n => wo (ix3 l k n))
    (fun k => gf (ix2 l k)) (fun k n => wg (ix3 l k n)) (fun k n => wu (ix3 l k n)) (fun k n => wd (ix3 l k n))
    (fun k => gp (ix2 l k)) (fun k n => wpg (ix3 l k n)) (fun k n => wpp (ix3 l k n))

/-- Column `n` of the second layer's input projections of row `r`: the row's norm times the layer's weight. -/
def nextHeads (rows : Fin 16384 → Fin 1024 → EReal) (g : FVec Ideal ⟨2, ![2, 1024]⟩ .f32)
    (w : FVec Ideal ⟨3, ![2, 1024, 3072]⟩ .f32) (r : Fin 16384) (n : Fin 3072) : EReal :=
  proj (norm (rows r) (fun k => g (ix2 1 k))) (fun k n => w (ix3 1 k n)) n

/-- One key or value array of both layers, at layer `s`, sequence `b`, head `h`, lane `d`, position `j`: the first layer's
is given, the second layer's is the columns from `off` on of its projections. -/
def stacked (old : FVec Ideal ⟨5, ![1, 8, 8, 64, 2048]⟩ .f32) (new : Fin 16384 → Fin 3072 → EReal) (off : ℕ)
    (ho : off + 512 ≤ 3072) (s : Fin 2) (b h : Fin 8) (d : Fin 64) (j : Fin 2048) : EReal :=
  if s = 0 then old (ix5 0 b h d j) else new ⟨2048 * b + j, by omega⟩ ⟨off + (64 * h + d), by omega⟩

end EncoderRow
-- ==== Proof.Tail.lean ====
module

public import proofs.«01_k».proof.Proof.Rows
public import proofs.«01_k».proof.Proof.Gen.Kernel2Ideal.Value

@[expose] public section

/-! # The last layer's call, row by row

A grid point's block of 512 rows is computed as four chains of 128 rows. Every chain is the same function of its rows
(`chain`), which on one row is the layer's tail; the block is the four chains one below another, normalised. -/

set_option maxRecDepth 16384

noncomputable section

namespace Cert.Kernel2Ideal.Tail

open Cert.Kernel2Ideal Cert.Kernel2Ideal.Gen Idealize.ShloMosaic Idealize.ShloMosaic.TcCoe Idealize.SL.Sem
open Idealize.ShloMosaic.Pipeline (Dat)
open EncoderRow

section Chain

variable (x : FVec Ideal S128x1024 .f32) (a ob : FVec Ideal S128x512 .bf16) (p : FVec Ideal S1x128x256 .f32)
  (wt wb : FVec Ideal S1x512x1024 .bf16) (gf : FVec Ideal S1x1x1024 .f32) (wg wu : FVec Ideal S1x1024x2816 .bf16)
  (wd : FVec Ideal S1x2816x1024 .bf16) (gp : FVec Ideal S1x1x1024 .f32) (wpg : FVec Ideal S1x1024x1024 .bf16)
  (wpp : FVec Ideal S1x256x1024 .bf16)

/-- A chain's rows after the output projection. -/
def chain1 : FVec Ideal S128x1024 .f32 := k0_pay2 x a wt ob wb

/-- A chain's rows after the SwiGLU block, from those before it. -/
def chain2 (x1 : FVec Ideal S128x1024 .f32) : FVec Ideal S128x1024 .f32 :=
  k0_pay22 x1 (k0_pay15 (k0_pay9 x1 gf) wg) (k0_pay16 (k0_pay9 x1 gf) wu) wd

/-- A chain's rows after the per-layer embedding, from those before it. -/
def chain3 (x2 : FVec Ideal S128x1024 .f32) : FVec Ideal S128x1024 .f32 := k0_pay32 x2 (k0_pay27 x2 gp) wpg p wpp

theorem norm_at (x1 : FVec Ideal S128x1024 .f32) (r : Fin 128) (n : Fin 1024) :
    k0_pay9 x1 gf (ix2 r n) = norm (fun k => x1 (ix2 r k)) (fun k => gf (ix3 0 0 k)) n := by
  pointwise [k0_pay9]
  rfl

theorem norm'_at (x1 : FVec Ideal S128x1024 .f32) (r : Fin 128) (n : Fin 1024) :
    k0_pay27 x1 gp (ix2 r n) = norm (fun k => x1 (ix2 r k)) (fun k => gp (ix3 0 0 k)) n := by
  pointwise [k0_pay27]
  rfl

theorem gate_at (h : FVec Ideal S128x1024 .bf16) (r : Fin 128) (n : Fin 2816) :
    k0_pay15 h wg (ix2 r n) = proj (fun k => h (ix2 r k)) (fun k n => wg (ix3 0 k n)) n := by
  pointwise [k0_pay15]
  rfl

theorem up_at (h : FVec Ideal S128x1024 .bf16) (r : Fin 128) (n : Fin 2816) :
    k0_pay16 h wu (ix2 r n) = proj (fun k => h (ix2 r k)) (fun k n => wu (ix3 0 k n)) n := by
  pointwise [k0_pay16]
  rfl

theorem chain1_at (wo : Fin 1024 → Fin 1024 → EReal) (ht : ∀ k n, wt (ix3 0 k n) = wo ⟨k, by omega⟩ n)
    (hb : ∀ k n, wb (ix3 0 k n) = wo ⟨512 + k, by omega⟩ n) (r : Fin 128) (n : Fin 1024) :
    chain1 x a ob wt wb (ix2 r n)
      = mixed (fun k => x (ix2 r k)) (fun k => a (ix2 r k)) (fun k => ob (ix2 r k)) wo n := by
  pointwise [chain1, k0_pay2]
  simp only [ht, hb, mixed]
  exact add_assoc _ _ _

theorem chain2_at (x1 : FVec Ideal S128x1024 .f32) (r : Fin 128) (n : Fin 1024) :
    chain2 gf wg wu wd x1 (ix2 r n)
      = swiglu (fun k => x1 (ix2 r k)) (fun k => gf (ix3 0 0 k)) (fun k n => wg (ix3 0 k n))
          (fun k n => wu (ix3 0 k n)) (fun k n => wd (ix3 0 k n)) n := by
  pointwise [chain2, k0_pay22]
  simp only [gate_at, up_at, norm_at]
  rfl

theorem chain3_at (x2 : FVec Ideal S128x1024 .f32) (r : Fin 128) (n : Fin 1024) :
    chain3 p gp wpg wpp x2 (ix2 r n)
      = embedded (fun k => x2 (ix2 r k)) (fun k => gp (ix3 0 0 k)) (fun k => p (ix3 0 r k))
          (fun k n => wpg (ix3 0 k n)) (fun k n => wpp (ix3 0 k n)) n := by
  pointwise [chain3, k0_pay32]
  simp only [norm'_at]
  rfl

/-- A chain: the layer's tail on 128 rows. -/
def chain : FVec Ideal S128x1024 .f32 := chain3 p gp wpg wpp (chain2 gf wg wu wd (chain1 x a ob wt wb))

theorem chain_at (wo : Fin 1024 → Fin 1024 → EReal) (ht : ∀ k n, wt (ix3 0 k n) = wo ⟨k, by omega⟩ n)
    (hb : ∀ k n, wb (ix3 0 k n) = wo ⟨512 + k, by omega⟩ n) (r : Fin 128) (n : Fin 1024) :
    chain x a ob p wt wb gf wg wu wd gp wpg wpp (ix2 r n)
      = tail (fun k => x (ix2 r k)) (fun k => a (ix2 r k)) (fun k => ob (ix2 r k)) (fun k => p (ix3 0 r k)) wo
          (fun k => gf (ix3 0 0 k)) (fun k n => wg (ix3 0 k n)) (fun k n => wu (ix3 0 k n))
          (fun k n => wd (ix3 0 k n)) (fun k => gp (ix3 0 0 k)) (fun k n => wpg (ix3 0 k n))
          (fun k n => wpp (ix3 0 k n)) n := by
  unfold chain tail
  simp only [chain3_at, chain2_at, chain1_at x a ob wt wb wo ht hb]

end Chain

/-- Four chains one below another. -/
abbrev stack (y0 y1 y2 y3 : FVec Ideal S128x1024 .f32) : FVec Ideal S512x1024 .f32 :=
  concatenate S512x1024 0 [⟨S128x1024, y0⟩, ⟨S128x1024, y1⟩, ⟨S128x1024, y2⟩, ⟨S128x1024, y3⟩]
    concatenates_S128x1024_S128x1024_S128x1024_S128x1024_S512x1024_d0

theorem stack_at (y0 y1 y2 y3 : FVec Ideal S128x1024 .f32) (R : Fin 512 → Fin 1024 → EReal)
    (h0 : ∀ (s : Fin 128) n, y0 (ix2 s n) = R ⟨s, by omega⟩ n)
    (h1 : ∀ (s : Fin 128) n, y1 (ix2 s n) = R ⟨128 + s, by omega⟩ n)
    (h2 : ∀ (s : Fin 128) n, y2 (ix2 s n) = R ⟨256 + s, by omega⟩ n)
    (h3 : ∀ (s : Fin 128) n, y3 (ix2 s n) = R ⟨384 + s, by omega⟩ n) (r : Fin 512) (n : Fin 1024) :
    stack y0 y1 y2 y3 (ix2 r n) = R r n := by
  pointwise [stack]
  simp only [h0, h1, h2, h3]
  split_ifs
  all_goals exact congrArg (R · n) (Fin.ext (by simp only <;> omega))

/-- The RMSNorm's unit part on a block of rows. -/
def unitBlock (y : FVec Ideal S512x1024 .f32) : FVec Ideal S512x1024 .f32 :=
  mulf y (broadcastTo S512x1024 (rsqrt (addf (divf (shapeCast S512x1 (multiReduction .add [1] S512 (mulf y y)
    0x00000000#32 reduces_S512x1024_S512 (.inl rfl) rfl) shapeCasts_S512_S512x1)
    (broadcast S512x1 (Scalar.ofBits .f32 0x44800000#32))) (broadcast S512x1 (Scalar.ofBits .f32 0x358637BD#32))))
    broadcasts_S512x1_S512x1024)

theorem unitBlock_at (y : FVec Ideal S512x1024 .f32) (r : Fin 512) (n : Fin 1024) :
    unitBlock y (ix2 r n) = unit (fun k => y (ix2 r k)) n := by
  pointwise [unitBlock]
  rfl

section Same

/-! The four chains' steps are one another's, whatever stretch of the body they were cut into. -/

variable (x x1 : FVec Ideal S128x1024 .f32) (a ob : FVec Ideal S128x512 .bf16) (p p' : FVec Ideal S1x128x256 .f32)
  (wt wb : FVec Ideal S1x512x1024 .bf16) (g : FVec Ideal S1x1x1024 .f32) (wg wu : FVec Ideal S1x1024x2816 .bf16)
  (wd : FVec Ideal S1x2816x1024 .bf16) (h h' : FVec Ideal S128x1024 .bf16) (y z : FVec Ideal S128x2816 .f32)
  (wpg wpg' : FVec Ideal S1x1024x1024 .bf16) (wpp wpp' : FVec Ideal S1x256x1024 .bf16)

theorem mix3 : k0_pay3 (F := Ideal) x a wt ob wb = k0_pay2 (F := Ideal) x a wt ob wb := rfl
theorem mix4 : k0_pay4 (F := Ideal) x a wt ob wb = k0_pay2 (F := Ideal) x a wt ob wb := rfl
theorem mix5 : k0_pay5 (F := Ideal) x a wt ob wb = k0_pay2 (F := Ideal) x a wt ob wb := rfl
theorem norm8 : k0_pay8 (k0_pay6 x) (k0_pay7 g) = k0_pay9 x g := rfl
theorem norm10 : k0_pay10 x g = k0_pay9 x g := rfl
theorem norm12 : k0_pay12 (k0_pay11 x) g = k0_pay9 x g := rfl
theorem gate13 : k0_pay13 h wg = k0_pay15 h wg := rfl
theorem gate17 : k0_pay17 h wg = k0_pay15 h wg := rfl
theorem gate19 : k0_pay19 x g wg = k0_pay15 (k0_pay12 x g) wg := rfl
theorem up14 : k0_pay14 h wu = k0_pay16 h wu := rfl
theorem up18 : k0_pay18 h wu = k0_pay16 h wu := rfl
theorem down21 : k0_pay21 x y z wd = k0_pay22 x y z wd := rfl
theorem down23 : k0_pay23 x y z wd = k0_pay22 x y z wd := rfl
theorem down24 : k0_pay24 x h y (k0_pay20 wu) (constant S128x2816 .f32 0x00000000#32) wd
    = k0_pay22 x y (k0_pay16 h wu) wd := rfl
theorem norm26 : k0_pay26 (k0_pay22 x y z wd) (k0_pay25 x y z wd) g = k0_pay27 (k0_pay22 x y z wd) g := rfl
theorem norm28 : k0_pay28 x g = k0_pay27 x g := rfl
theorem norm30 : k0_pay30 x (k0_pay29 x) (Scalar.ofBits .f32 0x358637BD#32) g = k0_pay27 x g := rfl
theorem embed31 : k0_pay31 x h wpg p wpp = k0_pay32 x h wpg p wpp := rfl
theorem embed33 (y0 y1 : FVec Ideal S128x1024 .f32) : k0_pay33 x x1 h h' y0 y1 wpg p wpp wpg' p' wpp'
    = unitBlock (stack y0 y1 (k0_pay32 x h wpg p wpp) (k0_pay32 x1 h' wpg' p' wpp')) := rfl

theorem chain_fold (gf gp : FVec Ideal S1x1x1024 .f32) :
    k0_pay32 (k0_pay22 (k0_pay2 (F := Ideal) x a wt ob wb) (k0_pay15 (k0_pay9 (k0_pay2 (F := Ideal) x a wt ob wb) gf) wg)
        (k0_pay16 (k0_pay9 (k0_pay2 (F := Ideal) x a wt ob wb) gf) wu) wd)
      (k0_pay27 (k0_pay22 (k0_pay2 (F := Ideal) x a wt ob wb)
        (k0_pay15 (k0_pay9 (k0_pay2 (F := Ideal) x a wt ob wb) gf) wg)
        (k0_pay16 (k0_pay9 (k0_pay2 (F := Ideal) x a wt ob wb) gf) wu) wd) gp) wpg p wpp
    = chain x a ob p wt wb gf wg wu wd gp wpg wpp := rfl

end Same

/-- A block of the result: the tail of its rows, normalised with the final gains. -/
theorem block_at (x0 : Vec Ideal S512x1024 .f32) (x1 x2 : Vec Ideal S512x512 .bf16) (x3 : Vec Ideal S1x512x256 .f32)
    (x4 : Vec Ideal S1x1024x1024 .bf16) (x5 : Vec Ideal S1x1x1024 .f32) (x6 x7 : Vec Ideal S1x1024x2816 .bf16)
    (x8 : Vec Ideal S1x2816x1024 .bf16) (x9 : Vec Ideal S1x1x1024 .f32) (x10 : Vec Ideal S1x1024x1024 .bf16)
    (x11 : Vec Ideal S1x256x1024 .bf16) (x12 : Vec Ideal S1x1024 .f32) (r : Fin 512) (n : Fin 1024) :
    out0_13 x0 x1 x2 x3 x4 x5 x6 x7 x8 x9 x10 x11 x12 (ix2 r n)
      = norm (tail (fun k => (x0 : FVec Ideal S512x1024 .f32) (ix2 r k)) (fun k => (x1 : FVec Ideal S512x512 .bf16) (ix2 r k))
          (fun k => (x2 : FVec Ideal S512x512 .bf16) (ix2 r k)) (fun k => (x3 : FVec Ideal S1x512x256 .f32) (ix3 0 r k))
          (fun k n => (x4 : FVec Ideal S1x1024x1024 .bf16) (ix3 0 k n)) (fun k => (x5 : FVec Ideal S1x1x1024 .f32) (ix3 0 0 k))
          (fun k n => (x6 : FVec Ideal S1x1024x2816 .bf16) (ix3 0 k n)) (fun k n => (x7 : FVec Ideal S1x1024x2816 .bf16) (ix3 0 k n))
          (fun k n => (x8 : FVec Ideal S1x2816x1024 .bf16) (ix3 0 k n)) (fun k => (x9 : FVec Ideal S1x1x1024 .f32) (ix3 0 0 k))
          (fun k n => (x10 : FVec Ideal S1x1024x1024 .bf16) (ix3 0 k n)) (fun k n => (x11 : FVec Ideal S1x256x1024 .bf16) (ix3 0 k n)))
          (fun k => (x12 : FVec Ideal S1x1024 .f32) (ix2 0 k)) n := by
  unfold_out out0_13
  frame_out
  simp only [mix3, mix4, mix5, norm8, norm10, norm12, gate13, gate17, gate19, up14, up18, down21, down23, down24, norm26,
    norm28, norm30, embed31, embed33]
  simp only [chain_fold]
  pointwise [k0_pay1]
  rw [unitBlock_at]
  refine congrArg (fun y : Fin 1024 → EReal => unit y n * _) (funext fun k => ?_)
  refine stack_at _ _ _ _ (fun r => tail (fun k => (x0 : FVec Ideal S512x1024 .f32) (ix2 r k))
    (fun k => (x1 : FVec Ideal S512x512 .bf16) (ix2 r k)) (fun k => (x2 : FVec Ideal S512x512 .bf16) (ix2 r k))
    (fun k => (x3 : FVec Ideal S1x512x256 .f32) (ix3 0 r k)) _ _ _ _ _ _ _ _) ?_ ?_ ?_ ?_ r k <;>
  · intro s n
    refine (chain_at _ _ _ _ _ _ _ _ _ _ _ _ _ (fun k n => (x4 : FVec Ideal S1x1024x1024 .bf16) (ix3 0 k n)) ?_ ?_ s n).trans ?_
    · intro k n; pointwise
    · intro k n; pointwise
    · pointwise

variable (m : (ℓ : Loc nD τ sig) → Buf (Elt Ideal) ℓ)

/-- The result: the last layer's tail of every row, normalised with the final gains. -/
def result (c : Dev nD) : Buf (Elt Ideal) ((c.tc : Thread nD τ).loc main_v10) := fun i : S16384x1024.Idx =>
  norm (tailRow 1 (m ((c.tc : Thread nD τ).loc main_arg0)) (m ((c.tc : Thread nD τ).loc main_arg1))
    (m ((c.tc : Thread nD τ).loc main_arg2)) (m ((c.tc : Thread nD τ).loc main_arg3))
    (m ((c.tc : Thread nD τ).loc main_arg4)) (m ((c.tc : Thread nD τ).loc main_arg5))
    (m ((c.tc : Thread nD τ).loc main_arg6)) (m ((c.tc : Thread nD τ).loc main_arg7))
    (m ((c.tc : Thread nD τ).loc main_arg8)) (m ((c.tc : Thread nD τ).loc main_arg9))
    (m ((c.tc : Thread nD τ).loc main_arg10)) (m ((c.tc : Thread nD τ).loc main_arg11)) (i 0))
    (fun k => (m ((c.tc : Thread nD τ).loc main_arg12) : FVec Ideal S1024 .f32) (ix1 k)) (i 1)

theorem idx : ∀ t : Fin cfg0.N, win0_0.index t = ![t.val, 0] ∧ win0_1.index t = ![t.val, 0]
    ∧ win0_2.index t = ![t.val, 0] ∧ win0_3.index t = ![1, t.val, 0] ∧ win0_4.index t = ![1, 0, 0]
    ∧ win0_5.index t = ![1, 0, 0] ∧ win0_6.index t = ![1, 0, 0] ∧ win0_7.index t = ![1, 0, 0]
    ∧ win0_8.index t = ![1, 0, 0] ∧ win0_9.index t = ![1, 0, 0] ∧ win0_10.index t = ![1, 0, 0]
    ∧ win0_11.index t = ![1, 0, 0] ∧ win0_12.index t = ![0, 0] ∧ win0_13.index t = ![t.val, 0] :=
  (by decide +kernel : ∀ t : Fin grid0.N, _)

/-- Row `r` of grid point `t`'s block is this row of the arrays. -/
abbrev row (t : Fin cfg0.N) (r : Fin 512) : Fin 16384 := ⟨512 * t.val + r.val, by have : t.val < 32 := t.isLt; omega⟩

theorem x_blk (c : Dev nD) (t : Fin cfg0.N) (r : Fin 512) (k : Fin 1024) : (iblk m c 0 t : FVec Ideal S512x1024 .f32) (ix2 r k)
    = (m ((c.tc : Thread nD τ).loc main_arg0) : FVec Ideal S16384x1024 .f32) (ix2 (row t r) k) := by
  blk_point [iblk, V, idx t]

theorem a_blk (c : Dev nD) (t : Fin cfg0.N) (r : Fin 512) (k : Fin 512) : (iblk m c 1 t : FVec Ideal S512x512 .bf16) (ix2 r k)
    = (m ((c.tc : Thread nD τ).loc main_arg1) : FVec Ideal S16384x512 .bf16) (ix2 (row t r) k) := by
  blk_point [iblk, V, idx t]

theorem ob_blk (c : Dev nD) (t : Fin cfg0.N) (r : Fin 512) (k : Fin 512) : (iblk m c 2 t : FVec Ideal S512x512 .bf16) (ix2 r k)
    = (m ((c.tc : Thread nD τ).loc main_arg2) : FVec Ideal S16384x512 .bf16) (ix2 (row t r) k) := by
  blk_point [iblk, V, idx t]

theorem p_blk (c : Dev nD) (t : Fin cfg0.N) (r : Fin 512) (k : Fin 256) : (iblk m c 3 t : FVec Ideal S1x512x256 .f32) (ix3 0 r k)
    = (m ((c.tc : Thread nD τ).loc main_arg3) : FVec Ideal S2x8x2048x256 .f32) (ix4 1 ⟨(row t r).val / 2048, by have := (row t r).isLt; omega⟩ ⟨(row t r).val % 2048, by omega⟩ k) := by
  blk_point [iblk, V, idx t]

theorem w_out_blk (c : Dev nD) (t : Fin cfg0.N) (k : Fin 1024) (n : Fin 1024) : (iblk m c 4 t : FVec Ideal S1x1024x1024 .bf16) (ix3 0 k n)
    = (m ((c.tc : Thread nD τ).loc main_arg4) : FVec Ideal S2x1024x1024 .f32) (ix3 1 k n) := by
  blk_point [iblk, V, idx t]

theorem g_ffn_blk (c : Dev nD) (t : Fin cfg0.N) (k : Fin 1024) : (iblk m c 5 t : FVec Ideal S1x1x1024 .f32) (ix3 0 0 k)
    = (m ((c.tc : Thread nD τ).loc main_arg5) : FVec Ideal S2x1024 .f32) (ix2 1 k) := by
  blk_point [iblk, V, idx t]

theorem w_gate_blk (c : Dev nD) (t : Fin cfg0.N) (k : Fin 1024) (n : Fin 2816) : (iblk m c 6 t : FVec Ideal S1x1024x2816 .bf16) (ix3 0 k n)
    = (m ((c.tc : Thread nD τ).loc main_arg6) : FVec Ideal S2x1024x2816 .f32) (ix3 1 k n) := by
  blk_point [iblk, V, idx t]

theorem w_up_blk (c : Dev nD) (t : Fin cfg0.N) (k : Fin 1024) (n : Fin 2816) : (iblk m c 7 t : FVec Ideal S1x1024x2816 .bf16) (ix3 0 k n)
    = (m ((c.tc : Thread nD τ).loc main_arg7) : FVec Ideal S2x1024x2816 .f32) (ix3 1 k n) := by
  blk_point [iblk, V, idx t]

theorem w_down_blk (c : Dev nD) (t : Fin cfg0.N) (k : Fin 2816) (n : Fin 1024) : (iblk m c 8 t : FVec Ideal S1x2816x1024 .bf16) (ix3 0 k n)
    = (m ((c.tc : Thread nD τ).loc main_arg8) : FVec Ideal S2x2816x1024 .f32) (ix3 1 k n) := by
  blk_point [iblk, V, idx t]

theorem g_ple_blk (c : Dev nD) (t : Fin cfg0.N) (k : Fin 1024) : (iblk m c 9 t : FVec Ideal S1x1x1024 .f32) (ix3 0 0 k)
    = (m ((c.tc : Thread nD τ).loc main_arg9) : FVec Ideal S2x1024 .f32) (ix2 1 k) := by
  blk_point [iblk, V, idx t]

theorem w_ple_gate_blk (c : Dev nD) (t : Fin cfg0.N) (k : Fin 1024) (n : Fin 1024) : (iblk m c 10 t : FVec Ideal S1x1024x1024 .bf16) (ix3 0 k n)
    = (m ((c.tc : Thread nD τ).loc main_arg10) : FVec Ideal S2x1024x1024 .f32) (ix3 1 k n) := by
  blk_point [iblk, V, idx t]

theorem w_ple_proj_blk (c : Dev nD) (t : Fin cfg0.N) (k : Fin 256) (n : Fin 1024) : (iblk m c 11 t : FVec Ideal S1x256x1024 .bf16) (ix3 0 k n)
    = (m ((c.tc : Thread nD τ).loc main_arg11) : FVec Ideal S2x256x1024 .f32) (ix3 1 k n) := by
  blk_point [iblk, V, idx t]

theorem g_final_blk (c : Dev nD) (t : Fin cfg0.N) (k : Fin 1024) : (iblk m c 12 t : FVec Ideal S1x1024 .f32) (ix2 0 k)
    = (m ((c.tc : Thread nD τ).loc main_arg12) : FVec Ideal S1024 .f32) (ix1 k) := by
  blk_point [iblk, V, idx t]

theorem out_blk (t : Fin cfg0.N) (r : Fin 512) (n : Fin 1024) :
    ((win0_13.blk t).view.emb (ix2 r n) : S16384x1024.Idx) = ix2 (row t r) n := by
  blk_ext [idx t]

theorem final (c : Dev nD) : (dats m 0 c).arrAt 13 (cfgs 0).N = result m c := by
  refine (dats m 0 c).arrAt_eq_of_covers 13 _ (by decide +kernel) fun t hf y => ?_
  blk_simp
  rw [after0_13]
  obtain ⟨r, n, rfl⟩ : ∃ (r : Fin 512) (n : Fin 1024), y = ix2 r n := ⟨y 0, y 1, eq_ix2 y⟩
  refine (block_at _ _ _ _ _ _ _ _ _ _ _ _ _ r n).trans ?_
  refine Eq.trans ?_ (congrArg (result m c) (out_blk t r n)).symm
  simp only [x_blk, a_blk, ob_blk, p_blk, w_out_blk, g_ffn_blk, w_gate_blk, w_up_blk, w_down_blk, g_ple_blk,
    w_ple_gate_blk, w_ple_proj_blk, g_final_blk]
  rfl

end Cert.Kernel2Ideal.Tail
-- ==== Proof.TailRef.lean ====
module

public import proofs.«01_k».proof.Proof.Rows
public import proofs.«01_k».proof.Proof.Gen.Reference2Ideal.Run

@[expose] public section

/-! # The last layer's reference, row by row -/

set_option maxRecDepth 16384

noncomputable section

namespace Cert.Reference2Ideal.Value

open Cert.Reference2Ideal Cert.Reference2Ideal.Gen Idealize.ShloMosaic Idealize.ShloMosaic.TcCoe Idealize.SL.Sem
open EncoderRow

variable (V0 : Valuation τ sig (Elt Ideal))

/-- The residual rows after the output projection. -/
abbrev afterMix (r : Fin 16384) : Fin 1024 → EReal :=
  mixed (fun k => (V0 (Proc.devRef .tc main_arg0) : FVec Ideal S16384x1024 .f32) (ix2 r k))
    (fun k => (V0 (Proc.devRef .tc main_arg1) : FVec Ideal S16384x512 .bf16) (ix2 r k))
    (fun k => (V0 (Proc.devRef .tc main_arg2) : FVec Ideal S16384x512 .bf16) (ix2 r k))
    (fun k n => (V0 (Proc.devRef .tc main_arg4) : FVec Ideal S2x1024x1024 .f32) (ix3 1 k n))

theorem x1_at (r : Fin 16384) (n : Fin 1024) :
    (res_main_v5 (F := Ideal) V0 : FVec Ideal S16384x1024 .f32) (ix2 r n) = afterMix V0 r n := by
  pointwise [res_main_v5, fn_main_v0]
  rfl

theorem h_at (r : Fin 16384) (n : Fin 1024) :
    (res_main_v20 (F := Ideal) V0 : FVec Ideal S16384x1024 .f32) (ix2 r n)
      = norm (afterMix V0 r) (fun k => (V0 (Proc.devRef .tc main_arg5) : FVec Ideal S2x1024 .f32) (ix2 1 k)) n := by
  pointwise [res_main_v20]
  simp only [x1_at]
  rfl

theorem gate_at (r : Fin 16384) (n : Fin 2816) :
    (res_main_v23 (F := Ideal) V0 : FVec Ideal S16384x2816 .f32) (ix2 r n)
      = proj (norm (afterMix V0 r) (fun k => (V0 (Proc.devRef .tc main_arg5) : FVec Ideal S2x1024 .f32) (ix2 1 k)))
          (fun k n => (V0 (Proc.devRef .tc main_arg6) : FVec Ideal S2x1024x2816 .f32) (ix3 1 k n)) n := by
  pointwise [res_main_v23]
  simp only [h_at]
  rfl

/-- The residual rows after the SwiGLU block. -/
abbrev afterFfn (r : Fin 16384) : Fin 1024 → EReal :=
  swiglu (afterMix V0 r) (fun k => (V0 (Proc.devRef .tc main_arg5) : FVec Ideal S2x1024 .f32) (ix2 1 k))
    (fun k n => (V0 (Proc.devRef .tc main_arg6) : FVec Ideal S2x1024x2816 .f32) (ix3 1 k n))
    (fun k n => (V0 (Proc.devRef .tc main_arg7) : FVec Ideal S2x1024x2816 .f32) (ix3 1 k n))
    (fun k n => (V0 (Proc.devRef .tc main_arg8) : FVec Ideal S2x2816x1024 .f32) (ix3 1 k n))

theorem x2_at (r : Fin 16384) (n : Fin 1024) :
    (res_main_v32 (F := Ideal) V0 : FVec Ideal S16384x1024 .f32) (ix2 r n) = afterFfn V0 r n := by
  pointwise [res_main_v32]
  simp only [x1_at, h_at, gate_at]
  rfl

/-- The tail of the last layer, row `r`, over the reference's arguments. -/
abbrev tailOf (r : Fin 16384) : Fin 1024 → EReal :=
  tailRow 1 (V0 (Proc.devRef .tc main_arg0)) (V0 (Proc.devRef .tc main_arg1)) (V0 (Proc.devRef .tc main_arg2))
    (V0 (Proc.devRef .tc main_arg3)) (V0 (Proc.devRef .tc main_arg4)) (V0 (Proc.devRef .tc main_arg5))
    (V0 (Proc.devRef .tc main_arg6)) (V0 (Proc.devRef .tc main_arg7)) (V0 (Proc.devRef .tc main_arg8))
    (V0 (Proc.devRef .tc main_arg9)) (V0 (Proc.devRef .tc main_arg10)) (V0 (Proc.devRef .tc main_arg11)) r

theorem x3_at (r : Fin 16384) (n : Fin 1024) :
    (res_main_v64 (F := Ideal) V0 : FVec Ideal S16384x1024 .f32) (ix2 r n) = tailOf V0 r n := by
  pointwise [res_main_v64]
  simp only [x2_at]
  rfl

end Cert.Reference2Ideal.Value
-- ==== Proof.TailClaim.lean ====
module

public import proofs.«01_k».proof.Defs
public import proofs.«01_k».proof.Proof.Tail
public import proofs.«01_k».proof.Proof.TailRef

@[expose] public section

/-! # The last layer's call computes its reference -/

set_option maxRecDepth 16384

noncomputable section

namespace Cert.TailClaim

open Idealize.ShloMosaic Idealize.ShloMosaic.TcCoe Idealize.SL.Sem EncoderRow

/-- The reference's frame: its run writes no argument, and it declares no semaphore. -/
theorem reference_frame : Cert.quiescent_Reference2Ideal (hReference2Ideal := Cert.Reference2Ideal.Gen.facts) := by
  intro m ρ _
  exact (θ_run Cert.Reference2Ideal.defs _ _).mono
    (fun r h => ⟨fun c => (h c).2, Idealize.ShloMosaic.sem_eq_zero_of_no_sems (by decide) r.2⟩)
    (Cert.Reference2Ideal.Value.run m ρ)

/-- Over the extended reals the call's result is the reference's, from the same arguments. -/
theorem same_value : Cert.algebraic_Kernel2Ideal_Reference2Ideal (hKernel2Ideal := Cert.Kernel2Ideal.Gen.facts)
    (hReference2Ideal := Cert.Reference2Ideal.Gen.facts) := by
  intro m g m' g' _ hargs
  refine ⟨fun c => Cert.Kernel2Ideal.Tail.result m c, ?_, ?_⟩
  · exact (θ_run Cert.Kernel2Ideal.defs _ _).mono
      (fun r h c => ⟨(h c).1.trans (Cert.Kernel2Ideal.Tail.final m c), (h c).2⟩)
      (Cert.Kernel2Ideal.Value.run_blocks m g)
  · refine (θ_run Cert.Reference2Ideal.defs _ _).mono (fun r h c => ⟨(h c).1.trans ?_, (h c).2⟩)
      (Cert.Reference2Ideal.Value.run m' g')
    obtain ⟨h0, h1, h2, h3, h4, h5, h6, h7, h8, h9, h10, h11, h12⟩ := hargs c
    refine funext fun i => ?_
    obtain ⟨r, n, rfl⟩ : ∃ (r : Fin 16384) (n : Fin 1024), i = ix2 r n := ⟨i 0, i 1, eq_ix2 i⟩
    pointwise [Cert.Kernel2Ideal.Tail.result]
    simp only [Cert.Reference2Ideal.Value.x3_at]
    simp only [← h0, ← h1, ← h2, ← h3, ← h4, ← h5, ← h6, ← h7, ← h8, ← h9, ← h10, ← h11, ← h12]
    rfl

end Cert.TailClaim
-- ==== Proof.MidFrame.lean ====
module

public import proofs.«01_k».proof.Proof.Gen.Kernel3Ideal.Launch
public import proofs.«01_k».proof.Proof.Gen.Kernel3Ideal.Skeleton
public import proofs.«01_k».proof.Proof.Gen.Kernel3Ideal.Points
public import Idealize.ShloMosaic.Lib.Pipeline.FrameBody
public import Idealize.ShloMosaic.Lib.Claim
public import Idealize.ShloMosaic.Lib.Ring
public import Idealize.ShloMosaic.Lib.Tactic
public import Idealize.ShloMosaic.Lib.UnfoldOut
public import Idealize.ShloMosaic.Lib.WordCmp

@[expose] public section

-- membership in a rectangle of production extents (`View.cover_of_tiled`): the elaborator's structural look
-- recurses once per coordinate of the long axes
set_option maxRecDepth 16384
set_option maxHeartbeats 2000000

noncomputable section

namespace Cert.Kernel3Ideal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)
/-! ## @main up to the region -/

/-- Core `c`'s TensorCore buffers when the region is entered: after the host operations `hostOps0` (Launch.lean). -/
abbrev V (c : Dev nD) (b : Ref sig .tc) : Buf (Elt F) ((c : Thread nD τ).loc b) := StableHlo.after hostOps0 (fun b => m (c, b)) b

theorem hostOps0_fresh : (hostOps0 : List (HloOp τ sig (Elt F))).Forall fun op => op.fresh = ∅ := by
  simp only [List.Forall]; repeat' constructor

set_option maxHeartbeats 800000 in
/-- @main up to the region, at the certificate's variants `𝒱₀`: the host operations then the region
    (`Pipeline.hmain_prefix`: `StableHlo.wp_seq` over the unscoped buffers, off `main_chain`). -/
theorem hmain (𝒱₀ : Variants) : Pipeline.HMain (Ix := Unit) (Name := ℕ) (U := UR sig nD τ) (Lvl := ℕ) cfgs 0 defs₀ 𝒱₀ m (main (F := F)) (V m) :=
  Pipeline.hmain_prefix cfgs 0 defs₀ 𝒱₀ m main hostOps0 hostOps0_sub hostOps0_fresh main_chain

/-- No host operation before the region writes `main_arg0`: the region finds it as launched. -/
theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg1`: the region finds it as launched. -/
theorem V_main_arg1 (c : Dev nD) : V m c main_arg1 = m ((c : Thread nD τ).loc main_arg1) :=
  StableHlo.after_of_forall_not_mem (b := Proc.devRef .tc main_arg1) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg2`: the region finds it as launched. -/
theorem V_main_arg2 (c : Dev nD) : V m c main_arg2 = m ((c : Thread nD τ).loc main_arg2) :=
  StableHlo.after_of_forall_not_mem (b := Proc.devRef .tc main_arg2) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg3`: the region finds it as launched. -/
theorem V_main_arg3 (c : Dev nD) : V m c main_arg3 = m ((c : Thread nD τ).loc main_arg3) :=
  StableHlo.after_of_forall_not_mem (b := Proc.devRef .tc main_arg3) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg4`: the region finds it as launched. -/
theorem V_main_arg4 (c : Dev nD) : V m c main_arg4 = m ((c : Thread nD τ).loc main_arg4) :=
  StableHlo.after_of_forall_not_mem (b := Proc.devRef .tc main_arg4) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg5`: the region finds it as launched. -/
theorem V_main_arg5 (c : Dev nD) : V m c main_arg5 = m ((c : Thread nD τ).loc main_arg5) :=
  StableHlo.after_of_forall_not_mem (b := Proc.devRef .tc main_arg5) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg6`: the region finds it as launched. -/
theorem V_main_arg6 (c : Dev nD) : V m c main_arg6 = m ((c : Thread nD τ).loc main_arg6) :=
  StableHlo.after_of_forall_not_mem (b := Proc.devRef .tc main_arg6) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg7`: the region finds it as launched. -/
theorem V_main_arg7 (c : Dev nD) : V m c main_arg7 = m ((c : Thread nD τ).loc main_arg7) :=
  StableHlo.after_of_forall_not_mem (b := Proc.devRef .tc main_arg7) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg8`: the region finds it as launched. -/
theorem V_main_arg8 (c : Dev nD) : V m c main_arg8 = m ((c : Thread nD τ).loc main_arg8) :=
  StableHlo.after_of_forall_not_mem (b := Proc.devRef .tc main_arg8) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg9`: the region finds it as launched. -/
theorem V_main_arg9 (c : Dev nD) : V m c main_arg9 = m ((c : Thread nD τ).loc main_arg9) :=
  StableHlo.after_of_forall_not_mem (b := Proc.devRef .tc main_arg9) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg10`: the region finds it as launched. -/
theorem V_main_arg10 (c : Dev nD) : V m c main_arg10 = m ((c : Thread nD τ).loc main_arg10) :=
  StableHlo.after_of_forall_not_mem (b := Proc.devRef .tc main_arg10) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg11`: the region finds it as launched. -/
theorem V_main_arg11 (c : Dev nD) : V m c main_arg11 = m ((c : Thread nD τ).loc main_arg11) :=
  StableHlo.after_of_forall_not_mem (b := Proc.devRef .tc main_arg11) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg12`: the region finds it as launched. -/
theorem V_main_arg12 (c : Dev nD) : V m c main_arg12 = m ((c : Thread nD τ).loc main_arg12) :=
  StableHlo.after_of_forall_not_mem (b := Proc.devRef .tc main_arg12) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg13`: the region finds it as launched. -/
theorem V_main_arg13 (c : Dev nD) : V m c main_arg13 = m ((c : Thread nD τ).loc main_arg13) :=
  StableHlo.after_of_forall_not_mem (b := Proc.devRef .tc main_arg13) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg14`: the region finds it as launched. -/
theorem V_main_arg14 (c : Dev nD) : V m c main_arg14 = m ((c : Thread nD τ).loc main_arg14) :=
  StableHlo.after_of_forall_not_mem (b := Proc.devRef .tc main_arg14) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg15`: the region finds it as launched. -/
theorem V_main_arg15 (c : Dev nD) : V m c main_arg15 = m ((c : Thread nD τ).loc main_arg15) :=
  StableHlo.after_of_forall_not_mem (b := Proc.devRef .tc main_arg15) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg16`: the region finds it as launched. -/
theorem V_main_arg16 (c : Dev nD) : V m c main_arg16 = m ((c : Thread nD τ).loc main_arg16) :=
  StableHlo.after_of_forall_not_mem (b := Proc.devRef .tc main_arg16) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg17`: the region finds it as launched. -/
theorem V_main_arg17 (c : Dev nD) : V m c main_arg17 = m ((c : Thread nD τ).loc main_arg17) :=
  StableHlo.after_of_forall_not_mem (b := Proc.devRef .tc main_arg17) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

/-! ## The windows' blocks -/

/-- Window `w`'s block at point `t`, read off its array as the region finds it (`V`). -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- Input window 0's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
/-- Input window 1's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
/-- Input window 2's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_2_of {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
/-- Input window 3's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_3_of {c : Dev nD} (dat : Dat τ (Elt F) Unit ℕ (UR sig nD τ) ℕ cfg0 c) (hA : dat.A 3 = V m c (Pipeline.arrRef spec0 3))
    (hafter : ∀ t, dat.after 3 t = iblk m c 3 t) (t : Fin cfg0.N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)
/-- Input window 4's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_4_of {c : Dev nD} (dat : Dat τ (Elt F) Unit ℕ (UR sig nD τ) ℕ cfg0 c) (hA : dat.A 4 = V m c (Pipeline.arrRef spec0 4))
    (hafter : ∀ t, dat.after 4 t = iblk m c 4 t) (t : Fin cfg0.N) (d) : dat.before 4 t d = iblk m c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)
/-- Input window 5's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_5_of {c : Dev nD} (dat : Dat τ (Elt F) Unit ℕ (UR sig nD τ) ℕ cfg0 c) (hA : dat.A 5 = V m c (Pipeline.arrRef spec0 5))
    (hafter : ∀ t, dat.after 5 t = iblk m c 5 t) (t : Fin cfg0.N) (d) : dat.before 5 t d = iblk m c 5 t :=
  (dat.before_in_eq_fetched 5 rfl (fun _ => rfl) (fun _ _ _ => rfl) (fun t => by rw [hafter]; unfold Dat.blockOf iblk; rw [hA]; try rfl) t d).trans
    (by unfold Dat.fetched Dat.blockOf iblk; rw [hA]; try rfl)
/-- Input window 6's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_6_of {c : Dev nD} (dat : Dat τ (Elt F) Unit ℕ (UR sig nD τ) ℕ cfg0 c) (hA : dat.A 6 = V m c (Pipeline.arrRef spec0 6))
    (hafter : ∀ t, dat.after 6 t = iblk m c 6 t) (t : Fin cfg0.N) (d) : dat.before 6 t d = iblk m c 6 t :=
  (dat.before_in_eq_fetched 6 rfl (fun _ => rfl) (fun _ _ _ => rfl) (fun t => by rw [hafter]; unfold Dat.blockOf iblk; rw [hA]; try rfl) t d).trans
    (by unfold Dat.fetched Dat.blockOf iblk; rw [hA]; try rfl)
/-- Input window 7's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_7_of {c : Dev nD} (dat : Dat τ (Elt F) Unit ℕ (UR sig nD τ) ℕ cfg0 c) (hA : dat.A 7 = V m c (Pipeline.arrRef spec0 7))
    (hafter : ∀ t, dat.after 7 t = iblk m c 7 t) (t : Fin cfg0.N) (d) : dat.before 7 t d = iblk m c 7 t :=
  (dat.before_in_eq_fetched 7 rfl (fun _ => rfl) (fun _ _ _ => rfl) (fun t => by rw [hafter]; unfold Dat.blockOf iblk; rw [hA]; try rfl) t d).trans
    (by unfold Dat.fetched Dat.blockOf iblk; rw [hA]; try rfl)
/-- Input window 8's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_8_of {c : Dev nD} (dat : Dat τ (Elt F) Unit ℕ (UR sig nD τ) ℕ cfg0 c) (hA : dat.A 8 = V m c (Pipeline.arrRef spec0 8))
    (hafter : ∀ t, dat.after 8 t = iblk m c 8 t) (t : Fin cfg0.N) (d) : dat.before 8 t d = iblk m c 8 t :=
  (dat.before_in_eq_fetched 8 rfl (fun _ => rfl) (fun _ _ _ => rfl) (fun t => by rw [hafter]; unfold Dat.blockOf iblk; rw [hA]; try rfl) t d).trans
    (by unfold Dat.fetched Dat.blockOf iblk; rw [hA]; try rfl)
/-- Input window 9's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_9_of {c : Dev nD} (dat : Dat τ (Elt F) Unit ℕ (UR sig nD τ) ℕ cfg0 c) (hA : dat.A 9 = V m c (Pipeline.arrRef spec0 9))
    (hafter : ∀ t, dat.after 9 t = iblk m c 9 t) (t : Fin cfg0.N) (d) : dat.before 9 t d = iblk m c 9 t :=
  (dat.before_in_eq_fetched 9 rfl (fun _ => rfl) (fun _ _ _ => rfl) (fun t => by rw [hafter]; unfold Dat.blockOf iblk; rw [hA]; try rfl) t d).trans
    (by unfold Dat.fetched Dat.blockOf iblk; rw [hA]; try rfl)
/-- Input window 10's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_10_of {c : Dev nD} (dat : Dat τ (Elt F) Unit ℕ (UR sig nD τ) ℕ cfg0 c) (hA : dat.A 10 = V m c (Pipeline.arrRef spec0 10))
    (hafter : ∀ t, dat.after 10 t = iblk m c 10 t) (t : Fin cfg0.N) (d) : dat.before 10 t d = iblk m c 10 t :=
  (dat.before_in_eq_fetched 10 rfl (fun _ => rfl) (fun _ _ _ => rfl) (fun t => by rw [hafter]; unfold Dat.blockOf iblk; rw [hA]; try rfl) t d).trans
    (by unfold Dat.fetched Dat.blockOf iblk; rw [hA]; try rfl)
/-- Input window 11's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_11_of {c : Dev nD} (dat : Dat τ (Elt F) Unit ℕ (UR sig nD τ) ℕ cfg0 c) (hA : dat.A 11 = V m c (Pipeline.arrRef spec0 11))
    (hafter : ∀ t, dat.after 11 t = iblk m c 11 t) (t : Fin cfg0.N) (d) : dat.before 11 t d = iblk m c 11 t :=
  (dat.before_in_eq_fetched 11 rfl (fun _ => rfl) (fun _ _ _ => rfl) (fun t => by rw [hafter]; unfold Dat.blockOf iblk; rw [hA]; try rfl) t d).trans
    (by unfold Dat.fetched Dat.blockOf iblk; rw [hA]; try rfl)
/-- Input window 12's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_12_of {c : Dev nD} (dat : Dat τ (Elt F) Unit ℕ (UR sig nD τ) ℕ cfg0 c) (hA : dat.A 12 = V m c (Pipeline.arrRef spec0 12))
    (hafter : ∀ t, dat.after 12 t = iblk m c 12 t) (t : Fin cfg0.N) (d) : dat.before 12 t d = iblk m c 12 t :=
  (dat.before_in_eq_fetched 12 rfl (fun _ => rfl) (fun _ _ _ => rfl) (fun t => by rw [hafter]; unfold Dat.blockOf iblk; rw [hA]; try rfl) t d).trans
    (by unfold Dat.fetched Dat.blockOf iblk; rw [hA]; try rfl)
/-- Input window 13's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_13_of {c : Dev nD} (dat : Dat τ (Elt F) Unit ℕ (UR sig nD τ) ℕ cfg0 c) (hA : dat.A 13 = V m c (Pipeline.arrRef spec0 13))
    (hafter : ∀ t, dat.after 13 t = iblk m c 13 t) (t : Fin cfg0.N) (d) : dat.before 13 t d = iblk m c 13 t :=
  (dat.before_in_eq_fetched 13 rfl (fun _ => rfl) (fun _ _ _ => rfl) (fun t => by rw [hafter]; unfold Dat.blockOf iblk; rw [hA]; try rfl) t d).trans
    (by unfold Dat.fetched Dat.blockOf iblk; rw [hA]; try rfl)
/-- Input window 14's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_14_of {c : Dev nD} (dat : Dat τ (Elt F) Unit ℕ (UR sig nD τ) ℕ cfg0 c) (hA : dat.A 14 = V m c (Pipeline.arrRef spec0 14))
    (hafter : ∀ t, dat.after 14 t = iblk m c 14 t) (t : Fin cfg0.N) (d) : dat.before 14 t d = iblk m c 14 t :=
  (dat.before_in_eq_fetched 14 rfl (fun _ => rfl) (fun _ _ _ => rfl) (fun t => by rw [hafter]; unfold Dat.blockOf iblk; rw [hA]; try rfl) t d).trans
    (by unfold Dat.fetched Dat.blockOf iblk; rw [hA]; try rfl)
/-- Input window 15's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_15_of {c : Dev nD} (dat : Dat τ (Elt F) Unit ℕ (UR sig nD τ) ℕ cfg0 c) (hA : dat.A 15 = V m c (Pipeline.arrRef spec0 15))
    (hafter : ∀ t, dat.after 15 t = iblk m c 15 t) (t : Fin cfg0.N) (d) : dat.before 15 t d = iblk m c 15 t :=
  (dat.before_in_eq_fetched 15 rfl (fun _ => rfl) (fun _ _ _ => rfl) (fun t => by rw [hafter]; unfold Dat.blockOf iblk; rw [hA]; try rfl) t d).trans
    (by unfold Dat.fetched Dat.blockOf iblk; rw [hA]; try rfl)
/-- Input window 16's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_16_of {c : Dev nD} (dat : Dat τ (Elt F) Unit ℕ (UR sig nD τ) ℕ cfg0 c) (hA : dat.A 16 = V m c (Pipeline.arrRef spec0 16))
    (hafter : ∀ t, dat.after 16 t = iblk m c 16 t) (t : Fin cfg0.N) (d) : dat.before 16 t d = iblk m c 16 t :=
  (dat.before_in_eq_fetched 16 rfl (fun _ => rfl) (fun _ _ _ => rfl) (fun t => by rw [hafter]; unfold Dat.blockOf iblk; rw [hA]; try rfl) t d).trans
    (by unfold Dat.fetched Dat.blockOf iblk; rw [hA]; try rfl)
/-- Input window 17's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_17_of {c : Dev nD} (dat : Dat τ (Elt F) Unit ℕ (UR sig nD τ) ℕ cfg0 c) (hA : dat.A 17 = V m c (Pipeline.arrRef spec0 17))
    (hafter : ∀ t, dat.after 17 t = iblk m c 17 t) (t : Fin cfg0.N) (d) : dat.before 17 t d = iblk m c 17 t :=
  (dat.before_in_eq_fetched 17 rfl (fun _ => rfl) (fun _ _ _ => rfl) (fun t => by rw [hafter]; unfold Dat.blockOf iblk; rw [hA]; try rfl) t d).trans
    (by unfold Dat.fetched Dat.blockOf iblk; rw [hA]; try rfl)

/-! ## The frame claim's post from the frame run's -/

set_option maxHeartbeats 1620000 in
/-- THE FRAME from a frame run: for any proof data whose arrays are the region-entry contents (`hA`), a run to
    Lib/Pipeline/Frame.lean's `FramePost` read at the argument arrays — a staged input by the library's
    `Dat.arrAt_in`, an array no window stages by the post's second clause, each then by `V_…` — is the frame
    claim's post (`Cert.frame_Kernel3Ideal`, Defs.lean, at any `F`). -/
theorem frame_of (dats : (p : Fin 1) → (c : Dev nD) → Dat τ (Elt F) Unit ℕ (UR sig nD τ) ℕ (cfgs p) c)
    (hA : ∀ c w, (dats 0 c).A w = V m c (Pipeline.arrRef spec0 w))
    (h : θ_run defs (onTc (τ := τ) (main (F := F))) (s₀ m ρ) (Pipeline.FramePost cfgs dats 0 (V m))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)) :=
  (θ_run defs _ _).mono (fun _ h c => ⟨((h c).1 0).trans (((dats 0 c).arrAt_in 0 rfl _).trans ((hA c 0).trans (V_main_arg0 m c))),
      ((h c).1 1).trans (((dats 0 c).arrAt_in 1 rfl _).trans ((hA c 1).trans (V_main_arg1 m c))),
      ((h c).1 2).trans (((dats 0 c).arrAt_in 2 rfl _).trans ((hA c 2).trans (V_main_arg2 m c))),
      ((h c).2 main_arg3 (Pipeline.mem_restRefs_of main_arg3 (by decide) (by decide))).trans (V_main_arg3 m c),
      ((h c).2 main_arg4 (Pipeline.mem_restRefs_of main_arg4 (by decide) (by decide))).trans (V_main_arg4 m c),
      ((h c).2 main_arg5 (Pipeline.mem_restRefs_of main_arg5 (by decide) (by decide))).trans (V_main_arg5 m c),
      ((h c).2 main_arg6 (Pipeline.mem_restRefs_of main_arg6 (by decide) (by decide))).trans (V_main_arg6 m c),
      ((h c).2 main_arg7 (Pipeline.mem_restRefs_of main_arg7 (by decide) (by decide))).trans (V_main_arg7 m c),
      ((h c).2 main_arg8 (Pipeline.mem_restRefs_of main_arg8 (by decide) (by decide))).trans (V_main_arg8 m c),
      ((h c).2 main_arg9 (Pipeline.mem_restRefs_of main_arg9 (by decide) (by decide))).trans (V_main_arg9 m c),
      ((h c).2 main_arg10 (Pipeline.mem_restRefs_of main_arg10 (by decide) (by decide))).trans (V_main_arg10 m c),
      ((h c).2 main_arg11 (Pipeline.mem_restRefs_of main_arg11 (by decide) (by decide))).trans (V_main_arg11 m c),
      ((h c).2 main_arg12 (Pipeline.mem_restRefs_of main_arg12 (by decide) (by decide))).trans (V_main_arg12 m c),
      ((h c).2 main_arg13 (Pipeline.mem_restRefs_of main_arg13 (by decide) (by decide))).trans (V_main_arg13 m c),
      ((h c).1 14).trans (((dats 0 c).arrAt_in 14 rfl _).trans ((hA c 14).trans (V_main_arg14 m c))),
      ((h c).1 15).trans (((dats 0 c).arrAt_in 15 rfl _).trans ((hA c 15).trans (V_main_arg15 m c))),
      ((h c).1 16).trans (((dats 0 c).arrAt_in 16 rfl _).trans ((hA c 16).trans (V_main_arg16 m c))),
      ((h c).1 17).trans (((dats 0 c).arrAt_in 17 rfl _).trans ((hA c 17).trans (V_main_arg17 m c)))⟩) h

/-! ## The body's accesses -/

abbrev r0_0 : Rect S256x1024 := Rect.unit (s := S256x1024) ![0, 0] S128x1024.size inb_S256x1024_S128x1024_0_0
abbrev r0_1 : Rect S256x512 := Rect.unit (s := S256x512) ![0, 0] S128x512.size inb_S256x512_S128x512_0_0
abbrev r0_2 : Rect S1x1024x1024 := Rect.unit (s := S1x1024x1024) ![0, 0, 0] S1x512x1024.size inb_S1x1024x1024_S1x512x1024_0_0_0
abbrev r0_3 : Rect S1x1024x1024 := Rect.unit (s := S1x1024x1024) ![0, 512, 0] S1x512x1024.size inb_S1x1024x1024_S1x512x1024_0_512_0
abbrev r0_4 : Rect S256x1024 := Rect.unit (s := S256x1024) ![128, 0] S128x1024.size inb_S256x1024_S128x1024_128_0
abbrev r0_5 : Rect S256x512 := Rect.unit (s := S256x512) ![128, 0] S128x512.size inb_S256x512_S128x512_128_0
abbrev r0_6 : Rect S1x1x1024 := Rect.unit (s := S1x1x1024) ![0, 0, 0] S1x1x1024.size inb_S1x1x1024_S1x1x1024_0_0_0
abbrev r0_7 : Rect S1x1024x2816 := Rect.unit (s := S1x1024x2816) ![0, 0, 0] S1x1024x2816.size inb_S1x1024x2816_S1x1024x2816_0_0_0
abbrev r0_8 : Rect S1x2816x1024 := Rect.unit (s := S1x2816x1024) ![0, 0, 0] S1x2816x1024.size inb_S1x2816x1024_S1x2816x1024_0_0_0
abbrev r0_9 : Rect S1x1024x1024 := Rect.unit (s := S1x1024x1024) ![0, 0, 0] S1x1024x1024.size inb_S1x1024x1024_S1x1024x1024_0_0_0
abbrev r0_10 : Rect S1x256x256 := Rect.unit (s := S1x256x256) ![0, 0, 0] S1x128x256.size inb_S1x256x256_S1x128x256_0_0_0
abbrev r0_11 : Rect S1x256x1024 := Rect.unit (s := S1x256x1024) ![0, 0, 0] S1x256x1024.size inb_S1x256x1024_S1x256x1024_0_0_0
abbrev r0_12 : Rect S1x256x256 := Rect.unit (s := S1x256x256) ![0, 128, 0] S1x128x256.size inb_S1x256x256_S1x128x256_0_128_0
abbrev r0_13 : Rect S256x1024 := Rect.unit (s := S256x1024) ![0, 0] S256x1024.size inb_S256x1024_S256x1024_0_0
abbrev r0_14 : Rect S1x3072x1024 := Rect.unit (s := S1x3072x1024) ![0, 0, 0] S1x512x1024.size inb_S1x3072x1024_S1x512x1024_0_0_0
abbrev r0_15 : Rect S256x512 := Rect.unit (s := S256x512) ![0, 0] S256x512.size inb_S256x512_S256x512_0_0
abbrev r0_16 : Rect S1x3072x1024 := Rect.unit (s := S1x3072x1024) ![0, 1536, 0] S1x512x1024.size inb_S1x3072x1024_S1x512x1024_0_1536_0
abbrev r0_17 : Rect S1x3072x1024 := Rect.unit (s := S1x3072x1024) ![0, 512, 0] S1x512x1024.size inb_S1x3072x1024_S1x512x1024_0_512_0
abbrev r0_18 : Rect S1x1x8x64x256 := Rect.unit (s := S1x1x8x64x256) ![0, 0, 0, 0, 0] S1x1x8x64x256.size inb_S1x1x8x64x256_S1x1x8x64x256_0_0_0_0_0
abbrev r0_19 : Rect S2x1x8x64x256 := Rect.unit (s := S2x1x8x64x256) ![0, 0, 0, 0, 0] S1x1x8x64x256.size inb_S2x1x8x64x256_S1x1x8x64x256_0_0_0_0_0
abbrev r0_20 : Rect S2x1x8x64x256 := Rect.unit (s := S2x1x8x64x256) ![1, 0, 0, 0, 0] S1x1x8x64x256.size inb_S2x1x8x64x256_S1x1x8x64x256_1_0_0_0_0
abbrev r0_21 : Rect S1x3072x1024 := Rect.unit (s := S1x3072x1024) ![0, 1024, 0] S1x512x1024.size inb_S1x3072x1024_S1x512x1024_0_1024_0
abbrev r0_22 : Rect S1x3072x1024 := Rect.unit (s := S1x3072x1024) ![0, 2048, 0] S1x512x1024.size inb_S1x3072x1024_S1x512x1024_0_2048_0
abbrev r0_23 : Rect S1x3072x1024 := Rect.unit (s := S1x3072x1024) ![0, 2560, 0] S1x512x1024.size inb_S1x3072x1024_S1x512x1024_0_2560_0

/-! ## What the body leaves in each output window's buffer -/

/-! ### Values of the body that the stores' payloads, spelt out, would write more than once

    Each is a vector the body binds (often a part call's result), stated over the input windows' blocks and
    numbered on from the skeleton's payload functions (`k0_pay29` …, after `k0_pay28`), so that
    `out0_W` and the values after it name it instead of spelling it out (`unfold_out out0_W` opens a canon
    with them, `unfold_payloads` opens them with the payloads); the comment after each is the printed function's
    name for the value (a count appended where that name is bound again). -/

def k0_pay29 (x0 : Vec F S256x1024 .f32) (x1 : Vec F S256x512 .bf16) (x2 : Vec F S256x512 .bf16) (x3 : Vec F S1x256x256 .f32) (x4 : Vec F S1x1024x1024 .bf16) (x5 : Vec F S1x1x1024 .f32) (x6 : Vec F S1x1024x2816 .bf16) (x7 : Vec F S1x1024x2816 .bf16) (x8 : Vec F S1x2816x1024 .bf16) (x9 : Vec F S1x1x1024 .f32) (x10 : Vec F S1x1024x1024 .bf16) (x11 : Vec F S1x256x1024 .bf16) (x12 : Vec F S1x1x1024 .f32) (x13 : Vec F S1x3072x1024 .bf16) (x14 : Vec F S1x1x8x64x256 .f32) (x15 : Vec F S1x1x8x64x256 .f32) (x16 : Vec F S1x1x8x64x256 .f32) (x17 : Vec F S1x1x8x64x256 .f32) : FVec F S128x1024 .f32 :=
  k0_pay3 (View.ld x0 r0_0) (View.ld x1 r0_1) (View.ld x4 r0_2) (View.ld x2 r0_1) (View.ld x4 r0_3) -- `v10`
def k0_pay30 (x0 : Vec F S256x1024 .f32) (x1 : Vec F S256x512 .bf16) (x2 : Vec F S256x512 .bf16) (x3 : Vec F S1x256x256 .f32) (x4 : Vec F S1x1024x1024 .bf16) (x5 : Vec F S1x1x1024 .f32) (x6 : Vec F S1x1024x2816 .bf16) (x7 : Vec F S1x1024x2816 .bf16) (x8 : Vec F S1x2816x1024 .bf16) (x9 : Vec F S1x1x1024 .f32) (x10 : Vec F S1x1024x1024 .bf16) (x11 : Vec F S1x256x1024 .bf16) (x12 : Vec F S1x1x1024 .f32) (x13 : Vec F S1x3072x1024 .bf16) (x14 : Vec F S1x1x8x64x256 .f32) (x15 : Vec F S1x1x8x64x256 .f32) (x16 : Vec F S1x1x8x64x256 .f32) (x17 : Vec F S1x1x8x64x256 .f32) : FVec F S128x1024 .f32 :=
  k0_pay4 (View.ld x0 r0_4) (View.ld x1 r0_5) (View.ld x4 r0_2) (View.ld x2 r0_5) (View.ld x4 r0_3) -- `v21`
def k0_pay31 (x0 : Vec F S256x1024 .f32) (x1 : Vec F S256x512 .bf16) (x2 : Vec F S256x512 .bf16) (x3 : Vec F S1x256x256 .f32) (x4 : Vec F S1x1024x1024 .bf16) (x5 : Vec F S1x1x1024 .f32) (x6 : Vec F S1x1024x2816 .bf16) (x7 : Vec F S1x1024x2816 .bf16) (x8 : Vec F S1x2816x1024 .bf16) (x9 : Vec F S1x1x1024 .f32) (x10 : Vec F S1x1024x1024 .bf16) (x11 : Vec F S1x256x1024 .bf16) (x12 : Vec F S1x1x1024 .f32) (x13 : Vec F S1x3072x1024 .bf16) (x14 : Vec F S1x1x8x64x256 .f32) (x15 : Vec F S1x1x8x64x256 .f32) (x16 : Vec F S1x1x8x64x256 .f32) (x17 : Vec F S1x1x8x64x256 .f32) : FVec F S128x1 .f32 :=
  k0_pay5 (View.ld x0 r0_0) (View.ld x1 r0_1) (View.ld x4 r0_2) (View.ld x2 r0_1) (View.ld x4 r0_3) -- `v26`
def k0_pay32 (x0 : Vec F S256x1024 .f32) (x1 : Vec F S256x512 .bf16) (x2 : Vec F S256x512 .bf16) (x3 : Vec F S1x256x256 .f32) (x4 : Vec F S1x1024x1024 .bf16) (x5 : Vec F S1x1x1024 .f32) (x6 : Vec F S1x1024x2816 .bf16) (x7 : Vec F S1x1024x2816 .bf16) (x8 : Vec F S1x2816x1024 .bf16) (x9 : Vec F S1x1x1024 .f32) (x10 : Vec F S1x1024x1024 .bf16) (x11 : Vec F S1x256x1024 .bf16) (x12 : Vec F S1x1x1024 .f32) (x13 : Vec F S1x3072x1024 .bf16) (x14 : Vec F S1x1x8x64x256 .f32) (x15 : Vec F S1x1x8x64x256 .f32) (x16 : Vec F S1x1x8x64x256 .f32) (x17 : Vec F S1x1x8x64x256 .f32) : FVec F S128x1 .f32 :=
  k0_pay6 (F := F) -- `v27`
def k0_pay33 (x0 : Vec F S256x1024 .f32) (x1 : Vec F S256x512 .bf16) (x2 : Vec F S256x512 .bf16) (x3 : Vec F S1x256x256 .f32) (x4 : Vec F S1x1024x1024 .bf16) (x5 : Vec F S1x1x1024 .f32) (x6 : Vec F S1x1024x2816 .bf16) (x7 : Vec F S1x1024x2816 .bf16) (x8 : Vec F S1x2816x1024 .bf16) (x9 : Vec F S1x1x1024 .f32) (x10 : Vec F S1x1024x1024 .bf16) (x11 : Vec F S1x256x1024 .bf16) (x12 : Vec F S1x1x1024 .f32) (x13 : Vec F S1x3072x1024 .bf16) (x14 : Vec F S1x1x8x64x256 .f32) (x15 : Vec F S1x1x8x64x256 .f32) (x16 : Vec F S1x1x8x64x256 .f32) (x17 : Vec F S1x1x8x64x256 .f32) : FVec F S128x2816 .f32 :=
  constant S128x2816 .f32 0x00000000#32 -- `cst_51`
def k0_pay34 (x0 : Vec F S256x1024 .f32) (x1 : Vec F S256x512 .bf16) (x2 : Vec F S256x512 .bf16) (x3 : Vec F S1x256x256 .f32) (x4 : Vec F S1x1024x1024 .bf16) (x5 : Vec F S1x1x1024 .f32) (x6 : Vec F S1x1024x2816 .bf16) (x7 : Vec F S1x1024x2816 .bf16) (x8 : Vec F S1x2816x1024 .bf16) (x9 : Vec F S1x1x1024 .f32) (x10 : Vec F S1x1024x1024 .bf16) (x11 : Vec F S1x256x1024 .bf16) (x12 : Vec F S1x1x1024 .f32) (x13 : Vec F S1x3072x1024 .bf16) (x14 : Vec F S1x1x8x64x256 .f32) (x15 : Vec F S1x1x8x64x256 .f32) (x16 : Vec F S1x1x8x64x256 .f32) (x17 : Vec F S1x1x8x64x256 .f32) : FVec F S128x1024 .bf16 :=
  k0_pay8 (k0_pay30 x0 x1 x2 x3 x4 x5 x6 x7 x8 x9 x10 x11 x12 x13 x14 x15 x16 x17) (View.ld x5 r0_6) -- `v51`
def k0_pay35 (x0 : Vec F S256x1024 .f32) (x1 : Vec F S256x512 .bf16) (x2 : Vec F S256x512 .bf16) (x3 : Vec F S1x256x256 .f32) (x4 : Vec F S1x1024x1024 .bf16) (x5 : Vec F S1x1x1024 .f32) (x6 : Vec F S1x1024x2816 .bf16) (x7 : Vec F S1x1024x2816 .bf16) (x8 : Vec F S1x2816x1024 .bf16) (x9 : Vec F S1x1x1024 .f32) (x10 : Vec F S1x1024x1024 .bf16) (x11 : Vec F S1x256x1024 .bf16) (x12 : Vec F S1x1x1024 .f32) (x13 : Vec F S1x3072x1024 .bf16) (x14 : Vec F S1x1x8x64x256 .f32) (x15 : Vec F S1x1x8x64x256 .f32) (x16 : Vec F S1x1x8x64x256 .f32) (x17 : Vec F S1x1x8x64x256 .f32) : FVec F S128x2816 .f32 :=
  k0_pay9 (k0_pay29 x0 x1 x2 x3 x4 x5 x6 x7 x8 x9 x10 x11 x12 x13 x14 x15 x16 x17) (k0_pay31 x0 x1 x2 x3 x4 x5 x6 x7 x8 x9 x10 x11 x12 x13 x14 x15 x16 x17) (k0_pay32 x0 x1 x2 x3 x4 x5 x6 x7 x8 x9 x10 x11 x12 x13 x14 x15 x16 x17) (View.ld x5 r0_6) (View.ld x6 r0_7) -- `v54`
def k0_pay36 (x0 : Vec F S256x1024 .f32) (x1 : Vec F S256x512 .bf16) (x2 : Vec F S256x512 .bf16) (x3 : Vec F S1x256x256 .f32) (x4 : Vec F S1x1024x1024 .bf16) (x5 : Vec F S1x1x1024 .f32) (x6 : Vec F S1x1024x2816 .bf16) (x7 : Vec F S1x1024x2816 .bf16) (x8 : Vec F S1x2816x1024 .bf16) (x9 : Vec F S1x1x1024 .f32) (x10 : Vec F S1x1024x1024 .bf16) (x11 : Vec F S1x256x1024 .bf16) (x12 : Vec F S1x1x1024 .f32) (x13 : Vec F S1x3072x1024 .bf16) (x14 : Vec F S1x1x8x64x256 .f32) (x15 : Vec F S1x1x8x64x256 .f32) (x16 : Vec F S1x1x8x64x256 .f32) (x17 : Vec F S1x1x8x64x256 .f32) : FVec F S128x2816 .f32 :=
  k0_pay10 (k0_pay29 x0 x1 x2 x3 x4 x5 x6 x7 x8 x9 x10 x11 x12 x13 x14 x15 x16 x17) (k0_pay31 x0 x1 x2 x3 x4 x5 x6 x7 x8 x9 x10 x11 x12 x13 x14 x15 x16 x17) (k0_pay32 x0 x1 x2 x3 x4 x5 x6 x7 x8 x9 x10 x11 x12 x13 x14 x15 x16 x17) (View.ld x5 r0_6) (View.ld x7 r0_7) -- `v57`
def k0_pay37 (x0 : Vec F S256x1024 .f32) (x1 : Vec F S256x512 .bf16) (x2 : Vec F S256x512 .bf16) (x3 : Vec F S1x256x256 .f32) (x4 : Vec F S1x1024x1024 .bf16) (x5 : Vec F S1x1x1024 .f32) (x6 : Vec F S1x1024x2816 .bf16) (x7 : Vec F S1x1024x2816 .bf16) (x8 : Vec F S1x2816x1024 .bf16) (x9 : Vec F S1x1x1024 .f32) (x10 : Vec F S1x1024x1024 .bf16) (x11 : Vec F S1x256x1024 .bf16) (x12 : Vec F S1x1x1024 .f32) (x13 : Vec F S1x3072x1024 .bf16) (x14 : Vec F S1x1x8x64x256 .f32) (x15 : Vec F S1x1x8x64x256 .f32) (x16 : Vec F S1x1x8x64x256 .f32) (x17 : Vec F S1x1x8x64x256 .f32) : FVec F S128x2816 .f32 :=
  k0_pay11 (k0_pay30 x0 x1 x2 x3 x4 x5 x6 x7 x8 x9 x10 x11 x12 x13 x14 x15 x16 x17) (View.ld x5 r0_6) (View.ld x6 r0_7) -- `v60`
def k0_pay38 (x0 : Vec F S256x1024 .f32) (x1 : Vec F S256x512 .bf16) (x2 : Vec F S256x512 .bf16) (x3 : Vec F S1x256x256 .f32) (x4 : Vec F S1x1024x1024 .bf16) (x5 : Vec F S1x1x1024 .f32) (x6 : Vec F S1x1024x2816 .bf16) (x7 : Vec F S1x1024x2816 .bf16) (x8 : Vec F S1x2816x1024 .bf16) (x9 : Vec F S1x1x1024 .f32) (x10 : Vec F S1x1024x1024 .bf16) (x11 : Vec F S1x256x1024 .bf16) (x12 : Vec F S1x1x1024 .f32) (x13 : Vec F S1x3072x1024 .bf16) (x14 : Vec F S1x1x8x64x256 .f32) (x15 : Vec F S1x1x8x64x256 .f32) (x16 : Vec F S1x1x8x64x256 .f32) (x17 : Vec F S1x1x8x64x256 .f32) : FVec F S1024x2816 .bf16 :=
  k0_pay12 (View.ld x7 r0_7) -- `v62`
def k0_pay39 (x0 : Vec F S256x1024 .f32) (x1 : Vec F S256x512 .bf16) (x2 : Vec F S256x512 .bf16) (x3 : Vec F S1x256x256 .f32) (x4 : Vec F S1x1024x1024 .bf16) (x5 : Vec F S1x1x1024 .f32) (x6 : Vec F S1x1024x2816 .bf16) (x7 : Vec F S1x1024x2816 .bf16) (x8 : Vec F S1x2816x1024 .bf16) (x9 : Vec F S1x1x1024 .f32) (x10 : Vec F S1x1024x1024 .bf16) (x11 : Vec F S1x256x1024 .bf16) (x12 : Vec F S1x1x1024 .f32) (x13 : Vec F S1x3072x1024 .bf16) (x14 : Vec F S1x1x8x64x256 .f32) (x15 : Vec F S1x1x8x64x256 .f32) (x16 : Vec F S1x1x8x64x256 .f32) (x17 : Vec F S1x1x8x64x256 .f32) : FVec F S128x1024 .f32 :=
  k0_pay13 (k0_pay29 x0 x1 x2 x3 x4 x5 x6 x7 x8 x9 x10 x11 x12 x13 x14 x15 x16 x17) (k0_pay35 x0 x1 x2 x3 x4 x5 x6 x7 x8 x9 x10 x11 x12 x13 x14 x15 x16 x17) (k0_pay36 x0 x1 x2 x3 x4 x5 x6 x7 x8 x9 x10 x11 x12 x13 x14 x15 x16 x17) (View.ld x8 r0_8) -- `v71`
def k0_pay40 (x0 : Vec F S256x1024 .f32) (x1 : Vec F S256x512 .bf16) (x2 : Vec F S256x512 .bf16) (x3 : Vec F S1x256x256 .f32) (x4 : Vec F S1x1024x1024 .bf16) (x5 : Vec F S1x1x1024 .f32) (x6 : Vec F S1x1024x2816 .bf16) (x7 : Vec F S1x1024x2816 .bf16) (x8 : Vec F S1x2816x1024 .bf16) (x9 : Vec F S1x1x1024 .f32) (x10 : Vec F S1x1024x1024 .bf16) (x11 : Vec F S1x256x1024 .bf16) (x12 : Vec F S1x1x1024 .f32) (x13 : Vec F S1x3072x1024 .bf16) (x14 : Vec F S1x1x8x64x256 .f32) (x15 : Vec F S1x1x8x64x256 .f32) (x16 : Vec F S1x1x8x64x256 .f32) (x17 : Vec F S1x1x8x64x256 .f32) : FVec F S128x1024 .f32 :=
  k0_pay14 (k0_pay30 x0 x1 x2 x3 x4 x5 x6 x7 x8 x9 x10 x11 x12 x13 x14 x15 x16 x17) (k0_pay34 x0 x1 x2 x3 x4 x5 x6 x7 x8 x9 x10 x11 x12 x13 x14 x15 x16 x17) (k0_pay37 x0 x1 x2 x3 x4 x5 x6 x7 x8 x9 x10 x11 x12 x13 x14 x15 x16 x17) (k0_pay38 x0 x1 x2 x3 x4 x5 x6 x7 x8 x9 x10 x11 x12 x13 x14 x15 x16 x17) (k0_pay33 x0 x1 x2 x3 x4 x5 x6 x7 x8 x9 x10 x11 x12 x13 x14 x15 x16 x17) (View.ld x8 r0_8) -- `v79`
def k0_pay41 (x0 : Vec F S256x1024 .f32) (x1 : Vec F S256x512 .bf16) (x2 : Vec F S256x512 .bf16) (x3 : Vec F S1x256x256 .f32) (x4 : Vec F S1x1024x1024 .bf16) (x5 : Vec F S1x1x1024 .f32) (x6 : Vec F S1x1024x2816 .bf16) (x7 : Vec F S1x1024x2816 .bf16) (x8 : Vec F S1x2816x1024 .bf16) (x9 : Vec F S1x1x1024 .f32) (x10 : Vec F S1x1024x1024 .bf16) (x11 : Vec F S1x256x1024 .bf16) (x12 : Vec F S1x1x1024 .f32) (x13 : Vec F S1x3072x1024 .bf16) (x14 : Vec F S1x1x8x64x256 .f32) (x15 : Vec F S1x1x8x64x256 .f32) (x16 : Vec F S1x1x8x64x256 .f32) (x17 : Vec F S1x1x8x64x256 .f32) : FVec F S128x1024 .bf16 :=
  k0_pay15 (k0_pay29 x0 x1 x2 x3 x4 x5 x6 x7 x8 x9 x10 x11 x12 x13 x14 x15 x16 x17) (k0_pay35 x0 x1 x2 x3 x4 x5 x6 x7 x8 x9 x10 x11 x12 x13 x14 x15 x16 x17) (k0_pay36 x0 x1 x2 x3 x4 x5 x6 x7 x8 x9 x10 x11 x12 x13 x14 x15 x16 x17) (View.ld x8 r0_8) (View.ld x9 r0_6) -- `v94`
def k0_pay42 (x0 : Vec F S256x1024 .f32) (x1 : Vec F S256x512 .bf16) (x2 : Vec F S256x512 .bf16) (x3 : Vec F S1x256x256 .f32) (x4 : Vec F S1x1024x1024 .bf16) (x5 : Vec F S1x1x1024 .f32) (x6 : Vec F S1x1024x2816 .bf16) (x7 : Vec F S1x1024x2816 .bf16) (x8 : Vec F S1x2816x1024 .bf16) (x9 : Vec F S1x1x1024 .f32) (x10 : Vec F S1x1024x1024 .bf16) (x11 : Vec F S1x256x1024 .bf16) (x12 : Vec F S1x1x1024 .f32) (x13 : Vec F S1x3072x1024 .bf16) (x14 : Vec F S1x1x8x64x256 .f32) (x15 : Vec F S1x1x8x64x256 .f32) (x16 : Vec F S1x1x8x64x256 .f32) (x17 : Vec F S1x1x8x64x256 .f32) : FVec F S128x1024 .f32 :=
  k0_pay16 (k0_pay30 x0 x1 x2 x3 x4 x5 x6 x7 x8 x9 x10 x11 x12 x13 x14 x15 x16 x17) (k0_pay34 x0 x1 x2 x3 x4 x5 x6 x7 x8 x9 x10 x11 x12 x13 x14 x15 x16 x17) (k0_pay37 x0 x1 x2 x3 x4 x5 x6 x7 x8 x9 x10 x11 x12 x13 x14 x15 x16 x17) (k0_pay38 x0 x1 x2 x3 x4 x5 x6 x7 x8 x9 x10 x11 x12 x13 x14 x15 x16 x17) (k0_pay33 x0 x1 x2 x3 x4 x5 x6 x7 x8 x9 x10 x11 x12 x13 x14 x15 x16 x17) (View.ld x8 r0_8) -- `v104`
def k0_pay43 (x0 : Vec F S256x1024 .f32) (x1 : Vec F S256x512 .bf16) (x2 : Vec F S256x512 .bf16) (x3 : Vec F S1x256x256 .f32) (x4 : Vec F S1x1024x1024 .bf16) (x5 : Vec F S1x1x1024 .f32) (x6 : Vec F S1x1024x2816 .bf16) (x7 : Vec F S1x1024x2816 .bf16) (x8 : Vec F S1x2816x1024 .bf16) (x9 : Vec F S1x1x1024 .f32) (x10 : Vec F S1x1024x1024 .bf16) (x11 : Vec F S1x256x1024 .bf16) (x12 : Vec F S1x1x1024 .f32) (x13 : Vec F S1x3072x1024 .bf16) (x14 : Vec F S1x1x8x64x256 .f32) (x15 : Vec F S1x1x8x64x256 .f32) (x16 : Vec F S1x1x8x64x256 .f32) (x17 : Vec F S1x1x8x64x256 .f32) : FVec F S256x1024 .f32 :=
  k0_pay17 (k0_pay39 x0 x1 x2 x3 x4 x5 x6 x7 x8 x9 x10 x11 x12 x13 x14 x15 x16 x17) (k0_pay40 x0 x1 x2 x3 x4 x5 x6 x7 x8 x9 x10 x11 x12 x13 x14 x15 x16 x17) (k0_pay41 x0 x1 x2 x3 x4 x5 x6 x7 x8 x9 x10 x11 x12 x13 x14 x15 x16 x17) (k0_pay42 x0 x1 x2 x3 x4 x5 x6 x7 x8 x9 x10 x11 x12 x13 x14 x15 x16 x17) (View.ld x9 r0_6) (View.ld x10 r0_9) (View.ld x3 r0_10) (View.ld x11 r0_11) (View.ld x10 r0_9) (View.ld x3 r0_12) (View.ld x11 r0_11) -- `v134`
def k0_pay44 (x0 : Vec F S256x1024 .f32) (x1 : Vec F S256x512 .bf16) (x2 : Vec F S256x512 .bf16) (x3 : Vec F S1x256x256 .f32) (x4 : Vec F S1x1024x1024 .bf16) (x5 : Vec F S1x1x1024 .f32) (x6 : Vec F S1x1024x2816 .bf16) (x7 : Vec F S1x1024x2816 .bf16) (x8 : Vec F S1x2816x1024 .bf16) (x9 : Vec F S1x1x1024 .f32) (x10 : Vec F S1x1024x1024 .bf16) (x11 : Vec F S1x256x1024 .bf16) (x12 : Vec F S1x1x1024 .f32) (x13 : Vec F S1x3072x1024 .bf16) (x14 : Vec F S1x1x8x64x256 .f32) (x15 : Vec F S1x1x8x64x256 .f32) (x16 : Vec F S1x1x8x64x256 .f32) (x17 : Vec F S1x1x8x64x256 .f32) : FVec F S256x1024 .f32 :=
  k0_pay18 (k0_pay39 x0 x1 x2 x3 x4 x5 x6 x7 x8 x9 x10 x11 x12 x13 x14 x15 x16 x17) (k0_pay40 x0 x1 x2 x3 x4 x5 x6 x7 x8 x9 x10 x11 x12 x13 x14 x15 x16 x17) (k0_pay41 x0 x1 x2 x3 x4 x5 x6 x7 x8 x9 x10 x11 x12 x13 x14 x15 x16 x17) (k0_pay42 x0 x1 x2 x3 x4 x5 x6 x7 x8 x9 x10 x11 x12 x13 x14 x15 x16 x17) (View.ld x9 r0_6) (View.ld x10 r0_9) (View.ld x3 r0_10) (View.ld x11 r0_11) (View.ld x10 r0_9) (View.ld x3 r0_12) (View.ld x11 r0_11) -- `v136`
def k0_pay45 (x0 : Vec F S256x1024 .f32) (x1 : Vec F S256x512 .bf16) (x2 : Vec F S256x512 .bf16) (x3 : Vec F S1x256x256 .f32) (x4 : Vec F S1x1024x1024 .bf16) (x5 : Vec F S1x1x1024 .f32) (x6 : Vec F S1x1024x2816 .bf16) (x7 : Vec F S1x1024x2816 .bf16) (x8 : Vec F S1x2816x1024 .bf16) (x9 : Vec F S1x1x1024 .f32) (x10 : Vec F S1x1024x1024 .bf16) (x11 : Vec F S1x256x1024 .bf16) (x12 : Vec F S1x1x1024 .f32) (x13 : Vec F S1x3072x1024 .bf16) (x14 : Vec F S1x1x8x64x256 .f32) (x15 : Vec F S1x1x8x64x256 .f32) (x16 : Vec F S1x1x8x64x256 .f32) (x17 : Vec F S1x1x8x64x256 .f32) : FVec F S256x1024 .bf16 :=
  k0_pay19 (k0_pay43 x0 x1 x2 x3 x4 x5 x6 x7 x8 x9 x10 x11 x12 x13 x14 x15 x16 x17) (k0_pay44 x0 x1 x2 x3 x4 x5 x6 x7 x8 x9 x10 x11 x12 x13 x14 x15 x16 x17) (View.ld x12 r0_6) -- `v150`
def k0_pay46 (x0 : Vec F S256x1024 .f32) (x1 : Vec F S256x512 .bf16) (x2 : Vec F S256x512 .bf16) (x3 : Vec F S1x256x256 .f32) (x4 : Vec F S1x1024x1024 .bf16) (x5 : Vec F S1x1x1024 .f32) (x6 : Vec F S1x1024x2816 .bf16) (x7 : Vec F S1x1024x2816 .bf16) (x8 : Vec F S1x2816x1024 .bf16) (x9 : Vec F S1x1x1024 .f32) (x10 : Vec F S1x1024x1024 .bf16) (x11 : Vec F S1x256x1024 .bf16) (x12 : Vec F S1x1x1024 .f32) (x13 : Vec F S1x3072x1024 .bf16) (x14 : Vec F S1x1x8x64x256 .f32) (x15 : Vec F S1x1x8x64x256 .f32) (x16 : Vec F S1x1x8x64x256 .f32) (x17 : Vec F S1x1x8x64x256 .f32) : FVec F S8x64x256 .f32 :=
  k0_pay25 (k0_pay45 x0 x1 x2 x3 x4 x5 x6 x7 x8 x9 x10 x11 x12 x13 x14 x15 x16 x17) (View.ld x13 r0_22) -- `v186`
def k0_pay47 (x0 : Vec F S256x1024 .f32) (x1 : Vec F S256x512 .bf16) (x2 : Vec F S256x512 .bf16) (x3 : Vec F S1x256x256 .f32) (x4 : Vec F S1x1024x1024 .bf16) (x5 : Vec F S1x1x1024 .f32) (x6 : Vec F S1x1024x2816 .bf16) (x7 : Vec F S1x1024x2816 .bf16) (x8 : Vec F S1x2816x1024 .bf16) (x9 : Vec F S1x1x1024 .f32) (x10 : Vec F S1x1024x1024 .bf16) (x11 : Vec F S1x256x1024 .bf16) (x12 : Vec F S1x1x1024 .f32) (x13 : Vec F S1x3072x1024 .bf16) (x14 : Vec F S1x1x8x64x256 .f32) (x15 : Vec F S1x1x8x64x256 .f32) (x16 : Vec F S1x1x8x64x256 .f32) (x17 : Vec F S1x1x8x64x256 .f32) : FVec F S8x64x256 .f32 :=
  k0_pay28 (k0_pay45 x0 x1 x2 x3 x4 x5 x6 x7 x8 x9 x10 x11 x12 x13 x14 x15 x16 x17) (View.ld x13 r0_23) -- `v200`

/-- Window 18's staging buffer after the body, from the input windows' blocks: its 1 store as pieces, LAST
    FIRST (Lib/Pipeline/FrameBody.lean `View.canon`; the payloads are the skeleton's and the values stated above). -/
def out0_18 (x0 : Vec F S256x1024 .f32) (x1 : Vec F S256x512 .bf16) (x2 : Vec F S256x512 .bf16) (x3 : Vec F S1x256x256 .f32) (x4 : Vec F S1x1024x1024 .bf16) (x5 : Vec F S1x1x1024 .f32) (x6 : Vec F S1x1024x2816 .bf16) (x7 : Vec F S1x1024x2816 .bf16) (x8 : Vec F S1x2816x1024 .bf16) (x9 : Vec F S1x1x1024 .f32) (x10 : Vec F S1x1024x1024 .bf16) (x11 : Vec F S1x256x1024 .bf16) (x12 : Vec F S1x1x1024 .f32) (x13 : Vec F S1x3072x1024 .bf16) (x14 : Vec F S1x1x8x64x256 .f32) (x15 : Vec F S1x1x8x64x256 .f32) (x16 : Vec F S1x1x8x64x256 .f32) (x17 : Vec F S1x1x8x64x256 .f32) : Vec F S256x1024 .f32 :=
  View.canon [⟨r0_13, k0_pay17 (k0_pay39 x0 x1 x2 x3 x4 x5 x6 x7 x8 x9 x10 x11 x12 x13 x14 x15 x16 x17) (k0_pay40 x0 x1 x2 x3 x4 x5 x6 x7 x8 x9 x10 x11 x12 x13 x14 x15 x16 x17) (k0_pay41 x0 x1 x2 x3 x4 x5 x6 x7 x8 x9 x10 x11 x12 x13 x14 x15 x16 x17) (k0_pay42 x0 x1 x2 x3 x4 x5 x6 x7 x8 x9 x10 x11 x12 x13 x14 x15 x16 x17) (View.ld x9 r0_6) (View.ld x10 r0_9) (View.ld x3 r0_10) (View.ld x11 r0_11) (View.ld x10 r0_9) (View.ld x3 r0_12) (View.ld x11 r0_11)⟩]

/-- Its stores tile the buffer (checked by evaluation), so they cover it. -/
theorem cover0_18 (p0 : Vec F S256x1024 .f32) (y : S256x1024.Idx) :
    ∃ pc ∈ ([⟨r0_13, p0⟩] : List (View.Piece (Elt F) S256x1024 .f32)), y ∈ pc.1.set :=
  View.cover_of_tiled [⟨r0_13, p0⟩] S256x1024.size (by rfl) y

/-- Window 19's staging buffer after the body, from the input windows' blocks: its 1 store as pieces, LAST
    FIRST (Lib/Pipeline/FrameBody.lean `View.canon`; the payloads are the skeleton's and the values stated above). -/
def out0_19 (x0 : Vec F S256x1024 .f32) (x1 : Vec F S256x512 .bf16) (x2 : Vec F S256x512 .bf16) (x3 : Vec F S1x256x256 .f32) (x4 : Vec F S1x1024x1024 .bf16) (x5 : Vec F S1x1x1024 .f32) (x6 : Vec F S1x1024x2816 .bf16) (x7 : Vec F S1x1024x2816 .bf16) (x8 : Vec F S1x2816x1024 .bf16) (x9 : Vec F S1x1x1024 .f32) (x10 : Vec F S1x1024x1024 .bf16) (x11 : Vec F S1x256x1024 .bf16) (x12 : Vec F S1x1x1024 .f32) (x13 : Vec F S1x3072x1024 .bf16) (x14 : Vec F S1x1x8x64x256 .f32) (x15 : Vec F S1x1x8x64x256 .f32) (x16 : Vec F S1x1x8x64x256 .f32) (x17 : Vec F S1x1x8x64x256 .f32) : Vec F S256x512 .bf16 :=
  View.canon [⟨r0_15, k0_pay20 (k0_pay43 x0 x1 x2 x3 x4 x5 x6 x7 x8 x9 x10 x11 x12 x13 x14 x15 x16 x17) (k0_pay44 x0 x1 x2 x3 x4 x5 x6 x7 x8 x9 x10 x11 x12 x13 x14 x15 x16 x17) (View.ld x12 r0_6) (View.ld x13 r0_14)⟩]

/-- Its stores tile the buffer (checked by evaluation), so they cover it. -/
theorem cover0_19 (p0 : Vec F S256x512 .bf16) (y : S256x512.Idx) :
    ∃ pc ∈ ([⟨r0_15, p0⟩] : List (View.Piece (Elt F) S256x512 .bf16)), y ∈ pc.1.set :=
  View.cover_of_tiled [⟨r0_15, p0⟩] S256x512.size (by rfl) y

/-- Window 20's staging buffer after the body, from the input windows' blocks: its 1 store as pieces, LAST
    FIRST (Lib/Pipeline/FrameBody.lean `View.canon`; the payloads are the skeleton's and the values stated above). -/
def out0_20 (x0 : Vec F S256x1024 .f32) (x1 : Vec F S256x512 .bf16) (x2 : Vec F S256x512 .bf16) (x3 : Vec F S1x256x256 .f32) (x4 : Vec F S1x1024x1024 .bf16) (x5 : Vec F S1x1x1024 .f32) (x6 : Vec F S1x1024x2816 .bf16) (x7 : Vec F S1x1024x2816 .bf16) (x8 : Vec F S1x2816x1024 .bf16) (x9 : Vec F S1x1x1024 .f32) (x10 : Vec F S1x1024x1024 .bf16) (x11 : Vec F S1x256x1024 .bf16) (x12 : Vec F S1x1x1024 .f32) (x13 : Vec F S1x3072x1024 .bf16) (x14 : Vec F S1x1x8x64x256 .f32) (x15 : Vec F S1x1x8x64x256 .f32) (x16 : Vec F S1x1x8x64x256 .f32) (x17 : Vec F S1x1x8x64x256 .f32) : Vec F S256x512 .bf16 :=
  View.canon [⟨r0_15, k0_pay21 (k0_pay43 x0 x1 x2 x3 x4 x5 x6 x7 x8 x9 x10 x11 x12 x13 x14 x15 x16 x17) (k0_pay44 x0 x1 x2 x3 x4 x5 x6 x7 x8 x9 x10 x11 x12 x13 x14 x15 x16 x17) (View.ld x12 r0_6) (View.ld x13 r0_16)⟩]

/-- Its stores tile the buffer (checked by evaluation), so they cover it. -/
theorem cover0_20 (p0 : Vec F S256x512 .bf16) (y : S256x512.Idx) :
    ∃ pc ∈ ([⟨r0_15, p0⟩] : List (View.Piece (Elt F) S256x512 .bf16)), y ∈ pc.1.set :=
  View.cover_of_tiled [⟨r0_15, p0⟩] S256x512.size (by rfl) y

/-- Window 21's staging buffer after the body, from the input windows' blocks: its 2 stores as pieces, LAST
    FIRST (Lib/Pipeline/FrameBody.lean `View.canon`; the payloads are the skeleton's and the values stated above). -/
def out0_21 (x0 : Vec F S256x1024 .f32) (x1 : Vec F S256x512 .bf16) (x2 : Vec F S256x512 .bf16) (x3 : Vec F S1x256x256 .f32) (x4 : Vec F S1x1024x1024 .bf16) (x5 : Vec F S1x1x1024 .f32) (x6 : Vec F S1x1024x2816 .bf16) (x7 : Vec F S1x1024x2816 .bf16) (x8 : Vec F S1x2816x1024 .bf16) (x9 : Vec F S1x1x1024 .f32) (x10 : Vec F S1x1024x1024 .bf16) (x11 : Vec F S1x256x1024 .bf16) (x12 : Vec F S1x1x1024 .f32) (x13 : Vec F S1x3072x1024 .bf16) (x14 : Vec F S1x1x8x64x256 .f32) (x15 : Vec F S1x1x8x64x256 .f32) (x16 : Vec F S1x1x8x64x256 .f32) (x17 : Vec F S1x1x8x64x256 .f32) : Vec F S2x1x8x64x256 .f32 :=
  View.canon [⟨r0_20, k0_pay23 (k0_pay22 (k0_pay43 x0 x1 x2 x3 x4 x5 x6 x7 x8 x9 x10 x11 x12 x13 x14 x15 x16 x17) (k0_pay44 x0 x1 x2 x3 x4 x5 x6 x7 x8 x9 x10 x11 x12 x13 x14 x15 x16 x17) (View.ld x12 r0_6) (View.ld x13 r0_17))⟩,
    ⟨r0_19, View.ld x14 r0_18⟩]

/-- Its stores tile the buffer (checked by evaluation), so they cover it. -/
theorem cover0_21 (p0 : Vec F S1x1x8x64x256 .f32) (p1 : Vec F S1x1x8x64x256 .f32) (y : S2x1x8x64x256.Idx) :
    ∃ pc ∈ ([⟨r0_20, p0⟩, ⟨r0_19, p1⟩] : List (View.Piece (Elt F) S2x1x8x64x256 .f32)), y ∈ pc.1.set :=
  View.cover_of_tiled [⟨r0_20, p0⟩, ⟨r0_19, p1⟩] S1x1x8x64x256.size (by rfl) y

/-- Window 22's staging buffer after the body, from the input windows' blocks: its 2 stores as pieces, LAST
    FIRST (Lib/Pipeline/FrameBody.lean `View.canon`; the payloads are the skeleton's and the values stated above). -/
def out0_22 (x0 : Vec F S256x1024 .f32) (x1 : Vec F S256x512 .bf16) (x2 : Vec F S256x512 .bf16) (x3 : Vec F S1x256x256 .f32) (x4 : Vec F S1x1024x1024 .bf16) (x5 : Vec F S1x1x1024 .f32) (x6 : Vec F S1x1024x2816 .bf16) (x7 : Vec F S1x1024x2816 .bf16) (x8 : Vec F S1x2816x1024 .bf16) (x9 : Vec F S1x1x1024 .f32) (x10 : Vec F S1x1024x1024 .bf16) (x11 : Vec F S1x256x1024 .bf16) (x12 : Vec F S1x1x1024 .f32) (x13 : Vec F S1x3072x1024 .bf16) (x14 : Vec F S1x1x8x64x256 .f32) (x15 : Vec F S1x1x8x64x256 .f32) (x16 : Vec F S1x1x8x64x256 .f32) (x17 : Vec F S1x1x8x64x256 .f32) : Vec F S2x1x8x64x256 .f32 :=
  View.canon [⟨r0_20, k0_pay24 (k0_pay45 x0 x1 x2 x3 x4 x5 x6 x7 x8 x9 x10 x11 x12 x13 x14 x15 x16 x17) (View.ld x13 r0_21)⟩,
    ⟨r0_19, View.ld x15 r0_18⟩]

/-- Its stores tile the buffer (checked by evaluation), so they cover it. -/
theorem cover0_22 (p0 : Vec F S1x1x8x64x256 .f32) (p1 : Vec F S1x1x8x64x256 .f32) (y : S2x1x8x64x256.Idx) :
    ∃ pc ∈ ([⟨r0_20, p0⟩, ⟨r0_19, p1⟩] : List (View.Piece (Elt F) S2x1x8x64x256 .f32)), y ∈ pc.1.set :=
  View.cover_of_tiled [⟨r0_20, p0⟩, ⟨r0_19, p1⟩] S1x1x8x64x256.size (by rfl) y

/-- Window 23's staging buffer after the body, from the input windows' blocks: its 2 stores as pieces, LAST
    FIRST (Lib/Pipeline/FrameBody.lean `View.canon`; the payloads are the skeleton's and the values stated above). -/
def out0_23 (x0 : Vec F S256x1024 .f32) (x1 : Vec F S256x512 .bf16) (x2 : Vec F S256x512 .bf16) (x3 : Vec F S1x256x256 .f32) (x4 : Vec F S1x1024x1024 .bf16) (x5 : Vec F S1x1x1024 .f32) (x6 : Vec F S1x1024x2816 .bf16) (x7 : Vec F S1x1024x2816 .bf16) (x8 : Vec F S1x2816x1024 .bf16) (x9 : Vec F S1x1x1024 .f32) (x10 : Vec F S1x1024x1024 .bf16) (x11 : Vec F S1x256x1024 .bf16) (x12 : Vec F S1x1x1024 .f32) (x13 : Vec F S1x3072x1024 .bf16) (x14 : Vec F S1x1x8x64x256 .f32) (x15 : Vec F S1x1x8x64x256 .f32) (x16 : Vec F S1x1x8x64x256 .f32) (x17 : Vec F S1x1x8x64x256 .f32) : Vec F S2x1x8x64x256 .f32 :=
  View.canon [⟨r0_20, k0_pay26 (k0_pay46 x0 x1 x2 x3 x4 x5 x6 x7 x8 x9 x10 x11 x12 x13 x14 x15 x16 x17)⟩,
    ⟨r0_19, View.ld x16 r0_18⟩]

/-- Its stores tile the buffer (checked by evaluation), so they cover it. -/
theorem cover0_23 (p0 : Vec F S1x1x8x64x256 .f32) (p1 : Vec F S1x1x8x64x256 .f32) (y : S2x1x8x64x256.Idx) :
    ∃ pc ∈ ([⟨r0_20, p0⟩, ⟨r0_19, p1⟩] : List (View.Piece (Elt F) S2x1x8x64x256 .f32)), y ∈ pc.1.set :=
  View.cover_of_tiled [⟨r0_20, p0⟩, ⟨r0_19, p1⟩] S1x1x8x64x256.size (by rfl) y

/-- Window 24's staging buffer after the body, from the input windows' blocks: its 2 stores as pieces, LAST
    FIRST (Lib/Pipeline/FrameBody.lean `View.canon`; the payloads are the skeleton's and the values stated above). -/
def out0_24 (x0 : Vec F S256x1024 .f32) (x1 : Vec F S256x512 .bf16) (x2 : Vec F S256x512 .bf16) (x3 : Vec F S1x256x256 .f32) (x4 : Vec F S1x1024x1024 .bf16) (x5 : Vec F S1x1x1024 .f32) (x6 : Vec F S1x1024x2816 .bf16) (x7 : Vec F S1x1024x2816 .bf16) (x8 : Vec F S1x2816x1024 .bf16) (x9 : Vec F S1x1x1024 .f32) (x10 : Vec F S1x1024x1024 .bf16) (x11 : Vec F S1x256x1024 .bf16) (x12 : Vec F S1x1x1024 .f32) (x13 : Vec F S1x3072x1024 .bf16) (x14 : Vec F S1x1x8x64x256 .f32) (x15 : Vec F S1x1x8x64x256 .f32) (x16 : Vec F S1x1x8x64x256 .f32) (x17 : Vec F S1x1x8x64x256 .f32) : Vec F S2x1x8x64x256 .f32 :=
  View.canon [⟨r0_20, k0_pay1 (k0_pay47 x0 x1 x2 x3 x4 x5 x6 x7 x8 x9 x10 x11 x12 x13 x14 x15 x16 x17)⟩,
    ⟨r0_19, View.ld x17 r0_18⟩]

/-- Its stores tile the buffer (checked by evaluation), so they cover it. -/
theorem cover0_24 (p0 : Vec F S1x1x8x64x256 .f32) (p1 : Vec F S1x1x8x64x256 .f32) (y : S2x1x8x64x256.Idx) :
    ∃ pc ∈ ([⟨r0_20, p0⟩, ⟨r0_19, p1⟩] : List (View.Piece (Elt F) S2x1x8x64x256 .f32)), y ∈ pc.1.set :=
  View.cover_of_tiled [⟨r0_20, p0⟩, ⟨r0_19, p1⟩] S1x1x8x64x256.size (by rfl) y

/-- Window 25's staging buffer after the body, from the input windows' blocks: its 2 stores as pieces, LAST
    FIRST (Lib/Pipeline/FrameBody.lean `View.canon`; the payloads are the skeleton's and the values stated above). -/
def out0_25 (x0 : Vec F S256x1024 .f32) (x1 : Vec F S256x512 .bf16) (x2 : Vec F S256x512 .bf16) (x3 : Vec F S1x256x256 .f32) (x4 : Vec F S1x1024x1024 .bf16) (x5 : Vec F S1x1x1024 .f32) (x6 : Vec F S1x1024x2816 .bf16) (x7 : Vec F S1x1024x2816 .bf16) (x8 : Vec F S1x2816x1024 .bf16) (x9 : Vec F S1x1x1024 .f32) (x10 : Vec F S1x1024x1024 .bf16) (x11 : Vec F S1x256x1024 .bf16) (x12 : Vec F S1x1x1024 .f32) (x13 : Vec F S1x3072x1024 .bf16) (x14 : Vec F S1x1x8x64x256 .f32) (x15 : Vec F S1x1x8x64x256 .f32) (x16 : Vec F S1x1x8x64x256 .f32) (x17 : Vec F S1x1x8x64x256 .f32) : Vec F S2x1x8x64x256 .f32 :=
  View.canon [⟨r0_20, k0_pay27 (k0_pay46 x0 x1 x2 x3 x4 x5 x6 x7 x8 x9 x10 x11 x12 x13 x14 x15 x16 x17)⟩,
    ⟨r0_19, View.ld x16 r0_18⟩]

/-- Its stores tile the buffer (checked by evaluation), so they cover it. -/
theorem cover0_25 (p0 : Vec F S1x1x8x64x256 .f32) (p1 : Vec F S1x1x8x64x256 .f32) (y : S2x1x8x64x256.Idx) :
    ∃ pc ∈ ([⟨r0_20, p0⟩, ⟨r0_19, p1⟩] : List (View.Piece (Elt F) S2x1x8x64x256 .f32)), y ∈ pc.1.set :=
  View.cover_of_tiled [⟨r0_20, p0⟩, ⟨r0_19, p1⟩] S1x1x8x64x256.size (by rfl) y

/-- Window 26's staging buffer after the body, from the input windows' blocks: its 2 stores as pieces, LAST
    FIRST (Lib/Pipeline/FrameBody.lean `View.canon`; the payloads are the skeleton's and the values stated above). -/
def out0_26 (x0 : Vec F S256x1024 .f32) (x1 : Vec F S256x512 .bf16) (x2 : Vec F S256x512 .bf16) (x3 : Vec F S1x256x256 .f32) (x4 : Vec F S1x1024x1024 .bf16) (x5 : Vec F S1x1x1024 .f32) (x6 : Vec F S1x1024x2816 .bf16) (x7 : Vec F S1x1024x2816 .bf16) (x8 : Vec F S1x2816x1024 .bf16) (x9 : Vec F S1x1x1024 .f32) (x10 : Vec F S1x1024x1024 .bf16) (x11 : Vec F S1x256x1024 .bf16) (x12 : Vec F S1x1x1024 .f32) (x13 : Vec F S1x3072x1024 .bf16) (x14 : Vec F S1x1x8x64x256 .f32) (x15 : Vec F S1x1x8x64x256 .f32) (x16 : Vec F S1x1x8x64x256 .f32) (x17 : Vec F S1x1x8x64x256 .f32) : Vec F S2x1x8x64x256 .f32 :=
  View.canon [⟨r0_20, k0_pay2 (k0_pay47 x0 x1 x2 x3 x4 x5 x6 x7 x8 x9 x10 x11 x12 x13 x14 x15 x16 x17)⟩,
    ⟨r0_19, View.ld x17 r0_18⟩]

/-- Its stores tile the buffer (checked by evaluation), so they cover it. -/
theorem cover0_26 (p0 : Vec F S1x1x8x64x256 .f32) (p1 : Vec F S1x1x8x64x256 .f32) (y : S2x1x8x64x256.Idx) :
    ∃ pc ∈ ([⟨r0_20, p0⟩, ⟨r0_19, p1⟩] : List (View.Piece (Elt F) S2x1x8x64x256 .f32)), y ∈ pc.1.set :=
  View.cover_of_tiled [⟨r0_20, p0⟩, ⟨r0_19, p1⟩] S1x1x8x64x256.size (by rfl) y

/-! ## The body's triple -/

set_option maxHeartbeats 2095300 in
/-- The kernel body on whole staging memrefs, the inputs' at read contents `xW` and the outputs' at anything, runs to
    the continuation holding the inputs' as they were and each output's at `out0_W` of the inputs': the printed functions
    are their skeletons (`Gen.*_eq_skeleton`), which `sl_exec` runs (Lib/Exec.lean), through every part call. -/
theorem sound_kernel (c : Dev nD) (E : Set ℕ) (i : grid0.Coords) (arg1 : Memref sig .tc .vmem S256x1024 .f32) (harg1 : arg1.IsWhole) (arg2 : Memref sig .tc .vmem S256x512 .bf16) (harg2 : arg2.IsWhole) (arg3 : Memref sig .tc .vmem S256x512 .bf16) (harg3 : arg3.IsWhole) (arg4 : Memref sig .tc .vmem S1x256x256 .f32) (harg4 : arg4.IsWhole) (arg5 : Memref sig .tc .vmem S1x1024x1024 .bf16) (harg5 : arg5.IsWhole) (arg6 : Memref sig .tc .vmem S1x1x1024 .f32) (harg6 : arg6.IsWhole) (arg7 : Memref sig .tc .vmem S1x1024x2816 .bf16) (harg7 : arg7.IsWhole) (arg8 : Memref sig .tc .vmem S1x1024x2816 .bf16) (harg8 : arg8.IsWhole) (arg9 : Memref sig .tc .vmem S1x2816x1024 .bf16) (harg9 : arg9.IsWhole) (arg10 : Memref sig .tc .vmem S1x1x1024 .f32) (harg10 : arg10.IsWhole) (arg11 : Memref sig .tc .vmem S1x1024x1024 .bf16) (harg11 : arg11.IsWhole) (arg12 : Memref sig .tc .vmem S1x256x1024 .bf16) (harg12 : arg12.IsWhole) (arg13 : Memref sig .tc .vmem S1x1x1024 .f32) (harg13 : arg13.IsWhole) (arg14 : Memref sig .tc .vmem S1x3072x1024 .bf16) (harg14 : arg14.IsWhole) (arg15 : Memref sig .tc .vmem S1x1x8x64x256 .f32) (harg15 : arg15.IsWhole) (arg16 : Memref sig .tc .vmem S1x1x8x64x256 .f32) (harg16 : arg16.IsWhole) (arg17 : Memref sig .tc .vmem S1x1x8x64x256 .f32) (harg17 : arg17.IsWhole) (arg18 : Memref sig .tc .vmem S1x1x8x64x256 .f32) (harg18 : arg18.IsWhole) (arg19 : Memref sig .tc .vmem S256x1024 .f32) (harg19 : arg19.IsWhole) (arg20 : Memref sig .tc .vmem S256x512 .bf16) (harg20 : arg20.IsWhole) (arg21 : Memref sig .tc .vmem S256x512 .bf16) (harg21 : arg21.IsWhole) (arg22 : Memref sig .tc .vmem S2x1x8x64x256 .f32) (harg22 : arg22.IsWhole) (arg23 : Memref sig .tc .vmem S2x1x8x64x256 .f32) (harg23 : arg23.IsWhole) (arg24 : Memref sig .tc .vmem S2x1x8x64x256 .f32) (harg24 : arg24.IsWhole) (arg25 : Memref sig .tc .vmem S2x1x8x64x256 .f32) (harg25 : arg25.IsWhole) (arg26 : Memref sig .tc .vmem S2x1x8x64x256 .f32) (harg26 : arg26.IsWhole) (arg27 : Memref sig .tc .vmem S2x1x8x64x256 .f32) (harg27 : arg27.IsWhole)
    (x0 : Vec F S256x1024 .f32) (x1 : Vec F S256x512 .bf16) (x2 : Vec F S256x512 .bf16) (x3 : Vec F S1x256x256 .f32) (x4 : Vec F S1x1024x1024 .bf16) (x5 : Vec F S1x1x1024 .f32) (x6 : Vec F S1x1024x2816 .bf16) (x7 : Vec F S1x1024x2816 .bf16) (x8 : Vec F S1x2816x1024 .bf16) (x9 : Vec F S1x1x1024 .f32) (x10 : Vec F S1x1024x1024 .bf16) (x11 : Vec F S1x256x1024 .bf16) (x12 : Vec F S1x1x1024 .f32) (x13 : Vec F S1x3072x1024 .bf16) (x14 : Vec F S1x1x8x64x256 .f32) (x15 : Vec F S1x1x8x64x256 .f32) (x16 : Vec F S1x1x8x64x256 .f32) (x17 : Vec F S1x1x8x64x256 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare x11 ∗ owns (c : Thread nD τ) arg13 fullShare x12 ∗ owns (c : Thread nD τ) arg14 fullShare x13 ∗ owns (c : Thread nD τ) arg15 fullShare x14 ∗ owns (c : Thread nD τ) arg16 fullShare x15 ∗ owns (c : Thread nD τ) arg17 fullShare x16 ∗ owns (c : Thread nD τ) arg18 fullShare x17 ∗ (∃ d, owns (c : Thread nD τ) arg19 fullShare d) ∗ (∃ d, owns (c : Thread nD τ) arg20 fullShare d) ∗ (∃ d, owns (c : Thread nD τ) arg21 fullShare d) ∗ (∃ d, owns (c : Thread nD τ) arg22 fullShare d) ∗ (∃ d, owns (c : Thread nD τ) arg23 fullShare d) ∗ (∃ d, owns (c : Thread nD τ) arg24 fullShare d) ∗ (∃ d, owns (c : Thread nD τ) arg25 fullShare d) ∗ (∃ d, owns (c : Thread nD τ) arg26 fullShare d) ∗ (∃ d, owns (c : Thread nD τ) arg27 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare x11 ∗ owns (c : Thread nD τ) arg13 fullShare x12 ∗ owns (c : Thread nD τ) arg14 fullShare x13 ∗ owns (c : Thread nD τ) arg15 fullShare x14 ∗ owns (c : Thread nD τ) arg16 fullShare x15 ∗ owns (c : Thread nD τ) arg17 fullShare x16 ∗ owns (c : Thread nD τ) arg18 fullShare x17 ∗ owns (c : Thread nD τ) arg19 fullShare (out0_18 x0 x1 x2 x3 x4 x5 x6 x7 x8 x9 x10 x11 x12 x13 x14 x15 x16 x17) ∗ owns (c : Thread nD τ) arg20 fullShare (out0_19 x0 x1 x2 x3 x4 x5 x6 x7 x8 x9 x10 x11 x12 x13 x14 x15 x16 x17) ∗ owns (c : Thread nD τ) arg21 fullShare (out0_20 x0 x1 x2 x3 x4 x5 x6 x7 x8 x9 x10 x11 x12 x13 x14 x15 x16 x17) ∗ owns (c : Thread nD τ) arg22 fullShare (out0_21 x0 x1 x2 x3 x4 x5 x6 x7 x8 x9 x10 x11 x12 x13 x14 x15 x16 x17) ∗ owns (c : Thread nD τ) arg23 fullShare (out0_22 x0 x1 x2 x3 x4 x5 x6 x7 x8 x9 x10 x11 x12 x13 x14 x15 x16 x17) ∗ owns (c : Thread nD τ) arg24 fullShare (out0_23 x0 x1 x2 x3 x4 x5 x6 x7 x8 x9 x10 x11 x12 x13 x14 x15 x16 x17) ∗ owns (c : Thread nD τ) arg25 fullShare (out0_24 x0 x1 x2 x3 x4 x5 x6 x7 x8 x9 x10 x11 x12 x13 x14 x15 x16 x17) ∗ owns (c : Thread nD τ) arg26 fullShare (out0_25 x0 x1 x2 x3 x4 x5 x6 x7 x8 x9 x10 x11 x12 x13 x14 x15 x16 x17) ∗ owns (c : Thread nD τ) arg27 fullShare (out0_26 x0 x1 x2 x3 x4 x5 x6 x7 x8 x9 x10 x11 x12 x13 x14 x15 x16 x17)) -∗ K ⟨⟩))
      ⊢ wp frame (wpE (defs₀ (F := F)) Variants.none c none) E (cc0_layer_tail_qkv i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27) K := by
  simp only [cc0_layer_tail_qkv_eq_skeleton]; unfold cc0_layer_tail_qkv_skel
  simp only [k0_part1_eq_skeleton, k0_part2_eq_skeleton, k0_part3_eq_skeleton, k0_part4_eq_skeleton, k0_part5_eq_skeleton, k0_part6_eq_skeleton, k0_part7_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%f14, %hf14, H14⟩, ⟨%f15, %hf15, H15⟩, ⟨%f16, %hf16, H16⟩, ⟨%f17, %hf17, H17⟩, ⟨%d18, %f18, -, H18⟩, ⟨%d19, %f19, -, H19⟩, ⟨%d20, %f20, -, H20⟩, ⟨%d21, %f21, -, H21⟩, ⟨%d22, %f22, -, H22⟩, ⟨%d23, %f23, -, H23⟩, ⟨%d24, %f24, -, H24⟩, ⟨%d25, %f25, -, H25⟩, ⟨%d26, %f26, -, H26⟩, Hk⟩
  subst hf0 hf1 hf2 hf3 hf4 hf5 hf6 hf7 hf8 hf9 hf10 hf11 hf12 hf13 hf14 hf15 hf16 hf17
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists f8; isplitr; · ipureintro; rfl
    iexact H8
  isplitl [H9]
  · iexists f9; isplitr; · ipureintro; rfl
    iexact H9
  isplitl [H10]
  · iexists f10; isplitr; · ipureintro; rfl
    iexact H10
  isplitl [H11]
  · iexists f11; isplitr; · ipureintro; rfl
    iexact H11
  isplitl [H12]
  · iexists f12; isplitr; · ipureintro; rfl
    iexact H12
  isplitl [H13]
  · iexists f13; isplitr; · ipureintro; rfl
    iexact H13
  isplitl [H14]
  · iexists f14; isplitr; · ipureintro; rfl
    iexact H14
  isplitl [H15]
  · iexists f15; isplitr; · ipureintro; rfl
    iexact H15
  isplitl [H16]
  · iexists f16; isplitr; · ipureintro; rfl
    iexact H16
  isplitl [H17]
  · iexists f17; isplitr; · ipureintro; rfl
    iexact H17
  isplitl [H18]
  · iexists _; isplitr
    swap; · iexact H18
    ipureintro
    refine (View.read_writes_eq_canon _ _ _ (cover0_18 _)).trans ?_
    rfl
  isplitl [H19]
  · iexists _; isplitr
    swap; · iexact H19
    ipureintro
    refine (View.read_writes_eq_canon _ _ _ (cover0_19 _)).trans ?_
    rfl
  isplitl [H20]
  · iexists _; isplitr
    swap; · iexact H20
    ipureintro
    refine (View.read_writes_eq_canon _ _ _ (cover0_20 _)).trans ?_
    rfl
  isplitl [H21]
  · iexists _; isplitr
    swap; · iexact H21
    ipureintro
    refine (View.read_writes_eq_canon _ _ _ (cover0_21 _ _)).trans ?_
    rfl
  isplitl [H22]
  · iexists _; isplitr
    swap; · iexact H22
    ipureintro
    refine (View.read_writes_eq_canon _ _ _ (cover0_22 _ _)).trans ?_
    rfl
  isplitl [H23]
  · iexists _; isplitr
    swap; · iexact H23
    ipureintro
    refine (View.read_writes_eq_canon _ _ _ (cover0_23 _ _)).trans ?_
    rfl
  isplitl [H24]
  · iexists _; isplitr
    swap; · iexact H24
    ipureintro
    refine (View.read_writes_eq_canon _ _ _ (cover0_24 _ _)).trans ?_
    rfl
  isplitl [H25]
  · iexists _; isplitr
    swap; · iexact H25
    ipureintro
    refine (View.read_writes_eq_canon _ _ _ (cover0_25 _ _)).trans ?_
    rfl
  iexists _; isplitr
  swap; · iexact H26
  ipureintro
  refine (View.read_writes_eq_canon _ _ _ (cover0_26 _ _)).trans ?_
  rfl

/-! ## The pipeline's proof data -/

/-- The proof data of the one pipeline on core `c`: the arrays as the region finds them (`V`); after the body at
    point `t` each input's buffer at its block and each output's at `out0_W` of the input blocks; the invariant the
    class's (Lib/Pipeline/Frame.lean `ΦA`: the scoped rest and the generator register, untouched); nothing owed;
    full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => iblk m c 9 t
    | ⟨10, _⟩ => iblk m c 10 t
    | ⟨11, _⟩ => iblk m c 11 t
    | ⟨12, _⟩ => iblk m c 12 t
    | ⟨13, _⟩ => iblk m c 13 t
    | ⟨14, _⟩ => iblk m c 14 t
    | ⟨15, _⟩ => iblk m c 15 t
    | ⟨16, _⟩ => iblk m c 16 t
    | ⟨17, _⟩ => iblk m c 17 t
    | ⟨18, _⟩ => out0_18 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t)
    | ⟨19, _⟩ => out0_19 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t)
    | ⟨20, _⟩ => out0_20 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t)
    | ⟨21, _⟩ => out0_21 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t)
    | ⟨22, _⟩ => out0_22 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t)
    | ⟨23, _⟩ => out0_23 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t)
    | ⟨24, _⟩ => out0_24 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t)
    | ⟨25, _⟩ => out0_25 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t)
    | ⟨26, _⟩ => out0_26 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t)
    | ⟨_ + 27, h⟩ => absurd h (Nat.not_lt.2 (Nat.le_add_left _ _))
  Φ _ := Pipeline.ΦA spec0 c
  q _ := fullShare
  owed _ := 0

/-- The proof data's arrays are the region-entry contents: the proof data's definition projected (`dsimp`), so that
    `V` — a fold over @main's host prefix, long for some programs — is never unfolded to check it. -/
theorem A_eq (c : Dev nD) (w : Fin cfg0.W) : (dats m 0 c).A w = V m c (Pipeline.arrRef spec0 w) := by
  dsimp only [dats]

/-- What the body leaves, window by window (the proof data's `match` reduced by `dsimp`, never `rfl`: Lib/Pipeline.lean `Dat`). -/
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = iblk m c 6 t := by dsimp only [dats]
theorem after0_7 (c : Dev nD) (t : Fin cfg0.N) : (dats m 0 c).after 7 t = iblk m c 7 t := by dsimp only [dats]
theorem after0_8 (c : Dev nD) (t : Fin cfg0.N) : (dats m 0 c).after 8 t = iblk m c 8 t := by dsimp only [dats]
theorem after0_9 (c : Dev nD) (t : Fin cfg0.N) : (dats m 0 c).after 9 t = iblk m c 9 t := by dsimp only [dats]
theorem after0_10 (c : Dev nD) (t : Fin cfg0.N) : (dats m 0 c).after 10 t = iblk m c 10 t := by dsimp only [dats]
theorem after0_11 (c : Dev nD) (t : Fin cfg0.N) : (dats m 0 c).after 11 t = iblk m c 11 t := by dsimp only [dats]
theorem after0_12 (c : Dev nD) (t : Fin cfg0.N) : (dats m 0 c).after 12 t = iblk m c 12 t := by dsimp only [dats]
theorem after0_13 (c : Dev nD) (t : Fin cfg0.N) : (dats m 0 c).after 13 t = iblk m c 13 t := by dsimp only [dats]
theorem after0_14 (c : Dev nD) (t : Fin cfg0.N) : (dats m 0 c).after 14 t = iblk m c 14 t := by dsimp only [dats]
theorem after0_15 (c : Dev nD) (t : Fin cfg0.N) : (dats m 0 c).after 15 t = iblk m c 15 t := by dsimp only [dats]
theorem after0_16 (c : Dev nD) (t : Fin cfg0.N) : (dats m 0 c).after 16 t = iblk m c 16 t := by dsimp only [dats]
theorem after0_17 (c : Dev nD) (t : Fin cfg0.N) : (dats m 0 c).after 17 t = iblk m c 17 t := by dsimp only [dats]
theorem after0_18 (c : Dev nD) (t : Fin cfg0.N) : (dats m 0 c).after 18 t = out0_18 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) := by dsimp only [dats]
theorem after0_19 (c : Dev nD) (t : Fin cfg0.N) : (dats m 0 c).after 19 t = out0_19 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) := by dsimp only [dats]
theorem after0_20 (c : Dev nD) (t : Fin cfg0.N) : (dats m 0 c).after 20 t = out0_20 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) := by dsimp only [dats]
theorem after0_21 (c : Dev nD) (t : Fin cfg0.N) : (dats m 0 c).after 21 t = out0_21 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) := by dsimp only [dats]
theorem after0_22 (c : Dev nD) (t : Fin cfg0.N) : (dats m 0 c).after 22 t = out0_22 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) := by dsimp only [dats]
theorem after0_23 (c : Dev nD) (t : Fin cfg0.N) : (dats m 0 c).after 23 t = out0_23 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) := by dsimp only [dats]
theorem after0_24 (c : Dev nD) (t : Fin cfg0.N) : (dats m 0 c).after 24 t = out0_24 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) := by dsimp only [dats]
theorem after0_25 (c : Dev nD) (t : Fin cfg0.N) : (dats m 0 c).after 25 t = out0_25 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) := by dsimp only [dats]
theorem after0_26 (c : Dev nD) (t : Fin cfg0.N) : (dats m 0 c).after 26 t = out0_26 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) := by dsimp only [dats]

/-- Each input's current staging buffer holds its block at every point, fetched there or not (`beforeK_W_of`). -/
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d
theorem before0_6 (c : Dev nD) (t : Fin cfg0.N) (d) : (dats m 0 c).before 6 t d = iblk m c 6 t :=
  before0_6_of m (dats m 0 c) (A_eq m c 6) (after0_6 m c) t d
theorem before0_7 (c : Dev nD) (t : Fin cfg0.N) (d) : (dats m 0 c).before 7 t d = iblk m c 7 t :=
  before0_7_of m (dats m 0 c) (A_eq m c 7) (after0_7 m c) t d
theorem before0_8 (c : Dev nD) (t : Fin cfg0.N) (d) : (dats m 0 c).before 8 t d = iblk m c 8 t :=
  before0_8_of m (dats m 0 c) (A_eq m c 8) (after0_8 m c) t d
theorem before0_9 (c : Dev nD) (t : Fin cfg0.N) (d) : (dats m 0 c).before 9 t d = iblk m c 9 t :=
  before0_9_of m (dats m 0 c) (A_eq m c 9) (after0_9 m c) t d
theorem before0_10 (c : Dev nD) (t : Fin cfg0.N) (d) : (dats m 0 c).before 10 t d = iblk m c 10 t :=
  before0_10_of m (dats m 0 c) (A_eq m c 10) (after0_10 m c) t d
theorem before0_11 (c : Dev nD) (t : Fin cfg0.N) (d) : (dats m 0 c).before 11 t d = iblk m c 11 t :=
  before0_11_of m (dats m 0 c) (A_eq m c 11) (after0_11 m c) t d
theorem before0_12 (c : Dev nD) (t : Fin cfg0.N) (d) : (dats m 0 c).before 12 t d = iblk m c 12 t :=
  before0_12_of m (dats m 0 c) (A_eq m c 12) (after0_12 m c) t d
theorem before0_13 (c : Dev nD) (t : Fin cfg0.N) (d) : (dats m 0 c).before 13 t d = iblk m c 13 t :=
  before0_13_of m (dats m 0 c) (A_eq m c 13) (after0_13 m c) t d
theorem before0_14 (c : Dev nD) (t : Fin cfg0.N) (d) : (dats m 0 c).before 14 t d = iblk m c 14 t :=
  before0_14_of m (dats m 0 c) (A_eq m c 14) (after0_14 m c) t d
theorem before0_15 (c : Dev nD) (t : Fin cfg0.N) (d) : (dats m 0 c).before 15 t d = iblk m c 15 t :=
  before0_15_of m (dats m 0 c) (A_eq m c 15) (after0_15 m c) t d
theorem before0_16 (c : Dev nD) (t : Fin cfg0.N) (d) : (dats m 0 c).before 16 t d = iblk m c 16 t :=
  before0_16_of m (dats m 0 c) (A_eq m c 16) (after0_16 m c) t d
theorem before0_17 (c : Dev nD) (t : Fin cfg0.N) (d) : (dats m 0 c).before 17 t d = iblk m c 17 t :=
  before0_17_of m (dats m 0 c) (A_eq m c 17) (after0_17 m c) t d

/-! ## The body obligation, at a generic point -/

/-- What the body is called with at point `t` (Lib/Pipeline.lean `BodyObligation`'s precondition, the windows one by one), -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d))
    ∗ (∃ d, owns (c : Thread nD τ) (st0_7 t) fullShare ((dats m 0 c).before 7 t d))
    ∗ (∃ d, owns (c : Thread nD τ) (st0_8 t) fullShare ((dats m 0 c).before 8 t d))
    ∗ (∃ d, owns (c : Thread nD τ) (st0_9 t) fullShare ((dats m 0 c).before 9 t d))
    ∗ (∃ d, owns (c : Thread nD τ) (st0_10 t) fullShare ((dats m 0 c).before 10 t d))
    ∗ (∃ d, owns (c : Thread nD τ) (st0_11 t) fullShare ((dats m 0 c).before 11 t d))
    ∗ (∃ d, owns (c : Thread nD τ) (st0_12 t) fullShare ((dats m 0 c).before 12 t d))
    ∗ (∃ d, owns (c : Thread nD τ) (st0_13 t) fullShare ((dats m 0 c).before 13 t d))
    ∗ (∃ d, owns (c : Thread nD τ) (st0_14 t) fullShare ((dats m 0 c).before 14 t d))
    ∗ (∃ d, owns (c : Thread nD τ) (st0_15 t) fullShare ((dats m 0 c).before 15 t d))
    ∗ (∃ d, owns (c : Thread nD τ) (st0_16 t) fullShare ((dats m 0 c).before 16 t d))
    ∗ (∃ d, owns (c : Thread nD τ) (st0_17 t) fullShare ((dats m 0 c).before 17 t d))
    ∗ (∃ d, owns (c : Thread nD τ) (st0_18 t) fullShare ((dats m 0 c).before 18 t d))
    ∗ (∃ d, owns (c : Thread nD τ) (st0_19 t) fullShare ((dats m 0 c).before 19 t d))
    ∗ (∃ d, owns (c : Thread nD τ) (st0_20 t) fullShare ((dats m 0 c).before 20 t d))
    ∗ (∃ d, owns (c : Thread nD τ) (st0_21 t) fullShare ((dats m 0 c).before 21 t d))
    ∗ (∃ d, owns (c : Thread nD τ) (st0_22 t) fullShare ((dats m 0 c).before 22 t d))
    ∗ (∃ d, owns (c : Thread nD τ) (st0_23 t) fullShare ((dats m 0 c).before 23 t d))
    ∗ (∃ d, owns (c : Thread nD τ) (st0_24 t) fullShare ((dats m 0 c).before 24 t d))
    ∗ (∃ d, owns (c : Thread nD τ) (st0_25 t) fullShare ((dats m 0 c).before 25 t d))
    ∗ (∃ d, owns (c : Thread nD τ) (st0_26 t) fullShare ((dats m 0 c).before 26 t d)))

/-- and what it returns. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t)
    ∗ owns (c : Thread nD τ) (st0_6 t) fullShare ((dats m 0 c).after 6 t)
    ∗ owns (c : Thread nD τ) (st0_7 t) fullShare ((dats m 0 c).after 7 t)
    ∗ owns (c : Thread nD τ) (st0_8 t) fullShare ((dats m 0 c).after 8 t)
    ∗ owns (c : Thread nD τ) (st0_9 t) fullShare ((dats m 0 c).after 9 t)
    ∗ owns (c : Thread nD τ) (st0_10 t) fullShare ((dats m 0 c).after 10 t)
    ∗ owns (c : Thread nD τ) (st0_11 t) fullShare ((dats m 0 c).after 11 t)
    ∗ owns (c : Thread nD τ) (st0_12 t) fullShare ((dats m 0 c).after 12 t)
    ∗ owns (c : Thread nD τ) (st0_13 t) fullShare ((dats m 0 c).after 13 t)
    ∗ owns (c : Thread nD τ) (st0_14 t) fullShare ((dats m 0 c).after 14 t)
    ∗ owns (c : Thread nD τ) (st0_15 t) fullShare ((dats m 0 c).after 15 t)
    ∗ owns (c : Thread nD τ) (st0_16 t) fullShare ((dats m 0 c).after 16 t)
    ∗ owns (c : Thread nD τ) (st0_17 t) fullShare ((dats m 0 c).after 17 t)
    ∗ owns (c : Thread nD τ) (st0_18 t) fullShare ((dats m 0 c).after 18 t)
    ∗ owns (c : Thread nD τ) (st0_19 t) fullShare ((dats m 0 c).after 19 t)
    ∗ owns (c : Thread nD τ) (st0_20 t) fullShare ((dats m 0 c).after 20 t)
    ∗ owns (c : Thread nD τ) (st0_21 t) fullShare ((dats m 0 c).after 21 t)
    ∗ owns (c : Thread nD τ) (st0_22 t) fullShare ((dats m 0 c).after 22 t)
    ∗ owns (c : Thread nD τ) (st0_23 t) fullShare ((dats m 0 c).after 23 t)
    ∗ owns (c : Thread nD τ) (st0_24 t) fullShare ((dats m 0 c).after 24 t)
    ∗ owns (c : Thread nD τ) (st0_25 t) fullShare ((dats m 0 c).after 25 t)
    ∗ owns (c : Thread nD τ) (st0_26 t) fullShare ((dats m 0 c).after 26 t))

/-- The body at any point: the inputs' memrefs hold their blocks (`before0_W`), so `sound_kernel` applies; the invariant and
    the core's `owes` pass through unread. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5, before0_6, before0_7, before0_8, before0_9, before0_10, before0_11, before0_12, before0_13, before0_14, before0_15, before0_16, before0_17]
  rw [show (dats m 0 c).Φ t.succ = (dats m 0 c).Φ t.castSucc from rfl,
    show (dats m 0 c).owesAt () t.succ = (dats m 0 c).owesAt () t.castSucc from rfl,
    after0_0, after0_1, after0_2, after0_3, after0_4, after0_5, after0_6, after0_7, after0_8, after0_9, after0_10, after0_11, after0_12, after0_13, after0_14, after0_15, after0_16, after0_17, after0_18, after0_19, after0_20, after0_21, after0_22, after0_23, after0_24, after0_25, after0_26]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩, ⟨%d16, H16⟩, ⟨%d17, H17⟩, ⟨%d18, H18⟩, ⟨%d19, H19⟩, ⟨%d20, H20⟩, ⟨%d21, H21⟩, ⟨%d22, H22⟩, ⟨%d23, H23⟩, ⟨%d24, H24⟩, ⟨%d25, H25⟩, ⟨%d26, H26⟩⟩
  iapply (sound_kernel c Set.univ (grid0.coords t) _ _ _ _ _ _ _ _ _ _ _ _ _ _ _ _ _ _ _ _ _ _ _ _ _ _ _ _ _ _ _ _ _ _ _ _ _ _ _ _ _ _ _ _ _ _ _ _ _ _ _ _ _ _ (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexact H16
  isplitl [H17]; · iexact H17
  isplitl [H18]; · iexists _; iexact H18
  isplitl [H19]; · iexists _; iexact H19
  isplitl [H20]; · iexists _; iexact H20
  isplitl [H21]; · iexists _; iexact H21
  isplitl [H22]; · iexists _; iexact H22
  isplitl [H23]; · iexists _; iexact H23
  isplitl [H24]; · iexists _; iexact H24
  isplitl [H25]; · iexists _; iexact H25
  isplitl [H26]; · iexists _; iexact H26
  iintro ⟨H0, H1, H2, H3, H4, H5, H6, H7, H8, H9, H10, H11, H12, H13, H14, H15, H16, H17, H18, H19, H20, H21, H22, H23, H24, H25, H26⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexact H16
  isplitl [H17]; · iexact H17
  isplitl [H18]; · iexact H18
  isplitl [H19]; · iexact H19
  isplitl [H20]; · iexact H20
  isplitl [H21]; · iexact H21
  isplitl [H22]; · iexact H22
  isplitl [H23]; · iexact H23
  isplitl [H24]; · iexact H24
  isplitl [H25]; · iexact H25
  iexact H26

/-- The body table's row at point `t`'s slots is the body as `bodyAt0` spells it. -/
theorem defs₀_row (t : Fin cfg0.N) :
    defs₀ (F := F) .tc cfg0.body (cfg0.bodyArgs t (cfg0.slots t)) = bodyAt0 t := by
  unfold defs₀; rw [Defs.onTc_tc]

/-- The library's body obligation, at every point: the body's triple restated (Lib/Pipeline/FrameBody.lean `triple_restated`). -/
theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

/-! ## The run and the frame -/

-- `θ_run_frame`'s implicit arguments are found by unifying its conclusion with this one, which takes unfolding plain
-- definitions in a metavariable's type
set_option backward.isDefEq.respectTransparency.types false in
set_option maxHeartbeats 800000 in
/-- THE LAUNCH: `run_main`'s statement, and every semaphore counter of the machine at zero at every final state. -/
theorem run_main_quiescent : θ_run defs (onTc (τ := τ) (main (F := F))) (s₀ m ρ) (fun r => (Pipeline.FramePost cfgs (dats m) 0 (V m)) r ∧ r.2.sem = fun _ => 0) :=
  Pipeline.θ_run_frame (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hΦ := fun _ _ => rfl)

/-- At the compiled mesh, for any values, from any memory with zero counters: every weakly fair execution of @main on the
    TensorCores terminates, and every final state has every array of the pipeline at what the library computes from the
    proof data and every other unscoped buffer as the region found it (Lib/Pipeline/Frame.lean `FramePost`). -/
theorem run_main : θ_run defs (onTc (τ := τ) (main (F := F))) (s₀ m ρ) (Pipeline.FramePost cfgs (dats m) 0 (V m)) :=
  (θ_run defs _ _).mono (fun _ h => h.1) (run_main_quiescent m ρ)

/-- `frame` without the counters: the argument arrays end unchanged. -/
theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)) :=
  frame_of m ρ (dats m) (A_eq m) (run_main m ρ)

/-- THE FRAME: `Cert.quiescent_Kernel3Ideal`'s statement (Defs.lean) at any `F` — Proof.lean cites it at `Bits`:
    `theorem Cert.Proof.claim : Cert.Claim := ⟨Cert.Kernel3Ideal.Gen.facts, fun m ρ _ => Cert.Kernel3Ideal.Gen.frame m ρ⟩`. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17))
      ∧ r.2.sem = fun _ => 0) :=
  θ_run_and (unchanged m ρ) ((θ_run defs _ _).mono (fun _ h => h.2) (run_main_quiescent m ρ))

end Cert.Kernel3Ideal.Gen

end
-- ==== Proof.Mid.lean ====
module

public import proofs.«01_k».proof.Proof.Rows
public import proofs.«01_k».proof.Proof.MidFrame
public import Idealize.ShloMosaic.Lib.Pipeline.Value

@[expose] public section

/-! # The first layer's call, row by row

A grid point's block of 256 rows is computed as two chains of 128 rows. Every chain is the same function of its rows
(`chain`), which on one row is the layer's tail; the two chains one below the other are the next layer's input rows,
whose norms the point then projects to the next layer's queries, keys and values. -/

set_option maxRecDepth 16384

noncomputable section

namespace Cert.Kernel3Ideal.Mid

open Cert.Kernel3Ideal Cert.Kernel3Ideal.Gen Idealize.ShloMosaic Idealize.ShloMosaic.TcCoe Idealize.SL.Sem
open Idealize.ShloMosaic.Pipeline (Dat)
open EncoderRow

section Chain

variable (x : FVec Ideal S128x1024 .f32) (a ob : FVec Ideal S128x512 .bf16) (p : FVec Ideal S1x128x256 .f32)
  (wt wb : FVec Ideal S1x512x1024 .bf16) (gf : FVec Ideal S1x1x1024 .f32) (wg wu : FVec Ideal S1x1024x2816 .bf16)
  (wd : FVec Ideal S1x2816x1024 .bf16) (gp : FVec Ideal S1x1x1024 .f32) (wpg : FVec Ideal S1x1024x1024 .bf16)
  (wpp : FVec Ideal S1x256x1024 .bf16)

/-- A chain's rows after the output projection. -/
def chain1 : FVec Ideal S128x1024 .f32 := k0_pay4 x a wt ob wb

/-- A chain's rows after the SwiGLU block, from those before it. -/
def chain2 (x1 : FVec Ideal S128x1024 .f32) : FVec Ideal S128x1024 .f32 :=
  k0_pay13 x1 (k0_pay11 x1 gf wg) (k0_pay11 x1 gf wu) wd

/-- A chain's rows after the per-layer embedding, from those before it. -/
def chain3 (x2 : FVec Ideal S128x1024 .f32) : FVec Ideal S128x1024 .f32 :=
  addf x2 (mulf (logistic (matmul dot_S128x1024_S1024x1024_S128x1024_1_0_0_1_n_n none (k0_pay8 x2 gp)
    (shapeCast S1024x1024 wpg shapeCasts_S1x1024x1024_S1024x1024) (constant S128x1024 .f32 0x00000000#32)))
    (matmul dot_S128x256_S256x1024_S128x1024_1_0_0_1_n_n none
      (truncf .bf16 (shapeCast S128x256 p shapeCasts_S1x128x256_S128x256) bitsLt_bf16_f32)
      (shapeCast S256x1024 wpp shapeCasts_S1x256x1024_S256x1024) (constant S128x1024 .f32 0x00000000#32)))

theorem norm_at (x1 : FVec Ideal S128x1024 .f32) (r : Fin 128) (n : Fin 1024) :
    k0_pay8 x1 gf (ix2 r n) = norm (fun k => x1 (ix2 r k)) (fun k => gf (ix3 0 0 k)) n := by
  pointwise [k0_pay8]
  rfl

theorem gate_at (x1 : FVec Ideal S128x1024 .f32) (r : Fin 128) (n : Fin 2816) :
    k0_pay11 x1 gf wg (ix2 r n)
      = proj (norm (fun k => x1 (ix2 r k)) (fun k => gf (ix3 0 0 k))) (fun k n => wg (ix3 0 k n)) n := by
  pointwise [k0_pay11]
  simp only [norm_at]
  rfl

theorem chain1_at (wo : Fin 1024 → Fin 1024 → EReal) (ht : ∀ k n, wt (ix3 0 k n) = wo ⟨k, by omega⟩ n)
    (hb : ∀ k n, wb (ix3 0 k n) = wo ⟨512 + k, by omega⟩ n) (r : Fin 128) (n : Fin 1024) :
    chain1 x a ob wt wb (ix2 r n)
      = mixed (fun k => x (ix2 r k)) (fun k => a (ix2 r k)) (fun k => ob (ix2 r k)) wo n := by
  pointwise [chain1, k0_pay4]
  simp only [ht, hb, mixed]
  exact add_assoc _ _ _

theorem chain2_at (x1 : FVec Ideal S128x1024 .f32) (r : Fin 128) (n : Fin 1024) :
    chain2 gf wg wu wd x1 (ix2 r n)
      = swiglu (fun k => x1 (ix2 r k)) (fun k => gf (ix3 0 0 k)) (fun k n => wg (ix3 0 k n))
          (fun k n => wu (ix3 0 k n)) (fun k n => wd (ix3 0 k n)) n := by
  pointwise [chain2, k0_pay13]
  simp only [gate_at]
  rfl

theorem chain3_at (x2 : FVec Ideal S128x1024 .f32) (r : Fin 128) (n : Fin 1024) :
    chain3 p gp wpg wpp x2 (ix2 r n)
      = embedded (fun k => x2 (ix2 r k)) (fun k => gp (ix3 0 0 k)) (fun k => p (ix3 0 r k))
          (fun k n => wpg (ix3 0 k n)) (fun k n => wpp (ix3 0 k n)) n := by
  pointwise [chain3]
  simp only [norm_at]
  rfl

/-- A chain: the layer's tail on 128 rows. -/
def chain : FVec Ideal S128x1024 .f32 := chain3 p gp wpg wpp (chain2 gf wg wu wd (chain1 x a ob wt wb))

theorem chain_at (wo : Fin 1024 → Fin 1024 → EReal) (ht : ∀ k n, wt (ix3 0 k n) = wo ⟨k, by omega⟩ n)
    (hb : ∀ k n, wb (ix3 0 k n) = wo ⟨512 + k, by omega⟩ n) (r : Fin 128) (n : Fin 1024) :
    chain x a ob p wt wb gf wg wu wd gp wpg wpp (ix2 r n)
      = tail (fun k => x (ix2 r k)) (fun k => a (ix2 r k)) (fun k => ob (ix2 r k)) (fun k => p (ix3 0 r k)) wo
          (fun k => gf (ix3 0 0 k)) (fun k n => wg (ix3 0 k n)) (fun k n => wu (ix3 0 k n))
          (fun k n => wd (ix3 0 k n)) (fun k => gp (ix3 0 0 k)) (fun k n => wpg (ix3 0 k n))
          (fun k n => wpp (ix3 0 k n)) n := by
  unfold chain tail
  simp only [chain3_at, chain2_at, chain1_at x a ob wt wb wo ht hb]

end Chain

/-- Two chains one below the other. -/
abbrev stack (y0 y1 : FVec Ideal S128x1024 .f32) : FVec Ideal S256x1024 .f32 :=
  concatenate S256x1024 0 [⟨S128x1024, y0⟩, ⟨S128x1024, y1⟩] concatenates_S128x1024_S128x1024_S256x1024_d0

theorem stack_at (y0 y1 : FVec Ideal S128x1024 .f32) (R : Fin 256 → Fin 1024 → EReal)
    (h0 : ∀ (s : Fin 128) n, y0 (ix2 s n) = R ⟨s, by omega⟩ n)
    (h1 : ∀ (s : Fin 128) n, y1 (ix2 s n) = R ⟨128 + s, by omega⟩ n) (r : Fin 256) (n : Fin 1024) :
    stack y0 y1 (ix2 r n) = R r n := by
  pointwise [stack]
  simp only [h0, h1]
  split_ifs
  all_goals exact congrArg (R · n) (Fin.ext (by simp only <;> omega))

section Same

/-! The two chains' steps are one another's, whatever stretch of the body they were cut into. -/

variable (x x1 : FVec Ideal S128x1024 .f32) (a ob : FVec Ideal S128x512 .bf16) (p p' : FVec Ideal S1x128x256 .f32)
  (wt wb : FVec Ideal S1x512x1024 .bf16) (g : FVec Ideal S1x1x1024 .f32) (wg wu : FVec Ideal S1x1024x2816 .bf16)
  (wd : FVec Ideal S1x2816x1024 .bf16) (y z : FVec Ideal S128x2816 .f32)
  (wpg wpg' : FVec Ideal S1x1024x1024 .bf16) (wpp wpp' : FVec Ideal S1x256x1024 .bf16)

theorem mix3 : k0_pay3 (F := Ideal) x a wt ob wb = chain1 x a ob wt wb := rfl
theorem mix4 : k0_pay4 (F := Ideal) x a wt ob wb = chain1 x a ob wt wb := rfl
theorem gate9 : k0_pay9 (F := Ideal) (chain1 x a ob wt wb) (k0_pay5 (F := Ideal) x a wt ob wb) (k0_pay6 (F := Ideal)) g wg
    = k0_pay11 (chain1 x a ob wt wb) g wg := rfl
theorem up10 : k0_pay10 (F := Ideal) (chain1 x a ob wt wb) (k0_pay5 (F := Ideal) x a wt ob wb) (k0_pay6 (F := Ideal)) g wg
    = k0_pay11 (chain1 x a ob wt wb) g wg := rfl
theorem down13 : k0_pay13 (F := Ideal) x (k0_pay11 x g wg) (k0_pay11 x g wu) wd = chain2 g wg wu wd x := rfl
theorem down14 : k0_pay14 (F := Ideal) x (k0_pay8 x g) (k0_pay11 x g wg) (k0_pay12 wu) (constant S128x2816 .f32 0x00000000#32) wd
    = chain2 g wg wu wd x := rfl
theorem norm15 (gf : FVec Ideal S1x1x1024 .f32) : k0_pay15 (F := Ideal) x (k0_pay11 x gf wg) (k0_pay11 x gf wu) wd g
    = k0_pay8 (chain2 gf wg wu wd x) g := rfl
theorem embed17 (gf : FVec Ideal S1x1x1024 .f32) : k0_pay17 (F := Ideal) x1 (chain2 gf wg wu wd x) (k0_pay8 x1 g)
    (k0_pay16 x (k0_pay8 x gf) (k0_pay11 x gf wg) (k0_pay12 wu) (constant S128x2816 .f32 0x00000000#32) wd) g wpg p wpp wpg' p' wpp'
    = stack (chain3 p g wpg wpp x1) (chain3 p' g wpg' wpp' (chain2 gf wg wu wd x)) := rfl

end Same

section Block

variable (x0 : Vec Ideal S256x1024 .f32) (x1 x2 : Vec Ideal S256x512 .bf16) (x3 : Vec Ideal S1x256x256 .f32)
    (x4 : Vec Ideal S1x1024x1024 .bf16) (x5 : Vec Ideal S1x1x1024 .f32) (x6 x7 : Vec Ideal S1x1024x2816 .bf16)
    (x8 : Vec Ideal S1x2816x1024 .bf16) (x9 : Vec Ideal S1x1x1024 .f32) (x10 : Vec Ideal S1x1024x1024 .bf16)
    (x11 : Vec Ideal S1x256x1024 .bf16) (x12 : Vec Ideal S1x1x1024 .f32) (x13 : Vec Ideal S1x3072x1024 .bf16)
    (x14 x15 x16 x17 : Vec Ideal S1x1x8x64x256 .f32)

/-- The tail of row `r` of a block. -/
abbrev tailOf (r : Fin 256) : Fin 1024 → EReal :=
  tail (fun k => (x0 : FVec Ideal S256x1024 .f32) (ix2 r k)) (fun k => (x1 : FVec Ideal S256x512 .bf16) (ix2 r k))
    (fun k => (x2 : FVec Ideal S256x512 .bf16) (ix2 r k)) (fun k => (x3 : FVec Ideal S1x256x256 .f32) (ix3 0 r k))
    (fun k n => (x4 : FVec Ideal S1x1024x1024 .bf16) (ix3 0 k n)) (fun k => (x5 : FVec Ideal S1x1x1024 .f32) (ix3 0 0 k))
    (fun k n => (x6 : FVec Ideal S1x1024x2816 .bf16) (ix3 0 k n)) (fun k n => (x7 : FVec Ideal S1x1024x2816 .bf16) (ix3 0 k n))
    (fun k n => (x8 : FVec Ideal S1x2816x1024 .bf16) (ix3 0 k n)) (fun k => (x9 : FVec Ideal S1x1x1024 .f32) (ix3 0 0 k))
    (fun k n => (x10 : FVec Ideal S1x1024x1024 .bf16) (ix3 0 k n)) (fun k n => (x11 : FVec Ideal S1x256x1024 .bf16) (ix3 0 k n))

/-- The next layer's input rows of a block: the tails of its rows. -/
theorem rows_at (r : Fin 256) (n : Fin 1024) :
    k0_pay43 (F := Ideal) x0 x1 x2 x3 x4 x5 x6 x7 x8 x9 x10 x11 x12 x13 x14 x15 x16 x17 (ix2 r n)
      = tailOf x0 x1 x2 x3 x4 x5 x6 x7 x8 x9 x10 x11 r n := by
  simp only [k0_pay43, k0_pay42, k0_pay41, k0_pay40, k0_pay39, k0_pay38, k0_pay37, k0_pay36, k0_pay35, k0_pay34, k0_pay33,
    k0_pay32, k0_pay31, k0_pay30, k0_pay29, mix3, mix4, gate9, up10, down13, down14, norm15, embed17]
  refine stack_at _ _ (tailOf x0 x1 x2 x3 x4 x5 x6 x7 x8 x9 x10 x11) ?_ ?_ r n <;>
  · intro s n
    refine (chain_at _ _ _ _ _ _ _ _ _ _ _ _ _ (fun k n => (x4 : FVec Ideal S1x1024x1024 .bf16) (ix3 0 k n)) ?_ ?_ s n).trans ?_
    · intro k n; pointwise
    · intro k n; pointwise
    · pointwise

/-- The next layer's norm of a block's rows. -/
theorem normed_at (r : Fin 256) (n : Fin 1024) :
    k0_pay19 (k0_pay43 (F := Ideal) x0 x1 x2 x3 x4 x5 x6 x7 x8 x9 x10 x11 x12 x13 x14 x15 x16 x17)
      (k0_pay44 (F := Ideal) x0 x1 x2 x3 x4 x5 x6 x7 x8 x9 x10 x11 x12 x13 x14 x15 x16 x17) x12 (ix2 r n)
      = norm (tailOf x0 x1 x2 x3 x4 x5 x6 x7 x8 x9 x10 x11 r) (fun k => (x12 : FVec Ideal S1x1x1024 .f32) (ix3 0 0 k)) n := by
  rw [show k0_pay44 (F := Ideal) x0 x1 x2 x3 x4 x5 x6 x7 x8 x9 x10 x11 x12 x13 x14 x15 x16 x17
    = mulf (k0_pay43 (F := Ideal) x0 x1 x2 x3 x4 x5 x6 x7 x8 x9 x10 x11 x12 x13 x14 x15 x16 x17)
      (k0_pay43 (F := Ideal) x0 x1 x2 x3 x4 x5 x6 x7 x8 x9 x10 x11 x12 x13 x14 x15 x16 x17) from rfl]
  pointwise [k0_pay19]
  simp only [rows_at]
  rfl

/-- Column `n` of the next layer's projections of row `r` of a block. -/
abbrev headsOf (r : Fin 256) (n : Fin 3072) : EReal :=
  proj (norm (tailOf x0 x1 x2 x3 x4 x5 x6 x7 x8 x9 x10 x11 r) (fun k => (x12 : FVec Ideal S1x1x1024 .f32) (ix3 0 0 k)))
    (fun k n => (x13 : FVec Ideal S1x3072x1024 .bf16) (ix3 0 n k)) n

theorem x_block (r : Fin 256) (n : Fin 1024) :
    out0_18 (F := Ideal) x0 x1 x2 x3 x4 x5 x6 x7 x8 x9 x10 x11 x12 x13 x14 x15 x16 x17 (ix2 r n)
      = tailOf x0 x1 x2 x3 x4 x5 x6 x7 x8 x9 x10 x11 r n := by
  refine Eq.trans ?_ (rows_at x0 x1 x2 x3 x4 x5 x6 x7 x8 x9 x10 x11 x12 x13 x14 x15 x16 x17 r n)
  unfold out0_18 k0_pay43
  frame_out

/-- A query's column: the projection times 1/8. -/
theorem query_at (w : FVec Ideal S1x512x1024 .bf16) (off : ℕ) (ho : off + 512 ≤ 3072)
    (hw : ∀ (n : Fin 512) k, w (ix3 0 n k)
      = (x13 : FVec Ideal S1x3072x1024 .bf16) (ix3 0 ⟨off + n, by omega⟩ k)) (r : Fin 256) (n : Fin 512) :
    k0_pay20 (k0_pay43 (F := Ideal) x0 x1 x2 x3 x4 x5 x6 x7 x8 x9 x10 x11 x12 x13 x14 x15 x16 x17)
      (k0_pay44 (F := Ideal) x0 x1 x2 x3 x4 x5 x6 x7 x8 x9 x10 x11 x12 x13 x14 x15 x16 x17) x12 w (ix2 r n)
    = headsOf x0 x1 x2 x3 x4 x5 x6 x7 x8 x9 x10 x11 x12 x13 r ⟨off + n, by omega⟩ * Ideal.ofBits .f32 0x3E000000#32 := by
  pointwise [k0_pay20]
  simp only [normed_at, hw]
  rfl

theorem qa_block (r : Fin 256) (n : Fin 512) :
    out0_19 (F := Ideal) x0 x1 x2 x3 x4 x5 x6 x7 x8 x9 x10 x11 x12 x13 x14 x15 x16 x17 (ix2 r n)
      = headsOf x0 x1 x2 x3 x4 x5 x6 x7 x8 x9 x10 x11 x12 x13 r ⟨0 + n, by omega⟩ * Ideal.ofBits .f32 0x3E000000#32 := by
  unfold out0_19
  frame_out
  exact query_at x0 x1 x2 x3 x4 x5 x6 x7 x8 x9 x10 x11 x12 x13 x14 x15 x16 x17 _ 0 (by decide) (fun n k => by pointwise) r n

theorem query21 (y z : FVec Ideal S256x1024 .f32) (g : FVec Ideal S1x1x1024 .f32) (w : FVec Ideal S1x512x1024 .bf16) :
    k0_pay21 y z g w = k0_pay20 y z g w := rfl

theorem qb_block (r : Fin 256) (n : Fin 512) :
    out0_20 (F := Ideal) x0 x1 x2 x3 x4 x5 x6 x7 x8 x9 x10 x11 x12 x13 x14 x15 x16 x17 (ix2 r n)
      = headsOf x0 x1 x2 x3 x4 x5 x6 x7 x8 x9 x10 x11 x12 x13 r ⟨1536 + n, by omega⟩ * Ideal.ofBits .f32 0x3E000000#32 := by
  unfold out0_20
  frame_out
  rw [query21]
  exact query_at x0 x1 x2 x3 x4 x5 x6 x7 x8 x9 x10 x11 x12 x13 x14 x15 x16 x17 _ 1536 (by decide) (fun n k => by pointwise) r n

/-- A key's or value's entry: the projection, transposed and split into heads. -/
theorem head_at (w : FVec Ideal S1x512x1024 .bf16) (off : ℕ) (ho : off + 512 ≤ 3072)
    (hw : ∀ (n : Fin 512) k, w (ix3 0 n k)
      = (x13 : FVec Ideal S1x3072x1024 .bf16) (ix3 0 ⟨off + n, by omega⟩ k)) (h : Fin 8) (d : Fin 64) (r : Fin 256) :
    k0_pay1 (k0_pay22 (k0_pay43 (F := Ideal) x0 x1 x2 x3 x4 x5 x6 x7 x8 x9 x10 x11 x12 x13 x14 x15 x16 x17)
      (k0_pay44 (F := Ideal) x0 x1 x2 x3 x4 x5 x6 x7 x8 x9 x10 x11 x12 x13 x14 x15 x16 x17) x12 w) (ix5 0 0 h d r)
    = headsOf x0 x1 x2 x3 x4 x5 x6 x7 x8 x9 x10 x11 x12 x13 r ⟨off + (64 * h + d), by omega⟩ := by
  pointwise [k0_pay1, k0_pay22]
  simp only [normed_at, hw]
  refine Finset.sum_congr rfl fun k _ => ?_
  rw [mul_comm]
  refine congrArg (fun n => _ * (x13 : FVec Ideal S1x3072x1024 .bf16) (ix3 0 n k)) (Fin.ext ?_)
  show off + ((h : ℕ) * 64 + d) = off + (64 * h + d)
  omega

/-- A stack's entry of a block: the previous layer's, then the new one. -/
abbrev stackOf (old : Vec Ideal S1x1x8x64x256 .f32) (off : ℕ) (ho : off + 512 ≤ 3072) (s : Fin 2) (h : Fin 8) (d : Fin 64)
    (r : Fin 256) : EReal :=
  if s = 0 then old (ix5 0 0 h d r)
  else headsOf x0 x1 x2 x3 x4 x5 x6 x7 x8 x9 x10 x11 x12 x13 r ⟨off + (64 * h + d), by omega⟩

/-- The two stores of a stack: the previous layer's block, then the new one behind it. -/
theorem stacked_at (new old : Vec Ideal S1x1x8x64x256 .f32) (s : Fin 2) (h : Fin 8) (d : Fin 64) (r : Fin 256) :
    View.canon (Val := Elt Ideal) [⟨r0_20, new⟩, ⟨r0_19, View.ld old r0_18⟩] (ix5 s 0 h d r)
      = if s = 0 then old (ix5 0 0 h d r) else new (ix5 0 0 h d r) := by
  canon_tiles x hx
  · have hs : (s : ℕ) = 1 + (x 0 : ℕ) := hx0
    rw [if_neg (fun e => by simp [e] at hs)]
    exact congrArg new ((eq_ix5 x).trans (by congr 1 <;> first | exact Subsingleton.elim (α := Fin 1) _ _ | exact Fin.ext hx2.symm | exact Fin.ext hx3.symm | exact Fin.ext hx4.symm))
  · have hs : (s : ℕ) = (x 0 : ℕ) := hx0
    rw [if_pos (Fin.ext (by rw [hs]; simp)), View.ld_unit_zero (by funext a; fin_cases a <;> rfl)]
    exact congrArg old ((eq_ix5 x).trans (by congr 1 <;> first | exact Subsingleton.elim (α := Fin 1) _ _ | exact Fin.ext hx2.symm | exact Fin.ext hx3.symm | exact Fin.ext hx4.symm))

theorem gain_whole : View.ld x12 r0_6 = x12 := View.ld_unit_zero (by funext a; fin_cases a <;> rfl) _ _

section Same

variable (y z : FVec Ideal S256x1024 .f32) (g : FVec Ideal S1x1x1024 .f32) (w : FVec Ideal S1x512x1024 .bf16)
  (u : FVec Ideal S8x64x256 .f32)

theorem head24 : k0_pay24 (k0_pay19 y z g) w = k0_pay1 (k0_pay22 y z g w) := rfl
theorem head25 : k0_pay25 (k0_pay19 y z g) w = k0_pay22 y z g w := rfl
theorem head28 : k0_pay28 (k0_pay19 y z g) w = k0_pay22 y z g w := rfl
theorem lay23 : k0_pay23 u = k0_pay1 u := rfl
theorem lay26 : k0_pay26 u = k0_pay1 u := rfl
theorem lay27 : k0_pay27 u = k0_pay1 u := rfl
theorem lay2 : k0_pay2 u = k0_pay1 u := rfl

end Same

theorem stack_block (old : Vec Ideal S1x1x8x64x256 .f32) (w : FVec Ideal S1x512x1024 .bf16) (off : ℕ) (ho : off + 512 ≤ 3072)
    (hw : ∀ (n : Fin 512) k, w (ix3 0 n k) = (x13 : FVec Ideal S1x3072x1024 .bf16) (ix3 0 ⟨off + n, by omega⟩ k))
    (s : Fin 2) (h : Fin 8) (d : Fin 64) (r : Fin 256) :
    View.canon (Val := Elt Ideal) [⟨r0_20, k0_pay1 (k0_pay22 (k0_pay43 (F := Ideal) x0 x1 x2 x3 x4 x5 x6 x7 x8 x9 x10 x11 x12 x13 x14 x15 x16 x17)
      (k0_pay44 (F := Ideal) x0 x1 x2 x3 x4 x5 x6 x7 x8 x9 x10 x11 x12 x13 x14 x15 x16 x17) x12 w)⟩, ⟨r0_19, View.ld old r0_18⟩] (ix5 s 0 h d r)
      = stackOf x0 x1 x2 x3 x4 x5 x6 x7 x8 x9 x10 x11 x12 x13 old off ho s h d r := by
  rw [stacked_at, head_at x0 x1 x2 x3 x4 x5 x6 x7 x8 x9 x10 x11 x12 x13 x14 x15 x16 x17 w off ho hw]

theorem ka_block (s : Fin 2) (h : Fin 8) (d : Fin 64) (r : Fin 256) :
    out0_21 (F := Ideal) x0 x1 x2 x3 x4 x5 x6 x7 x8 x9 x10 x11 x12 x13 x14 x15 x16 x17 (ix5 s 0 h d r)
      = stackOf x0 x1 x2 x3 x4 x5 x6 x7 x8 x9 x10 x11 x12 x13 x14 512 (by decide) s h d r := by
  simp only [out0_21, k0_pay47, k0_pay46, k0_pay45, head24, head25, head28, lay23, lay26, lay27, lay2, gain_whole]
  exact stack_block x0 x1 x2 x3 x4 x5 x6 x7 x8 x9 x10 x11 x12 x13 x14 x15 x16 x17 x14 _ 512 (by decide) (fun n k => by pointwise) s h d r

theorem va_block (s : Fin 2) (h : Fin 8) (d : Fin 64) (r : Fin 256) :
    out0_22 (F := Ideal) x0 x1 x2 x3 x4 x5 x6 x7 x8 x9 x10 x11 x12 x13 x14 x15 x16 x17 (ix5 s 0 h d r)
      = stackOf x0 x1 x2 x3 x4 x5 x6 x7 x8 x9 x10 x11 x12 x13 x15 1024 (by decide) s h d r := by
  simp only [out0_22, k0_pay47, k0_pay46, k0_pay45, head24, head25, head28, lay23, lay26, lay27, lay2, gain_whole]
  exact stack_block x0 x1 x2 x3 x4 x5 x6 x7 x8 x9 x10 x11 x12 x13 x14 x15 x16 x17 x15 _ 1024 (by decide) (fun n k => by pointwise) s h d r

theorem kb_block (s : Fin 2) (h : Fin 8) (d : Fin 64) (r : Fin 256) :
    out0_23 (F := Ideal) x0 x1 x2 x3 x4 x5 x6 x7 x8 x9 x10 x11 x12 x13 x14 x15 x16 x17 (ix5 s 0 h d r)
      = stackOf x0 x1 x2 x3 x4 x5 x6 x7 x8 x9 x10 x11 x12 x13 x16 2048 (by decide) s h d r := by
  simp only [out0_23, k0_pay47, k0_pay46, k0_pay45, head24, head25, head28, lay23, lay26, lay27, lay2, gain_whole]
  exact stack_block x0 x1 x2 x3 x4 x5 x6 x7 x8 x9 x10 x11 x12 x13 x14 x15 x16 x17 x16 _ 2048 (by decide) (fun n k => by pointwise) s h d r

theorem vb_block (s : Fin 2) (h : Fin 8) (d : Fin 64) (r : Fin 256) :
    out0_24 (F := Ideal) x0 x1 x2 x3 x4 x5 x6 x7 x8 x9 x10 x11 x12 x13 x14 x15 x16 x17 (ix5 s 0 h d r)
      = stackOf x0 x1 x2 x3 x4 x5 x6 x7 x8 x9 x10 x11 x12 x13 x17 2560 (by decide) s h d r := by
  simp only [out0_24, k0_pay47, k0_pay46, k0_pay45, head24, head25, head28, lay23, lay26, lay27, lay2, gain_whole]
  exact stack_block x0 x1 x2 x3 x4 x5 x6 x7 x8 x9 x10 x11 x12 x13 x14 x15 x16 x17 x17 _ 2560 (by decide) (fun n k => by pointwise) s h d r

theorem kb_tail_block (s : Fin 2) (h : Fin 8) (d : Fin 64) (r : Fin 256) :
    out0_25 (F := Ideal) x0 x1 x2 x3 x4 x5 x6 x7 x8 x9 x10 x11 x12 x13 x14 x15 x16 x17 (ix5 s 0 h d r)
      = stackOf x0 x1 x2 x3 x4 x5 x6 x7 x8 x9 x10 x11 x12 x13 x16 2048 (by decide) s h d r := by
  simp only [out0_25, k0_pay47, k0_pay46, k0_pay45, head24, head25, head28, lay23, lay26, lay27, lay2, gain_whole]
  exact stack_block x0 x1 x2 x3 x4 x5 x6 x7 x8 x9 x10 x11 x12 x13 x14 x15 x16 x17 x16 _ 2048 (by decide) (fun n k => by pointwise) s h d r

theorem vb_tail_block (s : Fin 2) (h : Fin 8) (d : Fin 64) (r : Fin 256) :
    out0_26 (F := Ideal) x0 x1 x2 x3 x4 x5 x6 x7 x8 x9 x10 x11 x12 x13 x14 x15 x16 x17 (ix5 s 0 h d r)
      = stackOf x0 x1 x2 x3 x4 x5 x6 x7 x8 x9 x10 x11 x12 x13 x17 2560 (by decide) s h d r := by
  simp only [out0_26, k0_pay47, k0_pay46, k0_pay45, head24, head25, head28, lay23, lay26, lay27, lay2, gain_whole]
  exact stack_block x0 x1 x2 x3 x4 x5 x6 x7 x8 x9 x10 x11 x12 x13 x14 x15 x16 x17 x17 _ 2560 (by decide) (fun n k => by pointwise) s h d r

end Block

end Cert.Kernel3Ideal.Mid
-- ==== Proof.MidArrays.lean ====
module

public import proofs.«01_k».proof.Proof.Mid

@[expose] public section

/-! # The first layer's tail call: its result arrays

The blocks of `Proof.Mid`, put together over the grid: point `t` holds rows `256 t …` of the prompt. -/

set_option maxRecDepth 16384

noncomputable section

namespace Cert.Kernel3Ideal.Mid

open Cert.Kernel3Ideal Cert.Kernel3Ideal.Gen Idealize.ShloMosaic Idealize.ShloMosaic.TcCoe Idealize.SL.Sem
open Idealize.ShloMosaic.ValueKit EncoderRow

variable (m : (ℓ : Loc nD τ sig) → Buf (Elt Ideal) ℓ)

theorem idx : ∀ t : Fin cfg0.N, win0_0.index t = ![t.val, 0] ∧ win0_1.index t = ![t.val, 0] ∧ win0_2.index t = ![t.val, 0]
    ∧ win0_3.index t = ![0, t.val, 0] ∧ win0_4.index t = ![0, 0, 0] ∧ win0_5.index t = ![0, 0, 0]
    ∧ win0_6.index t = ![0, 0, 0] ∧ win0_7.index t = ![0, 0, 0] ∧ win0_8.index t = ![0, 0, 0]
    ∧ win0_9.index t = ![0, 0, 0] ∧ win0_10.index t = ![0, 0, 0] ∧ win0_11.index t = ![0, 0, 0]
    ∧ win0_12.index t = ![1, 0, 0] ∧ win0_13.index t = ![1, 0, 0] :=
  (by decide +kernel : ∀ t : Fin grid0.N, _)

theorem idx_old : ∀ t : Fin cfg0.N, win0_14.index t = ![0, t.val / 8, 0, 0, t.val % 8] ∧ win0_15.index t = ![0, t.val / 8, 0, 0, t.val % 8] ∧ win0_16.index t = ![0, t.val / 8, 0, 0, t.val % 8]
    ∧ win0_17.index t = ![0, t.val / 8, 0, 0, t.val % 8] :=
  (by decide +kernel : ∀ t : Fin grid0.N, _)

theorem idx_out : ∀ t : Fin cfg0.N, win0_18.index t = ![t.val, 0] ∧ win0_19.index t = ![t.val, 0] ∧ win0_20.index t = ![t.val, 0]
    ∧ win0_21.index t = ![0, t.val / 8, 0, 0, t.val % 8] ∧ win0_22.index t = ![0, t.val / 8, 0, 0, t.val % 8] ∧ win0_23.index t = ![0, t.val / 8, 0, 0, t.val % 8]
    ∧ win0_24.index t = ![0, t.val / 8, 0, 0, t.val % 8] ∧ win0_25.index t = ![0, t.val / 8, 0, 0, t.val % 8 - 6] ∧ win0_26.index t = ![0, t.val / 8, 0, 0, t.val % 8 - 6] :=
  (by decide +kernel : ∀ t : Fin grid0.N, _)

/-- Row `r` of grid point `t`'s block is this row of the arrays. -/
abbrev row (t : Fin cfg0.N) (r : Fin 256) : Fin 16384 := ⟨256 * t.val + r.val, by have : t.val < 64 := t.isLt; omega⟩

theorem x_blk (c : Dev nD) (t : Fin cfg0.N) (r : Fin 256) (k : Fin 1024) : (iblk m c 0 t : FVec Ideal S256x1024 .f32) (ix2 r k)
    = (m ((c.tc : Thread nD τ).loc main_arg0) : FVec Ideal S16384x1024 .f32) (ix2 (row t r) k) := by
  blk_point [iblk, V, idx t]

theorem a_blk (c : Dev nD) (t : Fin cfg0.N) (r : Fin 256) (k : Fin 512) : (iblk m c 1 t : FVec Ideal S256x512 .bf16) (ix2 r k)
    = (m ((c.tc : Thread nD τ).loc main_arg1) : FVec Ideal S16384x512 .bf16) (ix2 (row t r) k) := by
  blk_point [iblk, V, idx t]

theorem ob_blk (c : Dev nD) (t : Fin cfg0.N) (r : Fin 256) (k : Fin 512) : (iblk m c 2 t : FVec Ideal S256x512 .bf16) (ix2 r k)
    = (m ((c.tc : Thread nD τ).loc main_arg2) : FVec Ideal S16384x512 .bf16) (ix2 (row t r) k) := by
  blk_point [iblk, V, idx t]

theorem p_blk (c : Dev nD) (t : Fin cfg0.N) (r : Fin 256) (k : Fin 256) : (iblk m c 3 t : FVec Ideal S1x256x256 .f32) (ix3 0 r k)
    = (m ((c.tc : Thread nD τ).loc main_arg3) : FVec Ideal S2x8x2048x256 .f32) (ix4 0 ⟨(row t r).val / 2048, by have := (row t r).isLt; omega⟩ ⟨(row t r).val % 2048, by omega⟩ k) := by
  blk_point [iblk, V, idx t]

theorem w_out_blk (c : Dev nD) (t : Fin cfg0.N) (k : Fin 1024) (n : Fin 1024) : (iblk m c 4 t : FVec Ideal S1x1024x1024 .bf16) (ix3 0 k n)
    = (m ((c.tc : Thread nD τ).loc main_arg4) : FVec Ideal S2x1024x1024 .f32) (ix3 0 k n) := by
  blk_point [iblk, V, idx t]

theorem g_ffn_blk (c : Dev nD) (t : Fin cfg0.N) (k : Fin 1024) : (iblk m c 5 t : FVec Ideal S1x1x1024 .f32) (ix3 0 0 k)
    = (m ((c.tc : Thread nD τ).loc main_arg5) : FVec Ideal S2x1024 .f32) (ix2 0 k) := by
  blk_point [iblk, V, idx t]

theorem w_gate_blk (c : Dev nD) (t : Fin cfg0.N) (k : Fin 1024) (n : Fin 2816) : (iblk m c 6 t : FVec Ideal S1x1024x2816 .bf16) (ix3 0 k n)
    = (m ((c.tc : Thread nD τ).loc main_arg6) : FVec Ideal S2x1024x2816 .f32) (ix3 0 k n) := by
  blk_point [iblk, V, idx t]

theorem w_up_blk (c : Dev nD) (t : Fin cfg0.N) (k : Fin 1024) (n : Fin 2816) : (iblk m c 7 t : FVec Ideal S1x1024x2816 .bf16) (ix3 0 k n)
    = (m ((c.tc : Thread nD τ).loc main_arg7) : FVec Ideal S2x1024x2816 .f32) (ix3 0 k n) := by
  blk_point [iblk, V, idx t]

theorem w_down_blk (c : Dev nD) (t : Fin cfg0.N) (k : Fin 2816) (n : Fin 1024) : (iblk m c 8 t : FVec Ideal S1x2816x1024 .bf16) (ix3 0 k n)
    = (m ((c.tc : Thread nD τ).loc main_arg8) : FVec Ideal S2x2816x1024 .f32) (ix3 0 k n) := by
  blk_point [iblk, V, idx t]

theorem g_ple_blk (c : Dev nD) (t : Fin cfg0.N) (k : Fin 1024) : (iblk m c 9 t : FVec Ideal S1x1x1024 .f32) (ix3 0 0 k)
    = (m ((c.tc : Thread nD τ).loc main_arg9) : FVec Ideal S2x1024 .f32) (ix2 0 k) := by
  blk_point [iblk, V, idx t]

theorem w_ple_gate_blk (c : Dev nD) (t : Fin cfg0.N) (k : Fin 1024) (n : Fin 1024) : (iblk m c 10 t : FVec Ideal S1x1024x1024 .bf16) (ix3 0 k n)
    = (m ((c.tc : Thread nD τ).loc main_arg10) : FVec Ideal S2x1024x1024 .f32) (ix3 0 k n) := by
  blk_point [iblk, V, idx t]

theorem w_ple_proj_blk (c : Dev nD) (t : Fin cfg0.N) (k : Fin 256) (n : Fin 1024) : (iblk m c 11 t : FVec Ideal S1x256x1024 .bf16) (ix3 0 k n)
    = (m ((c.tc : Thread nD τ).loc main_arg11) : FVec Ideal S2x256x1024 .f32) (ix3 0 k n) := by
  blk_point [iblk, V, idx t]

theorem g_mix_blk (c : Dev nD) (t : Fin cfg0.N) (k : Fin 1024) : (iblk m c 12 t : FVec Ideal S1x1x1024 .f32) (ix3 0 0 k)
    = (m ((c.tc : Thread nD τ).loc main_arg12) : FVec Ideal S2x1024 .f32) (ix2 1 k) := by
  blk_point [iblk, V, idx t]

theorem w_in_blk (c : Dev nD) (t : Fin cfg0.N) (k : Fin 1024) (n : Fin 3072) : (iblk m c 13 t : FVec Ideal S1x3072x1024 .bf16) (ix3 0 n k)
    = (m ((c.tc : Thread nD τ).loc main_arg13) : FVec Ideal S2x1024x3072 .f32) (ix3 1 k n) := by
  blk_point [iblk, V, idx t]

/-- The sequence of grid point `t`'s rows. -/
abbrev seq (t : Fin cfg0.N) : Fin 8 := ⟨t.val / 8, by have : t.val < 64 := t.isLt; omega⟩

/-- The position in its sequence of row `r` of grid point `t`'s block. -/
abbrev pos (t : Fin cfg0.N) (r : Fin 256) : Fin 2048 := ⟨256 * (t.val % 8) + r.val, by omega⟩

theorem ka_blk (c : Dev nD) (t : Fin cfg0.N) (h : Fin 8) (d : Fin 64) (r : Fin 256) :
    (iblk m c 14 t : FVec Ideal S1x1x8x64x256 .f32) (ix5 0 0 h d r)
      = (m ((c.tc : Thread nD τ).loc main_arg14) : FVec Ideal S1x8x8x64x2048 .f32) (ix5 0 (seq t) h d (pos t r)) := by
  blk_point [iblk, V, idx_old t]

theorem va_blk (c : Dev nD) (t : Fin cfg0.N) (h : Fin 8) (d : Fin 64) (r : Fin 256) :
    (iblk m c 15 t : FVec Ideal S1x1x8x64x256 .f32) (ix5 0 0 h d r)
      = (m ((c.tc : Thread nD τ).loc main_arg15) : FVec Ideal S1x8x8x64x2048 .f32) (ix5 0 (seq t) h d (pos t r)) := by
  blk_point [iblk, V, idx_old t]

theorem kb_blk (c : Dev nD) (t : Fin cfg0.N) (h : Fin 8) (d : Fin 64) (r : Fin 256) :
    (iblk m c 16 t : FVec Ideal S1x1x8x64x256 .f32) (ix5 0 0 h d r)
      = (m ((c.tc : Thread nD τ).loc main_arg16) : FVec Ideal S1x8x8x64x2048 .f32) (ix5 0 (seq t) h d (pos t r)) := by
  blk_point [iblk, V, idx_old t]

theorem vb_blk (c : Dev nD) (t : Fin cfg0.N) (h : Fin 8) (d : Fin 64) (r : Fin 256) :
    (iblk m c 17 t : FVec Ideal S1x1x8x64x256 .f32) (ix5 0 0 h d r)
      = (m ((c.tc : Thread nD τ).loc main_arg17) : FVec Ideal S1x8x8x64x2048 .f32) (ix5 0 (seq t) h d (pos t r)) := by
  blk_point [iblk, V, idx_old t]

/-- The first layer's tail on row `r`, from the arguments. -/
abbrev tailArg (c : Dev nD) (r : Fin 16384) : Fin 1024 → EReal :=
  tailRow 0 (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) r

/-- The second layer's projections of row `r`, from the arguments. -/
abbrev headsArg (c : Dev nD) (r : Fin 16384) (n : Fin 3072) : EReal :=
  nextHeads (tailArg m c) (m ((c.tc : Thread nD τ).loc main_arg12)) (m ((c.tc : Thread nD τ).loc main_arg13)) r n

theorem tail_blk (c : Dev nD) (t : Fin cfg0.N) (r : Fin 256) :
    tailOf (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) r
      = tailArg m c (row t r) := by
  simp only [tailOf, x_blk, a_blk, ob_blk, p_blk, w_out_blk, g_ffn_blk, w_gate_blk, w_up_blk, w_down_blk, g_ple_blk,
    w_ple_gate_blk, w_ple_proj_blk]
  rfl

theorem heads_blk (c : Dev nD) (t : Fin cfg0.N) (r : Fin 256) (n : Fin 3072) :
    headsOf (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) r n
      = headsArg m c (row t r) n := by
  simp only [headsOf, tail_blk, g_mix_blk, w_in_blk]
  rfl

theorem stack_blk (c : Dev nD) (t : Fin cfg0.N) (old : Vec Ideal S1x1x8x64x256 .f32) (whole : FVec Ideal S1x8x8x64x2048 .f32)
    (he : ∀ h d r, (old : FVec Ideal S1x1x8x64x256 .f32) (ix5 0 0 h d r) = whole (ix5 0 (seq t) h d (pos t r)))
    (off : ℕ) (ho : off + 512 ≤ 3072) (s : Fin 2) (h : Fin 8) (d : Fin 64) (r : Fin 256) :
    stackOf (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) old off ho s h d r
      = stacked whole (headsArg m c) off ho s (seq t) h d (pos t r) := by
  unfold stackOf stacked
  rw [he, heads_blk]
  refine if_congr Iff.rfl rfl (congrArg (headsArg m c · _) (Fin.ext ?_))
  show 256 * t.val + r.val = 2048 * (t.val / 8) + (256 * (t.val % 8) + r.val)
  omega

/-- The residual rows after the layer. -/
def result18 (c : Dev nD) : Buf (Elt Ideal) ((c.tc : Thread nD τ).loc main_v12_0) := fun i : S16384x1024.Idx =>
  tailArg m c (i 0) (i 1)

/-- The next layer's stick-breaking queries. -/
def result19 (c : Dev nD) : Buf (Elt Ideal) ((c.tc : Thread nD τ).loc main_v12_1) := fun i : S16384x512.Idx =>
  headsArg m c (i 0) ⟨0 + (i 1).val, by have : (i 1).val < 512 := (i 1).isLt; omega⟩ * Ideal.ofBits .f32 0x3E000000#32

/-- The next layer's chunk-band queries. -/
def result20 (c : Dev nD) : Buf (Elt Ideal) ((c.tc : Thread nD τ).loc main_v12_2) := fun i : S16384x512.Idx =>
  headsArg m c (i 0) ⟨1536 + (i 1).val, by have : (i 1).val < 512 := (i 1).isLt; omega⟩ * Ideal.ofBits .f32 0x3E000000#32

/-- The stick-breaking keys of both layers. -/
def result21 (c : Dev nD) : Buf (Elt Ideal) ((c.tc : Thread nD τ).loc main_v12_3) := fun i : S2x8x8x64x2048.Idx =>
  stacked (m ((c.tc : Thread nD τ).loc main_arg14)) (headsArg m c) 512 (by decide) (i 0) (i 1) (i 2) (i 3) (i 4)

/-- The stick-breaking values of both layers. -/
def result22 (c : Dev nD) : Buf (Elt Ideal) ((c.tc : Thread nD τ).loc main_v12_4) := fun i : S2x8x8x64x2048.Idx =>
  stacked (m ((c.tc : Thread nD τ).loc main_arg15)) (headsArg m c) 1024 (by decide) (i 0) (i 1) (i 2) (i 3) (i 4)

/-- The chunk-band keys of both layers. -/
def result23 (c : Dev nD) : Buf (Elt Ideal) ((c.tc : Thread nD τ).loc main_v12_5) := fun i : S2x8x8x64x2048.Idx =>
  stacked (m ((c.tc : Thread nD τ).loc main_arg16)) (headsArg m c) 2048 (by decide) (i 0) (i 1) (i 2) (i 3) (i 4)

/-- The chunk-band values of both layers. -/
def result24 (c : Dev nD) : Buf (Elt Ideal) ((c.tc : Thread nD τ).loc main_v12_6) := fun i : S2x8x8x64x2048.Idx =>
  stacked (m ((c.tc : Thread nD τ).loc main_arg17)) (headsArg m c) 2560 (by decide) (i 0) (i 1) (i 2) (i 3) (i 4)

/-- The last 512 positions of the chunk-band keys of both layers. -/
def result25 (c : Dev nD) : Buf (Elt Ideal) ((c.tc : Thread nD τ).loc main_v12_7) := fun i : S2x8x8x64x512.Idx =>
  stacked (m ((c.tc : Thread nD τ).loc main_arg16)) (headsArg m c) 2048 (by decide) (i 0) (i 1) (i 2) (i 3) ⟨1536 + (i 4).val, by have : (i 4).val < 512 := (i 4).isLt; omega⟩

/-- The last 512 positions of the chunk-band values of both layers. -/
def result26 (c : Dev nD) : Buf (Elt Ideal) ((c.tc : Thread nD τ).loc main_v12_8) := fun i : S2x8x8x64x512.Idx =>
  stacked (m ((c.tc : Thread nD τ).loc main_arg17)) (headsArg m c) 2560 (by decide) (i 0) (i 1) (i 2) (i 3) ⟨1536 + (i 4).val, by have : (i 4).val < 512 := (i 4).isLt; omega⟩

theorem emb18 (t : Fin cfg0.N) (r : Fin 256) (n : Fin 1024) :
    ((win0_18.blk t).view.emb (ix2 r n) : S16384x1024.Idx) = ix2 (row t r) n := by
  blk_ext [idx_out t]

theorem emb19 (t : Fin cfg0.N) (r : Fin 256) (n : Fin 512) :
    ((win0_19.blk t).view.emb (ix2 r n) : S16384x512.Idx) = ix2 (row t r) n := by
  blk_ext [idx_out t]

theorem emb20 (t : Fin cfg0.N) (r : Fin 256) (n : Fin 512) :
    ((win0_20.blk t).view.emb (ix2 r n) : S16384x512.Idx) = ix2 (row t r) n := by
  blk_ext [idx_out t]

theorem emb21 (t : Fin cfg0.N) (s : Fin 2) (h : Fin 8) (d : Fin 64) (r : Fin 256) :
    ((win0_21.blk t).view.emb (ix5 s 0 h d r) : S2x8x8x64x2048.Idx) = ix5 s (seq t) h d (pos t r) := by
  blk_ext [idx_out t]

theorem emb22 (t : Fin cfg0.N) (s : Fin 2) (h : Fin 8) (d : Fin 64) (r : Fin 256) :
    ((win0_22.blk t).view.emb (ix5 s 0 h d r) : S2x8x8x64x2048.Idx) = ix5 s (seq t) h d (pos t r) := by
  blk_ext [idx_out t]

theorem emb23 (t : Fin cfg0.N) (s : Fin 2) (h : Fin 8) (d : Fin 64) (r : Fin 256) :
    ((win0_23.blk t).view.emb (ix5 s 0 h d r) : S2x8x8x64x2048.Idx) = ix5 s (seq t) h d (pos t r) := by
  blk_ext [idx_out t]

theorem emb24 (t : Fin cfg0.N) (s : Fin 2) (h : Fin 8) (d : Fin 64) (r : Fin 256) :
    ((win0_24.blk t).view.emb (ix5 s 0 h d r) : S2x8x8x64x2048.Idx) = ix5 s (seq t) h d (pos t r) := by
  blk_ext [idx_out t]

theorem emb25 (t : Fin cfg0.N) (ht : 6 ≤ t.val % 8) (s : Fin 2) (h : Fin 8) (d : Fin 64) (r : Fin 256) :
    ((win0_25.blk t).view.emb (ix5 s 0 h d r) : S2x8x8x64x512.Idx)
      = ix5 s (seq t) h d ⟨256 * (t.val % 8 - 6) + r.val, by omega⟩ := by
  blk_ext [idx_out t]

theorem flush25 : ∀ t : Fin cfg0.N, (cfg0.win 25).flush t = true → 6 ≤ t.val % 8 :=
  (by decide +kernel : ∀ t : Fin grid0.N, win0_25.flush t = true → 6 ≤ t.val % 8)

theorem emb26 (t : Fin cfg0.N) (ht : 6 ≤ t.val % 8) (s : Fin 2) (h : Fin 8) (d : Fin 64) (r : Fin 256) :
    ((win0_26.blk t).view.emb (ix5 s 0 h d r) : S2x8x8x64x512.Idx)
      = ix5 s (seq t) h d ⟨256 * (t.val % 8 - 6) + r.val, by omega⟩ := by
  blk_ext [idx_out t]

theorem flush26 : ∀ t : Fin cfg0.N, (cfg0.win 26).flush t = true → 6 ≤ t.val % 8 :=
  (by decide +kernel : ∀ t : Fin grid0.N, win0_26.flush t = true → 6 ≤ t.val % 8)

theorem final18 (c : Dev nD) : (dats m 0 c).arrAt 18 (cfgs 0).N = result18 m c := by
  refine (dats m 0 c).arrAt_eq_of_covers 18 _ (by decide +kernel) fun t hf y => ?_
  blk_simp
  rw [after0_18]
  obtain ⟨r, n, rfl⟩ : ∃ (r : Fin 256) (n : Fin 1024), y = ix2 r n := ⟨y 0, y 1, eq_ix2 y⟩
  refine (x_block _ _ _ _ _ _ _ _ _ _ _ _ _ _ _ _ _ _ r n).trans ?_
  refine Eq.trans ?_ (congrArg (result18 m c) (emb18 t r n)).symm
  rw [tail_blk]; rfl

theorem final19 (c : Dev nD) : (dats m 0 c).arrAt 19 (cfgs 0).N = result19 m c := by
  refine (dats m 0 c).arrAt_eq_of_covers 19 _ (by decide +kernel) fun t hf y => ?_
  blk_simp
  rw [after0_19]
  obtain ⟨r, n, rfl⟩ : ∃ (r : Fin 256) (n : Fin 512), y = ix2 r n := ⟨y 0, y 1, eq_ix2 y⟩
  refine (qa_block _ _ _ _ _ _ _ _ _ _ _ _ _ _ _ _ _ _ r n).trans ?_
  refine Eq.trans ?_ (congrArg (result19 m c) (emb19 t r n)).symm
  rw [heads_blk]; rfl

theorem final20 (c : Dev nD) : (dats m 0 c).arrAt 20 (cfgs 0).N = result20 m c := by
  refine (dats m 0 c).arrAt_eq_of_covers 20 _ (by decide +kernel) fun t hf y => ?_
  blk_simp
  rw [after0_20]
  obtain ⟨r, n, rfl⟩ : ∃ (r : Fin 256) (n : Fin 512), y = ix2 r n := ⟨y 0, y 1, eq_ix2 y⟩
  refine (qb_block _ _ _ _ _ _ _ _ _ _ _ _ _ _ _ _ _ _ r n).trans ?_
  refine Eq.trans ?_ (congrArg (result20 m c) (emb20 t r n)).symm
  rw [heads_blk]; rfl

theorem final21 (c : Dev nD) : (dats m 0 c).arrAt 21 (cfgs 0).N = result21 m c := by
  refine (dats m 0 c).arrAt_eq_of_covers 21 _ (by decide +kernel) fun t hf y => ?_
  blk_simp
  rw [after0_21]
  obtain ⟨s, h, d, r, rfl⟩ : ∃ (s : Fin 2) (h : Fin 8) (d : Fin 64) (r : Fin 256), y = ix5 s 0 h d r :=
    ⟨y 0, y 2, y 3, y 4, (eq_ix5 y).trans (by congr 1; exact Subsingleton.elim (α := Fin 1) _ _)⟩
  refine (ka_block _ _ _ _ _ _ _ _ _ _ _ _ _ _ _ _ _ _ s h d r).trans ?_
  refine Eq.trans ?_ (congrArg (result21 m c) (emb21 t s h d r)).symm
  refine (stack_blk m c t _ (m ((c.tc : Thread nD τ).loc main_arg14)) (ka_blk m c t) 512 (by decide) s h d r).trans ?_
  rfl

theorem final22 (c : Dev nD) : (dats m 0 c).arrAt 22 (cfgs 0).N = result22 m c := by
  refine (dats m 0 c).arrAt_eq_of_covers 22 _ (by decide +kernel) fun t hf y => ?_
  blk_simp
  rw [after0_22]
  obtain ⟨s, h, d, r, rfl⟩ : ∃ (s : Fin 2) (h : Fin 8) (d : Fin 64) (r : Fin 256), y = ix5 s 0 h d r :=
    ⟨y 0, y 2, y 3, y 4, (eq_ix5 y).trans (by congr 1; exact Subsingleton.elim (α := Fin 1) _ _)⟩
  refine (va_block _ _ _ _ _ _ _ _ _ _ _ _ _ _ _ _ _ _ s h d r).trans ?_
  refine Eq.trans ?_ (congrArg (result22 m c) (emb22 t s h d r)).symm
  refine (stack_blk m c t _ (m ((c.tc : Thread nD τ).loc main_arg15)) (va_blk m c t) 1024 (by decide) s h d r).trans ?_
  rfl

theorem final23 (c : Dev nD) : (dats m 0 c).arrAt 23 (cfgs 0).N = result23 m c := by
  refine (dats m 0 c).arrAt_eq_of_covers 23 _ (by decide +kernel) fun t hf y => ?_
  blk_simp
  rw [after0_23]
  obtain ⟨s, h, d, r, rfl⟩ : ∃ (s : Fin 2) (h : Fin 8) (d : Fin 64) (r : Fin 256), y = ix5 s 0 h d r :=
    ⟨y 0, y 2, y 3, y 4, (eq_ix5 y).trans (by congr 1; exact Subsingleton.elim (α := Fin 1) _ _)⟩
  refine (kb_block _ _ _ _ _ _ _ _ _ _ _ _ _ _ _ _ _ _ s h d r).trans ?_
  refine Eq.trans ?_ (congrArg (result23 m c) (emb23 t s h d r)).symm
  refine (stack_blk m c t _ (m ((c.tc : Thread nD τ).loc main_arg16)) (kb_blk m c t) 2048 (by decide) s h d r).trans ?_
  rfl

theorem final24 (c : Dev nD) : (dats m 0 c).arrAt 24 (cfgs 0).N = result24 m c := by
  refine (dats m 0 c).arrAt_eq_of_covers 24 _ (by decide +kernel) fun t hf y => ?_
  blk_simp
  rw [after0_24]
  obtain ⟨s, h, d, r, rfl⟩ : ∃ (s : Fin 2) (h : Fin 8) (d : Fin 64) (r : Fin 256), y = ix5 s 0 h d r :=
    ⟨y 0, y 2, y 3, y 4, (eq_ix5 y).trans (by congr 1; exact Subsingleton.elim (α := Fin 1) _ _)⟩
  refine (vb_block _ _ _ _ _ _ _ _ _ _ _ _ _ _ _ _ _ _ s h d r).trans ?_
  refine Eq.trans ?_ (congrArg (result24 m c) (emb24 t s h d r)).symm
  refine (stack_blk m c t _ (m ((c.tc : Thread nD τ).loc main_arg17)) (vb_blk m c t) 2560 (by decide) s h d r).trans ?_
  rfl

theorem final25 (c : Dev nD) : (dats m 0 c).arrAt 25 (cfgs 0).N = result25 m c := by
  refine (dats m 0 c).arrAt_eq_of_covers 25 _ (by decide +kernel) fun t hf y => ?_
  blk_simp
  rw [after0_25]
  obtain ⟨s, h, d, r, rfl⟩ : ∃ (s : Fin 2) (h : Fin 8) (d : Fin 64) (r : Fin 256), y = ix5 s 0 h d r :=
    ⟨y 0, y 2, y 3, y 4, (eq_ix5 y).trans (by congr 1; exact Subsingleton.elim (α := Fin 1) _ _)⟩
  refine (kb_tail_block _ _ _ _ _ _ _ _ _ _ _ _ _ _ _ _ _ _ s h d r).trans ?_
  refine Eq.trans ?_ (congrArg (result25 m c) (emb25 t (flush25 t hf) s h d r)).symm
  refine (stack_blk m c t _ (m ((c.tc : Thread nD τ).loc main_arg16)) (kb_blk m c t) 2048 (by decide) s h d r).trans ?_
  have ht := flush25 t hf
  refine congrArg (stacked _ _ _ _ s (seq t) h d ·) (Fin.ext ?_)
  show 256 * (t.val % 8) + r.val = 1536 + (256 * (t.val % 8 - 6) + r.val)
  omega

theorem final26 (c : Dev nD) : (dats m 0 c).arrAt 26 (cfgs 0).N = result26 m c := by
  refine (dats m 0 c).arrAt_eq_of_covers 26 _ (by decide +kernel) fun t hf y => ?_
  blk_simp
  rw [after0_26]
  obtain ⟨s, h, d, r, rfl⟩ : ∃ (s : Fin 2) (h : Fin 8) (d : Fin 64) (r : Fin 256), y = ix5 s 0 h d r :=
    ⟨y 0, y 2, y 3, y 4, (eq_ix5 y).trans (by congr 1; exact Subsingleton.elim (α := Fin 1) _ _)⟩
  refine (vb_tail_block _ _ _ _ _ _ _ _ _ _ _ _ _ _ _ _ _ _ s h d r).trans ?_
  refine Eq.trans ?_ (congrArg (result26 m c) (emb26 t (flush26 t hf) s h d r)).symm
  refine (stack_blk m c t _ (m ((c.tc : Thread nD τ).loc main_arg17)) (vb_blk m c t) 2560 (by decide) s h d r).trans ?_
  have ht := flush26 t hf
  refine congrArg (stacked _ _ _ _ s (seq t) h d ·) (Fin.ext ?_)
  show 256 * (t.val % 8) + r.val = 1536 + (256 * (t.val % 8 - 6) + r.val)
  omega

set_option maxHeartbeats 4000000 in
/-- The call's run: the nine result arrays, and its arguments as they were. -/
theorem run_arrays (ρ : Dev nD → PrngReg) : θ_run (defs (F := Ideal)) (onTc (τ := τ) (main (F := Ideal))) ⟨m, fun _ => 0, ρ⟩ (fun r => ∀ c : Dev nD,
      r.2.mem ((c.tc : Thread nD τ).loc main_v12_0) = result18 m c
      ∧ r.2.mem ((c.tc : Thread nD τ).loc main_v12_1) = result19 m c
      ∧ r.2.mem ((c.tc : Thread nD τ).loc main_v12_2) = result20 m c
      ∧ r.2.mem ((c.tc : Thread nD τ).loc main_v12_3) = result21 m c
      ∧ r.2.mem ((c.tc : Thread nD τ).loc main_v12_4) = result22 m c
      ∧ r.2.mem ((c.tc : Thread nD τ).loc main_v12_5) = result23 m c
      ∧ r.2.mem ((c.tc : Thread nD τ).loc main_v12_6) = result24 m c
      ∧ r.2.mem ((c.tc : Thread nD τ).loc main_v12_7) = result25 m c
      ∧ r.2.mem ((c.tc : Thread nD τ).loc main_v12_8) = result26 m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)) :=
  (θ_run defs _ _).mono (fun r h c => ⟨((h c).1 18).trans (final18 m c),
      ((h c).1 19).trans (final19 m c),
      ((h c).1 20).trans (final20 m c),
      ((h c).1 21).trans (final21 m c),
      ((h c).1 22).trans (final22 m c),
      ((h c).1 23).trans (final23 m c),
      ((h c).1 24).trans (final24 m c),
      ((h c).1 25).trans (final25 m c),
      ((h c).1 26).trans (final26 m c),
      ((h c).1 0).trans (((dats m 0 c).arrAt_in 0 rfl _).trans ((A_eq m c 0).trans (V_main_arg0 m c))),
      ((h c).1 1).trans (((dats m 0 c).arrAt_in 1 rfl _).trans ((A_eq m c 1).trans (V_main_arg1 m c))),
      ((h c).1 2).trans (((dats m 0 c).arrAt_in 2 rfl _).trans ((A_eq m c 2).trans (V_main_arg2 m c))),
      ((h c).2 main_arg3 (Pipeline.mem_restRefs_of main_arg3 (by decide) (by decide))).trans (V_main_arg3 m c),
      ((h c).2 main_arg4 (Pipeline.mem_restRefs_of main_arg4 (by decide) (by decide))).trans (V_main_arg4 m c),
      ((h c).2 main_arg5 (Pipeline.mem_restRefs_of main_arg5 (by decide) (by decide))).trans (V_main_arg5 m c),
      ((h c).2 main_arg6 (Pipeline.mem_restRefs_of main_arg6 (by decide) (by decide))).trans (V_main_arg6 m c),
      ((h c).2 main_arg7 (Pipeline.mem_restRefs_of main_arg7 (by decide) (by decide))).trans (V_main_arg7 m c),
      ((h c).2 main_arg8 (Pipeline.mem_restRefs_of main_arg8 (by decide) (by decide))).trans (V_main_arg8 m c),
      ((h c).2 main_arg9 (Pipeline.mem_restRefs_of main_arg9 (by decide) (by decide))).trans (V_main_arg9 m c),
      ((h c).2 main_arg10 (Pipeline.mem_restRefs_of main_arg10 (by decide) (by decide))).trans (V_main_arg10 m c),
      ((h c).2 main_arg11 (Pipeline.mem_restRefs_of main_arg11 (by decide) (by decide))).trans (V_main_arg11 m c),
      ((h c).2 main_arg12 (Pipeline.mem_restRefs_of main_arg12 (by decide) (by decide))).trans (V_main_arg12 m c),
      ((h c).2 main_arg13 (Pipeline.mem_restRefs_of main_arg13 (by decide) (by decide))).trans (V_main_arg13 m c),
      ((h c).1 14).trans (((dats m 0 c).arrAt_in 14 rfl _).trans ((A_eq m c 14).trans (V_main_arg14 m c))),
      ((h c).1 15).trans (((dats m 0 c).arrAt_in 15 rfl _).trans ((A_eq m c 15).trans (V_main_arg15 m c))),
      ((h c).1 16).trans (((dats m 0 c).arrAt_in 16 rfl _).trans ((A_eq m c 16).trans (V_main_arg16 m c))),
      ((h c).1 17).trans (((dats m 0 c).arrAt_in 17 rfl _).trans ((A_eq m c 17).trans (V_main_arg17 m c)))⟩) (run_main m ρ)

end Cert.Kernel3Ideal.Mid
-- ==== Proof.MidRef.lean ====
module

public import proofs.«01_k».proof.Proof.Rows
public import proofs.«01_k».proof.Proof.Gen.Reference3Ideal.Run

@[expose] public section

/-! # The reference of the first layer's tail and the second layer's projections, row by row -/

set_option maxRecDepth 16384

noncomputable section

namespace Cert.Reference3Ideal.Value

open Cert.Reference3Ideal Cert.Reference3Ideal.Gen Idealize.ShloMosaic Idealize.ShloMosaic.TcCoe Idealize.SL.Sem
open EncoderRow

variable (V0 : Valuation τ sig (Elt Ideal))

/-- The residual rows after the output projection. -/
abbrev afterMix (r : Fin 16384) : Fin 1024 → EReal :=
  mixed (fun k => (V0 (Proc.devRef .tc main_arg0) : FVec Ideal S16384x1024 .f32) (ix2 r k))
    (fun k => (V0 (Proc.devRef .tc main_arg1) : FVec Ideal S16384x512 .bf16) (ix2 r k))
    (fun k => (V0 (Proc.devRef .tc main_arg2) : FVec Ideal S16384x512 .bf16) (ix2 r k))
    (fun k n => (V0 (Proc.devRef .tc main_arg4) : FVec Ideal S2x1024x1024 .f32) (ix3 0 k n))

theorem x1_at (r : Fin 16384) (n : Fin 1024) :
    (res_main_v5 (F := Ideal) V0 : FVec Ideal S16384x1024 .f32) (ix2 r n) = afterMix V0 r n := by
  pointwise [res_main_v5, fn_main_v0]
  rfl

theorem h_at (r : Fin 16384) (n : Fin 1024) :
    (res_main_v20 (F := Ideal) V0 : FVec Ideal S16384x1024 .f32) (ix2 r n)
      = norm (afterMix V0 r) (fun k => (V0 (Proc.devRef .tc main_arg5) : FVec Ideal S2x1024 .f32) (ix2 0 k)) n := by
  pointwise [res_main_v20]
  simp only [x1_at]
  rfl

theorem gate_at (r : Fin 16384) (n : Fin 2816) :
    (res_main_v23 (F := Ideal) V0 : FVec Ideal S16384x2816 .f32) (ix2 r n)
      = proj (norm (afterMix V0 r) (fun k => (V0 (Proc.devRef .tc main_arg5) : FVec Ideal S2x1024 .f32) (ix2 0 k)))
          (fun k n => (V0 (Proc.devRef .tc main_arg6) : FVec Ideal S2x1024x2816 .f32) (ix3 0 k n)) n := by
  pointwise [res_main_v23]
  simp only [h_at]
  rfl

/-- The residual rows after the SwiGLU block. -/
abbrev afterFfn (r : Fin 16384) : Fin 1024 → EReal :=
  swiglu (afterMix V0 r) (fun k => (V0 (Proc.devRef .tc main_arg5) : FVec Ideal S2x1024 .f32) (ix2 0 k))
    (fun k n => (V0 (Proc.devRef .tc main_arg6) : FVec Ideal S2x1024x2816 .f32) (ix3 0 k n))
    (fun k n => (V0 (Proc.devRef .tc main_arg7) : FVec Ideal S2x1024x2816 .f32) (ix3 0 k n))
    (fun k n => (V0 (Proc.devRef .tc main_arg8) : FVec Ideal S2x2816x1024 .f32) (ix3 0 k n))

theorem x2_at (r : Fin 16384) (n : Fin 1024) :
    (res_main_v32 (F := Ideal) V0 : FVec Ideal S16384x1024 .f32) (ix2 r n) = afterFfn V0 r n := by
  pointwise [res_main_v32]
  simp only [x1_at, h_at, gate_at]
  rfl

/-- The tail of the first layer, row `r`, over the reference's arguments. -/
abbrev tailOf (r : Fin 16384) : Fin 1024 → EReal :=
  tailRow 0 (V0 (Proc.devRef .tc main_arg0)) (V0 (Proc.devRef .tc main_arg1)) (V0 (Proc.devRef .tc main_arg2))
    (V0 (Proc.devRef .tc main_arg3)) (V0 (Proc.devRef .tc main_arg4)) (V0 (Proc.devRef .tc main_arg5))
    (V0 (Proc.devRef .tc main_arg6)) (V0 (Proc.devRef .tc main_arg7)) (V0 (Proc.devRef .tc main_arg8))
    (V0 (Proc.devRef .tc main_arg9)) (V0 (Proc.devRef .tc main_arg10)) (V0 (Proc.devRef .tc main_arg11)) r

theorem x3_at (r : Fin 16384) (n : Fin 1024) :
    (res_main_v64 (F := Ideal) V0 : FVec Ideal S16384x1024 .f32) (ix2 r n) = tailOf V0 r n := by
  pointwise [res_main_v64]
  simp only [x2_at]
  rfl

/-- The second layer's projections, row `r`, over the reference's arguments. -/
abbrev headsOf (r : Fin 16384) (n : Fin 3072) : EReal :=
  nextHeads (tailOf V0) (V0 (Proc.devRef .tc main_arg12)) (V0 (Proc.devRef .tc main_arg13)) r n

theorem heads_at (r : Fin 16384) (n : Fin 3072) :
    (res_main_v82 (F := Ideal) V0 : FVec Ideal S16384x3072 .f32) (ix2 r n) = headsOf V0 r n := by
  pointwise [res_main_v82]
  simp only [x3_at]
  rfl

/-- A block of 512 columns of the projections, scaled: the queries. -/
theorem query_at (u : FVec Ideal S16384x512 .f32) (off : ℕ) (ho : off + 512 ≤ 3072)
    (hu : ∀ (r : Fin 16384) (n : Fin 512), u (ix2 r n) = headsOf V0 r ⟨off + n, by omega⟩) (r : Fin 16384) (n : Fin 512) :
    truncf .bf16 (mulf u (broadcastInDim S16384x512 ![] bcast_S_S16384x512 (constant (F := Ideal) S_ .f32 0x3E000000#32)))
      bitsLt_bf16_f32 (ix2 r n) = headsOf V0 r ⟨off + n, by omega⟩ * Ideal.ofBits .f32 0x3E000000#32 := by
  pointwise
  rw [hu]

/-- A given array, then a block of 512 columns of the projections laid out head by head, the position last. -/
abbrev laid (old : FVec Ideal S1x8x8x64x2048 .f32) (u : FVec Ideal S16384x512 .f32) : FVec Ideal S2x8x8x64x2048 .f32 :=
  concatenate S2x8x8x64x2048 0 [⟨S1x8x8x64x2048, old⟩, ⟨S1x8x8x64x2048, (broadcastInDim S1x8x8x64x2048 ![1, 2, 3, 4]
    bcast_S8x8x64x2048_S1x8x8x64x2048_1_2_3_4 (transpose S8x8x64x2048 [0, 2, 3, 1] (shapeCast S8x2048x8x64 u
      shapeCasts_S16384x512_S8x2048x8x64) transposes_S8x2048x8x64_S8x8x64x2048_0_2_3_1))⟩]
    concatenates_S1x8x8x64x2048_S1x8x8x64x2048_S2x8x8x64x2048_d0

theorem laid_at (old : FVec Ideal S1x8x8x64x2048 .f32) (u : FVec Ideal S16384x512 .f32) (off : ℕ) (ho : off + 512 ≤ 3072)
    (hu : ∀ (r : Fin 16384) (n : Fin 512), u (ix2 r n) = headsOf V0 r ⟨off + n, by omega⟩)
    (s : Fin 2) (b h : Fin 8) (d : Fin 64) (j : Fin 2048) :
    laid old u (ix5 s b h d j) = stacked old (headsOf V0) off ho s b h d j := by
  unfold stacked
  rw [← hu ⟨2048 * b + j, by omega⟩ ⟨64 * h + d, by omega⟩]
  pointwise [laid]
  rcases (by omega : s = 0 ∨ s = 1) with rfl | rfl
  · rfl
  · simp only [Fin.val_one, lt_irrefl, dite_false, Fin.one_eq_zero_iff, OfNat.ofNat_ne_one, if_false]
    exact congrArg u (congrArg₂ ix2 (Fin.ext (by simp only <;> omega)) (Fin.ext (by simp only <;> omega)))

/-- The last 512 positions of an array. -/
theorem cut_at (y : FVec Ideal S2x8x8x64x2048 .f32) (s : Fin 2) (b h : Fin 8) (d : Fin 64) (j : Fin 512) :
    extractStridedSlice S2x8x8x64x512 ![0, 0, 0, 0, 1536] y slices_S2x8x8x64x2048_S2x8x8x64x512_0_0_0_0_1536
      (ix5 s b h d j) = y (ix5 s b h d ⟨1536 + j, by omega⟩) := by
  pointwise

end Cert.Reference3Ideal.Value
-- ==== Proof.MidClaim.lean ====
module

public import proofs.«01_k».proof.Defs
public import proofs.«01_k».proof.Proof.MidArrays
public import proofs.«01_k».proof.Proof.MidRef

@[expose] public section

/-! # The first layer's tail call computes its reference -/

set_option maxRecDepth 16384

noncomputable section

namespace Cert.MidClaim

open Idealize.ShloMosaic Idealize.ShloMosaic.TcCoe Idealize.SL.Sem EncoderRow
open Cert.Reference3Ideal Cert.Reference3Ideal.Gen Cert.Reference3Ideal.Value

/-- The reference's frame: its run writes no argument, and it declares no semaphore. -/
theorem reference_frame : Cert.quiescent_Reference3Ideal (hReference3Ideal := Cert.Reference3Ideal.Gen.facts) := by
  intro m ρ _
  exact (θ_run Cert.Reference3Ideal.defs _ _).mono
    (fun r h => ⟨fun c => (h c).2.2.2.2.2.2.2.2.2, Idealize.ShloMosaic.sem_eq_zero_of_no_sems (by decide) r.2⟩)
    (Cert.Reference3Ideal.Value.run m ρ)

/-- Over the extended reals the call's results are the reference's, from the same arguments. -/
theorem same_value : Cert.algebraic_Kernel3Ideal_Reference3Ideal (hKernel3Ideal := Cert.Kernel3Ideal.Gen.facts)
    (hReference3Ideal := Cert.Reference3Ideal.Gen.facts) := by
  intro m g m' g' _ hargs
  refine ⟨Cert.Kernel3Ideal.Mid.result18 m, Cert.Kernel3Ideal.Mid.result19 m, Cert.Kernel3Ideal.Mid.result20 m, Cert.Kernel3Ideal.Mid.result21 m, Cert.Kernel3Ideal.Mid.result22 m, Cert.Kernel3Ideal.Mid.result23 m, Cert.Kernel3Ideal.Mid.result24 m, Cert.Kernel3Ideal.Mid.result25 m, Cert.Kernel3Ideal.Mid.result26 m, ?_, ?_⟩
  · exact Cert.Kernel3Ideal.Mid.run_arrays m g
  · refine (θ_run Cert.Reference3Ideal.defs _ _).mono (fun r h c => ?_) (Cert.Reference3Ideal.Value.run m' g')
    obtain ⟨h0, h1, h2, h3, h4, h5, h6, h7, h8, h9, h10, h11, h12, h13, h14, h15, h16, h17⟩ := hargs c
    have e0 : StableHlo.launchContents m' c (Proc.devRef .tc main_arg0) = m ((c.tc : Thread Cert.Kernel3Ideal.nD Cert.Kernel3Ideal.τ).loc Cert.Kernel3Ideal.main_arg0) := h0
    have e1 : StableHlo.launchContents m' c (Proc.devRef .tc main_arg1) = m ((c.tc : Thread Cert.Kernel3Ideal.nD Cert.Kernel3Ideal.τ).loc Cert.Kernel3Ideal.main_arg1) := h1
    have e2 : StableHlo.launchContents m' c (Proc.devRef .tc main_arg2) = m ((c.tc : Thread Cert.Kernel3Ideal.nD Cert.Kernel3Ideal.τ).loc Cert.Kernel3Ideal.main_arg2) := h2
    have e3 : StableHlo.launchContents m' c (Proc.devRef .tc main_arg3) = m ((c.tc : Thread Cert.Kernel3Ideal.nD Cert.Kernel3Ideal.τ).loc Cert.Kernel3Ideal.main_arg3) := h3
    have e4 : StableHlo.launchContents m' c (Proc.devRef .tc main_arg4) = m ((c.tc : Thread Cert.Kernel3Ideal.nD Cert.Kernel3Ideal.τ).loc Cert.Kernel3Ideal.main_arg4) := h4
    have e5 : StableHlo.launchContents m' c (Proc.devRef .tc main_arg5) = m ((c.tc : Thread Cert.Kernel3Ideal.nD Cert.Kernel3Ideal.τ).loc Cert.Kernel3Ideal.main_arg5) := h5
    have e6 : StableHlo.launchContents m' c (Proc.devRef .tc main_arg6) = m ((c.tc : Thread Cert.Kernel3Ideal.nD Cert.Kernel3Ideal.τ).loc Cert.Kernel3Ideal.main_arg6) := h6
    have e7 : StableHlo.launchContents m' c (Proc.devRef .tc main_arg7) = m ((c.tc : Thread Cert.Kernel3Ideal.nD Cert.Kernel3Ideal.τ).loc Cert.Kernel3Ideal.main_arg7) := h7
    have e8 : StableHlo.launchContents m' c (Proc.devRef .tc main_arg8) = m ((c.tc : Thread Cert.Kernel3Ideal.nD Cert.Kernel3Ideal.τ).loc Cert.Kernel3Ideal.main_arg8) := h8
    have e9 : StableHlo.launchContents m' c (Proc.devRef .tc main_arg9) = m ((c.tc : Thread Cert.Kernel3Ideal.nD Cert.Kernel3Ideal.τ).loc Cert.Kernel3Ideal.main_arg9) := h9
    have e10 : StableHlo.launchContents m' c (Proc.devRef .tc main_arg10) = m ((c.tc : Thread Cert.Kernel3Ideal.nD Cert.Kernel3Ideal.τ).loc Cert.Kernel3Ideal.main_arg10) := h10
    have e11 : StableHlo.launchContents m' c (Proc.devRef .tc main_arg11) = m ((c.tc : Thread Cert.Kernel3Ideal.nD Cert.Kernel3Ideal.τ).loc Cert.Kernel3Ideal.main_arg11) := h11
    have e12 : StableHlo.launchContents m' c (Proc.devRef .tc main_arg12) = m ((c.tc : Thread Cert.Kernel3Ideal.nD Cert.Kernel3Ideal.τ).loc Cert.Kernel3Ideal.main_arg12) := h12
    have e13 : StableHlo.launchContents m' c (Proc.devRef .tc main_arg13) = m ((c.tc : Thread Cert.Kernel3Ideal.nD Cert.Kernel3Ideal.τ).loc Cert.Kernel3Ideal.main_arg13) := h13
    have e14 : StableHlo.launchContents m' c (Proc.devRef .tc main_arg14) = m ((c.tc : Thread Cert.Kernel3Ideal.nD Cert.Kernel3Ideal.τ).loc Cert.Kernel3Ideal.main_arg14) := h14
    have e15 : StableHlo.launchContents m' c (Proc.devRef .tc main_arg15) = m ((c.tc : Thread Cert.Kernel3Ideal.nD Cert.Kernel3Ideal.τ).loc Cert.Kernel3Ideal.main_arg15) := h15
    have e16 : StableHlo.launchContents m' c (Proc.devRef .tc main_arg16) = m ((c.tc : Thread Cert.Kernel3Ideal.nD Cert.Kernel3Ideal.τ).loc Cert.Kernel3Ideal.main_arg16) := h16
    have e17 : StableHlo.launchContents m' c (Proc.devRef .tc main_arg17) = m ((c.tc : Thread Cert.Kernel3Ideal.nD Cert.Kernel3Ideal.τ).loc Cert.Kernel3Ideal.main_arg17) := h17
    have hT : tailOf (StableHlo.launchContents m' c) = Cert.Kernel3Ideal.Mid.tailArg m c := by
      funext r
      simp only [tailOf, e0, e1, e2, e3, e4, e5, e6, e7, e8, e9, e10, e11]
    have hH : headsOf (StableHlo.launchContents m' c) = Cert.Kernel3Ideal.Mid.headsArg m c := by
      funext r n
      simp only [headsOf, hT, e12, e13]
    obtain ⟨r0, r1, r2, r3, r4, r5, r6, r7, r8, kept⟩ := h c
    refine ⟨r0.trans ?_, r1.trans ?_, r2.trans ?_, r3.trans ?_, r4.trans ?_, r5.trans ?_, r6.trans ?_, r7.trans ?_,
      r8.trans ?_, kept⟩
    · refine funext fun i : S16384x1024.Idx => ?_
      rw [eq_ix2 i]
      refine (x3_at (StableHlo.launchContents m' c) _ _).trans ?_
      rw [hT]
      rfl
    · refine funext fun i : S16384x512.Idx => ?_
      rw [eq_ix2 i]
      refine (query_at (StableHlo.launchContents m' c) _ 0 (by decide) (fun r n => by pointwise; exact heads_at _ _ _) _ _).trans ?_
      rw [hH]
      rfl
    · refine funext fun i : S16384x512.Idx => ?_
      rw [eq_ix2 i]
      refine (query_at (StableHlo.launchContents m' c) _ 1536 (by decide) (fun r n => by pointwise; exact heads_at _ _ _) _ _).trans ?_
      rw [hH]
      rfl
    · refine funext fun i : S2x8x8x64x2048.Idx => ?_
      rw [eq_ix5 i]
      refine (laid_at (StableHlo.launchContents m' c) _ _ 512 (by decide) (fun r n => by pointwise; exact heads_at _ _ _) _ _ _ _ _).trans ?_
      rw [hH, e14]
      rfl
    · refine funext fun i : S2x8x8x64x2048.Idx => ?_
      rw [eq_ix5 i]
      refine (laid_at (StableHlo.launchContents m' c) _ _ 1024 (by decide) (fun r n => by pointwise; exact heads_at _ _ _) _ _ _ _ _).trans ?_
      rw [hH, e15]
      rfl
    · refine funext fun i : S2x8x8x64x2048.Idx => ?_
      rw [eq_ix5 i]
      refine (laid_at (StableHlo.launchContents m' c) _ _ 2048 (by decide) (fun r n => by pointwise; exact heads_at _ _ _) _ _ _ _ _).trans ?_
      rw [hH, e16]
      rfl
    · refine funext fun i : S2x8x8x64x2048.Idx => ?_
      rw [eq_ix5 i]
      refine (laid_at (StableHlo.launchContents m' c) _ _ 2560 (by decide) (fun r n => by pointwise; exact heads_at _ _ _) _ _ _ _ _).trans ?_
      rw [hH, e17]
      rfl
    · refine funext fun i : S2x8x8x64x512.Idx => ?_
      rw [eq_ix5 i]
      refine (cut_at _ _ _ _ _ _).trans ?_
      refine (laid_at (StableHlo.launchContents m' c) _ _ 2048 (by decide) (fun r n => by pointwise; exact heads_at _ _ _) _ _ _ _ _).trans ?_
      rw [hH, e16]
      rfl
    · refine funext fun i : S2x8x8x64x512.Idx => ?_
      rw [eq_ix5 i]
      refine (cut_at _ _ _ _ _ _).trans ?_
      refine (laid_at (StableHlo.launchContents m' c) _ _ 2560 (by decide) (fun r n => by pointwise; exact heads_at _ _ _) _ _ _ _ _).trans ?_
      rw [hH, e17]
      rfl

end Cert.MidClaim
-- ==== Proof.Band.lean ====
module

public import Idealize.ShloMosaic.Lib.Pipeline.ValueKit
public import Idealize.ShloMosaic.Lib.Pipeline.ReadBack
public import Idealize.ShloMosaic.Lib.Pointwise
public import proofs.«01_k».proof.Proof.Gen.KernelIdeal.Value

@[expose] public section

/-! # The chunk-band attention call, point by point

A grid point is one pair of heads of one sequence. Its body first lays the pair's keys and values out in two scratch
arrays of ten 256-wide tiles per head (the first two stay as the fill left them), then scores eight groups of 256
queries against three neighbouring tiles, and lastly turns each group's scores into its rows of the output. -/

set_option maxRecDepth 16384

noncomputable section

namespace Cert.KernelIdeal.Band

open Cert.KernelIdeal Cert.KernelIdeal.Gen Idealize.ShloMosaic Idealize.ShloMosaic.TcCoe Idealize.SL.Sem
open Idealize.ShloMosaic.Pipeline (Dat)

section Steps

variable {S : Shape} {e : EltTy} {Val : EltTy → Type} [∀ e, Nonempty (Val e)]

/-- Stores read back at an index, the last store first: where it covers the index its payload is wanted, elsewhere the
    earlier stores'. -/
theorem canon_step (off size : Fin S.rank → Nat) (inb : ∀ a, off a + size a ≤ S.size a)
    (w : (Rect.unit off size inb).shape.Idx → Val e) (L : List (View.Piece Val S e)) (y : S.Idx) (v : Val e)
    (hL : ¬ (∀ a, off a ≤ y a ∧ (y a : Nat) < off a + size a) → View.canon L y = v) (hw : View.TileAt y off size w v) :
    View.canon ((⟨Rect.unit off size inb, w⟩ : View.Piece Val S e) :: L) y = v := by
  by_cases hm : y ∈ (Rect.unit off size inb).set
  · obtain ⟨x, rfl⟩ := LoadRect.exists_idx_of_mem _ hm
    rw [show (Rect.unit off size inb).idx x = (Rect.unit off size inb).emb x from rfl, View.canon_cons_emb]
    exact hw x fun a => Rect.idx_unit_val off size inb x a
  · rw [View.canon_cons_of_not_mem ⟨Rect.unit off size inb, w⟩ L hm]
    exact hL fun h => hm (Rect.mem_set_unit.mpr h)

end Steps

/-- What a head pair's scratch array holds: the pair's blocks from the third tile on, at head `h` in the rows
    `64 h … 64 h + 63`, and the fill `z` everywhere else. -/
def held (z : S2x10x128x256.Idx → EReal) (x : Vec Ideal S1x1x2x64x2048 .f32) : Vec Ideal S2x10x128x256 .bf16 := fun y =>
  if h : 2 ≤ (y 1 : ℕ) ∧ (y 2 : ℕ) / 64 = y 0 then
    x (ix5 0 0 (y 0) ⟨(y 2 : ℕ) % 64, Nat.mod_lt _ (by decide)⟩
      ⟨256 * ((y 1 : ℕ) - 2) + y 3, by have h1 : (y 1 : ℕ) < 10 := (y 1).isLt; have h3 : (y 3 : ℕ) < 256 := (y 3).isLt; omega⟩)
  else z y

theorem held_else (z : S2x10x128x256.Idx → EReal) (x : Vec Ideal S1x1x2x64x2048 .f32) (y : S2x10x128x256.Idx)
    (h : ¬ (2 ≤ (y 1 : ℕ) ∧ (y 2 : ℕ) / 64 = y 0)) : held z x y = z y := dif_neg h

/-- The keys' scratch array. -/
abbrev keys (x : Vec Ideal S1x1x2x64x2048 .f32) := held (fun _ => 0) x

/-- The values' scratch array: one row of the half a head does not use holds ones. -/
abbrev vals (x : Vec Ideal S1x1x2x64x2048 .f32) := held (fun y => if (y 2 : ℕ) = (1 - (y 0 : ℕ)) * 64 then 1 else 0) x

variable (m : (ℓ : Loc nD τ sig) → Buf (Elt Ideal) ℓ)

/-- The stores of the body at a point: the output's pieces, then those of the three scratch arrays. -/
def stores (c : Dev nD) (t : Fin cfg0.N) :=
  kernelRun0_A c (grid0.coords t) (ms0_0 t) (hs0_0 t) (ms0_1 t) (hs0_1 t) (ms0_2 t) (hs0_2 t) (ms0_3 t) (hs0_3 t)
    (ms0_4 t) (hs0_4 t) (ms0_5 t) (hs0_5 t) scM0_0 (Memref.isWhole_whole _) scM0_1 (Memref.isWhole_whole _)
    scM0_2 (Memref.isWhole_whole _) (hcond0_0 t) (iblk m c 0 t) (iblk m c 1 t) (iblk m c 2 t) (iblk m c 3 t) (iblk m c 4 t)

/-- One block of a pair's input laid into the scratch array is the array there. -/
theorem laid_held (z : S2x10x128x256.Idx → EReal) (X : Vec Ideal S1x1x2x64x2048 .f32) (off : Fin 5 → ℕ) (inb)
    (x : S1x1x64x256.Idx) (y : S2x10x128x256.Idx) (e0 : off 0 = 0) (e1 : off 1 = 0) (h1 : 2 ≤ (y 1 : ℕ))
    (h2 : (y 2 : ℕ) / 64 = y 0) (e2 : off 2 = y 0) (e3 : off 3 + x 2 = (y 2 : ℕ) % 64)
    (e4 : off 4 + x 3 = 256 * ((y 1 : ℕ) - 2) + y 3) :
    k0_pay4 (F := Ideal) (View.ld X (Rect.unit (s := S1x1x2x64x2048) off S1x1x1x64x256.size inb)) x = held z X y := by
  obtain ⟨a, b, r, l, rfl⟩ : ∃ (a b : Fin 1) (r : Fin 64) (l : Fin 256), x = ix4 a b r l := ⟨x 0, x 1, x 2, x 3, eq_ix4 x⟩
  pointwise [k0_pay4]
  rw [held, dif_pos ⟨h1, h2⟩]
  refine congrArg X ?_
  congr 1
  · exact Fin.ext e0
  · exact Fin.ext e1
  · exact Fin.ext e2
  · exact Fin.ext e3
  · exact Fin.ext e4

/-- Where a tile of the scratch array stands. -/
abbrev InTile (y : S2x10x128x256.Idx) (h k r : ℕ) : Prop :=
  ∀ a, (![h, k, r, 0] : Fin 4 → ℕ) a ≤ y a ∧ (y a : ℕ) < (![h, k, r, 0] : Fin 4 → ℕ) a + S1x1x64x256.size a

theorem inTile (y : S2x10x128x256.Idx) (h k r : ℕ) (h0 : (y 0 : ℕ) = h) (h1 : (y 1 : ℕ) = k) (h2 : r ≤ y 2)
    (h2' : (y 2 : ℕ) < r + 64) : InTile y h k r := by
  have h3 : (y 3 : ℕ) < 256 := (y 3).isLt
  intro a
  fin_cases a <;> simp <;> omega

set_option maxHeartbeats 4000000 in
theorem keys_held (c : Dev nD) (t : Fin cfg0.N) :
    View.canon (Val := Elt Ideal) (stores m c t).2.1 = keys (iblk m c 1 t) := by
  delta stores
  frame_open
  simp only [View.readAt_eq_ld, Memref.IsWhole.read_unread]
  funext y
  iterate 16 refine canon_step (Val := Elt Ideal) _ _ _ _ _ y _ (fun h => ?_) (fun x hx => ?_)
  · refine Eq.trans ?_ (dif_neg (fun hy => ?_)).symm
    rotate_left
    · have y0 : (y 0 : ℕ) < 2 := (y 0).isLt
      have y1 : (y 1 : ℕ) < 10 := (y 1).isLt
      have y2 : (y 2 : ℕ) < 128 := (y 2).isLt
      have hr : 64 * (y 0 : ℕ) ≤ y 2 ∧ (y 2 : ℕ) < 64 * (y 0 : ℕ) + 64 := by omega
      have ht := inTile y _ _ (64 * (y 0 : ℕ)) rfl rfl hr.1 hr.2
      rcases (by omega : (y 0 : ℕ) = 0 ∨ (y 0 : ℕ) = 1) with e0 | e0 <;>
      rcases (by omega : (y 1 : ℕ) = 2 ∨ (y 1 : ℕ) = 3 ∨ (y 1 : ℕ) = 4 ∨ (y 1 : ℕ) = 5 ∨ (y 1 : ℕ) = 6 ∨ (y 1 : ℕ) = 7
        ∨ (y 1 : ℕ) = 8 ∨ (y 1 : ℕ) = 9) with e1 | e1 | e1 | e1 | e1 | e1 | e1 | e1 <;>
      · rw [e0, e1] at ht
        contradiction
    canon_tiles x hx
    pointwise [k0_pay2]
  all_goals
    have h0 := hx 0
    have h1 := hx 1
    have h2 := hx 2
    have h3 := hx 3
    have x2 : (x 2 : ℕ) < 64 := (x 2).isLt
    simp at h0 h1 h2 h3
    refine laid_held _ _ _ _ x y rfl rfl (by omega) (by omega) (by simp; omega) (by simp; omega) (by simp; omega)

theorem fill_row (z : ℕ) (w : BitVec 32) (hw : ∀ r : Fin 128, IntOp.cmpi .eq (BitVec.ofNat 32 r) w = if (r : ℕ) = z then 1#1 else 0#1)
    (r : Fin 128) : Scalar.select (IntOp.cmpi .eq (BitVec.ofNat 32 r) w) (1 : EReal) 0 = if (r : ℕ) = z then 1 else 0 := by
  rw [hw]
  split_ifs <;> rfl

theorem fill0 (x : S1x10x128x256.Idx) : k0_pay3 (F := Ideal) x = if (x 2 : ℕ) = 64 then 1 else 0 := by
  obtain ⟨a, k, r, l, rfl⟩ : ∃ (a : Fin 1) (k : Fin 10) (r : Fin 128) (l : Fin 256), x = ix4 a k r l :=
    ⟨x 0, x 1, x 2, x 3, eq_ix4 x⟩
  pointwise [k0_pay3]
  exact fill_row 64 _ (by decide +kernel) r

theorem fill1 (x : S1x10x128x256.Idx) : k0_pay22 (F := Ideal) (iota .tc S10x128x256 32 [1] iota_S10x128x256_d1_w32) x = if (x 2 : ℕ) = 0 then 1 else 0 := by
  obtain ⟨a, k, r, l, rfl⟩ : ∃ (a : Fin 1) (k : Fin 10) (r : Fin 128) (l : Fin 256), x = ix4 a k r l :=
    ⟨x 0, x 1, x 2, x 3, eq_ix4 x⟩
  pointwise [k0_pay22]
  exact fill_row 0 _ (by decide +kernel) r

set_option maxHeartbeats 4000000 in
theorem vals_held (c : Dev nD) (t : Fin cfg0.N) :
    View.canon (Val := Elt Ideal) (stores m c t).2.2.1 = vals (iblk m c 2 t) := by
  delta stores
  frame_open
  simp only [View.readAt_eq_ld, Memref.IsWhole.read_unread]
  funext y
  have y0 : (y 0 : ℕ) < 2 := (y 0).isLt
  have y1 : (y 1 : ℕ) < 10 := (y 1).isLt
  have y2 : (y 2 : ℕ) < 128 := (y 2).isLt
  have y3 : (y 3 : ℕ) < 256 := (y 3).isLt
  iterate 8 refine canon_step (Val := Elt Ideal) _ _ _ _ _ y _ (fun h => ?_) (fun x hx => ?_)
  refine canon_step (Val := Elt Ideal) _ _ _ _ _ y _ (fun hf => ?_) (fun x hx => ?_)
  iterate 8 refine canon_step (Val := Elt Ideal) _ _ _ _ _ y _ (fun h => ?_) (fun x hx => ?_)
  refine canon_step (Val := Elt Ideal) _ _ _ _ _ y _ (fun hg => ?_) (fun x hx => ?_)
  · exfalso
    rcases (by omega : (y 0 : ℕ) = 0 ∨ (y 0 : ℕ) = 1) with e0 | e0
    · exact hg (fun a => by fin_cases a <;> simp <;> omega)
    · exact hf (fun a => by fin_cases a <;> simp <;> omega)
  all_goals
    have h0 := hx 0
    have h1 := hx 1
    have h2 := hx 2
    have h3 := hx 3
    simp at h0 h1 h2 h3
  · refine Eq.trans (b := if (y 2 : ℕ) = (1 - (y 0 : ℕ)) * 64 then (1 : EReal) else 0) ?_ (held_else (fun y : S2x10x128x256.Idx => if (y 2 : ℕ) = (1 - (y 0 : ℕ)) * 64 then 1 else 0) _ y (fun hv => ?_)).symm
    · refine (fill0 x).trans ?_
      rw [← h2, show (y 0 : ℕ) = 0 by omega]
    · have ht := inTile y _ _ (64 * (y 0 : ℕ)) rfl rfl (by omega) (by omega)
      rcases (by omega : (y 1 : ℕ) = 2 ∨ (y 1 : ℕ) = 3 ∨ (y 1 : ℕ) = 4 ∨ (y 1 : ℕ) = 5 ∨ (y 1 : ℕ) = 6 ∨ (y 1 : ℕ) = 7
        ∨ (y 1 : ℕ) = 8 ∨ (y 1 : ℕ) = 9) with e1 | e1 | e1 | e1 | e1 | e1 | e1 | e1 <;>
      · rw [h0, e1] at ht
        contradiction
  iterate 8
    have x2 : (x 2 : ℕ) < 64 := (x 2).isLt
    exact laid_held _ _ _ _ x y rfl rfl (by omega) (by omega) (by simp; omega) (by simp; omega) (by simp; omega)
  · refine Eq.trans (b := if (y 2 : ℕ) = (1 - (y 0 : ℕ)) * 64 then (1 : EReal) else 0) ?_ (held_else (fun y : S2x10x128x256.Idx => if (y 2 : ℕ) = (1 - (y 0 : ℕ)) * 64 then 1 else 0) _ y (fun hv => ?_)).symm
    · refine (fill1 x).trans ?_
      rw [← h2, show (y 0 : ℕ) = 1 by omega]
    · have ht := inTile y _ _ (64 * (y 0 : ℕ)) rfl rfl (by omega) (by omega)
      rcases (by omega : (y 1 : ℕ) = 2 ∨ (y 1 : ℕ) = 3 ∨ (y 1 : ℕ) = 4 ∨ (y 1 : ℕ) = 5 ∨ (y 1 : ℕ) = 6 ∨ (y 1 : ℕ) = 7
        ∨ (y 1 : ℕ) = 8 ∨ (y 1 : ℕ) = 9) with e1 | e1 | e1 | e1 | e1 | e1 | e1 | e1 <;>
      · rw [h0, e1] at ht
        contradiction
  all_goals
    have x2 : (x 2 : ℕ) < 64 := (x 2).isLt
    exact laid_held _ _ _ _ x y rfl rfl (by omega) (by omega) (by simp; omega) (by simp; omega) (by simp; omega)

/-- Where the first key tile of a group stands: tile `g + d` of head 0, respectively of head 1. -/
theorem off1 (t : Fin cfg0.N) : ∀ (g : Fin 8) (d : Fin 3),
    k0_off1 (grid0.coords t) (BitVec.ofNat 32 g) (BitVec.ofNat 32 d) = ![0, (g : ℕ) + d, 0, 0] := by
  intro g d
  have h2 : (grid0.coords t 2 : ℕ) = 0 := Nat.lt_one_iff.mp (grid0.coords t 2).isLt
  rw [k0_off1_eq, h2]
  congr 1; simp

theorem off2 (t : Fin cfg0.N) : ∀ (g : Fin 8) (d : Fin 3),
    k0_off2 (grid0.coords t) (BitVec.ofNat 32 g) (BitVec.ofNat 32 d) = ![1, (g : ℕ) + d, 0, 0] := by
  intro g d
  have h2 : (grid0.coords t 2 : ℕ) = 0 := Nat.lt_one_iff.mp (grid0.coords t 2).isLt
  rw [k0_off2_eq, h2]
  congr 1; simp

/-- The scores' scratch array: group, head, query and key of the three tiles in front of the query. -/
def scores (q : Vec Ideal S1x2048x128 .bf16) (K : Vec Ideal S2x10x128x256 .bf16) : Vec Ideal S8x2x256x768 .f32 := fun y =>
  ∑ k : Fin 128, q (ix3 0 ⟨256 * (y 0 : ℕ) + y 2, by have h0 : (y 0 : ℕ) < 8 := (y 0).isLt; have h2 : (y 2 : ℕ) < 256 := (y 2).isLt; omega⟩ k) *
    K (ix4 (y 1) ⟨(y 0 : ℕ) + (y 3 : ℕ) / 256, by have h0 : (y 0 : ℕ) < 8 := (y 0).isLt; have h3 : (y 3 : ℕ) < 768 := (y 3).isLt; omega⟩
      k ⟨(y 3 : ℕ) % 256, Nat.mod_lt _ (by decide)⟩)

/-- Three neighbouring tiles side by side, read at a key. -/
theorem three_tiles (K : S2x10x128x256.Idx → EReal) (h g : ℕ) (hh : h < 2) (hg : g + 2 < 10) (k : Fin 128) (j : Fin 768) :
    (if h1 : (j : ℕ) < 256 then K (ix4 ⟨h, hh⟩ ⟨g, by omega⟩ k ⟨(j : ℕ), h1⟩)
      else if h2 : (j : ℕ) - 256 < 256 then K (ix4 ⟨h, hh⟩ ⟨g + 1, by omega⟩ k ⟨(j : ℕ) - 256, h2⟩)
      else K (ix4 ⟨h, hh⟩ ⟨g + 2, hg⟩ k ⟨(j : ℕ) - 256 - 256, by have := j.isLt; omega⟩))
    = K (ix4 ⟨h, hh⟩ ⟨g + (j : ℕ) / 256, by have := j.isLt; omega⟩ k ⟨(j : ℕ) % 256, Nat.mod_lt _ (by decide)⟩) := by
  have hj := j.isLt
  split_ifs <;>
  · refine congrArg K ?_
    congr 1 <;> exact Fin.ext (by dsimp only; omega)

/-- One group's scores of one head. -/
theorem scored (q : Vec Ideal S1x2048x128 .bf16) (K : Vec Ideal S2x10x128x256 .bf16) (o : Fin 3 → ℕ) (o0 o1 o2 : Fin 4 → ℕ)
    (inb inb0 inb1 inb2) (g h : ℕ) (e : o = ![0, 256 * g, 0]) (e0 : o0 = ![h, g, 0, 0]) (e1 : o1 = ![h, g + 1, 0, 0])
    (e2 : o2 = ![h, g + 2, 0, 0]) (x : S1x1x256x768.Idx) (y : S8x2x256x768.Idx) (h0 : (y 0 : ℕ) = g) (h1 : (y 1 : ℕ) = h)
    (h2 : (y 2 : ℕ) = x 2) (h3 : (y 3 : ℕ) = x 3) :
    k0_pay42 (F := Ideal) (View.ld q (Rect.unit (s := S1x2048x128) o S1x256x128.size inb))
      (View.ld K (Rect.unit (s := S2x10x128x256) o0 S1x1x128x256.size inb0))
      (View.ld K (Rect.unit (s := S2x10x128x256) o1 S1x1x128x256.size inb1))
      (View.ld K (Rect.unit (s := S2x10x128x256) o2 S1x1x128x256.size inb2)) x = scores q K y := by
  obtain ⟨a, b, r, j, rfl⟩ : ∃ (a b : Fin 1) (r : Fin 256) (j : Fin 768), x = ix4 a b r j := ⟨x 0, x 1, x 2, x 3, eq_ix4 x⟩
  subst e e0 e1 e2
  pointwise [k0_pay42]
  have hr : (y 2 : ℕ) = r := h2
  have hj : (y 3 : ℕ) = j := h3
  have hg : (y 0 : ℕ) < 8 := (y 0).isLt
  have hh : (y 1 : ℕ) < 2 := (y 1).isLt
  refine Finset.sum_congr rfl fun k _ => ?_
  refine congr (congrArg _ (congrArg q ?_)) ((three_tiles K h g (h1 ▸ hh) (by omega) k j).trans (congrArg K ?_))
  · congr 1; exact Fin.ext (by dsimp only; omega)
  · congr 1
    · exact Fin.ext h1.symm
    · exact Fin.ext (by dsimp only; omega)
    · exact Fin.ext (by dsimp only; omega)

set_option maxHeartbeats 4000000 in
/-- What the third scratch array holds once all groups are scored. -/
theorem scores_held (c : Dev nD) (t : Fin cfg0.N) :
    View.canon (Val := Elt Ideal) (stores m c t).2.2.2.1 = scores (iblk m c 0 t) (keys (iblk m c 1 t)) := by
  have hk := keys_held m c t
  unfold stores at hk ⊢
  frame_open at hk
  frame_open
  simp only [View.readAt_eq_ld, View.readCov_eq_canon', View.read_writes_junk_eq_canon, Memref.IsWhole.read_unread] at hk
  simp only [View.readAt_eq_ld, View.readCov_eq_canon', View.read_writes_junk_eq_canon, Memref.IsWhole.read_unread]
  simp only [hk]
  clear hk
  funext y
  iterate 16 refine canon_step (Val := Elt Ideal) _ _ _ _ _ y _ (fun h => ?_) (fun x hx => ?_)
  · exfalso
    have y0 : (y 0 : ℕ) < 8 := (y 0).isLt
    have y1 : (y 1 : ℕ) < 2 := (y 1).isLt
    have y2 : (y 2 : ℕ) < 256 := (y 2).isLt
    have y3 : (y 3 : ℕ) < 768 := (y 3).isLt
    have ht : ∀ a, (![(y 0 : ℕ), (y 1 : ℕ), 0, 0] : Fin 4 → ℕ) a ≤ y a ∧
        (y a : ℕ) < (![(y 0 : ℕ), (y 1 : ℕ), 0, 0] : Fin 4 → ℕ) a + S1x1x256x768.size a := by
      intro a
      fin_cases a <;> simp <;> omega
    rcases (by omega : (y 1 : ℕ) = 0 ∨ (y 1 : ℕ) = 1) with e1 | e1 <;>
    rcases (by omega : (y 0 : ℕ) = 0 ∨ (y 0 : ℕ) = 1 ∨ (y 0 : ℕ) = 2 ∨ (y 0 : ℕ) = 3 ∨ (y 0 : ℕ) = 4 ∨ (y 0 : ℕ) = 5
      ∨ (y 0 : ℕ) = 6 ∨ (y 0 : ℕ) = 7) with e0 | e0 | e0 | e0 | e0 | e0 | e0 | e0 <;>
    · rw [e0, e1] at ht
      contradiction
  all_goals
    have h0 := hx 0
    have h1 := hx 1
    have h2 := hx 2
    have h3 := hx 3
    have x0 : (x 0 : ℕ) < 1 := (x 0).isLt
    have x1 : (x 1 : ℕ) < 1 := (x 1).isLt
    simp at h0 h1 h2 h3
  · exact scored _ _ _ _ _ _ _ _ _ _ _ _ rfl (off1 t 0 0) (off1 t 0 1) (off1 t 0 2) x y h0 h1 h2 h3
  · exact scored _ _ _ _ _ _ _ _ _ _ _ _ rfl (off2 t 0 0) (off2 t 0 1) (off2 t 0 2) x y h0 h1 h2 h3
  · exact scored _ _ _ _ _ _ _ _ _ _ _ _ rfl (off1 t 1 0) (off1 t 1 1) (off1 t 1 2) x y h0 h1 h2 h3
  · exact scored _ _ _ _ _ _ _ _ _ _ _ _ rfl (off2 t 1 0) (off2 t 1 1) (off2 t 1 2) x y h0 h1 h2 h3
  · exact scored _ _ _ _ _ _ _ _ _ _ _ _ rfl (off1 t 2 0) (off1 t 2 1) (off1 t 2 2) x y h0 h1 h2 h3
  · exact scored _ _ _ _ _ _ _ _ _ _ _ _ rfl (off2 t 2 0) (off2 t 2 1) (off2 t 2 2) x y h0 h1 h2 h3
  · exact scored _ _ _ _ _ _ _ _ _ _ _ _ rfl (off1 t 3 0) (off1 t 3 1) (off1 t 3 2) x y h0 h1 h2 h3
  · exact scored _ _ _ _ _ _ _ _ _ _ _ _ rfl (off2 t 3 0) (off2 t 3 1) (off2 t 3 2) x y h0 h1 h2 h3
  · exact scored _ _ _ _ _ _ _ _ _ _ _ _ rfl (off1 t 4 0) (off1 t 4 1) (off1 t 4 2) x y h0 h1 h2 h3
  · exact scored _ _ _ _ _ _ _ _ _ _ _ _ rfl (off2 t 4 0) (off2 t 4 1) (off2 t 4 2) x y h0 h1 h2 h3
  · exact scored _ _ _ _ _ _ _ _ _ _ _ _ rfl (off1 t 5 0) (off1 t 5 1) (off1 t 5 2) x y h0 h1 h2 h3
  · exact scored _ _ _ _ _ _ _ _ _ _ _ _ rfl (off2 t 5 0) (off2 t 5 1) (off2 t 5 2) x y h0 h1 h2 h3
  · exact scored _ _ _ _ _ _ _ _ _ _ _ _ rfl (off1 t 6 0) (off1 t 6 1) (off1 t 6 2) x y h0 h1 h2 h3
  · exact scored _ _ _ _ _ _ _ _ _ _ _ _ rfl (off2 t 6 0) (off2 t 6 1) (off2 t 6 2) x y h0 h1 h2 h3
  · exact scored _ _ _ _ _ _ _ _ _ _ _ _ rfl (off1 t 7 0) (off1 t 7 1) (off1 t 7 2) x y h0 h1 h2 h3
  · exact scored _ _ _ _ _ _ _ _ _ _ _ _ rfl (off2 t 7 0) (off2 t 7 1) (off2 t 7 2) x y h0 h1 h2 h3
end Cert.KernelIdeal.Band
-- ==== Proof.BandRow.lean ====
module

public import Idealize.ShloMosaic.Lib.Pipeline.ValueKit
public import Idealize.ShloMosaic.Lib.Pointwise

@[expose] public section

/-! # One query's row of the chunk-band attention over the extended reals

The kernel scores a query against 768 keys, 576 of them in its band and the others at −∞, sums the values with
unnormalised weights and divides once; the reference scores the band alone and normalises the weights first. After the
root mean square of the head both rows are the same, whatever the scores are: where a row has no finite largest score,
every weight is 0 and both normalised rows are 0. -/

set_option maxRecDepth 16384

noncomputable section

open Idealize.ShloMosaic

namespace BandRow

theorem neg_inf : Ideal.ofBits .f32 0xFF800000#32 = ⊥ := by
  simp [Ideal.ofBits, Ideal.ieee]

theorem sixty_four : Ideal.ofBits .f32 0x42800000#32 = ((64 : ℝ) : EReal) := by
  simp [Ideal.ofBits, Ideal.ieee, -EReal.coe_mul]; norm_num

theorem one_64th : Ideal.ofBits .f32 0x3C800000#32 = ((1 / 64 : ℝ) : EReal) := by
  simp [Ideal.ofBits, Ideal.ieee, -EReal.coe_mul]; norm_num

theorem eps_ne_bot : Ideal.ofBits .f32 0x358637BD#32 ≠ ⊥ := by
  simp [Ideal.ofBits, Ideal.ieee, -EReal.coe_mul]

/-- A key's unnormalised weight. -/
def weight {n : ℕ} (s : Fin n → EReal) (j : Fin n) : EReal := Ideal.exp (s j - Finset.fold max ⊥ s Finset.univ)

/-- The values summed with unnormalised weights, then divided by the weights' sum. -/
def late {n : ℕ} (s : Fin n → EReal) (v : Fin 64 → Fin n → EReal) (d : Fin 64) : EReal :=
  Ideal.div (∑ j, weight s j * v d j) (∑ j, weight s j)

/-- The values summed with normalised weights. -/
def soft {n : ℕ} (s : Fin n → EReal) (v : Fin 64 → Fin n → EReal) (d : Fin 64) : EReal :=
  ∑ j, v d j * Ideal.div (weight s j) (∑ j, weight s j)

/-- RMSNorm of a head's row, `g` the gain at `d`; the mean is the sum times 1/64. -/
def normed (o : Fin 64 → EReal) (g : EReal) (d : Fin 64) : EReal :=
  o d * Ideal.rsqrt ((∑ k, o k * o k) * Ideal.ofBits .f32 0x3C800000#32 + Ideal.ofBits .f32 0x358637BD#32) * g

theorem normed_div (o : Fin 64 → EReal) (g : EReal) (d : Fin 64) :
    o d * Ideal.rsqrt (Ideal.div (∑ k, o k * o k) (Ideal.ofBits .f32 0x42800000#32) + Ideal.ofBits .f32 0x358637BD#32) * g
      = normed o g d := by
  rw [normed, sixty_four, one_64th, Ideal.div_coe (by norm_num)]

section Narrow

variable {n k : ℕ} (e : Fin k → Fin n) (he : Function.Injective e) (s : Fin n → EReal) (s' : Fin k → EReal)
  (hs : ∀ j, s (e j) = s' j) (ho : ∀ j, j ∉ Set.range e → s j = ⊥)
include hs ho

theorem fold_narrow : Finset.fold max ⊥ s Finset.univ = Finset.fold max ⊥ s' Finset.univ := by
  change Finset.univ.sup s = Finset.univ.sup s'
  refine le_antisymm (Finset.sup_le fun j _ => ?_) (Finset.sup_le fun j _ => ?_)
  · by_cases h : j ∈ Set.range e
    · obtain ⟨i, rfl⟩ := h
      rw [hs]
      exact Finset.le_sup (f := s') (Finset.mem_univ i)
    · rw [ho j h]
      exact bot_le
  · rw [← hs]
    exact Finset.le_sup (f := s) (Finset.mem_univ (e j))

theorem weight_in (j : Fin k) : weight s (e j) = weight s' j := by
  rw [weight, weight, fold_narrow e s s' hs ho, hs]

theorem weight_out (j : Fin n) (h : j ∉ Set.range e) : weight s j = 0 := by
  rw [weight, ho j h, EReal.bot_sub, Ideal.exp_bot]

include he in
/-- Keys at −∞ do not count. -/
theorem late_narrow (v : Fin 64 → Fin n → EReal) (v' : Fin 64 → Fin k → EReal) (hv : ∀ d j, v d (e j) = v' d j) :
    late s v = late s' v' := by
  funext d
  unfold late
  refine congr (congrArg Ideal.div ?_) ?_
  · exact (Fintype.sum_of_injective e he _ _ (fun j h => by rw [weight_out e s s' hs ho j h, zero_mul])
      (fun j => by rw [weight_in e s s' hs ho, hv])).symm
  · exact (Fintype.sum_of_injective e he _ _ (fun j h => weight_out e s s' hs ho j h)
      (fun j => (weight_in e s s' hs ho j).symm)).symm

end Narrow

theorem sum_mul_real {ι : Type*} (t : Finset ι) (f : ι → EReal) (c : ℝ) (hc : 0 ≤ c) :
    (∑ i ∈ t, f i) * (c : EReal) = ∑ i ∈ t, f i * (c : EReal) := by
  classical
  induction t using Finset.induction_on with
  | empty => simp
  | insert a t ha ih =>
    rw [Finset.sum_insert ha, Finset.sum_insert ha, ← ih,
      EReal.right_distrib_of_nonneg_of_ne_top (by exact_mod_cast hc) (EReal.coe_ne_top c)]

theorem coe_sum {ι : Type*} (t : Finset ι) (f : ι → ℝ) : ((∑ i ∈ t, f i : ℝ) : EReal) = ∑ i ∈ t, (f i : EReal) := by
  classical
  induction t using Finset.induction_on with
  | empty => simp
  | insert a t ha ih => rw [Finset.sum_insert ha, Finset.sum_insert ha, EReal.coe_add, ih]

/-- The weights of a row are all 0, or real with a positive sum. -/
theorem weight_cases {n : ℕ} [Nonempty (Fin n)] (s : Fin n → EReal) :
    (∀ j, weight s j = 0) ∨ ∃ l : ℝ, 0 < l ∧ ∑ j, weight s j = (l : EReal) := by
  have hle : ∀ j, s j ≤ Finset.fold max ⊥ s Finset.univ := fun j => Finset.le_sup (f := s) (Finset.mem_univ j)
  obtain ⟨j0, -, h0⟩ := Finset.exists_mem_eq_sup Finset.univ Finset.univ_nonempty s
  change Finset.fold max ⊥ s Finset.univ = s j0 at h0
  unfold weight
  generalize Finset.fold max ⊥ s Finset.univ = M at hle h0 ⊢
  induction M using EReal.rec with
  | bot => exact .inl fun j => by rw [le_bot_iff.mp (hle j), EReal.bot_sub, Ideal.exp_bot]
  | top => exact .inl fun j => by rw [sub_eq_add_neg, EReal.neg_top, EReal.add_bot, Ideal.exp_bot]
  | coe a =>
    refine .inr ?_
    have hr : ∀ j, ∃ r : ℝ, 0 ≤ r ∧ Ideal.exp (s j - (a : EReal)) = (r : EReal) := fun j => by
      have hj := hle j
      generalize s j = x at hj ⊢
      induction x using EReal.rec with
      | bot => exact ⟨0, le_rfl, by rw [EReal.bot_sub, Ideal.exp_bot, EReal.coe_zero]⟩
      | top => exact absurd hj (by simp)
      | coe b => exact ⟨Real.exp (b - a), (Real.exp_pos _).le, by rw [← EReal.coe_sub, Ideal.exp_coe]⟩
    choose r hr0 hr using hr
    refine ⟨∑ j, r j, ?_, ?_⟩
    · refine Finset.sum_pos' (fun j _ => hr0 j) ⟨j0, Finset.mem_univ _, ?_⟩
      have h1 := hr j0
      rw [← h0, ← EReal.coe_sub, Ideal.exp_coe, EReal.coe_eq_coe_iff] at h1
      exact h1 ▸ Real.exp_pos _
    · simp only [hr]
      exact (coe_sum _ r).symm

theorem sq_nonneg (x : EReal) : 0 ≤ x * x := by
  induction x using EReal.rec with
  | bot => simp
  | top => simp
  | coe a => exact_mod_cast mul_self_nonneg a

/-- A head's row with an infinite entry is normalised to 0. -/
theorem normed_infinite (o : Fin 64 → EReal) (g : EReal) (d k : Fin 64) (h : o k = ⊥ ∨ o k = ⊤) : normed o g d = 0 := by
  have ht : ∑ k, o k * o k = ⊤ := by
    refine top_le_iff.mp ?_
    have h1 : (⊤ : EReal) = o k * o k := by rcases h with h | h <;> rw [h] <;> simp
    rw [h1]
    exact Finset.single_le_sum (f := fun k => o k * o k) (fun i _ => sq_nonneg (o i)) (Finset.mem_univ k)
  rw [normed, ht, one_64th, EReal.top_mul_coe_of_pos (by norm_num), EReal.top_add_of_ne_bot eps_ne_bot, Ideal.rsqrt_top,
    mul_zero, zero_mul]

theorem mul_bot_cases (x : EReal) : x * ⊥ = 0 ∨ x * ⊥ = ⊥ ∨ x * ⊥ = ⊤ := by
  rcases lt_trichotomy x 0 with h | h | h
  · exact .inr (.inr (EReal.mul_bot_of_neg h))
  · exact .inl (by rw [h, zero_mul])
  · exact .inr (.inl (EReal.mul_bot_of_pos h))

theorem sum_cases {ι : Type*} (t : Finset ι) (f : ι → EReal) (h : ∀ i, f i = 0 ∨ f i = ⊥ ∨ f i = ⊤) :
    ∑ i ∈ t, f i = 0 ∨ ∑ i ∈ t, f i = ⊥ ∨ ∑ i ∈ t, f i = ⊤ := by
  classical
  induction t using Finset.induction_on with
  | empty => simp
  | insert a t ha ih =>
    rw [Finset.sum_insert ha]
    rcases h a with h1 | h1 | h1 <;> rcases ih with h2 | h2 | h2 <;> rw [h1, h2] <;> simp

/-- Dividing late or early, a head's normalised row is the same. -/
theorem late_soft {n : ℕ} [Nonempty (Fin n)] (s : Fin n → EReal) (v : Fin 64 → Fin n → EReal) (g : EReal) (d : Fin 64) :
    normed (late s v) g d = normed (soft s v) g d := by
  rcases weight_cases s with h | ⟨l, hl, h⟩
  · have h0 : ∑ j, weight s j = 0 := Finset.sum_eq_zero fun j _ => h j
    have hd : Ideal.div 0 0 = ⊥ := by simp [Ideal.div]
    have h1 : late s v d = ⊥ := by
      rw [late, h0, Finset.sum_eq_zero fun j _ => by rw [h j, zero_mul], hd]
    rw [normed_infinite _ _ _ d (.inl h1)]
    have h2 : soft s v d = 0 ∨ soft s v d = ⊥ ∨ soft s v d = ⊤ := by
      rw [soft, h0]
      exact sum_cases _ _ fun j => by rw [h j, hd]; exact mul_bot_cases _
    rcases h2 with h2 | h2
    · rw [normed, h2, zero_mul, zero_mul]
    · rw [normed_infinite _ _ _ d h2]
  · refine congrArg (normed · g d) (funext fun d => ?_)
    rw [late, soft, h, Ideal.div_coe hl.ne', sum_mul_real _ _ _ (by positivity)]
    refine Finset.sum_congr rfl fun j _ => ?_
    rw [Ideal.div_coe hl.ne', mul_comm (weight s j), mul_assoc]

end BandRow
-- ==== Proof.BandOut.lean ====
module

public import proofs.«01_k».proof.Proof.Band
public import proofs.«01_k».proof.Proof.BandRow

@[expose] public section

/-! # The block that one grid point of the chunk-band attention writes -/
set_option maxRecDepth 16384

noncomputable section

namespace Cert.KernelIdeal.Band

open Cert.KernelIdeal Cert.KernelIdeal.Gen Idealize.ShloMosaic Idealize.ShloMosaic.TcCoe Idealize.SL.Sem

variable (m : (ℓ : Loc nD τ sig) → Buf (Elt Ideal) ℓ)

open BandRow in
/-- A head's lanes of a vector of two heads. -/
theorem side {α : Type} (l : Fin 128) (a b : α) :
    Scalar.select (IntOp.cmpi .slt (BitVec.ofNat 32 l) 64#32) a b = if (l : ℕ) < 64 then a else b := by
  rw [show IntOp.cmpi .slt (BitVec.ofNat 32 l) 64#32 = if (l : ℕ) < 64 then 1#1 else 0#1 by revert l; decide +kernel]
  split_ifs <;> rfl

/-- The keys of a group that lie before the sequence are masked. -/
theorem masked {α : Type} (g : Fin 2) (j : Fin 768) (a b : α) :
    Scalar.select (IntOp.cmpi .sge (BitVec.ofNat 32 j) (Scalar.subi 512#32 (Scalar.muli (BitVec.ofNat 32 g) 256#32))) a b
      = if 512 ≤ (j : ℕ) + 256 * g then a else b := by
  rw [show IntOp.cmpi .sge (BitVec.ofNat 32 j) (Scalar.subi 512#32 (Scalar.muli (BitVec.ofNat 32 g) 256#32))
    = if 512 ≤ (j : ℕ) + 256 * g then 1#1 else 0#1 by revert g j; decide +kernel]
  split_ifs <;> rfl

/-- A query's masked scores of the keys in front of it. -/
def key (S : Vec Ideal S8x2x256x768 .f32) (B : Vec Ideal S2x256x768 .f32) (g : Fin 8) (h : Fin 2) (r : Fin 256) (j : Fin 768) : EReal :=
  if 512 ≤ (j : ℕ) + 256 * g then S (ix4 g h r j) + B (ix3 h r j) else ⊥

theorem weights_masked (S : Vec Ideal S8x2x256x768 .f32) (B : Vec Ideal S2x256x768 .f32) (g : Fin 2) (h : Fin 2) (w : BitVec 32)
    (hw : w = BitVec.ofNat 32 g) (inb inb') (r : Fin 256) (j : Fin 768) :
    k0_pay74 (F := Ideal) (iota Kind.tc S256x768 32 [1] iota_S256x768_d1_w32) w
      (View.ld S (Rect.unit (s := S8x2x256x768) ![(g : ℕ), (h : ℕ), 0, 0] S1x1x256x768.size inb))
      (View.ld B (Rect.unit (s := S2x256x768) ![(h : ℕ), 0, 0] S1x256x768.size inb')) (ix2 r j)
    = BandRow.weight (key S B (g.castLE (by decide)) h r) j := by
  subst hw
  pointwise [k0_pay74]
  have hm : Named.named (F := Ideal) (φ := .f32) κ "mask" 0xF149F2CA#32 = ⊥ :=
    IdealRules.named_const.ideal_named_scalar _ _ _ _ rfl
  simp only [masked, hm, BandRow.neg_inf]
  rfl

theorem weights_all (S : Vec Ideal S8x2x256x768 .f32) (B : Vec Ideal S2x256x768 .f32) (g : Fin 8) (hg : 2 ≤ (g : ℕ)) (h : Fin 2)
    (inb inb') (r : Fin 256) (j : Fin 768) :
    k0_pay80 (F := Ideal) (View.ld S (Rect.unit (s := S8x2x256x768) ![(g : ℕ), (h : ℕ), 0, 0] S1x1x256x768.size inb))
      (View.ld B (Rect.unit (s := S2x256x768) ![(h : ℕ), 0, 0] S1x256x768.size inb')) (ix2 r j)
    = BandRow.weight (key S B g h r) j := by
  pointwise [k0_pay80]
  have hk : key S B g h r = fun j => S (ix4 g h r j) + B (ix3 h r j) := funext fun j => if_pos (by omega)
  rw [hk, BandRow.neg_inf]
  rfl

theorem lanes_low (f : Fin 128 → EReal) :
    (∑ x : Fin 128, if (x : ℕ) < 64 then f x else 0) = ∑ d : Fin 64, f ⟨d, by omega⟩ := by
  refine (Fintype.sum_of_injective (fun d : Fin 64 => (⟨d, by omega⟩ : Fin 128)) (fun a b h => Fin.ext (Fin.mk.inj h)) _ _
    (fun x hx => if_neg fun h => hx ⟨⟨x, h⟩, rfl⟩) fun d => ?_).symm
  exact (if_pos d.isLt).symm

theorem lanes_high (f : Fin 128 → EReal) :
    (∑ x : Fin 128, if (x : ℕ) < 64 then 0 else f x) = ∑ d : Fin 64, f ⟨64 + d, by omega⟩ := by
  refine (Fintype.sum_of_injective (fun d : Fin 64 => (⟨64 + d, by omega⟩ : Fin 128))
    (fun a b h => Fin.ext (by have := Fin.mk.inj h; omega)) _ _
    (fun x hx => ?_) fun d => ?_).symm
  · by_cases h : (x : ℕ) < 64
    · exact if_pos h
    · exact absurd ⟨⟨(x : ℕ) - 64, by omega⟩, Fin.ext (by dsimp only; omega)⟩ hx
  · exact (if_neg (by dsimp only; omega)).symm

/-- A head's weighted values of a group over the head's weights, the weights summed against the row that holds ones. -/
def att (V : S2x10x128x256.Idx → EReal) (e : FVec Ideal S256x768 .bf16) (g : ℕ) (hg : g + 2 < 10) (h : ℕ) (hh : h < 2)
    (one : Fin 128) (r : Fin 256) (l : Fin 128) : EReal :=
  Ideal.div
    (∑ j : Fin 768, e (ix2 r j) * V (ix4 ⟨h, hh⟩ ⟨g + (j : ℕ) / 256, by have := j.isLt; omega⟩ l ⟨(j : ℕ) % 256, Nat.mod_lt _ (by decide)⟩))
    (∑ j : Fin 768, e (ix2 r j) * V (ix4 ⟨h, hh⟩ ⟨g + (j : ℕ) / 256, by have := j.isLt; omega⟩ one ⟨(j : ℕ) % 256, Nat.mod_lt _ (by decide)⟩))

/-- One group's output rows: each head's lanes normalised by themselves. -/
theorem grouped (V : Vec Ideal S2x10x128x256 .bf16) (e0 e1 : FVec Ideal S256x768 .bf16) (G : Vec Ideal S1x1x128 .f32)
    (g : ℕ) (hg : g + 2 < 10) (a b : ℕ) (ha : a < 2) (hb : b < 2) (a0 a1 a2 b0 b1 b2 : Fin 4 → ℕ) (i0 i1 i2 j0 j1 j2)
    (ea0 : a0 = ![a, g, 0, 0]) (ea1 : a1 = ![a, g + 1, 0, 0]) (ea2 : a2 = ![a, g + 2, 0, 0])
    (eb0 : b0 = ![b, g, 0, 0]) (eb1 : b1 = ![b, g + 1, 0, 0]) (eb2 : b2 = ![b, g + 2, 0, 0])
    (k : Fin 1) (r : Fin 256) (l : Fin 128) :
    k0_pay99 (F := Ideal) k0_pay41 e1
      (k0_pay95 e0 (View.ld V (Rect.unit (s := S2x10x128x256) a0 S1x1x128x256.size i0))
        (View.ld V (Rect.unit (s := S2x10x128x256) a1 S1x1x128x256.size i1))
        (View.ld V (Rect.unit (s := S2x10x128x256) a2 S1x1x128x256.size i2)))
      (k0_pay96 (View.ld V (Rect.unit (s := S2x10x128x256) b0 S1x1x128x256.size j0)))
      (k0_pay97 (View.ld V (Rect.unit (s := S2x10x128x256) b1 S1x1x128x256.size j1)))
      (k0_pay98 (View.ld V (Rect.unit (s := S2x10x128x256) b2 S1x1x128x256.size j2))) G (ix3 k r l)
    = if h : (l : ℕ) < 64 then BandRow.normed (fun d => att V e0 g hg a ha 64 r ⟨d, by omega⟩) (G (ix3 0 0 l)) ⟨l, h⟩
      else BandRow.normed (fun d => att V e1 g hg b hb 0 r ⟨64 + d, by omega⟩) (G (ix3 0 0 l)) ⟨(l : ℕ) - 64, by omega⟩ := by
  subst ea0 ea1 ea2 eb0 eb1 eb2
  pointwise [k0_pay99, k0_pay41, k0_pay95, k0_pay96, k0_pay97, k0_pay98]
  simp only [side, three_tiles V a g ha hg, three_tiles V b g hb hg]
  by_cases h : (l : ℕ) < 64
  · simp only [lanes_low, lanes_high, h, if_true, dif_pos]
    simp only [Fin.is_lt, if_true]
    rfl
  · obtain ⟨d, rfl⟩ : ∃ d : Fin 64, l = ⟨64 + d, Nat.add_lt_add_left d.isLt 64⟩ := ⟨⟨(l : ℕ) - 64, by omega⟩, Fin.ext (by dsimp only; omega)⟩
    simp only [lanes_low, lanes_high, h, if_false, dif_neg, not_false_eq_true]
    simp only [show ∀ d : Fin 64, ¬ 64 + (d : ℕ) < 64 from fun d => by omega, if_false, Nat.add_sub_cancel_left]
    rfl

/-- The values of the keys in front of a group, 0 before the sequence. -/
def val (X : Vec Ideal S1x1x2x64x2048 .f32) (g : Fin 8) (h : Fin 2) (d : Fin 64) (j : Fin 768) : EReal :=
  if h' : 512 ≤ (j : ℕ) + 256 * g then X (ix5 0 0 h d ⟨256 * (g : ℕ) + j - 512, by omega⟩) else 0

theorem vals_row (X : Vec Ideal S1x1x2x64x2048 .f32) (g : Fin 8) (h : Fin 2) (d : Fin 64) (j : Fin 768) (l : Fin 128)
    (hl : (l : ℕ) = 64 * h + d) (k : Fin 10) (hk : (k : ℕ) = g + (j : ℕ) / 256) (c : Fin 256) (hc : (c : ℕ) = (j : ℕ) % 256) :
    vals X (ix4 h k l c) = val X g h d j := by
  have hj := j.isLt
  have hd := d.isLt
  have hh := h.isLt
  by_cases h' : 512 ≤ (j : ℕ) + 256 * g
  · have hp : 2 ≤ (k : ℕ) ∧ (l : ℕ) / 64 = h := ⟨by omega, by omega⟩
    refine (dif_pos hp).trans ?_
    rw [val, dif_pos h']
    refine congrArg X ?_
    congr 1
    · exact Fin.ext (by show (l : ℕ) % 64 = d; omega)
    · exact Fin.ext (by show 256 * ((k : ℕ) - 2) + c = 256 * (g : ℕ) + j - 512; omega)
  · refine (held_else _ _ _ fun hv => ?_).trans ?_
    · have h1 : 2 ≤ (k : ℕ) := hv.1
      omega
    · rw [val, dif_neg h']
      exact if_neg (by show ¬ (l : ℕ) = (1 - (h : ℕ)) * 64; omega)

theorem vals_one (X : Vec Ideal S1x1x2x64x2048 .f32) (h : Fin 2) (l : Fin 128) (hl : (l : ℕ) = (1 - (h : ℕ)) * 64) (k : Fin 10)
    (c : Fin 256) : vals X (ix4 h k l c) = 1 := by
  have hh := h.isLt
  refine (held_else _ _ _ fun hv => ?_).trans (if_pos hl)
  have h1 : (l : ℕ) / 64 = h := hv.2
  omega

theorem att_late (X : Vec Ideal S1x1x2x64x2048 .f32) (e : FVec Ideal S256x768 .bf16) (g : Fin 8) (hg) (h : Fin 2) (one : Fin 128)
    (ho : (one : ℕ) = (1 - (h : ℕ)) * 64) (r : Fin 256) (d : Fin 64) (l : Fin 128) (hl : (l : ℕ) = 64 * h + d)
    (s : Fin 768 → EReal) (he : ∀ j, e (ix2 r j) = BandRow.weight s j) :
    att (vals X) e g hg h h.isLt one r l = BandRow.late s (val X g h) d := by
  unfold att BandRow.late
  refine congr (congrArg Ideal.div ?_) ?_
  · exact Finset.sum_congr rfl fun j _ => by rw [he, vals_row X g h d j l hl _ rfl _ rfl]
  · exact Finset.sum_congr rfl fun j _ => by rw [he, vals_one X h one ho, mul_one]

/-- The block of rows a grid point writes. -/
def blockOut (S : Vec Ideal S8x2x256x768 .f32) (X : Vec Ideal S1x1x2x64x2048 .f32) (B : Vec Ideal S2x256x768 .f32)
    (G : Vec Ideal S1x1x128 .f32) : Vec Ideal S1x2048x128 .bf16 := fun y =>
  have h1 : (y 1 : ℕ) < 2048 := (y 1).isLt
  have h2 : (y 2 : ℕ) < 128 := (y 2).isLt
  BandRow.normed (BandRow.late (key S B ⟨(y 1 : ℕ) / 256, by omega⟩ ⟨(y 2 : ℕ) / 64, by omega⟩ ⟨(y 1 : ℕ) % 256, by omega⟩)
    (val X ⟨(y 1 : ℕ) / 256, by omega⟩ ⟨(y 2 : ℕ) / 64, by omega⟩)) (G (ix3 0 0 (y 2))) ⟨(y 2 : ℕ) % 64, by omega⟩

theorem group_at (S : Vec Ideal S8x2x256x768 .f32) (X : Vec Ideal S1x1x2x64x2048 .f32) (B : Vec Ideal S2x256x768 .f32)
    (G : Vec Ideal S1x1x128 .f32) (g : Fin 8) (e0 e1 : FVec Ideal S256x768 .bf16)
    (he0 : ∀ r j, e0 (ix2 r j) = BandRow.weight (key S B g 0 r) j) (he1 : ∀ r j, e1 (ix2 r j) = BandRow.weight (key S B g 1 r) j)
    (a0 a1 a2 b0 b1 b2 : Fin 4 → ℕ) (i0 i1 i2 j0 j1 j2)
    (ea0 : a0 = ![0, (g : ℕ) + 0, 0, 0]) (ea1 : a1 = ![0, (g : ℕ) + 1, 0, 0]) (ea2 : a2 = ![0, (g : ℕ) + 2, 0, 0])
    (eb0 : b0 = ![1, (g : ℕ) + 0, 0, 0]) (eb1 : b1 = ![1, (g : ℕ) + 1, 0, 0]) (eb2 : b2 = ![1, (g : ℕ) + 2, 0, 0])
    (x : S1x256x128.Idx) (y : S1x2048x128.Idx) (h1 : (y 1 : ℕ) = 256 * g + x 1) (h2 : (y 2 : ℕ) = x 2) :
    k0_pay99 (F := Ideal) k0_pay41 e1
      (k0_pay95 e0 (View.ld (vals X) (Rect.unit (s := S2x10x128x256) a0 S1x1x128x256.size i0))
        (View.ld (vals X) (Rect.unit (s := S2x10x128x256) a1 S1x1x128x256.size i1))
        (View.ld (vals X) (Rect.unit (s := S2x10x128x256) a2 S1x1x128x256.size i2)))
      (k0_pay96 (View.ld (vals X) (Rect.unit (s := S2x10x128x256) b0 S1x1x128x256.size j0)))
      (k0_pay97 (View.ld (vals X) (Rect.unit (s := S2x10x128x256) b1 S1x1x128x256.size j1)))
      (k0_pay98 (View.ld (vals X) (Rect.unit (s := S2x10x128x256) b2 S1x1x128x256.size j2))) G x
    = blockOut S X B G y := by
  obtain ⟨k, r, l, rfl⟩ : ∃ (k : Fin 1) (r : Fin 256) (l : Fin 128), x = ix3 k r l := ⟨x 0, x 1, x 2, eq_ix3 x⟩
  obtain ⟨a, R, L, rfl⟩ : ∃ (a : Fin 1) (R : Fin 2048) (L : Fin 128), y = ix3 a R L := ⟨y 0, y 1, y 2, eq_ix3 y⟩
  have hR : (R : ℕ) = 256 * g + r := h1
  obtain rfl : L = l := Fin.ext h2
  have hr := r.isLt
  rw [grouped (vals X) e0 e1 G g (by omega) 0 1 (by omega) (by omega) a0 a1 a2 b0 b1 b2 i0 i1 i2 j0 j1 j2 ea0 ea1 ea2 eb0 eb1 eb2]
  unfold blockOut
  have eg : (⟨(R : ℕ) / 256, by omega⟩ : Fin 8) = g := Fin.ext (by dsimp only; omega)
  have er : (⟨(R : ℕ) % 256, by omega⟩ : Fin 256) = r := Fin.ext (by dsimp only; omega)
  split_ifs with h
  · have eh : (⟨(L : ℕ) / 64, by omega⟩ : Fin 2) = 0 := Fin.ext (by dsimp only; omega)
    have ed : (⟨(L : ℕ) % 64, by omega⟩ : Fin 64) = ⟨L, h⟩ := Fin.ext (by dsimp only; omega)
    show _ = BandRow.normed (BandRow.late (key S B ⟨(R : ℕ) / 256, _⟩ ⟨(L : ℕ) / 64, _⟩ ⟨(R : ℕ) % 256, _⟩)
      (val X ⟨(R : ℕ) / 256, _⟩ ⟨(L : ℕ) / 64, _⟩)) (G (ix3 0 0 L)) ⟨(L : ℕ) % 64, _⟩
    rw [eg, er, eh, ed]
    refine congrArg (BandRow.normed · _ _) (funext fun d => ?_)
    exact att_late X e0 g _ 0 64 rfl r d _ (by simp) _ (he0 r)
  · have eh : (⟨(L : ℕ) / 64, by omega⟩ : Fin 2) = 1 := Fin.ext (by show (L : ℕ) / 64 = 1; omega)
    have ed : (⟨(L : ℕ) % 64, by omega⟩ : Fin 64) = ⟨(L : ℕ) - 64, by omega⟩ := Fin.ext (by dsimp only; omega)
    show _ = BandRow.normed (BandRow.late (key S B ⟨(R : ℕ) / 256, _⟩ ⟨(L : ℕ) / 64, _⟩ ⟨(R : ℕ) % 256, _⟩)
      (val X ⟨(R : ℕ) / 256, _⟩ ⟨(L : ℕ) / 64, _⟩)) (G (ix3 0 0 L)) ⟨(L : ℕ) % 64, _⟩
    rw [eg, er, eh, ed]
    refine congrArg (BandRow.normed · _ _) (funext fun d => ?_)
    exact att_late X e1 g _ 1 0 rfl r d _ (by simp) _ (he1 r)

/-- The first score tile's group number as the body computes it. -/
theorem group_word (t : Fin cfg0.N) : ∀ g : Fin 2,
    Scalar.addi (Scalar.muli (BitVec.ofNat 32 (grid0.coords t 2)) 8#32) (BitVec.ofNat 32 g) = BitVec.ofNat 32 g := by
  rw [show (grid0.coords t 2 : ℕ) = 0 from Nat.lt_one_iff.mp (grid0.coords t 2).isLt]
  decide

set_option maxHeartbeats 4000000 in
/-- What a grid point leaves in its output block. -/
theorem out_at (c : Dev nD) (t : Fin cfg0.N) :
    outsAt0 m c t = blockOut (scores (iblk m c 0 t) (keys (iblk m c 1 t))) (iblk m c 2 t) (iblk m c 3 t)
      (View.ld (iblk m c 4 t) (Rect.unit (s := S1x1x128) ![0, 0, 0] ![1, 1, 128] inb_S1x1x128_S1x1x128_0_0_0)) := by
  have hk := keys_held m c t
  have hv := vals_held m c t
  have hs := scores_held m c t
  unfold stores at hk hv hs
  unfold outsAt0
  frame_open at hk hv hs
  frame_open
  rw [View.read_writes_junk_eq_canon]
  simp only [View.readAt_eq_ld, View.readCov_eq_canon', View.read_writes_junk_eq_canon, Memref.IsWhole.read_unread] at hk
  simp only [View.readAt_eq_ld, View.readCov_eq_canon', View.read_writes_junk_eq_canon, Memref.IsWhole.read_unread] at hv
  simp only [View.readAt_eq_ld, View.readCov_eq_canon', View.read_writes_junk_eq_canon, Memref.IsWhole.read_unread] at hs
  simp only [View.readAt_eq_ld, View.readCov_eq_canon', View.read_writes_junk_eq_canon, Memref.IsWhole.read_unread]
  simp only [hk] at hs
  simp only [hk, hv]
  simp only [hs]
  clear hk hv hs
  funext y
  iterate 8 refine canon_step (Val := Elt Ideal) _ _ _ _ _ y _ (fun h => ?_) (fun x hx => ?_)
  · exfalso
    have y0 : (y 0 : ℕ) < 1 := (y 0).isLt
    have y1 : (y 1 : ℕ) < 2048 := (y 1).isLt
    have y2 : (y 2 : ℕ) < 128 := (y 2).isLt
    have ht : ∀ a, (![0, 256 * ((y 1 : ℕ) / 256), 0] : Fin 3 → ℕ) a ≤ y a ∧
        (y a : ℕ) < (![0, 256 * ((y 1 : ℕ) / 256), 0] : Fin 3 → ℕ) a + S1x256x128.size a := by
      intro a
      fin_cases a <;> simp <;> omega
    rcases (by omega : (y 1 : ℕ) / 256 = 0 ∨ (y 1 : ℕ) / 256 = 1 ∨ (y 1 : ℕ) / 256 = 2 ∨ (y 1 : ℕ) / 256 = 3 ∨ (y 1 : ℕ) / 256 = 4
      ∨ (y 1 : ℕ) / 256 = 5 ∨ (y 1 : ℕ) / 256 = 6 ∨ (y 1 : ℕ) / 256 = 7) with e0 | e0 | e0 | e0 | e0 | e0 | e0 | e0 <;>
    · rw [e0] at ht
      contradiction
  · exact group_at _ _ _ _ 0 _ _ (fun r j => weights_masked _ _ 0 0 _ (group_word t 0) _ _ r j)
      (fun r j => weights_masked _ _ 0 1 _ (group_word t 0) _ _ r j) _ _ _ _ _ _ _ _ _ _ _ _ (off1 t 0 0) (off1 t 0 1) (off1 t 0 2) (off2 t 0 0)
      (off2 t 0 1) (off2 t 0 2) x y (hx 1) ((hx 2).trans (Nat.zero_add _))
  · exact group_at _ _ _ _ 1 _ _ (fun r j => weights_masked _ _ 1 0 _ (group_word t 1) _ _ r j)
      (fun r j => weights_masked _ _ 1 1 _ (group_word t 1) _ _ r j) _ _ _ _ _ _ _ _ _ _ _ _ (off1 t 1 0) (off1 t 1 1) (off1 t 1 2) (off2 t 1 0)
      (off2 t 1 1) (off2 t 1 2) x y (hx 1) ((hx 2).trans (Nat.zero_add _))
  · exact group_at _ _ _ _ 2 _ _ (fun r j => weights_all _ _ 2 (by decide) 0 _ _ r j)
      (fun r j => weights_all _ _ 2 (by decide) 1 _ _ r j) _ _ _ _ _ _ _ _ _ _ _ _ (off1 t 2 0) (off1 t 2 1) (off1 t 2 2) (off2 t 2 0)
      (off2 t 2 1) (off2 t 2 2) x y (hx 1) ((hx 2).trans (Nat.zero_add _))
  · exact group_at _ _ _ _ 3 _ _ (fun r j => weights_all _ _ 3 (by decide) 0 _ _ r j)
      (fun r j => weights_all _ _ 3 (by decide) 1 _ _ r j) _ _ _ _ _ _ _ _ _ _ _ _ (off1 t 3 0) (off1 t 3 1) (off1 t 3 2) (off2 t 3 0)
      (off2 t 3 1) (off2 t 3 2) x y (hx 1) ((hx 2).trans (Nat.zero_add _))
  · exact group_at _ _ _ _ 4 _ _ (fun r j => weights_all _ _ 4 (by decide) 0 _ _ r j)
      (fun r j => weights_all _ _ 4 (by decide) 1 _ _ r j) _ _ _ _ _ _ _ _ _ _ _ _ (off1 t 4 0) (off1 t 4 1) (off1 t 4 2) (off2 t 4 0)
      (off2 t 4 1) (off2 t 4 2) x y (hx 1) ((hx 2).trans (Nat.zero_add _))
  · exact group_at _ _ _ _ 5 _ _ (fun r j => weights_all _ _ 5 (by decide) 0 _ _ r j)
      (fun r j => weights_all _ _ 5 (by decide) 1 _ _ r j) _ _ _ _ _ _ _ _ _ _ _ _ (off1 t 5 0) (off1 t 5 1) (off1 t 5 2) (off2 t 5 0)
      (off2 t 5 1) (off2 t 5 2) x y (hx 1) ((hx 2).trans (Nat.zero_add _))
  · exact group_at _ _ _ _ 6 _ _ (fun r j => weights_all _ _ 6 (by decide) 0 _ _ r j)
      (fun r j => weights_all _ _ 6 (by decide) 1 _ _ r j) _ _ _ _ _ _ _ _ _ _ _ _ (off1 t 6 0) (off1 t 6 1) (off1 t 6 2) (off2 t 6 0)
      (off2 t 6 1) (off2 t 6 2) x y (hx 1) ((hx 2).trans (Nat.zero_add _))
  · exact group_at _ _ _ _ 7 _ _ (fun r j => weights_all _ _ 7 (by decide) 0 _ _ r j)
      (fun r j => weights_all _ _ 7 (by decide) 1 _ _ r j) _ _ _ _ _ _ _ _ _ _ _ _ (off1 t 7 0) (off1 t 7 1) (off1 t 7 2) (off2 t 7 0)
      (off2 t 7 1) (off2 t 7 2) x y (hx 1) ((hx 2).trans (Nat.zero_add _))

end Cert.KernelIdeal.Band
-- ==== Proof.BandArr.lean ====
module

public import proofs.«01_k».proof.Proof.BandOut

@[expose] public section

/-! # The array the chunk-band attention call returns -/

set_option maxRecDepth 16384

noncomputable section

namespace Cert.KernelIdeal.Band

open Cert.KernelIdeal Cert.KernelIdeal.Gen Idealize.ShloMosaic Idealize.ShloMosaic.TcCoe Idealize.SL.Sem
open Idealize.ShloMosaic.Pipeline (Dat)

variable (m : (ℓ : Loc nD τ sig) → Buf (Elt Ideal) ℓ)

theorem idx : ∀ t : Fin cfg0.N, win0_0.index t = ![t.val / 4, 0, t.val % 4] ∧ win0_1.index t = ![0, t.val / 4, t.val % 4, 0, 0]
    ∧ win0_2.index t = ![0, t.val / 4, t.val % 4, 0, 0] ∧ win0_3.index t = ![t.val % 4, 0, 0]
    ∧ win0_4.index t = ![0, 0, t.val % 4] ∧ win0_5.index t = ![t.val / 4, 0, t.val % 4] :=
  (by decide +kernel : ∀ t : Fin grid0.N, _)

/-- A grid point's sequence. -/
abbrev seq (t : Fin cfg0.N) : Fin 8 := ⟨t.val / 4, by have : t.val < 32 := t.isLt; omega⟩

/-- A lane of a grid point's head pair. -/
abbrev lane (t : Fin cfg0.N) (l : Fin 128) : Fin 512 := ⟨128 * (t.val % 4) + l.val, by omega⟩

/-- A head of a grid point's head pair. -/
abbrev head (t : Fin cfg0.N) (h : Fin 2) : Fin 8 := ⟨2 * (t.val % 4) + h.val, by omega⟩

theorem q_blk (c : Dev nD) (t : Fin cfg0.N) (r : Fin 2048) (l : Fin 128) : (iblk m c 0 t : FVec Ideal S1x2048x128 .bf16) (ix3 0 r l)
    = (m ((c.tc : Thread nD τ).loc main_arg0) : FVec Ideal S8x2048x512 .bf16) (ix3 (seq t) r (lane t l)) := by
  blk_point [iblk, V, idx t]

theorem k_blk (c : Dev nD) (t : Fin cfg0.N) (h : Fin 2) (d : Fin 64) (s : Fin 2048) :
    (iblk m c 1 t : FVec Ideal S1x1x2x64x2048 .f32) (ix5 0 0 h d s)
    = (m ((c.tc : Thread nD τ).loc main_arg1) : FVec Ideal S1x8x8x64x2048 .f32) (ix5 0 (seq t) (head t h) d s) := by
  blk_point [iblk, V, idx t]

theorem v_blk (c : Dev nD) (t : Fin cfg0.N) (h : Fin 2) (d : Fin 64) (s : Fin 2048) :
    (iblk m c 2 t : FVec Ideal S1x1x2x64x2048 .f32) (ix5 0 0 h d s)
    = (m ((c.tc : Thread nD τ).loc main_arg2) : FVec Ideal S1x8x8x64x2048 .f32) (ix5 0 (seq t) (head t h) d s) := by
  blk_point [iblk, V, idx t]

theorem g_blk (c : Dev nD) (t : Fin cfg0.N) (l : Fin 128) : (iblk m c 4 t : FVec Ideal S1x1x128 .f32) (ix3 0 0 l)
    = (m ((c.tc : Thread nD τ).loc main_arg5) : FVec Ideal S2x512 .f32) (ix2 0 (lane t l)) := by
  blk_point [iblk, V, idx t]

theorem out_blk (t : Fin cfg0.N) (r : Fin 2048) (l : Fin 128) :
    ((win0_5.blk t).view.emb (ix3 0 r l) : S8x2048x512.Idx) = ix3 (seq t) r (lane t l) := by
  blk_ext [idx t]

theorem b_blk (c : Dev nD) (t : Fin cfg0.N) (h : Fin 2) (r : Fin 256) (j : Fin 768) : (iblk m c 3 t : FVec Ideal S2x256x768 .f32) (ix3 h r j)
    = (V m c main_v19 : FVec Ideal S8x256x768 .f32) (ix3 (head t h) r j) := by
  blk_point [iblk, idx t]

/-! ## The bias array: four query chunks' rows of tiles, the band in each, minus infinity beside it -/

/-- A head's bias for a chunk at every distance before the last three of its band. -/
def farTile (c : Dev nD) : FVec Ideal S8x64x64 .f32 := broadcastInDim S8x64x64 ![0, 1, 2] bcast_S8x1x1_S8x64x64_0_1_2
  (broadcastInDim S8x1x1 ![0] bcast_S8_S8x1x1_0 (m ((c.tc : Thread nD τ).loc main_arg4)))

/-- A tile outside the band. -/
def outTile : FVec Ideal S8x64x64 .f32 := broadcastInDim S8x64x64 ![] bcast_S_S8x64x64 (constant S_ .f32 0xFF800000#32)

/-- The bias tiles of a band's last chunks, number 0 of 3. -/
def tail0 (c : Dev nD) : FVec Ideal S8x64x64 .f32 :=
  extractStridedSlice S8x64x64 ![0, 0, 0] (m ((c.tc : Thread nD τ).loc main_arg3)) slices_S8x64x192_S8x64x64_0_0_0

/-- The bias tiles of a band's last chunks, number 1 of 3. -/
def tail1 (c : Dev nD) : FVec Ideal S8x64x64 .f32 :=
  extractStridedSlice S8x64x64 ![0, 0, 64] (m ((c.tc : Thread nD τ).loc main_arg3)) slices_S8x64x192_S8x64x64_0_0_64

/-- The bias tiles of a band's last chunks, number 2 of 3. -/
def tail2 (c : Dev nD) : FVec Ideal S8x64x64 .f32 :=
  extractStridedSlice S8x64x64 ![0, 0, 128] (m ((c.tc : Thread nD τ).loc main_arg3)) slices_S8x64x192_S8x64x64_0_0_128

/-- Twelve tiles side by side, read at an entry. -/
theorem cat_tiles (f : Fin 12 → FVec Ideal S8x64x64 .f32) (k : Fin 12) (h : Fin 8) (p j : Fin 64) :
    concatenate S8x64x768 2 [⟨S8x64x64, f 0⟩, ⟨S8x64x64, f 1⟩, ⟨S8x64x64, f 2⟩, ⟨S8x64x64, f 3⟩, ⟨S8x64x64, f 4⟩, ⟨S8x64x64, f 5⟩,
      ⟨S8x64x64, f 6⟩, ⟨S8x64x64, f 7⟩, ⟨S8x64x64, f 8⟩, ⟨S8x64x64, f 9⟩, ⟨S8x64x64, f 10⟩, ⟨S8x64x64, f 11⟩]
      concatenates_S8x64x64_S8x64x64_S8x64x64_S8x64x64_S8x64x64_S8x64x64_S8x64x64_S8x64x64_S8x64x64_S8x64x64_S8x64x64_S8x64x64_S8x64x768_d2
      (ix3 h p ⟨64 * k.val + j.val, by omega⟩) = f k (ix3 h p j) :=
  concatenate_ofFn_apply (t := S8x64x768) (s₁ := S8x64x64) 2 f
    concatenates_S8x64x64_S8x64x64_S8x64x64_S8x64x64_S8x64x64_S8x64x64_S8x64x64_S8x64x64_S8x64x64_S8x64x64_S8x64x64_S8x64x64_S8x64x768_d2
    rfl 64 rfl _ k (by show (64 * k.val + j.val) / 64 = _; omega)
    (ix3 h p j) (by show j.val = (64 * k.val + j.val) % 64; omega)
    (fun b hb => by fin_cases b <;> first | rfl | exact absurd rfl hb)

/-- Four rows of tiles one below another, read at an entry. -/
theorem cat_rows (f : Fin 4 → FVec Ideal S8x64x768 .f32) (q : Fin 4) (h : Fin 8) (p : Fin 64) (j : Fin 768) :
    concatenate S8x256x768 1 [⟨S8x64x768, f 0⟩, ⟨S8x64x768, f 1⟩, ⟨S8x64x768, f 2⟩, ⟨S8x64x768, f 3⟩]
      concatenates_S8x64x768_S8x64x768_S8x64x768_S8x64x768_S8x256x768_d1
      (ix3 h ⟨64 * q.val + p.val, by omega⟩ j) = f q (ix3 h p j) :=
  concatenate_ofFn_apply (t := S8x256x768) (s₁ := S8x64x768) 1 f
    concatenates_S8x64x768_S8x64x768_S8x64x768_S8x64x768_S8x256x768_d1
    rfl 64 rfl _ q (by show (64 * q.val + p.val) / 64 = _; omega)
    (ix3 h p j) (by show p.val = (64 * q.val + p.val) % 64; omega)
    (fun b hb => by fin_cases b <;> first | rfl | exact absurd rfl hb)

theorem row0 (c : Dev nD) : (V m c main_v6 : FVec Ideal S8x64x768 .f32) = concatenate S8x64x768 2
    [⟨S8x64x64, farTile m c⟩, ⟨S8x64x64, farTile m c⟩, ⟨S8x64x64, farTile m c⟩, ⟨S8x64x64, farTile m c⟩, ⟨S8x64x64, farTile m c⟩, ⟨S8x64x64, farTile m c⟩, ⟨S8x64x64, tail0 m c⟩, ⟨S8x64x64, tail1 m c⟩, ⟨S8x64x64, tail2 m c⟩, ⟨S8x64x64, outTile⟩, ⟨S8x64x64, outTile⟩, ⟨S8x64x64, outTile⟩]
    concatenates_S8x64x64_S8x64x64_S8x64x64_S8x64x64_S8x64x64_S8x64x64_S8x64x64_S8x64x64_S8x64x64_S8x64x64_S8x64x64_S8x64x64_S8x64x768_d2 := by
  rfl

theorem row1 (c : Dev nD) : (V m c main_v10 : FVec Ideal S8x64x768 .f32) = concatenate S8x64x768 2
    [⟨S8x64x64, outTile⟩, ⟨S8x64x64, farTile m c⟩, ⟨S8x64x64, farTile m c⟩, ⟨S8x64x64, farTile m c⟩, ⟨S8x64x64, farTile m c⟩, ⟨S8x64x64, farTile m c⟩, ⟨S8x64x64, farTile m c⟩, ⟨S8x64x64, tail0 m c⟩, ⟨S8x64x64, tail1 m c⟩, ⟨S8x64x64, tail2 m c⟩, ⟨S8x64x64, outTile⟩, ⟨S8x64x64, outTile⟩]
    concatenates_S8x64x64_S8x64x64_S8x64x64_S8x64x64_S8x64x64_S8x64x64_S8x64x64_S8x64x64_S8x64x64_S8x64x64_S8x64x64_S8x64x64_S8x64x768_d2 := by
  rfl

theorem row2 (c : Dev nD) : (V m c main_v14 : FVec Ideal S8x64x768 .f32) = concatenate S8x64x768 2
    [⟨S8x64x64, outTile⟩, ⟨S8x64x64, outTile⟩, ⟨S8x64x64, farTile m c⟩, ⟨S8x64x64, farTile m c⟩, ⟨S8x64x64, farTile m c⟩, ⟨S8x64x64, farTile m c⟩, ⟨S8x64x64, farTile m c⟩, ⟨S8x64x64, farTile m c⟩, ⟨S8x64x64, tail0 m c⟩, ⟨S8x64x64, tail1 m c⟩, ⟨S8x64x64, tail2 m c⟩, ⟨S8x64x64, outTile⟩]
    concatenates_S8x64x64_S8x64x64_S8x64x64_S8x64x64_S8x64x64_S8x64x64_S8x64x64_S8x64x64_S8x64x64_S8x64x64_S8x64x64_S8x64x64_S8x64x768_d2 := by
  rfl

theorem row3 (c : Dev nD) : (V m c main_v18 : FVec Ideal S8x64x768 .f32) = concatenate S8x64x768 2
    [⟨S8x64x64, outTile⟩, ⟨S8x64x64, outTile⟩, ⟨S8x64x64, outTile⟩, ⟨S8x64x64, farTile m c⟩, ⟨S8x64x64, farTile m c⟩, ⟨S8x64x64, farTile m c⟩, ⟨S8x64x64, farTile m c⟩, ⟨S8x64x64, farTile m c⟩, ⟨S8x64x64, farTile m c⟩, ⟨S8x64x64, tail0 m c⟩, ⟨S8x64x64, tail1 m c⟩, ⟨S8x64x64, tail2 m c⟩]
    concatenates_S8x64x64_S8x64x64_S8x64x64_S8x64x64_S8x64x64_S8x64x64_S8x64x64_S8x64x64_S8x64x64_S8x64x64_S8x64x64_S8x64x64_S8x64x768_d2 := by
  rfl

theorem rows (c : Dev nD) : (V m c main_v19 : FVec Ideal S8x256x768 .f32) = concatenate S8x256x768 1
    [⟨S8x64x768, V m c main_v6⟩, ⟨S8x64x768, V m c main_v10⟩, ⟨S8x64x768, V m c main_v14⟩, ⟨S8x64x768, V m c main_v18⟩]
    concatenates_S8x64x768_S8x64x768_S8x64x768_S8x64x768_S8x256x768_d1 := by
  rfl

/-- The bias of query chunk `q` of four over key chunk `k` of twelve, at query `p` and key `j` of the two chunks. -/
def tile (c : Dev nD) (q : Fin 4) (k : Fin 12) (h : Fin 8) (p j : Fin 64) : EReal :=
  if q.val ≤ k.val ∧ k.val < q.val + 6 then (m ((c.tc : Thread nD τ).loc main_arg4) : FVec Ideal S8 .f32) (ix1 h)
  else if h' : q.val + 6 ≤ k.val ∧ k.val < q.val + 9 then (m ((c.tc : Thread nD τ).loc main_arg3) : FVec Ideal S8x64x192 .f32)
    (ix3 h p ⟨64 * (k.val - q.val - 6) + j.val, by omega⟩)
  else ⊥

theorem out_val (y : S8x64x64.Idx) : outTile y = (⊥ : EReal) := BandRow.neg_inf

theorem far_val (c : Dev nD) (h : Fin 8) (p j : Fin 64) :
    farTile m c (ix3 h p j) = (m ((c.tc : Thread nD τ).loc main_arg4) : FVec Ideal S8 .f32) (ix1 h) := by
  unfold farTile
  pointwise

theorem tail0_val (c : Dev nD) (h : Fin 8) (p j : Fin 64) : tail0 m c (ix3 h p j)
    = (m ((c.tc : Thread nD τ).loc main_arg3) : FVec Ideal S8x64x192 .f32) (ix3 h p ⟨0 + j.val, by omega⟩) := by
  unfold tail0
  pointwise

theorem tail1_val (c : Dev nD) (h : Fin 8) (p j : Fin 64) : tail1 m c (ix3 h p j)
    = (m ((c.tc : Thread nD τ).loc main_arg3) : FVec Ideal S8x64x192 .f32) (ix3 h p ⟨64 + j.val, by omega⟩) := by
  unfold tail1
  pointwise

theorem tail2_val (c : Dev nD) (h : Fin 8) (p j : Fin 64) : tail2 m c (ix3 h p j)
    = (m ((c.tc : Thread nD τ).loc main_arg3) : FVec Ideal S8x64x192 .f32) (ix3 h p ⟨128 + j.val, by omega⟩) := by
  unfold tail2
  pointwise

theorem row0_apply (c : Dev nD) (k : Fin 12) (h : Fin 8) (p j : Fin 64) :
    (V m c main_v6 : FVec Ideal S8x64x768 .f32) (ix3 h p ⟨64 * k.val + j.val, by omega⟩) = tile m c 0 k h p j :=
  (congrFun (row0 m c) _).trans <| (cat_tiles ![farTile m c, farTile m c, farTile m c, farTile m c, farTile m c, farTile m c, tail0 m c, tail1 m c, tail2 m c, outTile, outTile, outTile] k h p j).trans <| by
    fin_cases k <;> simp [tile, out_val, far_val, tail0_val, tail1_val, tail2_val]

theorem row1_apply (c : Dev nD) (k : Fin 12) (h : Fin 8) (p j : Fin 64) :
    (V m c main_v10 : FVec Ideal S8x64x768 .f32) (ix3 h p ⟨64 * k.val + j.val, by omega⟩) = tile m c 1 k h p j :=
  (congrFun (row1 m c) _).trans <| (cat_tiles ![outTile, farTile m c, farTile m c, farTile m c, farTile m c, farTile m c, farTile m c, tail0 m c, tail1 m c, tail2 m c, outTile, outTile] k h p j).trans <| by
    fin_cases k <;> simp [tile, out_val, far_val, tail0_val, tail1_val, tail2_val]

theorem row2_apply (c : Dev nD) (k : Fin 12) (h : Fin 8) (p j : Fin 64) :
    (V m c main_v14 : FVec Ideal S8x64x768 .f32) (ix3 h p ⟨64 * k.val + j.val, by omega⟩) = tile m c 2 k h p j :=
  (congrFun (row2 m c) _).trans <| (cat_tiles ![outTile, outTile, farTile m c, farTile m c, farTile m c, farTile m c, farTile m c, farTile m c, tail0 m c, tail1 m c, tail2 m c, outTile] k h p j).trans <| by
    fin_cases k <;> simp [tile, out_val, far_val, tail0_val, tail1_val, tail2_val]

theorem row3_apply (c : Dev nD) (k : Fin 12) (h : Fin 8) (p j : Fin 64) :
    (V m c main_v18 : FVec Ideal S8x64x768 .f32) (ix3 h p ⟨64 * k.val + j.val, by omega⟩) = tile m c 3 k h p j :=
  (congrFun (row3 m c) _).trans <| (cat_tiles ![outTile, outTile, outTile, farTile m c, farTile m c, farTile m c, farTile m c, farTile m c, farTile m c, tail0 m c, tail1 m c, tail2 m c] k h p j).trans <| by
    fin_cases k <;> simp [tile, out_val, far_val, tail0_val, tail1_val, tail2_val]

theorem bias_apply (c : Dev nD) (q : Fin 4) (k : Fin 12) (h : Fin 8) (p j : Fin 64) :
    (V m c main_v19 : FVec Ideal S8x256x768 .f32) (ix3 h ⟨64 * q.val + p.val, by omega⟩ ⟨64 * k.val + j.val, by omega⟩)
    = tile m c q k h p j :=
  (congrFun (rows m c) _).trans <| (cat_rows ![V m c main_v6, V m c main_v10, V m c main_v14, V m c main_v18] q h p _).trans <| by
    fin_cases q
    · exact row0_apply m c k h p j
    · exact row1_apply m c k h p j
    · exact row2_apply m c k h p j
    · exact row3_apply m c k h p j

end Cert.KernelIdeal.Band
-- ==== Proof.BandEq.lean ====
module

public import proofs.«01_k».proof.Proof.BandRow

@[expose] public section

/-! # One query's attention to its band of nine chunks, as the problem states it

A chunk holds 64 positions. A query of chunk `n` sees the eight chunks before its own and its own: 576 keys, key `j` at
position `64 n + j - 512`, and a key before the sequence's start is masked. -/

noncomputable section

namespace BandRow

open Idealize.ShloMosaic

/-- A query's score of each key of its band: minus infinity before the start, otherwise the product with the key and the bias. -/
def score (q : Fin 64 → EReal) (k : Fin 64 → Fin 2048 → EReal) (far : EReal) (tiles : Fin 192 → EReal) (n : Fin 32) (j : Fin 576) : EReal :=
  if h : 512 ≤ 64 * n.val + j.val then
    (∑ d, q d * k d ⟨64 * n.val + j.val - 512, by omega⟩) + (if h' : j.val < 384 then far else tiles ⟨j.val - 384, by omega⟩)
  else ⊥

/-- The values of a band's keys: zero before the start. -/
def value (v : Fin 64 → Fin 2048 → EReal) (n : Fin 32) (d : Fin 64) (j : Fin 576) : EReal :=
  if h : 512 ≤ 64 * n.val + j.val then v d ⟨64 * n.val + j.val - 512, by omega⟩ else 0

/-- The normalised attention of one query and head. -/
def out (q : Fin 64 → EReal) (k v : Fin 64 → Fin 2048 → EReal) (far : EReal) (tiles : Fin 192 → EReal) (g : Fin 64 → EReal) (n : Fin 32)
    (d : Fin 64) : EReal := normed (soft (score q k far tiles n) (value v n)) (g d) d

theorem out_congr {q q' : Fin 64 → EReal} {k k' v v' : Fin 64 → Fin 2048 → EReal} {far far' : EReal} {tiles tiles' : Fin 192 → EReal}
    {g g' : Fin 64 → EReal} (hq : ∀ d, q d = q' d) (hk : ∀ d j, k d j = k' d j) (hv : ∀ d j, v d j = v' d j) (hf : far = far')
    (ht : ∀ j, tiles j = tiles' j) (hg : ∀ d, g d = g' d) (n : Fin 32) (d : Fin 64) :
    out q k v far tiles g n d = out q' k' v' far' tiles' g' n d := by
  rw [funext hq, funext fun d => funext (hk d), funext fun d => funext (hv d), hf, funext ht, funext hg]

/-- The same from the 768 keys of a group of four query chunks, of which the query's band is 576. -/
theorem out_of_group (q : Fin 64 → EReal) (k v : Fin 64 → Fin 2048 → EReal) (far : EReal) (tiles : Fin 192 → EReal) (g : Fin 64 → EReal)
    (n : Fin 32) (d : Fin 64) (S : Fin 768 → EReal) (X : Fin 64 → Fin 768 → EReal)
    (hS : ∀ j : Fin 576, S ⟨64 * (n.val % 4) + j.val, by omega⟩ = score q k far tiles n j)
    (hO : ∀ j : Fin 768, ¬ (64 * (n.val % 4) ≤ j.val ∧ j.val < 64 * (n.val % 4) + 576) → S j = ⊥)
    (hX : ∀ (d : Fin 64) (j : Fin 576), X d ⟨64 * (n.val % 4) + j.val, by omega⟩ = value v n d j) :
    normed (late S X) (g d) d = out q k v far tiles g n d := by
  have he : Function.Injective (fun j : Fin 576 => (⟨64 * (n.val % 4) + j.val, by omega⟩ : Fin 768)) := by
    intro a b h
    have := congrArg Fin.val h
    exact Fin.ext (by simpa using this)
  rw [late_narrow _ he S (score q k far tiles n) hS (fun j hj => hO j fun hb => hj
    ⟨⟨j.val - 64 * (n.val % 4), by omega⟩, Fin.ext (by show 64 * (n.val % 4) + (j.val - 64 * (n.val % 4)) = j.val; omega)⟩) X (value v n) hX]
  exact late_soft _ _ _ _

end BandRow
-- ==== Proof.BandFinal.lean ====
module

public import proofs.«01_k».proof.Proof.BandArr
public import proofs.«01_k».proof.Proof.BandEq

@[expose] public section

/-! # The array of the chunk-band attention call is the attention of every query -/

set_option maxRecDepth 16384

noncomputable section

namespace Cert.KernelIdeal.Band

open Cert.KernelIdeal Cert.KernelIdeal.Gen Idealize.ShloMosaic Idealize.ShloMosaic.TcCoe Idealize.SL.Sem
open Idealize.ShloMosaic.Pipeline (Dat)

/-- A key at or after the start: only its head's half of the lanes counts. -/
theorem scores_keys (Q : Vec Ideal S1x2048x128 .bf16) (X : Vec Ideal S1x1x2x64x2048 .f32) (g : Fin 8) (h : Fin 2) (r : Fin 256) (j : Fin 768)
    (hj : 512 ≤ j.val + 256 * g.val) : scores Q (keys X) (ix4 g h r j)
    = ∑ d : Fin 64, Q (ix3 0 ⟨256 * g.val + r.val, by omega⟩ ⟨64 * h.val + d.val, by omega⟩)
      * X (ix5 0 0 h d ⟨256 * g.val + j.val - 512, by omega⟩) := by
  refine (Fintype.sum_of_injective (fun d : Fin 64 => (⟨64 * h.val + d.val, by omega⟩ : Fin 128)) ?_ _ _ ?_ ?_).symm
  · intro a b e
    have := congrArg Fin.val e
    exact Fin.ext (by simpa using this)
  · intro k hk
    have hz : keys X (ix4 h ⟨g.val + j.val / 256, by omega⟩ k ⟨j.val % 256, Nat.mod_lt _ (by decide)⟩) = 0 :=
      held_else _ _ _ fun hc => hk ⟨⟨k.val - 64 * h.val, by have h2 : k.val / 64 = h.val := hc.2; omega⟩,
        Fin.ext (by have h2 : k.val / 64 = h.val := hc.2; show 64 * h.val + (k.val - 64 * h.val) = k.val; omega)⟩
    exact (congrArg (_ * ·) hz).trans (mul_zero _)
  · intro d
    refine congrArg (_ * ·) (Eq.symm ?_)
    refine (dif_pos (c := 2 ≤ g.val + j.val / 256 ∧ (64 * h.val + d.val) / 64 = h.val) ⟨by omega, by omega⟩).trans ?_
    refine congrArg X ?_
    refine congrArg₂ (fun a b => ix5 (0 : Fin 1) (0 : Fin 1) h a b) (Fin.ext ?_) (Fin.ext ?_)
    · show (64 * h.val + d.val) % 64 = d.val
      omega
    · show 256 * (g.val + j.val / 256 - 2) + j.val % 256 = 256 * g.val + j.val - 512
      omega

variable (m : (ℓ : Loc nD τ sig) → Buf (Elt Ideal) ℓ)

/-- The result at sequence `s`, position `r` and head `h`. -/
def headOut (c : Dev nD) (s : Fin 8) (r : Fin 2048) (h : Fin 8) (d : Fin 64) : EReal :=
  BandRow.out (fun d => (m ((c.tc : Thread nD τ).loc main_arg0) : FVec Ideal S8x2048x512 .bf16) (ix3 s r ⟨64 * h.val + d.val, by omega⟩))
    (fun d j => (m ((c.tc : Thread nD τ).loc main_arg1) : FVec Ideal S1x8x8x64x2048 .f32) (ix5 0 s h d j))
    (fun d j => (m ((c.tc : Thread nD τ).loc main_arg2) : FVec Ideal S1x8x8x64x2048 .f32) (ix5 0 s h d j))
    ((m ((c.tc : Thread nD τ).loc main_arg4) : FVec Ideal S8 .f32) (ix1 h))
    (fun j => (m ((c.tc : Thread nD τ).loc main_arg3) : FVec Ideal S8x64x192 .f32) (ix3 h ⟨r.val % 64, Nat.mod_lt _ (by decide)⟩ j))
    (fun d => (m ((c.tc : Thread nD τ).loc main_arg5) : FVec Ideal S2x512 .f32) (ix2 0 ⟨64 * h.val + d.val, by omega⟩))
    ⟨r.val / 64, by omega⟩ d

/-- The result: every query's normalised attention to its band. -/
def result (c : Dev nD) : Buf (Elt Ideal) ((c.tc : Thread nD τ).loc main_v21) := fun i : S8x2048x512.Idx =>
  headOut m c (i 0) (i 1) ⟨(i 2).val / 64, by have h : (i 2).val < 512 := (i 2).isLt; omega⟩ ⟨(i 2).val % 64, Nat.mod_lt _ (by decide)⟩

/-- The bias array at a query of chunk `q` of its group. -/
theorem bias_at (c : Dev nD) (h : Fin 8) (r : Fin 256) (j : Fin 768) : (V m c main_v19 : FVec Ideal S8x256x768 .f32) (ix3 h r j)
    = tile m c ⟨r.val / 64, by omega⟩ ⟨j.val / 64, by omega⟩ h ⟨r.val % 64, Nat.mod_lt _ (by decide)⟩ ⟨j.val % 64, Nat.mod_lt _ (by decide)⟩ :=
  (congrArg₂ (fun a b => (V m c main_v19 : FVec Ideal S8x256x768 .f32) (ix3 h a b)) (Fin.ext (Nat.div_add_mod r.val 64).symm)
    (Fin.ext (Nat.div_add_mod j.val 64).symm)).trans (bias_apply m c _ _ h _ _)

/-- A block's row is the attention of its queries. -/
theorem block_row (c : Dev nD) (t : Fin cfg0.N) (r : Fin 2048) (l : Fin 128) :
    blockOut (scores (iblk m c 0 t) (keys (iblk m c 1 t))) (iblk m c 2 t) (iblk m c 3 t)
      (View.ld (iblk m c 4 t) (Rect.unit (s := S1x1x128) ![0, 0, 0] ![1, 1, 128] inb_S1x1x128_S1x1x128_0_0_0)) (ix3 0 r l)
    = headOut m c (seq t) r (head t ⟨l.val / 64, by omega⟩) ⟨l.val % 64, Nat.mod_lt _ (by decide)⟩ := by
  have hg : View.ld (iblk m c 4 t) (Rect.unit (s := S1x1x128) ![0, 0, 0] ![1, 1, 128] inb_S1x1x128_S1x1x128_0_0_0) (ix3 0 0 l)
      = (m ((c.tc : Thread nD τ).loc main_arg5) : FVec Ideal S2x512 .f32)
        (ix2 0 ⟨64 * (head t ⟨l.val / 64, by omega⟩).val + l.val % 64, by show 64 * (2 * (t.val % 4) + l.val / 64) + l.val % 64 < 512; omega⟩) := by
    have e := g_blk m c t l
    refine Eq.trans ?_ (e.trans ?_)
    · pointwise
    · refine congrArg (fun a => (m ((c.tc : Thread nD τ).loc main_arg5) : FVec Ideal S2x512 .f32) (ix2 0 a)) (Fin.ext ?_)
      show 128 * (t.val % 4) + l.val = 64 * (2 * (t.val % 4) + l.val / 64) + l.val % 64
      omega
  refine (congrArg (fun a => BandRow.normed _ a _) hg).trans ?_
  refine BandRow.out_of_group _ _ _ _ _ (fun d => (m ((c.tc : Thread nD τ).loc main_arg5) : FVec Ideal S2x512 .f32)
    (ix2 0 ⟨64 * (head t ⟨l.val / 64, by omega⟩).val + d.val, by have := (head t ⟨l.val / 64, by omega⟩).isLt; omega⟩))
    ⟨r.val / 64, by omega⟩ ⟨l.val % 64, Nat.mod_lt _ (by decide)⟩ _ _ (fun j => ?_) (fun j hj => ?_) (fun d j => ?_)
  · have hj := j.isLt
    by_cases hb : 512 ≤ 64 * (r.val / 64) + j.val
    · refine (if_pos (by show 512 ≤ (64 * (r.val / 64 % 4) + j.val) + 256 * (r.val / 256); omega)).trans ?_
      refine Eq.trans ?_ (dif_pos hb).symm
      refine congrArg₂ (· + ·) ?_ ?_
      · refine (scores_keys _ _ _ _ _ _ (by show 512 ≤ (64 * (r.val / 64 % 4) + j.val) + 256 * (r.val / 256); omega)).trans ?_
        refine Finset.sum_congr rfl fun d _ => congrArg₂ (· * ·) ((q_blk m c t _ _).trans ?_) ((k_blk m c t _ _ _).trans ?_)
        · refine congrArg₂ (fun a b => (m ((c.tc : Thread nD τ).loc main_arg0) : FVec Ideal S8x2048x512 .bf16) (ix3 (seq t) a b))
            (Fin.ext ?_) (Fin.ext ?_)
          · show 256 * (r.val / 256) + r.val % 256 = r.val
            omega
          · show 128 * (t.val % 4) + (64 * (l.val / 64) + d.val) = 64 * (2 * (t.val % 4) + l.val / 64) + d.val
            omega
        · refine congrArg (fun a => (m ((c.tc : Thread nD τ).loc main_arg1) : FVec Ideal S1x8x8x64x2048 .f32) (ix5 0 (seq t) _ d a)) (Fin.ext ?_)
          show 256 * (r.val / 256) + (64 * (r.val / 64 % 4) + j.val) - 512 = 64 * (r.val / 64) + j.val - 512
          omega
      · refine (b_blk m c t _ _ _).trans ((bias_at m c _ _ _).trans ?_)
        by_cases hf : j.val < 384
        · refine Eq.trans ?_ (dif_pos hf).symm
          refine if_pos ?_
          show r.val % 256 / 64 ≤ (64 * (r.val / 64 % 4) + j.val) / 64 ∧ (64 * (r.val / 64 % 4) + j.val) / 64 < r.val % 256 / 64 + 6
          omega
        · refine (if_neg ?_).trans ((dif_pos ?_).trans (Eq.trans ?_ (dif_neg hf).symm))
          · show ¬ (r.val % 256 / 64 ≤ (64 * (r.val / 64 % 4) + j.val) / 64 ∧ (64 * (r.val / 64 % 4) + j.val) / 64 < r.val % 256 / 64 + 6)
            omega
          · show r.val % 256 / 64 + 6 ≤ (64 * (r.val / 64 % 4) + j.val) / 64 ∧ (64 * (r.val / 64 % 4) + j.val) / 64 < r.val % 256 / 64 + 9
            omega
          · refine congrArg₂ (fun a b => (m ((c.tc : Thread nD τ).loc main_arg3) : FVec Ideal S8x64x192 .f32) (ix3 _ a b)) (Fin.ext ?_) (Fin.ext ?_)
            · show r.val % 256 % 64 = r.val % 64
              omega
            · show 64 * ((64 * (r.val / 64 % 4) + j.val) / 64 - r.val % 256 / 64 - 6) + (64 * (r.val / 64 % 4) + j.val) % 64 = j.val - 384
              omega
    · refine Eq.trans ?_ (dif_neg hb).symm
      exact if_neg (by show ¬ 512 ≤ (64 * (r.val / 64 % 4) + j.val) + 256 * (r.val / 256); omega)
  · have hn : ¬ (64 * (r.val / 64 % 4) ≤ j.val ∧ j.val < 64 * (r.val / 64 % 4) + 576) := hj
    by_cases hb : 512 ≤ j.val + 256 * (r.val / 256)
    · refine (if_pos hb).trans ?_
      refine (congrArg (_ + ·) ((b_blk m c t _ _ _).trans ((bias_at m c _ _ _).trans ?_))).trans (EReal.add_bot _)
      refine (if_neg ?_).trans (dif_neg ?_)
      · show ¬ (r.val % 256 / 64 ≤ j.val / 64 ∧ j.val / 64 < r.val % 256 / 64 + 6)
        omega
      · show ¬ (r.val % 256 / 64 + 6 ≤ j.val / 64 ∧ j.val / 64 < r.val % 256 / 64 + 9)
        omega
    · exact if_neg hb
  · by_cases hb : 512 ≤ 64 * (r.val / 64) + j.val
    · refine (dif_pos (by show 512 ≤ (64 * (r.val / 64 % 4) + j.val) + 256 * (r.val / 256); omega)).trans ?_
      refine Eq.trans ((v_blk m c t _ _ _).trans ?_) (dif_pos hb).symm
      refine congrArg (fun a => (m ((c.tc : Thread nD τ).loc main_arg2) : FVec Ideal S1x8x8x64x2048 .f32) (ix5 0 (seq t) _ d a)) (Fin.ext ?_)
      show 256 * (r.val / 256) + (64 * (r.val / 64 % 4) + j.val) - 512 = 64 * (r.val / 64) + j.val - 512
      omega
    · refine Eq.trans ?_ (dif_neg hb).symm
      exact dif_neg (by show ¬ 512 ≤ (64 * (r.val / 64 % 4) + j.val) + 256 * (r.val / 256); omega)

theorem final (c : Dev nD) : (dats m 0 c).arrAt 5 (cfgs 0).N = result m c := by
  refine (dats m 0 c).arrAt_eq_of_covers 5 _ (by decide +kernel) fun t hf y => ?_
  blk_simp
  rw [after0_5, out_at]
  obtain ⟨r, l, rfl⟩ : ∃ (r : Fin 2048) (l : Fin 128), y = ix3 0 r l := ⟨y 1, y 2, by
    have h0 : (y 0 : ℕ) < 1 := (y 0).isLt
    refine (eq_ix3 y).trans (congrArg (fun a : Fin 1 => (ix3 a (y 1) (y 2) : S1x2048x128.Idx)) (Fin.ext ?_))
    show (y 0 : ℕ) = 0
    omega⟩
  refine (block_row m c t r l).trans ?_
  refine Eq.trans ?_ (congrArg (result m c) (out_blk t r l)).symm
  refine congrArg₂ (headOut m c (seq t) r) (Fin.ext ?_) (Fin.ext ?_)
  · show 2 * (t.val % 4) + l.val / 64 = (128 * (t.val % 4) + l.val) / 64
    omega
  · show l.val % 64 = (128 * (t.val % 4) + l.val) % 64
    omega

end Cert.KernelIdeal.Band
-- ==== Proof.BandRef.lean ====
module

public import proofs.«01_k».proof.Proof.BandEq
public import proofs.«01_k».proof.Proof.Gen.ReferenceIdeal.Run

@[expose] public section

/-! # The chunk-band attention's reference, query by query -/

set_option maxRecDepth 16384

noncomputable section

namespace Cert.ReferenceIdeal.Value

open Cert.ReferenceIdeal Cert.ReferenceIdeal.Gen Idealize.ShloMosaic Idealize.ShloMosaic.TcCoe Idealize.SL.Sem

/-- Nine arrays of chunks joined along the positions, read at an entry. -/
theorem cat_chunks (f : Fin 9 → FVec Ideal S8x32x64x8x64 .f32) (s : Fin 8) (n : Fin 32) (i : Fin 9) (p : Fin 64) (h : Fin 8) (d : Fin 64) :
    concatenate S8x32x576x8x64 2 [⟨S8x32x64x8x64, f 0⟩, ⟨S8x32x64x8x64, f 1⟩, ⟨S8x32x64x8x64, f 2⟩, ⟨S8x32x64x8x64, f 3⟩, ⟨S8x32x64x8x64, f 4⟩, ⟨S8x32x64x8x64, f 5⟩, ⟨S8x32x64x8x64, f 6⟩, ⟨S8x32x64x8x64, f 7⟩, ⟨S8x32x64x8x64, f 8⟩]
      concatenates_S8x32x64x8x64_S8x32x64x8x64_S8x32x64x8x64_S8x32x64x8x64_S8x32x64x8x64_S8x32x64x8x64_S8x32x64x8x64_S8x32x64x8x64_S8x32x64x8x64_S8x32x576x8x64_d2
      (ix5 s n ⟨64 * i.val + p.val, by omega⟩ h d) = f i (ix5 s n p h d) :=
  concatenate_ofFn_apply (t := S8x32x576x8x64) (s₁ := S8x32x64x8x64) 2 f
    concatenates_S8x32x64x8x64_S8x32x64x8x64_S8x32x64x8x64_S8x32x64x8x64_S8x32x64x8x64_S8x32x64x8x64_S8x32x64x8x64_S8x32x64x8x64_S8x32x64x8x64_S8x32x576x8x64_d2
    rfl 64 rfl _ i (by show (64 * i.val + p.val) / 64 = _; omega)
    (ix5 s n p h d) (by show p.val = (64 * i.val + p.val) % 64; omega)
    (fun b hb => by fin_cases b <;> first | rfl | exact absurd rfl hb)

/-- Each chunk's band: the nine chunks that end with it. -/
def band (x : FVec Ideal S8x40x64x8x64 .f32) : FVec Ideal S8x32x576x8x64 .f32 :=
  concatenate S8x32x576x8x64 2 [
      ⟨S8x32x64x8x64, (extractStridedSlice S8x32x64x8x64 ![0, 0, 0, 0, 0] x slices_S8x40x64x8x64_S8x32x64x8x64_0_0_0_0_0)⟩,
      ⟨S8x32x64x8x64, (extractStridedSlice S8x32x64x8x64 ![0, 1, 0, 0, 0] x slices_S8x40x64x8x64_S8x32x64x8x64_0_1_0_0_0)⟩,
      ⟨S8x32x64x8x64, (extractStridedSlice S8x32x64x8x64 ![0, 2, 0, 0, 0] x slices_S8x40x64x8x64_S8x32x64x8x64_0_2_0_0_0)⟩,
      ⟨S8x32x64x8x64, (extractStridedSlice S8x32x64x8x64 ![0, 3, 0, 0, 0] x slices_S8x40x64x8x64_S8x32x64x8x64_0_3_0_0_0)⟩,
      ⟨S8x32x64x8x64, (extractStridedSlice S8x32x64x8x64 ![0, 4, 0, 0, 0] x slices_S8x40x64x8x64_S8x32x64x8x64_0_4_0_0_0)⟩,
      ⟨S8x32x64x8x64, (extractStridedSlice S8x32x64x8x64 ![0, 5, 0, 0, 0] x slices_S8x40x64x8x64_S8x32x64x8x64_0_5_0_0_0)⟩,
      ⟨S8x32x64x8x64, (extractStridedSlice S8x32x64x8x64 ![0, 6, 0, 0, 0] x slices_S8x40x64x8x64_S8x32x64x8x64_0_6_0_0_0)⟩,
      ⟨S8x32x64x8x64, (extractStridedSlice S8x32x64x8x64 ![0, 7, 0, 0, 0] x slices_S8x40x64x8x64_S8x32x64x8x64_0_7_0_0_0)⟩,
      ⟨S8x32x64x8x64, (extractStridedSlice S8x32x64x8x64 ![0, 8, 0, 0, 0] x slices_S8x40x64x8x64_S8x32x64x8x64_0_8_0_0_0)⟩]
    concatenates_S8x32x64x8x64_S8x32x64x8x64_S8x32x64x8x64_S8x32x64x8x64_S8x32x64x8x64_S8x32x64x8x64_S8x32x64x8x64_S8x32x64x8x64_S8x32x64x8x64_S8x32x576x8x64_d2

theorem slices_at : ∀ i : Fin 9, Shape.Slices S8x40x64x8x64 ![0, i.val, 0, 0, 0] S8x32x64x8x64 := by decide

/-- The chunks that stand `i` before the last eight. -/
def shifted (x : FVec Ideal S8x40x64x8x64 .f32) (i : Fin 9) : FVec Ideal S8x32x64x8x64 .f32 :=
  extractStridedSlice S8x32x64x8x64 ![0, i.val, 0, 0, 0] x (slices_at i)

theorem shifted_apply (x : FVec Ideal S8x40x64x8x64 .f32) (s : Fin 8) (n : Fin 32) (i : Fin 9) (p : Fin 64) (h : Fin 8) (d : Fin 64) :
    shifted x i (ix5 s n p h d) = x (ix5 s ⟨i.val + n.val, by omega⟩ p h d) := by
  unfold shifted
  pointwise

theorem band_apply (x : FVec Ideal S8x40x64x8x64 .f32) (s : Fin 8) (n : Fin 32) (i : Fin 9) (p : Fin 64) (h : Fin 8) (d : Fin 64) :
    band x (ix5 s n ⟨64 * i.val + p.val, by omega⟩ h d) = x (ix5 s ⟨i.val + n.val, by omega⟩ p h d) :=
  (cat_chunks (shifted x) s n i p h d).trans (shifted_apply x s n i p h d)

variable (V0 : Valuation τ sig (Elt Ideal))

/-- The keys in chunks, eight zero chunks before them. -/
theorem k_chunk (s : Fin 8) (n : Fin 40) (p : Fin 64) (h : Fin 8) (d : Fin 64) :
    (res_main_v5 (F := Ideal) V0 : FVec Ideal S8x40x64x8x64 .f32) (ix5 s n p h d)
    = (if h' : 8 ≤ n.val then (V0 (Proc.devRef .tc main_arg1) : FVec Ideal S1x8x8x64x2048 .f32)
        (ix5 0 s h d ⟨64 * (n.val - 8) + p.val, by omega⟩) else 0 : EReal) := by
  pointwise [res_main_v5]
  by_cases h8 : 8 ≤ n.val
  · rw [dif_pos ⟨h8, by omega⟩, dif_pos h8]
    exact congrArg (fun a => (V0 (Proc.devRef .tc main_arg1) : FVec Ideal S1x8x8x64x2048 .f32) (ix5 0 s h d a))
      (Fin.ext (congrArg (· + p.val) (Nat.mul_comm _ _)))
  · rw [dif_neg fun hc => h8 hc.1, dif_neg h8]
    show (((0#32).toInt : ℝ) : EReal) = 0
    simp

/-- The values in chunks, eight zero chunks before them. -/
theorem v_chunk (s : Fin 8) (n : Fin 40) (p : Fin 64) (h : Fin 8) (d : Fin 64) :
    (res_main_v19 (F := Ideal) V0 : FVec Ideal S8x40x64x8x64 .f32) (ix5 s n p h d)
    = (if h' : 8 ≤ n.val then (V0 (Proc.devRef .tc main_arg2) : FVec Ideal S1x8x8x64x2048 .f32)
        (ix5 0 s h d ⟨64 * (n.val - 8) + p.val, by omega⟩) else 0 : EReal) := by
  pointwise [res_main_v19]
  by_cases h8 : 8 ≤ n.val
  · rw [dif_pos ⟨h8, by omega⟩, dif_pos h8]
    exact congrArg (fun a => (V0 (Proc.devRef .tc main_arg2) : FVec Ideal S1x8x8x64x2048 .f32) (ix5 0 s h d a))
      (Fin.ext (congrArg (· + p.val) (Nat.mul_comm _ _)))
  · rw [dif_neg fun hc => h8 hc.1, dif_neg h8]
    show (((0#32).toInt : ℝ) : EReal) = 0
    simp

/-- A key's position in a band, compared as a word with the start. -/
theorem in_range : ∀ (n : Fin 32) (j : Fin 576), IntOp.cmpi CmpIPredicate.sge
    (IntOp.addi (IntOp.muli (IntOp.subi (BitVec.ofNat 32 n.val) 8#32) 64#32) (BitVec.ofNat 32 j.val)) 0#32
    = if 512 ≤ 64 * n.val + j.val then 1#1 else 0#1 := by
  decide +kernel

/-- The masked scores over any band of keys. -/
def maskedScores (Q : FVec Ideal S8x2048x512 .bf16) (K : FVec Ideal S8x32x576x8x64 .f32) (f : FVec Ideal S8 .f32) (T : FVec Ideal S8x64x192 .f32) :
    FVec Ideal S8x32x8x64x576 .f32 :=
  select (broadcastInDim S8x32x8x64x576 ![1, 2, 3, 4] bcast_S32x1x1x576_S8x32x8x64x576_1_2_3_4 (broadcastInDim S32x1x1x576 ![0, 3] bcast_S32x576_S32x1x1x576_0_3 (cmpi .sge (addi (broadcastInDim S32x576 ![0, 1] bcast_S32x1_S32x576_0_1 (muli (subi (broadcastInDim S32x1 ![0] bcast_S32_S32x1_0 (iotaInDim S32 32 0)) (broadcastInDim S32x1 ![] bcast_S_S32x1 (constantI S_ 32 8#32))) (broadcastInDim S32x1 ![] bcast_S_S32x1 (constantI S_ 32 64#32)))) (broadcastInDim S32x576 ![0, 1] bcast_S1x576_S32x576_0_1 (broadcastInDim S1x576 ![1] bcast_S576_S1x576_1 (iotaInDim S576 32 0)))) (broadcastInDim S32x576 ![] bcast_S_S32x576 (constantI S_ 32 0#32))))) (addf (Host.dotGeneral dot_S8x32x64x8x64_S8x32x576x8x64_S8x32x8x64x576_4_4_2_2_013_013 none (shapeCast _ (extf .f32 Q bitsLt_bf16_f32) shapeCasts_S8x2048x512_S8x32x64x8x64) K) (broadcastInDim S8x32x8x64x576 ![0, 1, 2, 3, 4] bcast_S1x1x8x64x576_S8x32x8x64x576_0_1_2_3_4 (broadcastInDim S1x1x8x64x576 ![2, 3, 4] bcast_S8x64x576_S1x1x8x64x576_2_3_4 (concatenate S8x64x576 2 [⟨S8x64x384, (broadcastInDim S8x64x384 ![0, 1, 2] bcast_S8x1x1_S8x64x384_0_1_2 (broadcastInDim S8x1x1 ![0] bcast_S8_S8x1x1_0 f))⟩, ⟨S8x64x192, T⟩] concatenates_S8x64x384_S8x64x192_S8x64x576_d2)))) (broadcastInDim S8x32x8x64x576 ![] bcast_S_S8x32x8x64x576 (id (constant S_ .f32 0xFF800000#32)))

theorem masked_at (Q : FVec Ideal S8x2048x512 .bf16) (K : FVec Ideal S8x32x576x8x64 .f32) (f : FVec Ideal S8 .f32) (T : FVec Ideal S8x64x192 .f32)
    (s : Fin 8) (n : Fin 32) (h : Fin 8) (p : Fin 64) (j : Fin 576) :
    maskedScores Q K f T (ix5 s n h p j)
    = (if 512 ≤ 64 * n.val + j.val then
      (∑ d : Fin 64, Q (ix3 s ⟨64 * n.val + p.val, by omega⟩ ⟨64 * h.val + d.val, by omega⟩) * K (ix5 s n j h d))
        + (if h' : j.val < 384 then f (ix1 h) else T (ix3 h p ⟨j.val - 384, by omega⟩)) else ⊥ : EReal) := by
  pointwise [maskedScores]
  rw [in_range]
  simp only [Nat.mul_comm n.val 64, Nat.mul_comm h.val 64]
  by_cases h8 : 512 ≤ 64 * n.val + j.val
  · rw [if_pos h8, if_pos h8]
    rfl
  · rw [if_neg h8, if_neg h8]
    exact BandRow.neg_inf

theorem band_val (x : FVec Ideal S8x40x64x8x64 .f32) (y : Fin 2048 → EReal) (s : Fin 8) (n : Fin 32) (j : Fin 576) (h : Fin 8) (d : Fin 64)
    (hx : ∀ (n : Fin 40) (p : Fin 64), x (ix5 s n p h d) = if h' : 8 ≤ n.val then y ⟨64 * (n.val - 8) + p.val, by omega⟩ else 0) :
    band x (ix5 s n j h d) = if h' : 512 ≤ 64 * n.val + j.val then y ⟨64 * n.val + j.val - 512, by omega⟩ else 0 := by
  have hj := j.isLt
  have e : j = (⟨64 * (⟨j.val / 64, by omega⟩ : Fin 9).val + (⟨j.val % 64, by omega⟩ : Fin 64).val, by omega⟩ : Fin 576) :=
    Fin.ext (Nat.div_add_mod j.val 64).symm
  refine (congrArg (fun a : Fin 576 => band x (ix5 s n a h d)) e).trans ((band_apply x s n _ _ h d).trans ((hx _ _).trans ?_))
  by_cases h8 : 512 ≤ 64 * n.val + j.val
  · refine (dif_pos (by show 8 ≤ j.val / 64 + n.val; omega)).trans (Eq.trans ?_ (dif_pos h8).symm)
    refine congrArg y (Fin.ext ?_)
    show 64 * (j.val / 64 + n.val - 8) + j.val % 64 = 64 * n.val + j.val - 512
    omega
  · refine Eq.trans ?_ (dif_neg h8).symm
    exact dif_neg (by show ¬ 8 ≤ j.val / 64 + n.val; omega)

end Cert.ReferenceIdeal.Value
-- ==== Proof.BandRefOut.lean ====
module

public import proofs.«01_k».proof.Proof.BandRef

@[expose] public section

/-! # The chunk-band attention's reference is the attention of every query -/

set_option maxRecDepth 16384

noncomputable section

namespace Cert.ReferenceIdeal.Value

open Cert.ReferenceIdeal Cert.ReferenceIdeal.Gen Idealize.ShloMosaic Idealize.ShloMosaic.TcCoe Idealize.SL.Sem

variable (V0 : Valuation τ sig (Elt Ideal))

/-- A query's scores. -/
abbrev scoreOf (s : Fin 8) (n : Fin 32) (h : Fin 8) (p : Fin 64) : Fin 576 → EReal :=
  BandRow.score (fun d => (V0 (Proc.devRef .tc main_arg0) : FVec Ideal S8x2048x512 .bf16)
      (ix3 s ⟨64 * n.val + p.val, by omega⟩ ⟨64 * h.val + d.val, by omega⟩))
    (fun d j => (V0 (Proc.devRef .tc main_arg1) : FVec Ideal S1x8x8x64x2048 .f32) (ix5 0 s h d j))
    ((V0 (Proc.devRef .tc main_arg4) : FVec Ideal S8 .f32) (ix1 h))
    (fun j => (V0 (Proc.devRef .tc main_arg3) : FVec Ideal S8x64x192 .f32) (ix3 h p j)) n

/-- A band's values. -/
abbrev valueOf (s : Fin 8) (n : Fin 32) (h : Fin 8) : Fin 64 → Fin 576 → EReal :=
  BandRow.value (fun d j => (V0 (Proc.devRef .tc main_arg2) : FVec Ideal S1x8x8x64x2048 .f32) (ix5 0 s h d j)) n

theorem scores_eq : res_main_v51 (F := Ideal) V0 = maskedScores (V0 (Proc.devRef .tc main_arg0)) (band (res_main_v5 V0))
    (V0 (Proc.devRef .tc main_arg4)) (V0 (Proc.devRef .tc main_arg3)) := by
  unfold res_main_v51 maskedScores band
  rfl

theorem score_at (s : Fin 8) (n : Fin 32) (h : Fin 8) (p : Fin 64) (j : Fin 576) :
    (res_main_v51 (F := Ideal) V0 : FVec Ideal S8x32x8x64x576 .f32) (ix5 s n h p j) = scoreOf V0 s n h p j := by
  rw [scores_eq]
  refine (masked_at _ _ _ _ s n h p j).trans ?_
  by_cases h8 : 512 ≤ 64 * n.val + j.val
  · refine (if_pos h8).trans (Eq.trans ?_ (dif_pos h8).symm)
    refine congrArg (· + _) (Finset.sum_congr rfl fun d _ => congrArg (HMul.hMul (α := EReal) (β := EReal) (γ := EReal) _) ?_)
    exact (band_val _ (fun j => (V0 (Proc.devRef .tc main_arg1) : FVec Ideal S1x8x8x64x2048 .f32) (ix5 0 s h d j)) s n j h d
      fun n p => k_chunk V0 s n p h d).trans (dif_pos h8)
  · refine Eq.trans ?_ (dif_neg h8).symm
    exact if_neg h8

/-- The largest score of a query. -/
theorem top_at (S : FVec Ideal S8x32x8x64x576 .f32) (b : FVec Ideal S_ .f32) (s : Fin 8) (n : Fin 32) (h : Fin 8) (p : Fin 64) :
    (Host.reduce FloatOps.maximumf S b reducesTo_S8x32x8x64x576_S8x32x8x64_d4 h_S_ : FVec Ideal S8x32x8x64 .f32) (ix4 s n h p)
      = Finset.fold max (b (Shape.Idx.first h_S_)) (fun j : Fin 576 => S (ix5 s n h p j)) Finset.univ := by
  pointwise

/-- The exponentials of scores less a number for each query. -/
def lessened (S : FVec Ideal S8x32x8x64x576 .f32) (M : FVec Ideal S8x32x8x64 .f32) : FVec Ideal S8x32x8x64x576 .f32 :=
  Host.exp (subf S (broadcastInDim S8x32x8x64x576 ![0, 1, 2, 3, 4] bcast_S8x32x8x64x1_S8x32x8x64x576_0_1_2_3_4 (broadcastInDim S8x32x8x64x1 ![0, 1, 2, 3] bcast_S8x32x8x64_S8x32x8x64x1_0_1_2_3 (maximumf (broadcastInDim S8x32x8x64 ![] bcast_S_S8x32x8x64 (constant S_ .f32 0xFF800000#32)) M))))

theorem lessened_at (S : FVec Ideal S8x32x8x64x576 .f32) (M : FVec Ideal S8x32x8x64 .f32) (s : Fin 8) (n : Fin 32) (h : Fin 8) (p : Fin 64)
    (j : Fin 576) : lessened S M (ix5 s n h p j) = Ideal.exp (S (ix5 s n h p j) - max ⊥ (M (ix4 s n h p))) := by
  rw [← BandRow.neg_inf]
  pointwise [lessened]

theorem weights_eq : res_main_v58 (F := Ideal) V0 = lessened (res_main_v51 V0)
    (Host.reduce FloatOps.maximumf (res_main_v51 V0) (constant S_ .f32 0xFF800000#32) reducesTo_S8x32x8x64x576_S8x32x8x64_d4 h_S_) := by
  unfold res_main_v58 lessened
  rfl

theorem weight_at (s : Fin 8) (n : Fin 32) (h : Fin 8) (p : Fin 64) (j : Fin 576) :
    (res_main_v58 (F := Ideal) V0 : FVec Ideal S8x32x8x64x576 .f32) (ix5 s n h p j) = BandRow.weight (scoreOf V0 s n h p) j := by
  rw [weights_eq, lessened_at, top_at, max_bot_left, score_at]
  have hb : (constant (F := Ideal) S_ .f32 0xFF800000#32) (Shape.Idx.first h_S_) = (⊥ : EReal) := BandRow.neg_inf
  simp only [score_at, hb]
  unfold BandRow.weight
  rfl

/-- The values of any bands averaged by any weights. -/
def averaged (X : FVec Ideal S8x32x576x8x64 .f32) (w : FVec Ideal S8x32x8x64x576 .f32) : FVec Ideal S8x2048x8x64 .f32 :=
  shapeCast _ (transpose S8x32x64x8x64 [0, 1, 4, 2, 3] (Host.dotGeneral dot_S8x32x576x8x64_S8x32x8x64x576_S8x32x8x64x64_2_4_4_3_013_012 none X (Host.divf w (broadcastInDim S8x32x8x64x576 ![0, 1, 2, 3, 4] bcast_S8x32x8x64x1_S8x32x8x64x576_0_1_2_3_4 (broadcastInDim S8x32x8x64x1 ![0, 1, 2, 3] bcast_S8x32x8x64_S8x32x8x64x1_0_1_2_3 (Host.reduceAdd w (constant S_ .f32 0x00000000#32) reducesTo_S8x32x8x64x576_S8x32x8x64_d4 h_S_))))) transposes_S8x32x8x64x64_S8x32x64x8x64_0_1_4_2_3) shapeCasts_S8x32x64x8x64_S8x2048x8x64

theorem averaged_at (X : FVec Ideal S8x32x576x8x64 .f32) (w : FVec Ideal S8x32x8x64x576 .f32) (s : Fin 8) (r : Fin 2048) (h : Fin 8) (d : Fin 64) :
    averaged X w (ix4 s r h d) = ∑ j : Fin 576, X (ix5 s ⟨r.val / 64, by omega⟩ j h d)
      * Ideal.div (w (ix5 s ⟨r.val / 64, by omega⟩ h ⟨r.val % 64, by omega⟩ j)) (∑ j : Fin 576, w (ix5 s ⟨r.val / 64, by omega⟩ h ⟨r.val % 64, by omega⟩ j)) := by
  pointwise [averaged]

theorem attention_eq : res_main_v65 (F := Ideal) V0 = averaged (band (res_main_v19 V0)) (res_main_v58 V0) := by
  unfold res_main_v65 averaged band
  rfl

theorem attention_at (s : Fin 8) (r : Fin 2048) (h : Fin 8) (d : Fin 64) :
    (res_main_v65 (F := Ideal) V0 : FVec Ideal S8x2048x8x64 .f32) (ix4 s r h d)
    = BandRow.soft (scoreOf V0 s ⟨r.val / 64, by omega⟩ h ⟨r.val % 64, by omega⟩) (valueOf V0 s ⟨r.val / 64, by omega⟩ h) d := by
  rw [attention_eq]
  refine (averaged_at _ _ s r h d).trans ?_
  simp only [weight_at]
  unfold BandRow.soft
  refine Finset.sum_congr (M := EReal) rfl fun j _ => congrArg (fun z : EReal => z * _) ?_
  exact band_val _ (fun j => (V0 (Proc.devRef .tc main_arg2) : FVec Ideal S1x8x8x64x2048 .f32) (ix5 0 s h d j)) s _ j h d
    fun n p => v_chunk V0 s n p h d

/-- Each head's lanes normalised by themselves. -/
def finished (O : FVec Ideal S8x2048x8x64 .f32) (G : FVec Ideal S2x512 .f32) : FVec Ideal S8x2048x512 .bf16 :=
  truncf .bf16 (shapeCast _ (mulf (mulf O (broadcastInDim S8x2048x8x64 ![0, 1, 2, 3] bcast_S8x2048x8x1_S8x2048x8x64_0_1_2_3 (Host.rsqrt (addf (Host.divf (broadcastInDim S8x2048x8x1 ![0, 1, 2] bcast_S8x2048x8_S8x2048x8x1_0_1_2 (Host.reduceAdd (mulf O O) (constant S_ .f32 0x00000000#32) reducesTo_S8x2048x8x64_S8x2048x8_d3 h_S_)) (broadcastInDim S8x2048x8x1 ![] bcast_S_S8x2048x8x1 (constant S_ .f32 0x42800000#32))) (broadcastInDim S8x2048x8x1 ![] bcast_S_S8x2048x8x1 (constant S_ .f32 0x358637BD#32)))))) (broadcastInDim S8x2048x8x64 ![0, 1, 2, 3] bcast_S1x1x8x64_S8x2048x8x64_0_1_2_3 (broadcastInDim S1x1x8x64 ![2, 3] bcast_S8x64_S1x1x8x64_2_3 (shapeCast _ (shapeCast _ (extractStridedSlice S1x512 ![0, 0] G slices_S2x512_S1x512_0_0) shapeCasts_S1x512_S512) shapeCasts_S512_S8x64)))) shapeCasts_S8x2048x8x64_S8x2048x512) bitsLt_bf16_f32

theorem finished_at (O : FVec Ideal S8x2048x8x64 .f32) (G : FVec Ideal S2x512 .f32) (s : Fin 8) (r : Fin 2048) (l : Fin 512) :
    finished O G (ix3 s r l)
    = BandRow.normed (fun d => O (ix4 s r ⟨l.val / 64, by omega⟩ d)) (G (ix2 0 l)) ⟨l.val % 64, by omega⟩ := by
  rw [← BandRow.normed_div]
  pointwise [finished]

/-- The reference's result: every query's normalised attention to its band. -/
theorem finished_eq (s : Fin 8) (r : Fin 2048) (l : Fin 512) :
    finished (res_main_v65 V0) (V0 (Proc.devRef .tc main_arg5)) (ix3 s r l)
    = BandRow.out (fun d => (V0 (Proc.devRef .tc main_arg0) : FVec Ideal S8x2048x512 .bf16) (ix3 s r ⟨64 * (l.val / 64) + d.val, by omega⟩))
      (fun d j => (V0 (Proc.devRef .tc main_arg1) : FVec Ideal S1x8x8x64x2048 .f32) (ix5 0 s ⟨l.val / 64, by omega⟩ d j))
      (fun d j => (V0 (Proc.devRef .tc main_arg2) : FVec Ideal S1x8x8x64x2048 .f32) (ix5 0 s ⟨l.val / 64, by omega⟩ d j))
      ((V0 (Proc.devRef .tc main_arg4) : FVec Ideal S8 .f32) (ix1 ⟨l.val / 64, by omega⟩))
      (fun j => (V0 (Proc.devRef .tc main_arg3) : FVec Ideal S8x64x192 .f32) (ix3 ⟨l.val / 64, by omega⟩ ⟨r.val % 64, by omega⟩ j))
      (fun d => (V0 (Proc.devRef .tc main_arg5) : FVec Ideal S2x512 .f32) (ix2 0 ⟨64 * (l.val / 64) + d.val, by omega⟩))
      ⟨r.val / 64, by omega⟩ ⟨l.val % 64, by omega⟩ := by
  rw [finished_at]
  simp only [attention_at]
  have hr : (⟨64 * (r.val / 64) + r.val % 64, by omega⟩ : Fin 2048) = r := Fin.ext (Nat.div_add_mod r.val 64)
  have hl : (⟨64 * (l.val / 64) + l.val % 64, by omega⟩ : Fin 512) = l := Fin.ext (Nat.div_add_mod l.val 64)
  unfold BandRow.out
  simp only [scoreOf, hr, hl]

end Cert.ReferenceIdeal.Value
-- ==== Proof.BandClaim.lean ====
module

public import proofs.«01_k».proof.Defs
public import proofs.«01_k».proof.Proof.BandFinal
public import proofs.«01_k».proof.Proof.BandRefOut

@[expose] public section

/-! # The chunk-band attention call computes its reference -/

set_option maxRecDepth 16384

noncomputable section

namespace Cert.BandClaim

open Idealize.ShloMosaic Idealize.ShloMosaic.TcCoe Idealize.SL.Sem

/-- The reference's frame: its run writes no argument, and it declares no semaphore. -/
theorem reference_frame : Cert.quiescent_ReferenceIdeal (hReferenceIdeal := Cert.ReferenceIdeal.Gen.facts) := by
  intro m ρ _
  exact (θ_run Cert.ReferenceIdeal.defs _ _).mono
    (fun r h => ⟨fun c => (h c).2, Idealize.ShloMosaic.sem_eq_zero_of_no_sems (by decide) r.2⟩)
    (Cert.ReferenceIdeal.Value.run m ρ)

/-- Over the extended reals the call's result is the reference's, from the same arguments. -/
theorem same_value : Cert.algebraic_KernelIdeal_ReferenceIdeal (hKernelIdeal := Cert.KernelIdeal.Gen.facts)
    (hReferenceIdeal := Cert.ReferenceIdeal.Gen.facts) := by
  intro m g m' g' _ hargs
  refine ⟨fun c => Cert.KernelIdeal.Band.result m c, ?_, ?_⟩
  · exact (θ_run Cert.KernelIdeal.defs _ _).mono
      (fun r h c => ⟨(h c).1.trans (Cert.KernelIdeal.Band.final m c), (h c).2⟩)
      (Cert.KernelIdeal.Value.run_blocks m g)
  · refine (θ_run Cert.ReferenceIdeal.defs _ _).mono (fun r h c => ⟨(h c).1.trans ?_, (h c).2⟩)
      (Cert.ReferenceIdeal.Value.run m' g')
    obtain ⟨h0, h1, h2, h3, h4, h5⟩ := hargs c
    refine funext fun i => ?_
    obtain ⟨s, r, l, rfl⟩ : ∃ (s : Fin 8) (r : Fin 2048) (l : Fin 512), i = ix3 s r l := ⟨i 0, i 1, i 2, eq_ix3 i⟩
    refine (Cert.ReferenceIdeal.Value.finished_eq (Idealize.ShloMosaic.StableHlo.launchContents m' c) s r l).trans ?_
    exact BandRow.out_congr (fun _ => congrFun h0 _) (fun _ _ => congrFun h1 _) (fun _ _ => congrFun h2 _) (congrFun h4 _)
      (fun _ => congrFun h3 _) (fun _ => congrFun h5 _) _ _

end Cert.BandClaim
-- ==== Proof.SampleRows.lean ====
module

public import proofs.«01_k».proof.Proof.Rows

@[expose] public section

/-! # Rows of the sample, and the first projections

The sample is 8 sequences of 16 rows. The layer's steps on one row are those of `Proof.Rows`; here they are read out of
the sample's arrays. The first projections are read out of the inputs, the sample's and the prompt's. -/

set_option maxRecDepth 16384

noncomputable section

open Idealize.ShloMosaic

namespace EncoderRow

/-- The layer's tail on row `r` of the sample, with the weights of layer `l`, from the whole arrays. -/
def sampleTail (l : Fin 2) (x : FVec Ideal ⟨2, ![128, 1024]⟩ .f32) (a ob : FVec Ideal ⟨2, ![128, 512]⟩ .bf16)
    (p : FVec Ideal ⟨4, ![2, 8, 16, 256]⟩ .f32) (wo : FVec Ideal ⟨3, ![2, 1024, 1024]⟩ .f32)
    (gf : FVec Ideal ⟨2, ![2, 1024]⟩ .f32) (wg wu : FVec Ideal ⟨3, ![2, 1024, 2816]⟩ .f32)
    (wd : FVec Ideal ⟨3, ![2, 2816, 1024]⟩ .f32) (gp : FVec Ideal ⟨2, ![2, 1024]⟩ .f32)
    (wpg : FVec Ideal ⟨3, ![2, 1024, 1024]⟩ .f32) (wpp : FVec Ideal ⟨3, ![2, 256, 1024]⟩ .f32)
    (r : Fin 128) : Fin 1024 → EReal :=
  tail (fun k => x (ix2 r k)) (fun k => a (ix2 r k)) (fun k => ob (ix2 r k))
    (fun k => p (ix4 l ⟨r / 16, by omega⟩ ⟨r % 16, by omega⟩ k)) (fun k n => wo (ix3 l k n))
    (fun k => gf (ix2 l k)) (fun k n => wg (ix3 l k n)) (fun k n => wu (ix3 l k n)) (fun k n => wd (ix3 l k n))
    (fun k => gp (ix2 l k)) (fun k n => wpg (ix3 l k n)) (fun k n => wpp (ix3 l k n))

/-- Column `n` of the input projections of layer `l` of one row. -/
def heads (l : Fin 2) (x : Fin 1024 → EReal) (g : FVec Ideal ⟨2, ![2, 1024]⟩ .f32)
    (w : FVec Ideal ⟨3, ![2, 1024, 3072]⟩ .f32) (n : Fin 3072) : EReal :=
  proj (norm x (fun k => g (ix2 l k))) (fun k n => w (ix3 l k n)) n

/-- Row `r` of the sample's input. -/
def sampleRow (x : FVec Ideal ⟨3, ![8, 16, 1024]⟩ .f32) (r : Fin 128) (k : Fin 1024) : EReal :=
  x (ix3 ⟨r / 16, by omega⟩ ⟨r % 16, by omega⟩ k)

/-- Row `r` of the prompt's input. -/
def promptRow (x : FVec Ideal ⟨3, ![8, 2048, 1024]⟩ .f32) (r : Fin 16384) (k : Fin 1024) : EReal :=
  x (ix3 ⟨r / 2048, by omega⟩ ⟨r % 2048, by omega⟩ k)

/-- One key or value array of the prompt at sequence `b`, head `h`, lane `d`, position `j`: the columns from `off` on of
the projections. -/
def laid (new : Fin 16384 → Fin 3072 → EReal) (off : ℕ) (ho : off + 512 ≤ 3072) (b h : Fin 8) (d : Fin 64)
    (j : Fin 2048) : EReal :=
  new ⟨2048 * b + j, by omega⟩ ⟨off + (64 * h + d), by omega⟩

end EncoderRow
-- ==== Proof.SampleTail.lean ====
module

public import proofs.«01_k».proof.Proof.SampleRows
public import proofs.«01_k».proof.Proof.Gen.Kernel4Ideal.Value

@[expose] public section

/-! # The last layer's call on the sample, row by row

One grid point holds the sample's 128 rows: the layer's tail on every row, normalised with the final gains. -/

set_option maxRecDepth 16384

noncomputable section

namespace Cert.Kernel4Ideal.Tail

open Cert.Kernel4Ideal Cert.Kernel4Ideal.Gen Idealize.ShloMosaic Idealize.ShloMosaic.TcCoe Idealize.SL.Sem
open Idealize.ShloMosaic.Pipeline (Dat)
open EncoderRow

section Chain

variable (x : FVec Ideal S128x1024 .f32) (a ob : FVec Ideal S128x512 .bf16) (p : FVec Ideal S1x128x256 .f32)
  (wt wb : FVec Ideal S1x512x1024 .bf16) (gf : FVec Ideal S1x1x1024 .f32) (wg wu : FVec Ideal S1x1024x2816 .bf16)
  (wd : FVec Ideal S1x2816x1024 .bf16) (gp : FVec Ideal S1x1x1024 .f32) (wpg : FVec Ideal S1x1024x1024 .bf16)
  (wpp : FVec Ideal S1x256x1024 .bf16)

/-- RMSNorm's unit part on a block of rows. -/
def unitBlock (y : FVec Ideal S128x1024 .f32) : FVec Ideal S128x1024 .f32 :=
  mulf y (broadcastTo S128x1024 (rsqrt (addf (divf (shapeCast S128x1 (multiReduction .add [1] S128 (mulf y y)
    0x00000000#32 reduces_S128x1024_S128 (.inl rfl) rfl) shapeCasts_S128_S128x1)
    (broadcast S128x1 (Scalar.ofBits .f32 0x44800000#32))) (broadcast S128x1 (Scalar.ofBits .f32 0x358637BD#32))))
    broadcasts_S128x1_S128x1024)

theorem unitBlock_at (y : FVec Ideal S128x1024 .f32) (r : Fin 128) (n : Fin 1024) :
    unitBlock y (ix2 r n) = unit (fun k => y (ix2 r k)) n := by
  pointwise [unitBlock]
  rfl

/-- RMSNorm on a block of rows. -/
def normBlock (y : FVec Ideal S128x1024 .f32) (g : FVec Ideal S1x1x1024 .f32) : FVec Ideal S128x1024 .bf16 :=
  truncf .bf16 (mulf (unitBlock y) (broadcastTo S128x1024 (shapeCast S1x1024 g shapeCasts_S1x1x1024_S1x1024)
    broadcasts_S1x1024_S128x1024)) bitsLt_bf16_f32

theorem normBlock_at (y : FVec Ideal S128x1024 .f32) (g : FVec Ideal S1x1x1024 .f32) (r : Fin 128) (n : Fin 1024) :
    normBlock y g (ix2 r n) = norm (fun k => y (ix2 r k)) (fun k => g (ix3 0 0 k)) n := by
  pointwise [normBlock]
  simp only [unitBlock_at]
  rfl

/-- The rows times the gate's or the up weight. -/
def wide (h : FVec Ideal S128x1024 .bf16) (w : FVec Ideal S1x1024x2816 .bf16) : FVec Ideal S128x2816 .f32 :=
  matmul dot_S128x1024_S1024x2816_S128x2816_1_0_0_1_n_n none h
    (shapeCast S1024x2816 w shapeCasts_S1x1024x2816_S1024x2816) (constant S128x2816 .f32 0x00000000#32)

theorem wide_at (h : FVec Ideal S128x1024 .bf16) (w : FVec Ideal S1x1024x2816 .bf16) (r : Fin 128) (n : Fin 2816) :
    wide h w (ix2 r n) = proj (fun k => h (ix2 r k)) (fun k n => w (ix3 0 k n)) n := by
  pointwise [wide]
  rfl

/-- The rows after the output projection. -/
def chain1 : FVec Ideal S128x1024 .f32 := k0_pay2 x a wt ob wb

theorem chain1_at (wo : Fin 1024 → Fin 1024 → EReal) (ht : ∀ k n, wt (ix3 0 k n) = wo ⟨k, by omega⟩ n)
    (hb : ∀ k n, wb (ix3 0 k n) = wo ⟨512 + k, by omega⟩ n) (r : Fin 128) (n : Fin 1024) :
    chain1 x a ob wt wb (ix2 r n)
      = mixed (fun k => x (ix2 r k)) (fun k => a (ix2 r k)) (fun k => ob (ix2 r k)) wo n := by
  pointwise [chain1, k0_pay2]
  simp only [ht, hb, mixed]
  exact add_assoc _ _ _

/-- The rows after the SwiGLU block, from those before it. -/
def chain2 (x1 : FVec Ideal S128x1024 .f32) : FVec Ideal S128x1024 .f32 :=
  addf x1 (matmul dot_S128x2816_S2816x1024_S128x1024_1_0_0_1_n_n none
    (truncf .bf16 (mulf (mulf (wide (normBlock x1 gf) wg) (logistic (wide (normBlock x1 gf) wg))) (wide (normBlock x1 gf) wu))
      bitsLt_bf16_f32) (shapeCast S2816x1024 wd shapeCasts_S1x2816x1024_S2816x1024) (constant S128x1024 .f32 0x00000000#32))

theorem chain2_at (x1 : FVec Ideal S128x1024 .f32) (r : Fin 128) (n : Fin 1024) :
    chain2 gf wg wu wd x1 (ix2 r n)
      = swiglu (fun k => x1 (ix2 r k)) (fun k => gf (ix3 0 0 k)) (fun k n => wg (ix3 0 k n))
          (fun k n => wu (ix3 0 k n)) (fun k n => wd (ix3 0 k n)) n := by
  pointwise [chain2]
  simp only [wide_at, normBlock_at]
  rfl

/-- The rows after the per-layer embedding, from those before it. -/
def chain3 (x2 : FVec Ideal S128x1024 .f32) : FVec Ideal S128x1024 .f32 :=
  addf x2 (mulf (logistic (matmul dot_S128x1024_S1024x1024_S128x1024_1_0_0_1_n_n none (normBlock x2 gp)
    (shapeCast S1024x1024 wpg shapeCasts_S1x1024x1024_S1024x1024) (constant S128x1024 .f32 0x00000000#32)))
    (matmul dot_S128x256_S256x1024_S128x1024_1_0_0_1_n_n none
      (truncf .bf16 (shapeCast S128x256 p shapeCasts_S1x128x256_S128x256) bitsLt_bf16_f32)
      (shapeCast S256x1024 wpp shapeCasts_S1x256x1024_S256x1024) (constant S128x1024 .f32 0x00000000#32)))

theorem chain3_at (x2 : FVec Ideal S128x1024 .f32) (r : Fin 128) (n : Fin 1024) :
    chain3 p gp wpg wpp x2 (ix2 r n)
      = embedded (fun k => x2 (ix2 r k)) (fun k => gp (ix3 0 0 k)) (fun k => p (ix3 0 r k))
          (fun k n => wpg (ix3 0 k n)) (fun k n => wpp (ix3 0 k n)) n := by
  pointwise [chain3]
  simp only [normBlock_at]
  rfl

/-- The layer's tail on the 128 rows. -/
def chain : FVec Ideal S128x1024 .f32 := chain3 p gp wpg wpp (chain2 gf wg wu wd (chain1 x a ob wt wb))

theorem chain_at (wo : Fin 1024 → Fin 1024 → EReal) (ht : ∀ k n, wt (ix3 0 k n) = wo ⟨k, by omega⟩ n)
    (hb : ∀ k n, wb (ix3 0 k n) = wo ⟨512 + k, by omega⟩ n) (r : Fin 128) (n : Fin 1024) :
    chain x a ob p wt wb gf wg wu wd gp wpg wpp (ix2 r n)
      = tail (fun k => x (ix2 r k)) (fun k => a (ix2 r k)) (fun k => ob (ix2 r k)) (fun k => p (ix3 0 r k)) wo
          (fun k => gf (ix3 0 0 k)) (fun k n => wg (ix3 0 k n)) (fun k n => wu (ix3 0 k n))
          (fun k n => wd (ix3 0 k n)) (fun k => gp (ix3 0 0 k)) (fun k n => wpg (ix3 0 k n))
          (fun k n => wpp (ix3 0 k n)) n := by
  unfold chain tail
  simp only [chain3_at, chain2_at, chain1_at x a ob wt wb wo ht hb]

theorem pay3_eq : k0_pay3 (F := Ideal) x a wt ob wb gf = normBlock (chain1 x a ob wt wb) gf := rfl
theorem pay4_eq : k0_pay4 (F := Ideal) x a wt ob wb gf wg = wide (normBlock (chain1 x a ob wt wb) gf) wg := rfl
theorem pay6_eq (x1 : FVec Ideal S128x1024 .f32) : k0_pay6 (F := Ideal) x1 (normBlock x1 gf) (wide (normBlock x1 gf) wg)
    (k0_pay5 wu) (constant S128x2816 .f32 0x00000000#32) wd gp wpg p wpp
    = chain3 p gp wpg wpp (chain2 gf wg wu wd x1) := rfl
theorem pay7_eq (x1 : FVec Ideal S128x1024 .f32) (h : FVec Ideal S128x1024 .bf16) (y z : FVec Ideal S128x2816 .f32)
    (w : FVec Ideal S1024x2816 .bf16) (gl : FVec Ideal S1x1024 .f32) :
    k0_pay1 (F := Ideal) (k0_pay6 x1 h y w z wd gp wpg p wpp) (k0_pay7 x1 h y w z wd gp wpg p wpp) gl
    = mulf (unitBlock (k0_pay6 x1 h y w z wd gp wpg p wpp)) (broadcastTo S128x1024
      (shapeCast S1x1024 gl shapeCasts_S1x1024_S1x1024) broadcasts_S1x1024_S128x1024) := rfl

end Chain

/-- A block of the result: the tail of its rows, normalised with the final gains. -/
theorem block_at (x0 : Vec Ideal S128x1024 .f32) (x1 x2 : Vec Ideal S128x512 .bf16) (x3 : Vec Ideal S1x128x256 .f32)
    (x4 : Vec Ideal S1x1024x1024 .bf16) (x5 : Vec Ideal S1x1x1024 .f32) (x6 x7 : Vec Ideal S1x1024x2816 .bf16)
    (x8 : Vec Ideal S1x2816x1024 .bf16) (x9 : Vec Ideal S1x1x1024 .f32) (x10 : Vec Ideal S1x1024x1024 .bf16)
    (x11 : Vec Ideal S1x256x1024 .bf16) (x12 : Vec Ideal S1x1024 .f32) (r : Fin 128) (n : Fin 1024) :
    out0_13 x0 x1 x2 x3 x4 x5 x6 x7 x8 x9 x10 x11 x12 (ix2 r n)
      = norm (tail (fun k => (x0 : FVec Ideal S128x1024 .f32) (ix2 r k)) (fun k => (x1 : FVec Ideal S128x512 .bf16) (ix2 r k))
          (fun k => (x2 : FVec Ideal S128x512 .bf16) (ix2 r k)) (fun k => (x3 : FVec Ideal S1x128x256 .f32) (ix3 0 r k))
          (fun k n => (x4 : FVec Ideal S1x1024x1024 .bf16) (ix3 0 k n)) (fun k => (x5 : FVec Ideal S1x1x1024 .f32) (ix3 0 0 k))
          (fun k n => (x6 : FVec Ideal S1x1024x2816 .bf16) (ix3 0 k n)) (fun k n => (x7 : FVec Ideal S1x1024x2816 .bf16) (ix3 0 k n))
          (fun k n => (x8 : FVec Ideal S1x2816x1024 .bf16) (ix3 0 k n)) (fun k => (x9 : FVec Ideal S1x1x1024 .f32) (ix3 0 0 k))
          (fun k n => (x10 : FVec Ideal S1x1024x1024 .bf16) (ix3 0 k n)) (fun k n => (x11 : FVec Ideal S1x256x1024 .bf16) (ix3 0 k n)))
          (fun k => (x12 : FVec Ideal S1x1024 .f32) (ix2 0 k)) n := by
  unfold_out out0_13
  frame_out
  rw [pay7_eq]
  pointwise
  rw [unitBlock_at]
  refine congrArg (fun y : Fin 1024 → EReal => unit y n * _) (funext fun k => ?_)
  simp only [pay3_eq, pay4_eq]
  refine (congrFun (pay6_eq _ _ _ _ _ _ _ _ _) _).trans ?_
  refine (chain_at _ _ _ _ _ _ _ _ _ _ _ _ _ (fun k n => (x4 : FVec Ideal S1x1024x1024 .bf16) (ix3 0 k n)) ?_ ?_ r k).trans ?_
  · intro k n; pointwise
  · intro k n; pointwise
  · pointwise

variable (m : (ℓ : Loc nD τ sig) → Buf (Elt Ideal) ℓ)

/-- The result: the last layer's tail of every row, normalised with the final gains. -/
def result (c : Dev nD) : Buf (Elt Ideal) ((c.tc : Thread nD τ).loc main_v10) := fun i : S128x1024.Idx =>
  norm (sampleTail 1 (m ((c.tc : Thread nD τ).loc main_arg0)) (m ((c.tc : Thread nD τ).loc main_arg1))
    (m ((c.tc : Thread nD τ).loc main_arg2)) (m ((c.tc : Thread nD τ).loc main_arg3))
    (m ((c.tc : Thread nD τ).loc main_arg4)) (m ((c.tc : Thread nD τ).loc main_arg5))
    (m ((c.tc : Thread nD τ).loc main_arg6)) (m ((c.tc : Thread nD τ).loc main_arg7))
    (m ((c.tc : Thread nD τ).loc main_arg8)) (m ((c.tc : Thread nD τ).loc main_arg9))
    (m ((c.tc : Thread nD τ).loc main_arg10)) (m ((c.tc : Thread nD τ).loc main_arg11)) (i 0))
    (fun k => (m ((c.tc : Thread nD τ).loc main_arg12) : FVec Ideal S1024 .f32) (ix1 k)) (i 1)

theorem idx : ∀ t : Fin cfg0.N, win0_0.index t = ![0, 0] ∧ win0_1.index t = ![0, 0]
    ∧ win0_2.index t = ![0, 0] ∧ win0_3.index t = ![1, 0, 0] ∧ win0_4.index t = ![1, 0, 0]
    ∧ win0_5.index t = ![1, 0, 0] ∧ win0_6.index t = ![1, 0, 0] ∧ win0_7.index t = ![1, 0, 0]
    ∧ win0_8.index t = ![1, 0, 0] ∧ win0_9.index t = ![1, 0, 0] ∧ win0_10.index t = ![1, 0, 0]
    ∧ win0_11.index t = ![1, 0, 0] ∧ win0_12.index t = ![0, 0] ∧ win0_13.index t = ![0, 0] :=
  (by decide +kernel : ∀ t : Fin grid0.N, _)

theorem x_blk (c : Dev nD) (t : Fin cfg0.N) (r : Fin 128) (k : Fin 1024) : (iblk m c 0 t : FVec Ideal S128x1024 .f32) (ix2 r k)
    = (m ((c.tc : Thread nD τ).loc main_arg0) : FVec Ideal S128x1024 .f32) (ix2 r k) := by
  blk_point [iblk, V, idx t]

theorem a_blk (c : Dev nD) (t : Fin cfg0.N) (r : Fin 128) (k : Fin 512) : (iblk m c 1 t : FVec Ideal S128x512 .bf16) (ix2 r k)
    = (m ((c.tc : Thread nD τ).loc main_arg1) : FVec Ideal S128x512 .bf16) (ix2 r k) := by
  blk_point [iblk, V, idx t]

theorem ob_blk (c : Dev nD) (t : Fin cfg0.N) (r : Fin 128) (k : Fin 512) : (iblk m c 2 t : FVec Ideal S128x512 .bf16) (ix2 r k)
    = (m ((c.tc : Thread nD τ).loc main_arg2) : FVec Ideal S128x512 .bf16) (ix2 r k) := by
  blk_point [iblk, V, idx t]

theorem p_blk (c : Dev nD) (t : Fin cfg0.N) (r : Fin 128) (k : Fin 256) : (iblk m c 3 t : FVec Ideal S1x128x256 .f32) (ix3 0 r k)
    = (m ((c.tc : Thread nD τ).loc main_arg3) : FVec Ideal S2x8x16x256 .f32) (ix4 1 ⟨r.val / 16, by omega⟩ ⟨r.val % 16, by omega⟩ k) := by
  blk_point [iblk, V, idx t]

theorem w_out_blk (c : Dev nD) (t : Fin cfg0.N) (k : Fin 1024) (n : Fin 1024) : (iblk m c 4 t : FVec Ideal S1x1024x1024 .bf16) (ix3 0 k n)
    = (m ((c.tc : Thread nD τ).loc main_arg4) : FVec Ideal S2x1024x1024 .f32) (ix3 1 k n) := by
  blk_point [iblk, V, idx t]

theorem g_ffn_blk (c : Dev nD) (t : Fin cfg0.N) (k : Fin 1024) : (iblk m c 5 t : FVec Ideal S1x1x1024 .f32) (ix3 0 0 k)
    = (m ((c.tc : Thread nD τ).loc main_arg5) : FVec Ideal S2x1024 .f32) (ix2 1 k) := by
  blk_point [iblk, V, idx t]

theorem w_gate_blk (c : Dev nD) (t : Fin cfg0.N) (k : Fin 1024) (n : Fin 2816) : (iblk m c 6 t : FVec Ideal S1x1024x2816 .bf16) (ix3 0 k n)
    = (m ((c.tc : Thread nD τ).loc main_arg6) : FVec Ideal S2x1024x2816 .f32) (ix3 1 k n) := by
  blk_point [iblk, V, idx t]

theorem w_up_blk (c : Dev nD) (t : Fin cfg0.N) (k : Fin 1024) (n : Fin 2816) : (iblk m c 7 t : FVec Ideal S1x1024x2816 .bf16) (ix3 0 k n)
    = (m ((c.tc : Thread nD τ).loc main_arg7) : FVec Ideal S2x1024x2816 .f32) (ix3 1 k n) := by
  blk_point [iblk, V, idx t]

theorem w_down_blk (c : Dev nD) (t : Fin cfg0.N) (k : Fin 2816) (n : Fin 1024) : (iblk m c 8 t : FVec Ideal S1x2816x1024 .bf16) (ix3 0 k n)
    = (m ((c.tc : Thread nD τ).loc main_arg8) : FVec Ideal S2x2816x1024 .f32) (ix3 1 k n) := by
  blk_point [iblk, V, idx t]

theorem g_ple_blk (c : Dev nD) (t : Fin cfg0.N) (k : Fin 1024) : (iblk m c 9 t : FVec Ideal S1x1x1024 .f32) (ix3 0 0 k)
    = (m ((c.tc : Thread nD τ).loc main_arg9) : FVec Ideal S2x1024 .f32) (ix2 1 k) := by
  blk_point [iblk, V, idx t]

theorem w_ple_gate_blk (c : Dev nD) (t : Fin cfg0.N) (k : Fin 1024) (n : Fin 1024) : (iblk m c 10 t : FVec Ideal S1x1024x1024 .bf16) (ix3 0 k n)
    = (m ((c.tc : Thread nD τ).loc main_arg10) : FVec Ideal S2x1024x1024 .f32) (ix3 1 k n) := by
  blk_point [iblk, V, idx t]

theorem w_ple_proj_blk (c : Dev nD) (t : Fin cfg0.N) (k : Fin 256) (n : Fin 1024) : (iblk m c 11 t : FVec Ideal S1x256x1024 .bf16) (ix3 0 k n)
    = (m ((c.tc : Thread nD τ).loc main_arg11) : FVec Ideal S2x256x1024 .f32) (ix3 1 k n) := by
  blk_point [iblk, V, idx t]

theorem g_final_blk (c : Dev nD) (t : Fin cfg0.N) (k : Fin 1024) : (iblk m c 12 t : FVec Ideal S1x1024 .f32) (ix2 0 k)
    = (m ((c.tc : Thread nD τ).loc main_arg12) : FVec Ideal S1024 .f32) (ix1 k) := by
  blk_point [iblk, V, idx t]

theorem out_blk (t : Fin cfg0.N) (r : Fin 128) (n : Fin 1024) :
    ((win0_13.blk t).view.emb (ix2 r n) : S128x1024.Idx) = ix2 r n := by
  blk_ext [idx t]

theorem final (c : Dev nD) : (dats m 0 c).arrAt 13 (cfgs 0).N = result m c := by
  refine (dats m 0 c).arrAt_eq_of_covers 13 _ (by decide +kernel) fun t hf y => ?_
  blk_simp
  rw [after0_13]
  obtain ⟨r, n, rfl⟩ : ∃ (r : Fin 128) (n : Fin 1024), y = ix2 r n := ⟨y 0, y 1, eq_ix2 y⟩
  refine (block_at _ _ _ _ _ _ _ _ _ _ _ _ _ r n).trans ?_
  refine Eq.trans ?_ (congrArg (result m c) (out_blk t r n)).symm
  simp only [x_blk, a_blk, ob_blk, p_blk, w_out_blk, g_ffn_blk, w_gate_blk, w_up_blk, w_down_blk, g_ple_blk,
    w_ple_gate_blk, w_ple_proj_blk, g_final_blk]
  rfl

end Cert.Kernel4Ideal.Tail
-- ==== Proof.SampleTailRef.lean ====
module

public import proofs.«01_k».proof.Proof.SampleRows
public import proofs.«01_k».proof.Proof.Gen.Reference4Ideal.Run

@[expose] public section

/-! # The last layer's reference on the sample, row by row -/

set_option maxRecDepth 16384

noncomputable section

namespace Cert.Reference4Ideal.Value

open Cert.Reference4Ideal Cert.Reference4Ideal.Gen Idealize.ShloMosaic Idealize.ShloMosaic.TcCoe Idealize.SL.Sem
open EncoderRow

variable (V0 : Valuation τ sig (Elt Ideal))

/-- The residual rows after the output projection. -/
abbrev afterMix (r : Fin 128) : Fin 1024 → EReal :=
  mixed (fun k => (V0 (Proc.devRef .tc main_arg0) : FVec Ideal S128x1024 .f32) (ix2 r k))
    (fun k => (V0 (Proc.devRef .tc main_arg1) : FVec Ideal S128x512 .bf16) (ix2 r k))
    (fun k => (V0 (Proc.devRef .tc main_arg2) : FVec Ideal S128x512 .bf16) (ix2 r k))
    (fun k n => (V0 (Proc.devRef .tc main_arg4) : FVec Ideal S2x1024x1024 .f32) (ix3 1 k n))

theorem x1_at (r : Fin 128) (n : Fin 1024) :
    (res_main_v5 (F := Ideal) V0 : FVec Ideal S128x1024 .f32) (ix2 r n) = afterMix V0 r n := by
  pointwise [res_main_v5, fn_main_v0]
  rfl

theorem h_at (r : Fin 128) (n : Fin 1024) :
    (res_main_v20 (F := Ideal) V0 : FVec Ideal S128x1024 .f32) (ix2 r n)
      = norm (afterMix V0 r) (fun k => (V0 (Proc.devRef .tc main_arg5) : FVec Ideal S2x1024 .f32) (ix2 1 k)) n := by
  pointwise [res_main_v20]
  simp only [x1_at]
  rfl

theorem gate_at (r : Fin 128) (n : Fin 2816) :
    (res_main_v23 (F := Ideal) V0 : FVec Ideal S128x2816 .f32) (ix2 r n)
      = proj (norm (afterMix V0 r) (fun k => (V0 (Proc.devRef .tc main_arg5) : FVec Ideal S2x1024 .f32) (ix2 1 k)))
          (fun k n => (V0 (Proc.devRef .tc main_arg6) : FVec Ideal S2x1024x2816 .f32) (ix3 1 k n)) n := by
  pointwise [res_main_v23]
  simp only [h_at]
  rfl

/-- The residual rows after the SwiGLU block. -/
abbrev afterFfn (r : Fin 128) : Fin 1024 → EReal :=
  swiglu (afterMix V0 r) (fun k => (V0 (Proc.devRef .tc main_arg5) : FVec Ideal S2x1024 .f32) (ix2 1 k))
    (fun k n => (V0 (Proc.devRef .tc main_arg6) : FVec Ideal S2x1024x2816 .f32) (ix3 1 k n))
    (fun k n => (V0 (Proc.devRef .tc main_arg7) : FVec Ideal S2x1024x2816 .f32) (ix3 1 k n))
    (fun k n => (V0 (Proc.devRef .tc main_arg8) : FVec Ideal S2x2816x1024 .f32) (ix3 1 k n))

theorem x2_at (r : Fin 128) (n : Fin 1024) :
    (res_main_v32 (F := Ideal) V0 : FVec Ideal S128x1024 .f32) (ix2 r n) = afterFfn V0 r n := by
  pointwise [res_main_v32]
  simp only [x1_at, h_at, gate_at]
  rfl

/-- The tail of the last layer, row `r`, over the reference's arguments. -/
abbrev tailOf (r : Fin 128) : Fin 1024 → EReal :=
  sampleTail 1 (V0 (Proc.devRef .tc main_arg0)) (V0 (Proc.devRef .tc main_arg1)) (V0 (Proc.devRef .tc main_arg2))
    (V0 (Proc.devRef .tc main_arg3)) (V0 (Proc.devRef .tc main_arg4)) (V0 (Proc.devRef .tc main_arg5))
    (V0 (Proc.devRef .tc main_arg6)) (V0 (Proc.devRef .tc main_arg7)) (V0 (Proc.devRef .tc main_arg8))
    (V0 (Proc.devRef .tc main_arg9)) (V0 (Proc.devRef .tc main_arg10)) (V0 (Proc.devRef .tc main_arg11)) r

theorem x3_at (r : Fin 128) (n : Fin 1024) :
    (res_main_v64 (F := Ideal) V0 : FVec Ideal S128x1024 .f32) (ix2 r n) = tailOf V0 r n := by
  pointwise [res_main_v64]
  simp only [x2_at]
  rfl

end Cert.Reference4Ideal.Value
-- ==== Proof.SampleTailClaim.lean ====
module

public import proofs.«01_k».proof.Defs
public import proofs.«01_k».proof.Proof.SampleTail
public import proofs.«01_k».proof.Proof.SampleTailRef

@[expose] public section

/-! # The last layer's call on the sample computes its reference -/

set_option maxRecDepth 16384

noncomputable section

namespace Cert.SampleTailClaim

open Idealize.ShloMosaic Idealize.ShloMosaic.TcCoe Idealize.SL.Sem EncoderRow

/-- The reference's frame: its run writes no argument, and it declares no semaphore. -/
theorem reference_frame : Cert.quiescent_Reference4Ideal (hReference4Ideal := Cert.Reference4Ideal.Gen.facts) := by
  intro m ρ _
  exact (θ_run Cert.Reference4Ideal.defs _ _).mono
    (fun r h => ⟨fun c => (h c).2, Idealize.ShloMosaic.sem_eq_zero_of_no_sems (by decide) r.2⟩)
    (Cert.Reference4Ideal.Value.run m ρ)

/-- Over the extended reals the call's result is the reference's, from the same arguments. -/
theorem same_value : Cert.algebraic_Kernel4Ideal_Reference4Ideal (hKernel4Ideal := Cert.Kernel4Ideal.Gen.facts)
    (hReference4Ideal := Cert.Reference4Ideal.Gen.facts) := by
  intro m g m' g' _ hargs
  refine ⟨fun c => Cert.Kernel4Ideal.Tail.result m c, ?_, ?_⟩
  · exact (θ_run Cert.Kernel4Ideal.defs _ _).mono
      (fun r h c => ⟨(h c).1.trans (Cert.Kernel4Ideal.Tail.final m c), (h c).2⟩)
      (Cert.Kernel4Ideal.Value.run_blocks m g)
  · refine (θ_run Cert.Reference4Ideal.defs _ _).mono (fun r h c => ⟨(h c).1.trans ?_, (h c).2⟩)
      (Cert.Reference4Ideal.Value.run m' g')
    obtain ⟨h0, h1, h2, h3, h4, h5, h6, h7, h8, h9, h10, h11, h12⟩ := hargs c
    refine funext fun i => ?_
    obtain ⟨r, n, rfl⟩ : ∃ (r : Fin 128) (n : Fin 1024), i = ix2 r n := ⟨i 0, i 1, eq_ix2 i⟩
    pointwise [Cert.Kernel4Ideal.Tail.result]
    simp only [Cert.Reference4Ideal.Value.x3_at]
    simp only [← h0, ← h1, ← h2, ← h3, ← h4, ← h5, ← h6, ← h7, ← h8, ← h9, ← h10, ← h11, ← h12]
    rfl

end Cert.SampleTailClaim
-- ==== Proof.SampleMid.lean ====
module

public import proofs.«01_k».proof.Proof.SampleRows
public import proofs.«01_k».proof.Proof.Gen.Kernel5Ideal.Value

@[expose] public section

/-! # The first layer's call on the sample, row by row

One grid point holds the sample's 128 rows: the layer's tail on every row, then the next layer's norms of those rows
times each of six blocks of 512 columns of its weight. -/

set_option maxRecDepth 16384

noncomputable section

namespace Cert.Kernel5Ideal.Mid

open Cert.Kernel5Ideal Cert.Kernel5Ideal.Gen Idealize.ShloMosaic Idealize.ShloMosaic.TcCoe Idealize.SL.Sem
open Idealize.ShloMosaic.ValueKit EncoderRow

section Chain

variable (x : FVec Ideal S128x1024 .f32) (a ob : FVec Ideal S128x512 .bf16) (p : FVec Ideal S1x128x256 .f32)
  (wt wb : FVec Ideal S1x512x1024 .bf16) (gf : FVec Ideal S1x1x1024 .f32) (wg wu : FVec Ideal S1x1024x2816 .bf16)
  (wd : FVec Ideal S1x2816x1024 .bf16) (gp : FVec Ideal S1x1x1024 .f32) (wpg : FVec Ideal S1x1024x1024 .bf16)
  (wpp : FVec Ideal S1x256x1024 .bf16)

/-- RMSNorm's unit part on a block of rows. -/
def unitBlock (y : FVec Ideal S128x1024 .f32) : FVec Ideal S128x1024 .f32 :=
  mulf y (broadcastTo S128x1024 (rsqrt (addf (divf (shapeCast S128x1 (multiReduction .add [1] S128 (mulf y y)
    0x00000000#32 reduces_S128x1024_S128 (.inl rfl) rfl) shapeCasts_S128_S128x1)
    (broadcast S128x1 (Scalar.ofBits .f32 0x44800000#32))) (broadcast S128x1 (Scalar.ofBits .f32 0x358637BD#32))))
    broadcasts_S128x1_S128x1024)

theorem unitBlock_at (y : FVec Ideal S128x1024 .f32) (r : Fin 128) (n : Fin 1024) :
    unitBlock y (ix2 r n) = unit (fun k => y (ix2 r k)) n := by
  pointwise [unitBlock]
  rfl

/-- RMSNorm on a block of rows. -/
def normBlock (y : FVec Ideal S128x1024 .f32) (g : FVec Ideal S1x1x1024 .f32) : FVec Ideal S128x1024 .bf16 :=
  truncf .bf16 (mulf (unitBlock y) (broadcastTo S128x1024 (shapeCast S1x1024 g shapeCasts_S1x1x1024_S1x1024)
    broadcasts_S1x1024_S128x1024)) bitsLt_bf16_f32

theorem normBlock_at (y : FVec Ideal S128x1024 .f32) (g : FVec Ideal S1x1x1024 .f32) (r : Fin 128) (n : Fin 1024) :
    normBlock y g (ix2 r n) = norm (fun k => y (ix2 r k)) (fun k => g (ix3 0 0 k)) n := by
  pointwise [normBlock]
  simp only [unitBlock_at]
  rfl

/-- The rows times the gate's or the up weight. -/
def wide (h : FVec Ideal S128x1024 .bf16) (w : FVec Ideal S1x1024x2816 .bf16) : FVec Ideal S128x2816 .f32 :=
  matmul dot_S128x1024_S1024x2816_S128x2816_1_0_0_1_n_n none h
    (shapeCast S1024x2816 w shapeCasts_S1x1024x2816_S1024x2816) (constant S128x2816 .f32 0x00000000#32)

theorem wide_at (h : FVec Ideal S128x1024 .bf16) (w : FVec Ideal S1x1024x2816 .bf16) (r : Fin 128) (n : Fin 2816) :
    wide h w (ix2 r n) = proj (fun k => h (ix2 r k)) (fun k n => w (ix3 0 k n)) n := by
  pointwise [wide]
  rfl

/-- The rows after the output projection. -/
def chain1 : FVec Ideal S128x1024 .f32 := k0_pay4 x a wt ob wb

theorem chain1_at (wo : Fin 1024 → Fin 1024 → EReal) (ht : ∀ k n, wt (ix3 0 k n) = wo ⟨k, by omega⟩ n)
    (hb : ∀ k n, wb (ix3 0 k n) = wo ⟨512 + k, by omega⟩ n) (r : Fin 128) (n : Fin 1024) :
    chain1 x a ob wt wb (ix2 r n)
      = mixed (fun k => x (ix2 r k)) (fun k => a (ix2 r k)) (fun k => ob (ix2 r k)) wo n := by
  pointwise [chain1, k0_pay4]
  simp only [ht, hb, mixed]
  exact add_assoc _ _ _

/-- The rows after the SwiGLU block, from those before it. -/
def chain2 (x1 : FVec Ideal S128x1024 .f32) : FVec Ideal S128x1024 .f32 :=
  addf x1 (matmul dot_S128x2816_S2816x1024_S128x1024_1_0_0_1_n_n none
    (truncf .bf16 (mulf (mulf (wide (normBlock x1 gf) wg) (logistic (wide (normBlock x1 gf) wg))) (wide (normBlock x1 gf) wu))
      bitsLt_bf16_f32) (shapeCast S2816x1024 wd shapeCasts_S1x2816x1024_S2816x1024) (constant S128x1024 .f32 0x00000000#32))

theorem chain2_at (x1 : FVec Ideal S128x1024 .f32) (r : Fin 128) (n : Fin 1024) :
    chain2 gf wg wu wd x1 (ix2 r n)
      = swiglu (fun k => x1 (ix2 r k)) (fun k => gf (ix3 0 0 k)) (fun k n => wg (ix3 0 k n))
          (fun k n => wu (ix3 0 k n)) (fun k n => wd (ix3 0 k n)) n := by
  pointwise [chain2]
  simp only [wide_at, normBlock_at]
  rfl

/-- The rows after the per-layer embedding, from those before it. -/
def chain3 (x2 : FVec Ideal S128x1024 .f32) : FVec Ideal S128x1024 .f32 :=
  addf x2 (mulf (logistic (matmul dot_S128x1024_S1024x1024_S128x1024_1_0_0_1_n_n none (normBlock x2 gp)
    (shapeCast S1024x1024 wpg shapeCasts_S1x1024x1024_S1024x1024) (constant S128x1024 .f32 0x00000000#32)))
    (matmul dot_S128x256_S256x1024_S128x1024_1_0_0_1_n_n none
      (truncf .bf16 (shapeCast S128x256 p shapeCasts_S1x128x256_S128x256) bitsLt_bf16_f32)
      (shapeCast S256x1024 wpp shapeCasts_S1x256x1024_S256x1024) (constant S128x1024 .f32 0x00000000#32)))

theorem chain3_at (x2 : FVec Ideal S128x1024 .f32) (r : Fin 128) (n : Fin 1024) :
    chain3 p gp wpg wpp x2 (ix2 r n)
      = embedded (fun k => x2 (ix2 r k)) (fun k => gp (ix3 0 0 k)) (fun k => p (ix3 0 r k))
          (fun k n => wpg (ix3 0 k n)) (fun k n => wpp (ix3 0 k n)) n := by
  pointwise [chain3]
  simp only [normBlock_at]
  rfl

/-- The layer's tail on the 128 rows. -/
def chain : FVec Ideal S128x1024 .f32 := chain3 p gp wpg wpp (chain2 gf wg wu wd (chain1 x a ob wt wb))

theorem chain_at (wo : Fin 1024 → Fin 1024 → EReal) (ht : ∀ k n, wt (ix3 0 k n) = wo ⟨k, by omega⟩ n)
    (hb : ∀ k n, wb (ix3 0 k n) = wo ⟨512 + k, by omega⟩ n) (r : Fin 128) (n : Fin 1024) :
    chain x a ob p wt wb gf wg wu wd gp wpg wpp (ix2 r n)
      = tail (fun k => x (ix2 r k)) (fun k => a (ix2 r k)) (fun k => ob (ix2 r k)) (fun k => p (ix3 0 r k)) wo
          (fun k => gf (ix3 0 0 k)) (fun k n => wg (ix3 0 k n)) (fun k n => wu (ix3 0 k n))
          (fun k n => wd (ix3 0 k n)) (fun k => gp (ix3 0 0 k)) (fun k n => wpg (ix3 0 k n))
          (fun k n => wpp (ix3 0 k n)) n := by
  unfold chain tail
  simp only [chain3_at, chain2_at, chain1_at x a ob wt wb wo ht hb]

theorem pay5_eq : k0_pay5 (F := Ideal) x a wt ob wb gf = normBlock (chain1 x a ob wt wb) gf := rfl
theorem pay6_eq : k0_pay6 (F := Ideal) x a wt ob wb gf wg = wide (normBlock (chain1 x a ob wt wb) gf) wg := rfl
theorem pay8_eq (x1 : FVec Ideal S128x1024 .f32) : k0_pay8 (F := Ideal) x1 (normBlock x1 gf) (wide (normBlock x1 gf) wg)
    (k0_pay7 wu) (constant S128x2816 .f32 0x00000000#32) wd gp wpg p wpp
    = chain3 p gp wpg wpp (chain2 gf wg wu wd x1) := rfl

/-- The rows times a block of 512 columns of the projections' weight. -/
def narrow (h : FVec Ideal S128x1024 .bf16) (w : FVec Ideal S1x512x1024 .bf16) : FVec Ideal S128x512 .f32 := k0_pay1 h w

theorem narrow_at (h : FVec Ideal S128x1024 .bf16) (w : FVec Ideal S1x512x1024 .bf16) (r : Fin 128) (n : Fin 512) :
    narrow h w (ix2 r n) = proj (fun k => h (ix2 r k)) (fun k n => w (ix3 0 n k)) n := by
  pointwise [narrow, k0_pay1]
  rfl

/-- A block of 512 columns of the projections, scaled: the queries. -/
def scaled (y : FVec Ideal S128x512 .f32) : FVec Ideal S128x512 .bf16 :=
  truncf .bf16 (mulf y (broadcast S128x512 (Scalar.ofBits .f32 0x3E000000#32))) bitsLt_bf16_f32

theorem scaled_at (y : FVec Ideal S128x512 .f32) (r : Fin 128) (n : Fin 512) :
    scaled y (ix2 r n) = y (ix2 r n) * Ideal.ofBits .f32 0x3E000000#32 := by
  pointwise [scaled]

theorem pay9_eq (y : FVec Ideal S128x1024 .f32) : k0_pay9 (F := Ideal) y gf = normBlock y gf := rfl
theorem pay10_eq (y : FVec Ideal S128x1024 .f32) (w : FVec Ideal S1x512x1024 .bf16) :
    k0_pay10 (F := Ideal) y gf w = scaled (narrow (normBlock y gf) w) := rfl
theorem pay11_eq (y : FVec Ideal S128x1024 .f32) (w : FVec Ideal S1x512x1024 .bf16) :
    k0_pay11 (F := Ideal) y gf w = scaled (narrow (normBlock y gf) w) := rfl
theorem pay12_eq (y : FVec Ideal S128x1024 .f32) (w : FVec Ideal S1x512x1024 .bf16) :
    k0_pay12 (F := Ideal) y gf w = narrow (normBlock y gf) w := rfl
theorem pay1_eq (h : FVec Ideal S128x1024 .bf16) (w : FVec Ideal S1x512x1024 .bf16) : k0_pay1 (F := Ideal) h w = narrow h w := rfl
theorem pay2_eq (h : FVec Ideal S128x1024 .bf16) (w : FVec Ideal S1x512x1024 .bf16) : k0_pay2 (F := Ideal) h w = narrow h w := rfl
theorem pay3_eq (h : FVec Ideal S128x1024 .bf16) (w : FVec Ideal S1x512x1024 .bf16) : k0_pay3 (F := Ideal) h w = narrow h w := rfl

end Chain

section Block

variable (x0 : Vec Ideal S128x1024 .f32) (x1 x2 : Vec Ideal S128x512 .bf16) (x3 : Vec Ideal S1x128x256 .f32)
    (x4 : Vec Ideal S1x1024x1024 .bf16) (x5 : Vec Ideal S1x1x1024 .f32) (x6 x7 : Vec Ideal S1x1024x2816 .bf16)
    (x8 : Vec Ideal S1x2816x1024 .bf16) (x9 : Vec Ideal S1x1x1024 .f32) (x10 : Vec Ideal S1x1024x1024 .bf16)
    (x11 : Vec Ideal S1x256x1024 .bf16) (x12 : Vec Ideal S1x1x1024 .f32) (x13 : Vec Ideal S1x3072x1024 .bf16)

/-- The tail of row `r` of the block. -/
abbrev tailOf (r : Fin 128) : Fin 1024 → EReal :=
  tail (fun k => (x0 : FVec Ideal S128x1024 .f32) (ix2 r k)) (fun k => (x1 : FVec Ideal S128x512 .bf16) (ix2 r k))
    (fun k => (x2 : FVec Ideal S128x512 .bf16) (ix2 r k)) (fun k => (x3 : FVec Ideal S1x128x256 .f32) (ix3 0 r k))
    (fun k n => (x4 : FVec Ideal S1x1024x1024 .bf16) (ix3 0 k n)) (fun k => (x5 : FVec Ideal S1x1x1024 .f32) (ix3 0 0 k))
    (fun k n => (x6 : FVec Ideal S1x1024x2816 .bf16) (ix3 0 k n)) (fun k n => (x7 : FVec Ideal S1x1024x2816 .bf16) (ix3 0 k n))
    (fun k n => (x8 : FVec Ideal S1x2816x1024 .bf16) (ix3 0 k n)) (fun k => (x9 : FVec Ideal S1x1x1024 .f32) (ix3 0 0 k))
    (fun k n => (x10 : FVec Ideal S1x1024x1024 .bf16) (ix3 0 k n)) (fun k n => (x11 : FVec Ideal S1x256x1024 .bf16) (ix3 0 k n))

theorem rows_at (r : Fin 128) (n : Fin 1024) :
    k0_pay13 (F := Ideal) x0 x1 x2 x3 x4 x5 x6 x7 x8 x9 x10 x11 x12 x13 (ix2 r n) = tailOf x0 x1 x2 x3 x4 x5 x6 x7 x8 x9 x10 x11 r n := by
  simp only [k0_pay13, pay5_eq, pay6_eq]
  refine (congrFun (pay8_eq _ _ _ _ _ _ _ _ _) _).trans ?_
  refine (chain_at _ _ _ _ _ _ _ _ _ _ _ _ _ (fun k n => (x4 : FVec Ideal S1x1024x1024 .bf16) (ix3 0 k n)) ?_ ?_ r n).trans ?_
  · intro k n; pointwise
  · intro k n; pointwise
  · pointwise

/-- Column `n` of the next layer's projections of row `r` of the block. -/
abbrev headsOf (r : Fin 128) (n : Fin 3072) : EReal :=
  proj (norm (tailOf x0 x1 x2 x3 x4 x5 x6 x7 x8 x9 x10 x11 r) (fun k => (x12 : FVec Ideal S1x1x1024 .f32) (ix3 0 0 k)))
    (fun k n => (x13 : FVec Ideal S1x3072x1024 .bf16) (ix3 0 n k)) n

theorem column_at (w : FVec Ideal S1x512x1024 .bf16) (off : ℕ) (ho : off + 512 ≤ 3072)
    (hw : ∀ (n : Fin 512) k, w (ix3 0 n k)
      = (x13 : FVec Ideal S1x3072x1024 .bf16) (ix3 0 ⟨off + n, by omega⟩ k)) (r : Fin 128) (n : Fin 512) :
    narrow (normBlock (k0_pay13 (F := Ideal) x0 x1 x2 x3 x4 x5 x6 x7 x8 x9 x10 x11 x12 x13) x12) w (ix2 r n)
      = headsOf x0 x1 x2 x3 x4 x5 x6 x7 x8 x9 x10 x11 x12 x13 r ⟨off + n, by omega⟩ := by
  rw [narrow_at]
  simp only [normBlock_at, rows_at, proj, hw]

theorem gain_whole : View.ld x12 r0_4 = x12 := View.ld_unit_zero (by funext a; fin_cases a <;> rfl) _ _

theorem x_block (r : Fin 128) (n : Fin 1024) :
    out0_14 (F := Ideal) x0 x1 x2 x3 x4 x5 x6 x7 x8 x9 x10 x11 x12 x13 (ix2 r n) = tailOf x0 x1 x2 x3 x4 x5 x6 x7 x8 x9 x10 x11 r n := by
  refine Eq.trans ?_ (rows_at x0 x1 x2 x3 x4 x5 x6 x7 x8 x9 x10 x11 x12 x13 r n)
  unfold out0_14
  frame_out

theorem qa_block (r : Fin 128) (n : Fin 512) : out0_15 (F := Ideal) x0 x1 x2 x3 x4 x5 x6 x7 x8 x9 x10 x11 x12 x13 (ix2 r n)
    = headsOf x0 x1 x2 x3 x4 x5 x6 x7 x8 x9 x10 x11 x12 x13 r ⟨0 + n, by omega⟩ * Ideal.ofBits .f32 0x3E000000#32 := by
  unfold out0_15
  frame_out
  simp only [k0_pay14, pay9_eq, pay10_eq, pay11_eq, pay12_eq, pay1_eq, pay2_eq, pay3_eq, gain_whole]
  rw [scaled_at, column_at x0 x1 x2 x3 x4 x5 x6 x7 x8 x9 x10 x11 x12 x13 _ 0 (by decide) (fun n k => by pointwise) r n]

theorem qb_block (r : Fin 128) (n : Fin 512) : out0_16 (F := Ideal) x0 x1 x2 x3 x4 x5 x6 x7 x8 x9 x10 x11 x12 x13 (ix2 r n)
    = headsOf x0 x1 x2 x3 x4 x5 x6 x7 x8 x9 x10 x11 x12 x13 r ⟨1536 + n, by omega⟩ * Ideal.ofBits .f32 0x3E000000#32 := by
  unfold out0_16
  frame_out
  simp only [k0_pay14, pay9_eq, pay10_eq, pay11_eq, pay12_eq, pay1_eq, pay2_eq, pay3_eq, gain_whole]
  rw [scaled_at, column_at x0 x1 x2 x3 x4 x5 x6 x7 x8 x9 x10 x11 x12 x13 _ 1536 (by decide) (fun n k => by pointwise) r n]

theorem ka_block (r : Fin 128) (n : Fin 512) : out0_17 (F := Ideal) x0 x1 x2 x3 x4 x5 x6 x7 x8 x9 x10 x11 x12 x13 (ix2 r n)
    = headsOf x0 x1 x2 x3 x4 x5 x6 x7 x8 x9 x10 x11 x12 x13 r ⟨512 + n, by omega⟩ := by
  unfold out0_17
  frame_out
  simp only [k0_pay14, pay9_eq, pay10_eq, pay11_eq, pay12_eq, pay1_eq, pay2_eq, pay3_eq, gain_whole]
  exact column_at x0 x1 x2 x3 x4 x5 x6 x7 x8 x9 x10 x11 x12 x13 _ 512 (by decide) (fun n k => by pointwise) r n

theorem va_block (r : Fin 128) (n : Fin 512) : out0_18 (F := Ideal) x0 x1 x2 x3 x4 x5 x6 x7 x8 x9 x10 x11 x12 x13 (ix2 r n)
    = headsOf x0 x1 x2 x3 x4 x5 x6 x7 x8 x9 x10 x11 x12 x13 r ⟨1024 + n, by omega⟩ := by
  unfold out0_18
  frame_out
  simp only [k0_pay14, pay9_eq, pay10_eq, pay11_eq, pay12_eq, pay1_eq, pay2_eq, pay3_eq, gain_whole]
  exact column_at x0 x1 x2 x3 x4 x5 x6 x7 x8 x9 x10 x11 x12 x13 _ 1024 (by decide) (fun n k => by pointwise) r n

theorem kb_block (r : Fin 128) (n : Fin 512) : out0_19 (F := Ideal) x0 x1 x2 x3 x4 x5 x6 x7 x8 x9 x10 x11 x12 x13 (ix2 r n)
    = headsOf x0 x1 x2 x3 x4 x5 x6 x7 x8 x9 x10 x11 x12 x13 r ⟨2048 + n, by omega⟩ := by
  unfold out0_19
  frame_out
  simp only [k0_pay14, pay9_eq, pay10_eq, pay11_eq, pay12_eq, pay1_eq, pay2_eq, pay3_eq, gain_whole]
  exact column_at x0 x1 x2 x3 x4 x5 x6 x7 x8 x9 x10 x11 x12 x13 _ 2048 (by decide) (fun n k => by pointwise) r n

theorem vb_block (r : Fin 128) (n : Fin 512) : out0_20 (F := Ideal) x0 x1 x2 x3 x4 x5 x6 x7 x8 x9 x10 x11 x12 x13 (ix2 r n)
    = headsOf x0 x1 x2 x3 x4 x5 x6 x7 x8 x9 x10 x11 x12 x13 r ⟨2560 + n, by omega⟩ := by
  unfold out0_20
  frame_out
  simp only [k0_pay14, pay9_eq, pay10_eq, pay11_eq, pay12_eq, pay1_eq, pay2_eq, pay3_eq, gain_whole]
  exact column_at x0 x1 x2 x3 x4 x5 x6 x7 x8 x9 x10 x11 x12 x13 _ 2560 (by decide) (fun n k => by pointwise) r n

end Block

variable (m : (ℓ : Loc nD τ sig) → Buf (Elt Ideal) ℓ)

theorem idx : ∀ t : Fin cfg0.N, win0_0.index t = ![0, 0] ∧ win0_1.index t = ![0, 0]
    ∧ win0_2.index t = ![0, 0] ∧ win0_3.index t = ![0, 0, 0] ∧ win0_4.index t = ![0, 0, 0]
    ∧ win0_5.index t = ![0, 0, 0] ∧ win0_6.index t = ![0, 0, 0] ∧ win0_7.index t = ![0, 0, 0]
    ∧ win0_8.index t = ![0, 0, 0] ∧ win0_9.index t = ![0, 0, 0] ∧ win0_10.index t = ![0, 0, 0]
    ∧ win0_11.index t = ![0, 0, 0] ∧ win0_12.index t = ![1, 0, 0] ∧ win0_13.index t = ![1, 0, 0] :=
  (by decide +kernel : ∀ t : Fin grid0.N, _)

theorem idx_out : ∀ t : Fin cfg0.N, win0_14.index t = ![0, 0] ∧ win0_15.index t = ![0, 0] ∧ win0_16.index t = ![0, 0]
    ∧ win0_17.index t = ![0, 0] ∧ win0_18.index t = ![0, 0] ∧ win0_19.index t = ![0, 0] ∧ win0_20.index t = ![0, 0] :=
  (by decide +kernel : ∀ t : Fin grid0.N, _)

theorem x_blk (c : Dev nD) (t : Fin cfg0.N) (r : Fin 128) (k : Fin 1024) : (iblk m c 0 t : FVec Ideal S128x1024 .f32) (ix2 r k)
    = (m ((c.tc : Thread nD τ).loc main_arg0) : FVec Ideal S128x1024 .f32) (ix2 r k) := by
  blk_point [iblk, V, idx t]

theorem a_blk (c : Dev nD) (t : Fin cfg0.N) (r : Fin 128) (k : Fin 512) : (iblk m c 1 t : FVec Ideal S128x512 .bf16) (ix2 r k)
    = (m ((c.tc : Thread nD τ).loc main_arg1) : FVec Ideal S128x512 .bf16) (ix2 r k) := by
  blk_point [iblk, V, idx t]

theorem ob_blk (c : Dev nD) (t : Fin cfg0.N) (r : Fin 128) (k : Fin 512) : (iblk m c 2 t : FVec Ideal S128x512 .bf16) (ix2 r k)
    = (m ((c.tc : Thread nD τ).loc main_arg2) : FVec Ideal S128x512 .bf16) (ix2 r k) := by
  blk_point [iblk, V, idx t]

theorem p_blk (c : Dev nD) (t : Fin cfg0.N) (r : Fin 128) (k : Fin 256) : (iblk m c 3 t : FVec Ideal S1x128x256 .f32) (ix3 0 r k)
    = (m ((c.tc : Thread nD τ).loc main_arg3) : FVec Ideal S2x8x16x256 .f32) (ix4 0 ⟨r.val / 16, by omega⟩ ⟨r.val % 16, by omega⟩ k) := by
  blk_point [iblk, V, idx t]

theorem w_out_blk (c : Dev nD) (t : Fin cfg0.N) (k : Fin 1024) (n : Fin 1024) : (iblk m c 4 t : FVec Ideal S1x1024x1024 .bf16) (ix3 0 k n)
    = (m ((c.tc : Thread nD τ).loc main_arg4) : FVec Ideal S2x1024x1024 .f32) (ix3 0 k n) := by
  blk_point [iblk, V, idx t]

theorem g_ffn_blk (c : Dev nD) (t : Fin cfg0.N) (k : Fin 1024) : (iblk m c 5 t : FVec Ideal S1x1x1024 .f32) (ix3 0 0 k)
    = (m ((c.tc : Thread nD τ).loc main_arg5) : FVec Ideal S2x1024 .f32) (ix2 0 k) := by
  blk_point [iblk, V, idx t]

theorem w_gate_blk (c : Dev nD) (t : Fin cfg0.N) (k : Fin 1024) (n : Fin 2816) : (iblk m c 6 t : FVec Ideal S1x1024x2816 .bf16) (ix3 0 k n)
    = (m ((c.tc : Thread nD τ).loc main_arg6) : FVec Ideal S2x1024x2816 .f32) (ix3 0 k n) := by
  blk_point [iblk, V, idx t]

theorem w_up_blk (c : Dev nD) (t : Fin cfg0.N) (k : Fin 1024) (n : Fin 2816) : (iblk m c 7 t : FVec Ideal S1x1024x2816 .bf16) (ix3 0 k n)
    = (m ((c.tc : Thread nD τ).loc main_arg7) : FVec Ideal S2x1024x2816 .f32) (ix3 0 k n) := by
  blk_point [iblk, V, idx t]

theorem w_down_blk (c : Dev nD) (t : Fin cfg0.N) (k : Fin 2816) (n : Fin 1024) : (iblk m c 8 t : FVec Ideal S1x2816x1024 .bf16) (ix3 0 k n)
    = (m ((c.tc : Thread nD τ).loc main_arg8) : FVec Ideal S2x2816x1024 .f32) (ix3 0 k n) := by
  blk_point [iblk, V, idx t]

theorem g_ple_blk (c : Dev nD) (t : Fin cfg0.N) (k : Fin 1024) : (iblk m c 9 t : FVec Ideal S1x1x1024 .f32) (ix3 0 0 k)
    = (m ((c.tc : Thread nD τ).loc main_arg9) : FVec Ideal S2x1024 .f32) (ix2 0 k) := by
  blk_point [iblk, V, idx t]

theorem w_ple_gate_blk (c : Dev nD) (t : Fin cfg0.N) (k : Fin 1024) (n : Fin 1024) : (iblk m c 10 t : FVec Ideal S1x1024x1024 .bf16) (ix3 0 k n)
    = (m ((c.tc : Thread nD τ).loc main_arg10) : FVec Ideal S2x1024x1024 .f32) (ix3 0 k n) := by
  blk_point [iblk, V, idx t]

theorem w_ple_proj_blk (c : Dev nD) (t : Fin cfg0.N) (k : Fin 256) (n : Fin 1024) : (iblk m c 11 t : FVec Ideal S1x256x1024 .bf16) (ix3 0 k n)
    = (m ((c.tc : Thread nD τ).loc main_arg11) : FVec Ideal S2x256x1024 .f32) (ix3 0 k n) := by
  blk_point [iblk, V, idx t]

theorem g_mix_blk (c : Dev nD) (t : Fin cfg0.N) (k : Fin 1024) : (iblk m c 12 t : FVec Ideal S1x1x1024 .f32) (ix3 0 0 k)
    = (m ((c.tc : Thread nD τ).loc main_arg12) : FVec Ideal S2x1024 .f32) (ix2 1 k) := by
  blk_point [iblk, V, idx t]

theorem w_in_blk (c : Dev nD) (t : Fin cfg0.N) (k : Fin 1024) (n : Fin 3072) : (iblk m c 13 t : FVec Ideal S1x3072x1024 .bf16) (ix3 0 n k)
    = (m ((c.tc : Thread nD τ).loc main_arg13) : FVec Ideal S2x1024x3072 .f32) (ix3 1 k n) := by
  blk_point [iblk, V, idx t]

/-- The first layer's tail on row `r`, from the arguments. -/
abbrev tailArg (c : Dev nD) (r : Fin 128) : Fin 1024 → EReal :=
  sampleTail 0 (m ((c.tc : Thread nD τ).loc main_arg0)) (m ((c.tc : Thread nD τ).loc main_arg1)) (m ((c.tc : Thread nD τ).loc main_arg2))
    (m ((c.tc : Thread nD τ).loc main_arg3)) (m ((c.tc : Thread nD τ).loc main_arg4)) (m ((c.tc : Thread nD τ).loc main_arg5))
    (m ((c.tc : Thread nD τ).loc main_arg6)) (m ((c.tc : Thread nD τ).loc main_arg7)) (m ((c.tc : Thread nD τ).loc main_arg8))
    (m ((c.tc : Thread nD τ).loc main_arg9)) (m ((c.tc : Thread nD τ).loc main_arg10)) (m ((c.tc : Thread nD τ).loc main_arg11)) r

/-- The second layer's projections of row `r`, from the arguments. -/
abbrev headsArg (c : Dev nD) (r : Fin 128) (n : Fin 3072) : EReal :=
  heads 1 (tailArg m c r) (m ((c.tc : Thread nD τ).loc main_arg12)) (m ((c.tc : Thread nD τ).loc main_arg13)) n

theorem tail_blk (c : Dev nD) (t : Fin cfg0.N) (r : Fin 128) :
    tailOf (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) r
      = tailArg m c r := by
  simp only [tailOf, x_blk, a_blk, ob_blk, p_blk, w_out_blk, g_ffn_blk, w_gate_blk, w_up_blk, w_down_blk, g_ple_blk,
    w_ple_gate_blk, w_ple_proj_blk]
  rfl

theorem heads_blk (c : Dev nD) (t : Fin cfg0.N) (r : Fin 128) (n : Fin 3072) :
    headsOf (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) r n
      = headsArg m c r n := by
  simp only [headsOf, tail_blk, g_mix_blk, w_in_blk]
  rfl

/-- The residual rows after the layer. -/
def result14 (c : Dev nD) : Buf (Elt Ideal) ((c.tc : Thread nD τ).loc main_v12_0) := fun i : S128x1024.Idx =>
  tailArg m c (i 0) (i 1)

theorem emb14 (t : Fin cfg0.N) (r : Fin 128) (n : Fin 1024) :
    ((win0_14.blk t).view.emb (ix2 r n) : S128x1024.Idx) = ix2 r n := by
  blk_ext [idx_out t]

theorem final14 (c : Dev nD) : (dats m 0 c).arrAt 14 (cfgs 0).N = result14 m c := by
  refine (dats m 0 c).arrAt_eq_of_covers 14 _ (by decide +kernel) fun t hf y => ?_
  blk_simp
  rw [after0_14]
  obtain ⟨r, n, rfl⟩ : ∃ (r : Fin 128) (n : Fin 1024), y = ix2 r n := ⟨y 0, y 1, eq_ix2 y⟩
  refine (x_block _ _ _ _ _ _ _ _ _ _ _ _ _ _ r n).trans ?_
  refine Eq.trans ?_ (congrArg (result14 m c) (emb14 t r n)).symm
  rw [tail_blk]; rfl

/-- The next layer's stick-breaking queries. -/
def result15 (c : Dev nD) : Buf (Elt Ideal) ((c.tc : Thread nD τ).loc main_v12_1) := fun i : S128x512.Idx =>
  headsArg m c (i 0) ⟨0 + (i 1).val, by have : (i 1).val < 512 := (i 1).isLt; omega⟩ * Ideal.ofBits .f32 0x3E000000#32

theorem emb15 (t : Fin cfg0.N) (r : Fin 128) (n : Fin 512) :
    ((win0_15.blk t).view.emb (ix2 r n) : S128x512.Idx) = ix2 r n := by
  blk_ext [idx_out t]

theorem final15 (c : Dev nD) : (dats m 0 c).arrAt 15 (cfgs 0).N = result15 m c := by
  refine (dats m 0 c).arrAt_eq_of_covers 15 _ (by decide +kernel) fun t hf y => ?_
  blk_simp
  rw [after0_15]
  obtain ⟨r, n, rfl⟩ : ∃ (r : Fin 128) (n : Fin 512), y = ix2 r n := ⟨y 0, y 1, eq_ix2 y⟩
  refine (qa_block _ _ _ _ _ _ _ _ _ _ _ _ _ _ r n).trans ?_
  refine Eq.trans ?_ (congrArg (result15 m c) (emb15 t r n)).symm
  rw [heads_blk]; rfl

/-- The next layer's chunk-band queries. -/
def result16 (c : Dev nD) : Buf (Elt Ideal) ((c.tc : Thread nD τ).loc main_v12_2) := fun i : S128x512.Idx =>
  headsArg m c (i 0) ⟨1536 + (i 1).val, by have : (i 1).val < 512 := (i 1).isLt; omega⟩ * Ideal.ofBits .f32 0x3E000000#32

theorem emb16 (t : Fin cfg0.N) (r : Fin 128) (n : Fin 512) :
    ((win0_16.blk t).view.emb (ix2 r n) : S128x512.Idx) = ix2 r n := by
  blk_ext [idx_out t]

theorem final16 (c : Dev nD) : (dats m 0 c).arrAt 16 (cfgs 0).N = result16 m c := by
  refine (dats m 0 c).arrAt_eq_of_covers 16 _ (by decide +kernel) fun t hf y => ?_
  blk_simp
  rw [after0_16]
  obtain ⟨r, n, rfl⟩ : ∃ (r : Fin 128) (n : Fin 512), y = ix2 r n := ⟨y 0, y 1, eq_ix2 y⟩
  refine (qb_block _ _ _ _ _ _ _ _ _ _ _ _ _ _ r n).trans ?_
  refine Eq.trans ?_ (congrArg (result16 m c) (emb16 t r n)).symm
  rw [heads_blk]; rfl

/-- The next layer's stick-breaking keys. -/
def result17 (c : Dev nD) : Buf (Elt Ideal) ((c.tc : Thread nD τ).loc main_v12_3) := fun i : S128x512.Idx =>
  headsArg m c (i 0) ⟨512 + (i 1).val, by have : (i 1).val < 512 := (i 1).isLt; omega⟩

theorem emb17 (t : Fin cfg0.N) (r : Fin 128) (n : Fin 512) :
    ((win0_17.blk t).view.emb (ix2 r n) : S128x512.Idx) = ix2 r n := by
  blk_ext [idx_out t]

theorem final17 (c : Dev nD) : (dats m 0 c).arrAt 17 (cfgs 0).N = result17 m c := by
  refine (dats m 0 c).arrAt_eq_of_covers 17 _ (by decide +kernel) fun t hf y => ?_
  blk_simp
  rw [after0_17]
  obtain ⟨r, n, rfl⟩ : ∃ (r : Fin 128) (n : Fin 512), y = ix2 r n := ⟨y 0, y 1, eq_ix2 y⟩
  refine (ka_block _ _ _ _ _ _ _ _ _ _ _ _ _ _ r n).trans ?_
  refine Eq.trans ?_ (congrArg (result17 m c) (emb17 t r n)).symm
  rw [heads_blk]; rfl

/-- The next layer's stick-breaking values. -/
def result18 (c : Dev nD) : Buf (Elt Ideal) ((c.tc : Thread nD τ).loc main_v12_4) := fun i : S128x512.Idx =>
  headsArg m c (i 0) ⟨1024 + (i 1).val, by have : (i 1).val < 512 := (i 1).isLt; omega⟩

theorem emb18 (t : Fin cfg0.N) (r : Fin 128) (n : Fin 512) :
    ((win0_18.blk t).view.emb (ix2 r n) : S128x512.Idx) = ix2 r n := by
  blk_ext [idx_out t]

theorem final18 (c : Dev nD) : (dats m 0 c).arrAt 18 (cfgs 0).N = result18 m c := by
  refine (dats m 0 c).arrAt_eq_of_covers 18 _ (by decide +kernel) fun t hf y => ?_
  blk_simp
  rw [after0_18]
  obtain ⟨r, n, rfl⟩ : ∃ (r : Fin 128) (n : Fin 512), y = ix2 r n := ⟨y 0, y 1, eq_ix2 y⟩
  refine (va_block _ _ _ _ _ _ _ _ _ _ _ _ _ _ r n).trans ?_
  refine Eq.trans ?_ (congrArg (result18 m c) (emb18 t r n)).symm
  rw [heads_blk]; rfl

/-- The next layer's chunk-band keys. -/
def result19 (c : Dev nD) : Buf (Elt Ideal) ((c.tc : Thread nD τ).loc main_v12_5) := fun i : S128x512.Idx =>
  headsArg m c (i 0) ⟨2048 + (i 1).val, by have : (i 1).val < 512 := (i 1).isLt; omega⟩

theorem emb19 (t : Fin cfg0.N) (r : Fin 128) (n : Fin 512) :
    ((win0_19.blk t).view.emb (ix2 r n) : S128x512.Idx) = ix2 r n := by
  blk_ext [idx_out t]

theorem final19 (c : Dev nD) : (dats m 0 c).arrAt 19 (cfgs 0).N = result19 m c := by
  refine (dats m 0 c).arrAt_eq_of_covers 19 _ (by decide +kernel) fun t hf y => ?_
  blk_simp
  rw [after0_19]
  obtain ⟨r, n, rfl⟩ : ∃ (r : Fin 128) (n : Fin 512), y = ix2 r n := ⟨y 0, y 1, eq_ix2 y⟩
  refine (kb_block _ _ _ _ _ _ _ _ _ _ _ _ _ _ r n).trans ?_
  refine Eq.trans ?_ (congrArg (result19 m c) (emb19 t r n)).symm
  rw [heads_blk]; rfl

/-- The next layer's chunk-band values. -/
def result20 (c : Dev nD) : Buf (Elt Ideal) ((c.tc : Thread nD τ).loc main_v12_6) := fun i : S128x512.Idx =>
  headsArg m c (i 0) ⟨2560 + (i 1).val, by have : (i 1).val < 512 := (i 1).isLt; omega⟩

theorem emb20 (t : Fin cfg0.N) (r : Fin 128) (n : Fin 512) :
    ((win0_20.blk t).view.emb (ix2 r n) : S128x512.Idx) = ix2 r n := by
  blk_ext [idx_out t]

theorem final20 (c : Dev nD) : (dats m 0 c).arrAt 20 (cfgs 0).N = result20 m c := by
  refine (dats m 0 c).arrAt_eq_of_covers 20 _ (by decide +kernel) fun t hf y => ?_
  blk_simp
  rw [after0_20]
  obtain ⟨r, n, rfl⟩ : ∃ (r : Fin 128) (n : Fin 512), y = ix2 r n := ⟨y 0, y 1, eq_ix2 y⟩
  refine (vb_block _ _ _ _ _ _ _ _ _ _ _ _ _ _ r n).trans ?_
  refine Eq.trans ?_ (congrArg (result20 m c) (emb20 t r n)).symm
  rw [heads_blk]; rfl

end Cert.Kernel5Ideal.Mid
-- ==== Proof.SampleMidRef.lean ====
module

public import proofs.«01_k».proof.Proof.SampleRows
public import proofs.«01_k».proof.Proof.Gen.Reference5Ideal.Run

@[expose] public section

/-! # The reference of the first layer's tail and the second layer's projections on the sample, row by row -/

set_option maxRecDepth 16384

noncomputable section

namespace Cert.Reference5Ideal.Value

open Cert.Reference5Ideal Cert.Reference5Ideal.Gen Idealize.ShloMosaic Idealize.ShloMosaic.TcCoe Idealize.SL.Sem
open EncoderRow

variable (V0 : Valuation τ sig (Elt Ideal))

/-- The residual rows after the output projection. -/
abbrev afterMix (r : Fin 128) : Fin 1024 → EReal :=
  mixed (fun k => (V0 (Proc.devRef .tc main_arg0) : FVec Ideal S128x1024 .f32) (ix2 r k))
    (fun k => (V0 (Proc.devRef .tc main_arg1) : FVec Ideal S128x512 .bf16) (ix2 r k))
    (fun k => (V0 (Proc.devRef .tc main_arg2) : FVec Ideal S128x512 .bf16) (ix2 r k))
    (fun k n => (V0 (Proc.devRef .tc main_arg4) : FVec Ideal S2x1024x1024 .f32) (ix3 0 k n))

theorem x1_at (r : Fin 128) (n : Fin 1024) :
    (res_main_v5 (F := Ideal) V0 : FVec Ideal S128x1024 .f32) (ix2 r n) = afterMix V0 r n := by
  pointwise [res_main_v5, fn_main_v0]
  rfl

theorem h_at (r : Fin 128) (n : Fin 1024) :
    (res_main_v20 (F := Ideal) V0 : FVec Ideal S128x1024 .f32) (ix2 r n)
      = norm (afterMix V0 r) (fun k => (V0 (Proc.devRef .tc main_arg5) : FVec Ideal S2x1024 .f32) (ix2 0 k)) n := by
  pointwise [res_main_v20]
  simp only [x1_at]
  rfl

theorem gate_at (r : Fin 128) (n : Fin 2816) :
    (res_main_v23 (F := Ideal) V0 : FVec Ideal S128x2816 .f32) (ix2 r n)
      = proj (norm (afterMix V0 r) (fun k => (V0 (Proc.devRef .tc main_arg5) : FVec Ideal S2x1024 .f32) (ix2 0 k)))
          (fun k n => (V0 (Proc.devRef .tc main_arg6) : FVec Ideal S2x1024x2816 .f32) (ix3 0 k n)) n := by
  pointwise [res_main_v23]
  simp only [h_at]
  rfl

/-- The residual rows after the SwiGLU block. -/
abbrev afterFfn (r : Fin 128) : Fin 1024 → EReal :=
  swiglu (afterMix V0 r) (fun k => (V0 (Proc.devRef .tc main_arg5) : FVec Ideal S2x1024 .f32) (ix2 0 k))
    (fun k n => (V0 (Proc.devRef .tc main_arg6) : FVec Ideal S2x1024x2816 .f32) (ix3 0 k n))
    (fun k n => (V0 (Proc.devRef .tc main_arg7) : FVec Ideal S2x1024x2816 .f32) (ix3 0 k n))
    (fun k n => (V0 (Proc.devRef .tc main_arg8) : FVec Ideal S2x2816x1024 .f32) (ix3 0 k n))

theorem x2_at (r : Fin 128) (n : Fin 1024) :
    (res_main_v32 (F := Ideal) V0 : FVec Ideal S128x1024 .f32) (ix2 r n) = afterFfn V0 r n := by
  pointwise [res_main_v32]
  simp only [x1_at, h_at, gate_at]
  rfl

/-- The tail of the first layer, row `r`, over the reference's arguments. -/
abbrev tailOf (r : Fin 128) : Fin 1024 → EReal :=
  sampleTail 0 (V0 (Proc.devRef .tc main_arg0)) (V0 (Proc.devRef .tc main_arg1)) (V0 (Proc.devRef .tc main_arg2))
    (V0 (Proc.devRef .tc main_arg3)) (V0 (Proc.devRef .tc main_arg4)) (V0 (Proc.devRef .tc main_arg5))
    (V0 (Proc.devRef .tc main_arg6)) (V0 (Proc.devRef .tc main_arg7)) (V0 (Proc.devRef .tc main_arg8))
    (V0 (Proc.devRef .tc main_arg9)) (V0 (Proc.devRef .tc main_arg10)) (V0 (Proc.devRef .tc main_arg11)) r

theorem x3_at (r : Fin 128) (n : Fin 1024) :
    (res_main_v64 (F := Ideal) V0 : FVec Ideal S128x1024 .f32) (ix2 r n) = tailOf V0 r n := by
  pointwise [res_main_v64]
  simp only [x2_at]
  rfl

/-- The second layer's projections, row `r`, over the reference's arguments. -/
abbrev headsOf (r : Fin 128) (n : Fin 3072) : EReal :=
  heads 1 (tailOf V0 r) (V0 (Proc.devRef .tc main_arg12)) (V0 (Proc.devRef .tc main_arg13)) n

theorem heads_at (r : Fin 128) (n : Fin 3072) :
    (res_main_v82 (F := Ideal) V0 : FVec Ideal S128x3072 .f32) (ix2 r n) = headsOf V0 r n := by
  pointwise [res_main_v82]
  simp only [x3_at]
  rfl

/-- A block of 512 columns of the projections, scaled: the queries. -/
theorem query_at (u : FVec Ideal S128x512 .f32) (off : ℕ) (ho : off + 512 ≤ 3072)
    (hu : ∀ (r : Fin 128) (n : Fin 512), u (ix2 r n) = headsOf V0 r ⟨off + n, by omega⟩) (r : Fin 128) (n : Fin 512) :
    truncf .bf16 (mulf u (broadcastInDim S128x512 ![] bcast_S_S128x512 (constant (F := Ideal) S_ .f32 0x3E000000#32)))
      bitsLt_bf16_f32 (ix2 r n) = headsOf V0 r ⟨off + n, by omega⟩ * Ideal.ofBits .f32 0x3E000000#32 := by
  pointwise
  rw [hu]

/-- A block of 512 columns of the projections. -/
theorem column_at (u : FVec Ideal S128x512 .f32) (off : ℕ) (ho : off + 512 ≤ 3072)
    (hu : ∀ (r : Fin 128) (n : Fin 512), u (ix2 r n)
      = (res_main_v82 (F := Ideal) V0 : FVec Ideal S128x3072 .f32) (ix2 r ⟨off + n, by omega⟩)) (r : Fin 128) (n : Fin 512) :
    u (ix2 r n) = headsOf V0 r ⟨off + n, by omega⟩ := (hu r n).trans (heads_at V0 r _)

end Cert.Reference5Ideal.Value
-- ==== Proof.SampleMidClaim.lean ====
module

public import proofs.«01_k».proof.Defs
public import proofs.«01_k».proof.Proof.SampleMid
public import proofs.«01_k».proof.Proof.SampleMidRef

@[expose] public section

/-! # The first layer's tail call on the sample computes its reference -/

set_option maxRecDepth 16384

noncomputable section

namespace Cert.SampleMidClaim

open Idealize.ShloMosaic Idealize.ShloMosaic.TcCoe Idealize.SL.Sem EncoderRow
open Cert.Reference5Ideal Cert.Reference5Ideal.Gen Cert.Reference5Ideal.Value

/-- The reference's frame: its run writes no argument, and it declares no semaphore. -/
theorem reference_frame : Cert.quiescent_Reference5Ideal (hReference5Ideal := Cert.Reference5Ideal.Gen.facts) := by
  intro m ρ _
  exact (θ_run Cert.Reference5Ideal.defs _ _).mono
    (fun r h => ⟨fun c => (h c).2.2.2.2.2.2.2, Idealize.ShloMosaic.sem_eq_zero_of_no_sems (by decide) r.2⟩)
    (Cert.Reference5Ideal.Value.run m ρ)

/-- Over the extended reals the call's results are the reference's, from the same arguments. -/
theorem same_value : Cert.algebraic_Kernel5Ideal_Reference5Ideal (hKernel5Ideal := Cert.Kernel5Ideal.Gen.facts)
    (hReference5Ideal := Cert.Reference5Ideal.Gen.facts) := by
  intro m g m' g' _ hargs
  refine ⟨Cert.Kernel5Ideal.Mid.result14 m, Cert.Kernel5Ideal.Mid.result15 m, Cert.Kernel5Ideal.Mid.result16 m, Cert.Kernel5Ideal.Mid.result17 m, Cert.Kernel5Ideal.Mid.result18 m, Cert.Kernel5Ideal.Mid.result19 m, Cert.Kernel5Ideal.Mid.result20 m, ?_, ?_⟩
  · exact (θ_run Cert.Kernel5Ideal.defs _ _).mono
      (fun r h c => ⟨(h c).1.trans (Cert.Kernel5Ideal.Mid.final14 m c),
        (h c).2.1.trans (Cert.Kernel5Ideal.Mid.final15 m c),
        (h c).2.2.1.trans (Cert.Kernel5Ideal.Mid.final16 m c),
        (h c).2.2.2.1.trans (Cert.Kernel5Ideal.Mid.final17 m c),
        (h c).2.2.2.2.1.trans (Cert.Kernel5Ideal.Mid.final18 m c),
        (h c).2.2.2.2.2.1.trans (Cert.Kernel5Ideal.Mid.final19 m c),
        (h c).2.2.2.2.2.2.1.trans (Cert.Kernel5Ideal.Mid.final20 m c),
        (h c).2.2.2.2.2.2.2⟩)
      (Cert.Kernel5Ideal.Value.run_blocks m g)
  · refine (θ_run Cert.Reference5Ideal.defs _ _).mono (fun r h c => ?_) (Cert.Reference5Ideal.Value.run m' g')
    obtain ⟨h0, h1, h2, h3, h4, h5, h6, h7, h8, h9, h10, h11, h12, h13⟩ := hargs c
    have e0 : StableHlo.launchContents m' c (Proc.devRef .tc main_arg0) = m ((c.tc : Thread Cert.Kernel5Ideal.nD Cert.Kernel5Ideal.τ).loc Cert.Kernel5Ideal.main_arg0) := h0
    have e1 : StableHlo.launchContents m' c (Proc.devRef .tc main_arg1) = m ((c.tc : Thread Cert.Kernel5Ideal.nD Cert.Kernel5Ideal.τ).loc Cert.Kernel5Ideal.main_arg1) := h1
    have e2 : StableHlo.launchContents m' c (Proc.devRef .tc main_arg2) = m ((c.tc : Thread Cert.Kernel5Ideal.nD Cert.Kernel5Ideal.τ).loc Cert.Kernel5Ideal.main_arg2) := h2
    have e3 : StableHlo.launchContents m' c (Proc.devRef .tc main_arg3) = m ((c.tc : Thread Cert.Kernel5Ideal.nD Cert.Kernel5Ideal.τ).loc Cert.Kernel5Ideal.main_arg3) := h3
    have e4 : StableHlo.launchContents m' c (Proc.devRef .tc main_arg4) = m ((c.tc : Thread Cert.Kernel5Ideal.nD Cert.Kernel5Ideal.τ).loc Cert.Kernel5Ideal.main_arg4) := h4
    have e5 : StableHlo.launchContents m' c (Proc.devRef .tc main_arg5) = m ((c.tc : Thread Cert.Kernel5Ideal.nD Cert.Kernel5Ideal.τ).loc Cert.Kernel5Ideal.main_arg5) := h5
    have e6 : StableHlo.launchContents m' c (Proc.devRef .tc main_arg6) = m ((c.tc : Thread Cert.Kernel5Ideal.nD Cert.Kernel5Ideal.τ).loc Cert.Kernel5Ideal.main_arg6) := h6
    have e7 : StableHlo.launchContents m' c (Proc.devRef .tc main_arg7) = m ((c.tc : Thread Cert.Kernel5Ideal.nD Cert.Kernel5Ideal.τ).loc Cert.Kernel5Ideal.main_arg7) := h7
    have e8 : StableHlo.launchContents m' c (Proc.devRef .tc main_arg8) = m ((c.tc : Thread Cert.Kernel5Ideal.nD Cert.Kernel5Ideal.τ).loc Cert.Kernel5Ideal.main_arg8) := h8
    have e9 : StableHlo.launchContents m' c (Proc.devRef .tc main_arg9) = m ((c.tc : Thread Cert.Kernel5Ideal.nD Cert.Kernel5Ideal.τ).loc Cert.Kernel5Ideal.main_arg9) := h9
    have e10 : StableHlo.launchContents m' c (Proc.devRef .tc main_arg10) = m ((c.tc : Thread Cert.Kernel5Ideal.nD Cert.Kernel5Ideal.τ).loc Cert.Kernel5Ideal.main_arg10) := h10
    have e11 : StableHlo.launchContents m' c (Proc.devRef .tc main_arg11) = m ((c.tc : Thread Cert.Kernel5Ideal.nD Cert.Kernel5Ideal.τ).loc Cert.Kernel5Ideal.main_arg11) := h11
    have e12 : StableHlo.launchContents m' c (Proc.devRef .tc main_arg12) = m ((c.tc : Thread Cert.Kernel5Ideal.nD Cert.Kernel5Ideal.τ).loc Cert.Kernel5Ideal.main_arg12) := h12
    have e13 : StableHlo.launchContents m' c (Proc.devRef .tc main_arg13) = m ((c.tc : Thread Cert.Kernel5Ideal.nD Cert.Kernel5Ideal.τ).loc Cert.Kernel5Ideal.main_arg13) := h13
    have hT : tailOf (StableHlo.launchContents m' c) = Cert.Kernel5Ideal.Mid.tailArg m c := by
      funext r
      simp only [tailOf, e0, e1, e2, e3, e4, e5, e6, e7, e8, e9, e10, e11]
    have hH : headsOf (StableHlo.launchContents m' c) = Cert.Kernel5Ideal.Mid.headsArg m c := by
      funext r n
      simp only [headsOf, e12, e13]
      rw [hT]
    obtain ⟨r0, r1, r2, r3, r4, r5, r6, kept⟩ := h c
    refine ⟨r0.trans ?_, r1.trans ?_, r2.trans ?_, r3.trans ?_, r4.trans ?_, r5.trans ?_, r6.trans ?_, kept⟩
    · refine funext fun i : S128x1024.Idx => ?_
      rw [eq_ix2 i]
      refine (x3_at (StableHlo.launchContents m' c) _ _).trans ?_
      rw [hT]
      rfl
    · refine funext fun i : S128x512.Idx => ?_
      rw [eq_ix2 i]
      refine (query_at (StableHlo.launchContents m' c) _ 0 (by decide) (fun r n => by pointwise; exact heads_at _ _ _) _ _).trans ?_
      rw [hH]
      rfl
    · refine funext fun i : S128x512.Idx => ?_
      rw [eq_ix2 i]
      refine (query_at (StableHlo.launchContents m' c) _ 1536 (by decide) (fun r n => by pointwise; exact heads_at _ _ _) _ _).trans ?_
      rw [hH]
      rfl
    · refine funext fun i : S128x512.Idx => ?_
      rw [eq_ix2 i]
      refine (column_at (StableHlo.launchContents m' c) _ 512 (by decide) (fun r n => by pointwise) _ _).trans ?_
      rw [hH]
      rfl
    · refine funext fun i : S128x512.Idx => ?_
      rw [eq_ix2 i]
      refine (column_at (StableHlo.launchContents m' c) _ 1024 (by decide) (fun r n => by pointwise) _ _).trans ?_
      rw [hH]
      rfl
    · refine funext fun i : S128x512.Idx => ?_
      rw [eq_ix2 i]
      refine (column_at (StableHlo.launchContents m' c) _ 2048 (by decide) (fun r n => by pointwise) _ _).trans ?_
      rw [hH]
      rfl
    · refine funext fun i : S128x512.Idx => ?_
      rw [eq_ix2 i]
      refine (column_at (StableHlo.launchContents m' c) _ 2560 (by decide) (fun r n => by pointwise) _ _).trans ?_
      rw [hH]
      rfl

end Cert.SampleMidClaim
-- ==== Proof.SampleFirst.lean ====
module

public import proofs.«01_k».proof.Proof.SampleRows
public import proofs.«01_k».proof.Proof.Gen.Kernel6Ideal.Value

@[expose] public section

/-! # The sample's first projections, row by row

One grid point holds the sample's 128 rows: their norms, times each of six blocks of 512 columns of the weight. -/

set_option maxRecDepth 16384

noncomputable section

namespace Cert.Kernel6Ideal.First

open Cert.Kernel6Ideal Cert.Kernel6Ideal.Gen Idealize.ShloMosaic Idealize.ShloMosaic.TcCoe Idealize.SL.Sem
open Idealize.ShloMosaic.ValueKit EncoderRow

section Block

variable (x : FVec Ideal S128x1024 .f32) (g : FVec Ideal S1x1x1024 .f32) (h : FVec Ideal S128x1024 .bf16)
  (w : FVec Ideal S1x512x1024 .bf16)

theorem normed_at (r : Fin 128) (n : Fin 1024) :
    k0_pay5 (F := Ideal) x g (ix2 r n) = norm (fun k => x (ix2 r k)) (fun k => g (ix3 0 0 k)) n := by
  pointwise [k0_pay5]
  rfl

theorem query_at (r : Fin 128) (n : Fin 512) : k0_pay6 (F := Ideal) x g w (ix2 r n)
    = proj (norm (fun k => x (ix2 r k)) (fun k => g (ix3 0 0 k))) (fun k n => w (ix3 0 n k)) n
      * Ideal.ofBits .f32 0x3E000000#32 := by
  pointwise [k0_pay6]
  simp only [normed_at]
  rfl

theorem column_at (r : Fin 128) (n : Fin 512) :
    k0_pay1 (F := Ideal) h w (ix2 r n) = proj (fun k => h (ix2 r k)) (fun k n => w (ix3 0 n k)) n := by
  pointwise [k0_pay1]
  rfl

theorem query7 : k0_pay7 (F := Ideal) x g w = k0_pay6 (F := Ideal) x g w := rfl
theorem column2 : k0_pay2 (F := Ideal) h w = k0_pay1 (F := Ideal) h w := rfl
theorem column3 : k0_pay3 (F := Ideal) h w = k0_pay1 (F := Ideal) h w := rfl
theorem column4 : k0_pay4 (F := Ideal) h w = k0_pay1 (F := Ideal) h w := rfl

variable (x0 : Vec Ideal S128x1024 .f32) (x1 : Vec Ideal S1x1x1024 .f32) (x2 : Vec Ideal S1x3072x1024 .bf16)

/-- Column `n` of the projections of row `r` of the block. -/
abbrev headsOf (r : Fin 128) (n : Fin 3072) : EReal :=
  proj (norm (fun k => (x0 : FVec Ideal S128x1024 .f32) (ix2 r k)) (fun k => (x1 : FVec Ideal S1x1x1024 .f32) (ix3 0 0 k)))
    (fun k n => (x2 : FVec Ideal S1x3072x1024 .bf16) (ix3 0 n k)) n

theorem query_block (off : ℕ) (ho : off + 512 ≤ 3072) (hw : ∀ (n : Fin 512) k, w (ix3 0 n k)
      = (x2 : FVec Ideal S1x3072x1024 .bf16) (ix3 0 ⟨off + n, by omega⟩ k)) (r : Fin 128) (n : Fin 512) :
    k0_pay6 (F := Ideal) x0 x1 w (ix2 r n) = headsOf x0 x1 x2 r ⟨off + n, by omega⟩ * Ideal.ofBits .f32 0x3E000000#32 := by
  rw [query_at]
  simp only [proj, hw]

theorem column_block (off : ℕ) (ho : off + 512 ≤ 3072) (hw : ∀ (n : Fin 512) k, w (ix3 0 n k)
      = (x2 : FVec Ideal S1x3072x1024 .bf16) (ix3 0 ⟨off + n, by omega⟩ k)) (r : Fin 128) (n : Fin 512) :
    k0_pay1 (k0_pay5 (F := Ideal) x0 x1) w (ix2 r n) = headsOf x0 x1 x2 r ⟨off + n, by omega⟩ := by
  rw [column_at]
  simp only [proj, hw, normed_at]

theorem rows_whole : View.ld x0 r0_0 = x0 := View.ld_unit_zero (by funext a; fin_cases a <;> rfl) _ _
theorem gain_whole : View.ld x1 r0_1 = x1 := View.ld_unit_zero (by funext a; fin_cases a <;> rfl) _ _

theorem qa_block (r : Fin 128) (n : Fin 512) : out0_3 (F := Ideal) x0 x1 x2 (ix2 r n)
    = headsOf x0 x1 x2 r ⟨0 + n, by omega⟩ * Ideal.ofBits .f32 0x3E000000#32 := by
  unfold out0_3
  frame_out
  exact query_block _ x0 x1 x2 0 (by decide) (fun n k => by pointwise) r n

theorem qb_block (r : Fin 128) (n : Fin 512) : out0_4 (F := Ideal) x0 x1 x2 (ix2 r n)
    = headsOf x0 x1 x2 r ⟨1536 + n, by omega⟩ * Ideal.ofBits .f32 0x3E000000#32 := by
  unfold out0_4
  frame_out
  rw [query7]
  exact query_block _ x0 x1 x2 1536 (by decide) (fun n k => by pointwise) r n

theorem ka_block (r : Fin 128) (n : Fin 512) : out0_5 (F := Ideal) x0 x1 x2 (ix2 r n)
    = headsOf x0 x1 x2 r ⟨512 + n, by omega⟩ := by
  unfold out0_5
  frame_out
  simp only [k0_pay8, rows_whole, gain_whole]
  exact column_block _ x0 x1 x2 512 (by decide) (fun n k => by pointwise) r n

theorem va_block (r : Fin 128) (n : Fin 512) : out0_6 (F := Ideal) x0 x1 x2 (ix2 r n)
    = headsOf x0 x1 x2 r ⟨1024 + n, by omega⟩ := by
  unfold out0_6
  frame_out
  simp only [k0_pay8, column2, rows_whole, gain_whole]
  exact column_block _ x0 x1 x2 1024 (by decide) (fun n k => by pointwise) r n

theorem kb_block (r : Fin 128) (n : Fin 512) : out0_7 (F := Ideal) x0 x1 x2 (ix2 r n)
    = headsOf x0 x1 x2 r ⟨2048 + n, by omega⟩ := by
  unfold out0_7
  frame_out
  simp only [k0_pay8, column3, rows_whole, gain_whole]
  exact column_block _ x0 x1 x2 2048 (by decide) (fun n k => by pointwise) r n

theorem vb_block (r : Fin 128) (n : Fin 512) : out0_8 (F := Ideal) x0 x1 x2 (ix2 r n)
    = headsOf x0 x1 x2 r ⟨2560 + n, by omega⟩ := by
  unfold out0_8
  frame_out
  simp only [k0_pay8, column4, rows_whole, gain_whole]
  exact column_block _ x0 x1 x2 2560 (by decide) (fun n k => by pointwise) r n

end Block

variable (m : (ℓ : Loc nD τ sig) → Buf (Elt Ideal) ℓ)

theorem idx : ∀ t : Fin cfg0.N, win0_0.index t = ![0, 0] ∧ win0_1.index t = ![0, 0, 0] ∧ win0_2.index t = ![0, 0, 0]
    ∧ win0_3.index t = ![0, 0] ∧ win0_4.index t = ![0, 0] ∧ win0_5.index t = ![0, 0] ∧ win0_6.index t = ![0, 0]
    ∧ win0_7.index t = ![0, 0] ∧ win0_8.index t = ![0, 0] :=
  (by decide +kernel : ∀ t : Fin grid0.N, _)

theorem x_blk (c : Dev nD) (t : Fin cfg0.N) (r : Fin 128) (k : Fin 1024) : (iblk m c 0 t : FVec Ideal S128x1024 .f32) (ix2 r k)
    = sampleRow (m ((c.tc : Thread nD τ).loc main_arg0)) r k := by
  unfold sampleRow
  blk_point [iblk, V, idx t]

theorem g_blk (c : Dev nD) (t : Fin cfg0.N) (k : Fin 1024) : (iblk m c 1 t : FVec Ideal S1x1x1024 .f32) (ix3 0 0 k)
    = (m ((c.tc : Thread nD τ).loc main_arg1) : FVec Ideal S2x1024 .f32) (ix2 0 k) := by
  blk_point [iblk, V, idx t]

theorem w_blk (c : Dev nD) (t : Fin cfg0.N) (k : Fin 1024) (n : Fin 3072) : (iblk m c 2 t : FVec Ideal S1x3072x1024 .bf16) (ix3 0 n k)
    = (m ((c.tc : Thread nD τ).loc main_arg2) : FVec Ideal S2x1024x3072 .f32) (ix3 0 k n) := by
  blk_point [iblk, V, idx t]

/-- The first layer's projections of row `r`, from the arguments. -/
abbrev headsArg (c : Dev nD) (r : Fin 128) (n : Fin 3072) : EReal :=
  heads 0 (sampleRow (m ((c.tc : Thread nD τ).loc main_arg0)) r) (m ((c.tc : Thread nD τ).loc main_arg1))
    (m ((c.tc : Thread nD τ).loc main_arg2)) n

theorem heads_blk (c : Dev nD) (t : Fin cfg0.N) (r : Fin 128) (n : Fin 3072) :
    headsOf (iblk m c 0 t) (iblk m c 1 t) (iblk m c 2 t) r n = headsArg m c r n := by
  simp only [headsOf, x_blk, g_blk, w_blk]
  rfl

/-- The stick-breaking queries. -/
def result3 (c : Dev nD) : Buf (Elt Ideal) ((c.tc : Thread nD τ).loc main_v4_0) := fun i : S128x512.Idx =>
  headsArg m c (i 0) ⟨0 + (i 1).val, by have : (i 1).val < 512 := (i 1).isLt; omega⟩ * Ideal.ofBits .f32 0x3E000000#32

theorem emb3 (t : Fin cfg0.N) (r : Fin 128) (n : Fin 512) :
    ((win0_3.blk t).view.emb (ix2 r n) : S128x512.Idx) = ix2 r n := by
  blk_ext [idx t]

theorem final3 (c : Dev nD) : (dats m 0 c).arrAt 3 (cfgs 0).N = result3 m c := by
  refine (dats m 0 c).arrAt_eq_of_covers 3 _ (by decide +kernel) fun t hf y => ?_
  blk_simp
  rw [after0_3]
  obtain ⟨r, n, rfl⟩ : ∃ (r : Fin 128) (n : Fin 512), y = ix2 r n := ⟨y 0, y 1, eq_ix2 y⟩
  refine (qa_block _ _ _ r n).trans ?_
  refine Eq.trans ?_ (congrArg (result3 m c) (emb3 t r n)).symm
  rw [heads_blk]; rfl

/-- The chunk-band queries. -/
def result4 (c : Dev nD) : Buf (Elt Ideal) ((c.tc : Thread nD τ).loc main_v4_1) := fun i : S128x512.Idx =>
  headsArg m c (i 0) ⟨1536 + (i 1).val, by have : (i 1).val < 512 := (i 1).isLt; omega⟩ * Ideal.ofBits .f32 0x3E000000#32

theorem emb4 (t : Fin cfg0.N) (r : Fin 128) (n : Fin 512) :
    ((win0_4.blk t).view.emb (ix2 r n) : S128x512.Idx) = ix2 r n := by
  blk_ext [idx t]

theorem final4 (c : Dev nD) : (dats m 0 c).arrAt 4 (cfgs 0).N = result4 m c := by
  refine (dats m 0 c).arrAt_eq_of_covers 4 _ (by decide +kernel) fun t hf y => ?_
  blk_simp
  rw [after0_4]
  obtain ⟨r, n, rfl⟩ : ∃ (r : Fin 128) (n : Fin 512), y = ix2 r n := ⟨y 0, y 1, eq_ix2 y⟩
  refine (qb_block _ _ _ r n).trans ?_
  refine Eq.trans ?_ (congrArg (result4 m c) (emb4 t r n)).symm
  rw [heads_blk]; rfl

/-- The stick-breaking keys. -/
def result5 (c : Dev nD) : Buf (Elt Ideal) ((c.tc : Thread nD τ).loc main_v4_2) := fun i : S128x512.Idx =>
  headsArg m c (i 0) ⟨512 + (i 1).val, by have : (i 1).val < 512 := (i 1).isLt; omega⟩

theorem emb5 (t : Fin cfg0.N) (r : Fin 128) (n : Fin 512) :
    ((win0_5.blk t).view.emb (ix2 r n) : S128x512.Idx) = ix2 r n := by
  blk_ext [idx t]

theorem final5 (c : Dev nD) : (dats m 0 c).arrAt 5 (cfgs 0).N = result5 m c := by
  refine (dats m 0 c).arrAt_eq_of_covers 5 _ (by decide +kernel) fun t hf y => ?_
  blk_simp
  rw [after0_5]
  obtain ⟨r, n, rfl⟩ : ∃ (r : Fin 128) (n : Fin 512), y = ix2 r n := ⟨y 0, y 1, eq_ix2 y⟩
  refine (ka_block _ _ _ r n).trans ?_
  refine Eq.trans ?_ (congrArg (result5 m c) (emb5 t r n)).symm
  rw [heads_blk]; rfl

/-- The stick-breaking values. -/
def result6 (c : Dev nD) : Buf (Elt Ideal) ((c.tc : Thread nD τ).loc main_v4_3) := fun i : S128x512.Idx =>
  headsArg m c (i 0) ⟨1024 + (i 1).val, by have : (i 1).val < 512 := (i 1).isLt; omega⟩

theorem emb6 (t : Fin cfg0.N) (r : Fin 128) (n : Fin 512) :
    ((win0_6.blk t).view.emb (ix2 r n) : S128x512.Idx) = ix2 r n := by
  blk_ext [idx t]

theorem final6 (c : Dev nD) : (dats m 0 c).arrAt 6 (cfgs 0).N = result6 m c := by
  refine (dats m 0 c).arrAt_eq_of_covers 6 _ (by decide +kernel) fun t hf y => ?_
  blk_simp
  rw [after0_6]
  obtain ⟨r, n, rfl⟩ : ∃ (r : Fin 128) (n : Fin 512), y = ix2 r n := ⟨y 0, y 1, eq_ix2 y⟩
  refine (va_block _ _ _ r n).trans ?_
  refine Eq.trans ?_ (congrArg (result6 m c) (emb6 t r n)).symm
  rw [heads_blk]; rfl

/-- The chunk-band keys. -/
def result7 (c : Dev nD) : Buf (Elt Ideal) ((c.tc : Thread nD τ).loc main_v4_4) := fun i : S128x512.Idx =>
  headsArg m c (i 0) ⟨2048 + (i 1).val, by have : (i 1).val < 512 := (i 1).isLt; omega⟩

theorem emb7 (t : Fin cfg0.N) (r : Fin 128) (n : Fin 512) :
    ((win0_7.blk t).view.emb (ix2 r n) : S128x512.Idx) = ix2 r n := by
  blk_ext [idx t]

theorem final7 (c : Dev nD) : (dats m 0 c).arrAt 7 (cfgs 0).N = result7 m c := by
  refine (dats m 0 c).arrAt_eq_of_covers 7 _ (by decide +kernel) fun t hf y => ?_
  blk_simp
  rw [after0_7]
  obtain ⟨r, n, rfl⟩ : ∃ (r : Fin 128) (n : Fin 512), y = ix2 r n := ⟨y 0, y 1, eq_ix2 y⟩
  refine (kb_block _ _ _ r n).trans ?_
  refine Eq.trans ?_ (congrArg (result7 m c) (emb7 t r n)).symm
  rw [heads_blk]; rfl

/-- The chunk-band values. -/
def result8 (c : Dev nD) : Buf (Elt Ideal) ((c.tc : Thread nD τ).loc main_v4_5) := fun i : S128x512.Idx =>
  headsArg m c (i 0) ⟨2560 + (i 1).val, by have : (i 1).val < 512 := (i 1).isLt; omega⟩

theorem emb8 (t : Fin cfg0.N) (r : Fin 128) (n : Fin 512) :
    ((win0_8.blk t).view.emb (ix2 r n) : S128x512.Idx) = ix2 r n := by
  blk_ext [idx t]

theorem final8 (c : Dev nD) : (dats m 0 c).arrAt 8 (cfgs 0).N = result8 m c := by
  refine (dats m 0 c).arrAt_eq_of_covers 8 _ (by decide +kernel) fun t hf y => ?_
  blk_simp
  rw [after0_8]
  obtain ⟨r, n, rfl⟩ : ∃ (r : Fin 128) (n : Fin 512), y = ix2 r n := ⟨y 0, y 1, eq_ix2 y⟩
  refine (vb_block _ _ _ r n).trans ?_
  refine Eq.trans ?_ (congrArg (result8 m c) (emb8 t r n)).symm
  rw [heads_blk]; rfl

end Cert.Kernel6Ideal.First
-- ==== Proof.SampleFirstClaim.lean ====
module

public import proofs.«01_k».proof.Defs
public import proofs.«01_k».proof.Proof.SampleFirst
public import proofs.«01_k».proof.Proof.Gen.Reference6Ideal.Run

@[expose] public section

/-! # The sample's first projections are their reference's -/

set_option maxRecDepth 16384

noncomputable section

namespace Cert.SampleFirstClaim

open Idealize.ShloMosaic Idealize.ShloMosaic.TcCoe Idealize.SL.Sem EncoderRow
open Cert.Reference6Ideal Cert.Reference6Ideal.Gen Cert.Reference6Ideal.Value

section Reference

variable (x : FVec Ideal S8x16x1024 .f32) (g : FVec Ideal S2x1024 .f32) (w : FVec Ideal S2x1024x3072 .f32)

/-- A block of 512 columns of the projections, scaled: the queries. -/
theorem query_at (u : FVec Ideal S128x512 .f32) (off : ℕ) (ho : off + 512 ≤ 3072)
    (hu : ∀ (r : Fin 128) (n : Fin 512), u (ix2 r n) = heads 0 (sampleRow x r) g w ⟨off + n, by omega⟩) (r : Fin 128) (n : Fin 512) :
    truncf .bf16 (mulf u (broadcastInDim S128x512 ![] bcast_S_S128x512 (constant (F := Ideal) S_ .f32 0x3E000000#32)))
      bitsLt_bf16_f32 (ix2 r n) = heads 0 (sampleRow x r) g w ⟨off + n, by omega⟩ * Ideal.ofBits .f32 0x3E000000#32 := by
  pointwise
  rw [hu]

end Reference

/-- The reference's frame: its run writes no argument, and it declares no semaphore. -/
theorem reference_frame : Cert.quiescent_Reference6Ideal (hReference6Ideal := Cert.Reference6Ideal.Gen.facts) := by
  intro m ρ _
  exact (θ_run Cert.Reference6Ideal.defs _ _).mono
    (fun r h => ⟨fun c => (h c).2.2.2.2.2.2, Idealize.ShloMosaic.sem_eq_zero_of_no_sems (by decide) r.2⟩)
    (Cert.Reference6Ideal.Value.run m ρ)

/-- Over the extended reals the call's results are the reference's, from the same arguments. -/
theorem same_value : Cert.algebraic_Kernel6Ideal_Reference6Ideal (hKernel6Ideal := Cert.Kernel6Ideal.Gen.facts)
    (hReference6Ideal := Cert.Reference6Ideal.Gen.facts) := by
  intro m g m' g' _ hargs
  refine ⟨Cert.Kernel6Ideal.First.result3 m, Cert.Kernel6Ideal.First.result4 m, Cert.Kernel6Ideal.First.result5 m,
    Cert.Kernel6Ideal.First.result6 m, Cert.Kernel6Ideal.First.result7 m, Cert.Kernel6Ideal.First.result8 m, ?_, ?_⟩
  · exact (θ_run Cert.Kernel6Ideal.defs _ _).mono
      (fun r h c => ⟨(h c).1.trans (Cert.Kernel6Ideal.First.final3 m c), (h c).2.1.trans (Cert.Kernel6Ideal.First.final4 m c),
        (h c).2.2.1.trans (Cert.Kernel6Ideal.First.final5 m c), (h c).2.2.2.1.trans (Cert.Kernel6Ideal.First.final6 m c),
        (h c).2.2.2.2.1.trans (Cert.Kernel6Ideal.First.final7 m c), (h c).2.2.2.2.2.1.trans (Cert.Kernel6Ideal.First.final8 m c),
        (h c).2.2.2.2.2.2⟩)
      (Cert.Kernel6Ideal.Value.run_blocks m g)
  · refine (θ_run Cert.Reference6Ideal.defs _ _).mono (fun r h c => ?_) (Cert.Reference6Ideal.Value.run m' g')
    obtain ⟨h0, h1, h2⟩ := hargs c
    obtain ⟨r0, r1, r2, r3, r4, r5, kept⟩ := h c
    refine ⟨r0.trans ?_, r1.trans ?_, r2.trans ?_, r3.trans ?_, r4.trans ?_, r5.trans ?_, kept⟩
    · refine funext fun i : S128x512.Idx => ?_
      rw [eq_ix2 i, h0, h1, h2]
      refine (query_at (m ((c.tc : Thread Cert.Kernel6Ideal.nD Cert.Kernel6Ideal.τ).loc Cert.Kernel6Ideal.main_arg0))
        (m ((c.tc : Thread Cert.Kernel6Ideal.nD Cert.Kernel6Ideal.τ).loc Cert.Kernel6Ideal.main_arg1))
        (m ((c.tc : Thread Cert.Kernel6Ideal.nD Cert.Kernel6Ideal.τ).loc Cert.Kernel6Ideal.main_arg2)) _ 0 (by decide)
        (fun r n => by pointwise; rfl) _ _).trans ?_
      rfl
    · refine funext fun i : S128x512.Idx => ?_
      rw [eq_ix2 i, h0, h1, h2]
      refine (query_at (m ((c.tc : Thread Cert.Kernel6Ideal.nD Cert.Kernel6Ideal.τ).loc Cert.Kernel6Ideal.main_arg0))
        (m ((c.tc : Thread Cert.Kernel6Ideal.nD Cert.Kernel6Ideal.τ).loc Cert.Kernel6Ideal.main_arg1))
        (m ((c.tc : Thread Cert.Kernel6Ideal.nD Cert.Kernel6Ideal.τ).loc Cert.Kernel6Ideal.main_arg2)) _ 1536 (by decide)
        (fun r n => by pointwise; rfl) _ _).trans ?_
      rfl
    · refine funext fun i : S128x512.Idx => ?_
      rw [eq_ix2 i, h0, h1, h2]
      pointwise
      rfl
    · refine funext fun i : S128x512.Idx => ?_
      rw [eq_ix2 i, h0, h1, h2]
      pointwise
      rfl
    · refine funext fun i : S128x512.Idx => ?_
      rw [eq_ix2 i, h0, h1, h2]
      pointwise
      rfl
    · refine funext fun i : S128x512.Idx => ?_
      rw [eq_ix2 i, h0, h1, h2]
      pointwise
      rfl

end Cert.SampleFirstClaim
-- ==== Proof.PromptFirst.lean ====
module

public import proofs.«01_k».proof.Proof.SampleRows
public import proofs.«01_k».proof.Proof.Gen.Kernel7Ideal.Value

@[expose] public section

/-! # The prompt's first projections, row by row

A grid point holds 1024 rows of the prompt, half a sequence: their norms, times each of six blocks of 512 columns of the
weight. The keys and values are laid out head by head, the position last. -/

set_option maxRecDepth 16384

noncomputable section

namespace Cert.Kernel7Ideal.First

open Cert.Kernel7Ideal Cert.Kernel7Ideal.Gen Idealize.ShloMosaic Idealize.ShloMosaic.TcCoe Idealize.SL.Sem
open Idealize.ShloMosaic.ValueKit EncoderRow

section Block

variable (x : FVec Ideal S1024x1024 .f32) (g : FVec Ideal S1x1x1024 .f32) (h : FVec Ideal S1024x1024 .bf16)
  (w : FVec Ideal S1x512x1024 .bf16)

theorem normed_at (r : Fin 1024) (n : Fin 1024) :
    k0_pay2 (F := Ideal) x g (ix2 r n) = norm (fun k => x (ix2 r k)) (fun k => g (ix3 0 0 k)) n := by
  pointwise [k0_pay2]
  rfl

theorem query_at (r : Fin 1024) (n : Fin 512) : k0_pay3 (F := Ideal) x g w (ix2 r n)
    = proj (norm (fun k => x (ix2 r k)) (fun k => g (ix3 0 0 k))) (fun k n => w (ix3 0 n k)) n
      * Ideal.ofBits .f32 0x3E000000#32 := by
  pointwise [k0_pay3]
  simp only [normed_at]
  rfl

theorem query4 : k0_pay4 (F := Ideal) x g w = k0_pay3 (F := Ideal) x g w := rfl
theorem head6 : k0_pay6 (F := Ideal) h w = k0_pay5 (F := Ideal) h w := rfl
theorem head7 : k0_pay7 (F := Ideal) h w = k0_pay5 (F := Ideal) h w := rfl
theorem head8 : k0_pay1 (F := Ideal) (k0_pay8 h w) = k0_pay5 (F := Ideal) h w := rfl

variable (x0 : Vec Ideal S1024x1024 .f32) (x1 : Vec Ideal S1x1x1024 .f32) (x2 : Vec Ideal S1x3072x1024 .bf16)

/-- Column `n` of the projections of row `r` of the block. -/
abbrev headsOf (r : Fin 1024) (n : Fin 3072) : EReal :=
  proj (norm (fun k => (x0 : FVec Ideal S1024x1024 .f32) (ix2 r k)) (fun k => (x1 : FVec Ideal S1x1x1024 .f32) (ix3 0 0 k)))
    (fun k n => (x2 : FVec Ideal S1x3072x1024 .bf16) (ix3 0 n k)) n

theorem query_block (off : ℕ) (ho : off + 512 ≤ 3072) (hw : ∀ (n : Fin 512) k, w (ix3 0 n k)
      = (x2 : FVec Ideal S1x3072x1024 .bf16) (ix3 0 ⟨off + n, by omega⟩ k)) (r : Fin 1024) (n : Fin 512) :
    k0_pay3 (F := Ideal) x0 x1 w (ix2 r n) = headsOf x0 x1 x2 r ⟨off + n, by omega⟩ * Ideal.ofBits .f32 0x3E000000#32 := by
  rw [query_at]
  simp only [proj, hw]

/-- A key's or value's entry: the projection, transposed and split into heads. -/
theorem head_block (off : ℕ) (ho : off + 512 ≤ 3072) (hw : ∀ (n : Fin 512) k, w (ix3 0 n k)
      = (x2 : FVec Ideal S1x3072x1024 .bf16) (ix3 0 ⟨off + n, by omega⟩ k)) (h : Fin 8) (d : Fin 64) (r : Fin 1024) :
    k0_pay5 (F := Ideal) (k0_pay2 x0 x1) w (ix5 0 0 h d r) = headsOf x0 x1 x2 r ⟨off + (64 * h + d), by omega⟩ := by
  pointwise [k0_pay5]
  simp only [normed_at, hw]
  refine Finset.sum_congr rfl fun k _ => ?_
  rw [mul_comm]
  refine congrArg (fun n => _ * (x2 : FVec Ideal S1x3072x1024 .bf16) (ix3 0 n k)) (Fin.ext ?_)
  show off + ((h : ℕ) * 64 + d) = off + (64 * h + d)
  omega

theorem rows_whole : View.ld x0 r0_0 = x0 := View.ld_unit_zero (by funext a; fin_cases a <;> rfl) _ _
theorem gain_whole : View.ld x1 r0_1 = x1 := View.ld_unit_zero (by funext a; fin_cases a <;> rfl) _ _

theorem qa_block (r : Fin 1024) (n : Fin 512) : out0_3 (F := Ideal) x0 x1 x2 (ix2 r n)
    = headsOf x0 x1 x2 r ⟨0 + n, by omega⟩ * Ideal.ofBits .f32 0x3E000000#32 := by
  unfold out0_3
  frame_out
  exact query_block _ x0 x1 x2 0 (by decide) (fun n k => by pointwise) r n

theorem qb_block (r : Fin 1024) (n : Fin 512) : out0_4 (F := Ideal) x0 x1 x2 (ix2 r n)
    = headsOf x0 x1 x2 r ⟨1536 + n, by omega⟩ * Ideal.ofBits .f32 0x3E000000#32 := by
  unfold out0_4
  frame_out
  rw [query4]
  exact query_block _ x0 x1 x2 1536 (by decide) (fun n k => by pointwise) r n

theorem ka_block (h : Fin 8) (d : Fin 64) (r : Fin 1024) : out0_5 (F := Ideal) x0 x1 x2 (ix5 0 0 h d r)
    = headsOf x0 x1 x2 r ⟨512 + (64 * h + d), by omega⟩ := by
  unfold out0_5
  frame_out
  simp only [k0_pay9, rows_whole, gain_whole]
  exact head_block _ x0 x1 x2 512 (by decide) (fun n k => by pointwise) h d r

theorem va_block (h : Fin 8) (d : Fin 64) (r : Fin 1024) : out0_6 (F := Ideal) x0 x1 x2 (ix5 0 0 h d r)
    = headsOf x0 x1 x2 r ⟨1024 + (64 * h + d), by omega⟩ := by
  unfold out0_6
  frame_out
  simp only [k0_pay9, head6, rows_whole, gain_whole]
  exact head_block _ x0 x1 x2 1024 (by decide) (fun n k => by pointwise) h d r

theorem kb_block (h : Fin 8) (d : Fin 64) (r : Fin 1024) : out0_7 (F := Ideal) x0 x1 x2 (ix5 0 0 h d r)
    = headsOf x0 x1 x2 r ⟨2048 + (64 * h + d), by omega⟩ := by
  unfold out0_7
  frame_out
  simp only [k0_pay9, head7, rows_whole, gain_whole]
  exact head_block _ x0 x1 x2 2048 (by decide) (fun n k => by pointwise) h d r

theorem vb_block (h : Fin 8) (d : Fin 64) (r : Fin 1024) : out0_8 (F := Ideal) x0 x1 x2 (ix5 0 0 h d r)
    = headsOf x0 x1 x2 r ⟨2560 + (64 * h + d), by omega⟩ := by
  unfold out0_8
  frame_out
  simp only [k0_pay9, head8, rows_whole, gain_whole]
  exact head_block _ x0 x1 x2 2560 (by decide) (fun n k => by pointwise) h d r

end Block

variable (m : (ℓ : Loc nD τ sig) → Buf (Elt Ideal) ℓ)

theorem idx : ∀ t : Fin cfg0.N, win0_0.index t = ![t.val, 0] ∧ win0_1.index t = ![0, 0, 0] ∧ win0_2.index t = ![0, 0, 0]
    ∧ win0_3.index t = ![t.val, 0] ∧ win0_4.index t = ![t.val, 0] ∧ win0_5.index t = ![0, t.val / 2, 0, 0, t.val % 2]
    ∧ win0_6.index t = ![0, t.val / 2, 0, 0, t.val % 2] ∧ win0_7.index t = ![0, t.val / 2, 0, 0, t.val % 2]
    ∧ win0_8.index t = ![0, t.val / 2, 0, 0, t.val % 2] :=
  (by decide +kernel : ∀ t : Fin grid0.N, _)

/-- Row `r` of grid point `t`'s block is this row of the arrays. -/
abbrev row (t : Fin cfg0.N) (r : Fin 1024) : Fin 16384 := ⟨1024 * t.val + r.val, by have : t.val < 16 := t.isLt; omega⟩

/-- The sequence of grid point `t`'s rows. -/
abbrev seq (t : Fin cfg0.N) : Fin 8 := ⟨t.val / 2, by have : t.val < 16 := t.isLt; omega⟩

/-- The position in its sequence of row `r` of grid point `t`'s block. -/
abbrev pos (t : Fin cfg0.N) (r : Fin 1024) : Fin 2048 := ⟨1024 * (t.val % 2) + r.val, by omega⟩

theorem x_blk (c : Dev nD) (t : Fin cfg0.N) (r : Fin 1024) (k : Fin 1024) : (iblk m c 0 t : FVec Ideal S1024x1024 .f32) (ix2 r k)
    = promptRow (m ((c.tc : Thread nD τ).loc main_arg0)) (row t r) k := by
  unfold promptRow
  blk_point [iblk, V, idx t]

theorem g_blk (c : Dev nD) (t : Fin cfg0.N) (k : Fin 1024) : (iblk m c 1 t : FVec Ideal S1x1x1024 .f32) (ix3 0 0 k)
    = (m ((c.tc : Thread nD τ).loc main_arg1) : FVec Ideal S2x1024 .f32) (ix2 0 k) := by
  blk_point [iblk, V, idx t]

theorem w_blk (c : Dev nD) (t : Fin cfg0.N) (k : Fin 1024) (n : Fin 3072) : (iblk m c 2 t : FVec Ideal S1x3072x1024 .bf16) (ix3 0 n k)
    = (m ((c.tc : Thread nD τ).loc main_arg2) : FVec Ideal S2x1024x3072 .f32) (ix3 0 k n) := by
  blk_point [iblk, V, idx t]

/-- The first layer's projections of row `r`, from the arguments. -/
abbrev headsArg (c : Dev nD) (r : Fin 16384) (n : Fin 3072) : EReal :=
  heads 0 (promptRow (m ((c.tc : Thread nD τ).loc main_arg0)) r) (m ((c.tc : Thread nD τ).loc main_arg1))
    (m ((c.tc : Thread nD τ).loc main_arg2)) n

theorem heads_blk (c : Dev nD) (t : Fin cfg0.N) (r : Fin 1024) (n : Fin 3072) :
    headsOf (iblk m c 0 t) (iblk m c 1 t) (iblk m c 2 t) r n = headsArg m c (row t r) n := by
  simp only [headsOf, x_blk, g_blk, w_blk]
  rfl

/-- The stick-breaking queries. -/
def result3 (c : Dev nD) : Buf (Elt Ideal) ((c.tc : Thread nD τ).loc main_v4_0) := fun i : S16384x512.Idx =>
  headsArg m c (i 0) ⟨0 + (i 1).val, by have : (i 1).val < 512 := (i 1).isLt; omega⟩ * Ideal.ofBits .f32 0x3E000000#32

theorem emb3 (t : Fin cfg0.N) (r : Fin 1024) (n : Fin 512) :
    ((win0_3.blk t).view.emb (ix2 r n) : S16384x512.Idx) = ix2 (row t r) n := by
  blk_ext [idx t]

theorem final3 (c : Dev nD) : (dats m 0 c).arrAt 3 (cfgs 0).N = result3 m c := by
  refine (dats m 0 c).arrAt_eq_of_covers 3 _ (by decide +kernel) fun t hf y => ?_
  blk_simp
  rw [after0_3]
  obtain ⟨r, n, rfl⟩ : ∃ (r : Fin 1024) (n : Fin 512), y = ix2 r n := ⟨y 0, y 1, eq_ix2 y⟩
  refine (qa_block _ _ _ r n).trans ?_
  refine Eq.trans ?_ (congrArg (result3 m c) (emb3 t r n)).symm
  rw [heads_blk]; rfl

/-- The chunk-band queries. -/
def result4 (c : Dev nD) : Buf (Elt Ideal) ((c.tc : Thread nD τ).loc main_v4_1) := fun i : S16384x512.Idx =>
  headsArg m c (i 0) ⟨1536 + (i 1).val, by have : (i 1).val < 512 := (i 1).isLt; omega⟩ * Ideal.ofBits .f32 0x3E000000#32

theorem emb4 (t : Fin cfg0.N) (r : Fin 1024) (n : Fin 512) :
    ((win0_4.blk t).view.emb (ix2 r n) : S16384x512.Idx) = ix2 (row t r) n := by
  blk_ext [idx t]

theorem final4 (c : Dev nD) : (dats m 0 c).arrAt 4 (cfgs 0).N = result4 m c := by
  refine (dats m 0 c).arrAt_eq_of_covers 4 _ (by decide +kernel) fun t hf y => ?_
  blk_simp
  rw [after0_4]
  obtain ⟨r, n, rfl⟩ : ∃ (r : Fin 1024) (n : Fin 512), y = ix2 r n := ⟨y 0, y 1, eq_ix2 y⟩
  refine (qb_block _ _ _ r n).trans ?_
  refine Eq.trans ?_ (congrArg (result4 m c) (emb4 t r n)).symm
  rw [heads_blk]; rfl

/-- The stick-breaking keys, at sequence `b`, head `h`, lane `d`, position `j`. -/
def result5 (c : Dev nD) : Buf (Elt Ideal) ((c.tc : Thread nD τ).loc main_v4_2) := fun i : S1x8x8x64x2048.Idx =>
  laid (headsArg m c) 512 (by decide) (i 1) (i 2) (i 3) (i 4)

theorem emb5 (t : Fin cfg0.N) (h : Fin 8) (d : Fin 64) (r : Fin 1024) :
    ((win0_5.blk t).view.emb (ix5 0 0 h d r) : S1x8x8x64x2048.Idx) = ix5 0 (seq t) h d (pos t r) := by
  blk_ext [idx t]

theorem final5 (c : Dev nD) : (dats m 0 c).arrAt 5 (cfgs 0).N = result5 m c := by
  refine (dats m 0 c).arrAt_eq_of_covers 5 _ (by decide +kernel) fun t hf y => ?_
  blk_simp
  rw [after0_5]
  obtain ⟨h, d, r, rfl⟩ : ∃ (h : Fin 8) (d : Fin 64) (r : Fin 1024), y = ix5 0 0 h d r :=
    ⟨y 2, y 3, y 4, (eq_ix5 y).trans (by congr 1 <;> exact Subsingleton.elim (α := Fin 1) _ _)⟩
  refine (ka_block _ _ _ h d r).trans ?_
  refine Eq.trans ?_ (congrArg (result5 m c) (emb5 t h d r)).symm
  rw [heads_blk]
  refine congrArg (headsArg m c · _) (Fin.ext ?_)
  show 1024 * t.val + r.val = 2048 * (t.val / 2) + (1024 * (t.val % 2) + r.val)
  omega

/-- The stick-breaking values, at sequence `b`, head `h`, lane `d`, position `j`. -/
def result6 (c : Dev nD) : Buf (Elt Ideal) ((c.tc : Thread nD τ).loc main_v4_3) := fun i : S1x8x8x64x2048.Idx =>
  laid (headsArg m c) 1024 (by decide) (i 1) (i 2) (i 3) (i 4)

theorem emb6 (t : Fin cfg0.N) (h : Fin 8) (d : Fin 64) (r : Fin 1024) :
    ((win0_6.blk t).view.emb (ix5 0 0 h d r) : S1x8x8x64x2048.Idx) = ix5 0 (seq t) h d (pos t r) := by
  blk_ext [idx t]

theorem final6 (c : Dev nD) : (dats m 0 c).arrAt 6 (cfgs 0).N = result6 m c := by
  refine (dats m 0 c).arrAt_eq_of_covers 6 _ (by decide +kernel) fun t hf y => ?_
  blk_simp
  rw [after0_6]
  obtain ⟨h, d, r, rfl⟩ : ∃ (h : Fin 8) (d : Fin 64) (r : Fin 1024), y = ix5 0 0 h d r :=
    ⟨y 2, y 3, y 4, (eq_ix5 y).trans (by congr 1 <;> exact Subsingleton.elim (α := Fin 1) _ _)⟩
  refine (va_block _ _ _ h d r).trans ?_
  refine Eq.trans ?_ (congrArg (result6 m c) (emb6 t h d r)).symm
  rw [heads_blk]
  refine congrArg (headsArg m c · _) (Fin.ext ?_)
  show 1024 * t.val + r.val = 2048 * (t.val / 2) + (1024 * (t.val % 2) + r.val)
  omega

/-- The chunk-band keys, at sequence `b`, head `h`, lane `d`, position `j`. -/
def result7 (c : Dev nD) : Buf (Elt Ideal) ((c.tc : Thread nD τ).loc main_v4_4) := fun i : S1x8x8x64x2048.Idx =>
  laid (headsArg m c) 2048 (by decide) (i 1) (i 2) (i 3) (i 4)

theorem emb7 (t : Fin cfg0.N) (h : Fin 8) (d : Fin 64) (r : Fin 1024) :
    ((win0_7.blk t).view.emb (ix5 0 0 h d r) : S1x8x8x64x2048.Idx) = ix5 0 (seq t) h d (pos t r) := by
  blk_ext [idx t]

theorem final7 (c : Dev nD) : (dats m 0 c).arrAt 7 (cfgs 0).N = result7 m c := by
  refine (dats m 0 c).arrAt_eq_of_covers 7 _ (by decide +kernel) fun t hf y => ?_
  blk_simp
  rw [after0_7]
  obtain ⟨h, d, r, rfl⟩ : ∃ (h : Fin 8) (d : Fin 64) (r : Fin 1024), y = ix5 0 0 h d r :=
    ⟨y 2, y 3, y 4, (eq_ix5 y).trans (by congr 1 <;> exact Subsingleton.elim (α := Fin 1) _ _)⟩
  refine (kb_block _ _ _ h d r).trans ?_
  refine Eq.trans ?_ (congrArg (result7 m c) (emb7 t h d r)).symm
  rw [heads_blk]
  refine congrArg (headsArg m c · _) (Fin.ext ?_)
  show 1024 * t.val + r.val = 2048 * (t.val / 2) + (1024 * (t.val % 2) + r.val)
  omega

/-- The chunk-band values, at sequence `b`, head `h`, lane `d`, position `j`. -/
def result8 (c : Dev nD) : Buf (Elt Ideal) ((c.tc : Thread nD τ).loc main_v4_5) := fun i : S1x8x8x64x2048.Idx =>
  laid (headsArg m c) 2560 (by decide) (i 1) (i 2) (i 3) (i 4)

theorem emb8 (t : Fin cfg0.N) (h : Fin 8) (d : Fin 64) (r : Fin 1024) :
    ((win0_8.blk t).view.emb (ix5 0 0 h d r) : S1x8x8x64x2048.Idx) = ix5 0 (seq t) h d (pos t r) := by
  blk_ext [idx t]

theorem final8 (c : Dev nD) : (dats m 0 c).arrAt 8 (cfgs 0).N = result8 m c := by
  refine (dats m 0 c).arrAt_eq_of_covers 8 _ (by decide +kernel) fun t hf y => ?_
  blk_simp
  rw [after0_8]
  obtain ⟨h, d, r, rfl⟩ : ∃ (h : Fin 8) (d : Fin 64) (r : Fin 1024), y = ix5 0 0 h d r :=
    ⟨y 2, y 3, y 4, (eq_ix5 y).trans (by congr 1 <;> exact Subsingleton.elim (α := Fin 1) _ _)⟩
  refine (vb_block _ _ _ h d r).trans ?_
  refine Eq.trans ?_ (congrArg (result8 m c) (emb8 t h d r)).symm
  rw [heads_blk]
  refine congrArg (headsArg m c · _) (Fin.ext ?_)
  show 1024 * t.val + r.val = 2048 * (t.val / 2) + (1024 * (t.val % 2) + r.val)
  omega

end Cert.Kernel7Ideal.First
-- ==== Proof.PromptFirstClaim.lean ====
module

public import proofs.«01_k».proof.Defs
public import proofs.«01_k».proof.Proof.PromptFirst
public import proofs.«01_k».proof.Proof.Gen.Reference7Ideal.Run

@[expose] public section

/-! # The prompt's first projections are their reference's -/

set_option maxRecDepth 16384

noncomputable section

namespace Cert.PromptFirstClaim

open Idealize.ShloMosaic Idealize.ShloMosaic.TcCoe Idealize.SL.Sem EncoderRow
open Cert.Reference7Ideal Cert.Reference7Ideal.Gen Cert.Reference7Ideal.Value

section Reference

variable (x : FVec Ideal S8x2048x1024 .f32) (g : FVec Ideal S2x1024 .f32) (w : FVec Ideal S2x1024x3072 .f32)

/-- A block of 512 columns of the projections, scaled: the queries. -/
theorem query_at (u : FVec Ideal S16384x512 .f32) (off : ℕ) (ho : off + 512 ≤ 3072)
    (hu : ∀ (r : Fin 16384) (n : Fin 512), u (ix2 r n) = heads 0 (promptRow x r) g w ⟨off + n, by omega⟩) (r : Fin 16384) (n : Fin 512) :
    truncf .bf16 (mulf u (broadcastInDim S16384x512 ![] bcast_S_S16384x512 (constant (F := Ideal) S_ .f32 0x3E000000#32)))
      bitsLt_bf16_f32 (ix2 r n) = heads 0 (promptRow x r) g w ⟨off + n, by omega⟩ * Ideal.ofBits .f32 0x3E000000#32 := by
  pointwise
  rw [hu]

/-- A block of 512 columns of the projections laid out head by head, the position last. -/
theorem laid_at (u : FVec Ideal S16384x512 .f32) (off : ℕ) (ho : off + 512 ≤ 3072)
    (hu : ∀ (r : Fin 16384) (n : Fin 512), u (ix2 r n) = heads 0 (promptRow x r) g w ⟨off + n, by omega⟩)
    (z : Fin 1) (b h : Fin 8) (d : Fin 64) (j : Fin 2048) :
    broadcastInDim S1x8x8x64x2048 ![1, 2, 3, 4] bcast_S8x8x64x2048_S1x8x8x64x2048_1_2_3_4 (transpose S8x8x64x2048 [0, 2, 3, 1]
      (shapeCast S8x2048x8x64 u shapeCasts_S16384x512_S8x2048x8x64) transposes_S8x2048x8x64_S8x8x64x2048_0_2_3_1)
      (ix5 z b h d j) = laid (fun r n => heads 0 (promptRow x r) g w n) off ho b h d j := by
  refine Eq.trans ?_ (hu ⟨2048 * b + j, by omega⟩ ⟨64 * h + d, by omega⟩)
  pointwise
  exact congrArg u (congrArg₂ ix2 (Fin.ext (by simp only <;> omega)) (Fin.ext (by simp only <;> omega)))

end Reference

/-- The reference's frame: its run writes no argument, and it declares no semaphore. -/
theorem reference_frame : Cert.quiescent_Reference7Ideal (hReference7Ideal := Cert.Reference7Ideal.Gen.facts) := by
  intro m ρ _
  exact (θ_run Cert.Reference7Ideal.defs _ _).mono
    (fun r h => ⟨fun c => (h c).2.2.2.2.2.2, Idealize.ShloMosaic.sem_eq_zero_of_no_sems (by decide) r.2⟩)
    (Cert.Reference7Ideal.Value.run m ρ)

/-- Over the extended reals the call's results are the reference's, from the same arguments. -/
theorem same_value : Cert.algebraic_Kernel7Ideal_Reference7Ideal (hKernel7Ideal := Cert.Kernel7Ideal.Gen.facts)
    (hReference7Ideal := Cert.Reference7Ideal.Gen.facts) := by
  intro m g m' g' _ hargs
  refine ⟨Cert.Kernel7Ideal.First.result3 m, Cert.Kernel7Ideal.First.result4 m, Cert.Kernel7Ideal.First.result5 m,
    Cert.Kernel7Ideal.First.result6 m, Cert.Kernel7Ideal.First.result7 m, Cert.Kernel7Ideal.First.result8 m, ?_, ?_⟩
  · exact (θ_run Cert.Kernel7Ideal.defs _ _).mono
      (fun r h c => ⟨(h c).1.trans (Cert.Kernel7Ideal.First.final3 m c), (h c).2.1.trans (Cert.Kernel7Ideal.First.final4 m c),
        (h c).2.2.1.trans (Cert.Kernel7Ideal.First.final5 m c), (h c).2.2.2.1.trans (Cert.Kernel7Ideal.First.final6 m c),
        (h c).2.2.2.2.1.trans (Cert.Kernel7Ideal.First.final7 m c), (h c).2.2.2.2.2.1.trans (Cert.Kernel7Ideal.First.final8 m c),
        (h c).2.2.2.2.2.2⟩)
      (Cert.Kernel7Ideal.Value.run_blocks m g)
  · refine (θ_run Cert.Reference7Ideal.defs _ _).mono (fun r h c => ?_) (Cert.Reference7Ideal.Value.run m' g')
    obtain ⟨h0, h1, h2⟩ := hargs c
    obtain ⟨r0, r1, r2, r3, r4, r5, kept⟩ := h c
    refine ⟨r0.trans ?_, r1.trans ?_, r2.trans ?_, r3.trans ?_, r4.trans ?_, r5.trans ?_, kept⟩
    · refine funext fun i : S16384x512.Idx => ?_
      rw [eq_ix2 i, h0, h1, h2]
      refine (query_at (m ((c.tc : Thread Cert.Kernel7Ideal.nD Cert.Kernel7Ideal.τ).loc Cert.Kernel7Ideal.main_arg0))
        (m ((c.tc : Thread Cert.Kernel7Ideal.nD Cert.Kernel7Ideal.τ).loc Cert.Kernel7Ideal.main_arg1))
        (m ((c.tc : Thread Cert.Kernel7Ideal.nD Cert.Kernel7Ideal.τ).loc Cert.Kernel7Ideal.main_arg2)) _ 0 (by decide)
        (fun r n => by pointwise; rfl) _ _).trans ?_
      rfl
    · refine funext fun i : S16384x512.Idx => ?_
      rw [eq_ix2 i, h0, h1, h2]
      refine (query_at (m ((c.tc : Thread Cert.Kernel7Ideal.nD Cert.Kernel7Ideal.τ).loc Cert.Kernel7Ideal.main_arg0))
        (m ((c.tc : Thread Cert.Kernel7Ideal.nD Cert.Kernel7Ideal.τ).loc Cert.Kernel7Ideal.main_arg1))
        (m ((c.tc : Thread Cert.Kernel7Ideal.nD Cert.Kernel7Ideal.τ).loc Cert.Kernel7Ideal.main_arg2)) _ 1536 (by decide)
        (fun r n => by pointwise; rfl) _ _).trans ?_
      rfl
    · refine funext fun i : S1x8x8x64x2048.Idx => ?_
      rw [eq_ix5 i, h0, h1, h2]
      refine (laid_at (m ((c.tc : Thread Cert.Kernel7Ideal.nD Cert.Kernel7Ideal.τ).loc Cert.Kernel7Ideal.main_arg0))
        (m ((c.tc : Thread Cert.Kernel7Ideal.nD Cert.Kernel7Ideal.τ).loc Cert.Kernel7Ideal.main_arg1))
        (m ((c.tc : Thread Cert.Kernel7Ideal.nD Cert.Kernel7Ideal.τ).loc Cert.Kernel7Ideal.main_arg2)) _ 512 (by decide)
        (fun r n => by pointwise; rfl) _ _ _ _ _).trans ?_
      rfl
    · refine funext fun i : S1x8x8x64x2048.Idx => ?_
      rw [eq_ix5 i, h0, h1, h2]
      refine (laid_at (m ((c.tc : Thread Cert.Kernel7Ideal.nD Cert.Kernel7Ideal.τ).loc Cert.Kernel7Ideal.main_arg0))
        (m ((c.tc : Thread Cert.Kernel7Ideal.nD Cert.Kernel7Ideal.τ).loc Cert.Kernel7Ideal.main_arg1))
        (m ((c.tc : Thread Cert.Kernel7Ideal.nD Cert.Kernel7Ideal.τ).loc Cert.Kernel7Ideal.main_arg2)) _ 1024 (by decide)
        (fun r n => by pointwise; rfl) _ _ _ _ _).trans ?_
      rfl
    · refine funext fun i : S1x8x8x64x2048.Idx => ?_
      rw [eq_ix5 i, h0, h1, h2]
      refine (laid_at (m ((c.tc : Thread Cert.Kernel7Ideal.nD Cert.Kernel7Ideal.τ).loc Cert.Kernel7Ideal.main_arg0))
        (m ((c.tc : Thread Cert.Kernel7Ideal.nD Cert.Kernel7Ideal.τ).loc Cert.Kernel7Ideal.main_arg1))
        (m ((c.tc : Thread Cert.Kernel7Ideal.nD Cert.Kernel7Ideal.τ).loc Cert.Kernel7Ideal.main_arg2)) _ 2048 (by decide)
        (fun r n => by pointwise; rfl) _ _ _ _ _).trans ?_
      rfl
    · refine funext fun i : S1x8x8x64x2048.Idx => ?_
      rw [eq_ix5 i, h0, h1, h2]
      refine (laid_at (m ((c.tc : Thread Cert.Kernel7Ideal.nD Cert.Kernel7Ideal.τ).loc Cert.Kernel7Ideal.main_arg0))
        (m ((c.tc : Thread Cert.Kernel7Ideal.nD Cert.Kernel7Ideal.τ).loc Cert.Kernel7Ideal.main_arg1))
        (m ((c.tc : Thread Cert.Kernel7Ideal.nD Cert.Kernel7Ideal.τ).loc Cert.Kernel7Ideal.main_arg2)) _ 2560 (by decide)
        (fun r n => by pointwise; rfl) _ _ _ _ _).trans ?_
      rfl

end Cert.PromptFirstClaim
-- ==== Proof.BiasTiles.lean ====
module

public import proofs.«01_k».proof.Proof.Gen.Kernel8Ideal.Value
public import Idealize.ShloMosaic.Lib.Pointwise
public import Idealize.ShloMosaic.Lib.Pipeline.ValueKit

@[expose] public section

/-! # The bias tiles' call

A grid point holds one layer and one head. Its loop goes through the table's rows 65 to 256 and writes each row's word
to the places whose clipped distance is that row, so at the end every place holds the table's word at its distance. -/

set_option maxRecDepth 16384

noncomputable section

namespace Cert.Kernel8Ideal.Bias

open Cert.Kernel8Ideal Cert.Kernel8Ideal.Gen Idealize.ShloMosaic Idealize.ShloMosaic.TcCoe Idealize.SL.Sem
open Idealize.ShloMosaic.Pipeline (Dat)

/-- The table's row for query `r` of a chunk and key `j` of the three newest chunks: the distance, clipped, plus 128. -/
abbrev row (r : Fin 64) (j : Fin 192) : ℕ := min (256 + r.val - j.val) 256

/-- The clipped distance as the call computes it, in words. -/
abbrev rowWord (r : Fin 64) (j : Fin 192) : BitVec 32 :=
  IntOp.addi (IntOp.minsi 128#32 (IntOp.maxsi 4294967168#32 (IntOp.subi (IntOp.addi 128#32 (BitVec.ofNat 32 r.val)) (BitVec.ofNat 32 j.val)))) 128#32

theorem rowWord_eq : ∀ (r : Fin 64) (j : Fin 192), rowWord r j = BitVec.ofNat 32 (row r j) := by decide +kernel

theorem step_word : ∀ k : Fin 192, Scf.iv 65#32 1#32 k.val = BitVec.ofNat 32 (65 + k.val) := by decide +kernel

theorem ofNat_inj (a b : ℕ) (ha : a < 1000) (hb : b < 1000) : (BitVec.ofNat 32 a = BitVec.ofNat 32 b) ↔ a = b := by
  refine ⟨fun h => ?_, fun h => h ▸ rfl⟩
  have := congrArg BitVec.toNat h
  simp only [BitVec.toNat_ofNat] at this
  omega

/-- One step of the loop at one place. -/
theorem step_at (k : Fin k0_t1_loop.trips) (acc : FVec Ideal S64x192 .f32) (v : EReal) (r : Fin 64) (j : Fin 192) :
    k0_pay2 (F := Ideal) k acc v (ix2 r j) = if row r j = 65 + k.val then v else acc (ix2 r j) := by
  pointwise [k0_pay2]
  rw [show IntOp.addi (IntOp.minsi (128#32) (IntOp.maxsi (4294967168#32)
      (IntOp.subi (IntOp.addi (128#32) (BitVec.ofNat 32 r.val)) (BitVec.ofNat 32 j.val)))) 128#32
      = BitVec.ofNat 32 (row r j) from rowWord_eq r j, step_word k]
  have hk : k.val < 192 := k.isLt
  by_cases h : row r j = 65 + k.val
  · rw [if_pos h, h]
    pointwise
  · rw [if_neg h]
    have hr : row r j < 1000 := by simp only [row]; omega
    have hne : BitVec.ofNat 32 (row r j) ≠ BitVec.ofNat 32 (65 + k.val) := fun e => h ((ofNat_inj _ _ hr (by omega)).mp e)
    refine if_neg fun e => hne ?_
    have e' : BitVec.ofBool (BitVec.ofNat 32 (row r j) == BitVec.ofNat 32 (65 + k.val)) = BitVec.ofBool true := e
    exact beq_iff_eq.mp (by revert e'; cases (BitVec.ofNat 32 (row r j) == BitVec.ofNat 32 (65 + k.val)) <;> decide)

theorem load_word : ∀ (l : Fin 2) (h : Fin 8) (k : Fin 192),
    (Scalar.indexCast (Scalar.addi (Scalar.muli (Scalar.addi (Scalar.muli (BitVec.ofNat 32 l.val) 257#32) (Scf.iv 65#32 1#32 k.val)) 8#32)
      (BitVec.ofNat 32 h.val))).toNat = (257 * l.val + (65 + k.val)) * 8 + h.val := by decide +kernel

/-- The place in the flat table of row `n` of a layer and a head. -/
abbrev place (l : Fin 2) (h : Fin 8) (n : Fin 257) : Fin 4112 := ⟨(257 * l.val + n.val) * 8 + h.val, by omega⟩

variable (c : Dev nD) (i : grid0.Coords) (arg2 : Memref sig .tc .smem S4112 .f32) (harg2 : arg2.IsWhole)
  (arg3 : Memref sig .tc .vmem S1x1x64x192 .f32) (harg3 : arg3.IsWhole) (x0 : Vec Ideal S4112 .f32)

theorem trip_eq (k : Fin k0_t1_loop.trips) (acc : FVec Ideal S64x192 .f32) :
    tripR_k0_t1 (F := Ideal) Variants.none c none i arg2 harg2 arg3 harg3 (harg2.unread x0) k acc
      = k0_pay2 k acc (x0 ((Rect.unit (s := S4112) (k0_off1 i k) S1.size (Facts₀.k0_off1_inb i k)).idx
          (Shape.Idx.first (s := S1) Nat.one_pos))) := by
  have e : ∀ x, arg2.view.read (Elt Ideal) (harg2.unread x0) x = x0 x := fun x => congrFun (harg2.read_unread x0) x
  unfold tripR_k0_t1 trip_k0_t1
  dsimp only
  have e' : trip_k0_t1.sl.r i arg2 (harg2.unread x0) k = x0 ((Rect.unit (s := S4112) (k0_off1 i k) S1.size (Facts₀.k0_off1_inb i k)).idx
      (Shape.Idx.first (s := S1) Nat.one_pos)) := by
    unfold trip_k0_t1.sl.r
    exact e _
  rw [e']

theorem load_idx (k : Fin k0_t1_loop.trips) :
    ((Rect.unit (s := S4112) (k0_off1 i k) S1.size (Facts₀.k0_off1_inb i k)).idx (Shape.Idx.first (s := S1) Nat.one_pos) : S4112.Idx)
      = ix1 (place (i 0) (i 1) ⟨65 + k.val, by have : k.val < 192 := k.isLt; omega⟩) := by
  funext a
  obtain rfl : a = 0 := Subsingleton.elim _ _
  refine Fin.ext ?_
  have e := load_word (i 0) (i 1) k
  refine Eq.trans ?_ e
  rfl

theorem out_eq : out0_A_1 (F := Ideal) c i arg2 harg2 arg3 harg3 x0
    = k0_pay3 (st_k0_t1 (F := Ideal) Variants.none c none i arg2 harg2 arg3 harg3 (harg2.unread x0) (k0_pay1 (F := Ideal)) k0_t1_loop.trips) := by
  unfold out0_A_1
  frame_out

/-- The places after `n` steps: the table's word where the row has been passed, zero elsewhere. -/
theorem carried_at (n : ℕ) (hn : n ≤ 192) (r : Fin 64) (j : Fin 192) :
    st_k0_t1 (F := Ideal) Variants.none c none i arg2 harg2 arg3 harg3 (harg2.unread x0) (k0_pay1 (F := Ideal)) n (ix2 r j)
      = if row r j < 65 + n then x0 (ix1 (place (i 0) (i 1) ⟨row r j, by simp only [row]; omega⟩))
        else k0_pay1 (F := Ideal) (ix2 r j) := by
  induction n with
  | zero =>
    rw [if_neg (by simp only [row]; omega)]
    rfl
  | succ n ih =>
    have e := st_k0_t1_succ (F := Ideal) Variants.none c none i arg2 harg2 arg3 harg3 (harg2.unread x0) (k0_pay1 (F := Ideal))
      (⟨n, by have : n < 192 := hn; exact this⟩ : Fin k0_t1_loop.trips)
    refine (congrFun e _).trans ?_
    rw [trip_eq, step_at, ih (by omega), load_idx]
    by_cases h : row r j = 65 + n
    · rw [if_pos h, if_pos (by omega)]
      refine congrArg x0 (congrArg ix1 (Fin.ext ?_))
      show (257 * (i 0).val + (65 + n)) * 8 + (i 1).val = (257 * (i 0).val + row r j) * 8 + (i 1).val
      rw [h]
    · rw [if_neg h]
      by_cases h' : row r j < 65 + n
      · rw [if_pos h', if_pos (by omega)]
      · rw [if_neg h', if_neg (by omega)]

/-- The block of one layer and head. -/
theorem out_at (r : Fin 64) (j : Fin 192) : out0_A_1 (F := Ideal) c i arg2 harg2 arg3 harg3 x0 (ix4 0 0 r j)
    = x0 (ix1 (place (i 0) (i 1) ⟨row r j, by simp only [row]; omega⟩)) := by
  rw [out_eq]
  have e := carried_at c i arg2 harg2 arg3 harg3 x0 192 (le_refl _) r j
  rw [if_pos (by simp only [row]; omega)] at e
  refine Eq.trans ?_ e
  pointwise [k0_pay3]
  rfl

variable (m : (ℓ : Loc nD τ sig) → Buf (Elt Ideal) ℓ)

theorem idx : ∀ t : Fin cfg0.N, win0_0.index t = ![0] ∧ win0_1.index t = ![t.val / 8, t.val % 8, 0, 0] :=
  (by decide +kernel : ∀ t : Fin grid0.N, _)

theorem coords : ∀ t : Fin cfg0.N, ((grid0.coords t) 0).val = t.val / 8 ∧ ((grid0.coords t) 1).val = t.val % 8 :=
  (by decide +kernel : ∀ t : Fin grid0.N, _)

/-- A grid point's layer. -/
abbrev layer (t : Fin cfg0.N) : Fin 2 := ⟨t.val / 8, by have : t.val < 16 := t.isLt; omega⟩

/-- A grid point's head. -/
abbrev head (t : Fin cfg0.N) : Fin 8 := ⟨t.val % 8, by omega⟩

theorem table_blk (c : Dev nD) (t : Fin cfg0.N) (l : Fin 2) (h : Fin 8) (n : Fin 257) :
    (iblk m c 0 t : FVec Ideal S4112 .f32) (ix1 (place l h n))
      = (m ((c.tc : Thread nD τ).loc main_arg0) : FVec Ideal S2x257x8 .f32) (ix3 l n h) := by
  blk_point [iblk, V, idx t]

/-- The bias tiles: the table's words at the clipped distances. -/
def result1 (c : Dev nD) : Buf (Elt Ideal) ((c.tc : Thread nD τ).loc main_v1) := fun y : S2x8x64x192.Idx =>
  (m ((c.tc : Thread nD τ).loc main_arg0) : FVec Ideal S2x257x8 .f32)
    (ix3 (y 0) ⟨min (256 + (y 2).val - (y 3).val) 256, by omega⟩ (y 1))

theorem emb1 (t : Fin cfg0.N) (r : Fin 64) (j : Fin 192) :
    ((win0_1.blk t).view.emb (ix4 0 0 r j) : S2x8x64x192.Idx) = ix4 (layer t) (head t) r j := by
  blk_ext [idx t]

theorem eq_tile (y : S1x1x64x192.Idx) : ∃ (r : Fin 64) (j : Fin 192), y = ix4 0 0 r j :=
  ⟨y 2, y 3, funext fun a => by
    match a with
    | ⟨0, _⟩ => exact Subsingleton.elim (α := Fin 1) _ _
    | ⟨1, _⟩ => exact Subsingleton.elim (α := Fin 1) _ _
    | ⟨2, _⟩ => rfl
    | ⟨3, _⟩ => rfl⟩

theorem final1 (c : Dev nD) : (dats m 0 c).arrAt 1 (cfgs 0).N = result1 m c := by
  refine (dats m 0 c).arrAt_eq_of_covers 1 _ (by decide +kernel) fun t hf y => ?_
  blk_simp
  rw [after0_1]
  obtain ⟨r, j, rfl⟩ := eq_tile y
  refine (out_at c _ _ _ _ _ _ r j).trans ?_
  refine Eq.trans ?_ (congrArg (result1 m c) (emb1 t r j)).symm
  have hl : ((grid0.coords t) 0 : Fin 2) = layer t := Fin.ext (coords t).1
  have hh : ((grid0.coords t) 1 : Fin 8) = head t := Fin.ext (coords t).2
  exact (congrArg₂ (fun (l : Fin 2) (h : Fin 8) => (iblk m c 0 t : FVec Ideal S4112 .f32)
    (ix1 (place l h ⟨row r j, by simp only [row]; omega⟩))) hl hh).trans (table_blk m c t _ _ _)

end Cert.Kernel8Ideal.Bias
-- ==== Proof.BiasTilesClaim.lean ====
module

public import proofs.«01_k».proof.Defs
public import proofs.«01_k».proof.Proof.BiasTiles
public import proofs.«01_k».proof.Proof.Gen.Reference8Ideal.Run

@[expose] public section

/-! # The bias tiles are their reference's -/

set_option maxRecDepth 16384

noncomputable section

namespace Cert.BiasTilesClaim

open Idealize.ShloMosaic Idealize.ShloMosaic.TcCoe Idealize.SL.Sem
open Cert.Reference8Ideal Cert.Reference8Ideal.Gen Cert.Reference8Ideal.Value

section Reference

/-- The query's row less the key's, clipped to 128 on both sides, from 0 upward. -/
def clipped : IVec S64x576 32 :=
  addi (minsi (broadcastInDim S64x576 ![] bcast_S_S64x576 (id (constantI S_ 32 128#32)))
    (maxsi (broadcastInDim S64x576 ![] bcast_S_S64x576 (id (constantI S_ 32 4294967168#32)))
      (subi (broadcastInDim S64x576 ![0, 1] bcast_S64x1_S64x576_0_1
          (addi (broadcastInDim S64x1 ![] bcast_S_S64x1 (constantI S_ 32 512#32)) (broadcastInDim S64x1 ![0] bcast_S64_S64x1_0 (iotaInDim S64 32 0))))
        (broadcastInDim S64x576 ![0, 1] bcast_S1x576_S64x576_0_1 (broadcastInDim S1x576 ![1] bcast_S576_S1x576_1 (iotaInDim S576 32 0))))))
    (broadcastInDim S64x576 ![] bcast_S_S64x576 (constantI S_ 32 128#32))

/-- The table's row of each query and key: a negative one is counted from the table's end. -/
def rows : IVec S64x576 32 :=
  select (cmpi .slt clipped (broadcastInDim S64x576 ![] bcast_S_S64x576 (constantI S_ 32 0#32)))
    (addi clipped (broadcastInDim S64x576 ![] bcast_S_S64x576 (constantI S_ 32 257#32))) clipped

/-- The rows of the three newest chunks of keys. -/
theorem rows_at : ∀ (r : Fin 64) (j : Fin 192),
    min (rows (ix2 r ⟨384 + j.val, by omega⟩)).toInt.toNat 256 = min (256 + r.val - j.val) 256 := by
  decide +kernel

/-- The table's rows taken at an array of row numbers: every layer's and every head's entry of the row there. -/
theorem take_at (x : FVec Ideal S2x257x8 .f32) (i : IVec S64x576x1 32) (l : Fin 2) (r : Fin 64) (k : Fin 576) (h : Fin 8) :
    Host.gather gather_S2x257x8_S64x576x1_S2x64x576x8_03_1_n_n_1_2_218 x i (ix4 l r k h)
      = x (ix3 l ⟨min (i (ix3 r k 0)).toInt.toNat 256, by omega⟩ h) := by
  let d := gather_S2x257x8_S64x576x1_S2x64x576x8_03_1_n_n_1_2_218
  unfold Host.gather
  refine congrArg x (funext fun a => Fin.ext ?_)
  show d.start (ix4 l r k h) i a + d.batchCoord (ix4 l r k h) a + d.offCoord (ix4 l r k h) a = _
  rw [d.batchCoord_eq_zero _ _ List.not_mem_nil, Nat.add_zero]
  match a with
  | ⟨0, _⟩ =>
    have hs : d.start (ix4 l r k h) i 0 = 0 := by
      unfold GatherDims.start
      exact dif_neg (by decide : (0 : Fin 3) ∉ [(1 : Fin 3)])
    refine (congrArg (· + _) hs).trans ((Nat.zero_add _).trans ?_)
    rfl
  | ⟨1, _⟩ =>
    have ho : d.offCoord (ix4 l r k h) 1 = 0 :=
      d.offCoord_eq_zero _ _ fun hk => ((d.mem_sKept _).mp hk).1 (List.mem_singleton.mpr rfl)
    refine (congrArg (_ + ·) ho).trans ((Nat.add_zero _).trans ?_)
    show d.start (ix4 l r k h) i 1 = min (i (ix3 r k 0)).toInt.toNat 256
    unfold GatherDims.start
    refine (dif_pos (List.mem_singleton.mpr rfl : (1 : Fin 3) ∈ [(1 : Fin 3)])).trans ?_
    refine congrArg (fun p : S64x576x1.Idx => min (i p).toInt.toNat 256) (funext fun b => Fin.ext ?_)
    match b with
    | ⟨0, _⟩ => rfl
    | ⟨1, _⟩ => rfl
    | ⟨2, _⟩ => rfl
  | ⟨2, _⟩ =>
    have hs : d.start (ix4 l r k h) i 2 = 0 := by
      unfold GatherDims.start
      exact dif_neg (by decide : (2 : Fin 3) ∉ [(1 : Fin 3)])
    refine (congrArg (· + _) hs).trans ((Nat.zero_add _).trans ?_)
    rfl

/-- The three newest chunks of keys of an array, its heads second. -/
theorem newest_at (u : FVec Ideal S2x64x576x8 .f32) (l : Fin 2) (h : Fin 8) (r : Fin 64) (j : Fin 192) :
    extractStridedSlice S2x8x64x192 ![0, 0, 0, 384] (transpose S2x8x64x576 [0, 3, 1, 2] u
      transposes_S2x64x576x8_S2x8x64x576_0_3_1_2) slices_S2x8x64x576_S2x8x64x192_0_0_0_384 (ix4 l h r j)
      = u (ix4 l r ⟨384 + j.val, by omega⟩ h) := by
  pointwise

/-- An array of row numbers with an axis of one more. -/
theorem column_at (v : IVec S64x576 32) (r : Fin 64) (k : Fin 576) :
    broadcastInDim S64x576x1 ![0, 1] bcast_S64x576_S64x576x1_0_1 v (ix3 r k 0) = v (ix2 r k) := by
  pointwise

/-- The three newest chunks' tiles of the table's rows. -/
theorem tile_at (x : FVec Ideal S2x257x8 .f32) (l : Fin 2) (h : Fin 8) (r : Fin 64) (j : Fin 192) :
    extractStridedSlice S2x8x64x192 ![0, 0, 0, 384] (transpose S2x8x64x576 [0, 3, 1, 2]
      (Host.gather gather_S2x257x8_S64x576x1_S2x64x576x8_03_1_n_n_1_2_218 x
        (broadcastInDim S64x576x1 ![0, 1] bcast_S64x576_S64x576x1_0_1 rows))
      transposes_S2x64x576x8_S2x8x64x576_0_3_1_2) slices_S2x8x64x576_S2x8x64x192_0_0_0_384 (ix4 l h r j)
      = x (ix3 l ⟨min (256 + r.val - j.val) 256, by omega⟩ h) := by
  refine (newest_at _ l h r j).trans ((take_at x _ l r ⟨384 + j.val, by omega⟩ h).trans ?_)
  refine congrArg (fun n : Fin 257 => x (ix3 l n h)) (Fin.ext ?_)
  exact (congrArg (fun w : BitVec 32 => min w.toInt.toNat 256) (column_at rows r ⟨384 + j.val, by omega⟩)).trans (rows_at r j)

end Reference

/-- The reference's frame: its run writes no argument, and it declares no semaphore. -/
theorem reference_frame : Cert.quiescent_Reference8Ideal (hReference8Ideal := Cert.Reference8Ideal.Gen.facts) := by
  intro m ρ _
  exact (θ_run Cert.Reference8Ideal.defs _ _).mono
    (fun r h => ⟨fun c => (h c).2, Idealize.ShloMosaic.sem_eq_zero_of_no_sems (by decide) r.2⟩)
    (Cert.Reference8Ideal.Value.run m ρ)

/-- Over the extended reals the call's tiles are the reference's, from the same table. -/
theorem same_value : Cert.algebraic_Kernel8Ideal_Reference8Ideal (hKernel8Ideal := Cert.Kernel8Ideal.Gen.facts)
    (hReference8Ideal := Cert.Reference8Ideal.Gen.facts) := by
  intro m g m' g' _ hargs
  refine ⟨Cert.Kernel8Ideal.Bias.result1 m, ?_, ?_⟩
  · exact (θ_run Cert.Kernel8Ideal.defs _ _).mono
      (fun r h c => ⟨(h c).1.trans (Cert.Kernel8Ideal.Bias.final1 m c), (h c).2⟩)
      (Cert.Kernel8Ideal.Value.run_blocks m g)
  · refine (θ_run Cert.Reference8Ideal.defs _ _).mono (fun r h c => ⟨(h c).1.trans ?_, (h c).2⟩) (Cert.Reference8Ideal.Value.run m' g')
    refine funext fun i : S2x8x64x192.Idx => ?_
    rw [eq_ix4 i, hargs c]
    exact tile_at _ (i 0) (i 1) (i 2) (i 3)

end Cert.BiasTilesClaim

end
-- ==== Proof.lean ====
module

public import proofs.«01_k».proof.Proof.TailClaim
public import proofs.«01_k».proof.Proof.MidFrame
public import proofs.«01_k».proof.Proof.MidFrameBits
public import proofs.«01_k».proof.Proof.MidClaim
public import proofs.«01_k».proof.Proof.BandClaim
public import proofs.«01_k».proof.Proof.SampleTailClaim
public import proofs.«01_k».proof.Proof.SampleMidClaim
public import proofs.«01_k».proof.Proof.SampleFirstClaim
public import proofs.«01_k».proof.Proof.PromptFirstClaim
public import proofs.«01_k».proof.Proof.BiasTilesClaim
public import proofs.«01_k».proof.Proof.Gen.Kernel.Frame
public import proofs.«01_k».proof.Proof.Gen.KernelIdeal.Frame
public import proofs.«01_k».proof.Proof.Gen.Kernel2.Frame
public import proofs.«01_k».proof.Proof.Gen.Kernel2Ideal.Frame
public import proofs.«01_k».proof.Proof.Gen.Kernel8.Frame
public import proofs.«01_k».proof.Proof.Gen.Kernel8Ideal.Frame
public import proofs.«01_k».proof.Proof.Gen.Kernel8Ideal.Value
public import proofs.«01_k».proof.Proof.Gen.Reference8Ideal.Run
public import proofs.«01_k».proof.Proof.Gen.Kernel4Ideal.Value
public import proofs.«01_k».proof.Proof.Gen.Kernel5Ideal.Value
public import proofs.«01_k».proof.Proof.Gen.Kernel6Ideal.Value
public import proofs.«01_k».proof.Proof.Gen.Kernel7Ideal.Value
public import proofs.«01_k».proof.Proof.Gen.Kernel4.Frame
public import proofs.«01_k».proof.Proof.Gen.Kernel4Ideal.Frame
public import proofs.«01_k».proof.Proof.Gen.Reference4Ideal.Run
public import proofs.«01_k».proof.Proof.Gen.Kernel5.Frame
public import proofs.«01_k».proof.Proof.Gen.Kernel5Ideal.Frame
public import proofs.«01_k».proof.Proof.Gen.Reference5Ideal.Run
public import proofs.«01_k».proof.Proof.Gen.Kernel6.Frame
public import proofs.«01_k».proof.Proof.Gen.Kernel6Ideal.Frame
public import proofs.«01_k».proof.Proof.Gen.Reference6Ideal.Run
public import proofs.«01_k».proof.Proof.Gen.Kernel7.Frame
public import proofs.«01_k».proof.Proof.Gen.Kernel7Ideal.Frame
public import proofs.«01_k».proof.Proof.Gen.Reference7Ideal.Run

@[expose] public section

/-! # The claim, assembled -/

namespace Cert.Proof

open Idealize.ShloMosaic Idealize.SL.Sem

theorem claim : Cert.Claim :=
  ⟨Cert.Kernel.Gen.facts, Cert.KernelIdeal.Gen.facts, Cert.ReferenceIdeal.Gen.facts,
    Cert.Kernel2.Gen.facts, Cert.Kernel2Ideal.Gen.facts, Cert.Reference2Ideal.Gen.facts,
    Cert.Kernel3.Gen.facts, Cert.Kernel3Ideal.Gen.facts, Cert.Reference3Ideal.Gen.facts,
    Cert.Kernel4.Gen.facts, Cert.Kernel4Ideal.Gen.facts, Cert.Reference4Ideal.Gen.facts,
    Cert.Kernel5.Gen.facts, Cert.Kernel5Ideal.Gen.facts, Cert.Reference5Ideal.Gen.facts,
    Cert.Kernel6.Gen.facts, Cert.Kernel6Ideal.Gen.facts, Cert.Reference6Ideal.Gen.facts,
    Cert.Kernel7.Gen.facts, Cert.Kernel7Ideal.Gen.facts, Cert.Reference7Ideal.Gen.facts,
    Cert.Kernel8.Gen.facts, Cert.Kernel8Ideal.Gen.facts, Cert.Reference8Ideal.Gen.facts,
    fun m ρ _ => Cert.Kernel.Gen.frame m ρ, fun m ρ _ => Cert.KernelIdeal.Gen.frame m ρ, Cert.BandClaim.reference_frame,
    fun m ρ _ => Cert.Kernel2.Gen.frame m ρ, fun m ρ _ => Cert.Kernel2Ideal.Gen.frame m ρ, Cert.TailClaim.reference_frame,
    fun m ρ _ => Cert.Kernel3.Gen.frame m ρ, fun m ρ _ => Cert.Kernel3Ideal.Gen.frame m ρ, Cert.MidClaim.reference_frame,
    fun m ρ _ => Cert.Kernel4.Gen.frame m ρ, fun m ρ _ => Cert.Kernel4Ideal.Gen.frame m ρ, Cert.SampleTailClaim.reference_frame,
    fun m ρ _ => Cert.Kernel5.Gen.frame m ρ, fun m ρ _ => Cert.Kernel5Ideal.Gen.frame m ρ, Cert.SampleMidClaim.reference_frame,
    fun m ρ _ => Cert.Kernel6.Gen.frame m ρ, fun m ρ _ => Cert.Kernel6Ideal.Gen.frame m ρ, Cert.SampleFirstClaim.reference_frame,
    fun m ρ _ => Cert.Kernel7.Gen.frame m ρ, fun m ρ _ => Cert.Kernel7Ideal.Gen.frame m ρ, Cert.PromptFirstClaim.reference_frame,
    fun m ρ _ => Cert.Kernel8.Gen.frame m ρ, fun m ρ _ => Cert.Kernel8Ideal.Gen.frame m ρ, Cert.BiasTilesClaim.reference_frame,
    IdealRules.named_const.statement Cert.KernelIdeal.κ "mask" .f32 0xF149F2CA#32 ⊥ rfl,
    Cert.BandClaim.same_value, trivial, Cert.TailClaim.same_value, trivial, Cert.MidClaim.same_value,
    trivial, Cert.SampleTailClaim.same_value, trivial, Cert.SampleMidClaim.same_value,
    trivial, Cert.SampleFirstClaim.same_value, trivial, Cert.PromptFirstClaim.same_value,
    trivial, Cert.BiasTilesClaim.same_value⟩

end Cert.Proof
